-- ==== Defs.lean ====
def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxRefIdeal (m : (ℓ : Loc Cert.ProjDxRefIdeal.nD Cert.ProjDxRefIdeal.τ Cert.ProjDxRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_AdamWIn (m : (ℓ : Loc Cert.AdamWIn.nD Cert.AdamWIn.τ Cert.AdamWIn.sig) → Buf (Elt Bits) ℓ) : Prop :=
  True

def Pre_AdamWInIdeal (m : (ℓ : Loc Cert.AdamWInIdeal.nD Cert.AdamWInIdeal.τ Cert.AdamWInIdeal.sig) → Buf (Elt Ideal) ℓ) : Prop :=
  True

def Pre_AdamWInRefIdeal (m : (ℓ : Loc Cert.AdamWInRefIdeal.nD Cert.AdamWInRefIdeal.τ Cert.AdamWInRefIdeal.sig) → Buf (Elt Ideal) ℓ) : Prop :=
  True

def Pre_AdamWa2 (m : (ℓ : Loc Cert.AdamWa2.nD Cert.AdamWa2.τ Cert.AdamWa2.sig) → Buf (Elt Bits) ℓ) : Prop :=
  True

def Pre_AdamWa2Ideal (m : (ℓ : Loc Cert.AdamWa2Ideal.nD Cert.AdamWa2Ideal.τ Cert.AdamWa2Ideal.sig) → Buf (Elt Ideal) ℓ) : Prop :=
  True

def Pre_AdamWa2RefIdeal (m : (ℓ : Loc Cert.AdamWa2RefIdeal.nD Cert.AdamWa2RefIdeal.τ Cert.AdamWa2RefIdeal.sig) → Buf (Elt Ideal) ℓ) : Prop :=
  True

def Pre_AdamProj (m : (ℓ : Loc Cert.AdamProj.nD Cert.AdamProj.τ Cert.AdamProj.sig) → Buf (Elt Bits) ℓ) : Prop :=
  True

def Pre_AdamProjIdeal (m : (ℓ : Loc Cert.AdamProjIdeal.nD Cert.AdamProjIdeal.τ Cert.AdamProjIdeal.sig) → Buf (Elt Ideal) ℓ) : Prop :=
  True

def Pre_AdamProjRefIdeal (m : (ℓ : Loc Cert.AdamProjRefIdeal.nD Cert.AdamProjRefIdeal.τ Cert.AdamProjRefIdeal.sig) → Buf (Elt Ideal) ℓ) : Prop :=
  True

def Pre_AdamW2 (m : (ℓ : Loc Cert.AdamW2.nD Cert.AdamW2.τ Cert.AdamW2.sig) → Buf (Elt Bits) ℓ) : Prop :=
  True

def Pre_AdamW2Ideal (m : (ℓ : Loc Cert.AdamW2Ideal.nD Cert.AdamW2Ideal.τ Cert.AdamW2Ideal.sig) → Buf (Elt Ideal) ℓ) : Prop :=
  True

def Pre_AdamW2RefIdeal (m : (ℓ : Loc Cert.AdamW2RefIdeal.nD Cert.AdamW2RefIdeal.τ Cert.AdamW2RefIdeal.sig) → Buf (Elt Ideal) ℓ) : Prop :=
  True

def Pre_AdamG2 (m : (ℓ : Loc Cert.AdamG2.nD Cert.AdamG2.τ Cert.AdamG2.sig) → Buf (Elt Bits) ℓ) : Prop :=
  True

def Pre_AdamG2Ideal (m : (ℓ : Loc Cert.AdamG2Ideal.nD Cert.AdamG2Ideal.τ Cert.AdamG2Ideal.sig) → Buf (Elt Ideal) ℓ) : Prop :=
  True

def Pre_AdamG2RefIdeal (m : (ℓ : Loc Cert.AdamG2RefIdeal.nD Cert.AdamG2RefIdeal.τ Cert.AdamG2RefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamRep (m : (ℓ : Loc Cert.AdamRep.nD Cert.AdamRep.τ Cert.AdamRep.sig) → Buf (Elt Bits) ℓ) : Prop :=
  True

def Pre_AdamRepIdeal (m : (ℓ : Loc Cert.AdamRepIdeal.nD Cert.AdamRepIdeal.τ Cert.AdamRepIdeal.sig) → Buf (Elt Ideal) ℓ) : Prop :=
  True

def Pre_AdamRepRefIdeal (m : (ℓ : Loc Cert.AdamRepRefIdeal.nD Cert.AdamRepRefIdeal.τ Cert.AdamRepRefIdeal.sig) → Buf (Elt Ideal) ℓ) : Prop :=
  True

def Pre_Norm1 (m : (ℓ : Loc Cert.Norm1.nD Cert.Norm1.τ Cert.Norm1.sig) → Buf (Elt Bits) ℓ) : Prop :=
  True

def Pre_Norm1Ideal (m : (ℓ : Loc Cert.Norm1Ideal.nD Cert.Norm1Ideal.τ Cert.Norm1Ideal.sig) → Buf (Elt Ideal) ℓ) : Prop :=
  True

def Pre_Norm1RefIdeal (m : (ℓ : Loc Cert.Norm1RefIdeal.nD Cert.Norm1RefIdeal.τ Cert.Norm1RefIdeal.sig) → Buf (Elt Ideal) ℓ) : Prop :=
  True

def Pre_Norm2 (m : (ℓ : Loc Cert.Norm2.nD Cert.Norm2.τ Cert.Norm2.sig) → Buf (Elt Bits) ℓ) : Prop :=
  True

def Pre_Norm2Ideal (m : (ℓ : Loc Cert.Norm2Ideal.nD Cert.Norm2Ideal.τ Cert.Norm2Ideal.sig) → Buf (Elt Ideal) ℓ) : Prop :=
  True

def Pre_Norm2RefIdeal (m : (ℓ : Loc Cert.Norm2RefIdeal.nD Cert.Norm2RefIdeal.τ Cert.Norm2RefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Norm1Fwd (m : (ℓ : Loc Cert.Norm1Fwd.nD Cert.Norm1Fwd.τ Cert.Norm1Fwd.sig) → Buf (Elt Bits) ℓ) : Prop :=
  True

def Pre_Norm1FwdIdeal (m : (ℓ : Loc Cert.Norm1FwdIdeal.nD Cert.Norm1FwdIdeal.τ Cert.Norm1FwdIdeal.sig) → Buf (Elt Ideal) ℓ) : Prop :=
  True

def Pre_Norm1FwdRefIdeal (m : (ℓ : Loc Cert.Norm1FwdRefIdeal.nD Cert.Norm1FwdRefIdeal.τ Cert.Norm1FwdRefIdeal.sig) → Buf (Elt Ideal) ℓ) : Prop :=
  True

def Pre_Norm2Fwd (m : (ℓ : Loc Cert.Norm2Fwd.nD Cert.Norm2Fwd.τ Cert.Norm2Fwd.sig) → Buf (Elt Bits) ℓ) : Prop :=
  True

def Pre_Norm2FwdIdeal (m : (ℓ : Loc Cert.Norm2FwdIdeal.nD Cert.Norm2FwdIdeal.τ Cert.Norm2FwdIdeal.sig) → Buf (Elt Ideal) ℓ) : Prop :=
  True

def Pre_Norm2FwdRefIdeal (m : (ℓ : Loc Cert.Norm2FwdRefIdeal.nD Cert.Norm2FwdRefIdeal.τ Cert.Norm2FwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_Shift (m : (ℓ : Loc Cert.Shift.nD Cert.Shift.τ Cert.Shift.sig) → Buf (Elt Bits) ℓ) : Prop :=
  True

def Pre_ShiftIdeal (m : (ℓ : Loc Cert.ShiftIdeal.nD Cert.ShiftIdeal.τ Cert.ShiftIdeal.sig) → Buf (Elt Ideal) ℓ) : Prop :=
  True

def Pre_ShiftRefIdeal (m : (ℓ : Loc Cert.ShiftRefIdeal.nD Cert.ShiftRefIdeal.τ Cert.ShiftRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Total (m : (ℓ : Loc Cert.Total.nD Cert.Total.τ Cert.Total.sig) → Buf (Elt Bits) ℓ) : Prop :=
  True

def Pre_TotalIdeal (m : (ℓ : Loc Cert.TotalIdeal.nD Cert.TotalIdeal.τ Cert.TotalIdeal.sig) → Buf (Elt Ideal) ℓ) : Prop :=
  True

def Pre_TotalRefIdeal (m : (ℓ : Loc Cert.TotalRefIdeal.nD Cert.TotalRefIdeal.τ Cert.TotalRefIdeal.sig) → Buf (Elt Ideal) ℓ) : Prop :=
  True

def Pre_ShiftBwd (m : (ℓ : Loc Cert.ShiftBwd.nD Cert.ShiftBwd.τ Cert.ShiftBwd.sig) → Buf (Elt Bits) ℓ) : Prop :=
  True

def Pre_ShiftBwdIdeal (m : (ℓ : Loc Cert.ShiftBwdIdeal.nD Cert.ShiftBwdIdeal.τ Cert.ShiftBwdIdeal.sig) → Buf (Elt Ideal) ℓ) : Prop :=
  True

def Pre_ShiftBwdIdeal_shift_finite [hPre_shift_finite : Cert.Pre_shift_finite.Facts] (m : (ℓ : Loc Cert.ShiftBwdIdeal.nD Cert.ShiftBwdIdeal.τ Cert.ShiftBwdIdeal.sig) → Buf (Elt Ideal) ℓ) : Prop :=
  ∀ c : Dev Cert.ShiftBwdIdeal.nD,
    (Cert.Pre_shift_finite.fn (F := Ideal) (m ((c.tc : Thread Cert.ShiftBwdIdeal.nD Cert.ShiftBwdIdeal.τ).loc Cert.ShiftBwdIdeal.main_arg0)) (m ((c.tc : Thread Cert.ShiftBwdIdeal.nD Cert.ShiftBwdIdeal.τ).loc Cert.ShiftBwdIdeal.main_arg1)) (m ((c.tc : Thread Cert.ShiftBwdIdeal.nD Cert.ShiftBwdIdeal.τ).loc Cert.ShiftBwdIdeal.main_arg2)) (m ((c.tc : Thread Cert.ShiftBwdIdeal.nD Cert.ShiftBwdIdeal.τ).loc Cert.ShiftBwdIdeal.main_arg3))).1 = (fun _ => 1#1)
    ∧ (Cert.Pre_shift_finite.fn (F := Ideal) (m ((c.tc : Thread Cert.ShiftBwdIdeal.nD Cert.ShiftBwdIdeal.τ).loc Cert.ShiftBwdIdeal.main_arg0)) (m ((c.tc : Thread Cert.ShiftBwdIdeal.nD Cert.ShiftBwdIdeal.τ).loc Cert.ShiftBwdIdeal.main_arg1)) (m ((c.tc : Thread Cert.ShiftBwdIdeal.nD Cert.ShiftBwdIdeal.τ).loc Cert.ShiftBwdIdeal.main_arg2)) (m ((c.tc : Thread Cert.ShiftBwdIdeal.nD Cert.ShiftBwdIdeal.τ).loc Cert.ShiftBwdIdeal.main_arg3))).2 = (fun _ => 1#1)

def Pre_ShiftBwdRefIdeal (m : (ℓ : Loc Cert.ShiftBwdRefIdeal.nD Cert.ShiftBwdRefIdeal.τ Cert.ShiftBwdRefIdeal.sig) → Buf (Elt Ideal) ℓ) : Prop :=
  True

def Pre_ShiftBwdRefIdeal_shift_finite [hPre_shift_finite : Cert.Pre_shift_finite.Facts] (m : (ℓ : Loc Cert.ShiftBwdRefIdeal.nD Cert.ShiftBwdRefIdeal.τ Cert.ShiftBwdRefIdeal.sig) → Buf (Elt Ideal) ℓ) : Prop :=
  ∀ c : Dev Cert.ShiftBwdRefIdeal.nD,
    (Cert.Pre_shift_finite.fn (F := Ideal) (m ((c.tc : Thread Cert.ShiftBwdRefIdeal.nD Cert.ShiftBwdRefIdeal.τ).loc Cert.ShiftBwdRefIdeal.main_arg0)) (m ((c.tc : Thread Cert.ShiftBwdRefIdeal.nD Cert.ShiftBwdRefIdeal.τ).loc Cert.ShiftBwdRefIdeal.main_arg1)) (m ((c.tc : Thread Cert.ShiftBwdRefIdeal.nD Cert.ShiftBwdRefIdeal.τ).loc Cert.ShiftBwdRefIdeal.main_arg2)) (m ((c.tc : Thread Cert.ShiftBwdRefIdeal.nD Cert.ShiftBwdRefIdeal.τ).loc Cert.ShiftBwdRefIdeal.main_arg3))).1 = (fun _ => 1#1)
    ∧ (Cert.Pre_shift_finite.fn (F := Ideal) (m ((c.tc : Thread Cert.ShiftBwdRefIdeal.nD Cert.ShiftBwdRefIdeal.τ).loc Cert.ShiftBwdRefIdeal.main_arg0)) (m ((c.tc : Thread Cert.ShiftBwdRefIdeal.nD Cert.ShiftBwdRefIdeal.τ).loc Cert.ShiftBwdRefIdeal.main_arg1)) (m ((c.tc : Thread Cert.ShiftBwdRefIdeal.nD Cert.ShiftBwdRefIdeal.τ).loc Cert.ShiftBwdRefIdeal.main_arg2)) (m ((c.tc : Thread Cert.ShiftBwdRefIdeal.nD Cert.ShiftBwdRefIdeal.τ).loc Cert.ShiftBwdRefIdeal.main_arg3))).2 = (fun _ => 1#1)

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdIdeal_conv_finite [hPre_conv_finite : Cert.Pre_conv_finite.Facts] (m : (ℓ : Loc Cert.ConvBwdIdeal.nD Cert.ConvBwdIdeal.τ Cert.ConvBwdIdeal.sig) → Buf (Elt Ideal) ℓ) : Prop :=
  ∀ c : Dev Cert.ConvBwdIdeal.nD,
    (Cert.Pre_conv_finite.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3))).1 = (fun _ => 1#1)
    ∧ (Cert.Pre_conv_finite.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3))).2.1 = (fun _ => 1#1)
    ∧ (Cert.Pre_conv_finite.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3))).2.2.1 = (fun _ => 1#1)
    ∧ (Cert.Pre_conv_finite.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3))).2.2.2 = (fun _ => 1#1)

def Pre_ConvBwdRefIdeal (m : (ℓ : Loc Cert.ConvBwdRefIdeal.nD Cert.ConvBwdRefIdeal.τ Cert.ConvBwdRefIdeal.sig) → Buf (Elt Ideal) ℓ) : Prop :=
  True

def Pre_ConvBwdRefIdeal_conv_finite [hPre_conv_finite : Cert.Pre_conv_finite.Facts] (m : (ℓ : Loc Cert.ConvBwdRefIdeal.nD Cert.ConvBwdRefIdeal.τ Cert.ConvBwdRefIdeal.sig) → Buf (Elt Ideal) ℓ) : Prop :=
  ∀ c : Dev Cert.ConvBwdRefIdeal.nD,
    (Cert.Pre_conv_finite.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3))).1 = (fun _ => 1#1)
    ∧ (Cert.Pre_conv_finite.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3))).2.1 = (fun _ => 1#1)
    ∧ (Cert.Pre_conv_finite.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3))).2.2.1 = (fun _ => 1#1)
    ∧ (Cert.Pre_conv_finite.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3))).2.2.2 = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_post_finite [hPre_post_finite : Cert.Pre_post_finite.Facts] (m : (ℓ : Loc Cert.PostIdeal.nD Cert.PostIdeal.τ Cert.PostIdeal.sig) → Buf (Elt Ideal) ℓ) : Prop :=
  ∀ c : Dev Cert.PostIdeal.nD,
    (Cert.Pre_post_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9))).1 = (fun _ => 1#1)
    ∧ (Cert.Pre_post_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9))).2.1 = (fun _ => 1#1)
    ∧ (Cert.Pre_post_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9))).2.2.1 = (fun _ => 1#1)
    ∧ (Cert.Pre_post_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9))).2.2.2.1 = (fun _ => 1#1)
    ∧ (Cert.Pre_post_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9))).2.2.2.2 = (fun _ => 1#1)

def Pre_PostRefIdeal (m : (ℓ : Loc Cert.PostRefIdeal.nD Cert.PostRefIdeal.τ Cert.PostRefIdeal.sig) → Buf (Elt Ideal) ℓ) : Prop :=
  True

def Pre_PostRefIdeal_post_finite [hPre_post_finite : Cert.Pre_post_finite.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9))).1 = (fun _ => 1#1)
    ∧ (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9))).2.1 = (fun _ => 1#1)
    ∧ (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9))).2.2.1 = (fun _ => 1#1)
    ∧ (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9))).2.2.2.1 = (fun _ => 1#1)
    ∧ (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9))).2.2.2.2 = (fun _ => 1#1)

def Pre_Decay (m : (ℓ : Loc Cert.Decay.nD Cert.Decay.τ Cert.Decay.sig) → Buf (Elt Bits) ℓ) : Prop :=
  True

def Pre_DecayIdeal (m : (ℓ : Loc Cert.DecayIdeal.nD Cert.DecayIdeal.τ Cert.DecayIdeal.sig) → Buf (Elt Ideal) ℓ) : Prop :=
  True

def Pre_DecayIdeal_pre_finite [hPre_pre_finite : Cert.Pre_pre_finite.Facts] (m : (ℓ : Loc Cert.DecayIdeal.nD Cert.DecayIdeal.τ Cert.DecayIdeal.sig) → Buf (Elt Ideal) ℓ) : Prop :=
  ∀ c : Dev Cert.DecayIdeal.nD,
    (Cert.Pre_pre_finite.fn (F := Ideal) (m ((c.tc : Thread Cert.DecayIdeal.nD Cert.DecayIdeal.τ).loc Cert.DecayIdeal.main_arg0)) (m ((c.tc : Thread Cert.DecayIdeal.nD Cert.DecayIdeal.τ).loc Cert.DecayIdeal.main_arg1)) (m ((c.tc : Thread Cert.DecayIdeal.nD Cert.DecayIdeal.τ).loc Cert.DecayIdeal.main_arg2)) (m ((c.tc : Thread Cert.DecayIdeal.nD Cert.DecayIdeal.τ).loc Cert.DecayIdeal.main_arg3)) (m ((c.tc : Thread Cert.DecayIdeal.nD Cert.DecayIdeal.τ).loc Cert.DecayIdeal.main_arg4)) (m ((c.tc : Thread Cert.DecayIdeal.nD Cert.DecayIdeal.τ).loc Cert.DecayIdeal.main_arg5)) (m ((c.tc : Thread Cert.DecayIdeal.nD Cert.DecayIdeal.τ).loc Cert.DecayIdeal.main_arg6)) (m ((c.tc : Thread Cert.DecayIdeal.nD Cert.DecayIdeal.τ).loc Cert.DecayIdeal.main_arg7)) (m ((c.tc : Thread Cert.DecayIdeal.nD Cert.DecayIdeal.τ).loc Cert.DecayIdeal.main_arg8)) (m ((c.tc : Thread Cert.DecayIdeal.nD Cert.DecayIdeal.τ).loc Cert.DecayIdeal.main_arg9))).1 = (fun _ => 1#1)
    ∧ (Cert.Pre_pre_finite.fn (F := Ideal) (m ((c.tc : Thread Cert.DecayIdeal.nD Cert.DecayIdeal.τ).loc Cert.DecayIdeal.main_arg0)) (m ((c.tc : Thread Cert.DecayIdeal.nD Cert.DecayIdeal.τ).loc Cert.DecayIdeal.main_arg1)) (m ((c.tc : Thread Cert.DecayIdeal.nD Cert.DecayIdeal.τ).loc Cert.DecayIdeal.main_arg2)) (m ((c.tc : Thread Cert.DecayIdeal.nD Cert.DecayIdeal.τ).loc Cert.DecayIdeal.main_arg3)) (m ((c.tc : Thread Cert.DecayIdeal.nD Cert.DecayIdeal.τ).loc Cert.DecayIdeal.main_arg4)) (m ((c.tc : Thread Cert.DecayIdeal.nD Cert.DecayIdeal.τ).loc Cert.DecayIdeal.main_arg5)) (m ((c.tc : Thread Cert.DecayIdeal.nD Cert.DecayIdeal.τ).loc Cert.DecayIdeal.main_arg6)) (m ((c.tc : Thread Cert.DecayIdeal.nD Cert.DecayIdeal.τ).loc Cert.DecayIdeal.main_arg7)) (m ((c.tc : Thread Cert.DecayIdeal.nD Cert.DecayIdeal.τ).loc Cert.DecayIdeal.main_arg8)) (m ((c.tc : Thread Cert.DecayIdeal.nD Cert.DecayIdeal.τ).loc Cert.DecayIdeal.main_arg9))).2 = (fun _ => 1#1)

def Pre_DecayRefIdeal (m : (ℓ : Loc Cert.DecayRefIdeal.nD Cert.DecayRefIdeal.τ Cert.DecayRefIdeal.sig) → Buf (Elt Ideal) ℓ) : Prop :=
  True

def Pre_DecayRefIdeal_pre_finite [hPre_pre_finite : Cert.Pre_pre_finite.Facts] (m : (ℓ : Loc Cert.DecayRefIdeal.nD Cert.DecayRefIdeal.τ Cert.DecayRefIdeal.sig) → Buf (Elt Ideal) ℓ) : Prop :=
  ∀ c : Dev Cert.DecayRefIdeal.nD,
    (Cert.Pre_pre_finite.fn (F := Ideal) (m ((c.tc : Thread Cert.DecayRefIdeal.nD Cert.DecayRefIdeal.τ).loc Cert.DecayRefIdeal.main_arg0)) (m ((c.tc : Thread Cert.DecayRefIdeal.nD Cert.DecayRefIdeal.τ).loc Cert.DecayRefIdeal.main_arg1)) (m ((c.tc : Thread Cert.DecayRefIdeal.nD Cert.DecayRefIdeal.τ).loc Cert.DecayRefIdeal.main_arg2)) (m ((c.tc : Thread Cert.DecayRefIdeal.nD Cert.DecayRefIdeal.τ).loc Cert.DecayRefIdeal.main_arg3)) (m ((c.tc : Thread Cert.DecayRefIdeal.nD Cert.DecayRefIdeal.τ).loc Cert.DecayRefIdeal.main_arg4)) (m ((c.tc : Thread Cert.DecayRefIdeal.nD Cert.DecayRefIdeal.τ).loc Cert.DecayRefIdeal.main_arg5)) (m ((c.tc : Thread Cert.DecayRefIdeal.nD Cert.DecayRefIdeal.τ).loc Cert.DecayRefIdeal.main_arg6)) (m ((c.tc : Thread Cert.DecayRefIdeal.nD Cert.DecayRefIdeal.τ).loc Cert.DecayRefIdeal.main_arg7)) (m ((c.tc : Thread Cert.DecayRefIdeal.nD Cert.DecayRefIdeal.τ).loc Cert.DecayRefIdeal.main_arg8)) (m ((c.tc : Thread Cert.DecayRefIdeal.nD Cert.DecayRefIdeal.τ).loc Cert.DecayRefIdeal.main_arg9))).1 = (fun _ => 1#1)
    ∧ (Cert.Pre_pre_finite.fn (F := Ideal) (m ((c.tc : Thread Cert.DecayRefIdeal.nD Cert.DecayRefIdeal.τ).loc Cert.DecayRefIdeal.main_arg0)) (m ((c.tc : Thread Cert.DecayRefIdeal.nD Cert.DecayRefIdeal.τ).loc Cert.DecayRefIdeal.main_arg1)) (m ((c.tc : Thread Cert.DecayRefIdeal.nD Cert.DecayRefIdeal.τ).loc Cert.DecayRefIdeal.main_arg2)) (m ((c.tc : Thread Cert.DecayRefIdeal.nD Cert.DecayRefIdeal.τ).loc Cert.DecayRefIdeal.main_arg3)) (m ((c.tc : Thread Cert.DecayRefIdeal.nD Cert.DecayRefIdeal.τ).loc Cert.DecayRefIdeal.main_arg4)) (m ((c.tc : Thread Cert.DecayRefIdeal.nD Cert.DecayRefIdeal.τ).loc Cert.DecayRefIdeal.main_arg5)) (m ((c.tc : Thread Cert.DecayRefIdeal.nD Cert.DecayRefIdeal.τ).loc Cert.DecayRefIdeal.main_arg6)) (m ((c.tc : Thread Cert.DecayRefIdeal.nD Cert.DecayRefIdeal.τ).loc Cert.DecayRefIdeal.main_arg7)) (m ((c.tc : Thread Cert.DecayRefIdeal.nD Cert.DecayRefIdeal.τ).loc Cert.DecayRefIdeal.main_arg8)) (m ((c.tc : Thread Cert.DecayRefIdeal.nD Cert.DecayRefIdeal.τ).loc Cert.DecayRefIdeal.main_arg9))).2 = (fun _ => 1#1)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ r.2.sem = fun _ => 0)

def quiescent_ProjDxRefIdeal [hProjDxRefIdeal : Cert.ProjDxRefIdeal.Facts] : Prop :=
  ∀ (m : (ℓ : Loc Cert.ProjDxRefIdeal.nD Cert.ProjDxRefIdeal.τ Cert.ProjDxRefIdeal.sig) → Buf (Elt Ideal) ℓ) (g : Dev Cert.ProjDxRefIdeal.nD → PrngReg), Pre_ProjDxRefIdeal m →
    θ_run (Cert.ProjDxRefIdeal.defs (F := Ideal)) (onTc (τ := Cert.ProjDxRefIdeal.τ) (Cert.ProjDxRefIdeal.main (F := Ideal))) ⟨m, fun _ => 0, g⟩ (fun r => (∀ c : Dev Cert.ProjDxRefIdeal.nD,
      r.2.mem ((c.tc : Thread Cert.ProjDxRefIdeal.nD Cert.ProjDxRefIdeal.τ).loc Cert.ProjDxRefIdeal.main_arg0) = m ((c.tc : Thread Cert.ProjDxRefIdeal.nD Cert.ProjDxRefIdeal.τ).loc Cert.ProjDxRefIdeal.main_arg0)
      ∧ r.2.mem ((c.tc : Thread Cert.ProjDxRefIdeal.nD Cert.ProjDxRefIdeal.τ).loc Cert.ProjDxRefIdeal.main_arg1) = m ((c.tc : Thread Cert.ProjDxRefIdeal.nD Cert.ProjDxRefIdeal.τ).loc Cert.ProjDxRefIdeal.main_arg1))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1))
      ∧ r.2.sem = fun _ => 0)

def quiescent_AdamWIn [hAdamWIn : Cert.AdamWIn.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3))
      ∧ r.2.sem = fun _ => 0)

def quiescent_AdamWInIdeal [hAdamWInIdeal : Cert.AdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ r.2.sem = fun _ => 0)

def quiescent_AdamWInRefIdeal [hAdamWInRefIdeal : Cert.AdamWInRefIdeal.Facts] : Prop :=
  ∀ (m : (ℓ : Loc Cert.AdamWInRefIdeal.nD Cert.AdamWInRefIdeal.τ Cert.AdamWInRefIdeal.sig) → Buf (Elt Ideal) ℓ) (g : Dev Cert.AdamWInRefIdeal.nD → PrngReg), Pre_AdamWInRefIdeal m →
    θ_run (Cert.AdamWInRefIdeal.defs (F := Ideal)) (onTc (τ := Cert.AdamWInRefIdeal.τ) (Cert.AdamWInRefIdeal.main (F := Ideal))) ⟨m, fun _ => 0, g⟩ (fun r => (∀ c : Dev Cert.AdamWInRefIdeal.nD,
      r.2.mem ((c.tc : Thread Cert.AdamWInRefIdeal.nD Cert.AdamWInRefIdeal.τ).loc Cert.AdamWInRefIdeal.main_arg0) = m ((c.tc : Thread Cert.AdamWInRefIdeal.nD Cert.AdamWInRefIdeal.τ).loc Cert.AdamWInRefIdeal.main_arg0)
      ∧ r.2.mem ((c.tc : Thread Cert.AdamWInRefIdeal.nD Cert.AdamWInRefIdeal.τ).loc Cert.AdamWInRefIdeal.main_arg1) = m ((c.tc : Thread Cert.AdamWInRefIdeal.nD Cert.AdamWInRefIdeal.τ).loc Cert.AdamWInRefIdeal.main_arg1)
      ∧ r.2.mem ((c.tc : Thread Cert.AdamWInRefIdeal.nD Cert.AdamWInRefIdeal.τ).loc Cert.AdamWInRefIdeal.main_arg2) = m ((c.tc : Thread Cert.AdamWInRefIdeal.nD Cert.AdamWInRefIdeal.τ).loc Cert.AdamWInRefIdeal.main_arg2)
      ∧ r.2.mem ((c.tc : Thread Cert.AdamWInRefIdeal.nD Cert.AdamWInRefIdeal.τ).loc Cert.AdamWInRefIdeal.main_arg3) = m ((c.tc : Thread Cert.AdamWInRefIdeal.nD Cert.AdamWInRefIdeal.τ).loc Cert.AdamWInRefIdeal.main_arg3))
      ∧ r.2.sem = fun _ => 0)

def quiescent_AdamWa2 [hAdamWa2 : Cert.AdamWa2.Facts] : Prop :=
  ∀ (m : (ℓ : Loc Cert.AdamWa2.nD Cert.AdamWa2.τ Cert.AdamWa2.sig) → Buf (Elt Bits) ℓ) (g : Dev Cert.AdamWa2.nD → PrngReg), Pre_AdamWa2 m →
    θ_run (Cert.AdamWa2.defs (F := Bits)) (onTc (τ := Cert.AdamWa2.τ) (Cert.AdamWa2.main (F := Bits))) ⟨m, fun _ => 0, g⟩ (fun r => (∀ c : Dev Cert.AdamWa2.nD,
      r.2.mem ((c.tc : Thread Cert.AdamWa2.nD Cert.AdamWa2.τ).loc Cert.AdamWa2.main_arg0) = m ((c.tc : Thread Cert.AdamWa2.nD Cert.AdamWa2.τ).loc Cert.AdamWa2.main_arg0)
      ∧ r.2.mem ((c.tc : Thread Cert.AdamWa2.nD Cert.AdamWa2.τ).loc Cert.AdamWa2.main_arg1) = m ((c.tc : Thread Cert.AdamWa2.nD Cert.AdamWa2.τ).loc Cert.AdamWa2.main_arg1)
      ∧ r.2.mem ((c.tc : Thread Cert.AdamWa2.nD Cert.AdamWa2.τ).loc Cert.AdamWa2.main_arg2) = m ((c.tc : Thread Cert.AdamWa2.nD Cert.AdamWa2.τ).loc Cert.AdamWa2.main_arg2)
      ∧ r.2.mem ((c.tc : Thread Cert.AdamWa2.nD Cert.AdamWa2.τ).loc Cert.AdamWa2.main_arg3) = m ((c.tc : Thread Cert.AdamWa2.nD Cert.AdamWa2.τ).loc Cert.AdamWa2.main_arg3))
      ∧ r.2.sem = fun _ => 0)

def quiescent_AdamWa2Ideal [hAdamWa2Ideal : Cert.AdamWa2Ideal.Facts] : Prop :=
  ∀ (m : (ℓ : Loc Cert.AdamWa2Ideal.nD Cert.AdamWa2Ideal.τ Cert.AdamWa2Ideal.sig) → Buf (Elt Ideal) ℓ) (g : Dev Cert.AdamWa2Ideal.nD → PrngReg), Pre_AdamWa2Ideal m →
    θ_run (Cert.AdamWa2Ideal.defs (F := Ideal)) (onTc (τ := Cert.AdamWa2Ideal.τ) (Cert.AdamWa2Ideal.main (F := Ideal))) ⟨m, fun _ => 0, g⟩ (fun r => (∀ c : Dev Cert.AdamWa2Ideal.nD,
      r.2.mem ((c.tc : Thread Cert.AdamWa2Ideal.nD Cert.AdamWa2Ideal.τ).loc Cert.AdamWa2Ideal.main_arg0) = m ((c.tc : Thread Cert.AdamWa2Ideal.nD Cert.AdamWa2Ideal.τ).loc Cert.AdamWa2Ideal.main_arg0)
      ∧ r.2.mem ((c.tc : Thread Cert.AdamWa2Ideal.nD Cert.AdamWa2Ideal.τ).loc Cert.AdamWa2Ideal.main_arg1) = m ((c.tc : Thread Cert.AdamWa2Ideal.nD Cert.AdamWa2Ideal.τ).loc Cert.AdamWa2Ideal.main_arg1)
      ∧ r.2.mem ((c.tc : Thread Cert.AdamWa2Ideal.nD Cert.AdamWa2Ideal.τ).loc Cert.AdamWa2Ideal.main_arg2) = m ((c.tc : Thread Cert.AdamWa2Ideal.nD Cert.AdamWa2Ideal.τ).loc Cert.AdamWa2Ideal.main_arg2)
      ∧ r.2.mem ((c.tc : Thread Cert.AdamWa2Ideal.nD Cert.AdamWa2Ideal.τ).loc Cert.AdamWa2Ideal.main_arg3) = m ((c.tc : Thread Cert.AdamWa2Ideal.nD Cert.AdamWa2Ideal.τ).loc Cert.AdamWa2Ideal.main_arg3))
      ∧ r.2.sem = fun _ => 0)

def quiescent_AdamWa2RefIdeal [hAdamWa2RefIdeal : Cert.AdamWa2RefIdeal.Facts] : Prop :=
  ∀ (m : (ℓ : Loc Cert.AdamWa2RefIdeal.nD Cert.AdamWa2RefIdeal.τ Cert.AdamWa2RefIdeal.sig) → Buf (Elt Ideal) ℓ) (g : Dev Cert.AdamWa2RefIdeal.nD → PrngReg), Pre_AdamWa2RefIdeal m →
    θ_run (Cert.AdamWa2RefIdeal.defs (F := Ideal)) (onTc (τ := Cert.AdamWa2RefIdeal.τ) (Cert.AdamWa2RefIdeal.main (F := Ideal))) ⟨m, fun _ => 0, g⟩ (fun r => (∀ c : Dev Cert.AdamWa2RefIdeal.nD,
      r.2.mem ((c.tc : Thread Cert.AdamWa2RefIdeal.nD Cert.AdamWa2RefIdeal.τ).loc Cert.AdamWa2RefIdeal.main_arg0) = m ((c.tc : Thread Cert.AdamWa2RefIdeal.nD Cert.AdamWa2RefIdeal.τ).loc Cert.AdamWa2RefIdeal.main_arg0)
      ∧ r.2.mem ((c.tc : Thread Cert.AdamWa2RefIdeal.nD Cert.AdamWa2RefIdeal.τ).loc Cert.AdamWa2RefIdeal.main_arg1) = m ((c.tc : Thread Cert.AdamWa2RefIdeal.nD Cert.AdamWa2RefIdeal.τ).loc Cert.AdamWa2RefIdeal.main_arg1)
      ∧ r.2.mem ((c.tc : Thread Cert.AdamWa2RefIdeal.nD Cert.AdamWa2RefIdeal.τ).loc Cert.AdamWa2RefIdeal.main_arg2) = m ((c.tc : Thread Cert.AdamWa2RefIdeal.nD Cert.AdamWa2RefIdeal.τ).loc Cert.AdamWa2RefIdeal.main_arg2)
      ∧ r.2.mem ((c.tc : Thread Cert.AdamWa2RefIdeal.nD Cert.AdamWa2RefIdeal.τ).loc Cert.AdamWa2RefIdeal.main_arg3) = m ((c.tc : Thread Cert.AdamWa2RefIdeal.nD Cert.AdamWa2RefIdeal.τ).loc Cert.AdamWa2RefIdeal.main_arg3))
      ∧ r.2.sem = fun _ => 0)

def quiescent_AdamProj [hAdamProj : Cert.AdamProj.Facts] : Prop :=
  ∀ (m : (ℓ : Loc Cert.AdamProj.nD Cert.AdamProj.τ Cert.AdamProj.sig) → Buf (Elt Bits) ℓ) (g : Dev Cert.AdamProj.nD → PrngReg), Pre_AdamProj m →
    θ_run (Cert.AdamProj.defs (F := Bits)) (onTc (τ := Cert.AdamProj.τ) (Cert.AdamProj.main (F := Bits))) ⟨m, fun _ => 0, g⟩ (fun r => (∀ c : Dev Cert.AdamProj.nD,
      r.2.mem ((c.tc : Thread Cert.AdamProj.nD Cert.AdamProj.τ).loc Cert.AdamProj.main_arg0) = m ((c.tc : Thread Cert.AdamProj.nD Cert.AdamProj.τ).loc Cert.AdamProj.main_arg0)
      ∧ r.2.mem ((c.tc : Thread Cert.AdamProj.nD Cert.AdamProj.τ).loc Cert.AdamProj.main_arg1) = m ((c.tc : Thread Cert.AdamProj.nD Cert.AdamProj.τ).loc Cert.AdamProj.main_arg1)
      ∧ r.2.mem ((c.tc : Thread Cert.AdamProj.nD Cert.AdamProj.τ).loc Cert.AdamProj.main_arg2) = m ((c.tc : Thread Cert.AdamProj.nD Cert.AdamProj.τ).loc Cert.AdamProj.main_arg2)
      ∧ r.2.mem ((c.tc : Thread Cert.AdamProj.nD Cert.AdamProj.τ).loc Cert.AdamProj.main_arg3) = m ((c.tc : Thread Cert.AdamProj.nD Cert.AdamProj.τ).loc Cert.AdamProj.main_arg3))
      ∧ r.2.sem = fun _ => 0)

def quiescent_AdamProjIdeal [hAdamProjIdeal : Cert.AdamProjIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg), Pre_AdamProjIdeal m →
    θ_run (Cert.AdamProjIdeal.defs (F := Ideal)) (onTc (τ := Cert.AdamProjIdeal.τ) (Cert.AdamProjIdeal.main (F := Ideal))) ⟨m, fun _ => 0, g⟩ (fun r => (∀ c : Dev Cert.AdamProjIdeal.nD,
      r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
      ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
      ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
      ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3))
      ∧ r.2.sem = fun _ => 0)

def quiescent_AdamProjRefIdeal [hAdamProjRefIdeal : Cert.AdamProjRefIdeal.Facts] : Prop :=
  ∀ (m : (ℓ : Loc Cert.AdamProjRefIdeal.nD Cert.AdamProjRefIdeal.τ Cert.AdamProjRefIdeal.sig) → Buf (Elt Ideal) ℓ) (g : Dev Cert.AdamProjRefIdeal.nD → PrngReg), Pre_AdamProjRefIdeal m →
    θ_run (Cert.AdamProjRefIdeal.defs (F := Ideal)) (onTc (τ := Cert.AdamProjRefIdeal.τ) (Cert.AdamProjRefIdeal.main (F := Ideal))) ⟨m, fun _ => 0, g⟩ (fun r => (∀ c : Dev Cert.AdamProjRefIdeal.nD,
      r.2.mem ((c.tc : Thread Cert.AdamProjRefIdeal.nD Cert.AdamProjRefIdeal.τ).loc Cert.AdamProjRefIdeal.main_arg0) = m ((c.tc : Thread Cert.AdamProjRefIdeal.nD Cert.AdamProjRefIdeal.τ).loc Cert.AdamProjRefIdeal.main_arg0)
      ∧ r.2.mem ((c.tc : Thread Cert.AdamProjRefIdeal.nD Cert.AdamProjRefIdeal.τ).loc Cert.AdamProjRefIdeal.main_arg1) = m ((c.tc : Thread Cert.AdamProjRefIdeal.nD Cert.AdamProjRefIdeal.τ).loc Cert.AdamProjRefIdeal.main_arg1)
      ∧ r.2.mem ((c.tc : Thread Cert.AdamProjRefIdeal.nD Cert.AdamProjRefIdeal.τ).loc Cert.AdamProjRefIdeal.main_arg2) = m ((c.tc : Thread Cert.AdamProjRefIdeal.nD Cert.AdamProjRefIdeal.τ).loc Cert.AdamProjRefIdeal.main_arg2)
      ∧ r.2.mem ((c.tc : Thread Cert.AdamProjRefIdeal.nD Cert.AdamProjRefIdeal.τ).loc Cert.AdamProjRefIdeal.main_arg3) = m ((c.tc : Thread Cert.AdamProjRefIdeal.nD Cert.AdamProjRefIdeal.τ).loc Cert.AdamProjRefIdeal.main_arg3))
      ∧ r.2.sem = fun _ => 0)

def quiescent_AdamW2 [hAdamW2 : Cert.AdamW2.Facts] : Prop :=
  ∀ (m : (ℓ : Loc Cert.AdamW2.nD Cert.AdamW2.τ Cert.AdamW2.sig) → Buf (Elt Bits) ℓ) (g : Dev Cert.AdamW2.nD → PrngReg), Pre_AdamW2 m →
    θ_run (Cert.AdamW2.defs (F := Bits)) (onTc (τ := Cert.AdamW2.τ) (Cert.AdamW2.main (F := Bits))) ⟨m, fun _ => 0, g⟩ (fun r => (∀ c : Dev Cert.AdamW2.nD,
      r.2.mem ((c.tc : Thread Cert.AdamW2.nD Cert.AdamW2.τ).loc Cert.AdamW2.main_arg0) = m ((c.tc : Thread Cert.AdamW2.nD Cert.AdamW2.τ).loc Cert.AdamW2.main_arg0)
      ∧ r.2.mem ((c.tc : Thread Cert.AdamW2.nD Cert.AdamW2.τ).loc Cert.AdamW2.main_arg1) = m ((c.tc : Thread Cert.AdamW2.nD Cert.AdamW2.τ).loc Cert.AdamW2.main_arg1)
      ∧ r.2.mem ((c.tc : Thread Cert.AdamW2.nD Cert.AdamW2.τ).loc Cert.AdamW2.main_arg2) = m ((c.tc : Thread Cert.AdamW2.nD Cert.AdamW2.τ).loc Cert.AdamW2.main_arg2)
      ∧ r.2.mem ((c.tc : Thread Cert.AdamW2.nD Cert.AdamW2.τ).loc Cert.AdamW2.main_arg3) = m ((c.tc : Thread Cert.AdamW2.nD Cert.AdamW2.τ).loc Cert.AdamW2.main_arg3))
      ∧ r.2.sem = fun _ => 0)

def quiescent_AdamW2Ideal [hAdamW2Ideal : Cert.AdamW2Ideal.Facts] : Prop :=
  ∀ (m : (ℓ : Loc Cert.AdamW2Ideal.nD Cert.AdamW2Ideal.τ Cert.AdamW2Ideal.sig) → Buf (Elt Ideal) ℓ) (g : Dev Cert.AdamW2Ideal.nD → PrngReg), Pre_AdamW2Ideal m →
    θ_run (Cert.AdamW2Ideal.defs (F := Ideal)) (onTc (τ := Cert.AdamW2Ideal.τ) (Cert.AdamW2Ideal.main (F := Ideal))) ⟨m, fun _ => 0, g⟩ (fun r => (∀ c : Dev Cert.AdamW2Ideal.nD,
      r.2.mem ((c.tc : Thread Cert.AdamW2Ideal.nD Cert.AdamW2Ideal.τ).loc Cert.AdamW2Ideal.main_arg0) = m ((c.tc : Thread Cert.AdamW2Ideal.nD Cert.AdamW2Ideal.τ).loc Cert.AdamW2Ideal.main_arg0)
      ∧ r.2.mem ((c.tc : Thread Cert.AdamW2Ideal.nD Cert.AdamW2Ideal.τ).loc Cert.AdamW2Ideal.main_arg1) = m ((c.tc : Thread Cert.AdamW2Ideal.nD Cert.AdamW2Ideal.τ).loc Cert.AdamW2Ideal.main_arg1)
      ∧ r.2.mem ((c.tc : Thread Cert.AdamW2Ideal.nD Cert.AdamW2Ideal.τ).loc Cert.AdamW2Ideal.main_arg2) = m ((c.tc : Thread Cert.AdamW2Ideal.nD Cert.AdamW2Ideal.τ).loc Cert.AdamW2Ideal.main_arg2)
      ∧ r.2.mem ((c.tc : Thread Cert.AdamW2Ideal.nD Cert.AdamW2Ideal.τ).loc Cert.AdamW2Ideal.main_arg3) = m ((c.tc : Thread Cert.AdamW2Ideal.nD Cert.AdamW2Ideal.τ).loc Cert.AdamW2Ideal.main_arg3))
      ∧ r.2.sem = fun _ => 0)

def quiescent_AdamW2RefIdeal [hAdamW2RefIdeal : Cert.AdamW2RefIdeal.Facts] : Prop :=
  ∀ (m : (ℓ : Loc Cert.AdamW2RefIdeal.nD Cert.AdamW2RefIdeal.τ Cert.AdamW2RefIdeal.sig) → Buf (Elt Ideal) ℓ) (g : Dev Cert.AdamW2RefIdeal.nD → PrngReg), Pre_AdamW2RefIdeal m →
    θ_run (Cert.AdamW2RefIdeal.defs (F := Ideal)) (onTc (τ := Cert.AdamW2RefIdeal.τ) (Cert.AdamW2RefIdeal.main (F := Ideal))) ⟨m, fun _ => 0, g⟩ (fun r => (∀ c : Dev Cert.AdamW2RefIdeal.nD,
      r.2.mem ((c.tc : Thread Cert.AdamW2RefIdeal.nD Cert.AdamW2RefIdeal.τ).loc Cert.AdamW2RefIdeal.main_arg0) = m ((c.tc : Thread Cert.AdamW2RefIdeal.nD Cert.AdamW2RefIdeal.τ).loc Cert.AdamW2RefIdeal.main_arg0)
      ∧ r.2.mem ((c.tc : Thread Cert.AdamW2RefIdeal.nD Cert.AdamW2RefIdeal.τ).loc Cert.AdamW2RefIdeal.main_arg1) = m ((c.tc : Thread Cert.AdamW2RefIdeal.nD Cert.AdamW2RefIdeal.τ).loc Cert.AdamW2RefIdeal.main_arg1)
      ∧ r.2.mem ((c.tc : Thread Cert.AdamW2RefIdeal.nD Cert.AdamW2RefIdeal.τ).loc Cert.AdamW2RefIdeal.main_arg2) = m ((c.tc : Thread Cert.AdamW2RefIdeal.nD Cert.AdamW2RefIdeal.τ).loc Cert.AdamW2RefIdeal.main_arg2)
      ∧ r.2.mem ((c.tc : Thread Cert.AdamW2RefIdeal.nD Cert.AdamW2RefIdeal.τ).loc Cert.AdamW2RefIdeal.main_arg3) = m ((c.tc : Thread Cert.AdamW2RefIdeal.nD Cert.AdamW2RefIdeal.τ).loc Cert.AdamW2RefIdeal.main_arg3))
      ∧ r.2.sem = fun _ => 0)

def quiescent_AdamG2 [hAdamG2 : Cert.AdamG2.Facts] : Prop :=
  ∀ (m : (ℓ : Loc Cert.AdamG2.nD Cert.AdamG2.τ Cert.AdamG2.sig) → Buf (Elt Bits) ℓ) (g : Dev Cert.AdamG2.nD → PrngReg), Pre_AdamG2 m →
    θ_run (Cert.AdamG2.defs (F := Bits)) (onTc (τ := Cert.AdamG2.τ) (Cert.AdamG2.main (F := Bits))) ⟨m, fun _ => 0, g⟩ (fun r => (∀ c : Dev Cert.AdamG2.nD,
      r.2.mem ((c.tc : Thread Cert.AdamG2.nD Cert.AdamG2.τ).loc Cert.AdamG2.main_arg0) = m ((c.tc : Thread Cert.AdamG2.nD Cert.AdamG2.τ).loc Cert.AdamG2.main_arg0)
      ∧ r.2.mem ((c.tc : Thread Cert.AdamG2.nD Cert.AdamG2.τ).loc Cert.AdamG2.main_arg1) = m ((c.tc : Thread Cert.AdamG2.nD Cert.AdamG2.τ).loc Cert.AdamG2.main_arg1)
      ∧ r.2.mem ((c.tc : Thread Cert.AdamG2.nD Cert.AdamG2.τ).loc Cert.AdamG2.main_arg2) = m ((c.tc : Thread Cert.AdamG2.nD Cert.AdamG2.τ).loc Cert.AdamG2.main_arg2)
      ∧ r.2.mem ((c.tc : Thread Cert.AdamG2.nD Cert.AdamG2.τ).loc Cert.AdamG2.main_arg3) = m ((c.tc : Thread Cert.AdamG2.nD Cert.AdamG2.τ).loc Cert.AdamG2.main_arg3))
      ∧ r.2.sem = fun _ => 0)

def quiescent_AdamG2Ideal [hAdamG2Ideal : Cert.AdamG2Ideal.Facts] : Prop :=
  ∀ (m : (ℓ : Loc Cert.AdamG2Ideal.nD Cert.AdamG2Ideal.τ Cert.AdamG2Ideal.sig) → Buf (Elt Ideal) ℓ) (g : Dev Cert.AdamG2Ideal.nD → PrngReg), Pre_AdamG2Ideal m →
    θ_run (Cert.AdamG2Ideal.defs (F := Ideal)) (onTc (τ := Cert.AdamG2Ideal.τ) (Cert.AdamG2Ideal.main (F := Ideal))) ⟨m, fun _ => 0, g⟩ (fun r => (∀ c : Dev Cert.AdamG2Ideal.nD,
      r.2.mem ((c.tc : Thread Cert.AdamG2Ideal.nD Cert.AdamG2Ideal.τ).loc Cert.AdamG2Ideal.main_arg0) = m ((c.tc : Thread Cert.AdamG2Ideal.nD Cert.AdamG2Ideal.τ).loc Cert.AdamG2Ideal.main_arg0)
      ∧ r.2.mem ((c.tc : Thread Cert.AdamG2Ideal.nD Cert.AdamG2Ideal.τ).loc Cert.AdamG2Ideal.main_arg1) = m ((c.tc : Thread Cert.AdamG2Ideal.nD Cert.AdamG2Ideal.τ).loc Cert.AdamG2Ideal.main_arg1)
      ∧ r.2.mem ((c.tc : Thread Cert.AdamG2Ideal.nD Cert.AdamG2Ideal.τ).loc Cert.AdamG2Ideal.main_arg2) = m ((c.tc : Thread Cert.AdamG2Ideal.nD Cert.AdamG2Ideal.τ).loc Cert.AdamG2Ideal.main_arg2)
      ∧ r.2.mem ((c.tc : Thread Cert.AdamG2Ideal.nD Cert.AdamG2Ideal.τ).loc Cert.AdamG2Ideal.main_arg3) = m ((c.tc : Thread Cert.AdamG2Ideal.nD Cert.AdamG2Ideal.τ).loc Cert.AdamG2Ideal.main_arg3))
      ∧ r.2.sem = fun _ => 0)

def quiescent_AdamG2RefIdeal [hAdamG2RefIdeal : Cert.AdamG2RefIdeal.Facts] : Prop :=
  ∀ (m : (ℓ : Loc Cert.AdamG2RefIdeal.nD Cert.AdamG2RefIdeal.τ Cert.AdamG2RefIdeal.sig) → Buf (Elt Ideal) ℓ) (g : Dev Cert.AdamG2RefIdeal.nD → PrngReg), Pre_AdamG2RefIdeal m →
    θ_run (Cert.AdamG2RefIdeal.defs (F := Ideal)) (onTc (τ := Cert.AdamG2RefIdeal.τ) (Cert.AdamG2RefIdeal.main (F := Ideal))) ⟨m, fun _ => 0, g⟩ (fun r => (∀ c : Dev Cert.AdamG2RefIdeal.nD,
      r.2.mem ((c.tc : Thread Cert.AdamG2RefIdeal.nD Cert.AdamG2RefIdeal.τ).loc Cert.AdamG2RefIdeal.main_arg0) = m ((c.tc : Thread Cert.AdamG2RefIdeal.nD Cert.AdamG2RefIdeal.τ).loc Cert.AdamG2RefIdeal.main_arg0)
      ∧ r.2.mem ((c.tc : Thread Cert.AdamG2RefIdeal.nD Cert.AdamG2RefIdeal.τ).loc Cert.AdamG2RefIdeal.main_arg1) = m ((c.tc : Thread Cert.AdamG2RefIdeal.nD Cert.AdamG2RefIdeal.τ).loc Cert.AdamG2RefIdeal.main_arg1)
      ∧ r.2.mem ((c.tc : Thread Cert.AdamG2RefIdeal.nD Cert.AdamG2RefIdeal.τ).loc Cert.AdamG2RefIdeal.main_arg2) = m ((c.tc : Thread Cert.AdamG2RefIdeal.nD Cert.AdamG2RefIdeal.τ).loc Cert.AdamG2RefIdeal.main_arg2)
      ∧ r.2.mem ((c.tc : Thread Cert.AdamG2RefIdeal.nD Cert.AdamG2RefIdeal.τ).loc Cert.AdamG2RefIdeal.main_arg3) = m ((c.tc : Thread Cert.AdamG2RefIdeal.nD Cert.AdamG2RefIdeal.τ).loc Cert.AdamG2RefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamRep [hAdamRep : Cert.AdamRep.Facts] : Prop :=
  ∀ (m : (ℓ : Loc Cert.AdamRep.nD Cert.AdamRep.τ Cert.AdamRep.sig) → Buf (Elt Bits) ℓ) (g : Dev Cert.AdamRep.nD → PrngReg), Pre_AdamRep m →
    θ_run (Cert.AdamRep.defs (F := Bits)) (onTc (τ := Cert.AdamRep.τ) (Cert.AdamRep.main (F := Bits))) ⟨m, fun _ => 0, g⟩ (fun r => (∀ c : Dev Cert.AdamRep.nD,
      r.2.mem ((c.tc : Thread Cert.AdamRep.nD Cert.AdamRep.τ).loc Cert.AdamRep.main_arg0) = m ((c.tc : Thread Cert.AdamRep.nD Cert.AdamRep.τ).loc Cert.AdamRep.main_arg0)
      ∧ r.2.mem ((c.tc : Thread Cert.AdamRep.nD Cert.AdamRep.τ).loc Cert.AdamRep.main_arg1) = m ((c.tc : Thread Cert.AdamRep.nD Cert.AdamRep.τ).loc Cert.AdamRep.main_arg1)
      ∧ r.2.mem ((c.tc : Thread Cert.AdamRep.nD Cert.AdamRep.τ).loc Cert.AdamRep.main_arg2) = m ((c.tc : Thread Cert.AdamRep.nD Cert.AdamRep.τ).loc Cert.AdamRep.main_arg2)
      ∧ r.2.mem ((c.tc : Thread Cert.AdamRep.nD Cert.AdamRep.τ).loc Cert.AdamRep.main_arg3) = m ((c.tc : Thread Cert.AdamRep.nD Cert.AdamRep.τ).loc Cert.AdamRep.main_arg3))
      ∧ r.2.sem = fun _ => 0)

def quiescent_AdamRepIdeal [hAdamRepIdeal : Cert.AdamRepIdeal.Facts] : Prop :=
  ∀ (m : (ℓ : Loc Cert.AdamRepIdeal.nD Cert.AdamRepIdeal.τ Cert.AdamRepIdeal.sig) → Buf (Elt Ideal) ℓ) (g : Dev Cert.AdamRepIdeal.nD → PrngReg), Pre_AdamRepIdeal m →
    θ_run (Cert.AdamRepIdeal.defs (F := Ideal)) (onTc (τ := Cert.AdamRepIdeal.τ) (Cert.AdamRepIdeal.main (F := Ideal))) ⟨m, fun _ => 0, g⟩ (fun r => (∀ c : Dev Cert.AdamRepIdeal.nD,
      r.2.mem ((c.tc : Thread Cert.AdamRepIdeal.nD Cert.AdamRepIdeal.τ).loc Cert.AdamRepIdeal.main_arg0) = m ((c.tc : Thread Cert.AdamRepIdeal.nD Cert.AdamRepIdeal.τ).loc Cert.AdamRepIdeal.main_arg0)
      ∧ r.2.mem ((c.tc : Thread Cert.AdamRepIdeal.nD Cert.AdamRepIdeal.τ).loc Cert.AdamRepIdeal.main_arg1) = m ((c.tc : Thread Cert.AdamRepIdeal.nD Cert.AdamRepIdeal.τ).loc Cert.AdamRepIdeal.main_arg1)
      ∧ r.2.mem ((c.tc : Thread Cert.AdamRepIdeal.nD Cert.AdamRepIdeal.τ).loc Cert.AdamRepIdeal.main_arg2) = m ((c.tc : Thread Cert.AdamRepIdeal.nD Cert.AdamRepIdeal.τ).loc Cert.AdamRepIdeal.main_arg2)
      ∧ r.2.mem ((c.tc : Thread Cert.AdamRepIdeal.nD Cert.AdamRepIdeal.τ).loc Cert.AdamRepIdeal.main_arg3) = m ((c.tc : Thread Cert.AdamRepIdeal.nD Cert.AdamRepIdeal.τ).loc Cert.AdamRepIdeal.main_arg3))
      ∧ r.2.sem = fun _ => 0)

def quiescent_AdamRepRefIdeal [hAdamRepRefIdeal : Cert.AdamRepRefIdeal.Facts] : Prop :=
  ∀ (m : (ℓ : Loc Cert.AdamRepRefIdeal.nD Cert.AdamRepRefIdeal.τ Cert.AdamRepRefIdeal.sig) → Buf (Elt Ideal) ℓ) (g : Dev Cert.AdamRepRefIdeal.nD → PrngReg), Pre_AdamRepRefIdeal m →
    θ_run (Cert.AdamRepRefIdeal.defs (F := Ideal)) (onTc (τ := Cert.AdamRepRefIdeal.τ) (Cert.AdamRepRefIdeal.main (F := Ideal))) ⟨m, fun _ => 0, g⟩ (fun r => (∀ c : Dev Cert.AdamRepRefIdeal.nD,
      r.2.mem ((c.tc : Thread Cert.AdamRepRefIdeal.nD Cert.AdamRepRefIdeal.τ).loc Cert.AdamRepRefIdeal.main_arg0) = m ((c.tc : Thread Cert.AdamRepRefIdeal.nD Cert.AdamRepRefIdeal.τ).loc Cert.AdamRepRefIdeal.main_arg0)
      ∧ r.2.mem ((c.tc : Thread Cert.AdamRepRefIdeal.nD Cert.AdamRepRefIdeal.τ).loc Cert.AdamRepRefIdeal.main_arg1) = m ((c.tc : Thread Cert.AdamRepRefIdeal.nD Cert.AdamRepRefIdeal.τ).loc Cert.AdamRepRefIdeal.main_arg1)
      ∧ r.2.mem ((c.tc : Thread Cert.AdamRepRefIdeal.nD Cert.AdamRepRefIdeal.τ).loc Cert.AdamRepRefIdeal.main_arg2) = m ((c.tc : Thread Cert.AdamRepRefIdeal.nD Cert.AdamRepRefIdeal.τ).loc Cert.AdamRepRefIdeal.main_arg2)
      ∧ r.2.mem ((c.tc : Thread Cert.AdamRepRefIdeal.nD Cert.AdamRepRefIdeal.τ).loc Cert.AdamRepRefIdeal.main_arg3) = m ((c.tc : Thread Cert.AdamRepRefIdeal.nD Cert.AdamRepRefIdeal.τ).loc Cert.AdamRepRefIdeal.main_arg3))
      ∧ r.2.sem = fun _ => 0)

def quiescent_Norm1 [hNorm1 : Cert.Norm1.Facts] : Prop :=
  ∀ (m : (ℓ : Loc Cert.Norm1.nD Cert.Norm1.τ Cert.Norm1.sig) → Buf (Elt Bits) ℓ) (g : Dev Cert.Norm1.nD → PrngReg), Pre_Norm1 m →
    θ_run (Cert.Norm1.defs (F := Bits)) (onTc (τ := Cert.Norm1.τ) (Cert.Norm1.main (F := Bits))) ⟨m, fun _ => 0, g⟩ (fun r => (∀ c : Dev Cert.Norm1.nD,
      r.2.mem ((c.tc : Thread Cert.Norm1.nD Cert.Norm1.τ).loc Cert.Norm1.main_arg0) = m ((c.tc : Thread Cert.Norm1.nD Cert.Norm1.τ).loc Cert.Norm1.main_arg0)
      ∧ r.2.mem ((c.tc : Thread Cert.Norm1.nD Cert.Norm1.τ).loc Cert.Norm1.main_arg1) = m ((c.tc : Thread Cert.Norm1.nD Cert.Norm1.τ).loc Cert.Norm1.main_arg1)
      ∧ r.2.mem ((c.tc : Thread Cert.Norm1.nD Cert.Norm1.τ).loc Cert.Norm1.main_arg2) = m ((c.tc : Thread Cert.Norm1.nD Cert.Norm1.τ).loc Cert.Norm1.main_arg2)
      ∧ r.2.mem ((c.tc : Thread Cert.Norm1.nD Cert.Norm1.τ).loc Cert.Norm1.main_arg3) = m ((c.tc : Thread Cert.Norm1.nD Cert.Norm1.τ).loc Cert.Norm1.main_arg3))
      ∧ r.2.sem = fun _ => 0)

def quiescent_Norm1Ideal [hNorm1Ideal : Cert.Norm1Ideal.Facts] : Prop :=
  ∀ (m : (ℓ : Loc Cert.Norm1Ideal.nD Cert.Norm1Ideal.τ Cert.Norm1Ideal.sig) → Buf (Elt Ideal) ℓ) (g : Dev Cert.Norm1Ideal.nD → PrngReg), Pre_Norm1Ideal m →
    θ_run (Cert.Norm1Ideal.defs (F := Ideal)) (onTc (τ := Cert.Norm1Ideal.τ) (Cert.Norm1Ideal.main (F := Ideal))) ⟨m, fun _ => 0, g⟩ (fun r => (∀ c : Dev Cert.Norm1Ideal.nD,
      r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
      ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
      ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
      ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3))
      ∧ r.2.sem = fun _ => 0)

def quiescent_Norm1RefIdeal [hNorm1RefIdeal : Cert.Norm1RefIdeal.Facts] : Prop :=
  ∀ (m : (ℓ : Loc Cert.Norm1RefIdeal.nD Cert.Norm1RefIdeal.τ Cert.Norm1RefIdeal.sig) → Buf (Elt Ideal) ℓ) (g : Dev Cert.Norm1RefIdeal.nD → PrngReg), Pre_Norm1RefIdeal m →
    θ_run (Cert.Norm1RefIdeal.defs (F := Ideal)) (onTc (τ := Cert.Norm1RefIdeal.τ) (Cert.Norm1RefIdeal.main (F := Ideal))) ⟨m, fun _ => 0, g⟩ (fun r => (∀ c : Dev Cert.Norm1RefIdeal.nD,
      r.2.mem ((c.tc : Thread Cert.Norm1RefIdeal.nD Cert.Norm1RefIdeal.τ).loc Cert.Norm1RefIdeal.main_arg0) = m ((c.tc : Thread Cert.Norm1RefIdeal.nD Cert.Norm1RefIdeal.τ).loc Cert.Norm1RefIdeal.main_arg0)
      ∧ r.2.mem ((c.tc : Thread Cert.Norm1RefIdeal.nD Cert.Norm1RefIdeal.τ).loc Cert.Norm1RefIdeal.main_arg1) = m ((c.tc : Thread Cert.Norm1RefIdeal.nD Cert.Norm1RefIdeal.τ).loc Cert.Norm1RefIdeal.main_arg1)
      ∧ r.2.mem ((c.tc : Thread Cert.Norm1RefIdeal.nD Cert.Norm1RefIdeal.τ).loc Cert.Norm1RefIdeal.main_arg2) = m ((c.tc : Thread Cert.Norm1RefIdeal.nD Cert.Norm1RefIdeal.τ).loc Cert.Norm1RefIdeal.main_arg2)
      ∧ r.2.mem ((c.tc : Thread Cert.Norm1RefIdeal.nD Cert.Norm1RefIdeal.τ).loc Cert.Norm1RefIdeal.main_arg3) = m ((c.tc : Thread Cert.Norm1RefIdeal.nD Cert.Norm1RefIdeal.τ).loc Cert.Norm1RefIdeal.main_arg3))
      ∧ r.2.sem = fun _ => 0)

def quiescent_Norm2 [hNorm2 : Cert.Norm2.Facts] : Prop :=
  ∀ (m : (ℓ : Loc Cert.Norm2.nD Cert.Norm2.τ Cert.Norm2.sig) → Buf (Elt Bits) ℓ) (g : Dev Cert.Norm2.nD → PrngReg), Pre_Norm2 m →
    θ_run (Cert.Norm2.defs (F := Bits)) (onTc (τ := Cert.Norm2.τ) (Cert.Norm2.main (F := Bits))) ⟨m, fun _ => 0, g⟩ (fun r => (∀ c : Dev Cert.Norm2.nD,
      r.2.mem ((c.tc : Thread Cert.Norm2.nD Cert.Norm2.τ).loc Cert.Norm2.main_arg0) = m ((c.tc : Thread Cert.Norm2.nD Cert.Norm2.τ).loc Cert.Norm2.main_arg0)
      ∧ r.2.mem ((c.tc : Thread Cert.Norm2.nD Cert.Norm2.τ).loc Cert.Norm2.main_arg1) = m ((c.tc : Thread Cert.Norm2.nD Cert.Norm2.τ).loc Cert.Norm2.main_arg1)
      ∧ r.2.mem ((c.tc : Thread Cert.Norm2.nD Cert.Norm2.τ).loc Cert.Norm2.main_arg2) = m ((c.tc : Thread Cert.Norm2.nD Cert.Norm2.τ).loc Cert.Norm2.main_arg2)
      ∧ r.2.mem ((c.tc : Thread Cert.Norm2.nD Cert.Norm2.τ).loc Cert.Norm2.main_arg3) = m ((c.tc : Thread Cert.Norm2.nD Cert.Norm2.τ).loc Cert.Norm2.main_arg3)
      ∧ r.2.mem ((c.tc : Thread Cert.Norm2.nD Cert.Norm2.τ).loc Cert.Norm2.main_arg4) = m ((c.tc : Thread Cert.Norm2.nD Cert.Norm2.τ).loc Cert.Norm2.main_arg4))
      ∧ r.2.sem = fun _ => 0)

def quiescent_Norm2Ideal [hNorm2Ideal : Cert.Norm2Ideal.Facts] : Prop :=
  ∀ (m : (ℓ : Loc Cert.Norm2Ideal.nD Cert.Norm2Ideal.τ Cert.Norm2Ideal.sig) → Buf (Elt Ideal) ℓ) (g : Dev Cert.Norm2Ideal.nD → PrngReg), Pre_Norm2Ideal m →
    θ_run (Cert.Norm2Ideal.defs (F := Ideal)) (onTc (τ := Cert.Norm2Ideal.τ) (Cert.Norm2Ideal.main (F := Ideal))) ⟨m, fun _ => 0, g⟩ (fun r => (∀ c : Dev Cert.Norm2Ideal.nD,
      r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
      ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
      ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
      ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3)
      ∧ r.2.mem ((c.tc : Thread Cert.Norm2Ideal.nD Cert.Norm2Ideal.τ).loc Cert.Norm2Ideal.main_arg4) = m ((c.tc : Thread Cert.Norm2Ideal.nD Cert.Norm2Ideal.τ).loc Cert.Norm2Ideal.main_arg4))
      ∧ r.2.sem = fun _ => 0)

def quiescent_Norm2RefIdeal [hNorm2RefIdeal : Cert.Norm2RefIdeal.Facts] : Prop :=
  ∀ (m : (ℓ : Loc Cert.Norm2RefIdeal.nD Cert.Norm2RefIdeal.τ Cert.Norm2RefIdeal.sig) → Buf (Elt Ideal) ℓ) (g : Dev Cert.Norm2RefIdeal.nD → PrngReg), Pre_Norm2RefIdeal m →
    θ_run (Cert.Norm2RefIdeal.defs (F := Ideal)) (onTc (τ := Cert.Norm2RefIdeal.τ) (Cert.Norm2RefIdeal.main (F := Ideal))) ⟨m, fun _ => 0, g⟩ (fun r => (∀ c : Dev Cert.Norm2RefIdeal.nD,
      r.2.mem ((c.tc : Thread Cert.Norm2RefIdeal.nD Cert.Norm2RefIdeal.τ).loc Cert.Norm2RefIdeal.main_arg0) = m ((c.tc : Thread Cert.Norm2RefIdeal.nD Cert.Norm2RefIdeal.τ).loc Cert.Norm2RefIdeal.main_arg0)
      ∧ r.2.mem ((c.tc : Thread Cert.Norm2RefIdeal.nD Cert.Norm2RefIdeal.τ).loc Cert.Norm2RefIdeal.main_arg1) = m ((c.tc : Thread Cert.Norm2RefIdeal.nD Cert.Norm2RefIdeal.τ).loc Cert.Norm2RefIdeal.main_arg1)
      ∧ r.2.mem ((c.tc : Thread Cert.Norm2RefIdeal.nD Cert.Norm2RefIdeal.τ).loc Cert.Norm2RefIdeal.main_arg2) = m ((c.tc : Thread Cert.Norm2RefIdeal.nD Cert.Norm2RefIdeal.τ).loc Cert.Norm2RefIdeal.main_arg2)
      ∧ r.2.mem ((c.tc : Thread Cert.Norm2RefIdeal.nD Cert.Norm2RefIdeal.τ).loc Cert.Norm2RefIdeal.main_arg3) = m ((c.tc : Thread Cert.Norm2RefIdeal.nD Cert.Norm2RefIdeal.τ).loc Cert.Norm2RefIdeal.main_arg3)
      ∧ r.2.mem ((c.tc : Thread Cert.Norm2RefIdeal.nD Cert.Norm2RefIdeal.τ).loc Cert.Norm2RefIdeal.main_arg4) = m ((c.tc : Thread Cert.Norm2RefIdeal.nD Cert.Norm2RefIdeal.τ).loc Cert.Norm2RefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_Norm1Fwd [hNorm1Fwd : Cert.Norm1Fwd.Facts] : Prop :=
  ∀ (m : (ℓ : Loc Cert.Norm1Fwd.nD Cert.Norm1Fwd.τ Cert.Norm1Fwd.sig) → Buf (Elt Bits) ℓ) (g : Dev Cert.Norm1Fwd.nD → PrngReg), Pre_Norm1Fwd m →
    θ_run (Cert.Norm1Fwd.defs (F := Bits)) (onTc (τ := Cert.Norm1Fwd.τ) (Cert.Norm1Fwd.main (F := Bits))) ⟨m, fun _ => 0, g⟩ (fun r => (∀ c : Dev Cert.Norm1Fwd.nD,
      r.2.mem ((c.tc : Thread Cert.Norm1Fwd.nD Cert.Norm1Fwd.τ).loc Cert.Norm1Fwd.main_arg0) = m ((c.tc : Thread Cert.Norm1Fwd.nD Cert.Norm1Fwd.τ).loc Cert.Norm1Fwd.main_arg0)
      ∧ r.2.mem ((c.tc : Thread Cert.Norm1Fwd.nD Cert.Norm1Fwd.τ).loc Cert.Norm1Fwd.main_arg1) = m ((c.tc : Thread Cert.Norm1Fwd.nD Cert.Norm1Fwd.τ).loc Cert.Norm1Fwd.main_arg1))
      ∧ r.2.sem = fun _ => 0)

def quiescent_Norm1FwdIdeal [hNorm1FwdIdeal : Cert.Norm1FwdIdeal.Facts] : Prop :=
  ∀ (m : (ℓ : Loc Cert.Norm1FwdIdeal.nD Cert.Norm1FwdIdeal.τ Cert.Norm1FwdIdeal.sig) → Buf (Elt Ideal) ℓ) (g : Dev Cert.Norm1FwdIdeal.nD → PrngReg), Pre_Norm1FwdIdeal m →
    θ_run (Cert.Norm1FwdIdeal.defs (F := Ideal)) (onTc (τ := Cert.Norm1FwdIdeal.τ) (Cert.Norm1FwdIdeal.main (F := Ideal))) ⟨m, fun _ => 0, g⟩ (fun r => (∀ c : Dev Cert.Norm1FwdIdeal.nD,
      r.2.mem ((c.tc : Thread Cert.Norm1FwdIdeal.nD Cert.Norm1FwdIdeal.τ).loc Cert.Norm1FwdIdeal.main_arg0) = m ((c.tc : Thread Cert.Norm1FwdIdeal.nD Cert.Norm1FwdIdeal.τ).loc Cert.Norm1FwdIdeal.main_arg0)
      ∧ r.2.mem ((c.tc : Thread Cert.Norm1FwdIdeal.nD Cert.Norm1FwdIdeal.τ).loc Cert.Norm1FwdIdeal.main_arg1) = m ((c.tc : Thread Cert.Norm1FwdIdeal.nD Cert.Norm1FwdIdeal.τ).loc Cert.Norm1FwdIdeal.main_arg1))
      ∧ r.2.sem = fun _ => 0)

def quiescent_Norm1FwdRefIdeal [hNorm1FwdRefIdeal : Cert.Norm1FwdRefIdeal.Facts] : Prop :=
  ∀ (m : (ℓ : Loc Cert.Norm1FwdRefIdeal.nD Cert.Norm1FwdRefIdeal.τ Cert.Norm1FwdRefIdeal.sig) → Buf (Elt Ideal) ℓ) (g : Dev Cert.Norm1FwdRefIdeal.nD → PrngReg), Pre_Norm1FwdRefIdeal m →
    θ_run (Cert.Norm1FwdRefIdeal.defs (F := Ideal)) (onTc (τ := Cert.Norm1FwdRefIdeal.τ) (Cert.Norm1FwdRefIdeal.main (F := Ideal))) ⟨m, fun _ => 0, g⟩ (fun r => (∀ c : Dev Cert.Norm1FwdRefIdeal.nD,
      r.2.mem ((c.tc : Thread Cert.Norm1FwdRefIdeal.nD Cert.Norm1FwdRefIdeal.τ).loc Cert.Norm1FwdRefIdeal.main_arg0) = m ((c.tc : Thread Cert.Norm1FwdRefIdeal.nD Cert.Norm1FwdRefIdeal.τ).loc Cert.Norm1FwdRefIdeal.main_arg0)
      ∧ r.2.mem ((c.tc : Thread Cert.Norm1FwdRefIdeal.nD Cert.Norm1FwdRefIdeal.τ).loc Cert.Norm1FwdRefIdeal.main_arg1) = m ((c.tc : Thread Cert.Norm1FwdRefIdeal.nD Cert.Norm1FwdRefIdeal.τ).loc Cert.Norm1FwdRefIdeal.main_arg1))
      ∧ r.2.sem = fun _ => 0)

def quiescent_Norm2Fwd [hNorm2Fwd : Cert.Norm2Fwd.Facts] : Prop :=
  ∀ (m : (ℓ : Loc Cert.Norm2Fwd.nD Cert.Norm2Fwd.τ Cert.Norm2Fwd.sig) → Buf (Elt Bits) ℓ) (g : Dev Cert.Norm2Fwd.nD → PrngReg), Pre_Norm2Fwd m →
    θ_run (Cert.Norm2Fwd.defs (F := Bits)) (onTc (τ := Cert.Norm2Fwd.τ) (Cert.Norm2Fwd.main (F := Bits))) ⟨m, fun _ => 0, g⟩ (fun r => (∀ c : Dev Cert.Norm2Fwd.nD,
      r.2.mem ((c.tc : Thread Cert.Norm2Fwd.nD Cert.Norm2Fwd.τ).loc Cert.Norm2Fwd.main_arg0) = m ((c.tc : Thread Cert.Norm2Fwd.nD Cert.Norm2Fwd.τ).loc Cert.Norm2Fwd.main_arg0)
      ∧ r.2.mem ((c.tc : Thread Cert.Norm2Fwd.nD Cert.Norm2Fwd.τ).loc Cert.Norm2Fwd.main_arg1) = m ((c.tc : Thread Cert.Norm2Fwd.nD Cert.Norm2Fwd.τ).loc Cert.Norm2Fwd.main_arg1)
      ∧ r.2.mem ((c.tc : Thread Cert.Norm2Fwd.nD Cert.Norm2Fwd.τ).loc Cert.Norm2Fwd.main_arg2) = m ((c.tc : Thread Cert.Norm2Fwd.nD Cert.Norm2Fwd.τ).loc Cert.Norm2Fwd.main_arg2))
      ∧ r.2.sem = fun _ => 0)

def quiescent_Norm2FwdIdeal [hNorm2FwdIdeal : Cert.Norm2FwdIdeal.Facts] : Prop :=
  ∀ (m : (ℓ : Loc Cert.Norm2FwdIdeal.nD Cert.Norm2FwdIdeal.τ Cert.Norm2FwdIdeal.sig) → Buf (Elt Ideal) ℓ) (g : Dev Cert.Norm2FwdIdeal.nD → PrngReg), Pre_Norm2FwdIdeal m →
    θ_run (Cert.Norm2FwdIdeal.defs (F := Ideal)) (onTc (τ := Cert.Norm2FwdIdeal.τ) (Cert.Norm2FwdIdeal.main (F := Ideal))) ⟨m, fun _ => 0, g⟩ (fun r => (∀ c : Dev Cert.Norm2FwdIdeal.nD,
      r.2.mem ((c.tc : Thread Cert.Norm2FwdIdeal.nD Cert.Norm2FwdIdeal.τ).loc Cert.Norm2FwdIdeal.main_arg0) = m ((c.tc : Thread Cert.Norm2FwdIdeal.nD Cert.Norm2FwdIdeal.τ).loc Cert.Norm2FwdIdeal.main_arg0)
      ∧ r.2.mem ((c.tc : Thread Cert.Norm2FwdIdeal.nD Cert.Norm2FwdIdeal.τ).loc Cert.Norm2FwdIdeal.main_arg1) = m ((c.tc : Thread Cert.Norm2FwdIdeal.nD Cert.Norm2FwdIdeal.τ).loc Cert.Norm2FwdIdeal.main_arg1)
      ∧ r.2.mem ((c.tc : Thread Cert.Norm2FwdIdeal.nD Cert.Norm2FwdIdeal.τ).loc Cert.Norm2FwdIdeal.main_arg2) = m ((c.tc : Thread Cert.Norm2FwdIdeal.nD Cert.Norm2FwdIdeal.τ).loc Cert.Norm2FwdIdeal.main_arg2))
      ∧ r.2.sem = fun _ => 0)

def quiescent_Norm2FwdRefIdeal [hNorm2FwdRefIdeal : Cert.Norm2FwdRefIdeal.Facts] : Prop :=
  ∀ (m : (ℓ : Loc Cert.Norm2FwdRefIdeal.nD Cert.Norm2FwdRefIdeal.τ Cert.Norm2FwdRefIdeal.sig) → Buf (Elt Ideal) ℓ) (g : Dev Cert.Norm2FwdRefIdeal.nD → PrngReg), Pre_Norm2FwdRefIdeal m →
    θ_run (Cert.Norm2FwdRefIdeal.defs (F := Ideal)) (onTc (τ := Cert.Norm2FwdRefIdeal.τ) (Cert.Norm2FwdRefIdeal.main (F := Ideal))) ⟨m, fun _ => 0, g⟩ (fun r => (∀ c : Dev Cert.Norm2FwdRefIdeal.nD,
      r.2.mem ((c.tc : Thread Cert.Norm2FwdRefIdeal.nD Cert.Norm2FwdRefIdeal.τ).loc Cert.Norm2FwdRefIdeal.main_arg0) = m ((c.tc : Thread Cert.Norm2FwdRefIdeal.nD Cert.Norm2FwdRefIdeal.τ).loc Cert.Norm2FwdRefIdeal.main_arg0)
      ∧ r.2.mem ((c.tc : Thread Cert.Norm2FwdRefIdeal.nD Cert.Norm2FwdRefIdeal.τ).loc Cert.Norm2FwdRefIdeal.main_arg1) = m ((c.tc : Thread Cert.Norm2FwdRefIdeal.nD Cert.Norm2FwdRefIdeal.τ).loc Cert.Norm2FwdRefIdeal.main_arg1)
      ∧ r.2.mem ((c.tc : Thread Cert.Norm2FwdRefIdeal.nD Cert.Norm2FwdRefIdeal.τ).loc Cert.Norm2FwdRefIdeal.main_arg2) = m ((c.tc : Thread Cert.Norm2FwdRefIdeal.nD Cert.Norm2FwdRefIdeal.τ).loc Cert.Norm2FwdRefIdeal.main_arg2))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2))
      ∧ r.2.sem = fun _ => 0)

def quiescent_Shift [hShift : Cert.Shift.Facts] : Prop :=
  ∀ (m : (ℓ : Loc Cert.Shift.nD Cert.Shift.τ Cert.Shift.sig) → Buf (Elt Bits) ℓ) (g : Dev Cert.Shift.nD → PrngReg), Pre_Shift m →
    θ_run (Cert.Shift.defs (F := Bits)) (onTc (τ := Cert.Shift.τ) (Cert.Shift.main (F := Bits))) ⟨m, fun _ => 0, g⟩ (fun r => (∀ c : Dev Cert.Shift.nD,
      r.2.mem ((c.tc : Thread Cert.Shift.nD Cert.Shift.τ).loc Cert.Shift.main_arg0) = m ((c.tc : Thread Cert.Shift.nD Cert.Shift.τ).loc Cert.Shift.main_arg0)
      ∧ r.2.mem ((c.tc : Thread Cert.Shift.nD Cert.Shift.τ).loc Cert.Shift.main_arg1) = m ((c.tc : Thread Cert.Shift.nD Cert.Shift.τ).loc Cert.Shift.main_arg1)
      ∧ r.2.mem ((c.tc : Thread Cert.Shift.nD Cert.Shift.τ).loc Cert.Shift.main_arg2) = m ((c.tc : Thread Cert.Shift.nD Cert.Shift.τ).loc Cert.Shift.main_arg2))
      ∧ r.2.sem = fun _ => 0)

def quiescent_ShiftIdeal [hShiftIdeal : Cert.ShiftIdeal.Facts] : Prop :=
  ∀ (m : (ℓ : Loc Cert.ShiftIdeal.nD Cert.ShiftIdeal.τ Cert.ShiftIdeal.sig) → Buf (Elt Ideal) ℓ) (g : Dev Cert.ShiftIdeal.nD → PrngReg), Pre_ShiftIdeal m →
    θ_run (Cert.ShiftIdeal.defs (F := Ideal)) (onTc (τ := Cert.ShiftIdeal.τ) (Cert.ShiftIdeal.main (F := Ideal))) ⟨m, fun _ => 0, g⟩ (fun r => (∀ c : Dev Cert.ShiftIdeal.nD,
      r.2.mem ((c.tc : Thread Cert.ShiftIdeal.nD Cert.ShiftIdeal.τ).loc Cert.ShiftIdeal.main_arg0) = m ((c.tc : Thread Cert.ShiftIdeal.nD Cert.ShiftIdeal.τ).loc Cert.ShiftIdeal.main_arg0)
      ∧ r.2.mem ((c.tc : Thread Cert.ShiftIdeal.nD Cert.ShiftIdeal.τ).loc Cert.ShiftIdeal.main_arg1) = m ((c.tc : Thread Cert.ShiftIdeal.nD Cert.ShiftIdeal.τ).loc Cert.ShiftIdeal.main_arg1)
      ∧ r.2.mem ((c.tc : Thread Cert.ShiftIdeal.nD Cert.ShiftIdeal.τ).loc Cert.ShiftIdeal.main_arg2) = m ((c.tc : Thread Cert.ShiftIdeal.nD Cert.ShiftIdeal.τ).loc Cert.ShiftIdeal.main_arg2))
      ∧ r.2.sem = fun _ => 0)

def quiescent_ShiftRefIdeal [hShiftRefIdeal : Cert.ShiftRefIdeal.Facts] : Prop :=
  ∀ (m : (ℓ : Loc Cert.ShiftRefIdeal.nD Cert.ShiftRefIdeal.τ Cert.ShiftRefIdeal.sig) → Buf (Elt Ideal) ℓ) (g : Dev Cert.ShiftRefIdeal.nD → PrngReg), Pre_ShiftRefIdeal m →
    θ_run (Cert.ShiftRefIdeal.defs (F := Ideal)) (onTc (τ := Cert.ShiftRefIdeal.τ) (Cert.ShiftRefIdeal.main (F := Ideal))) ⟨m, fun _ => 0, g⟩ (fun r => (∀ c : Dev Cert.ShiftRefIdeal.nD,
      r.2.mem ((c.tc : Thread Cert.ShiftRefIdeal.nD Cert.ShiftRefIdeal.τ).loc Cert.ShiftRefIdeal.main_arg0) = m ((c.tc : Thread Cert.ShiftRefIdeal.nD Cert.ShiftRefIdeal.τ).loc Cert.ShiftRefIdeal.main_arg0)
      ∧ r.2.mem ((c.tc : Thread Cert.ShiftRefIdeal.nD Cert.ShiftRefIdeal.τ).loc Cert.ShiftRefIdeal.main_arg1) = m ((c.tc : Thread Cert.ShiftRefIdeal.nD Cert.ShiftRefIdeal.τ).loc Cert.ShiftRefIdeal.main_arg1)
      ∧ r.2.mem ((c.tc : Thread Cert.ShiftRefIdeal.nD Cert.ShiftRefIdeal.τ).loc Cert.ShiftRefIdeal.main_arg2) = m ((c.tc : Thread Cert.ShiftRefIdeal.nD Cert.ShiftRefIdeal.τ).loc Cert.ShiftRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Total [hTotal : Cert.Total.Facts] : Prop :=
  ∀ (m : (ℓ : Loc Cert.Total.nD Cert.Total.τ Cert.Total.sig) → Buf (Elt Bits) ℓ) (g : Dev Cert.Total.nD → PrngReg), Pre_Total m →
    θ_run (Cert.Total.defs (F := Bits)) (onTc (τ := Cert.Total.τ) (Cert.Total.main (F := Bits))) ⟨m, fun _ => 0, g⟩ (fun r => (∀ c : Dev Cert.Total.nD,
      r.2.mem ((c.tc : Thread Cert.Total.nD Cert.Total.τ).loc Cert.Total.main_arg0) = m ((c.tc : Thread Cert.Total.nD Cert.Total.τ).loc Cert.Total.main_arg0))
      ∧ r.2.sem = fun _ => 0)

def quiescent_TotalIdeal [hTotalIdeal : Cert.TotalIdeal.Facts] : Prop :=
  ∀ (m : (ℓ : Loc Cert.TotalIdeal.nD Cert.TotalIdeal.τ Cert.TotalIdeal.sig) → Buf (Elt Ideal) ℓ) (g : Dev Cert.TotalIdeal.nD → PrngReg), Pre_TotalIdeal m →
    θ_run (Cert.TotalIdeal.defs (F := Ideal)) (onTc (τ := Cert.TotalIdeal.τ) (Cert.TotalIdeal.main (F := Ideal))) ⟨m, fun _ => 0, g⟩ (fun r => (∀ c : Dev Cert.TotalIdeal.nD,
      r.2.mem ((c.tc : Thread Cert.TotalIdeal.nD Cert.TotalIdeal.τ).loc Cert.TotalIdeal.main_arg0) = m ((c.tc : Thread Cert.TotalIdeal.nD Cert.TotalIdeal.τ).loc Cert.TotalIdeal.main_arg0))
      ∧ r.2.sem = fun _ => 0)

def quiescent_TotalRefIdeal [hTotalRefIdeal : Cert.TotalRefIdeal.Facts] : Prop :=
  ∀ (m : (ℓ : Loc Cert.TotalRefIdeal.nD Cert.TotalRefIdeal.τ Cert.TotalRefIdeal.sig) → Buf (Elt Ideal) ℓ) (g : Dev Cert.TotalRefIdeal.nD → PrngReg), Pre_TotalRefIdeal m →
    θ_run (Cert.TotalRefIdeal.defs (F := Ideal)) (onTc (τ := Cert.TotalRefIdeal.τ) (Cert.TotalRefIdeal.main (F := Ideal))) ⟨m, fun _ => 0, g⟩ (fun r => (∀ c : Dev Cert.TotalRefIdeal.nD,
      r.2.mem ((c.tc : Thread Cert.TotalRefIdeal.nD Cert.TotalRefIdeal.τ).loc Cert.TotalRefIdeal.main_arg0) = m ((c.tc : Thread Cert.TotalRefIdeal.nD Cert.TotalRefIdeal.τ).loc Cert.TotalRefIdeal.main_arg0))
      ∧ r.2.sem = fun _ => 0)

def quiescent_ShiftBwd [hShiftBwd : Cert.ShiftBwd.Facts] : Prop :=
  ∀ (m : (ℓ : Loc Cert.ShiftBwd.nD Cert.ShiftBwd.τ Cert.ShiftBwd.sig) → Buf (Elt Bits) ℓ) (g : Dev Cert.ShiftBwd.nD → PrngReg), Pre_ShiftBwd m →
    θ_run (Cert.ShiftBwd.defs (F := Bits)) (onTc (τ := Cert.ShiftBwd.τ) (Cert.ShiftBwd.main (F := Bits))) ⟨m, fun _ => 0, g⟩ (fun r => (∀ c : Dev Cert.ShiftBwd.nD,
      r.2.mem ((c.tc : Thread Cert.ShiftBwd.nD Cert.ShiftBwd.τ).loc Cert.ShiftBwd.main_arg0) = m ((c.tc : Thread Cert.ShiftBwd.nD Cert.ShiftBwd.τ).loc Cert.ShiftBwd.main_arg0)
      ∧ r.2.mem ((c.tc : Thread Cert.ShiftBwd.nD Cert.ShiftBwd.τ).loc Cert.ShiftBwd.main_arg1) = m ((c.tc : Thread Cert.ShiftBwd.nD Cert.ShiftBwd.τ).loc Cert.ShiftBwd.main_arg1)
      ∧ r.2.mem ((c.tc : Thread Cert.ShiftBwd.nD Cert.ShiftBwd.τ).loc Cert.ShiftBwd.main_arg2) = m ((c.tc : Thread Cert.ShiftBwd.nD Cert.ShiftBwd.τ).loc Cert.ShiftBwd.main_arg2)
      ∧ r.2.mem ((c.tc : Thread Cert.ShiftBwd.nD Cert.ShiftBwd.τ).loc Cert.ShiftBwd.main_arg3) = m ((c.tc : Thread Cert.ShiftBwd.nD Cert.ShiftBwd.τ).loc Cert.ShiftBwd.main_arg3))
      ∧ r.2.sem = fun _ => 0)

def quiescent_ShiftBwdIdeal [hShiftBwdIdeal : Cert.ShiftBwdIdeal.Facts] : Prop :=
  ∀ (m : (ℓ : Loc Cert.ShiftBwdIdeal.nD Cert.ShiftBwdIdeal.τ Cert.ShiftBwdIdeal.sig) → Buf (Elt Ideal) ℓ) (g : Dev Cert.ShiftBwdIdeal.nD → PrngReg), Pre_ShiftBwdIdeal m →
    θ_run (Cert.ShiftBwdIdeal.defs (F := Ideal)) (onTc (τ := Cert.ShiftBwdIdeal.τ) (Cert.ShiftBwdIdeal.main (F := Ideal))) ⟨m, fun _ => 0, g⟩ (fun r => (∀ c : Dev Cert.ShiftBwdIdeal.nD,
      r.2.mem ((c.tc : Thread Cert.ShiftBwdIdeal.nD Cert.ShiftBwdIdeal.τ).loc Cert.ShiftBwdIdeal.main_arg0) = m ((c.tc : Thread Cert.ShiftBwdIdeal.nD Cert.ShiftBwdIdeal.τ).loc Cert.ShiftBwdIdeal.main_arg0)
      ∧ r.2.mem ((c.tc : Thread Cert.ShiftBwdIdeal.nD Cert.ShiftBwdIdeal.τ).loc Cert.ShiftBwdIdeal.main_arg1) = m ((c.tc : Thread Cert.ShiftBwdIdeal.nD Cert.ShiftBwdIdeal.τ).loc Cert.ShiftBwdIdeal.main_arg1)
      ∧ r.2.mem ((c.tc : Thread Cert.ShiftBwdIdeal.nD Cert.ShiftBwdIdeal.τ).loc Cert.ShiftBwdIdeal.main_arg2) = m ((c.tc : Thread Cert.ShiftBwdIdeal.nD Cert.ShiftBwdIdeal.τ).loc Cert.ShiftBwdIdeal.main_arg2)
      ∧ r.2.mem ((c.tc : Thread Cert.ShiftBwdIdeal.nD Cert.ShiftBwdIdeal.τ).loc Cert.ShiftBwdIdeal.main_arg3) = m ((c.tc : Thread Cert.ShiftBwdIdeal.nD Cert.ShiftBwdIdeal.τ).loc Cert.ShiftBwdIdeal.main_arg3))
      ∧ r.2.sem = fun _ => 0)

def quiescent_ShiftBwdIdeal_pre_shift_finite [hShiftBwdIdeal : Cert.ShiftBwdIdeal.Facts] [hPre_shift_finite : Cert.Pre_shift_finite.Facts] : Prop :=
  ∀ (m : (ℓ : Loc Cert.ShiftBwdIdeal.nD Cert.ShiftBwdIdeal.τ Cert.ShiftBwdIdeal.sig) → Buf (Elt Ideal) ℓ) (g : Dev Cert.ShiftBwdIdeal.nD → PrngReg), Pre_ShiftBwdIdeal_shift_finite m →
    θ_run (Cert.ShiftBwdIdeal.defs (F := Ideal)) (onTc (τ := Cert.ShiftBwdIdeal.τ) (Cert.ShiftBwdIdeal.main (F := Ideal))) ⟨m, fun _ => 0, g⟩ (fun r => (∀ c : Dev Cert.ShiftBwdIdeal.nD,
      r.2.mem ((c.tc : Thread Cert.ShiftBwdIdeal.nD Cert.ShiftBwdIdeal.τ).loc Cert.ShiftBwdIdeal.main_arg0) = m ((c.tc : Thread Cert.ShiftBwdIdeal.nD Cert.ShiftBwdIdeal.τ).loc Cert.ShiftBwdIdeal.main_arg0)
      ∧ r.2.mem ((c.tc : Thread Cert.ShiftBwdIdeal.nD Cert.ShiftBwdIdeal.τ).loc Cert.ShiftBwdIdeal.main_arg1) = m ((c.tc : Thread Cert.ShiftBwdIdeal.nD Cert.ShiftBwdIdeal.τ).loc Cert.ShiftBwdIdeal.main_arg1)
      ∧ r.2.mem ((c.tc : Thread Cert.ShiftBwdIdeal.nD Cert.ShiftBwdIdeal.τ).loc Cert.ShiftBwdIdeal.main_arg2) = m ((c.tc : Thread Cert.ShiftBwdIdeal.nD Cert.ShiftBwdIdeal.τ).loc Cert.ShiftBwdIdeal.main_arg2)
      ∧ r.2.mem ((c.tc : Thread Cert.ShiftBwdIdeal.nD Cert.ShiftBwdIdeal.τ).loc Cert.ShiftBwdIdeal.main_arg3) = m ((c.tc : Thread Cert.ShiftBwdIdeal.nD Cert.ShiftBwdIdeal.τ).loc Cert.ShiftBwdIdeal.main_arg3))
      ∧ r.2.sem = fun _ => 0)

def quiescent_ShiftBwdRefIdeal [hShiftBwdRefIdeal : Cert.ShiftBwdRefIdeal.Facts] : Prop :=
  ∀ (m : (ℓ : Loc Cert.ShiftBwdRefIdeal.nD Cert.ShiftBwdRefIdeal.τ Cert.ShiftBwdRefIdeal.sig) → Buf (Elt Ideal) ℓ) (g : Dev Cert.ShiftBwdRefIdeal.nD → PrngReg), Pre_ShiftBwdRefIdeal m →
    θ_run (Cert.ShiftBwdRefIdeal.defs (F := Ideal)) (onTc (τ := Cert.ShiftBwdRefIdeal.τ) (Cert.ShiftBwdRefIdeal.main (F := Ideal))) ⟨m, fun _ => 0, g⟩ (fun r => (∀ c : Dev Cert.ShiftBwdRefIdeal.nD,
      r.2.mem ((c.tc : Thread Cert.ShiftBwdRefIdeal.nD Cert.ShiftBwdRefIdeal.τ).loc Cert.ShiftBwdRefIdeal.main_arg0) = m ((c.tc : Thread Cert.ShiftBwdRefIdeal.nD Cert.ShiftBwdRefIdeal.τ).loc Cert.ShiftBwdRefIdeal.main_arg0)
      ∧ r.2.mem ((c.tc : Thread Cert.ShiftBwdRefIdeal.nD Cert.ShiftBwdRefIdeal.τ).loc Cert.ShiftBwdRefIdeal.main_arg1) = m ((c.tc : Thread Cert.ShiftBwdRefIdeal.nD Cert.ShiftBwdRefIdeal.τ).loc Cert.ShiftBwdRefIdeal.main_arg1)
      ∧ r.2.mem ((c.tc : Thread Cert.ShiftBwdRefIdeal.nD Cert.ShiftBwdRefIdeal.τ).loc Cert.ShiftBwdRefIdeal.main_arg2) = m ((c.tc : Thread Cert.ShiftBwdRefIdeal.nD Cert.ShiftBwdRefIdeal.τ).loc Cert.ShiftBwdRefIdeal.main_arg2)
      ∧ r.2.mem ((c.tc : Thread Cert.ShiftBwdRefIdeal.nD Cert.ShiftBwdRefIdeal.τ).loc Cert.ShiftBwdRefIdeal.main_arg3) = m ((c.tc : Thread Cert.ShiftBwdRefIdeal.nD Cert.ShiftBwdRefIdeal.τ).loc Cert.ShiftBwdRefIdeal.main_arg3))
      ∧ r.2.sem = fun _ => 0)

def quiescent_ShiftBwdRefIdeal_pre_shift_finite [hShiftBwdRefIdeal : Cert.ShiftBwdRefIdeal.Facts] [hPre_shift_finite : Cert.Pre_shift_finite.Facts] : Prop :=
  ∀ (m : (ℓ : Loc Cert.ShiftBwdRefIdeal.nD Cert.ShiftBwdRefIdeal.τ Cert.ShiftBwdRefIdeal.sig) → Buf (Elt Ideal) ℓ) (g : Dev Cert.ShiftBwdRefIdeal.nD → PrngReg), Pre_ShiftBwdRefIdeal_shift_finite m →
    θ_run (Cert.ShiftBwdRefIdeal.defs (F := Ideal)) (onTc (τ := Cert.ShiftBwdRefIdeal.τ) (Cert.ShiftBwdRefIdeal.main (F := Ideal))) ⟨m, fun _ => 0, g⟩ (fun r => (∀ c : Dev Cert.ShiftBwdRefIdeal.nD,
      r.2.mem ((c.tc : Thread Cert.ShiftBwdRefIdeal.nD Cert.ShiftBwdRefIdeal.τ).loc Cert.ShiftBwdRefIdeal.main_arg0) = m ((c.tc : Thread Cert.ShiftBwdRefIdeal.nD Cert.ShiftBwdRefIdeal.τ).loc Cert.ShiftBwdRefIdeal.main_arg0)
      ∧ r.2.mem ((c.tc : Thread Cert.ShiftBwdRefIdeal.nD Cert.ShiftBwdRefIdeal.τ).loc Cert.ShiftBwdRefIdeal.main_arg1) = m ((c.tc : Thread Cert.ShiftBwdRefIdeal.nD Cert.ShiftBwdRefIdeal.τ).loc Cert.ShiftBwdRefIdeal.main_arg1)
      ∧ r.2.mem ((c.tc : Thread Cert.ShiftBwdRefIdeal.nD Cert.ShiftBwdRefIdeal.τ).loc Cert.ShiftBwdRefIdeal.main_arg2) = m ((c.tc : Thread Cert.ShiftBwdRefIdeal.nD Cert.ShiftBwdRefIdeal.τ).loc Cert.ShiftBwdRefIdeal.main_arg2)
      ∧ r.2.mem ((c.tc : Thread Cert.ShiftBwdRefIdeal.nD Cert.ShiftBwdRefIdeal.τ).loc Cert.ShiftBwdRefIdeal.main_arg3) = m ((c.tc : Thread Cert.ShiftBwdRefIdeal.nD Cert.ShiftBwdRefIdeal.τ).loc Cert.ShiftBwdRefIdeal.main_arg3))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvBwdIdeal_pre_conv_finite [hConvBwdIdeal : Cert.ConvBwdIdeal.Facts] [hPre_conv_finite : Cert.Pre_conv_finite.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal_conv_finite m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3))
      ∧ r.2.sem = fun _ => 0)

def quiescent_ConvBwdRefIdeal_pre_conv_finite [hConvBwdRefIdeal : Cert.ConvBwdRefIdeal.Facts] [hPre_conv_finite : Cert.Pre_conv_finite.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal_conv_finite m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ r.2.sem = fun _ => 0)

def quiescent_PostIdeal_pre_post_finite [hPostIdeal : Cert.PostIdeal.Facts] [hPre_post_finite : Cert.Pre_post_finite.Facts] : Prop :=
  ∀ (m : (ℓ : Loc Cert.PostIdeal.nD Cert.PostIdeal.τ Cert.PostIdeal.sig) → Buf (Elt Ideal) ℓ) (g : Dev Cert.PostIdeal.nD → PrngReg), Pre_PostIdeal_post_finite m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9))
      ∧ r.2.sem = fun _ => 0)

def quiescent_PostRefIdeal_pre_post_finite [hPostRefIdeal : Cert.PostRefIdeal.Facts] [hPre_post_finite : Cert.Pre_post_finite.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal_post_finite m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9))
      ∧ r.2.sem = fun _ => 0)

def quiescent_Decay [hDecay : Cert.Decay.Facts] : Prop :=
  ∀ (m : (ℓ : Loc Cert.Decay.nD Cert.Decay.τ Cert.Decay.sig) → Buf (Elt Bits) ℓ) (g : Dev Cert.Decay.nD → PrngReg), Pre_Decay m →
    θ_run (Cert.Decay.defs (F := Bits)) (onTc (τ := Cert.Decay.τ) (Cert.Decay.main (F := Bits))) ⟨m, fun _ => 0, g⟩ (fun r => (∀ c : Dev Cert.Decay.nD,
      r.2.mem ((c.tc : Thread Cert.Decay.nD Cert.Decay.τ).loc Cert.Decay.main_arg0) = m ((c.tc : Thread Cert.Decay.nD Cert.Decay.τ).loc Cert.Decay.main_arg0)
      ∧ r.2.mem ((c.tc : Thread Cert.Decay.nD Cert.Decay.τ).loc Cert.Decay.main_arg1) = m ((c.tc : Thread Cert.Decay.nD Cert.Decay.τ).loc Cert.Decay.main_arg1)
      ∧ r.2.mem ((c.tc : Thread Cert.Decay.nD Cert.Decay.τ).loc Cert.Decay.main_arg2) = m ((c.tc : Thread Cert.Decay.nD Cert.Decay.τ).loc Cert.Decay.main_arg2)
      ∧ r.2.mem ((c.tc : Thread Cert.Decay.nD Cert.Decay.τ).loc Cert.Decay.main_arg3) = m ((c.tc : Thread Cert.Decay.nD Cert.Decay.τ).loc Cert.Decay.main_arg3)
      ∧ r.2.mem ((c.tc : Thread Cert.Decay.nD Cert.Decay.τ).loc Cert.Decay.main_arg4) = m ((c.tc : Thread Cert.Decay.nD Cert.Decay.τ).loc Cert.Decay.main_arg4)
      ∧ r.2.mem ((c.tc : Thread Cert.Decay.nD Cert.Decay.τ).loc Cert.Decay.main_arg5) = m ((c.tc : Thread Cert.Decay.nD Cert.Decay.τ).loc Cert.Decay.main_arg5)
      ∧ r.2.mem ((c.tc : Thread Cert.Decay.nD Cert.Decay.τ).loc Cert.Decay.main_arg6) = m ((c.tc : Thread Cert.Decay.nD Cert.Decay.τ).loc Cert.Decay.main_arg6)
      ∧ r.2.mem ((c.tc : Thread Cert.Decay.nD Cert.Decay.τ).loc Cert.Decay.main_arg7) = m ((c.tc : Thread Cert.Decay.nD Cert.Decay.τ).loc Cert.Decay.main_arg7)
      ∧ r.2.mem ((c.tc : Thread Cert.Decay.nD Cert.Decay.τ).loc Cert.Decay.main_arg8) = m ((c.tc : Thread Cert.Decay.nD Cert.Decay.τ).loc Cert.Decay.main_arg8)
      ∧ r.2.mem ((c.tc : Thread Cert.Decay.nD Cert.Decay.τ).loc Cert.Decay.main_arg9) = m ((c.tc : Thread Cert.Decay.nD Cert.Decay.τ).loc Cert.Decay.main_arg9))
      ∧ r.2.sem = fun _ => 0)

def quiescent_DecayIdeal [hDecayIdeal : Cert.DecayIdeal.Facts] : Prop :=
  ∀ (m : (ℓ : Loc Cert.DecayIdeal.nD Cert.DecayIdeal.τ Cert.DecayIdeal.sig) → Buf (Elt Ideal) ℓ) (g : Dev Cert.DecayIdeal.nD → PrngReg), Pre_DecayIdeal m →
    θ_run (Cert.DecayIdeal.defs (F := Ideal)) (onTc (τ := Cert.DecayIdeal.τ) (Cert.DecayIdeal.main (F := Ideal))) ⟨m, fun _ => 0, g⟩ (fun r => (∀ c : Dev Cert.DecayIdeal.nD,
      r.2.mem ((c.tc : Thread Cert.DecayIdeal.nD Cert.DecayIdeal.τ).loc Cert.DecayIdeal.main_arg0) = m ((c.tc : Thread Cert.DecayIdeal.nD Cert.DecayIdeal.τ).loc Cert.DecayIdeal.main_arg0)
      ∧ r.2.mem ((c.tc : Thread Cert.DecayIdeal.nD Cert.DecayIdeal.τ).loc Cert.DecayIdeal.main_arg1) = m ((c.tc : Thread Cert.DecayIdeal.nD Cert.DecayIdeal.τ).loc Cert.DecayIdeal.main_arg1)
      ∧ r.2.mem ((c.tc : Thread Cert.DecayIdeal.nD Cert.DecayIdeal.τ).loc Cert.DecayIdeal.main_arg2) = m ((c.tc : Thread Cert.DecayIdeal.nD Cert.DecayIdeal.τ).loc Cert.DecayIdeal.main_arg2)
      ∧ r.2.mem ((c.tc : Thread Cert.DecayIdeal.nD Cert.DecayIdeal.τ).loc Cert.DecayIdeal.main_arg3) = m ((c.tc : Thread Cert.DecayIdeal.nD Cert.DecayIdeal.τ).loc Cert.DecayIdeal.main_arg3)
      ∧ r.2.mem ((c.tc : Thread Cert.DecayIdeal.nD Cert.DecayIdeal.τ).loc Cert.DecayIdeal.main_arg4) = m ((c.tc : Thread Cert.DecayIdeal.nD Cert.DecayIdeal.τ).loc Cert.DecayIdeal.main_arg4)
      ∧ r.2.mem ((c.tc : Thread Cert.DecayIdeal.nD Cert.DecayIdeal.τ).loc Cert.DecayIdeal.main_arg5) = m ((c.tc : Thread Cert.DecayIdeal.nD Cert.DecayIdeal.τ).loc Cert.DecayIdeal.main_arg5)
      ∧ r.2.mem ((c.tc : Thread Cert.DecayIdeal.nD Cert.DecayIdeal.τ).loc Cert.DecayIdeal.main_arg6) = m ((c.tc : Thread Cert.DecayIdeal.nD Cert.DecayIdeal.τ).loc Cert.DecayIdeal.main_arg6)
      ∧ r.2.mem ((c.tc : Thread Cert.DecayIdeal.nD Cert.DecayIdeal.τ).loc Cert.DecayIdeal.main_arg7) = m ((c.tc : Thread Cert.DecayIdeal.nD Cert.DecayIdeal.τ).loc Cert.DecayIdeal.main_arg7)
      ∧ r.2.mem ((c.tc : Thread Cert.DecayIdeal.nD Cert.DecayIdeal.τ).loc Cert.DecayIdeal.main_arg8) = m ((c.tc : Thread Cert.DecayIdeal.nD Cert.DecayIdeal.τ).loc Cert.DecayIdeal.main_arg8)
      ∧ r.2.mem ((c.tc : Thread Cert.DecayIdeal.nD Cert.DecayIdeal.τ).loc Cert.DecayIdeal.main_arg9) = m ((c.tc : Thread Cert.DecayIdeal.nD Cert.DecayIdeal.τ).loc Cert.DecayIdeal.main_arg9))
      ∧ r.2.sem = fun _ => 0)

def quiescent_DecayIdeal_pre_pre_finite [hDecayIdeal : Cert.DecayIdeal.Facts] [hPre_pre_finite : Cert.Pre_pre_finite.Facts] : Prop :=
  ∀ (m : (ℓ : Loc Cert.DecayIdeal.nD Cert.DecayIdeal.τ Cert.DecayIdeal.sig) → Buf (Elt Ideal) ℓ) (g : Dev Cert.DecayIdeal.nD → PrngReg), Pre_DecayIdeal_pre_finite m →
    θ_run (Cert.DecayIdeal.defs (F := Ideal)) (onTc (τ := Cert.DecayIdeal.τ) (Cert.DecayIdeal.main (F := Ideal))) ⟨m, fun _ => 0, g⟩ (fun r => (∀ c : Dev Cert.DecayIdeal.nD,
      r.2.mem ((c.tc : Thread Cert.DecayIdeal.nD Cert.DecayIdeal.τ).loc Cert.DecayIdeal.main_arg0) = m ((c.tc : Thread Cert.DecayIdeal.nD Cert.DecayIdeal.τ).loc Cert.DecayIdeal.main_arg0)
      ∧ r.2.mem ((c.tc : Thread Cert.DecayIdeal.nD Cert.DecayIdeal.τ).loc Cert.DecayIdeal.main_arg1) = m ((c.tc : Thread Cert.DecayIdeal.nD Cert.DecayIdeal.τ).loc Cert.DecayIdeal.main_arg1)
      ∧ r.2.mem ((c.tc : Thread Cert.DecayIdeal.nD Cert.DecayIdeal.τ).loc Cert.DecayIdeal.main_arg2) = m ((c.tc : Thread Cert.DecayIdeal.nD Cert.DecayIdeal.τ).loc Cert.DecayIdeal.main_arg2)
      ∧ r.2.mem ((c.tc : Thread Cert.DecayIdeal.nD Cert.DecayIdeal.τ).loc Cert.DecayIdeal.main_arg3) = m ((c.tc : Thread Cert.DecayIdeal.nD Cert.DecayIdeal.τ).loc Cert.DecayIdeal.main_arg3)
      ∧ r.2.mem ((c.tc : Thread Cert.DecayIdeal.nD Cert.DecayIdeal.τ).loc Cert.DecayIdeal.main_arg4) = m ((c.tc : Thread Cert.DecayIdeal.nD Cert.DecayIdeal.τ).loc Cert.DecayIdeal.main_arg4)
      ∧ r.2.mem ((c.tc : Thread Cert.DecayIdeal.nD Cert.DecayIdeal.τ).loc Cert.DecayIdeal.main_arg5) = m ((c.tc : Thread Cert.DecayIdeal.nD Cert.DecayIdeal.τ).loc Cert.DecayIdeal.main_arg5)
      ∧ r.2.mem ((c.tc : Thread Cert.DecayIdeal.nD Cert.DecayIdeal.τ).loc Cert.DecayIdeal.main_arg6) = m ((c.tc : Thread Cert.DecayIdeal.nD Cert.DecayIdeal.τ).loc Cert.DecayIdeal.main_arg6)
      ∧ r.2.mem ((c.tc : Thread Cert.DecayIdeal.nD Cert.DecayIdeal.τ).loc Cert.DecayIdeal.main_arg7) = m ((c.tc : Thread Cert.DecayIdeal.nD Cert.DecayIdeal.τ).loc Cert.DecayIdeal.main_arg7)
      ∧ r.2.mem ((c.tc : Thread Cert.DecayIdeal.nD Cert.DecayIdeal.τ).loc Cert.DecayIdeal.main_arg8) = m ((c.tc : Thread Cert.DecayIdeal.nD Cert.DecayIdeal.τ).loc Cert.DecayIdeal.main_arg8)
      ∧ r.2.mem ((c.tc : Thread Cert.DecayIdeal.nD Cert.DecayIdeal.τ).loc Cert.DecayIdeal.main_arg9) = m ((c.tc : Thread Cert.DecayIdeal.nD Cert.DecayIdeal.τ).loc Cert.DecayIdeal.main_arg9))
      ∧ r.2.sem = fun _ => 0)

def quiescent_DecayRefIdeal [hDecayRefIdeal : Cert.DecayRefIdeal.Facts] : Prop :=
  ∀ (m : (ℓ : Loc Cert.DecayRefIdeal.nD Cert.DecayRefIdeal.τ Cert.DecayRefIdeal.sig) → Buf (Elt Ideal) ℓ) (g : Dev Cert.DecayRefIdeal.nD → PrngReg), Pre_DecayRefIdeal m →
    θ_run (Cert.DecayRefIdeal.defs (F := Ideal)) (onTc (τ := Cert.DecayRefIdeal.τ) (Cert.DecayRefIdeal.main (F := Ideal))) ⟨m, fun _ => 0, g⟩ (fun r => (∀ c : Dev Cert.DecayRefIdeal.nD,
      r.2.mem ((c.tc : Thread Cert.DecayRefIdeal.nD Cert.DecayRefIdeal.τ).loc Cert.DecayRefIdeal.main_arg0) = m ((c.tc : Thread Cert.DecayRefIdeal.nD Cert.DecayRefIdeal.τ).loc Cert.DecayRefIdeal.main_arg0)
      ∧ r.2.mem ((c.tc : Thread Cert.DecayRefIdeal.nD Cert.DecayRefIdeal.τ).loc Cert.DecayRefIdeal.main_arg1) = m ((c.tc : Thread Cert.DecayRefIdeal.nD Cert.DecayRefIdeal.τ).loc Cert.DecayRefIdeal.main_arg1)
      ∧ r.2.mem ((c.tc : Thread Cert.DecayRefIdeal.nD Cert.DecayRefIdeal.τ).loc Cert.DecayRefIdeal.main_arg2) = m ((c.tc : Thread Cert.DecayRefIdeal.nD Cert.DecayRefIdeal.τ).loc Cert.DecayRefIdeal.main_arg2)
      ∧ r.2.mem ((c.tc : Thread Cert.DecayRefIdeal.nD Cert.DecayRefIdeal.τ).loc Cert.DecayRefIdeal.main_arg3) = m ((c.tc : Thread Cert.DecayRefIdeal.nD Cert.DecayRefIdeal.τ).loc Cert.DecayRefIdeal.main_arg3)
      ∧ r.2.mem ((c.tc : Thread Cert.DecayRefIdeal.nD Cert.DecayRefIdeal.τ).loc Cert.DecayRefIdeal.main_arg4) = m ((c.tc : Thread Cert.DecayRefIdeal.nD Cert.DecayRefIdeal.τ).loc Cert.DecayRefIdeal.main_arg4)
      ∧ r.2.mem ((c.tc : Thread Cert.DecayRefIdeal.nD Cert.DecayRefIdeal.τ).loc Cert.DecayRefIdeal.main_arg5) = m ((c.tc : Thread Cert.DecayRefIdeal.nD Cert.DecayRefIdeal.τ).loc Cert.DecayRefIdeal.main_arg5)
      ∧ r.2.mem ((c.tc : Thread Cert.DecayRefIdeal.nD Cert.DecayRefIdeal.τ).loc Cert.DecayRefIdeal.main_arg6) = m ((c.tc : Thread Cert.DecayRefIdeal.nD Cert.DecayRefIdeal.τ).loc Cert.DecayRefIdeal.main_arg6)
      ∧ r.2.mem ((c.tc : Thread Cert.DecayRefIdeal.nD Cert.DecayRefIdeal.τ).loc Cert.DecayRefIdeal.main_arg7) = m ((c.tc : Thread Cert.DecayRefIdeal.nD Cert.DecayRefIdeal.τ).loc Cert.DecayRefIdeal.main_arg7)
      ∧ r.2.mem ((c.tc : Thread Cert.DecayRefIdeal.nD Cert.DecayRefIdeal.τ).loc Cert.DecayRefIdeal.main_arg8) = m ((c.tc : Thread Cert.DecayRefIdeal.nD Cert.DecayRefIdeal.τ).loc Cert.DecayRefIdeal.main_arg8)
      ∧ r.2.mem ((c.tc : Thread Cert.DecayRefIdeal.nD Cert.DecayRefIdeal.τ).loc Cert.DecayRefIdeal.main_arg9) = m ((c.tc : Thread Cert.DecayRefIdeal.nD Cert.DecayRefIdeal.τ).loc Cert.DecayRefIdeal.main_arg9))
      ∧ r.2.sem = fun _ => 0)

def quiescent_DecayRefIdeal_pre_pre_finite [hDecayRefIdeal : Cert.DecayRefIdeal.Facts] [hPre_pre_finite : Cert.Pre_pre_finite.Facts] : Prop :=
  ∀ (m : (ℓ : Loc Cert.DecayRefIdeal.nD Cert.DecayRefIdeal.τ Cert.DecayRefIdeal.sig) → Buf (Elt Ideal) ℓ) (g : Dev Cert.DecayRefIdeal.nD → PrngReg), Pre_DecayRefIdeal_pre_finite m →
    θ_run (Cert.DecayRefIdeal.defs (F := Ideal)) (onTc (τ := Cert.DecayRefIdeal.τ) (Cert.DecayRefIdeal.main (F := Ideal))) ⟨m, fun _ => 0, g⟩ (fun r => (∀ c : Dev Cert.DecayRefIdeal.nD,
      r.2.mem ((c.tc : Thread Cert.DecayRefIdeal.nD Cert.DecayRefIdeal.τ).loc Cert.DecayRefIdeal.main_arg0) = m ((c.tc : Thread Cert.DecayRefIdeal.nD Cert.DecayRefIdeal.τ).loc Cert.DecayRefIdeal.main_arg0)
      ∧ r.2.mem ((c.tc : Thread Cert.DecayRefIdeal.nD Cert.DecayRefIdeal.τ).loc Cert.DecayRefIdeal.main_arg1) = m ((c.tc : Thread Cert.DecayRefIdeal.nD Cert.DecayRefIdeal.τ).loc Cert.DecayRefIdeal.main_arg1)
      ∧ r.2.mem ((c.tc : Thread Cert.DecayRefIdeal.nD Cert.DecayRefIdeal.τ).loc Cert.DecayRefIdeal.main_arg2) = m ((c.tc : Thread Cert.DecayRefIdeal.nD Cert.DecayRefIdeal.τ).loc Cert.DecayRefIdeal.main_arg2)
      ∧ r.2.mem ((c.tc : Thread Cert.DecayRefIdeal.nD Cert.DecayRefIdeal.τ).loc Cert.DecayRefIdeal.main_arg3) = m ((c.tc : Thread Cert.DecayRefIdeal.nD Cert.DecayRefIdeal.τ).loc Cert.DecayRefIdeal.main_arg3)
      ∧ r.2.mem ((c.tc : Thread Cert.DecayRefIdeal.nD Cert.DecayRefIdeal.τ).loc Cert.DecayRefIdeal.main_arg4) = m ((c.tc : Thread Cert.DecayRefIdeal.nD Cert.DecayRefIdeal.τ).loc Cert.DecayRefIdeal.main_arg4)
      ∧ r.2.mem ((c.tc : Thread Cert.DecayRefIdeal.nD Cert.DecayRefIdeal.τ).loc Cert.DecayRefIdeal.main_arg5) = m ((c.tc : Thread Cert.DecayRefIdeal.nD Cert.DecayRefIdeal.τ).loc Cert.DecayRefIdeal.main_arg5)
      ∧ r.2.mem ((c.tc : Thread Cert.DecayRefIdeal.nD Cert.DecayRefIdeal.τ).loc Cert.DecayRefIdeal.main_arg6) = m ((c.tc : Thread Cert.DecayRefIdeal.nD Cert.DecayRefIdeal.τ).loc Cert.DecayRefIdeal.main_arg6)
      ∧ r.2.mem ((c.tc : Thread Cert.DecayRefIdeal.nD Cert.DecayRefIdeal.τ).loc Cert.DecayRefIdeal.main_arg7) = m ((c.tc : Thread Cert.DecayRefIdeal.nD Cert.DecayRefIdeal.τ).loc Cert.DecayRefIdeal.main_arg7)
      ∧ r.2.mem ((c.tc : Thread Cert.DecayRefIdeal.nD Cert.DecayRefIdeal.τ).loc Cert.DecayRefIdeal.main_arg8) = m ((c.tc : Thread Cert.DecayRefIdeal.nD Cert.DecayRefIdeal.τ).loc Cert.DecayRefIdeal.main_arg8)
      ∧ r.2.mem ((c.tc : Thread Cert.DecayRefIdeal.nD Cert.DecayRefIdeal.τ).loc Cert.DecayRefIdeal.main_arg9) = m ((c.tc : Thread Cert.DecayRefIdeal.nD Cert.DecayRefIdeal.τ).loc Cert.DecayRefIdeal.main_arg9))
      ∧ r.2.sem = fun _ => 0)

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v1) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v3) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v5) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v2) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v4) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v2) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v4) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v1) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_ProjDx_ProjDxIdeal : Prop :=
  True

def algebraic_ProjDxIdeal_ProjDxRefIdeal [hProjDxIdeal : Cert.ProjDxIdeal.Facts] [hProjDxRefIdeal : Cert.ProjDxRefIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxRefIdeal.nD Cert.ProjDxRefIdeal.τ Cert.ProjDxRefIdeal.sig) → Buf (Elt Ideal) ℓ) (g' : Dev Cert.ProjDxRefIdeal.nD → PrngReg), Pre_ProjDxIdeal m →
    (∀ c : Dev Cert.ProjDxIdeal.nD,
      m' ((c.tc : Thread Cert.ProjDxRefIdeal.nD Cert.ProjDxRefIdeal.τ).loc Cert.ProjDxRefIdeal.main_arg0) = m ((c.tc : Thread Cert.ProjDxIdeal.nD Cert.ProjDxIdeal.τ).loc Cert.ProjDxIdeal.main_arg0)
      ∧ m' ((c.tc : Thread Cert.ProjDxRefIdeal.nD Cert.ProjDxRefIdeal.τ).loc Cert.ProjDxRefIdeal.main_arg1) = m ((c.tc : Thread Cert.ProjDxIdeal.nD Cert.ProjDxIdeal.τ).loc Cert.ProjDxIdeal.main_arg1)) →
    ∃ (v0 : (c : Dev Cert.ProjDxIdeal.nD) → Buf (Elt Ideal) ((c.tc : Thread Cert.ProjDxIdeal.nD Cert.ProjDxIdeal.τ).loc Cert.ProjDxIdeal.main_v0)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v0) = v0 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ θ_run (Cert.ProjDxRefIdeal.defs (F := Ideal)) (onTc (τ := Cert.ProjDxRefIdeal.τ) (Cert.ProjDxRefIdeal.main (F := Ideal))) ⟨m', fun _ => 0, g'⟩ (fun r => ∀ c : Dev Cert.ProjDxRefIdeal.nD,
          r.2.mem ((c.tc : Thread Cert.ProjDxRefIdeal.nD Cert.ProjDxRefIdeal.τ).loc Cert.ProjDxRefIdeal.main_v2) = v0 c
          ∧ r.2.mem ((c.tc : Thread Cert.ProjDxRefIdeal.nD Cert.ProjDxRefIdeal.τ).loc Cert.ProjDxRefIdeal.main_arg0) = m' ((c.tc : Thread Cert.ProjDxRefIdeal.nD Cert.ProjDxRefIdeal.τ).loc Cert.ProjDxRefIdeal.main_arg0)
          ∧ r.2.mem ((c.tc : Thread Cert.ProjDxRefIdeal.nD Cert.ProjDxRefIdeal.τ).loc Cert.ProjDxRefIdeal.main_arg1) = m' ((c.tc : Thread Cert.ProjDxRefIdeal.nD Cert.ProjDxRefIdeal.τ).loc Cert.ProjDxRefIdeal.main_arg1))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v0)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v0) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v4) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1))

def preserves_AdamWIn_AdamWInIdeal : Prop :=
  True

def algebraic_AdamWInIdeal_AdamWInRefIdeal [hAdamWInIdeal : Cert.AdamWInIdeal.Facts] [hAdamWInRefIdeal : Cert.AdamWInRefIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.AdamWInRefIdeal.nD Cert.AdamWInRefIdeal.τ Cert.AdamWInRefIdeal.sig) → Buf (Elt Ideal) ℓ) (g' : Dev Cert.AdamWInRefIdeal.nD → PrngReg), Pre_AdamWInIdeal m →
    (∀ c : Dev Cert.AdamWInIdeal.nD,
      m' ((c.tc : Thread Cert.AdamWInRefIdeal.nD Cert.AdamWInRefIdeal.τ).loc Cert.AdamWInRefIdeal.main_arg0) = m ((c.tc : Thread Cert.AdamWInIdeal.nD Cert.AdamWInIdeal.τ).loc Cert.AdamWInIdeal.main_arg0)
      ∧ m' ((c.tc : Thread Cert.AdamWInRefIdeal.nD Cert.AdamWInRefIdeal.τ).loc Cert.AdamWInRefIdeal.main_arg1) = m ((c.tc : Thread Cert.AdamWInIdeal.nD Cert.AdamWInIdeal.τ).loc Cert.AdamWInIdeal.main_arg1)
      ∧ m' ((c.tc : Thread Cert.AdamWInRefIdeal.nD Cert.AdamWInRefIdeal.τ).loc Cert.AdamWInRefIdeal.main_arg2) = m ((c.tc : Thread Cert.AdamWInIdeal.nD Cert.AdamWInIdeal.τ).loc Cert.AdamWInIdeal.main_arg2)
      ∧ m' ((c.tc : Thread Cert.AdamWInRefIdeal.nD Cert.AdamWInRefIdeal.τ).loc Cert.AdamWInRefIdeal.main_arg3) = m ((c.tc : Thread Cert.AdamWInIdeal.nD Cert.AdamWInIdeal.τ).loc Cert.AdamWInIdeal.main_arg3)) →
    ∃ (v0 : (c : Dev Cert.AdamWInIdeal.nD) → Buf (Elt Ideal) ((c.tc : Thread Cert.AdamWInIdeal.nD Cert.AdamWInIdeal.τ).loc Cert.AdamWInIdeal.main_v0_0)) (v1 : (c : Dev Cert.AdamWInIdeal.nD) → Buf (Elt Ideal) ((c.tc : Thread Cert.AdamWInIdeal.nD Cert.AdamWInIdeal.τ).loc Cert.AdamWInIdeal.main_v0_1)) (v2 : (c : Dev Cert.AdamWInIdeal.nD) → Buf (Elt Ideal) ((c.tc : Thread Cert.AdamWInIdeal.nD Cert.AdamWInIdeal.τ).loc Cert.AdamWInIdeal.main_v0_2)) (v3 : (c : Dev Cert.AdamWInIdeal.nD) → Buf (Elt Ideal) ((c.tc : Thread Cert.AdamWInIdeal.nD Cert.AdamWInIdeal.τ).loc Cert.AdamWInIdeal.main_v0_3)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v0_0) = v0 c
          ∧ r.2.mem ((c.tc : Thread Cert.AdamWInIdeal.nD Cert.AdamWInIdeal.τ).loc Cert.AdamWInIdeal.main_v0_1) = v1 c
          ∧ r.2.mem ((c.tc : Thread Cert.AdamWInIdeal.nD Cert.AdamWInIdeal.τ).loc Cert.AdamWInIdeal.main_v0_2) = v2 c
          ∧ r.2.mem ((c.tc : Thread Cert.AdamWInIdeal.nD Cert.AdamWInIdeal.τ).loc Cert.AdamWInIdeal.main_v0_3) = v3 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ θ_run (Cert.AdamWInRefIdeal.defs (F := Ideal)) (onTc (τ := Cert.AdamWInRefIdeal.τ) (Cert.AdamWInRefIdeal.main (F := Ideal))) ⟨m', fun _ => 0, g'⟩ (fun r => ∀ c : Dev Cert.AdamWInRefIdeal.nD,
          r.2.mem ((c.tc : Thread Cert.AdamWInRefIdeal.nD Cert.AdamWInRefIdeal.τ).loc Cert.AdamWInRefIdeal.main_v2) = v0 c
          ∧ r.2.mem ((c.tc : Thread Cert.AdamWInRefIdeal.nD Cert.AdamWInRefIdeal.τ).loc Cert.AdamWInRefIdeal.main_v26) = v1 c
          ∧ r.2.mem ((c.tc : Thread Cert.AdamWInRefIdeal.nD Cert.AdamWInRefIdeal.τ).loc Cert.AdamWInRefIdeal.main_v7) = v2 c
          ∧ r.2.mem ((c.tc : Thread Cert.AdamWInRefIdeal.nD Cert.AdamWInRefIdeal.τ).loc Cert.AdamWInRefIdeal.main_v13) = v3 c
          ∧ r.2.mem ((c.tc : Thread Cert.AdamWInRefIdeal.nD Cert.AdamWInRefIdeal.τ).loc Cert.AdamWInRefIdeal.main_arg0) = m' ((c.tc : Thread Cert.AdamWInRefIdeal.nD Cert.AdamWInRefIdeal.τ).loc Cert.AdamWInRefIdeal.main_arg0)
          ∧ r.2.mem ((c.tc : Thread Cert.AdamWInRefIdeal.nD Cert.AdamWInRefIdeal.τ).loc Cert.AdamWInRefIdeal.main_arg1) = m' ((c.tc : Thread Cert.AdamWInRefIdeal.nD Cert.AdamWInRefIdeal.τ).loc Cert.AdamWInRefIdeal.main_arg1)
          ∧ r.2.mem ((c.tc : Thread Cert.AdamWInRefIdeal.nD Cert.AdamWInRefIdeal.τ).loc Cert.AdamWInRefIdeal.main_arg2) = m' ((c.tc : Thread Cert.AdamWInRefIdeal.nD Cert.AdamWInRefIdeal.τ).loc Cert.AdamWInRefIdeal.main_arg2)
          ∧ r.2.mem ((c.tc : Thread Cert.AdamWInRefIdeal.nD Cert.AdamWInRefIdeal.τ).loc Cert.AdamWInRefIdeal.main_arg3) = m' ((c.tc : Thread Cert.AdamWInRefIdeal.nD Cert.AdamWInRefIdeal.τ).loc Cert.AdamWInRefIdeal.main_arg3))

def preserves_AdamWa2_AdamWa2Ideal : Prop :=
  True

def algebraic_AdamWa2Ideal_AdamWa2RefIdeal [hAdamWa2Ideal : Cert.AdamWa2Ideal.Facts] [hAdamWa2RefIdeal : Cert.AdamWa2RefIdeal.Facts] : Prop :=
  ∀ (m : (ℓ : Loc Cert.AdamWa2Ideal.nD Cert.AdamWa2Ideal.τ Cert.AdamWa2Ideal.sig) → Buf (Elt Ideal) ℓ) (g : Dev Cert.AdamWa2Ideal.nD → PrngReg)
    (m' : (ℓ : Loc Cert.AdamWa2RefIdeal.nD Cert.AdamWa2RefIdeal.τ Cert.AdamWa2RefIdeal.sig) → Buf (Elt Ideal) ℓ) (g' : Dev Cert.AdamWa2RefIdeal.nD → PrngReg), Pre_AdamWa2Ideal m →
    (∀ c : Dev Cert.AdamWa2Ideal.nD,
      m' ((c.tc : Thread Cert.AdamWa2RefIdeal.nD Cert.AdamWa2RefIdeal.τ).loc Cert.AdamWa2RefIdeal.main_arg0) = m ((c.tc : Thread Cert.AdamWa2Ideal.nD Cert.AdamWa2Ideal.τ).loc Cert.AdamWa2Ideal.main_arg0)
      ∧ m' ((c.tc : Thread Cert.AdamWa2RefIdeal.nD Cert.AdamWa2RefIdeal.τ).loc Cert.AdamWa2RefIdeal.main_arg1) = m ((c.tc : Thread Cert.AdamWa2Ideal.nD Cert.AdamWa2Ideal.τ).loc Cert.AdamWa2Ideal.main_arg1)
      ∧ m' ((c.tc : Thread Cert.AdamWa2RefIdeal.nD Cert.AdamWa2RefIdeal.τ).loc Cert.AdamWa2RefIdeal.main_arg2) = m ((c.tc : Thread Cert.AdamWa2Ideal.nD Cert.AdamWa2Ideal.τ).loc Cert.AdamWa2Ideal.main_arg2)
      ∧ m' ((c.tc : Thread Cert.AdamWa2RefIdeal.nD Cert.AdamWa2RefIdeal.τ).loc Cert.AdamWa2RefIdeal.main_arg3) = m ((c.tc : Thread Cert.AdamWa2Ideal.nD Cert.AdamWa2Ideal.τ).loc Cert.AdamWa2Ideal.main_arg3)) →
    ∃ (v0 : (c : Dev Cert.AdamWa2Ideal.nD) → Buf (Elt Ideal) ((c.tc : Thread Cert.AdamWa2Ideal.nD Cert.AdamWa2Ideal.τ).loc Cert.AdamWa2Ideal.main_v0_0)) (v1 : (c : Dev Cert.AdamWa2Ideal.nD) → Buf (Elt Ideal) ((c.tc : Thread Cert.AdamWa2Ideal.nD Cert.AdamWa2Ideal.τ).loc Cert.AdamWa2Ideal.main_v0_1)) (v2 : (c : Dev Cert.AdamWa2Ideal.nD) → Buf (Elt Ideal) ((c.tc : Thread Cert.AdamWa2Ideal.nD Cert.AdamWa2Ideal.τ).loc Cert.AdamWa2Ideal.main_v0_2)) (v3 : (c : Dev Cert.AdamWa2Ideal.nD) → Buf (Elt Ideal) ((c.tc : Thread Cert.AdamWa2Ideal.nD Cert.AdamWa2Ideal.τ).loc Cert.AdamWa2Ideal.main_v0_3)),
      θ_run (Cert.AdamWa2Ideal.defs (F := Ideal)) (onTc (τ := Cert.AdamWa2Ideal.τ) (Cert.AdamWa2Ideal.main (F := Ideal))) ⟨m, fun _ => 0, g⟩ (fun r => ∀ c : Dev Cert.AdamWa2Ideal.nD,
          r.2.mem ((c.tc : Thread Cert.AdamWa2Ideal.nD Cert.AdamWa2Ideal.τ).loc Cert.AdamWa2Ideal.main_v0_0) = v0 c
          ∧ r.2.mem ((c.tc : Thread Cert.AdamWa2Ideal.nD Cert.AdamWa2Ideal.τ).loc Cert.AdamWa2Ideal.main_v0_1) = v1 c
          ∧ r.2.mem ((c.tc : Thread Cert.AdamWa2Ideal.nD Cert.AdamWa2Ideal.τ).loc Cert.AdamWa2Ideal.main_v0_2) = v2 c
          ∧ r.2.mem ((c.tc : Thread Cert.AdamWa2Ideal.nD Cert.AdamWa2Ideal.τ).loc Cert.AdamWa2Ideal.main_v0_3) = v3 c
          ∧ r.2.mem ((c.tc : Thread Cert.AdamWa2Ideal.nD Cert.AdamWa2Ideal.τ).loc Cert.AdamWa2Ideal.main_arg0) = m ((c.tc : Thread Cert.AdamWa2Ideal.nD Cert.AdamWa2Ideal.τ).loc Cert.AdamWa2Ideal.main_arg0)
          ∧ r.2.mem ((c.tc : Thread Cert.AdamWa2Ideal.nD Cert.AdamWa2Ideal.τ).loc Cert.AdamWa2Ideal.main_arg1) = m ((c.tc : Thread Cert.AdamWa2Ideal.nD Cert.AdamWa2Ideal.τ).loc Cert.AdamWa2Ideal.main_arg1)
          ∧ r.2.mem ((c.tc : Thread Cert.AdamWa2Ideal.nD Cert.AdamWa2Ideal.τ).loc Cert.AdamWa2Ideal.main_arg2) = m ((c.tc : Thread Cert.AdamWa2Ideal.nD Cert.AdamWa2Ideal.τ).loc Cert.AdamWa2Ideal.main_arg2)
          ∧ r.2.mem ((c.tc : Thread Cert.AdamWa2Ideal.nD Cert.AdamWa2Ideal.τ).loc Cert.AdamWa2Ideal.main_arg3) = m ((c.tc : Thread Cert.AdamWa2Ideal.nD Cert.AdamWa2Ideal.τ).loc Cert.AdamWa2Ideal.main_arg3))
      ∧ θ_run (Cert.AdamWa2RefIdeal.defs (F := Ideal)) (onTc (τ := Cert.AdamWa2RefIdeal.τ) (Cert.AdamWa2RefIdeal.main (F := Ideal))) ⟨m', fun _ => 0, g'⟩ (fun r => ∀ c : Dev Cert.AdamWa2RefIdeal.nD,
          r.2.mem ((c.tc : Thread Cert.AdamWa2RefIdeal.nD Cert.AdamWa2RefIdeal.τ).loc Cert.AdamWa2RefIdeal.main_v1) = v0 c
          ∧ r.2.mem ((c.tc : Thread Cert.AdamWa2RefIdeal.nD Cert.AdamWa2RefIdeal.τ).loc Cert.AdamWa2RefIdeal.main_v25) = v1 c
          ∧ r.2.mem ((c.tc : Thread Cert.AdamWa2RefIdeal.nD Cert.AdamWa2RefIdeal.τ).loc Cert.AdamWa2RefIdeal.main_v6) = v2 c
          ∧ r.2.mem ((c.tc : Thread Cert.AdamWa2RefIdeal.nD Cert.AdamWa2RefIdeal.τ).loc Cert.AdamWa2RefIdeal.main_v12) = v3 c
          ∧ r.2.mem ((c.tc : Thread Cert.AdamWa2RefIdeal.nD Cert.AdamWa2RefIdeal.τ).loc Cert.AdamWa2RefIdeal.main_arg0) = m' ((c.tc : Thread Cert.AdamWa2RefIdeal.nD Cert.AdamWa2RefIdeal.τ).loc Cert.AdamWa2RefIdeal.main_arg0)
          ∧ r.2.mem ((c.tc : Thread Cert.AdamWa2RefIdeal.nD Cert.AdamWa2RefIdeal.τ).loc Cert.AdamWa2RefIdeal.main_arg1) = m' ((c.tc : Thread Cert.AdamWa2RefIdeal.nD Cert.AdamWa2RefIdeal.τ).loc Cert.AdamWa2RefIdeal.main_arg1)
          ∧ r.2.mem ((c.tc : Thread Cert.AdamWa2RefIdeal.nD Cert.AdamWa2RefIdeal.τ).loc Cert.AdamWa2RefIdeal.main_arg2) = m' ((c.tc : Thread Cert.AdamWa2RefIdeal.nD Cert.AdamWa2RefIdeal.τ).loc Cert.AdamWa2RefIdeal.main_arg2)
          ∧ r.2.mem ((c.tc : Thread Cert.AdamWa2RefIdeal.nD Cert.AdamWa2RefIdeal.τ).loc Cert.AdamWa2RefIdeal.main_arg3) = m' ((c.tc : Thread Cert.AdamWa2RefIdeal.nD Cert.AdamWa2RefIdeal.τ).loc Cert.AdamWa2RefIdeal.main_arg3))

def preserves_AdamProj_AdamProjIdeal : Prop :=
  True

def algebraic_AdamProjIdeal_AdamProjRefIdeal [hAdamProjIdeal : Cert.AdamProjIdeal.Facts] [hAdamProjRefIdeal : Cert.AdamProjRefIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg)
    (m' : (ℓ : Loc Cert.AdamProjRefIdeal.nD Cert.AdamProjRefIdeal.τ Cert.AdamProjRefIdeal.sig) → Buf (Elt Ideal) ℓ) (g' : Dev Cert.AdamProjRefIdeal.nD → PrngReg), Pre_AdamProjIdeal m →
    (∀ c : Dev Cert.AdamProjIdeal.nD,
      m' ((c.tc : Thread Cert.AdamProjRefIdeal.nD Cert.AdamProjRefIdeal.τ).loc Cert.AdamProjRefIdeal.main_arg0) = m ((c.tc : Thread Cert.AdamProjIdeal.nD Cert.AdamProjIdeal.τ).loc Cert.AdamProjIdeal.main_arg0)
      ∧ m' ((c.tc : Thread Cert.AdamProjRefIdeal.nD Cert.AdamProjRefIdeal.τ).loc Cert.AdamProjRefIdeal.main_arg1) = m ((c.tc : Thread Cert.AdamProjIdeal.nD Cert.AdamProjIdeal.τ).loc Cert.AdamProjIdeal.main_arg1)
      ∧ m' ((c.tc : Thread Cert.AdamProjRefIdeal.nD Cert.AdamProjRefIdeal.τ).loc Cert.AdamProjRefIdeal.main_arg2) = m ((c.tc : Thread Cert.AdamProjIdeal.nD Cert.AdamProjIdeal.τ).loc Cert.AdamProjIdeal.main_arg2)
      ∧ m' ((c.tc : Thread Cert.AdamProjRefIdeal.nD Cert.AdamProjRefIdeal.τ).loc Cert.AdamProjRefIdeal.main_arg3) = m ((c.tc : Thread Cert.AdamProjIdeal.nD Cert.AdamProjIdeal.τ).loc Cert.AdamProjIdeal.main_arg3)) →
    ∃ (v0 : (c : Dev Cert.AdamProjIdeal.nD) → Buf (Elt Ideal) ((c.tc : Thread Cert.AdamProjIdeal.nD Cert.AdamProjIdeal.τ).loc Cert.AdamProjIdeal.main_v0_0)) (v1 : (c : Dev Cert.AdamProjIdeal.nD) → Buf (Elt Ideal) ((c.tc : Thread Cert.AdamProjIdeal.nD Cert.AdamProjIdeal.τ).loc Cert.AdamProjIdeal.main_v0_1)) (v2 : (c : Dev Cert.AdamProjIdeal.nD) → Buf (Elt Ideal) ((c.tc : Thread Cert.AdamProjIdeal.nD Cert.AdamProjIdeal.τ).loc Cert.AdamProjIdeal.main_v0_2)) (v3 : (c : Dev Cert.AdamProjIdeal.nD) → Buf (Elt Ideal) ((c.tc : Thread Cert.AdamProjIdeal.nD Cert.AdamProjIdeal.τ).loc Cert.AdamProjIdeal.main_v0_3)),
      θ_run (Cert.AdamProjIdeal.defs (F := Ideal)) (onTc (τ := Cert.AdamProjIdeal.τ) (Cert.AdamProjIdeal.main (F := Ideal))) ⟨m, fun _ => 0, g⟩ (fun r => ∀ c : Dev Cert.AdamProjIdeal.nD,
          r.2.mem ((c.tc : Thread Cert.AdamProjIdeal.nD Cert.AdamProjIdeal.τ).loc Cert.AdamProjIdeal.main_v0_0) = v0 c
          ∧ r.2.mem ((c.tc : Thread Cert.AdamProjIdeal.nD Cert.AdamProjIdeal.τ).loc Cert.AdamProjIdeal.main_v0_1) = v1 c
          ∧ r.2.mem ((c.tc : Thread Cert.AdamProjIdeal.nD Cert.AdamProjIdeal.τ).loc Cert.AdamProjIdeal.main_v0_2) = v2 c
          ∧ r.2.mem ((c.tc : Thread Cert.AdamProjIdeal.nD Cert.AdamProjIdeal.τ).loc Cert.AdamProjIdeal.main_v0_3) = v3 c
          ∧ r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
          ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
          ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
          ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3))
      ∧ θ_run (Cert.AdamProjRefIdeal.defs (F := Ideal)) (onTc (τ := Cert.AdamProjRefIdeal.τ) (Cert.AdamProjRefIdeal.main (F := Ideal))) ⟨m', fun _ => 0, g'⟩ (fun r => ∀ c : Dev Cert.AdamProjRefIdeal.nD,
          r.2.mem ((c.tc : Thread Cert.AdamProjRefIdeal.nD Cert.AdamProjRefIdeal.τ).loc Cert.AdamProjRefIdeal.main_v1) = v0 c
          ∧ r.2.mem ((c.tc : Thread Cert.AdamProjRefIdeal.nD Cert.AdamProjRefIdeal.τ).loc Cert.AdamProjRefIdeal.main_v25) = v1 c
          ∧ r.2.mem ((c.tc : Thread Cert.AdamProjRefIdeal.nD Cert.AdamProjRefIdeal.τ).loc Cert.AdamProjRefIdeal.main_v6) = v2 c
          ∧ r.2.mem ((c.tc : Thread Cert.AdamProjRefIdeal.nD Cert.AdamProjRefIdeal.τ).loc Cert.AdamProjRefIdeal.main_v12) = v3 c
          ∧ r.2.mem ((c.tc : Thread Cert.AdamProjRefIdeal.nD Cert.AdamProjRefIdeal.τ).loc Cert.AdamProjRefIdeal.main_arg0) = m' ((c.tc : Thread Cert.AdamProjRefIdeal.nD Cert.AdamProjRefIdeal.τ).loc Cert.AdamProjRefIdeal.main_arg0)
          ∧ r.2.mem ((c.tc : Thread Cert.AdamProjRefIdeal.nD Cert.AdamProjRefIdeal.τ).loc Cert.AdamProjRefIdeal.main_arg1) = m' ((c.tc : Thread Cert.AdamProjRefIdeal.nD Cert.AdamProjRefIdeal.τ).loc Cert.AdamProjRefIdeal.main_arg1)
          ∧ r.2.mem ((c.tc : Thread Cert.AdamProjRefIdeal.nD Cert.AdamProjRefIdeal.τ).loc Cert.AdamProjRefIdeal.main_arg2) = m' ((c.tc : Thread Cert.AdamProjRefIdeal.nD Cert.AdamProjRefIdeal.τ).loc Cert.AdamProjRefIdeal.main_arg2)
          ∧ r.2.mem ((c.tc : Thread Cert.AdamProjRefIdeal.nD Cert.AdamProjRefIdeal.τ).loc Cert.AdamProjRefIdeal.main_arg3) = m' ((c.tc : Thread Cert.AdamProjRefIdeal.nD Cert.AdamProjRefIdeal.τ).loc Cert.AdamProjRefIdeal.main_arg3))

def preserves_AdamW2_AdamW2Ideal : Prop :=
  True

def algebraic_AdamW2Ideal_AdamW2RefIdeal [hAdamW2Ideal : Cert.AdamW2Ideal.Facts] [hAdamW2RefIdeal : Cert.AdamW2RefIdeal.Facts] : Prop :=
  ∀ (m : (ℓ : Loc Cert.AdamW2Ideal.nD Cert.AdamW2Ideal.τ Cert.AdamW2Ideal.sig) → Buf (Elt Ideal) ℓ) (g : Dev Cert.AdamW2Ideal.nD → PrngReg)
    (m' : (ℓ : Loc Cert.AdamW2RefIdeal.nD Cert.AdamW2RefIdeal.τ Cert.AdamW2RefIdeal.sig) → Buf (Elt Ideal) ℓ) (g' : Dev Cert.AdamW2RefIdeal.nD → PrngReg), Pre_AdamW2Ideal m →
    (∀ c : Dev Cert.AdamW2Ideal.nD,
      m' ((c.tc : Thread Cert.AdamW2RefIdeal.nD Cert.AdamW2RefIdeal.τ).loc Cert.AdamW2RefIdeal.main_arg0) = m ((c.tc : Thread Cert.AdamW2Ideal.nD Cert.AdamW2Ideal.τ).loc Cert.AdamW2Ideal.main_arg0)
      ∧ m' ((c.tc : Thread Cert.AdamW2RefIdeal.nD Cert.AdamW2RefIdeal.τ).loc Cert.AdamW2RefIdeal.main_arg1) = m ((c.tc : Thread Cert.AdamW2Ideal.nD Cert.AdamW2Ideal.τ).loc Cert.AdamW2Ideal.main_arg1)
      ∧ m' ((c.tc : Thread Cert.AdamW2RefIdeal.nD Cert.AdamW2RefIdeal.τ).loc Cert.AdamW2RefIdeal.main_arg2) = m ((c.tc : Thread Cert.AdamW2Ideal.nD Cert.AdamW2Ideal.τ).loc Cert.AdamW2Ideal.main_arg2)
      ∧ m' ((c.tc : Thread Cert.AdamW2RefIdeal.nD Cert.AdamW2RefIdeal.τ).loc Cert.AdamW2RefIdeal.main_arg3) = m ((c.tc : Thread Cert.AdamW2Ideal.nD Cert.AdamW2Ideal.τ).loc Cert.AdamW2Ideal.main_arg3)) →
    ∃ (v0 : (c : Dev Cert.AdamW2Ideal.nD) → Buf (Elt Ideal) ((c.tc : Thread Cert.AdamW2Ideal.nD Cert.AdamW2Ideal.τ).loc Cert.AdamW2Ideal.main_v0_0)) (v1 : (c : Dev Cert.AdamW2Ideal.nD) → Buf (Elt Ideal) ((c.tc : Thread Cert.AdamW2Ideal.nD Cert.AdamW2Ideal.τ).loc Cert.AdamW2Ideal.main_v0_1)) (v2 : (c : Dev Cert.AdamW2Ideal.nD) → Buf (Elt Ideal) ((c.tc : Thread Cert.AdamW2Ideal.nD Cert.AdamW2Ideal.τ).loc Cert.AdamW2Ideal.main_v0_2)) (v3 : (c : Dev Cert.AdamW2Ideal.nD) → Buf (Elt Ideal) ((c.tc : Thread Cert.AdamW2Ideal.nD Cert.AdamW2Ideal.τ).loc Cert.AdamW2Ideal.main_v0_3)),
      θ_run (Cert.AdamW2Ideal.defs (F := Ideal)) (onTc (τ := Cert.AdamW2Ideal.τ) (Cert.AdamW2Ideal.main (F := Ideal))) ⟨m, fun _ => 0, g⟩ (fun r => ∀ c : Dev Cert.AdamW2Ideal.nD,
          r.2.mem ((c.tc : Thread Cert.AdamW2Ideal.nD Cert.AdamW2Ideal.τ).loc Cert.AdamW2Ideal.main_v0_0) = v0 c
          ∧ r.2.mem ((c.tc : Thread Cert.AdamW2Ideal.nD Cert.AdamW2Ideal.τ).loc Cert.AdamW2Ideal.main_v0_1) = v1 c
          ∧ r.2.mem ((c.tc : Thread Cert.AdamW2Ideal.nD Cert.AdamW2Ideal.τ).loc Cert.AdamW2Ideal.main_v0_2) = v2 c
          ∧ r.2.mem ((c.tc : Thread Cert.AdamW2Ideal.nD Cert.AdamW2Ideal.τ).loc Cert.AdamW2Ideal.main_v0_3) = v3 c
          ∧ r.2.mem ((c.tc : Thread Cert.AdamW2Ideal.nD Cert.AdamW2Ideal.τ).loc Cert.AdamW2Ideal.main_arg0) = m ((c.tc : Thread Cert.AdamW2Ideal.nD Cert.AdamW2Ideal.τ).loc Cert.AdamW2Ideal.main_arg0)
          ∧ r.2.mem ((c.tc : Thread Cert.AdamW2Ideal.nD Cert.AdamW2Ideal.τ).loc Cert.AdamW2Ideal.main_arg1) = m ((c.tc : Thread Cert.AdamW2Ideal.nD Cert.AdamW2Ideal.τ).loc Cert.AdamW2Ideal.main_arg1)
          ∧ r.2.mem ((c.tc : Thread Cert.AdamW2Ideal.nD Cert.AdamW2Ideal.τ).loc Cert.AdamW2Ideal.main_arg2) = m ((c.tc : Thread Cert.AdamW2Ideal.nD Cert.AdamW2Ideal.τ).loc Cert.AdamW2Ideal.main_arg2)
          ∧ r.2.mem ((c.tc : Thread Cert.AdamW2Ideal.nD Cert.AdamW2Ideal.τ).loc Cert.AdamW2Ideal.main_arg3) = m ((c.tc : Thread Cert.AdamW2Ideal.nD Cert.AdamW2Ideal.τ).loc Cert.AdamW2Ideal.main_arg3))
      ∧ θ_run (Cert.AdamW2RefIdeal.defs (F := Ideal)) (onTc (τ := Cert.AdamW2RefIdeal.τ) (Cert.AdamW2RefIdeal.main (F := Ideal))) ⟨m', fun _ => 0, g'⟩ (fun r => ∀ c : Dev Cert.AdamW2RefIdeal.nD,
          r.2.mem ((c.tc : Thread Cert.AdamW2RefIdeal.nD Cert.AdamW2RefIdeal.τ).loc Cert.AdamW2RefIdeal.main_v1) = v0 c
          ∧ r.2.mem ((c.tc : Thread Cert.AdamW2RefIdeal.nD Cert.AdamW2RefIdeal.τ).loc Cert.AdamW2RefIdeal.main_v25) = v1 c
          ∧ r.2.mem ((c.tc : Thread Cert.AdamW2RefIdeal.nD Cert.AdamW2RefIdeal.τ).loc Cert.AdamW2RefIdeal.main_v6) = v2 c
          ∧ r.2.mem ((c.tc : Thread Cert.AdamW2RefIdeal.nD Cert.AdamW2RefIdeal.τ).loc Cert.AdamW2RefIdeal.main_v12) = v3 c
          ∧ r.2.mem ((c.tc : Thread Cert.AdamW2RefIdeal.nD Cert.AdamW2RefIdeal.τ).loc Cert.AdamW2RefIdeal.main_arg0) = m' ((c.tc : Thread Cert.AdamW2RefIdeal.nD Cert.AdamW2RefIdeal.τ).loc Cert.AdamW2RefIdeal.main_arg0)
          ∧ r.2.mem ((c.tc : Thread Cert.AdamW2RefIdeal.nD Cert.AdamW2RefIdeal.τ).loc Cert.AdamW2RefIdeal.main_arg1) = m' ((c.tc : Thread Cert.AdamW2RefIdeal.nD Cert.AdamW2RefIdeal.τ).loc Cert.AdamW2RefIdeal.main_arg1)
          ∧ r.2.mem ((c.tc : Thread Cert.AdamW2RefIdeal.nD Cert.AdamW2RefIdeal.τ).loc Cert.AdamW2RefIdeal.main_arg2) = m' ((c.tc : Thread Cert.AdamW2RefIdeal.nD Cert.AdamW2RefIdeal.τ).loc Cert.AdamW2RefIdeal.main_arg2)
          ∧ r.2.mem ((c.tc : Thread Cert.AdamW2RefIdeal.nD Cert.AdamW2RefIdeal.τ).loc Cert.AdamW2RefIdeal.main_arg3) = m' ((c.tc : Thread Cert.AdamW2RefIdeal.nD Cert.AdamW2RefIdeal.τ).loc Cert.AdamW2RefIdeal.main_arg3))

def preserves_AdamG2_AdamG2Ideal : Prop :=
  True

def algebraic_AdamG2Ideal_AdamG2RefIdeal [hAdamG2Ideal : Cert.AdamG2Ideal.Facts] [hAdamG2RefIdeal : Cert.AdamG2RefIdeal.Facts] : Prop :=
  ∀ (m : (ℓ : Loc Cert.AdamG2Ideal.nD Cert.AdamG2Ideal.τ Cert.AdamG2Ideal.sig) → Buf (Elt Ideal) ℓ) (g : Dev Cert.AdamG2Ideal.nD → PrngReg)
    (m' : (ℓ : Loc Cert.AdamG2RefIdeal.nD Cert.AdamG2RefIdeal.τ Cert.AdamG2RefIdeal.sig) → Buf (Elt Ideal) ℓ) (g' : Dev Cert.AdamG2RefIdeal.nD → PrngReg), Pre_AdamG2Ideal m →
    (∀ c : Dev Cert.AdamG2Ideal.nD,
      m' ((c.tc : Thread Cert.AdamG2RefIdeal.nD Cert.AdamG2RefIdeal.τ).loc Cert.AdamG2RefIdeal.main_arg0) = m ((c.tc : Thread Cert.AdamG2Ideal.nD Cert.AdamG2Ideal.τ).loc Cert.AdamG2Ideal.main_arg0)
      ∧ m' ((c.tc : Thread Cert.AdamG2RefIdeal.nD Cert.AdamG2RefIdeal.τ).loc Cert.AdamG2RefIdeal.main_arg1) = m ((c.tc : Thread Cert.AdamG2Ideal.nD Cert.AdamG2Ideal.τ).loc Cert.AdamG2Ideal.main_arg1)
      ∧ m' ((c.tc : Thread Cert.AdamG2RefIdeal.nD Cert.AdamG2RefIdeal.τ).loc Cert.AdamG2RefIdeal.main_arg2) = m ((c.tc : Thread Cert.AdamG2Ideal.nD Cert.AdamG2Ideal.τ).loc Cert.AdamG2Ideal.main_arg2)
      ∧ m' ((c.tc : Thread Cert.AdamG2RefIdeal.nD Cert.AdamG2RefIdeal.τ).loc Cert.AdamG2RefIdeal.main_arg3) = m ((c.tc : Thread Cert.AdamG2Ideal.nD Cert.AdamG2Ideal.τ).loc Cert.AdamG2Ideal.main_arg3)) →
    ∃ (v0 : (c : Dev Cert.AdamG2Ideal.nD) → Buf (Elt Ideal) ((c.tc : Thread Cert.AdamG2Ideal.nD Cert.AdamG2Ideal.τ).loc Cert.AdamG2Ideal.main_v0_0)) (v1 : (c : Dev Cert.AdamG2Ideal.nD) → Buf (Elt Ideal) ((c.tc : Thread Cert.AdamG2Ideal.nD Cert.AdamG2Ideal.τ).loc Cert.AdamG2Ideal.main_v0_1)) (v2 : (c : Dev Cert.AdamG2Ideal.nD) → Buf (Elt Ideal) ((c.tc : Thread Cert.AdamG2Ideal.nD Cert.AdamG2Ideal.τ).loc Cert.AdamG2Ideal.main_v0_2)) (v3 : (c : Dev Cert.AdamG2Ideal.nD) → Buf (Elt Ideal) ((c.tc : Thread Cert.AdamG2Ideal.nD Cert.AdamG2Ideal.τ).loc Cert.AdamG2Ideal.main_v0_3)),
      θ_run (Cert.AdamG2Ideal.defs (F := Ideal)) (onTc (τ := Cert.AdamG2Ideal.τ) (Cert.AdamG2Ideal.main (F := Ideal))) ⟨m, fun _ => 0, g⟩ (fun r => ∀ c : Dev Cert.AdamG2Ideal.nD,
          r.2.mem ((c.tc : Thread Cert.AdamG2Ideal.nD Cert.AdamG2Ideal.τ).loc Cert.AdamG2Ideal.main_v0_0) = v0 c
          ∧ r.2.mem ((c.tc : Thread Cert.AdamG2Ideal.nD Cert.AdamG2Ideal.τ).loc Cert.AdamG2Ideal.main_v0_1) = v1 c
          ∧ r.2.mem ((c.tc : Thread Cert.AdamG2Ideal.nD Cert.AdamG2Ideal.τ).loc Cert.AdamG2Ideal.main_v0_2) = v2 c
          ∧ r.2.mem ((c.tc : Thread Cert.AdamG2Ideal.nD Cert.AdamG2Ideal.τ).loc Cert.AdamG2Ideal.main_v0_3) = v3 c
          ∧ r.2.mem ((c.tc : Thread Cert.AdamG2Ideal.nD Cert.AdamG2Ideal.τ).loc Cert.AdamG2Ideal.main_arg0) = m ((c.tc : Thread Cert.AdamG2Ideal.nD Cert.AdamG2Ideal.τ).loc Cert.AdamG2Ideal.main_arg0)
          ∧ r.2.mem ((c.tc : Thread Cert.AdamG2Ideal.nD Cert.AdamG2Ideal.τ).loc Cert.AdamG2Ideal.main_arg1) = m ((c.tc : Thread Cert.AdamG2Ideal.nD Cert.AdamG2Ideal.τ).loc Cert.AdamG2Ideal.main_arg1)
          ∧ r.2.mem ((c.tc : Thread Cert.AdamG2Ideal.nD Cert.AdamG2Ideal.τ).loc Cert.AdamG2Ideal.main_arg2) = m ((c.tc : Thread Cert.AdamG2Ideal.nD Cert.AdamG2Ideal.τ).loc Cert.AdamG2Ideal.main_arg2)
          ∧ r.2.mem ((c.tc : Thread Cert.AdamG2Ideal.nD Cert.AdamG2Ideal.τ).loc Cert.AdamG2Ideal.main_arg3) = m ((c.tc : Thread Cert.AdamG2Ideal.nD Cert.AdamG2Ideal.τ).loc Cert.AdamG2Ideal.main_arg3))
      ∧ θ_run (Cert.AdamG2RefIdeal.defs (F := Ideal)) (onTc (τ := Cert.AdamG2RefIdeal.τ) (Cert.AdamG2RefIdeal.main (F := Ideal))) ⟨m', fun _ => 0, g'⟩ (fun r => ∀ c : Dev Cert.AdamG2RefIdeal.nD,
          r.2.mem ((c.tc : Thread Cert.AdamG2RefIdeal.nD Cert.AdamG2RefIdeal.τ).loc Cert.AdamG2RefIdeal.main_v1) = v0 c
          ∧ r.2.mem ((c.tc : Thread Cert.AdamG2RefIdeal.nD Cert.AdamG2RefIdeal.τ).loc Cert.AdamG2RefIdeal.main_v25) = v1 c
          ∧ r.2.mem ((c.tc : Thread Cert.AdamG2RefIdeal.nD Cert.AdamG2RefIdeal.τ).loc Cert.AdamG2RefIdeal.main_v6) = v2 c
          ∧ r.2.mem ((c.tc : Thread Cert.AdamG2RefIdeal.nD Cert.AdamG2RefIdeal.τ).loc Cert.AdamG2RefIdeal.main_v12) = v3 c
          ∧ r.2.mem ((c.tc : Thread Cert.AdamG2RefIdeal.nD Cert.AdamG2RefIdeal.τ).loc Cert.AdamG2RefIdeal.main_arg0) = m' ((c.tc : Thread Cert.AdamG2RefIdeal.nD Cert.AdamG2RefIdeal.τ).loc Cert.AdamG2RefIdeal.main_arg0)
          ∧ r.2.mem ((c.tc : Thread Cert.AdamG2RefIdeal.nD Cert.AdamG2RefIdeal.τ).loc Cert.AdamG2RefIdeal.main_arg1) = m' ((c.tc : Thread Cert.AdamG2RefIdeal.nD Cert.AdamG2RefIdeal.τ).loc Cert.AdamG2RefIdeal.main_arg1)
          ∧ r.2.mem ((c.tc : Thread Cert.AdamG2RefIdeal.nD Cert.AdamG2RefIdeal.τ).loc Cert.AdamG2RefIdeal.main_arg2) = m' ((c.tc : Thread Cert.AdamG2RefIdeal.nD Cert.AdamG2RefIdeal.τ).loc Cert.AdamG2RefIdeal.main_arg2)
          ∧ r.2.mem ((c.tc : Thread Cert.AdamG2RefIdeal.nD Cert.AdamG2RefIdeal.τ).loc Cert.AdamG2RefIdeal.main_arg3) = m' ((c.tc : Thread Cert.AdamG2RefIdeal.nD Cert.AdamG2RefIdeal.τ).loc Cert.AdamG2RefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v1) = v0 c
          ∧ r.2.mem ((c.tc : Thread Cert.AdamUpRefIdeal.nD Cert.AdamUpRefIdeal.τ).loc Cert.AdamUpRefIdeal.main_v25) = v1 c
          ∧ r.2.mem ((c.tc : Thread Cert.AdamUpRefIdeal.nD Cert.AdamUpRefIdeal.τ).loc Cert.AdamUpRefIdeal.main_v6) = v2 c
          ∧ r.2.mem ((c.tc : Thread Cert.AdamUpRefIdeal.nD Cert.AdamUpRefIdeal.τ).loc Cert.AdamUpRefIdeal.main_v12) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)) (v3 : (c : Dev Cert.AdamConvIdeal.nD) → Buf (Elt Ideal) ((c.tc : Thread Cert.AdamConvIdeal.nD Cert.AdamConvIdeal.τ).loc Cert.AdamConvIdeal.main_v0_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_v0_3) = v3 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v1) = v0 c
          ∧ r.2.mem ((c.tc : Thread Cert.AdamConvRefIdeal.nD Cert.AdamConvRefIdeal.τ).loc Cert.AdamConvRefIdeal.main_v25) = v1 c
          ∧ r.2.mem ((c.tc : Thread Cert.AdamConvRefIdeal.nD Cert.AdamConvRefIdeal.τ).loc Cert.AdamConvRefIdeal.main_v6) = v2 c
          ∧ r.2.mem ((c.tc : Thread Cert.AdamConvRefIdeal.nD Cert.AdamConvRefIdeal.τ).loc Cert.AdamConvRefIdeal.main_v12) = v3 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v1) = v0 c
          ∧ r.2.mem ((c.tc : Thread Cert.AdamDownRefIdeal.nD Cert.AdamDownRefIdeal.τ).loc Cert.AdamDownRefIdeal.main_v25) = v1 c
          ∧ r.2.mem ((c.tc : Thread Cert.AdamDownRefIdeal.nD Cert.AdamDownRefIdeal.τ).loc Cert.AdamDownRefIdeal.main_v6) = v2 c
          ∧ r.2.mem ((c.tc : Thread Cert.AdamDownRefIdeal.nD Cert.AdamDownRefIdeal.τ).loc Cert.AdamDownRefIdeal.main_v12) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamRep_AdamRepIdeal : Prop :=
  True

def algebraic_AdamRepIdeal_AdamRepRefIdeal [hAdamRepIdeal : Cert.AdamRepIdeal.Facts] [hAdamRepRefIdeal : Cert.AdamRepRefIdeal.Facts] : Prop :=
  ∀ (m : (ℓ : Loc Cert.AdamRepIdeal.nD Cert.AdamRepIdeal.τ Cert.AdamRepIdeal.sig) → Buf (Elt Ideal) ℓ) (g : Dev Cert.AdamRepIdeal.nD → PrngReg)
    (m' : (ℓ : Loc Cert.AdamRepRefIdeal.nD Cert.AdamRepRefIdeal.τ Cert.AdamRepRefIdeal.sig) → Buf (Elt Ideal) ℓ) (g' : Dev Cert.AdamRepRefIdeal.nD → PrngReg), Pre_AdamRepIdeal m →
    (∀ c : Dev Cert.AdamRepIdeal.nD,
      m' ((c.tc : Thread Cert.AdamRepRefIdeal.nD Cert.AdamRepRefIdeal.τ).loc Cert.AdamRepRefIdeal.main_arg0) = m ((c.tc : Thread Cert.AdamRepIdeal.nD Cert.AdamRepIdeal.τ).loc Cert.AdamRepIdeal.main_arg0)
      ∧ m' ((c.tc : Thread Cert.AdamRepRefIdeal.nD Cert.AdamRepRefIdeal.τ).loc Cert.AdamRepRefIdeal.main_arg1) = m ((c.tc : Thread Cert.AdamRepIdeal.nD Cert.AdamRepIdeal.τ).loc Cert.AdamRepIdeal.main_arg1)
      ∧ m' ((c.tc : Thread Cert.AdamRepRefIdeal.nD Cert.AdamRepRefIdeal.τ).loc Cert.AdamRepRefIdeal.main_arg2) = m ((c.tc : Thread Cert.AdamRepIdeal.nD Cert.AdamRepIdeal.τ).loc Cert.AdamRepIdeal.main_arg2)
      ∧ m' ((c.tc : Thread Cert.AdamRepRefIdeal.nD Cert.AdamRepRefIdeal.τ).loc Cert.AdamRepRefIdeal.main_arg3) = m ((c.tc : Thread Cert.AdamRepIdeal.nD Cert.AdamRepIdeal.τ).loc Cert.AdamRepIdeal.main_arg3)) →
    ∃ (v0 : (c : Dev Cert.AdamRepIdeal.nD) → Buf (Elt Ideal) ((c.tc : Thread Cert.AdamRepIdeal.nD Cert.AdamRepIdeal.τ).loc Cert.AdamRepIdeal.main_v0_0)) (v1 : (c : Dev Cert.AdamRepIdeal.nD) → Buf (Elt Ideal) ((c.tc : Thread Cert.AdamRepIdeal.nD Cert.AdamRepIdeal.τ).loc Cert.AdamRepIdeal.main_v0_1)) (v2 : (c : Dev Cert.AdamRepIdeal.nD) → Buf (Elt Ideal) ((c.tc : Thread Cert.AdamRepIdeal.nD Cert.AdamRepIdeal.τ).loc Cert.AdamRepIdeal.main_v0_2)) (v3 : (c : Dev Cert.AdamRepIdeal.nD) → Buf (Elt Ideal) ((c.tc : Thread Cert.AdamRepIdeal.nD Cert.AdamRepIdeal.τ).loc Cert.AdamRepIdeal.main_v0_3)),
      θ_run (Cert.AdamRepIdeal.defs (F := Ideal)) (onTc (τ := Cert.AdamRepIdeal.τ) (Cert.AdamRepIdeal.main (F := Ideal))) ⟨m, fun _ => 0, g⟩ (fun r => ∀ c : Dev Cert.AdamRepIdeal.nD,
          r.2.mem ((c.tc : Thread Cert.AdamRepIdeal.nD Cert.AdamRepIdeal.τ).loc Cert.AdamRepIdeal.main_v0_0) = v0 c
          ∧ r.2.mem ((c.tc : Thread Cert.AdamRepIdeal.nD Cert.AdamRepIdeal.τ).loc Cert.AdamRepIdeal.main_v0_1) = v1 c
          ∧ r.2.mem ((c.tc : Thread Cert.AdamRepIdeal.nD Cert.AdamRepIdeal.τ).loc Cert.AdamRepIdeal.main_v0_2) = v2 c
          ∧ r.2.mem ((c.tc : Thread Cert.AdamRepIdeal.nD Cert.AdamRepIdeal.τ).loc Cert.AdamRepIdeal.main_v0_3) = v3 c
          ∧ r.2.mem ((c.tc : Thread Cert.AdamRepIdeal.nD Cert.AdamRepIdeal.τ).loc Cert.AdamRepIdeal.main_arg0) = m ((c.tc : Thread Cert.AdamRepIdeal.nD Cert.AdamRepIdeal.τ).loc Cert.AdamRepIdeal.main_arg0)
          ∧ r.2.mem ((c.tc : Thread Cert.AdamRepIdeal.nD Cert.AdamRepIdeal.τ).loc Cert.AdamRepIdeal.main_arg1) = m ((c.tc : Thread Cert.AdamRepIdeal.nD Cert.AdamRepIdeal.τ).loc Cert.AdamRepIdeal.main_arg1)
          ∧ r.2.mem ((c.tc : Thread Cert.AdamRepIdeal.nD Cert.AdamRepIdeal.τ).loc Cert.AdamRepIdeal.main_arg2) = m ((c.tc : Thread Cert.AdamRepIdeal.nD Cert.AdamRepIdeal.τ).loc Cert.AdamRepIdeal.main_arg2)
          ∧ r.2.mem ((c.tc : Thread Cert.AdamRepIdeal.nD Cert.AdamRepIdeal.τ).loc Cert.AdamRepIdeal.main_arg3) = m ((c.tc : Thread Cert.AdamRepIdeal.nD Cert.AdamRepIdeal.τ).loc Cert.AdamRepIdeal.main_arg3))
      ∧ θ_run (Cert.AdamRepRefIdeal.defs (F := Ideal)) (onTc (τ := Cert.AdamRepRefIdeal.τ) (Cert.AdamRepRefIdeal.main (F := Ideal))) ⟨m', fun _ => 0, g'⟩ (fun r => ∀ c : Dev Cert.AdamRepRefIdeal.nD,
          r.2.mem ((c.tc : Thread Cert.AdamRepRefIdeal.nD Cert.AdamRepRefIdeal.τ).loc Cert.AdamRepRefIdeal.main_v0) = v0 c
          ∧ r.2.mem ((c.tc : Thread Cert.AdamRepRefIdeal.nD Cert.AdamRepRefIdeal.τ).loc Cert.AdamRepRefIdeal.main_v24) = v1 c
          ∧ r.2.mem ((c.tc : Thread Cert.AdamRepRefIdeal.nD Cert.AdamRepRefIdeal.τ).loc Cert.AdamRepRefIdeal.main_v5) = v2 c
          ∧ r.2.mem ((c.tc : Thread Cert.AdamRepRefIdeal.nD Cert.AdamRepRefIdeal.τ).loc Cert.AdamRepRefIdeal.main_v11) = v3 c
          ∧ r.2.mem ((c.tc : Thread Cert.AdamRepRefIdeal.nD Cert.AdamRepRefIdeal.τ).loc Cert.AdamRepRefIdeal.main_arg0) = m' ((c.tc : Thread Cert.AdamRepRefIdeal.nD Cert.AdamRepRefIdeal.τ).loc Cert.AdamRepRefIdeal.main_arg0)
          ∧ r.2.mem ((c.tc : Thread Cert.AdamRepRefIdeal.nD Cert.AdamRepRefIdeal.τ).loc Cert.AdamRepRefIdeal.main_arg1) = m' ((c.tc : Thread Cert.AdamRepRefIdeal.nD Cert.AdamRepRefIdeal.τ).loc Cert.AdamRepRefIdeal.main_arg1)
          ∧ r.2.mem ((c.tc : Thread Cert.AdamRepRefIdeal.nD Cert.AdamRepRefIdeal.τ).loc Cert.AdamRepRefIdeal.main_arg2) = m' ((c.tc : Thread Cert.AdamRepRefIdeal.nD Cert.AdamRepRefIdeal.τ).loc Cert.AdamRepRefIdeal.main_arg2)
          ∧ r.2.mem ((c.tc : Thread Cert.AdamRepRefIdeal.nD Cert.AdamRepRefIdeal.τ).loc Cert.AdamRepRefIdeal.main_arg3) = m' ((c.tc : Thread Cert.AdamRepRefIdeal.nD Cert.AdamRepRefIdeal.τ).loc Cert.AdamRepRefIdeal.main_arg3))

def preserves_Norm1_Norm1Ideal : Prop :=
  True

def algebraic_Norm1Ideal_Norm1RefIdeal [hNorm1Ideal : Cert.Norm1Ideal.Facts] [hNorm1RefIdeal : Cert.Norm1RefIdeal.Facts] : Prop :=
  ∀ (m : (ℓ : Loc Cert.Norm1Ideal.nD Cert.Norm1Ideal.τ Cert.Norm1Ideal.sig) → Buf (Elt Ideal) ℓ) (g : Dev Cert.Norm1Ideal.nD → PrngReg)
    (m' : (ℓ : Loc Cert.Norm1RefIdeal.nD Cert.Norm1RefIdeal.τ Cert.Norm1RefIdeal.sig) → Buf (Elt Ideal) ℓ) (g' : Dev Cert.Norm1RefIdeal.nD → PrngReg), Pre_Norm1Ideal m →
    (∀ c : Dev Cert.Norm1Ideal.nD,
      m' ((c.tc : Thread Cert.Norm1RefIdeal.nD Cert.Norm1RefIdeal.τ).loc Cert.Norm1RefIdeal.main_arg0) = m ((c.tc : Thread Cert.Norm1Ideal.nD Cert.Norm1Ideal.τ).loc Cert.Norm1Ideal.main_arg0)
      ∧ m' ((c.tc : Thread Cert.Norm1RefIdeal.nD Cert.Norm1RefIdeal.τ).loc Cert.Norm1RefIdeal.main_arg1) = m ((c.tc : Thread Cert.Norm1Ideal.nD Cert.Norm1Ideal.τ).loc Cert.Norm1Ideal.main_arg1)
      ∧ m' ((c.tc : Thread Cert.Norm1RefIdeal.nD Cert.Norm1RefIdeal.τ).loc Cert.Norm1RefIdeal.main_arg2) = m ((c.tc : Thread Cert.Norm1Ideal.nD Cert.Norm1Ideal.τ).loc Cert.Norm1Ideal.main_arg2)
      ∧ m' ((c.tc : Thread Cert.Norm1RefIdeal.nD Cert.Norm1RefIdeal.τ).loc Cert.Norm1RefIdeal.main_arg3) = m ((c.tc : Thread Cert.Norm1Ideal.nD Cert.Norm1Ideal.τ).loc Cert.Norm1Ideal.main_arg3)) →
    ∃ (v0 : (c : Dev Cert.Norm1Ideal.nD) → Buf (Elt Ideal) ((c.tc : Thread Cert.Norm1Ideal.nD Cert.Norm1Ideal.τ).loc Cert.Norm1Ideal.main_v0_0)) (v1 : (c : Dev Cert.Norm1Ideal.nD) → Buf (Elt Ideal) ((c.tc : Thread Cert.Norm1Ideal.nD Cert.Norm1Ideal.τ).loc Cert.Norm1Ideal.main_v0_1)),
      θ_run (Cert.Norm1Ideal.defs (F := Ideal)) (onTc (τ := Cert.Norm1Ideal.τ) (Cert.Norm1Ideal.main (F := Ideal))) ⟨m, fun _ => 0, g⟩ (fun r => ∀ c : Dev Cert.Norm1Ideal.nD,
          r.2.mem ((c.tc : Thread Cert.Norm1Ideal.nD Cert.Norm1Ideal.τ).loc Cert.Norm1Ideal.main_v0_0) = v0 c
          ∧ r.2.mem ((c.tc : Thread Cert.Norm1Ideal.nD Cert.Norm1Ideal.τ).loc Cert.Norm1Ideal.main_v0_1) = v1 c
          ∧ r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
          ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
          ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
          ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3))
      ∧ θ_run (Cert.Norm1RefIdeal.defs (F := Ideal)) (onTc (τ := Cert.Norm1RefIdeal.τ) (Cert.Norm1RefIdeal.main (F := Ideal))) ⟨m', fun _ => 0, g'⟩ (fun r => ∀ c : Dev Cert.Norm1RefIdeal.nD,
          r.2.mem ((c.tc : Thread Cert.Norm1RefIdeal.nD Cert.Norm1RefIdeal.τ).loc Cert.Norm1RefIdeal.main_v38) = v0 c
          ∧ r.2.mem ((c.tc : Thread Cert.Norm1RefIdeal.nD Cert.Norm1RefIdeal.τ).loc Cert.Norm1RefIdeal.main_v37) = v1 c
          ∧ r.2.mem ((c.tc : Thread Cert.Norm1RefIdeal.nD Cert.Norm1RefIdeal.τ).loc Cert.Norm1RefIdeal.main_arg0) = m' ((c.tc : Thread Cert.Norm1RefIdeal.nD Cert.Norm1RefIdeal.τ).loc Cert.Norm1RefIdeal.main_arg0)
          ∧ r.2.mem ((c.tc : Thread Cert.Norm1RefIdeal.nD Cert.Norm1RefIdeal.τ).loc Cert.Norm1RefIdeal.main_arg1) = m' ((c.tc : Thread Cert.Norm1RefIdeal.nD Cert.Norm1RefIdeal.τ).loc Cert.Norm1RefIdeal.main_arg1)
          ∧ r.2.mem ((c.tc : Thread Cert.Norm1RefIdeal.nD Cert.Norm1RefIdeal.τ).loc Cert.Norm1RefIdeal.main_arg2) = m' ((c.tc : Thread Cert.Norm1RefIdeal.nD Cert.Norm1RefIdeal.τ).loc Cert.Norm1RefIdeal.main_arg2)
          ∧ r.2.mem ((c.tc : Thread Cert.Norm1RefIdeal.nD Cert.Norm1RefIdeal.τ).loc Cert.Norm1RefIdeal.main_arg3) = m' ((c.tc : Thread Cert.Norm1RefIdeal.nD Cert.Norm1RefIdeal.τ).loc Cert.Norm1RefIdeal.main_arg3))

def preserves_Norm2_Norm2Ideal : Prop :=
  True

def algebraic_Norm2Ideal_Norm2RefIdeal [hNorm2Ideal : Cert.Norm2Ideal.Facts] [hNorm2RefIdeal : Cert.Norm2RefIdeal.Facts] : Prop :=
  ∀ (m : (ℓ : Loc Cert.Norm2Ideal.nD Cert.Norm2Ideal.τ Cert.Norm2Ideal.sig) → Buf (Elt Ideal) ℓ) (g : Dev Cert.Norm2Ideal.nD → PrngReg)
    (m' : (ℓ : Loc Cert.Norm2RefIdeal.nD Cert.Norm2RefIdeal.τ Cert.Norm2RefIdeal.sig) → Buf (Elt Ideal) ℓ) (g' : Dev Cert.Norm2RefIdeal.nD → PrngReg), Pre_Norm2Ideal m →
    (∀ c : Dev Cert.Norm2Ideal.nD,
      m' ((c.tc : Thread Cert.Norm2RefIdeal.nD Cert.Norm2RefIdeal.τ).loc Cert.Norm2RefIdeal.main_arg0) = m ((c.tc : Thread Cert.Norm2Ideal.nD Cert.Norm2Ideal.τ).loc Cert.Norm2Ideal.main_arg0)
      ∧ m' ((c.tc : Thread Cert.Norm2RefIdeal.nD Cert.Norm2RefIdeal.τ).loc Cert.Norm2RefIdeal.main_arg1) = m ((c.tc : Thread Cert.Norm2Ideal.nD Cert.Norm2Ideal.τ).loc Cert.Norm2Ideal.main_arg1)
      ∧ m' ((c.tc : Thread Cert.Norm2RefIdeal.nD Cert.Norm2RefIdeal.τ).loc Cert.Norm2RefIdeal.main_arg2) = m ((c.tc : Thread Cert.Norm2Ideal.nD Cert.Norm2Ideal.τ).loc Cert.Norm2Ideal.main_arg2)
      ∧ m' ((c.tc : Thread Cert.Norm2RefIdeal.nD Cert.Norm2RefIdeal.τ).loc Cert.Norm2RefIdeal.main_arg3) = m ((c.tc : Thread Cert.Norm2Ideal.nD Cert.Norm2Ideal.τ).loc Cert.Norm2Ideal.main_arg3)
      ∧ m' ((c.tc : Thread Cert.Norm2RefIdeal.nD Cert.Norm2RefIdeal.τ).loc Cert.Norm2RefIdeal.main_arg4) = m ((c.tc : Thread Cert.Norm2Ideal.nD Cert.Norm2Ideal.τ).loc Cert.Norm2Ideal.main_arg4)) →
    ∃ (v0 : (c : Dev Cert.Norm2Ideal.nD) → Buf (Elt Ideal) ((c.tc : Thread Cert.Norm2Ideal.nD Cert.Norm2Ideal.τ).loc Cert.Norm2Ideal.main_v0_0)) (v1 : (c : Dev Cert.Norm2Ideal.nD) → Buf (Elt Ideal) ((c.tc : Thread Cert.Norm2Ideal.nD Cert.Norm2Ideal.τ).loc Cert.Norm2Ideal.main_v0_1)),
      θ_run (Cert.Norm2Ideal.defs (F := Ideal)) (onTc (τ := Cert.Norm2Ideal.τ) (Cert.Norm2Ideal.main (F := Ideal))) ⟨m, fun _ => 0, g⟩ (fun r => ∀ c : Dev Cert.Norm2Ideal.nD,
          r.2.mem ((c.tc : Thread Cert.Norm2Ideal.nD Cert.Norm2Ideal.τ).loc Cert.Norm2Ideal.main_v0_0) = v0 c
          ∧ r.2.mem ((c.tc : Thread Cert.Norm2Ideal.nD Cert.Norm2Ideal.τ).loc Cert.Norm2Ideal.main_v0_1) = v1 c
          ∧ r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
          ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
          ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
          ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3)
          ∧ r.2.mem ((c.tc : Thread Cert.Norm2Ideal.nD Cert.Norm2Ideal.τ).loc Cert.Norm2Ideal.main_arg4) = m ((c.tc : Thread Cert.Norm2Ideal.nD Cert.Norm2Ideal.τ).loc Cert.Norm2Ideal.main_arg4))
      ∧ θ_run (Cert.Norm2RefIdeal.defs (F := Ideal)) (onTc (τ := Cert.Norm2RefIdeal.τ) (Cert.Norm2RefIdeal.main (F := Ideal))) ⟨m', fun _ => 0, g'⟩ (fun r => ∀ c : Dev Cert.Norm2RefIdeal.nD,
          r.2.mem ((c.tc : Thread Cert.Norm2RefIdeal.nD Cert.Norm2RefIdeal.τ).loc Cert.Norm2RefIdeal.main_v38) = v0 c
          ∧ r.2.mem ((c.tc : Thread Cert.Norm2RefIdeal.nD Cert.Norm2RefIdeal.τ).loc Cert.Norm2RefIdeal.main_v39) = v1 c
          ∧ r.2.mem ((c.tc : Thread Cert.Norm2RefIdeal.nD Cert.Norm2RefIdeal.τ).loc Cert.Norm2RefIdeal.main_arg0) = m' ((c.tc : Thread Cert.Norm2RefIdeal.nD Cert.Norm2RefIdeal.τ).loc Cert.Norm2RefIdeal.main_arg0)
          ∧ r.2.mem ((c.tc : Thread Cert.Norm2RefIdeal.nD Cert.Norm2RefIdeal.τ).loc Cert.Norm2RefIdeal.main_arg1) = m' ((c.tc : Thread Cert.Norm2RefIdeal.nD Cert.Norm2RefIdeal.τ).loc Cert.Norm2RefIdeal.main_arg1)
          ∧ r.2.mem ((c.tc : Thread Cert.Norm2RefIdeal.nD Cert.Norm2RefIdeal.τ).loc Cert.Norm2RefIdeal.main_arg2) = m' ((c.tc : Thread Cert.Norm2RefIdeal.nD Cert.Norm2RefIdeal.τ).loc Cert.Norm2RefIdeal.main_arg2)
          ∧ r.2.mem ((c.tc : Thread Cert.Norm2RefIdeal.nD Cert.Norm2RefIdeal.τ).loc Cert.Norm2RefIdeal.main_arg3) = m' ((c.tc : Thread Cert.Norm2RefIdeal.nD Cert.Norm2RefIdeal.τ).loc Cert.Norm2RefIdeal.main_arg3)
          ∧ r.2.mem ((c.tc : Thread Cert.Norm2RefIdeal.nD Cert.Norm2RefIdeal.τ).loc Cert.Norm2RefIdeal.main_arg4) = m' ((c.tc : Thread Cert.Norm2RefIdeal.nD Cert.Norm2RefIdeal.τ).loc Cert.Norm2RefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)) (v3 : (c : Dev Cert.MergeIdeal.nD) → Buf (Elt Ideal) ((c.tc : Thread Cert.MergeIdeal.nD Cert.MergeIdeal.τ).loc Cert.MergeIdeal.main_v0_3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_v0_3) = v3 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v30) = v0 c
          ∧ r.2.mem ((c.tc : Thread Cert.MergeRefIdeal.nD Cert.MergeRefIdeal.τ).loc Cert.MergeRefIdeal.main_v27) = v1 c
          ∧ r.2.mem ((c.tc : Thread Cert.MergeRefIdeal.nD Cert.MergeRefIdeal.τ).loc Cert.MergeRefIdeal.main_v28) = v2 c
          ∧ r.2.mem ((c.tc : Thread Cert.MergeRefIdeal.nD Cert.MergeRefIdeal.τ).loc Cert.MergeRefIdeal.main_v25) = v3 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v27) = v0 c
          ∧ r.2.mem ((c.tc : Thread Cert.LossRefIdeal.nD Cert.LossRefIdeal.τ).loc Cert.LossRefIdeal.main_v53) = v1 c
          ∧ r.2.mem ((c.tc : Thread Cert.LossRefIdeal.nD Cert.LossRefIdeal.τ).loc Cert.LossRefIdeal.main_v54) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def preserves_Norm1Fwd_Norm1FwdIdeal : Prop :=
  True

def algebraic_Norm1FwdIdeal_Norm1FwdRefIdeal [hNorm1FwdIdeal : Cert.Norm1FwdIdeal.Facts] [hNorm1FwdRefIdeal : Cert.Norm1FwdRefIdeal.Facts] : Prop :=
  ∀ (m : (ℓ : Loc Cert.Norm1FwdIdeal.nD Cert.Norm1FwdIdeal.τ Cert.Norm1FwdIdeal.sig) → Buf (Elt Ideal) ℓ) (g : Dev Cert.Norm1FwdIdeal.nD → PrngReg)
    (m' : (ℓ : Loc Cert.Norm1FwdRefIdeal.nD Cert.Norm1FwdRefIdeal.τ Cert.Norm1FwdRefIdeal.sig) → Buf (Elt Ideal) ℓ) (g' : Dev Cert.Norm1FwdRefIdeal.nD → PrngReg), Pre_Norm1FwdIdeal m →
    (∀ c : Dev Cert.Norm1FwdIdeal.nD,
      m' ((c.tc : Thread Cert.Norm1FwdRefIdeal.nD Cert.Norm1FwdRefIdeal.τ).loc Cert.Norm1FwdRefIdeal.main_arg0) = m ((c.tc : Thread Cert.Norm1FwdIdeal.nD Cert.Norm1FwdIdeal.τ).loc Cert.Norm1FwdIdeal.main_arg0)
      ∧ m' ((c.tc : Thread Cert.Norm1FwdRefIdeal.nD Cert.Norm1FwdRefIdeal.τ).loc Cert.Norm1FwdRefIdeal.main_arg1) = m ((c.tc : Thread Cert.Norm1FwdIdeal.nD Cert.Norm1FwdIdeal.τ).loc Cert.Norm1FwdIdeal.main_arg1)) →
    ∃ (v0 : (c : Dev Cert.Norm1FwdIdeal.nD) → Buf (Elt Ideal) ((c.tc : Thread Cert.Norm1FwdIdeal.nD Cert.Norm1FwdIdeal.τ).loc Cert.Norm1FwdIdeal.main_v0)),
      θ_run (Cert.Norm1FwdIdeal.defs (F := Ideal)) (onTc (τ := Cert.Norm1FwdIdeal.τ) (Cert.Norm1FwdIdeal.main (F := Ideal))) ⟨m, fun _ => 0, g⟩ (fun r => ∀ c : Dev Cert.Norm1FwdIdeal.nD,
          r.2.mem ((c.tc : Thread Cert.Norm1FwdIdeal.nD Cert.Norm1FwdIdeal.τ).loc Cert.Norm1FwdIdeal.main_v0) = v0 c
          ∧ r.2.mem ((c.tc : Thread Cert.Norm1FwdIdeal.nD Cert.Norm1FwdIdeal.τ).loc Cert.Norm1FwdIdeal.main_arg0) = m ((c.tc : Thread Cert.Norm1FwdIdeal.nD Cert.Norm1FwdIdeal.τ).loc Cert.Norm1FwdIdeal.main_arg0)
          ∧ r.2.mem ((c.tc : Thread Cert.Norm1FwdIdeal.nD Cert.Norm1FwdIdeal.τ).loc Cert.Norm1FwdIdeal.main_arg1) = m ((c.tc : Thread Cert.Norm1FwdIdeal.nD Cert.Norm1FwdIdeal.τ).loc Cert.Norm1FwdIdeal.main_arg1))
      ∧ θ_run (Cert.Norm1FwdRefIdeal.defs (F := Ideal)) (onTc (τ := Cert.Norm1FwdRefIdeal.τ) (Cert.Norm1FwdRefIdeal.main (F := Ideal))) ⟨m', fun _ => 0, g'⟩ (fun r => ∀ c : Dev Cert.Norm1FwdRefIdeal.nD,
          r.2.mem ((c.tc : Thread Cert.Norm1FwdRefIdeal.nD Cert.Norm1FwdRefIdeal.τ).loc Cert.Norm1FwdRefIdeal.main_v14) = v0 c
          ∧ r.2.mem ((c.tc : Thread Cert.Norm1FwdRefIdeal.nD Cert.Norm1FwdRefIdeal.τ).loc Cert.Norm1FwdRefIdeal.main_arg0) = m' ((c.tc : Thread Cert.Norm1FwdRefIdeal.nD Cert.Norm1FwdRefIdeal.τ).loc Cert.Norm1FwdRefIdeal.main_arg0)
          ∧ r.2.mem ((c.tc : Thread Cert.Norm1FwdRefIdeal.nD Cert.Norm1FwdRefIdeal.τ).loc Cert.Norm1FwdRefIdeal.main_arg1) = m' ((c.tc : Thread Cert.Norm1FwdRefIdeal.nD Cert.Norm1FwdRefIdeal.τ).loc Cert.Norm1FwdRefIdeal.main_arg1))

def preserves_Norm2Fwd_Norm2FwdIdeal : Prop :=
  True

def algebraic_Norm2FwdIdeal_Norm2FwdRefIdeal [hNorm2FwdIdeal : Cert.Norm2FwdIdeal.Facts] [hNorm2FwdRefIdeal : Cert.Norm2FwdRefIdeal.Facts] : Prop :=
  ∀ (m : (ℓ : Loc Cert.Norm2FwdIdeal.nD Cert.Norm2FwdIdeal.τ Cert.Norm2FwdIdeal.sig) → Buf (Elt Ideal) ℓ) (g : Dev Cert.Norm2FwdIdeal.nD → PrngReg)
    (m' : (ℓ : Loc Cert.Norm2FwdRefIdeal.nD Cert.Norm2FwdRefIdeal.τ Cert.Norm2FwdRefIdeal.sig) → Buf (Elt Ideal) ℓ) (g' : Dev Cert.Norm2FwdRefIdeal.nD → PrngReg), Pre_Norm2FwdIdeal m →
    (∀ c : Dev Cert.Norm2FwdIdeal.nD,
      m' ((c.tc : Thread Cert.Norm2FwdRefIdeal.nD Cert.Norm2FwdRefIdeal.τ).loc Cert.Norm2FwdRefIdeal.main_arg0) = m ((c.tc : Thread Cert.Norm2FwdIdeal.nD Cert.Norm2FwdIdeal.τ).loc Cert.Norm2FwdIdeal.main_arg0)
      ∧ m' ((c.tc : Thread Cert.Norm2FwdRefIdeal.nD Cert.Norm2FwdRefIdeal.τ).loc Cert.Norm2FwdRefIdeal.main_arg1) = m ((c.tc : Thread Cert.Norm2FwdIdeal.nD Cert.Norm2FwdIdeal.τ).loc Cert.Norm2FwdIdeal.main_arg1)
      ∧ m' ((c.tc : Thread Cert.Norm2FwdRefIdeal.nD Cert.Norm2FwdRefIdeal.τ).loc Cert.Norm2FwdRefIdeal.main_arg2) = m ((c.tc : Thread Cert.Norm2FwdIdeal.nD Cert.Norm2FwdIdeal.τ).loc Cert.Norm2FwdIdeal.main_arg2)) →
    ∃ (v0 : (c : Dev Cert.Norm2FwdIdeal.nD) → Buf (Elt Ideal) ((c.tc : Thread Cert.Norm2FwdIdeal.nD Cert.Norm2FwdIdeal.τ).loc Cert.Norm2FwdIdeal.main_v0_0)) (v1 : (c : Dev Cert.Norm2FwdIdeal.nD) → Buf (Elt Ideal) ((c.tc : Thread Cert.Norm2FwdIdeal.nD Cert.Norm2FwdIdeal.τ).loc Cert.Norm2FwdIdeal.main_v0_1)),
      θ_run (Cert.Norm2FwdIdeal.defs (F := Ideal)) (onTc (τ := Cert.Norm2FwdIdeal.τ) (Cert.Norm2FwdIdeal.main (F := Ideal))) ⟨m, fun _ => 0, g⟩ (fun r => ∀ c : Dev Cert.Norm2FwdIdeal.nD,
          r.2.mem ((c.tc : Thread Cert.Norm2FwdIdeal.nD Cert.Norm2FwdIdeal.τ).loc Cert.Norm2FwdIdeal.main_v0_0) = v0 c
          ∧ r.2.mem ((c.tc : Thread Cert.Norm2FwdIdeal.nD Cert.Norm2FwdIdeal.τ).loc Cert.Norm2FwdIdeal.main_v0_1) = v1 c
          ∧ r.2.mem ((c.tc : Thread Cert.Norm2FwdIdeal.nD Cert.Norm2FwdIdeal.τ).loc Cert.Norm2FwdIdeal.main_arg0) = m ((c.tc : Thread Cert.Norm2FwdIdeal.nD Cert.Norm2FwdIdeal.τ).loc Cert.Norm2FwdIdeal.main_arg0)
          ∧ r.2.mem ((c.tc : Thread Cert.Norm2FwdIdeal.nD Cert.Norm2FwdIdeal.τ).loc Cert.Norm2FwdIdeal.main_arg1) = m ((c.tc : Thread Cert.Norm2FwdIdeal.nD Cert.Norm2FwdIdeal.τ).loc Cert.Norm2FwdIdeal.main_arg1)
          ∧ r.2.mem ((c.tc : Thread Cert.Norm2FwdIdeal.nD Cert.Norm2FwdIdeal.τ).loc Cert.Norm2FwdIdeal.main_arg2) = m ((c.tc : Thread Cert.Norm2FwdIdeal.nD Cert.Norm2FwdIdeal.τ).loc Cert.Norm2FwdIdeal.main_arg2))
      ∧ θ_run (Cert.Norm2FwdRefIdeal.defs (F := Ideal)) (onTc (τ := Cert.Norm2FwdRefIdeal.τ) (Cert.Norm2FwdRefIdeal.main (F := Ideal))) ⟨m', fun _ => 0, g'⟩ (fun r => ∀ c : Dev Cert.Norm2FwdRefIdeal.nD,
          r.2.mem ((c.tc : Thread Cert.Norm2FwdRefIdeal.nD Cert.Norm2FwdRefIdeal.τ).loc Cert.Norm2FwdRefIdeal.main_v0) = v0 c
          ∧ r.2.mem ((c.tc : Thread Cert.Norm2FwdRefIdeal.nD Cert.Norm2FwdRefIdeal.τ).loc Cert.Norm2FwdRefIdeal.main_v15) = v1 c
          ∧ r.2.mem ((c.tc : Thread Cert.Norm2FwdRefIdeal.nD Cert.Norm2FwdRefIdeal.τ).loc Cert.Norm2FwdRefIdeal.main_arg0) = m' ((c.tc : Thread Cert.Norm2FwdRefIdeal.nD Cert.Norm2FwdRefIdeal.τ).loc Cert.Norm2FwdRefIdeal.main_arg0)
          ∧ r.2.mem ((c.tc : Thread Cert.Norm2FwdRefIdeal.nD Cert.Norm2FwdRefIdeal.τ).loc Cert.Norm2FwdRefIdeal.main_arg1) = m' ((c.tc : Thread Cert.Norm2FwdRefIdeal.nD Cert.Norm2FwdRefIdeal.τ).loc Cert.Norm2FwdRefIdeal.main_arg1)
          ∧ r.2.mem ((c.tc : Thread Cert.Norm2FwdRefIdeal.nD Cert.Norm2FwdRefIdeal.τ).loc Cert.Norm2FwdRefIdeal.main_arg2) = m' ((c.tc : Thread Cert.Norm2FwdRefIdeal.nD Cert.Norm2FwdRefIdeal.τ).loc Cert.Norm2FwdRefIdeal.main_arg2))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v17) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2))

def preserves_Shift_ShiftIdeal : Prop :=
  True

def algebraic_ShiftIdeal_ShiftRefIdeal [hShiftIdeal : Cert.ShiftIdeal.Facts] [hShiftRefIdeal : Cert.ShiftRefIdeal.Facts] : Prop :=
  ∀ (m : (ℓ : Loc Cert.ShiftIdeal.nD Cert.ShiftIdeal.τ Cert.ShiftIdeal.sig) → Buf (Elt Ideal) ℓ) (g : Dev Cert.ShiftIdeal.nD → PrngReg)
    (m' : (ℓ : Loc Cert.ShiftRefIdeal.nD Cert.ShiftRefIdeal.τ Cert.ShiftRefIdeal.sig) → Buf (Elt Ideal) ℓ) (g' : Dev Cert.ShiftRefIdeal.nD → PrngReg), Pre_ShiftIdeal m →
    (∀ c : Dev Cert.ShiftIdeal.nD,
      m' ((c.tc : Thread Cert.ShiftRefIdeal.nD Cert.ShiftRefIdeal.τ).loc Cert.ShiftRefIdeal.main_arg0) = m ((c.tc : Thread Cert.ShiftIdeal.nD Cert.ShiftIdeal.τ).loc Cert.ShiftIdeal.main_arg0)
      ∧ m' ((c.tc : Thread Cert.ShiftRefIdeal.nD Cert.ShiftRefIdeal.τ).loc Cert.ShiftRefIdeal.main_arg1) = m ((c.tc : Thread Cert.ShiftIdeal.nD Cert.ShiftIdeal.τ).loc Cert.ShiftIdeal.main_arg1)
      ∧ m' ((c.tc : Thread Cert.ShiftRefIdeal.nD Cert.ShiftRefIdeal.τ).loc Cert.ShiftRefIdeal.main_arg2) = m ((c.tc : Thread Cert.ShiftIdeal.nD Cert.ShiftIdeal.τ).loc Cert.ShiftIdeal.main_arg2)) →
    ∃ (v0 : (c : Dev Cert.ShiftIdeal.nD) → Buf (Elt Ideal) ((c.tc : Thread Cert.ShiftIdeal.nD Cert.ShiftIdeal.τ).loc Cert.ShiftIdeal.main_v0)),
      θ_run (Cert.ShiftIdeal.defs (F := Ideal)) (onTc (τ := Cert.ShiftIdeal.τ) (Cert.ShiftIdeal.main (F := Ideal))) ⟨m, fun _ => 0, g⟩ (fun r => ∀ c : Dev Cert.ShiftIdeal.nD,
          r.2.mem ((c.tc : Thread Cert.ShiftIdeal.nD Cert.ShiftIdeal.τ).loc Cert.ShiftIdeal.main_v0) = v0 c
          ∧ r.2.mem ((c.tc : Thread Cert.ShiftIdeal.nD Cert.ShiftIdeal.τ).loc Cert.ShiftIdeal.main_arg0) = m ((c.tc : Thread Cert.ShiftIdeal.nD Cert.ShiftIdeal.τ).loc Cert.ShiftIdeal.main_arg0)
          ∧ r.2.mem ((c.tc : Thread Cert.ShiftIdeal.nD Cert.ShiftIdeal.τ).loc Cert.ShiftIdeal.main_arg1) = m ((c.tc : Thread Cert.ShiftIdeal.nD Cert.ShiftIdeal.τ).loc Cert.ShiftIdeal.main_arg1)
          ∧ r.2.mem ((c.tc : Thread Cert.ShiftIdeal.nD Cert.ShiftIdeal.τ).loc Cert.ShiftIdeal.main_arg2) = m ((c.tc : Thread Cert.ShiftIdeal.nD Cert.ShiftIdeal.τ).loc Cert.ShiftIdeal.main_arg2))
      ∧ θ_run (Cert.ShiftRefIdeal.defs (F := Ideal)) (onTc (τ := Cert.ShiftRefIdeal.τ) (Cert.ShiftRefIdeal.main (F := Ideal))) ⟨m', fun _ => 0, g'⟩ (fun r => ∀ c : Dev Cert.ShiftRefIdeal.nD,
          r.2.mem ((c.tc : Thread Cert.ShiftRefIdeal.nD Cert.ShiftRefIdeal.τ).loc Cert.ShiftRefIdeal.main_v20) = v0 c
          ∧ r.2.mem ((c.tc : Thread Cert.ShiftRefIdeal.nD Cert.ShiftRefIdeal.τ).loc Cert.ShiftRefIdeal.main_arg0) = m' ((c.tc : Thread Cert.ShiftRefIdeal.nD Cert.ShiftRefIdeal.τ).loc Cert.ShiftRefIdeal.main_arg0)
          ∧ r.2.mem ((c.tc : Thread Cert.ShiftRefIdeal.nD Cert.ShiftRefIdeal.τ).loc Cert.ShiftRefIdeal.main_arg1) = m' ((c.tc : Thread Cert.ShiftRefIdeal.nD Cert.ShiftRefIdeal.τ).loc Cert.ShiftRefIdeal.main_arg1)
          ∧ r.2.mem ((c.tc : Thread Cert.ShiftRefIdeal.nD Cert.ShiftRefIdeal.τ).loc Cert.ShiftRefIdeal.main_arg2) = m' ((c.tc : Thread Cert.ShiftRefIdeal.nD Cert.ShiftRefIdeal.τ).loc Cert.ShiftRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v37) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Total_TotalIdeal : Prop :=
  True

def algebraic_TotalIdeal_TotalRefIdeal [hTotalIdeal : Cert.TotalIdeal.Facts] [hTotalRefIdeal : Cert.TotalRefIdeal.Facts] : Prop :=
  ∀ (m : (ℓ : Loc Cert.TotalIdeal.nD Cert.TotalIdeal.τ Cert.TotalIdeal.sig) → Buf (Elt Ideal) ℓ) (g : Dev Cert.TotalIdeal.nD → PrngReg)
    (m' : (ℓ : Loc Cert.TotalRefIdeal.nD Cert.TotalRefIdeal.τ Cert.TotalRefIdeal.sig) → Buf (Elt Ideal) ℓ) (g' : Dev Cert.TotalRefIdeal.nD → PrngReg), Pre_TotalIdeal m →
    (∀ c : Dev Cert.TotalIdeal.nD,
      m ((c.tc : Thread Cert.TotalIdeal.nD Cert.TotalIdeal.τ).loc Cert.TotalIdeal.main_arg0) = Layout.block ⟨2, ![1, 1]⟩ ⟨2, ![8, 1]⟩ 0 8 c (m' (((0 : Dev Cert.TotalRefIdeal.nD).tc : Thread Cert.TotalRefIdeal.nD Cert.TotalRefIdeal.τ).loc Cert.TotalRefIdeal.main_arg0))) →
    ∃ (v0 : Buf (Elt Ideal) (((0 : Dev Cert.TotalRefIdeal.nD).tc : Thread Cert.TotalRefIdeal.nD Cert.TotalRefIdeal.τ).loc Cert.TotalRefIdeal.main_v0)),
      θ_run (Cert.TotalIdeal.defs (F := Ideal)) (onTc (τ := Cert.TotalIdeal.τ) (Cert.TotalIdeal.main (F := Ideal))) ⟨m, fun _ => 0, g⟩ (fun r => ∀ c : Dev Cert.TotalIdeal.nD,
          r.2.mem ((c.tc : Thread Cert.TotalIdeal.nD Cert.TotalIdeal.τ).loc Cert.TotalIdeal.main_v2) = v0
          ∧ r.2.mem ((c.tc : Thread Cert.TotalIdeal.nD Cert.TotalIdeal.τ).loc Cert.TotalIdeal.main_arg0) = m ((c.tc : Thread Cert.TotalIdeal.nD Cert.TotalIdeal.τ).loc Cert.TotalIdeal.main_arg0))
      ∧ θ_run (Cert.TotalRefIdeal.defs (F := Ideal)) (onTc (τ := Cert.TotalRefIdeal.τ) (Cert.TotalRefIdeal.main (F := Ideal))) ⟨m', fun _ => 0, g'⟩ (fun r =>
          r.2.mem (((0 : Dev Cert.TotalRefIdeal.nD).tc : Thread Cert.TotalRefIdeal.nD Cert.TotalRefIdeal.τ).loc Cert.TotalRefIdeal.main_v0) = v0
          ∧ r.2.mem (((0 : Dev Cert.TotalRefIdeal.nD).tc : Thread Cert.TotalRefIdeal.nD Cert.TotalRefIdeal.τ).loc Cert.TotalRefIdeal.main_arg0) = m' (((0 : Dev Cert.TotalRefIdeal.nD).tc : Thread Cert.TotalRefIdeal.nD Cert.TotalRefIdeal.τ).loc Cert.TotalRefIdeal.main_arg0))

def preserves_ShiftBwd_ShiftBwdIdeal : Prop :=
  True

def algebraic_ShiftBwdIdeal_ShiftBwdRefIdeal_pre_shift_finite [hShiftBwdIdeal : Cert.ShiftBwdIdeal.Facts] [hShiftBwdRefIdeal : Cert.ShiftBwdRefIdeal.Facts] [hPre_shift_finite : Cert.Pre_shift_finite.Facts] : Prop :=
  ∀ (m : (ℓ : Loc Cert.ShiftBwdIdeal.nD Cert.ShiftBwdIdeal.τ Cert.ShiftBwdIdeal.sig) → Buf (Elt Ideal) ℓ) (g : Dev Cert.ShiftBwdIdeal.nD → PrngReg)
    (m' : (ℓ : Loc Cert.ShiftBwdRefIdeal.nD Cert.ShiftBwdRefIdeal.τ Cert.ShiftBwdRefIdeal.sig) → Buf (Elt Ideal) ℓ) (g' : Dev Cert.ShiftBwdRefIdeal.nD → PrngReg), Pre_ShiftBwdIdeal_shift_finite m →
    (∀ c : Dev Cert.ShiftBwdIdeal.nD,
      m' ((c.tc : Thread Cert.ShiftBwdRefIdeal.nD Cert.ShiftBwdRefIdeal.τ).loc Cert.ShiftBwdRefIdeal.main_arg0) = m ((c.tc : Thread Cert.ShiftBwdIdeal.nD Cert.ShiftBwdIdeal.τ).loc Cert.ShiftBwdIdeal.main_arg0)
      ∧ m' ((c.tc : Thread Cert.ShiftBwdRefIdeal.nD Cert.ShiftBwdRefIdeal.τ).loc Cert.ShiftBwdRefIdeal.main_arg1) = m ((c.tc : Thread Cert.ShiftBwdIdeal.nD Cert.ShiftBwdIdeal.τ).loc Cert.ShiftBwdIdeal.main_arg1)
      ∧ m' ((c.tc : Thread Cert.ShiftBwdRefIdeal.nD Cert.ShiftBwdRefIdeal.τ).loc Cert.ShiftBwdRefIdeal.main_arg2) = m ((c.tc : Thread Cert.ShiftBwdIdeal.nD Cert.ShiftBwdIdeal.τ).loc Cert.ShiftBwdIdeal.main_arg2)
      ∧ m' ((c.tc : Thread Cert.ShiftBwdRefIdeal.nD Cert.ShiftBwdRefIdeal.τ).loc Cert.ShiftBwdRefIdeal.main_arg3) = m ((c.tc : Thread Cert.ShiftBwdIdeal.nD Cert.ShiftBwdIdeal.τ).loc Cert.ShiftBwdIdeal.main_arg3)) →
    ∃ (v0 : (c : Dev Cert.ShiftBwdIdeal.nD) → Buf (Elt Ideal) ((c.tc : Thread Cert.ShiftBwdIdeal.nD Cert.ShiftBwdIdeal.τ).loc Cert.ShiftBwdIdeal.main_v0_0)) (v1 : (c : Dev Cert.ShiftBwdIdeal.nD) → Buf (Elt Ideal) ((c.tc : Thread Cert.ShiftBwdIdeal.nD Cert.ShiftBwdIdeal.τ).loc Cert.ShiftBwdIdeal.main_v0_1)) (v2 : (c : Dev Cert.ShiftBwdIdeal.nD) → Buf (Elt Ideal) ((c.tc : Thread Cert.ShiftBwdIdeal.nD Cert.ShiftBwdIdeal.τ).loc Cert.ShiftBwdIdeal.main_v0_2)),
      θ_run (Cert.ShiftBwdIdeal.defs (F := Ideal)) (onTc (τ := Cert.ShiftBwdIdeal.τ) (Cert.ShiftBwdIdeal.main (F := Ideal))) ⟨m, fun _ => 0, g⟩ (fun r => ∀ c : Dev Cert.ShiftBwdIdeal.nD,
          r.2.mem ((c.tc : Thread Cert.ShiftBwdIdeal.nD Cert.ShiftBwdIdeal.τ).loc Cert.ShiftBwdIdeal.main_v0_0) = v0 c
          ∧ r.2.mem ((c.tc : Thread Cert.ShiftBwdIdeal.nD Cert.ShiftBwdIdeal.τ).loc Cert.ShiftBwdIdeal.main_v0_1) = v1 c
          ∧ r.2.mem ((c.tc : Thread Cert.ShiftBwdIdeal.nD Cert.ShiftBwdIdeal.τ).loc Cert.ShiftBwdIdeal.main_v0_2) = v2 c
          ∧ r.2.mem ((c.tc : Thread Cert.ShiftBwdIdeal.nD Cert.ShiftBwdIdeal.τ).loc Cert.ShiftBwdIdeal.main_arg0) = m ((c.tc : Thread Cert.ShiftBwdIdeal.nD Cert.ShiftBwdIdeal.τ).loc Cert.ShiftBwdIdeal.main_arg0)
          ∧ r.2.mem ((c.tc : Thread Cert.ShiftBwdIdeal.nD Cert.ShiftBwdIdeal.τ).loc Cert.ShiftBwdIdeal.main_arg1) = m ((c.tc : Thread Cert.ShiftBwdIdeal.nD Cert.ShiftBwdIdeal.τ).loc Cert.ShiftBwdIdeal.main_arg1)
          ∧ r.2.mem ((c.tc : Thread Cert.ShiftBwdIdeal.nD Cert.ShiftBwdIdeal.τ).loc Cert.ShiftBwdIdeal.main_arg2) = m ((c.tc : Thread Cert.ShiftBwdIdeal.nD Cert.ShiftBwdIdeal.τ).loc Cert.ShiftBwdIdeal.main_arg2)
          ∧ r.2.mem ((c.tc : Thread Cert.ShiftBwdIdeal.nD Cert.ShiftBwdIdeal.τ).loc Cert.ShiftBwdIdeal.main_arg3) = m ((c.tc : Thread Cert.ShiftBwdIdeal.nD Cert.ShiftBwdIdeal.τ).loc Cert.ShiftBwdIdeal.main_arg3))
      ∧ θ_run (Cert.ShiftBwdRefIdeal.defs (F := Ideal)) (onTc (τ := Cert.ShiftBwdRefIdeal.τ) (Cert.ShiftBwdRefIdeal.main (F := Ideal))) ⟨m', fun _ => 0, g'⟩ (fun r => ∀ c : Dev Cert.ShiftBwdRefIdeal.nD,
          r.2.mem ((c.tc : Thread Cert.ShiftBwdRefIdeal.nD Cert.ShiftBwdRefIdeal.τ).loc Cert.ShiftBwdRefIdeal.main_v50) = v0 c
          ∧ r.2.mem ((c.tc : Thread Cert.ShiftBwdRefIdeal.nD Cert.ShiftBwdRefIdeal.τ).loc Cert.ShiftBwdRefIdeal.main_v43) = v1 c
          ∧ r.2.mem ((c.tc : Thread Cert.ShiftBwdRefIdeal.nD Cert.ShiftBwdRefIdeal.τ).loc Cert.ShiftBwdRefIdeal.main_v30) = v2 c
          ∧ r.2.mem ((c.tc : Thread Cert.ShiftBwdRefIdeal.nD Cert.ShiftBwdRefIdeal.τ).loc Cert.ShiftBwdRefIdeal.main_arg0) = m' ((c.tc : Thread Cert.ShiftBwdRefIdeal.nD Cert.ShiftBwdRefIdeal.τ).loc Cert.ShiftBwdRefIdeal.main_arg0)
          ∧ r.2.mem ((c.tc : Thread Cert.ShiftBwdRefIdeal.nD Cert.ShiftBwdRefIdeal.τ).loc Cert.ShiftBwdRefIdeal.main_arg1) = m' ((c.tc : Thread Cert.ShiftBwdRefIdeal.nD Cert.ShiftBwdRefIdeal.τ).loc Cert.ShiftBwdRefIdeal.main_arg1)
          ∧ r.2.mem ((c.tc : Thread Cert.ShiftBwdRefIdeal.nD Cert.ShiftBwdRefIdeal.τ).loc Cert.ShiftBwdRefIdeal.main_arg2) = m' ((c.tc : Thread Cert.ShiftBwdRefIdeal.nD Cert.ShiftBwdRefIdeal.τ).loc Cert.ShiftBwdRefIdeal.main_arg2)
          ∧ r.2.mem ((c.tc : Thread Cert.ShiftBwdRefIdeal.nD Cert.ShiftBwdRefIdeal.τ).loc Cert.ShiftBwdRefIdeal.main_arg3) = m' ((c.tc : Thread Cert.ShiftBwdRefIdeal.nD Cert.ShiftBwdRefIdeal.τ).loc Cert.ShiftBwdRefIdeal.main_arg3))

def preserves_ConvBwd_ConvBwdIdeal : Prop :=
  True

def algebraic_ConvBwdIdeal_ConvBwdRefIdeal_pre_conv_finite [hConvBwdIdeal : Cert.ConvBwdIdeal.Facts] [hConvBwdRefIdeal : Cert.ConvBwdRefIdeal.Facts] [hPre_conv_finite : Cert.Pre_conv_finite.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal_conv_finite m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)
      ∧ m' ((c.tc : Thread Cert.ConvBwdRefIdeal.nD Cert.ConvBwdRefIdeal.τ).loc Cert.ConvBwdRefIdeal.main_arg3) = m ((c.tc : Thread Cert.ConvBwdIdeal.nD Cert.ConvBwdIdeal.τ).loc Cert.ConvBwdIdeal.main_arg3)) →
    ∃ (v0 : (c : Dev Cert.ConvBwdIdeal.nD) → Buf (Elt Ideal) ((c.tc : Thread Cert.ConvBwdIdeal.nD Cert.ConvBwdIdeal.τ).loc Cert.ConvBwdIdeal.main_v0_0)) (v1 : (c : Dev Cert.ConvBwdIdeal.nD) → Buf (Elt Ideal) ((c.tc : Thread Cert.ConvBwdIdeal.nD Cert.ConvBwdIdeal.τ).loc Cert.ConvBwdIdeal.main_v0_1)) (v2 : (c : Dev Cert.ConvBwdIdeal.nD) → Buf (Elt Ideal) ((c.tc : Thread Cert.ConvBwdIdeal.nD Cert.ConvBwdIdeal.τ).loc Cert.ConvBwdIdeal.main_v0_2)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v0_0) = v0 c
          ∧ r.2.mem ((c.tc : Thread Cert.ConvBwdIdeal.nD Cert.ConvBwdIdeal.τ).loc Cert.ConvBwdIdeal.main_v0_1) = v1 c
          ∧ r.2.mem ((c.tc : Thread Cert.ConvBwdIdeal.nD Cert.ConvBwdIdeal.τ).loc Cert.ConvBwdIdeal.main_v0_2) = v2 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v88) = v0 c
          ∧ r.2.mem ((c.tc : Thread Cert.ConvBwdRefIdeal.nD Cert.ConvBwdRefIdeal.τ).loc Cert.ConvBwdRefIdeal.main_v86) = v1 c
          ∧ r.2.mem ((c.tc : Thread Cert.ConvBwdRefIdeal.nD Cert.ConvBwdRefIdeal.τ).loc Cert.ConvBwdRefIdeal.main_v52) = v2 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2)
          ∧ r.2.mem ((c.tc : Thread Cert.ConvBwdRefIdeal.nD Cert.ConvBwdRefIdeal.τ).loc Cert.ConvBwdRefIdeal.main_arg3) = m' ((c.tc : Thread Cert.ConvBwdRefIdeal.nD Cert.ConvBwdRefIdeal.τ).loc Cert.ConvBwdRefIdeal.main_arg3))

def preserves_Post_PostIdeal : Prop :=
  True

def algebraic_PostIdeal_PostRefIdeal_pre_post_finite [hPostIdeal : Cert.PostIdeal.Facts] [hPostRefIdeal : Cert.PostRefIdeal.Facts] [hPre_post_finite : Cert.Pre_post_finite.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal_post_finite m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)) →
    ∃ (v0 : (c : Dev Cert.PostIdeal.nD) → Buf (Elt Ideal) ((c.tc : Thread Cert.PostIdeal.nD Cert.PostIdeal.τ).loc Cert.PostIdeal.main_v0_0)) (v1 : (c : Dev Cert.PostIdeal.nD) → Buf (Elt Ideal) ((c.tc : Thread Cert.PostIdeal.nD Cert.PostIdeal.τ).loc Cert.PostIdeal.main_v0_1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v0_0) = v0 c
          ∧ r.2.mem ((c.tc : Thread Cert.PostIdeal.nD Cert.PostIdeal.τ).loc Cert.PostIdeal.main_v0_1) = v1 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v61) = v0 c
          ∧ r.2.mem ((c.tc : Thread Cert.PostRefIdeal.nD Cert.PostRefIdeal.τ).loc Cert.PostRefIdeal.main_v64) = v1 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9))

def preserves_Decay_DecayIdeal : Prop :=
  True

def algebraic_DecayIdeal_DecayRefIdeal_pre_pre_finite [hDecayIdeal : Cert.DecayIdeal.Facts] [hDecayRefIdeal : Cert.DecayRefIdeal.Facts] [hPre_pre_finite : Cert.Pre_pre_finite.Facts] : Prop :=
  ∀ (m : (ℓ : Loc Cert.DecayIdeal.nD Cert.DecayIdeal.τ Cert.DecayIdeal.sig) → Buf (Elt Ideal) ℓ) (g : Dev Cert.DecayIdeal.nD → PrngReg)
    (m' : (ℓ : Loc Cert.DecayRefIdeal.nD Cert.DecayRefIdeal.τ Cert.DecayRefIdeal.sig) → Buf (Elt Ideal) ℓ) (g' : Dev Cert.DecayRefIdeal.nD → PrngReg), Pre_DecayIdeal_pre_finite m →
    (∀ c : Dev Cert.DecayIdeal.nD,
      m' ((c.tc : Thread Cert.DecayRefIdeal.nD Cert.DecayRefIdeal.τ).loc Cert.DecayRefIdeal.main_arg0) = m ((c.tc : Thread Cert.DecayIdeal.nD Cert.DecayIdeal.τ).loc Cert.DecayIdeal.main_arg0)
      ∧ m' ((c.tc : Thread Cert.DecayRefIdeal.nD Cert.DecayRefIdeal.τ).loc Cert.DecayRefIdeal.main_arg1) = m ((c.tc : Thread Cert.DecayIdeal.nD Cert.DecayIdeal.τ).loc Cert.DecayIdeal.main_arg1)
      ∧ m' ((c.tc : Thread Cert.DecayRefIdeal.nD Cert.DecayRefIdeal.τ).loc Cert.DecayRefIdeal.main_arg2) = m ((c.tc : Thread Cert.DecayIdeal.nD Cert.DecayIdeal.τ).loc Cert.DecayIdeal.main_arg2)
      ∧ m' ((c.tc : Thread Cert.DecayRefIdeal.nD Cert.DecayRefIdeal.τ).loc Cert.DecayRefIdeal.main_arg3) = m ((c.tc : Thread Cert.DecayIdeal.nD Cert.DecayIdeal.τ).loc Cert.DecayIdeal.main_arg3)
      ∧ m' ((c.tc : Thread Cert.DecayRefIdeal.nD Cert.DecayRefIdeal.τ).loc Cert.DecayRefIdeal.main_arg4) = m ((c.tc : Thread Cert.DecayIdeal.nD Cert.DecayIdeal.τ).loc Cert.DecayIdeal.main_arg4)
      ∧ m' ((c.tc : Thread Cert.DecayRefIdeal.nD Cert.DecayRefIdeal.τ).loc Cert.DecayRefIdeal.main_arg5) = m ((c.tc : Thread Cert.DecayIdeal.nD Cert.DecayIdeal.τ).loc Cert.DecayIdeal.main_arg5)
      ∧ m' ((c.tc : Thread Cert.DecayRefIdeal.nD Cert.DecayRefIdeal.τ).loc Cert.DecayRefIdeal.main_arg6) = m ((c.tc : Thread Cert.DecayIdeal.nD Cert.DecayIdeal.τ).loc Cert.DecayIdeal.main_arg6)
      ∧ m' ((c.tc : Thread Cert.DecayRefIdeal.nD Cert.DecayRefIdeal.τ).loc Cert.DecayRefIdeal.main_arg7) = m ((c.tc : Thread Cert.DecayIdeal.nD Cert.DecayIdeal.τ).loc Cert.DecayIdeal.main_arg7)
      ∧ m' ((c.tc : Thread Cert.DecayRefIdeal.nD Cert.DecayRefIdeal.τ).loc Cert.DecayRefIdeal.main_arg8) = m ((c.tc : Thread Cert.DecayIdeal.nD Cert.DecayIdeal.τ).loc Cert.DecayIdeal.main_arg8)
      ∧ m' ((c.tc : Thread Cert.DecayRefIdeal.nD Cert.DecayRefIdeal.τ).loc Cert.DecayRefIdeal.main_arg9) = m ((c.tc : Thread Cert.DecayIdeal.nD Cert.DecayIdeal.τ).loc Cert.DecayIdeal.main_arg9)) →
    ∃ (v0 : (c : Dev Cert.DecayIdeal.nD) → Buf (Elt Ideal) ((c.tc : Thread Cert.DecayIdeal.nD Cert.DecayIdeal.τ).loc Cert.DecayIdeal.main_v9_0)) (v1 : (c : Dev Cert.DecayIdeal.nD) → Buf (Elt Ideal) ((c.tc : Thread Cert.DecayIdeal.nD Cert.DecayIdeal.τ).loc Cert.DecayIdeal.main_v9_1)) (v2 : (c : Dev Cert.DecayIdeal.nD) → Buf (Elt Ideal) ((c.tc : Thread Cert.DecayIdeal.nD Cert.DecayIdeal.τ).loc Cert.DecayIdeal.main_v9_2)) (v3 : (c : Dev Cert.DecayIdeal.nD) → Buf (Elt Ideal) ((c.tc : Thread Cert.DecayIdeal.nD Cert.DecayIdeal.τ).loc Cert.DecayIdeal.main_v9_3)) (v4 : (c : Dev Cert.DecayIdeal.nD) → Buf (Elt Ideal) ((c.tc : Thread Cert.DecayIdeal.nD Cert.DecayIdeal.τ).loc Cert.DecayIdeal.main_v9_4)) (v5 : (c : Dev Cert.DecayIdeal.nD) → Buf (Elt Ideal) ((c.tc : Thread Cert.DecayIdeal.nD Cert.DecayIdeal.τ).loc Cert.DecayIdeal.main_v9_5)),
      θ_run (Cert.DecayIdeal.defs (F := Ideal)) (onTc (τ := Cert.DecayIdeal.τ) (Cert.DecayIdeal.main (F := Ideal))) ⟨m, fun _ => 0, g⟩ (fun r => ∀ c : Dev Cert.DecayIdeal.nD,
          r.2.mem ((c.tc : Thread Cert.DecayIdeal.nD Cert.DecayIdeal.τ).loc Cert.DecayIdeal.main_v9_0) = v0 c
          ∧ r.2.mem ((c.tc : Thread Cert.DecayIdeal.nD Cert.DecayIdeal.τ).loc Cert.DecayIdeal.main_v9_1) = v1 c
          ∧ r.2.mem ((c.tc : Thread Cert.DecayIdeal.nD Cert.DecayIdeal.τ).loc Cert.DecayIdeal.main_v9_2) = v2 c
          ∧ r.2.mem ((c.tc : Thread Cert.DecayIdeal.nD Cert.DecayIdeal.τ).loc Cert.DecayIdeal.main_v9_3) = v3 c
          ∧ r.2.mem ((c.tc : Thread Cert.DecayIdeal.nD Cert.DecayIdeal.τ).loc Cert.DecayIdeal.main_v9_4) = v4 c
          ∧ r.2.mem ((c.tc : Thread Cert.DecayIdeal.nD Cert.DecayIdeal.τ).loc Cert.DecayIdeal.main_v9_5) = v5 c
          ∧ r.2.mem ((c.tc : Thread Cert.DecayIdeal.nD Cert.DecayIdeal.τ).loc Cert.DecayIdeal.main_arg0) = m ((c.tc : Thread Cert.DecayIdeal.nD Cert.DecayIdeal.τ).loc Cert.DecayIdeal.main_arg0)
          ∧ r.2.mem ((c.tc : Thread Cert.DecayIdeal.nD Cert.DecayIdeal.τ).loc Cert.DecayIdeal.main_arg1) = m ((c.tc : Thread Cert.DecayIdeal.nD Cert.DecayIdeal.τ).loc Cert.DecayIdeal.main_arg1)
          ∧ r.2.mem ((c.tc : Thread Cert.DecayIdeal.nD Cert.DecayIdeal.τ).loc Cert.DecayIdeal.main_arg2) = m ((c.tc : Thread Cert.DecayIdeal.nD Cert.DecayIdeal.τ).loc Cert.DecayIdeal.main_arg2)
          ∧ r.2.mem ((c.tc : Thread Cert.DecayIdeal.nD Cert.DecayIdeal.τ).loc Cert.DecayIdeal.main_arg3) = m ((c.tc : Thread Cert.DecayIdeal.nD Cert.DecayIdeal.τ).loc Cert.DecayIdeal.main_arg3)
          ∧ r.2.mem ((c.tc : Thread Cert.DecayIdeal.nD Cert.DecayIdeal.τ).loc Cert.DecayIdeal.main_arg4) = m ((c.tc : Thread Cert.DecayIdeal.nD Cert.DecayIdeal.τ).loc Cert.DecayIdeal.main_arg4)
          ∧ r.2.mem ((c.tc : Thread Cert.DecayIdeal.nD Cert.DecayIdeal.τ).loc Cert.DecayIdeal.main_arg5) = m ((c.tc : Thread Cert.DecayIdeal.nD Cert.DecayIdeal.τ).loc Cert.DecayIdeal.main_arg5)
          ∧ r.2.mem ((c.tc : Thread Cert.DecayIdeal.nD Cert.DecayIdeal.τ).loc Cert.DecayIdeal.main_arg6) = m ((c.tc : Thread Cert.DecayIdeal.nD Cert.DecayIdeal.τ).loc Cert.DecayIdeal.main_arg6)
          ∧ r.2.mem ((c.tc : Thread Cert.DecayIdeal.nD Cert.DecayIdeal.τ).loc Cert.DecayIdeal.main_arg7) = m ((c.tc : Thread Cert.DecayIdeal.nD Cert.DecayIdeal.τ).loc Cert.DecayIdeal.main_arg7)
          ∧ r.2.mem ((c.tc : Thread Cert.DecayIdeal.nD Cert.DecayIdeal.τ).loc Cert.DecayIdeal.main_arg8) = m ((c.tc : Thread Cert.DecayIdeal.nD Cert.DecayIdeal.τ).loc Cert.DecayIdeal.main_arg8)
          ∧ r.2.mem ((c.tc : Thread Cert.DecayIdeal.nD Cert.DecayIdeal.τ).loc Cert.DecayIdeal.main_arg9) = m ((c.tc : Thread Cert.DecayIdeal.nD Cert.DecayIdeal.τ).loc Cert.DecayIdeal.main_arg9))
      ∧ θ_run (Cert.DecayRefIdeal.defs (F := Ideal)) (onTc (τ := Cert.DecayRefIdeal.τ) (Cert.DecayRefIdeal.main (F := Ideal))) ⟨m', fun _ => 0, g'⟩ (fun r => ∀ c : Dev Cert.DecayRefIdeal.nD,
          r.2.mem ((c.tc : Thread Cert.DecayRefIdeal.nD Cert.DecayRefIdeal.τ).loc Cert.DecayRefIdeal.main_v57) = v0 c
          ∧ r.2.mem ((c.tc : Thread Cert.DecayRefIdeal.nD Cert.DecayRefIdeal.τ).loc Cert.DecayRefIdeal.main_v70) = v1 c
          ∧ r.2.mem ((c.tc : Thread Cert.DecayRefIdeal.nD Cert.DecayRefIdeal.τ).loc Cert.DecayRefIdeal.main_v44) = v2 c
          ∧ r.2.mem ((c.tc : Thread Cert.DecayRefIdeal.nD Cert.DecayRefIdeal.τ).loc Cert.DecayRefIdeal.main_v72) = v3 c
          ∧ r.2.mem ((c.tc : Thread Cert.DecayRefIdeal.nD Cert.DecayRefIdeal.τ).loc Cert.DecayRefIdeal.main_v75) = v4 c
          ∧ r.2.mem ((c.tc : Thread Cert.DecayRefIdeal.nD Cert.DecayRefIdeal.τ).loc Cert.DecayRefIdeal.main_v22) = v5 c
          ∧ r.2.mem ((c.tc : Thread Cert.DecayRefIdeal.nD Cert.DecayRefIdeal.τ).loc Cert.DecayRefIdeal.main_arg0) = m' ((c.tc : Thread Cert.DecayRefIdeal.nD Cert.DecayRefIdeal.τ).loc Cert.DecayRefIdeal.main_arg0)
          ∧ r.2.mem ((c.tc : Thread Cert.DecayRefIdeal.nD Cert.DecayRefIdeal.τ).loc Cert.DecayRefIdeal.main_arg1) = m' ((c.tc : Thread Cert.DecayRefIdeal.nD Cert.DecayRefIdeal.τ).loc Cert.DecayRefIdeal.main_arg1)
          ∧ r.2.mem ((c.tc : Thread Cert.DecayRefIdeal.nD Cert.DecayRefIdeal.τ).loc Cert.DecayRefIdeal.main_arg2) = m' ((c.tc : Thread Cert.DecayRefIdeal.nD Cert.DecayRefIdeal.τ).loc Cert.DecayRefIdeal.main_arg2)
          ∧ r.2.mem ((c.tc : Thread Cert.DecayRefIdeal.nD Cert.DecayRefIdeal.τ).loc Cert.DecayRefIdeal.main_arg3) = m' ((c.tc : Thread Cert.DecayRefIdeal.nD Cert.DecayRefIdeal.τ).loc Cert.DecayRefIdeal.main_arg3)
          ∧ r.2.mem ((c.tc : Thread Cert.DecayRefIdeal.nD Cert.DecayRefIdeal.τ).loc Cert.DecayRefIdeal.main_arg4) = m' ((c.tc : Thread Cert.DecayRefIdeal.nD Cert.DecayRefIdeal.τ).loc Cert.DecayRefIdeal.main_arg4)
          ∧ r.2.mem ((c.tc : Thread Cert.DecayRefIdeal.nD Cert.DecayRefIdeal.τ).loc Cert.DecayRefIdeal.main_arg5) = m' ((c.tc : Thread Cert.DecayRefIdeal.nD Cert.DecayRefIdeal.τ).loc Cert.DecayRefIdeal.main_arg5)
          ∧ r.2.mem ((c.tc : Thread Cert.DecayRefIdeal.nD Cert.DecayRefIdeal.τ).loc Cert.DecayRefIdeal.main_arg6) = m' ((c.tc : Thread Cert.DecayRefIdeal.nD Cert.DecayRefIdeal.τ).loc Cert.DecayRefIdeal.main_arg6)
          ∧ r.2.mem ((c.tc : Thread Cert.DecayRefIdeal.nD Cert.DecayRefIdeal.τ).loc Cert.DecayRefIdeal.main_arg7) = m' ((c.tc : Thread Cert.DecayRefIdeal.nD Cert.DecayRefIdeal.τ).loc Cert.DecayRefIdeal.main_arg7)
          ∧ r.2.mem ((c.tc : Thread Cert.DecayRefIdeal.nD Cert.DecayRefIdeal.τ).loc Cert.DecayRefIdeal.main_arg8) = m' ((c.tc : Thread Cert.DecayRefIdeal.nD Cert.DecayRefIdeal.τ).loc Cert.DecayRefIdeal.main_arg8)
          ∧ r.2.mem ((c.tc : Thread Cert.DecayRefIdeal.nD Cert.DecayRefIdeal.τ).loc Cert.DecayRefIdeal.main_arg9) = m' ((c.tc : Thread Cert.DecayRefIdeal.nD Cert.DecayRefIdeal.τ).loc Cert.DecayRefIdeal.main_arg9))

def Claim : Prop :=
  ∃ (hUp : Cert.Up.Facts) (hUpIdeal : Cert.UpIdeal.Facts) (hUpRefIdeal : Cert.UpRefIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hDown : Cert.Down.Facts) (hDownIdeal : Cert.DownIdeal.Facts) (hDownRefIdeal : Cert.DownRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hOut : Cert.Out.Facts) (hOutIdeal : Cert.OutIdeal.Facts) (hOutRefIdeal : Cert.OutRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hProj : Cert.Proj.Facts) (hProjIdeal : Cert.ProjIdeal.Facts) (hProjRefIdeal : Cert.ProjRefIdeal.Facts) (hProjDx : Cert.ProjDx.Facts) (hProjDxIdeal : Cert.ProjDxIdeal.Facts) (hProjDxRefIdeal : Cert.ProjDxRefIdeal.Facts) (hProjDw : Cert.ProjDw.Facts) (hProjDwIdeal : Cert.ProjDwIdeal.Facts) (hProjDwRefIdeal : Cert.ProjDwRefIdeal.Facts) (hAdamWIn : Cert.AdamWIn.Facts) (hAdamWInIdeal : Cert.AdamWInIdeal.Facts) (hAdamWInRefIdeal : Cert.AdamWInRefIdeal.Facts) (hAdamWa2 : Cert.AdamWa2.Facts) (hAdamWa2Ideal : Cert.AdamWa2Ideal.Facts) (hAdamWa2RefIdeal : Cert.AdamWa2RefIdeal.Facts) (hAdamProj : Cert.AdamProj.Facts) (hAdamProjIdeal : Cert.AdamProjIdeal.Facts) (hAdamProjRefIdeal : Cert.AdamProjRefIdeal.Facts) (hAdamW2 : Cert.AdamW2.Facts) (hAdamW2Ideal : Cert.AdamW2Ideal.Facts) (hAdamW2RefIdeal : Cert.AdamW2RefIdeal.Facts) (hAdamG2 : Cert.AdamG2.Facts) (hAdamG2Ideal : Cert.AdamG2Ideal.Facts) (hAdamG2RefIdeal : Cert.AdamG2RefIdeal.Facts) (hAdamOut : Cert.AdamOut.Facts) (hAdamOutIdeal : Cert.AdamOutIdeal.Facts) (hAdamOutRefIdeal : Cert.AdamOutRefIdeal.Facts) (hAdamUp : Cert.AdamUp.Facts) (hAdamUpIdeal : Cert.AdamUpIdeal.Facts) (hAdamUpRefIdeal : Cert.AdamUpRefIdeal.Facts) (hAdamConv : Cert.AdamConv.Facts) (hAdamConvIdeal : Cert.AdamConvIdeal.Facts) (hAdamConvRefIdeal : Cert.AdamConvRefIdeal.Facts) (hAdamDown : Cert.AdamDown.Facts) (hAdamDownIdeal : Cert.AdamDownIdeal.Facts) (hAdamDownRefIdeal : Cert.AdamDownRefIdeal.Facts) (hAdamRep : Cert.AdamRep.Facts) (hAdamRepIdeal : Cert.AdamRepIdeal.Facts) (hAdamRepRefIdeal : Cert.AdamRepRefIdeal.Facts) (hNorm1 : Cert.Norm1.Facts) (hNorm1Ideal : Cert.Norm1Ideal.Facts) (hNorm1RefIdeal : Cert.Norm1RefIdeal.Facts) (hNorm2 : Cert.Norm2.Facts) (hNorm2Ideal : Cert.Norm2Ideal.Facts) (hNorm2RefIdeal : Cert.Norm2RefIdeal.Facts) (hMerge : Cert.Merge.Facts) (hMergeIdeal : Cert.MergeIdeal.Facts) (hMergeRefIdeal : Cert.MergeRefIdeal.Facts) (hLoss : Cert.Loss.Facts) (hLossIdeal : Cert.LossIdeal.Facts) (hLossRefIdeal : Cert.LossRefIdeal.Facts) (hNorm1Fwd : Cert.Norm1Fwd.Facts) (hNorm1FwdIdeal : Cert.Norm1FwdIdeal.Facts) (hNorm1FwdRefIdeal : Cert.Norm1FwdRefIdeal.Facts) (hNorm2Fwd : Cert.Norm2Fwd.Facts) (hNorm2FwdIdeal : Cert.Norm2FwdIdeal.Facts) (hNorm2FwdRefIdeal : Cert.Norm2FwdRefIdeal.Facts) (hMergeFwd : Cert.MergeFwd.Facts) (hMergeFwdIdeal : Cert.MergeFwdIdeal.Facts) (hMergeFwdRefIdeal : Cert.MergeFwdRefIdeal.Facts) (hShift : Cert.Shift.Facts) (hShiftIdeal : Cert.ShiftIdeal.Facts) (hShiftRefIdeal : Cert.ShiftRefIdeal.Facts) (hConv : Cert.Conv.Facts) (hConvIdeal : Cert.ConvIdeal.Facts) (hConvRefIdeal : Cert.ConvRefIdeal.Facts) (hTotal : Cert.Total.Facts) (hTotalIdeal : Cert.TotalIdeal.Facts) (hTotalRefIdeal : Cert.TotalRefIdeal.Facts) (hShiftBwd : Cert.ShiftBwd.Facts) (hShiftBwdIdeal : Cert.ShiftBwdIdeal.Facts) (hShiftBwdRefIdeal : Cert.ShiftBwdRefIdeal.Facts) (hConvBwd : Cert.ConvBwd.Facts) (hConvBwdIdeal : Cert.ConvBwdIdeal.Facts) (hConvBwdRefIdeal : Cert.ConvBwdRefIdeal.Facts) (hPost : Cert.Post.Facts) (hPostIdeal : Cert.PostIdeal.Facts) (hPostRefIdeal : Cert.PostRefIdeal.Facts) (hDecay : Cert.Decay.Facts) (hDecayIdeal : Cert.DecayIdeal.Facts) (hDecayRefIdeal : Cert.DecayRefIdeal.Facts) (hPre_shift_finite : Cert.Pre_shift_finite.Facts) (hPre_conv_finite : Cert.Pre_conv_finite.Facts) (hPre_post_finite : Cert.Pre_post_finite.Facts) (hPre_pre_finite : Cert.Pre_pre_finite.Facts),
    quiescent_Up (hUp := hUp)
    ∧ quiescent_UpIdeal (hUpIdeal := hUpIdeal)
    ∧ quiescent_UpRefIdeal (hUpRefIdeal := hUpRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_Down (hDown := hDown)
    ∧ quiescent_DownIdeal (hDownIdeal := hDownIdeal)
    ∧ quiescent_DownRefIdeal (hDownRefIdeal := hDownRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_Out (hOut := hOut)
    ∧ quiescent_OutIdeal (hOutIdeal := hOutIdeal)
    ∧ quiescent_OutRefIdeal (hOutRefIdeal := hOutRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_Proj (hProj := hProj)
    ∧ quiescent_ProjIdeal (hProjIdeal := hProjIdeal)
    ∧ quiescent_ProjRefIdeal (hProjRefIdeal := hProjRefIdeal)
    ∧ quiescent_ProjDx (hProjDx := hProjDx)
    ∧ quiescent_ProjDxIdeal (hProjDxIdeal := hProjDxIdeal)
    ∧ quiescent_ProjDxRefIdeal (hProjDxRefIdeal := hProjDxRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_AdamWIn (hAdamWIn := hAdamWIn)
    ∧ quiescent_AdamWInIdeal (hAdamWInIdeal := hAdamWInIdeal)
    ∧ quiescent_AdamWInRefIdeal (hAdamWInRefIdeal := hAdamWInRefIdeal)
    ∧ quiescent_AdamWa2 (hAdamWa2 := hAdamWa2)
    ∧ quiescent_AdamWa2Ideal (hAdamWa2Ideal := hAdamWa2Ideal)
    ∧ quiescent_AdamWa2RefIdeal (hAdamWa2RefIdeal := hAdamWa2RefIdeal)
    ∧ quiescent_AdamProj (hAdamProj := hAdamProj)
    ∧ quiescent_AdamProjIdeal (hAdamProjIdeal := hAdamProjIdeal)
    ∧ quiescent_AdamProjRefIdeal (hAdamProjRefIdeal := hAdamProjRefIdeal)
    ∧ quiescent_AdamW2 (hAdamW2 := hAdamW2)
    ∧ quiescent_AdamW2Ideal (hAdamW2Ideal := hAdamW2Ideal)
    ∧ quiescent_AdamW2RefIdeal (hAdamW2RefIdeal := hAdamW2RefIdeal)
    ∧ quiescent_AdamG2 (hAdamG2 := hAdamG2)
    ∧ quiescent_AdamG2Ideal (hAdamG2Ideal := hAdamG2Ideal)
    ∧ quiescent_AdamG2RefIdeal (hAdamG2RefIdeal := hAdamG2RefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamRep (hAdamRep := hAdamRep)
    ∧ quiescent_AdamRepIdeal (hAdamRepIdeal := hAdamRepIdeal)
    ∧ quiescent_AdamRepRefIdeal (hAdamRepRefIdeal := hAdamRepRefIdeal)
    ∧ quiescent_Norm1 (hNorm1 := hNorm1)
    ∧ quiescent_Norm1Ideal (hNorm1Ideal := hNorm1Ideal)
    ∧ quiescent_Norm1RefIdeal (hNorm1RefIdeal := hNorm1RefIdeal)
    ∧ quiescent_Norm2 (hNorm2 := hNorm2)
    ∧ quiescent_Norm2Ideal (hNorm2Ideal := hNorm2Ideal)
    ∧ quiescent_Norm2RefIdeal (hNorm2RefIdeal := hNorm2RefIdeal)
    ∧ quiescent_Merge (hMerge := hMerge)
    ∧ quiescent_MergeIdeal (hMergeIdeal := hMergeIdeal)
    ∧ quiescent_MergeRefIdeal (hMergeRefIdeal := hMergeRefIdeal)
    ∧ quiescent_Loss (hLoss := hLoss)
    ∧ quiescent_LossIdeal (hLossIdeal := hLossIdeal)
    ∧ quiescent_LossRefIdeal (hLossRefIdeal := hLossRefIdeal)
    ∧ quiescent_Norm1Fwd (hNorm1Fwd := hNorm1Fwd)
    ∧ quiescent_Norm1FwdIdeal (hNorm1FwdIdeal := hNorm1FwdIdeal)
    ∧ quiescent_Norm1FwdRefIdeal (hNorm1FwdRefIdeal := hNorm1FwdRefIdeal)
    ∧ quiescent_Norm2Fwd (hNorm2Fwd := hNorm2Fwd)
    ∧ quiescent_Norm2FwdIdeal (hNorm2FwdIdeal := hNorm2FwdIdeal)
    ∧ quiescent_Norm2FwdRefIdeal (hNorm2FwdRefIdeal := hNorm2FwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_Shift (hShift := hShift)
    ∧ quiescent_ShiftIdeal (hShiftIdeal := hShiftIdeal)
    ∧ quiescent_ShiftRefIdeal (hShiftRefIdeal := hShiftRefIdeal)
    ∧ quiescent_Conv (hConv := hConv)
    ∧ quiescent_ConvIdeal (hConvIdeal := hConvIdeal)
    ∧ quiescent_ConvRefIdeal (hConvRefIdeal := hConvRefIdeal)
    ∧ quiescent_Total (hTotal := hTotal)
    ∧ quiescent_TotalIdeal (hTotalIdeal := hTotalIdeal)
    ∧ quiescent_TotalRefIdeal (hTotalRefIdeal := hTotalRefIdeal)
    ∧ quiescent_ShiftBwd (hShiftBwd := hShiftBwd)
    ∧ quiescent_ShiftBwdIdeal (hShiftBwdIdeal := hShiftBwdIdeal)
    ∧ quiescent_ShiftBwdIdeal_pre_shift_finite (hShiftBwdIdeal := hShiftBwdIdeal) (hPre_shift_finite := hPre_shift_finite)
    ∧ quiescent_ShiftBwdRefIdeal (hShiftBwdRefIdeal := hShiftBwdRefIdeal)
    ∧ quiescent_ShiftBwdRefIdeal_pre_shift_finite (hShiftBwdRefIdeal := hShiftBwdRefIdeal) (hPre_shift_finite := hPre_shift_finite)
    ∧ quiescent_ConvBwd (hConvBwd := hConvBwd)
    ∧ quiescent_ConvBwdIdeal (hConvBwdIdeal := hConvBwdIdeal)
    ∧ quiescent_ConvBwdIdeal_pre_conv_finite (hConvBwdIdeal := hConvBwdIdeal) (hPre_conv_finite := hPre_conv_finite)
    ∧ quiescent_ConvBwdRefIdeal (hConvBwdRefIdeal := hConvBwdRefIdeal)
    ∧ quiescent_ConvBwdRefIdeal_pre_conv_finite (hConvBwdRefIdeal := hConvBwdRefIdeal) (hPre_conv_finite := hPre_conv_finite)
    ∧ quiescent_Post (hPost := hPost)
    ∧ quiescent_PostIdeal (hPostIdeal := hPostIdeal)
    ∧ quiescent_PostIdeal_pre_post_finite (hPostIdeal := hPostIdeal) (hPre_post_finite := hPre_post_finite)
    ∧ quiescent_PostRefIdeal (hPostRefIdeal := hPostRefIdeal)
    ∧ quiescent_PostRefIdeal_pre_post_finite (hPostRefIdeal := hPostRefIdeal) (hPre_post_finite := hPre_post_finite)
    ∧ quiescent_Decay (hDecay := hDecay)
    ∧ quiescent_DecayIdeal (hDecayIdeal := hDecayIdeal)
    ∧ quiescent_DecayIdeal_pre_pre_finite (hDecayIdeal := hDecayIdeal) (hPre_pre_finite := hPre_pre_finite)
    ∧ quiescent_DecayRefIdeal (hDecayRefIdeal := hDecayRefIdeal)
    ∧ quiescent_DecayRefIdeal_pre_pre_finite (hDecayRefIdeal := hDecayRefIdeal) (hPre_pre_finite := hPre_pre_finite)
    ∧ preserves_Up_UpIdeal
    ∧ algebraic_UpIdeal_UpRefIdeal (hUpIdeal := hUpIdeal) (hUpRefIdeal := hUpRefIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_Down_DownIdeal
    ∧ algebraic_DownIdeal_DownRefIdeal (hDownIdeal := hDownIdeal) (hDownRefIdeal := hDownRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_Out_OutIdeal
    ∧ algebraic_OutIdeal_OutRefIdeal (hOutIdeal := hOutIdeal) (hOutRefIdeal := hOutRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_Proj_ProjIdeal
    ∧ algebraic_ProjIdeal_ProjRefIdeal (hProjIdeal := hProjIdeal) (hProjRefIdeal := hProjRefIdeal)
    ∧ preserves_ProjDx_ProjDxIdeal
    ∧ algebraic_ProjDxIdeal_ProjDxRefIdeal (hProjDxIdeal := hProjDxIdeal) (hProjDxRefIdeal := hProjDxRefIdeal)
    ∧ preserves_ProjDw_ProjDwIdeal
    ∧ algebraic_ProjDwIdeal_ProjDwRefIdeal (hProjDwIdeal := hProjDwIdeal) (hProjDwRefIdeal := hProjDwRefIdeal)
    ∧ preserves_AdamWIn_AdamWInIdeal
    ∧ algebraic_AdamWInIdeal_AdamWInRefIdeal (hAdamWInIdeal := hAdamWInIdeal) (hAdamWInRefIdeal := hAdamWInRefIdeal)
    ∧ preserves_AdamWa2_AdamWa2Ideal
    ∧ algebraic_AdamWa2Ideal_AdamWa2RefIdeal (hAdamWa2Ideal := hAdamWa2Ideal) (hAdamWa2RefIdeal := hAdamWa2RefIdeal)
    ∧ preserves_AdamProj_AdamProjIdeal
    ∧ algebraic_AdamProjIdeal_AdamProjRefIdeal (hAdamProjIdeal := hAdamProjIdeal) (hAdamProjRefIdeal := hAdamProjRefIdeal)
    ∧ preserves_AdamW2_AdamW2Ideal
    ∧ algebraic_AdamW2Ideal_AdamW2RefIdeal (hAdamW2Ideal := hAdamW2Ideal) (hAdamW2RefIdeal := hAdamW2RefIdeal)
    ∧ preserves_AdamG2_AdamG2Ideal
    ∧ algebraic_AdamG2Ideal_AdamG2RefIdeal (hAdamG2Ideal := hAdamG2Ideal) (hAdamG2RefIdeal := hAdamG2RefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamRep_AdamRepIdeal
    ∧ algebraic_AdamRepIdeal_AdamRepRefIdeal (hAdamRepIdeal := hAdamRepIdeal) (hAdamRepRefIdeal := hAdamRepRefIdeal)
    ∧ preserves_Norm1_Norm1Ideal
    ∧ algebraic_Norm1Ideal_Norm1RefIdeal (hNorm1Ideal := hNorm1Ideal) (hNorm1RefIdeal := hNorm1RefIdeal)
    ∧ preserves_Norm2_Norm2Ideal
    ∧ algebraic_Norm2Ideal_Norm2RefIdeal (hNorm2Ideal := hNorm2Ideal) (hNorm2RefIdeal := hNorm2RefIdeal)
    ∧ preserves_Merge_MergeIdeal
    ∧ algebraic_MergeIdeal_MergeRefIdeal (hMergeIdeal := hMergeIdeal) (hMergeRefIdeal := hMergeRefIdeal)
    ∧ preserves_Loss_LossIdeal
    ∧ algebraic_LossIdeal_LossRefIdeal (hLossIdeal := hLossIdeal) (hLossRefIdeal := hLossRefIdeal)
    ∧ preserves_Norm1Fwd_Norm1FwdIdeal
    ∧ algebraic_Norm1FwdIdeal_Norm1FwdRefIdeal (hNorm1FwdIdeal := hNorm1FwdIdeal) (hNorm1FwdRefIdeal := hNorm1FwdRefIdeal)
    ∧ preserves_Norm2Fwd_Norm2FwdIdeal
    ∧ algebraic_Norm2FwdIdeal_Norm2FwdRefIdeal (hNorm2FwdIdeal := hNorm2FwdIdeal) (hNorm2FwdRefIdeal := hNorm2FwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_Shift_ShiftIdeal
    ∧ algebraic_ShiftIdeal_ShiftRefIdeal (hShiftIdeal := hShiftIdeal) (hShiftRefIdeal := hShiftRefIdeal)
    ∧ preserves_Conv_ConvIdeal
    ∧ algebraic_ConvIdeal_ConvRefIdeal (hConvIdeal := hConvIdeal) (hConvRefIdeal := hConvRefIdeal)
    ∧ preserves_Total_TotalIdeal
    ∧ algebraic_TotalIdeal_TotalRefIdeal (hTotalIdeal := hTotalIdeal) (hTotalRefIdeal := hTotalRefIdeal)
    ∧ preserves_ShiftBwd_ShiftBwdIdeal
    ∧ algebraic_ShiftBwdIdeal_ShiftBwdRefIdeal_pre_shift_finite (hShiftBwdIdeal := hShiftBwdIdeal) (hShiftBwdRefIdeal := hShiftBwdRefIdeal) (hPre_shift_finite := hPre_shift_finite)
    ∧ preserves_ConvBwd_ConvBwdIdeal
    ∧ algebraic_ConvBwdIdeal_ConvBwdRefIdeal_pre_conv_finite (hConvBwdIdeal := hConvBwdIdeal) (hConvBwdRefIdeal := hConvBwdRefIdeal) (hPre_conv_finite := hPre_conv_finite)
    ∧ preserves_Post_PostIdeal
    ∧ algebraic_PostIdeal_PostRefIdeal_pre_post_finite (hPostIdeal := hPostIdeal) (hPostRefIdeal := hPostRefIdeal) (hPre_post_finite := hPre_post_finite)
    ∧ preserves_Decay_DecayIdeal
    ∧ algebraic_DecayIdeal_DecayRefIdeal_pre_pre_finite (hDecayIdeal := hDecayIdeal) (hDecayRefIdeal := hDecayRefIdeal) (hPre_pre_finite := hPre_pre_finite)
-- ==== Pre_conv_finite.lean ====
abbrev S8192x5632 : Shape := ⟨2, ![8192, 5632]⟩
abbrev S8192x2816 : Shape := ⟨2, ![8192, 2816]⟩
abbrev S3x5632 : Shape := ⟨2, ![3, 5632]⟩
abbrev S1x5632 : Shape := ⟨2, ![1, 5632]⟩
abbrev S_ : Shape := ⟨0, ![]⟩

class Facts : Prop where
  bcast_S_S8192x5632 : S_.BroadcastsInDim S8192x5632 (![] : Fin 0 → Fin S8192x5632.rank)
  bcast_S_S8192x2816 : S_.BroadcastsInDim S8192x2816 (![] : Fin 0 → Fin S8192x2816.rank)
  bcast_S_S3x5632 : S_.BroadcastsInDim S3x5632 (![] : Fin 0 → Fin S3x5632.rank)
  bcast_S_S1x5632 : S_.BroadcastsInDim S1x5632 (![] : Fin 0 → Fin S1x5632.rank)

variable [Facts]

def fn {F : FTy → Type} [FloatOps F] (main_arg0 : FVec F S8192x5632 .f32) (main_arg1 : FVec F S8192x2816 .f32) (main_arg2 : FVec F S3x5632 .f32) (main_arg3 : FVec F S1x5632 .f32) : IVec S8192x5632 1 × IVec S8192x2816 1 × IVec S3x5632 1 × IVec S1x5632 1 :=
  let main_v0 : FVec F S8192x5632 .f32 := Host.absf main_arg0
  let main_cst : FVec F S_ .f32 := constant S_ .f32 0x7F800000#32
  let main_v1 : FVec F S8192x5632 .f32 := broadcastInDim S8192x5632 ![] bcast_S_S8192x5632 main_cst
  let main_v2 : IVec S8192x5632 1 := cmpf .olt main_v0 main_v1
  let main_v3 : FVec F S8192x2816 .f32 := Host.absf main_arg1
  let main_cst_0 : FVec F S_ .f32 := constant S_ .f32 0x7F800000#32
  let main_v4 : FVec F S8192x2816 .f32 := broadcastInDim S8192x2816 ![] bcast_S_S8192x2816 main_cst_0
  let main_v5 : IVec S8192x2816 1 := cmpf .olt main_v3 main_v4
  let main_v6 : FVec F S3x5632 .f32 := Host.absf main_arg2
  let main_cst_1 : FVec F S_ .f32 := constant S_ .f32 0x7F800000#32
  let main_v7 : FVec F S3x5632 .f32 := broadcastInDim S3x5632 ![] bcast_S_S3x5632 main_cst_1
  let main_v8 : IVec S3x5632 1 := cmpf .olt main_v6 main_v7
  let main_v9 : FVec F S1x5632 .f32 := Host.absf main_arg3
  let main_cst_2 : FVec F S_ .f32 := constant S_ .f32 0x7F800000#32
  let main_v10 : FVec F S1x5632 .f32 := broadcastInDim S1x5632 ![] bcast_S_S1x5632 main_cst_2
  let main_v11 : IVec S1x5632 1 := cmpf .olt main_v9 main_v10
  (main_v2, main_v5, main_v8, main_v11)
-- ==== Pre_post_finite.lean ====
abbrev S8192x512 : Shape := ⟨2, ![8192, 512]⟩
abbrev S8192x5632 : Shape := ⟨2, ![8192, 5632]⟩
abbrev S8192x1792 : Shape := ⟨2, ![8192, 1792]⟩
abbrev S1x512 : Shape := ⟨2, ![1, 512]⟩
abbrev S_ : Shape := ⟨0, ![]⟩

class Facts : Prop where
  bcast_S_S8192x512 : S_.BroadcastsInDim S8192x512 (![] : Fin 0 → Fin S8192x512.rank)
  slices_S8192x1792_S8192x512_0_0 : S8192x1792.Slices ![0, 0] S8192x512
  bcast_S_S1x512 : S_.BroadcastsInDim S1x512 (![] : Fin 0 → Fin S1x512.rank)

variable [Facts]

def fn {F : FTy → Type} [FloatOps F] (main_arg0 : FVec F S8192x512 .f32) (main_arg1 : FVec F S8192x5632 .f32) (main_arg2 : FVec F S8192x512 .f32) (main_arg3 : FVec F S8192x1792 .f32) (main_arg4 : FVec F S8192x512 .f32) (main_arg5 : FVec F S8192x512 .f32) (main_arg6 : FVec F S1x512 .f32) (main_arg7 : FVec F S1x512 .f32) (main_arg8 : FVec F S1x512 .f32) (main_arg9 : FVec F S1x512 .f32) : IVec S8192x512 1 × IVec S8192x512 1 × IVec S8192x512 1 × IVec S8192x512 1 × IVec S1x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg2
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x512 .f32 := (extractStridedSlice S8192x512 ![0, 0] · slices_S8192x1792_S8192x512_0_0) main_arg3
  let main_v7 : FVec F S8192x512 .f32 := Host.absf main_v6
  let main_cst_1 : FVec F S_ .f32 := constant S_ .f32 0x7F800000#32
  let main_v8 : FVec F S8192x512 .f32 := broadcastInDim S8192x512 ![] bcast_S_S8192x512 main_cst_1
  let main_v9 : IVec S8192x512 1 := cmpf .olt main_v7 main_v8
  let main_v10 : FVec F S8192x512 .f32 := Host.absf main_arg4
  let main_cst_2 : FVec F S_ .f32 := constant S_ .f32 0x7F800000#32
  let main_v11 : FVec F S8192x512 .f32 := broadcastInDim S8192x512 ![] bcast_S_S8192x512 main_cst_2
  let main_v12 : IVec S8192x512 1 := cmpf .olt main_v10 main_v11
  let main_v13 : FVec F S1x512 .f32 := Host.absf main_arg9
  let main_cst_3 : FVec F S_ .f32 := constant S_ .f32 0x7F800000#32
  let main_v14 : FVec F S1x512 .f32 := broadcastInDim S1x512 ![] bcast_S_S1x512 main_cst_3
  let main_v15 : IVec S1x512 1 := cmpf .olt main_v13 main_v14
  (main_v2, main_v5, main_v9, main_v12, main_v15)
-- ==== Pre_pre_finite.lean ====
abbrev S8192x1792 : Shape := ⟨2, ![8192, 1792]⟩
abbrev S1x512 : Shape := ⟨2, ![1, 512]⟩
abbrev S64x512 : Shape := ⟨2, ![64, 512]⟩
abbrev S128x512 : Shape := ⟨2, ![128, 512]⟩
abbrev S8192x512 : Shape := ⟨2, ![8192, 512]⟩
abbrev S_ : Shape := ⟨0, ![]⟩

class Facts : Prop where
  slices_S8192x1792_S8192x512_0_512 : S8192x1792.Slices ![0, 512] S8192x512
  bcast_S_S8192x512 : S_.BroadcastsInDim S8192x512 (![] : Fin 0 → Fin S8192x512.rank)
  bcast_S_S1x512 : S_.BroadcastsInDim S1x512 (![] : Fin 0 → Fin S1x512.rank)

variable [Facts]

def fn {F : FTy → Type} [FloatOps F] (main_arg0 : FVec F S8192x1792 .f32) (main_arg1 : FVec F S1x512 .f32) (main_arg2 : FVec F S64x512 .f32) (main_arg3 : FVec F S1x512 .f32) (main_arg4 : FVec F S64x512 .f32) (main_arg5 : FVec F S1x512 .f32) (main_arg6 : FVec F S64x512 .f32) (main_arg7 : FVec F S128x512 .f32) (main_arg8 : FVec F S1x512 .f32) (main_arg9 : FVec F S1x512 .f32) : IVec S8192x512 1 × IVec S1x512 1 :=
  let main_v0 : FVec F S8192x512 .f32 := (extractStridedSlice S8192x512 ![0, 512] · slices_S8192x1792_S8192x512_0_512) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_v4 : FVec F S1x512 .f32 := Host.absf main_arg8
  let main_cst_0 : FVec F S_ .f32 := constant S_ .f32 0x7F800000#32
  let main_v5 : FVec F S1x512 .f32 := broadcastInDim S1x512 ![] bcast_S_S1x512 main_cst_0
  let main_v6 : IVec S1x512 1 := cmpf .olt main_v4 main_v5
  (main_v3, main_v6)
-- ==== Pre_shift_finite.lean ====
abbrev S8192x5632 : Shape := ⟨2, ![8192, 5632]⟩
abbrev S8192x1792 : Shape := ⟨2, ![8192, 1792]⟩
abbrev S1x1792 : Shape := ⟨2, ![1, 1792]⟩
abbrev S_ : Shape := ⟨0, ![]⟩

class Facts : Prop where
  bcast_S_S8192x1792 : S_.BroadcastsInDim S8192x1792 (![] : Fin 0 → Fin S8192x1792.rank)
  bcast_S_S1x1792 : S_.BroadcastsInDim S1x1792 (![] : Fin 0 → Fin S1x1792.rank)

variable [Facts]

def fn {F : FTy → Type} [FloatOps F] (main_arg0 : FVec F S8192x5632 .f32) (main_arg1 : FVec F S8192x1792 .f32) (main_arg2 : FVec F S1x1792 .f32) (main_arg3 : FVec F S1x1792 .f32) : IVec S8192x1792 1 × IVec S1x1792 1 :=
  let main_v0 : FVec F S8192x1792 .f32 := Host.absf main_arg1
  let main_cst : FVec F S_ .f32 := constant S_ .f32 0x7F800000#32
  let main_v1 : FVec F S8192x1792 .f32 := broadcastInDim S8192x1792 ![] bcast_S_S8192x1792 main_cst
  let main_v2 : IVec S8192x1792 1 := cmpf .olt main_v0 main_v1
  let main_v3 : FVec F S1x1792 .f32 := Host.absf main_arg3
  let main_cst_0 : FVec F S_ .f32 := constant S_ .f32 0x7F800000#32
  let main_v4 : FVec F S1x1792 .f32 := broadcastInDim S1x1792 ![] bcast_S_S1x1792 main_cst_0
  let main_v5 : IVec S1x1792 1 := cmpf .olt main_v3 main_v4
  (main_v2, main_v5)
-- ==== Up.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .f32⟩
  | .hbm, ⟨2, _⟩ => ⟨S8192x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .f32⟩
  | .local _ .vmem, ⟨3, _⟩ => ⟨S1024x1408, .f32⟩
  | .local _ .vmem, ⟨4, _⟩ => ⟨S1024x1408, .f32⟩
  | .local _ .vmem, ⟨5, _⟩ => ⟨S1024x1408, .f32⟩
  | .local _ .vmem, ⟨6, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .f32⟩
  | .hbm, ⟨2, _⟩ => ⟨S8192x1024, .f32⟩
  | .hbm, ⟨3, _⟩ => ⟨S8192x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== UpDx.lean ====
abbrev S8192x5632 : Shape := ⟨2, ![8192, 5632]⟩
abbrev S1024x5632 : Shape := ⟨2, ![1024, 5632]⟩
abbrev S8192x1024 : Shape := ⟨2, ![8192, 1024]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .f32⟩
  | .hbm, ⟨2, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .f32⟩
  | .local _ .vmem, ⟨3, _⟩ => ⟨S1024x1408, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S8192x5632 : Shape := ⟨2, ![8192, 5632]⟩
abbrev S1024x5632 : Shape := ⟨2, ![1024, 5632]⟩
abbrev S_ : Shape := ⟨0, ![]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .f32⟩
  | .hbm, ⟨2, _⟩ => ⟨S8192x5632, .f32⟩
  | .hbm, ⟨3, _⟩ => ⟨S_, .f32⟩
  | .hbm, ⟨4, _⟩ => ⟨S8192x1024, .f32⟩
  | .hbm, ⟨5, _⟩ => ⟨S8192x5632, .f32⟩
  | .hbm, ⟨6, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UpDw.lean ====
abbrev S8192x1024 : Shape := ⟨2, ![8192, 1024]⟩
abbrev S8192x5632 : Shape := ⟨2, ![8192, 5632]⟩
abbrev S1024x5632 : Shape := ⟨2, ![1024, 5632]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x1024, .f32⟩
  | .hbm, ⟨3, _⟩ => ⟨S8192x5632, .f32⟩
  | .hbm, ⟨4, _⟩ => ⟨S_, .f32⟩
  | .hbm, ⟨5, _⟩ => ⟨S1024x5632, .f32⟩
  | .hbm, ⟨6, _⟩ => ⟨S8192x5632, .f32⟩
  | .hbm, ⟨7, _⟩ => ⟨S5632x1024, .f32⟩
  | .hbm, ⟨8, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .f32⟩
  | .local _ .vmem, ⟨3, _⟩ => ⟨S1408x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x2816, .f32⟩
  | .hbm, ⟨3, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DownDx.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S8192x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .f32⟩
  | .local _ .vmem, ⟨3, _⟩ => ⟨S1408x1024, .f32⟩
  | .local _ .vmem, ⟨4, _⟩ => ⟨S1024x1408, .f32⟩
  | .local _ .vmem, ⟨5, _⟩ => ⟨S1024x1408, .f32⟩
  | .local _ .vmem, ⟨6, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S_, .f32⟩
  | .hbm, ⟨3, _⟩ => ⟨S8192x2816, .f32⟩
  | .hbm, ⟨4, _⟩ => ⟨S8192x1024, .f32⟩
  | .hbm, ⟨5, _⟩ => ⟨S8192x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DownDw.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x512 : Shape := ⟨2, ![2048, 512]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x512, .f32⟩
  | .local _ .vmem, ⟨3, _⟩ => ⟨S2048x512, .f32⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8192x2816, .f32⟩
  | .hbm, ⟨3, _⟩ => ⟨S_, .f32⟩
  | .hbm, ⟨4, _⟩ => ⟨S2816x1024, .f32⟩
  | .hbm, ⟨5, _⟩ => ⟨S8192x1024, .f32⟩
  | .hbm, ⟨6, _⟩ => ⟨S1024x2816, .f32⟩
  | .hbm, ⟨7, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Out.lean ====
abbrev S8192x1024 : Shape := ⟨2, ![8192, 1024]⟩
abbrev S1024x1024 : Shape := ⟨2, ![1024, 1024]⟩
abbrev S1024x512 : Shape := ⟨2, ![1024, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutRefIdeal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutDx.lean ====
abbrev S8192x1024 : Shape := ⟨2, ![8192, 1024]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutDw.lean ====
abbrev S8192x1024 : Shape := ⟨2, ![8192, 1024]⟩
abbrev S1024x1024 : Shape := ⟨2, ![1024, 1024]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proj.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S512x512 : Shape := ⟨2, ![512, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S512x1024, .f32⟩
  | .hbm, ⟨2, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S512x512, .f32⟩
  | .local _ .vmem, ⟨3, _⟩ => ⟨S512x512, .f32⟩
  | .local _ .vmem, ⟨4, _⟩ => ⟨S1024x512, .f32⟩
  | .local _ .vmem, ⟨5, _⟩ => ⟨S1024x512, .f32⟩
  | .local _ .vmem, ⟨6, _⟩ => ⟨S8x128, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .f32⟩
  | .hbm, ⟨2, _⟩ => ⟨S8192x512, .f32⟩
  | .hbm, ⟨3, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjDx.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S512x1024, .f32⟩
  | .hbm, ⟨2, _⟩ => ⟨S8192x512, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S1024x512, .f32⟩
  | .local _ .vmem, ⟨4, _⟩ => ⟨S1024x512, .f32⟩
  | .local _ .vmem, ⟨5, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDxRefIdeal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S512x1024, .f32⟩
  | .hbm, ⟨2, _⟩ => ⟨S_, .f32⟩
  | .hbm, ⟨3, _⟩ => ⟨S8192x512, .f32⟩
  | .hbm, ⟨4, _⟩ => ⟨S8192x1024, .f32⟩
  | .hbm, ⟨5, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ProjDw.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S8192x1024, .f32⟩
  | .hbm, ⟨2, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x512, .f32⟩
  | .local _ .vmem, ⟨3, _⟩ => ⟨S2048x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDwRefIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .f32⟩
  | .hbm, ⟨2, _⟩ => ⟨S8192x512, .f32⟩
  | .hbm, ⟨3, _⟩ => ⟨S_, .f32⟩
  | .hbm, ⟨4, _⟩ => ⟨S512x1024, .f32⟩
  | .hbm, ⟨5, _⟩ => ⟨S8192x1024, .f32⟩
  | .hbm, ⟨6, _⟩ => ⟨S1024x512, .f32⟩
  | .hbm, ⟨7, _⟩ => ⟨S512x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AdamWIn.lean ====
abbrev S8x1024x676 : Shape := ⟨3, ![8, 1024, 676]⟩
abbrev S1x1024x676 : Shape := ⟨3, ![1, 1024, 676]⟩
abbrev S8x128x676 : Shape := ⟨3, ![8, 128, 676]⟩
abbrev S1x128x676 : Shape := ⟨3, ![1, 128, 676]⟩
abbrev S128x676 : Shape := ⟨2, ![128, 676]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x676, .bf16⟩
  | .hbm, ⟨1, _⟩ => ⟨S1x1024x676, .f32⟩
  | .hbm, ⟨2, _⟩ => ⟨S1x1024x676, .f32⟩
  | .hbm, ⟨3, _⟩ => ⟨S1x1024x676, .f32⟩
  | .hbm, ⟨4, _⟩ => ⟨S1x1024x676, .f32⟩
  | .hbm, ⟨5, _⟩ => ⟨S1x1024x676, .f32⟩
  | .hbm, ⟨6, _⟩ => ⟨S1x1024x676, .f32⟩
  | .hbm, ⟨7, _⟩ => ⟨S1x1024x676, .f32⟩
  | .local _ .vmem, ⟨0, _⟩ => ⟨S8x128x676, .bf16⟩
  | .local _ .vmem, ⟨1, _⟩ => ⟨S8x128x676, .bf16⟩
  | .local _ .vmem, ⟨2, _⟩ => ⟨S1x128x676, .f32⟩
  | .local _ .vmem, ⟨3, _⟩ => ⟨S1x128x676, .f32⟩
  | .local _ .vmem, ⟨4, _⟩ => ⟨S1x128x676, .f32⟩
  | .local _ .vmem, ⟨5, _⟩ => ⟨S1x128x676, .f32⟩
  | .local _ .vmem, ⟨6, _⟩ => ⟨S1x128x676, .f32⟩
  | .local _ .vmem, ⟨7, _⟩ => ⟨S1x128x676, .f32⟩
  | .local _ .vmem, ⟨8, _⟩ => ⟨S1x128x676, .f32⟩
  | .local _ .vmem, ⟨9, _⟩ => ⟨S1x128x676, .f32⟩
  | .local _ .vmem, ⟨10, _⟩ => ⟨S1x128x676, .f32⟩
  | .local _ .vmem, ⟨11, _⟩ => ⟨S1x128x676, .f32⟩
  | .local _ .vmem, ⟨12, _⟩ => ⟨S1x128x676, .f32⟩
  | .local _ .vmem, ⟨13, _⟩ => ⟨S1x128x676, .f32⟩
  | .local _ .vmem, ⟨14, _⟩ => ⟨S1x128x676, .f32⟩
  | .local _ .vmem, ⟨15, _⟩ => ⟨S1x128x676, .f32⟩
  | _, _ => ⟨S8x1024x676, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S8x128x676 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x676 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x676 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x676 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x676 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x676 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x676 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x676 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamWInIdeal.lean ====
abbrev S8x1024x676 : Shape := ⟨3, ![8, 1024, 676]⟩
abbrev S1x1024x676 : Shape := ⟨3, ![1, 1024, 676]⟩
abbrev S8x128x676 : Shape := ⟨3, ![8, 128, 676]⟩
abbrev S1x128x676 : Shape := ⟨3, ![1, 128, 676]⟩
abbrev S128x676 : Shape := ⟨2, ![128, 676]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x676, .bf16⟩
  | .hbm, ⟨1, _⟩ => ⟨S1x1024x676, .f32⟩
  | .hbm, ⟨2, _⟩ => ⟨S1x1024x676, .f32⟩
  | .hbm, ⟨3, _⟩ => ⟨S1x1024x676, .f32⟩
  | .hbm, ⟨4, _⟩ => ⟨S1x1024x676, .f32⟩
  | .hbm, ⟨5, _⟩ => ⟨S1x1024x676, .f32⟩
  | .hbm, ⟨6, _⟩ => ⟨S1x1024x676, .f32⟩
  | .hbm, ⟨7, _⟩ => ⟨S1x1024x676, .f32⟩
  | .local _ .vmem, ⟨0, _⟩ => ⟨S8x128x676, .bf16⟩
  | .local _ .vmem, ⟨1, _⟩ => ⟨S8x128x676, .bf16⟩
  | .local _ .vmem, ⟨2, _⟩ => ⟨S1x128x676, .f32⟩
  | .local _ .vmem, ⟨3, _⟩ => ⟨S1x128x676, .f32⟩
  | .local _ .vmem, ⟨4, _⟩ => ⟨S1x128x676, .f32⟩
  | .local _ .vmem, ⟨5, _⟩ => ⟨S1x128x676, .f32⟩
  | .local _ .vmem, ⟨6, _⟩ => ⟨S1x128x676, .f32⟩
  | .local _ .vmem, ⟨7, _⟩ => ⟨S1x128x676, .f32⟩
  | .local _ .vmem, ⟨8, _⟩ => ⟨S1x128x676, .f32⟩
  | .local _ .vmem, ⟨9, _⟩ => ⟨S1x128x676, .f32⟩
  | .local _ .vmem, ⟨10, _⟩ => ⟨S1x128x676, .f32⟩
  | .local _ .vmem, ⟨11, _⟩ => ⟨S1x128x676, .f32⟩
  | .local _ .vmem, ⟨12, _⟩ => ⟨S1x128x676, .f32⟩
  | .local _ .vmem, ⟨13, _⟩ => ⟨S1x128x676, .f32⟩
  | .local _ .vmem, ⟨14, _⟩ => ⟨S1x128x676, .f32⟩
  | .local _ .vmem, ⟨15, _⟩ => ⟨S1x128x676, .f32⟩
  | _, _ => ⟨S8x1024x676, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S8x128x676 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x676 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x676 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x676 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x676 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x676 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x676 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x676 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamWInRefIdeal.lean ====
abbrev S8x1024x676 : Shape := ⟨3, ![8, 1024, 676]⟩
abbrev S1x1024x676 : Shape := ⟨3, ![1, 1024, 676]⟩
abbrev S_ : Shape := ⟨0, ![]⟩
abbrev S1024x676 : Shape := ⟨2, ![1024, 676]⟩

abbrev nBuf : Space → Nat
  | .hbm => 41
  | .vmem => 0
  | .smem => 0
  | _ => 0

abbrev bufTy : (tb : Table) → Fin (tcTables nBuf tb) → BufTy
  | .hbm, ⟨0, _⟩ => ⟨S8x1024x676, .bf16⟩
  | .hbm, ⟨1, _⟩ => ⟨S1x1024x676, .f32⟩
  | .hbm, ⟨2, _⟩ => ⟨S1x1024x676, .f32⟩
  | .hbm, ⟨3, _⟩ => ⟨S1x1024x676, .f32⟩
  | .hbm, ⟨4, _⟩ => ⟨S8x1024x676, .f32⟩
  | .hbm, ⟨5, _⟩ => ⟨S_, .f32⟩
  | .hbm, ⟨6, _⟩ => ⟨S1024x676, .f32⟩
  | .hbm, ⟨7, _⟩ => ⟨S1x1024x676, .f32⟩
  | .hbm, ⟨8, _⟩ => ⟨S_, .f32⟩
  | .hbm, ⟨9, _⟩ => ⟨S1x1024x676, .f32⟩
  | .hbm, ⟨10, _⟩ => ⟨S1x1024x676, .f32⟩
  | .hbm, ⟨11, _⟩ => ⟨S_, .f32⟩
  | .hbm, ⟨12, _⟩ => ⟨S1x1024x676, .f32⟩
  | .hbm, ⟨13, _⟩ => ⟨S1x1024x676, .f32⟩
  | .hbm, ⟨14, _⟩ => ⟨S1x1024x676, .f32⟩
  | .hbm, ⟨15, _⟩ => ⟨S_, .f32⟩
  | .hbm, ⟨16, _⟩ => ⟨S1x1024x676, .f32⟩
  | .hbm, ⟨17, _⟩ => ⟨S1x1024x676, .f32⟩
  | .hbm, ⟨18, _⟩ => ⟨S1x1024x676, .f32⟩
  | .hbm, ⟨19, _⟩ => ⟨S_, .f32⟩
  | .hbm, ⟨20, _⟩ => ⟨S1x1024x676, .f32⟩
  | .hbm, ⟨21, _⟩ => ⟨S1x1024x676, .f32⟩
  | .hbm, ⟨22, _⟩ => ⟨S1x1024x676, .f32⟩
  | .hbm, ⟨23, _⟩ => ⟨S_, .f32⟩
  | .hbm, ⟨24, _⟩ => ⟨S1x1024x676, .f32⟩
  | .hbm, ⟨25, _⟩ => ⟨S1x1024x676, .f32⟩
  | .hbm, ⟨26, _⟩ => ⟨S_, .f32⟩
  | .hbm, ⟨27, _⟩ => ⟨S1x1024x676, .f32⟩
  | .hbm, ⟨28, _⟩ => ⟨S1x1024x676, .f32⟩
  | .hbm, ⟨29, _⟩ => ⟨S1x1024x676, .f32⟩
  | .hbm, ⟨30, _⟩ => ⟨S_, .f32⟩
  | .hbm, ⟨31, _⟩ => ⟨S1x1024x676, .f32⟩
  | .hbm, ⟨32, _⟩ => ⟨S1x1024x676, .f32⟩
  | .hbm, ⟨33, _⟩ => ⟨S1x1024x676, .f32⟩
  | .hbm, ⟨34, _⟩ => ⟨S_, .f32⟩
  | .hbm, ⟨35, _⟩ => ⟨S1x1024x676, .f32⟩
  | .hbm, ⟨36, _⟩ => ⟨S1x1024x676, .f32⟩
  | .hbm, ⟨37, _⟩ => ⟨S1x1024x676, .f32⟩
  | .hbm, ⟨38, _⟩ => ⟨S_, .f32⟩
  | .hbm, ⟨39, _⟩ => ⟨S1x1024x676, .f32⟩
  | .hbm, ⟨40, _⟩ => ⟨S1x1024x676, .f32⟩
  | _, _ => ⟨S8x1024x676, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamWa2.lean ====
abbrev S8x16x32 : Shape := ⟨3, ![8, 16, 32]⟩
abbrev S1x16x32 : Shape := ⟨3, ![1, 16, 32]⟩
abbrev S16x32 : Shape := ⟨2, ![16, 32]⟩

abbrev nBuf : Space → Nat
  | .hbm => 8
  | .vmem => 8
  | .smem => 0
  | _ => 0

abbrev bufTy : (tb : Table) → Fin (tcTables nBuf tb) → BufTy
  | .hbm, ⟨0, _⟩ => ⟨S8x16x32, .f32⟩
  | .hbm, ⟨1, _⟩ => ⟨S1x16x32, .f32⟩
  | .hbm, ⟨2, _⟩ => ⟨S1x16x32, .f32⟩
  | .hbm, ⟨3, _⟩ => ⟨S1x16x32, .f32⟩
  | .hbm, ⟨4, _⟩ => ⟨S1x16x32, .f32⟩
  | .hbm, ⟨5, _⟩ => ⟨S1x16x32, .f32⟩
  | .hbm, ⟨6, _⟩ => ⟨S1x16x32, .f32⟩
  | .hbm, ⟨7, _⟩ => ⟨S1x16x32, .f32⟩
  | .local _ .vmem, ⟨0, _⟩ => ⟨S8x16x32, .f32⟩
  | .local _ .vmem, ⟨1, _⟩ => ⟨S1x16x32, .f32⟩
  | .local _ .vmem, ⟨2, _⟩ => ⟨S1x16x32, .f32⟩
  | .local _ .vmem, ⟨3, _⟩ => ⟨S1x16x32, .f32⟩
  | .local _ .vmem, ⟨4, _⟩ => ⟨S1x16x32, .f32⟩
  | .local _ .vmem, ⟨5, _⟩ => ⟨S1x16x32, .f32⟩
  | .local _ .vmem, ⟨6, _⟩ => ⟨S1x16x32, .f32⟩
  | .local _ .vmem, ⟨7, _⟩ => ⟨S1x16x32, .f32⟩
  | _, _ => ⟨S8x16x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S8x16x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x16x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x16x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x16x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x16x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x16x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x16x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamWa2Ideal.lean ====
abbrev S8x16x32 : Shape := ⟨3, ![8, 16, 32]⟩
abbrev S1x16x32 : Shape := ⟨3, ![1, 16, 32]⟩
abbrev S16x32 : Shape := ⟨2, ![16, 32]⟩

abbrev nBuf : Space → Nat
  | .hbm => 8
  | .vmem => 8
  | .smem => 0
  | _ => 0

abbrev bufTy : (tb : Table) → Fin (tcTables nBuf tb) → BufTy
  | .hbm, ⟨0, _⟩ => ⟨S8x16x32, .f32⟩
  | .hbm, ⟨1, _⟩ => ⟨S1x16x32, .f32⟩
  | .hbm, ⟨2, _⟩ => ⟨S1x16x32, .f32⟩
  | .hbm, ⟨3, _⟩ => ⟨S1x16x32, .f32⟩
  | .hbm, ⟨4, _⟩ => ⟨S1x16x32, .f32⟩
  | .hbm, ⟨5, _⟩ => ⟨S1x16x32, .f32⟩
  | .hbm, ⟨6, _⟩ => ⟨S1x16x32, .f32⟩
  | .hbm, ⟨7, _⟩ => ⟨S1x16x32, .f32⟩
  | .local _ .vmem, ⟨0, _⟩ => ⟨S8x16x32, .f32⟩
  | .local _ .vmem, ⟨1, _⟩ => ⟨S1x16x32, .f32⟩
  | .local _ .vmem, ⟨2, _⟩ => ⟨S1x16x32, .f32⟩
  | .local _ .vmem, ⟨3, _⟩ => ⟨S1x16x32, .f32⟩
  | .local _ .vmem, ⟨4, _⟩ => ⟨S1x16x32, .f32⟩
  | .local _ .vmem, ⟨5, _⟩ => ⟨S1x16x32, .f32⟩
  | .local _ .vmem, ⟨6, _⟩ => ⟨S1x16x32, .f32⟩
  | .local _ .vmem, ⟨7, _⟩ => ⟨S1x16x32, .f32⟩
  | _, _ => ⟨S8x16x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S8x16x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x16x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x16x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x16x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x16x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x16x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x16x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamWa2RefIdeal.lean ====
abbrev S8x16x32 : Shape := ⟨3, ![8, 16, 32]⟩
abbrev S1x16x32 : Shape := ⟨3, ![1, 16, 32]⟩
abbrev S_ : Shape := ⟨0, ![]⟩
abbrev S16x32 : Shape := ⟨2, ![16, 32]⟩

abbrev nBuf : Space → Nat
  | .hbm => 40
  | .vmem => 0
  | .smem => 0
  | _ => 0

abbrev bufTy : (tb : Table) → Fin (tcTables nBuf tb) → BufTy
  | .hbm, ⟨0, _⟩ => ⟨S8x16x32, .f32⟩
  | .hbm, ⟨1, _⟩ => ⟨S1x16x32, .f32⟩
  | .hbm, ⟨2, _⟩ => ⟨S1x16x32, .f32⟩
  | .hbm, ⟨3, _⟩ => ⟨S1x16x32, .f32⟩
  | .hbm, ⟨4, _⟩ => ⟨S_, .f32⟩
  | .hbm, ⟨5, _⟩ => ⟨S16x32, .f32⟩
  | .hbm, ⟨6, _⟩ => ⟨S1x16x32, .f32⟩
  | .hbm, ⟨7, _⟩ => ⟨S_, .f32⟩
  | .hbm, ⟨8, _⟩ => ⟨S1x16x32, .f32⟩
  | .hbm, ⟨9, _⟩ => ⟨S1x16x32, .f32⟩
  | .hbm, ⟨10, _⟩ => ⟨S_, .f32⟩
  | .hbm, ⟨11, _⟩ => ⟨S1x16x32, .f32⟩
  | .hbm, ⟨12, _⟩ => ⟨S1x16x32, .f32⟩
  | .hbm, ⟨13, _⟩ => ⟨S1x16x32, .f32⟩
  | .hbm, ⟨14, _⟩ => ⟨S_, .f32⟩
  | .hbm, ⟨15, _⟩ => ⟨S1x16x32, .f32⟩
  | .hbm, ⟨16, _⟩ => ⟨S1x16x32, .f32⟩
  | .hbm, ⟨17, _⟩ => ⟨S1x16x32, .f32⟩
  | .hbm, ⟨18, _⟩ => ⟨S_, .f32⟩
  | .hbm, ⟨19, _⟩ => ⟨S1x16x32, .f32⟩
  | .hbm, ⟨20, _⟩ => ⟨S1x16x32, .f32⟩
  | .hbm, ⟨21, _⟩ => ⟨S1x16x32, .f32⟩
  | .hbm, ⟨22, _⟩ => ⟨S_, .f32⟩
  | .hbm, ⟨23, _⟩ => ⟨S1x16x32, .f32⟩
  | .hbm, ⟨24, _⟩ => ⟨S1x16x32, .f32⟩
  | .hbm, ⟨25, _⟩ => ⟨S_, .f32⟩
  | .hbm, ⟨26, _⟩ => ⟨S1x16x32, .f32⟩
  | .hbm, ⟨27, _⟩ => ⟨S1x16x32, .f32⟩
  | .hbm, ⟨28, _⟩ => ⟨S1x16x32, .f32⟩
  | .hbm, ⟨29, _⟩ => ⟨S_, .f32⟩
  | .hbm, ⟨30, _⟩ => ⟨S1x16x32, .f32⟩
  | .hbm, ⟨31, _⟩ => ⟨S1x16x32, .f32⟩
  | .hbm, ⟨32, _⟩ => ⟨S1x16x32, .f32⟩
  | .hbm, ⟨33, _⟩ => ⟨S_, .f32⟩
  | .hbm, ⟨34, _⟩ => ⟨S1x16x32, .f32⟩
  | .hbm, ⟨35, _⟩ => ⟨S1x16x32, .f32⟩
  | .hbm, ⟨36, _⟩ => ⟨S1x16x32, .f32⟩
  | .hbm, ⟨37, _⟩ => ⟨S_, .f32⟩
  | .hbm, ⟨38, _⟩ => ⟨S1x16x32, .f32⟩
  | .hbm, ⟨39, _⟩ => ⟨S1x16x32, .f32⟩
  | _, _ => ⟨S8x16x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamProj.lean ====
abbrev S8x512x128 : Shape := ⟨3, ![8, 512, 128]⟩
abbrev S1x512x128 : Shape := ⟨3, ![1, 512, 128]⟩
abbrev S8x128x128 : Shape := ⟨3, ![8, 128, 128]⟩
abbrev S1x128x128 : Shape := ⟨3, ![1, 128, 128]⟩
abbrev S128x128 : Shape := ⟨2, ![128, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x512x128, .f32⟩
  | .hbm, ⟨1, _⟩ => ⟨S1x512x128, .f32⟩
  | .hbm, ⟨2, _⟩ => ⟨S1x512x128, .f32⟩
  | .hbm, ⟨3, _⟩ => ⟨S1x512x128, .f32⟩
  | .hbm, ⟨4, _⟩ => ⟨S1x512x128, .f32⟩
  | .hbm, ⟨5, _⟩ => ⟨S1x512x128, .f32⟩
  | .hbm, ⟨6, _⟩ => ⟨S1x512x128, .f32⟩
  | .hbm, ⟨7, _⟩ => ⟨S1x512x128, .f32⟩
  | .local _ .vmem, ⟨0, _⟩ => ⟨S8x128x128, .f32⟩
  | .local _ .vmem, ⟨1, _⟩ => ⟨S8x128x128, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x128x128, .f32⟩
  | .local _ .vmem, ⟨15, _⟩ => ⟨S1x128x128, .f32⟩
  | _, _ => ⟨S8x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamProjIdeal.lean ====
abbrev S8x512x128 : Shape := ⟨3, ![8, 512, 128]⟩
abbrev S1x512x128 : Shape := ⟨3, ![1, 512, 128]⟩
abbrev S8x128x128 : Shape := ⟨3, ![8, 128, 128]⟩
abbrev S1x128x128 : Shape := ⟨3, ![1, 128, 128]⟩
abbrev S128x128 : Shape := ⟨2, ![128, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x512x128, .f32⟩
  | .hbm, ⟨1, _⟩ => ⟨S1x512x128, .f32⟩
  | .hbm, ⟨2, _⟩ => ⟨S1x512x128, .f32⟩
  | .hbm, ⟨3, _⟩ => ⟨S1x512x128, .f32⟩
  | .hbm, ⟨4, _⟩ => ⟨S1x512x128, .f32⟩
  | .hbm, ⟨5, _⟩ => ⟨S1x512x128, .f32⟩
  | .hbm, ⟨6, _⟩ => ⟨S1x512x128, .f32⟩
  | .hbm, ⟨7, _⟩ => ⟨S1x512x128, .f32⟩
  | .local _ .vmem, ⟨0, _⟩ => ⟨S8x128x128, .f32⟩
  | .local _ .vmem, ⟨1, _⟩ => ⟨S8x128x128, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x128x128, .f32⟩
  | .local _ .vmem, ⟨15, _⟩ => ⟨S1x128x128, .f32⟩
  | _, _ => ⟨S8x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamProjRefIdeal.lean ====
abbrev S8x512x128 : Shape := ⟨3, ![8, 512, 128]⟩
abbrev S1x512x128 : Shape := ⟨3, ![1, 512, 128]⟩
abbrev S_ : Shape := ⟨0, ![]⟩
abbrev S512x128 : Shape := ⟨2, ![512, 128]⟩

abbrev nBuf : Space → Nat
  | .hbm => 40
  | .vmem => 0
  | .smem => 0
  | _ => 0

abbrev bufTy : (tb : Table) → Fin (tcTables nBuf tb) → BufTy
  | .hbm, ⟨0, _⟩ => ⟨S8x512x128, .f32⟩
  | .hbm, ⟨1, _⟩ => ⟨S1x512x128, .f32⟩
  | .hbm, ⟨2, _⟩ => ⟨S1x512x128, .f32⟩
  | .hbm, ⟨3, _⟩ => ⟨S1x512x128, .f32⟩
  | .hbm, ⟨4, _⟩ => ⟨S_, .f32⟩
  | .hbm, ⟨5, _⟩ => ⟨S512x128, .f32⟩
  | .hbm, ⟨6, _⟩ => ⟨S1x512x128, .f32⟩
  | .hbm, ⟨7, _⟩ => ⟨S_, .f32⟩
  | .hbm, ⟨8, _⟩ => ⟨S1x512x128, .f32⟩
  | .hbm, ⟨9, _⟩ => ⟨S1x512x128, .f32⟩
  | .hbm, ⟨10, _⟩ => ⟨S_, .f32⟩
  | .hbm, ⟨11, _⟩ => ⟨S1x512x128, .f32⟩
  | .hbm, ⟨12, _⟩ => ⟨S1x512x128, .f32⟩
  | .hbm, ⟨13, _⟩ => ⟨S1x512x128, .f32⟩
  | .hbm, ⟨14, _⟩ => ⟨S_, .f32⟩
  | .hbm, ⟨15, _⟩ => ⟨S1x512x128, .f32⟩
  | .hbm, ⟨16, _⟩ => ⟨S1x512x128, .f32⟩
  | .hbm, ⟨17, _⟩ => ⟨S1x512x128, .f32⟩
  | .hbm, ⟨18, _⟩ => ⟨S_, .f32⟩
  | .hbm, ⟨19, _⟩ => ⟨S1x512x128, .f32⟩
  | .hbm, ⟨20, _⟩ => ⟨S1x512x128, .f32⟩
  | .hbm, ⟨21, _⟩ => ⟨S1x512x128, .f32⟩
  | .hbm, ⟨22, _⟩ => ⟨S_, .f32⟩
  | .hbm, ⟨23, _⟩ => ⟨S1x512x128, .f32⟩
  | .hbm, ⟨24, _⟩ => ⟨S1x512x128, .f32⟩
  | .hbm, ⟨25, _⟩ => ⟨S_, .f32⟩
  | .hbm, ⟨26, _⟩ => ⟨S1x512x128, .f32⟩
  | .hbm, ⟨27, _⟩ => ⟨S1x512x128, .f32⟩
  | .hbm, ⟨28, _⟩ => ⟨S1x512x128, .f32⟩
  | .hbm, ⟨29, _⟩ => ⟨S_, .f32⟩
  | .hbm, ⟨30, _⟩ => ⟨S1x512x128, .f32⟩
  | .hbm, ⟨31, _⟩ => ⟨S1x512x128, .f32⟩
  | .hbm, ⟨32, _⟩ => ⟨S1x512x128, .f32⟩
  | .hbm, ⟨33, _⟩ => ⟨S_, .f32⟩
  | .hbm, ⟨34, _⟩ => ⟨S1x512x128, .f32⟩
  | .hbm, ⟨35, _⟩ => ⟨S1x512x128, .f32⟩
  | .hbm, ⟨36, _⟩ => ⟨S1x512x128, .f32⟩
  | .hbm, ⟨37, _⟩ => ⟨S_, .f32⟩
  | .hbm, ⟨38, _⟩ => ⟨S1x512x128, .f32⟩
  | .hbm, ⟨39, _⟩ => ⟨S1x512x128, .f32⟩
  | _, _ => ⟨S8x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamW2.lean ====
abbrev S8x64x64 : Shape := ⟨3, ![8, 64, 64]⟩
abbrev S1x64x64 : Shape := ⟨3, ![1, 64, 64]⟩
abbrev S64x64 : Shape := ⟨2, ![64, 64]⟩

abbrev nBuf : Space → Nat
  | .hbm => 8
  | .vmem => 8
  | .smem => 0
  | _ => 0

abbrev bufTy : (tb : Table) → Fin (tcTables nBuf tb) → BufTy
  | .hbm, ⟨0, _⟩ => ⟨S8x64x64, .f32⟩
  | .hbm, ⟨1, _⟩ => ⟨S1x64x64, .f32⟩
  | .hbm, ⟨2, _⟩ => ⟨S1x64x64, .f32⟩
  | .hbm, ⟨3, _⟩ => ⟨S1x64x64, .f32⟩
  | .hbm, ⟨4, _⟩ => ⟨S1x64x64, .f32⟩
  | .hbm, ⟨5, _⟩ => ⟨S1x64x64, .f32⟩
  | .hbm, ⟨6, _⟩ => ⟨S1x64x64, .f32⟩
  | .hbm, ⟨7, _⟩ => ⟨S1x64x64, .f32⟩
  | .local _ .vmem, ⟨0, _⟩ => ⟨S8x64x64, .f32⟩
  | .local _ .vmem, ⟨1, _⟩ => ⟨S1x64x64, .f32⟩
  | .local _ .vmem, ⟨2, _⟩ => ⟨S1x64x64, .f32⟩
  | .local _ .vmem, ⟨3, _⟩ => ⟨S1x64x64, .f32⟩
  | .local _ .vmem, ⟨4, _⟩ => ⟨S1x64x64, .f32⟩
  | .local _ .vmem, ⟨5, _⟩ => ⟨S1x64x64, .f32⟩
  | .local _ .vmem, ⟨6, _⟩ => ⟨S1x64x64, .f32⟩
  | .local _ .vmem, ⟨7, _⟩ => ⟨S1x64x64, .f32⟩
  | _, _ => ⟨S8x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S8x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamW2Ideal.lean ====
abbrev S8x64x64 : Shape := ⟨3, ![8, 64, 64]⟩
abbrev S1x64x64 : Shape := ⟨3, ![1, 64, 64]⟩
abbrev S64x64 : Shape := ⟨2, ![64, 64]⟩

abbrev nBuf : Space → Nat
  | .hbm => 8
  | .vmem => 8
  | .smem => 0
  | _ => 0

abbrev bufTy : (tb : Table) → Fin (tcTables nBuf tb) → BufTy
  | .hbm, ⟨0, _⟩ => ⟨S8x64x64, .f32⟩
  | .hbm, ⟨1, _⟩ => ⟨S1x64x64, .f32⟩
  | .hbm, ⟨2, _⟩ => ⟨S1x64x64, .f32⟩
  | .hbm, ⟨3, _⟩ => ⟨S1x64x64, .f32⟩
  | .hbm, ⟨4, _⟩ => ⟨S1x64x64, .f32⟩
  | .hbm, ⟨5, _⟩ => ⟨S1x64x64, .f32⟩
  | .hbm, ⟨6, _⟩ => ⟨S1x64x64, .f32⟩
  | .hbm, ⟨7, _⟩ => ⟨S1x64x64, .f32⟩
  | .local _ .vmem, ⟨0, _⟩ => ⟨S8x64x64, .f32⟩
  | .local _ .vmem, ⟨1, _⟩ => ⟨S1x64x64, .f32⟩
  | .local _ .vmem, ⟨2, _⟩ => ⟨S1x64x64, .f32⟩
  | .local _ .vmem, ⟨3, _⟩ => ⟨S1x64x64, .f32⟩
  | .local _ .vmem, ⟨4, _⟩ => ⟨S1x64x64, .f32⟩
  | .local _ .vmem, ⟨5, _⟩ => ⟨S1x64x64, .f32⟩
  | .local _ .vmem, ⟨6, _⟩ => ⟨S1x64x64, .f32⟩
  | .local _ .vmem, ⟨7, _⟩ => ⟨S1x64x64, .f32⟩
  | _, _ => ⟨S8x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S8x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamW2RefIdeal.lean ====
abbrev S8x64x64 : Shape := ⟨3, ![8, 64, 64]⟩
abbrev S1x64x64 : Shape := ⟨3, ![1, 64, 64]⟩
abbrev S_ : Shape := ⟨0, ![]⟩
abbrev S64x64 : Shape := ⟨2, ![64, 64]⟩

abbrev nBuf : Space → Nat
  | .hbm => 40
  | .vmem => 0
  | .smem => 0
  | _ => 0

abbrev bufTy : (tb : Table) → Fin (tcTables nBuf tb) → BufTy
  | .hbm, ⟨0, _⟩ => ⟨S8x64x64, .f32⟩
  | .hbm, ⟨1, _⟩ => ⟨S1x64x64, .f32⟩
  | .hbm, ⟨2, _⟩ => ⟨S1x64x64, .f32⟩
  | .hbm, ⟨3, _⟩ => ⟨S1x64x64, .f32⟩
  | .hbm, ⟨4, _⟩ => ⟨S_, .f32⟩
  | .hbm, ⟨5, _⟩ => ⟨S64x64, .f32⟩
  | .hbm, ⟨6, _⟩ => ⟨S1x64x64, .f32⟩
  | .hbm, ⟨7, _⟩ => ⟨S_, .f32⟩
  | .hbm, ⟨8, _⟩ => ⟨S1x64x64, .f32⟩
  | .hbm, ⟨9, _⟩ => ⟨S1x64x64, .f32⟩
  | .hbm, ⟨10, _⟩ => ⟨S_, .f32⟩
  | .hbm, ⟨11, _⟩ => ⟨S1x64x64, .f32⟩
  | .hbm, ⟨12, _⟩ => ⟨S1x64x64, .f32⟩
  | .hbm, ⟨13, _⟩ => ⟨S1x64x64, .f32⟩
  | .hbm, ⟨14, _⟩ => ⟨S_, .f32⟩
  | .hbm, ⟨15, _⟩ => ⟨S1x64x64, .f32⟩
  | .hbm, ⟨16, _⟩ => ⟨S1x64x64, .f32⟩
  | .hbm, ⟨17, _⟩ => ⟨S1x64x64, .f32⟩
  | .hbm, ⟨18, _⟩ => ⟨S_, .f32⟩
  | .hbm, ⟨19, _⟩ => ⟨S1x64x64, .f32⟩
  | .hbm, ⟨20, _⟩ => ⟨S1x64x64, .f32⟩
  | .hbm, ⟨21, _⟩ => ⟨S1x64x64, .f32⟩
  | .hbm, ⟨22, _⟩ => ⟨S_, .f32⟩
  | .hbm, ⟨23, _⟩ => ⟨S1x64x64, .f32⟩
  | .hbm, ⟨24, _⟩ => ⟨S1x64x64, .f32⟩
  | .hbm, ⟨25, _⟩ => ⟨S_, .f32⟩
  | .hbm, ⟨26, _⟩ => ⟨S1x64x64, .f32⟩
  | .hbm, ⟨27, _⟩ => ⟨S1x64x64, .f32⟩
  | .hbm, ⟨28, _⟩ => ⟨S1x64x64, .f32⟩
  | .hbm, ⟨29, _⟩ => ⟨S_, .f32⟩
  | .hbm, ⟨30, _⟩ => ⟨S1x64x64, .f32⟩
  | .hbm, ⟨31, _⟩ => ⟨S1x64x64, .f32⟩
  | .hbm, ⟨32, _⟩ => ⟨S1x64x64, .f32⟩
  | .hbm, ⟨33, _⟩ => ⟨S_, .f32⟩
  | .hbm, ⟨34, _⟩ => ⟨S1x64x64, .f32⟩
  | .hbm, ⟨35, _⟩ => ⟨S1x64x64, .f32⟩
  | .hbm, ⟨36, _⟩ => ⟨S1x64x64, .f32⟩
  | .hbm, ⟨37, _⟩ => ⟨S_, .f32⟩
  | .hbm, ⟨38, _⟩ => ⟨S1x64x64, .f32⟩
  | .hbm, ⟨39, _⟩ => ⟨S1x64x64, .f32⟩
  | _, _ => ⟨S8x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamG2.lean ====
abbrev S8x128x64 : Shape := ⟨3, ![8, 128, 64]⟩
abbrev S1x128x64 : Shape := ⟨3, ![1, 128, 64]⟩
abbrev S128x64 : Shape := ⟨2, ![128, 64]⟩

abbrev nBuf : Space → Nat
  | .hbm => 8
  | .vmem => 8
  | .smem => 0
  | _ => 0

abbrev bufTy : (tb : Table) → Fin (tcTables nBuf tb) → BufTy
  | .hbm, ⟨0, _⟩ => ⟨S8x128x64, .f32⟩
  | .hbm, ⟨1, _⟩ => ⟨S1x128x64, .f32⟩
  | .hbm, ⟨2, _⟩ => ⟨S1x128x64, .f32⟩
  | .hbm, ⟨3, _⟩ => ⟨S1x128x64, .f32⟩
  | .hbm, ⟨4, _⟩ => ⟨S1x128x64, .f32⟩
  | .hbm, ⟨5, _⟩ => ⟨S1x128x64, .f32⟩
  | .hbm, ⟨6, _⟩ => ⟨S1x128x64, .f32⟩
  | .hbm, ⟨7, _⟩ => ⟨S1x128x64, .f32⟩
  | .local _ .vmem, ⟨0, _⟩ => ⟨S8x128x64, .f32⟩
  | .local _ .vmem, ⟨1, _⟩ => ⟨S1x128x64, .f32⟩
  | .local _ .vmem, ⟨2, _⟩ => ⟨S1x128x64, .f32⟩
  | .local _ .vmem, ⟨3, _⟩ => ⟨S1x128x64, .f32⟩
  | .local _ .vmem, ⟨4, _⟩ => ⟨S1x128x64, .f32⟩
  | .local _ .vmem, ⟨5, _⟩ => ⟨S1x128x64, .f32⟩
  | .local _ .vmem, ⟨6, _⟩ => ⟨S1x128x64, .f32⟩
  | .local _ .vmem, ⟨7, _⟩ => ⟨S1x128x64, .f32⟩
  | _, _ => ⟨S8x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S8x128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamG2Ideal.lean ====
abbrev S8x128x64 : Shape := ⟨3, ![8, 128, 64]⟩
abbrev S1x128x64 : Shape := ⟨3, ![1, 128, 64]⟩
abbrev S128x64 : Shape := ⟨2, ![128, 64]⟩

abbrev nBuf : Space → Nat
  | .hbm => 8
  | .vmem => 8
  | .smem => 0
  | _ => 0

abbrev bufTy : (tb : Table) → Fin (tcTables nBuf tb) → BufTy
  | .hbm, ⟨0, _⟩ => ⟨S8x128x64, .f32⟩
  | .hbm, ⟨1, _⟩ => ⟨S1x128x64, .f32⟩
  | .hbm, ⟨2, _⟩ => ⟨S1x128x64, .f32⟩
  | .hbm, ⟨3, _⟩ => ⟨S1x128x64, .f32⟩
  | .hbm, ⟨4, _⟩ => ⟨S1x128x64, .f32⟩
  | .hbm, ⟨5, _⟩ => ⟨S1x128x64, .f32⟩
  | .hbm, ⟨6, _⟩ => ⟨S1x128x64, .f32⟩
  | .hbm, ⟨7, _⟩ => ⟨S1x128x64, .f32⟩
  | .local _ .vmem, ⟨0, _⟩ => ⟨S8x128x64, .f32⟩
  | .local _ .vmem, ⟨1, _⟩ => ⟨S1x128x64, .f32⟩
  | .local _ .vmem, ⟨2, _⟩ => ⟨S1x128x64, .f32⟩
  | .local _ .vmem, ⟨3, _⟩ => ⟨S1x128x64, .f32⟩
  | .local _ .vmem, ⟨4, _⟩ => ⟨S1x128x64, .f32⟩
  | .local _ .vmem, ⟨5, _⟩ => ⟨S1x128x64, .f32⟩
  | .local _ .vmem, ⟨6, _⟩ => ⟨S1x128x64, .f32⟩
  | .local _ .vmem, ⟨7, _⟩ => ⟨S1x128x64, .f32⟩
  | _, _ => ⟨S8x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S8x128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamG2RefIdeal.lean ====
abbrev S8x128x64 : Shape := ⟨3, ![8, 128, 64]⟩
abbrev S1x128x64 : Shape := ⟨3, ![1, 128, 64]⟩
abbrev S_ : Shape := ⟨0, ![]⟩
abbrev S128x64 : Shape := ⟨2, ![128, 64]⟩

abbrev nBuf : Space → Nat
  | .hbm => 40
  | .vmem => 0
  | .smem => 0
  | _ => 0

abbrev bufTy : (tb : Table) → Fin (tcTables nBuf tb) → BufTy
  | .hbm, ⟨0, _⟩ => ⟨S8x128x64, .f32⟩
  | .hbm, ⟨1, _⟩ => ⟨S1x128x64, .f32⟩
  | .hbm, ⟨2, _⟩ => ⟨S1x128x64, .f32⟩
  | .hbm, ⟨3, _⟩ => ⟨S1x128x64, .f32⟩
  | .hbm, ⟨4, _⟩ => ⟨S_, .f32⟩
  | .hbm, ⟨5, _⟩ => ⟨S128x64, .f32⟩
  | .hbm, ⟨6, _⟩ => ⟨S1x128x64, .f32⟩
  | .hbm, ⟨7, _⟩ => ⟨S_, .f32⟩
  | .hbm, ⟨8, _⟩ => ⟨S1x128x64, .f32⟩
  | .hbm, ⟨9, _⟩ => ⟨S1x128x64, .f32⟩
  | .hbm, ⟨10, _⟩ => ⟨S_, .f32⟩
  | .hbm, ⟨11, _⟩ => ⟨S1x128x64, .f32⟩
  | .hbm, ⟨12, _⟩ => ⟨S1x128x64, .f32⟩
  | .hbm, ⟨13, _⟩ => ⟨S1x128x64, .f32⟩
  | .hbm, ⟨14, _⟩ => ⟨S_, .f32⟩
  | .hbm, ⟨15, _⟩ => ⟨S1x128x64, .f32⟩
  | .hbm, ⟨16, _⟩ => ⟨S1x128x64, .f32⟩
  | .hbm, ⟨17, _⟩ => ⟨S1x128x64, .f32⟩
  | .hbm, ⟨18, _⟩ => ⟨S_, .f32⟩
  | .hbm, ⟨19, _⟩ => ⟨S1x128x64, .f32⟩
  | .hbm, ⟨20, _⟩ => ⟨S1x128x64, .f32⟩
  | .hbm, ⟨21, _⟩ => ⟨S1x128x64, .f32⟩
  | .hbm, ⟨22, _⟩ => ⟨S_, .f32⟩
  | .hbm, ⟨23, _⟩ => ⟨S1x128x64, .f32⟩
  | .hbm, ⟨24, _⟩ => ⟨S1x128x64, .f32⟩
  | .hbm, ⟨25, _⟩ => ⟨S_, .f32⟩
  | .hbm, ⟨26, _⟩ => ⟨S1x128x64, .f32⟩
  | .hbm, ⟨27, _⟩ => ⟨S1x128x64, .f32⟩
  | .hbm, ⟨28, _⟩ => ⟨S1x128x64, .f32⟩
  | .hbm, ⟨29, _⟩ => ⟨S_, .f32⟩
  | .hbm, ⟨30, _⟩ => ⟨S1x128x64, .f32⟩
  | .hbm, ⟨31, _⟩ => ⟨S1x128x64, .f32⟩
  | .hbm, ⟨32, _⟩ => ⟨S1x128x64, .f32⟩
  | .hbm, ⟨33, _⟩ => ⟨S_, .f32⟩
  | .hbm, ⟨34, _⟩ => ⟨S1x128x64, .f32⟩
  | .hbm, ⟨35, _⟩ => ⟨S1x128x64, .f32⟩
  | .hbm, ⟨36, _⟩ => ⟨S1x128x64, .f32⟩
  | .hbm, ⟨37, _⟩ => ⟨S_, .f32⟩
  | .hbm, ⟨38, _⟩ => ⟨S1x128x64, .f32⟩
  | .hbm, ⟨39, _⟩ => ⟨S1x128x64, .f32⟩
  | _, _ => ⟨S8x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOut.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S8x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S8x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamOutIdeal.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S8x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S8x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamOutRefIdeal.lean ====
abbrev S8x128x1024 : Shape := ⟨3, ![8, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S_, .f32⟩
  | .hbm, ⟨5, _⟩ => ⟨S128x1024, .f32⟩
  | .hbm, ⟨6, _⟩ => ⟨S1x128x1024, .f32⟩
  | .hbm, ⟨7, _⟩ => ⟨S_, .f32⟩
  | .hbm, ⟨8, _⟩ => ⟨S1x128x1024, .f32⟩
  | .hbm, ⟨9, _⟩ => ⟨S1x128x1024, .f32⟩
  | .hbm, ⟨10, _⟩ => ⟨S_, .f32⟩
  | .hbm, ⟨11, _⟩ => ⟨S1x128x1024, .f32⟩
  | .hbm, ⟨12, _⟩ => ⟨S1x128x1024, .f32⟩
  | .hbm, ⟨13, _⟩ => ⟨S1x128x1024, .f32⟩
  | .hbm, ⟨14, _⟩ => ⟨S_, .f32⟩
  | .hbm, ⟨15, _⟩ => ⟨S1x128x1024, .f32⟩
  | .hbm, ⟨16, _⟩ => ⟨S1x128x1024, .f32⟩
  | .hbm, ⟨17, _⟩ => ⟨S1x128x1024, .f32⟩
  | .hbm, ⟨18, _⟩ => ⟨S_, .f32⟩
  | .hbm, ⟨19, _⟩ => ⟨S1x128x1024, .f32⟩
  | .hbm, ⟨20, _⟩ => ⟨S1x128x1024, .f32⟩
  | .hbm, ⟨21, _⟩ => ⟨S1x128x1024, .f32⟩
  | .hbm, ⟨22, _⟩ => ⟨S_, .f32⟩
  | .hbm, ⟨23, _⟩ => ⟨S1x128x1024, .f32⟩
  | .hbm, ⟨24, _⟩ => ⟨S1x128x1024, .f32⟩
  | .hbm, ⟨25, _⟩ => ⟨S_, .f32⟩
  | .hbm, ⟨26, _⟩ => ⟨S1x128x1024, .f32⟩
  | .hbm, ⟨27, _⟩ => ⟨S1x128x1024, .f32⟩
  | .hbm, ⟨28, _⟩ => ⟨S1x128x1024, .f32⟩
  | .hbm, ⟨29, _⟩ => ⟨S_, .f32⟩
  | .hbm, ⟨30, _⟩ => ⟨S1x128x1024, .f32⟩
  | .hbm, ⟨31, _⟩ => ⟨S1x128x1024, .f32⟩
  | .hbm, ⟨32, _⟩ => ⟨S1x128x1024, .f32⟩
  | .hbm, ⟨33, _⟩ => ⟨S_, .f32⟩
  | .hbm, ⟨34, _⟩ => ⟨S1x128x1024, .f32⟩
  | .hbm, ⟨35, _⟩ => ⟨S1x128x1024, .f32⟩
  | .hbm, ⟨36, _⟩ => ⟨S1x128x1024, .f32⟩
  | .hbm, ⟨37, _⟩ => ⟨S_, .f32⟩
  | .hbm, ⟨38, _⟩ => ⟨S1x128x1024, .f32⟩
  | .hbm, ⟨39, _⟩ => ⟨S1x128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamUp.lean ====
abbrev S8x1024x688 : Shape := ⟨3, ![8, 1024, 688]⟩
abbrev S1x1024x688 : Shape := ⟨3, ![1, 1024, 688]⟩
abbrev S8x128x688 : Shape := ⟨3, ![8, 128, 688]⟩
abbrev S1x128x688 : Shape := ⟨3, ![1, 128, 688]⟩
abbrev S128x688 : Shape := ⟨2, ![128, 688]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x688, .f32⟩
  | .hbm, ⟨1, _⟩ => ⟨S1x1024x688, .f32⟩
  | .hbm, ⟨2, _⟩ => ⟨S1x1024x688, .f32⟩
  | .hbm, ⟨3, _⟩ => ⟨S1x1024x688, .f32⟩
  | .hbm, ⟨4, _⟩ => ⟨S1x1024x688, .f32⟩
  | .hbm, ⟨5, _⟩ => ⟨S1x1024x688, .f32⟩
  | .hbm, ⟨6, _⟩ => ⟨S1x1024x688, .f32⟩
  | .hbm, ⟨7, _⟩ => ⟨S1x1024x688, .f32⟩
  | .local _ .vmem, ⟨0, _⟩ => ⟨S8x128x688, .f32⟩
  | .local _ .vmem, ⟨1, _⟩ => ⟨S8x128x688, .f32⟩
  | .local _ .vmem, ⟨2, _⟩ => ⟨S1x128x688, .f32⟩
  | .local _ .vmem, ⟨3, _⟩ => ⟨S1x128x688, .f32⟩
  | .local _ .vmem, ⟨4, _⟩ => ⟨S1x128x688, .f32⟩
  | .local _ .vmem, ⟨5, _⟩ => ⟨S1x128x688, .f32⟩
  | .local _ .vmem, ⟨6, _⟩ => ⟨S1x128x688, .f32⟩
  | .local _ .vmem, ⟨7, _⟩ => ⟨S1x128x688, .f32⟩
  | .local _ .vmem, ⟨8, _⟩ => ⟨S1x128x688, .f32⟩
  | .local _ .vmem, ⟨9, _⟩ => ⟨S1x128x688, .f32⟩
  | .local _ .vmem, ⟨10, _⟩ => ⟨S1x128x688, .f32⟩
  | .local _ .vmem, ⟨11, _⟩ => ⟨S1x128x688, .f32⟩
  | .local _ .vmem, ⟨12, _⟩ => ⟨S1x128x688, .f32⟩
  | .local _ .vmem, ⟨13, _⟩ => ⟨S1x128x688, .f32⟩
  | .local _ .vmem, ⟨14, _⟩ => ⟨S1x128x688, .f32⟩
  | .local _ .vmem, ⟨15, _⟩ => ⟨S1x128x688, .f32⟩
  | _, _ => ⟨S8x1024x688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S8x128x688 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x688 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x688 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x688 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x688 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x688 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x688 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x688 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamUpIdeal.lean ====
abbrev S8x1024x688 : Shape := ⟨3, ![8, 1024, 688]⟩
abbrev S1x1024x688 : Shape := ⟨3, ![1, 1024, 688]⟩
abbrev S8x128x688 : Shape := ⟨3, ![8, 128, 688]⟩
abbrev S1x128x688 : Shape := ⟨3, ![1, 128, 688]⟩
abbrev S128x688 : Shape := ⟨2, ![128, 688]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x688, .f32⟩
  | .hbm, ⟨1, _⟩ => ⟨S1x1024x688, .f32⟩
  | .hbm, ⟨2, _⟩ => ⟨S1x1024x688, .f32⟩
  | .hbm, ⟨3, _⟩ => ⟨S1x1024x688, .f32⟩
  | .hbm, ⟨4, _⟩ => ⟨S1x1024x688, .f32⟩
  | .hbm, ⟨5, _⟩ => ⟨S1x1024x688, .f32⟩
  | .hbm, ⟨6, _⟩ => ⟨S1x1024x688, .f32⟩
  | .hbm, ⟨7, _⟩ => ⟨S1x1024x688, .f32⟩
  | .local _ .vmem, ⟨0, _⟩ => ⟨S8x128x688, .f32⟩
  | .local _ .vmem, ⟨1, _⟩ => ⟨S8x128x688, .f32⟩
  | .local _ .vmem, ⟨2, _⟩ => ⟨S1x128x688, .f32⟩
  | .local _ .vmem, ⟨3, _⟩ => ⟨S1x128x688, .f32⟩
  | .local _ .vmem, ⟨4, _⟩ => ⟨S1x128x688, .f32⟩
  | .local _ .vmem, ⟨5, _⟩ => ⟨S1x128x688, .f32⟩
  | .local _ .vmem, ⟨6, _⟩ => ⟨S1x128x688, .f32⟩
  | .local _ .vmem, ⟨7, _⟩ => ⟨S1x128x688, .f32⟩
  | .local _ .vmem, ⟨8, _⟩ => ⟨S1x128x688, .f32⟩
  | .local _ .vmem, ⟨9, _⟩ => ⟨S1x128x688, .f32⟩
  | .local _ .vmem, ⟨10, _⟩ => ⟨S1x128x688, .f32⟩
  | .local _ .vmem, ⟨11, _⟩ => ⟨S1x128x688, .f32⟩
  | .local _ .vmem, ⟨12, _⟩ => ⟨S1x128x688, .f32⟩
  | .local _ .vmem, ⟨13, _⟩ => ⟨S1x128x688, .f32⟩
  | .local _ .vmem, ⟨14, _⟩ => ⟨S1x128x688, .f32⟩
  | .local _ .vmem, ⟨15, _⟩ => ⟨S1x128x688, .f32⟩
  | _, _ => ⟨S8x1024x688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S8x128x688 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x688 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x688 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x688 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x688 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x688 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x688 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x688 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamUpRefIdeal.lean ====
abbrev S8x1024x688 : Shape := ⟨3, ![8, 1024, 688]⟩
abbrev S1x1024x688 : Shape := ⟨3, ![1, 1024, 688]⟩
abbrev S_ : Shape := ⟨0, ![]⟩
abbrev S1024x688 : Shape := ⟨2, ![1024, 688]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x688, .f32⟩
  | .hbm, ⟨1, _⟩ => ⟨S1x1024x688, .f32⟩
  | .hbm, ⟨2, _⟩ => ⟨S1x1024x688, .f32⟩
  | .hbm, ⟨3, _⟩ => ⟨S1x1024x688, .f32⟩
  | .hbm, ⟨4, _⟩ => ⟨S_, .f32⟩
  | .hbm, ⟨5, _⟩ => ⟨S1024x688, .f32⟩
  | .hbm, ⟨6, _⟩ => ⟨S1x1024x688, .f32⟩
  | .hbm, ⟨7, _⟩ => ⟨S_, .f32⟩
  | .hbm, ⟨8, _⟩ => ⟨S1x1024x688, .f32⟩
  | .hbm, ⟨9, _⟩ => ⟨S1x1024x688, .f32⟩
  | .hbm, ⟨10, _⟩ => ⟨S_, .f32⟩
  | .hbm, ⟨11, _⟩ => ⟨S1x1024x688, .f32⟩
  | .hbm, ⟨12, _⟩ => ⟨S1x1024x688, .f32⟩
  | .hbm, ⟨13, _⟩ => ⟨S1x1024x688, .f32⟩
  | .hbm, ⟨14, _⟩ => ⟨S_, .f32⟩
  | .hbm, ⟨15, _⟩ => ⟨S1x1024x688, .f32⟩
  | .hbm, ⟨16, _⟩ => ⟨S1x1024x688, .f32⟩
  | .hbm, ⟨17, _⟩ => ⟨S1x1024x688, .f32⟩
  | .hbm, ⟨18, _⟩ => ⟨S_, .f32⟩
  | .hbm, ⟨19, _⟩ => ⟨S1x1024x688, .f32⟩
  | .hbm, ⟨20, _⟩ => ⟨S1x1024x688, .f32⟩
  | .hbm, ⟨21, _⟩ => ⟨S1x1024x688, .f32⟩
  | .hbm, ⟨22, _⟩ => ⟨S_, .f32⟩
  | .hbm, ⟨23, _⟩ => ⟨S1x1024x688, .f32⟩
  | .hbm, ⟨24, _⟩ => ⟨S1x1024x688, .f32⟩
  | .hbm, ⟨25, _⟩ => ⟨S_, .f32⟩
  | .hbm, ⟨26, _⟩ => ⟨S1x1024x688, .f32⟩
  | .hbm, ⟨27, _⟩ => ⟨S1x1024x688, .f32⟩
  | .hbm, ⟨28, _⟩ => ⟨S1x1024x688, .f32⟩
  | .hbm, ⟨29, _⟩ => ⟨S_, .f32⟩
  | .hbm, ⟨30, _⟩ => ⟨S1x1024x688, .f32⟩
  | .hbm, ⟨31, _⟩ => ⟨S1x1024x688, .f32⟩
  | .hbm, ⟨32, _⟩ => ⟨S1x1024x688, .f32⟩
  | .hbm, ⟨33, _⟩ => ⟨S_, .f32⟩
  | .hbm, ⟨34, _⟩ => ⟨S1x1024x688, .f32⟩
  | .hbm, ⟨35, _⟩ => ⟨S1x1024x688, .f32⟩
  | .hbm, ⟨36, _⟩ => ⟨S1x1024x688, .f32⟩
  | .hbm, ⟨37, _⟩ => ⟨S_, .f32⟩
  | .hbm, ⟨38, _⟩ => ⟨S1x1024x688, .f32⟩
  | .hbm, ⟨39, _⟩ => ⟨S1x1024x688, .f32⟩
  | _, _ => ⟨S8x1024x688, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamConv.lean ====
abbrev S8x3x688 : Shape := ⟨3, ![8, 3, 688]⟩
abbrev S1x3x688 : Shape := ⟨3, ![1, 3, 688]⟩
abbrev S3x688 : Shape := ⟨2, ![3, 688]⟩

abbrev nBuf : Space → Nat
  | .hbm => 8
  | .vmem => 8
  | .smem => 0
  | _ => 0

abbrev bufTy : (tb : Table) → Fin (tcTables nBuf tb) → BufTy
  | .hbm, ⟨0, _⟩ => ⟨S8x3x688, .f32⟩
  | .hbm, ⟨1, _⟩ => ⟨S1x3x688, .f32⟩
  | .hbm, ⟨2, _⟩ => ⟨S1x3x688, .f32⟩
  | .hbm, ⟨3, _⟩ => ⟨S1x3x688, .f32⟩
  | .hbm, ⟨4, _⟩ => ⟨S1x3x688, .f32⟩
  | .hbm, ⟨5, _⟩ => ⟨S1x3x688, .f32⟩
  | .hbm, ⟨6, _⟩ => ⟨S1x3x688, .f32⟩
  | .hbm, ⟨7, _⟩ => ⟨S1x3x688, .f32⟩
  | .local _ .vmem, ⟨0, _⟩ => ⟨S8x3x688, .f32⟩
  | .local _ .vmem, ⟨1, _⟩ => ⟨S1x3x688, .f32⟩
  | .local _ .vmem, ⟨2, _⟩ => ⟨S1x3x688, .f32⟩
  | .local _ .vmem, ⟨3, _⟩ => ⟨S1x3x688, .f32⟩
  | .local _ .vmem, ⟨4, _⟩ => ⟨S1x3x688, .f32⟩
  | .local _ .vmem, ⟨5, _⟩ => ⟨S1x3x688, .f32⟩
  | .local _ .vmem, ⟨6, _⟩ => ⟨S1x3x688, .f32⟩
  | .local _ .vmem, ⟨7, _⟩ => ⟨S1x3x688, .f32⟩
  | _, _ => ⟨S8x3x688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S8x3x688 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x3x688 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x3x688 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x3x688 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x3x688 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x3x688 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x3x688 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x3x688 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamConvIdeal.lean ====
abbrev S8x3x688 : Shape := ⟨3, ![8, 3, 688]⟩
abbrev S1x3x688 : Shape := ⟨3, ![1, 3, 688]⟩
abbrev S3x688 : Shape := ⟨2, ![3, 688]⟩

abbrev nBuf : Space → Nat
  | .hbm => 8
  | .vmem => 8
  | .smem => 0
  | _ => 0

abbrev bufTy : (tb : Table) → Fin (tcTables nBuf tb) → BufTy
  | .hbm, ⟨0, _⟩ => ⟨S8x3x688, .f32⟩
  | .hbm, ⟨1, _⟩ => ⟨S1x3x688, .f32⟩
  | .hbm, ⟨2, _⟩ => ⟨S1x3x688, .f32⟩
  | .hbm, ⟨3, _⟩ => ⟨S1x3x688, .f32⟩
  | .hbm, ⟨4, _⟩ => ⟨S1x3x688, .f32⟩
  | .hbm, ⟨5, _⟩ => ⟨S1x3x688, .f32⟩
  | .hbm, ⟨6, _⟩ => ⟨S1x3x688, .f32⟩
  | .hbm, ⟨7, _⟩ => ⟨S1x3x688, .f32⟩
  | .local _ .vmem, ⟨0, _⟩ => ⟨S8x3x688, .f32⟩
  | .local _ .vmem, ⟨1, _⟩ => ⟨S1x3x688, .f32⟩
  | .local _ .vmem, ⟨2, _⟩ => ⟨S1x3x688, .f32⟩
  | .local _ .vmem, ⟨3, _⟩ => ⟨S1x3x688, .f32⟩
  | .local _ .vmem, ⟨4, _⟩ => ⟨S1x3x688, .f32⟩
  | .local _ .vmem, ⟨5, _⟩ => ⟨S1x3x688, .f32⟩
  | .local _ .vmem, ⟨6, _⟩ => ⟨S1x3x688, .f32⟩
  | .local _ .vmem, ⟨7, _⟩ => ⟨S1x3x688, .f32⟩
  | _, _ => ⟨S8x3x688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S8x3x688 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x3x688 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x3x688 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x3x688 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x3x688 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x3x688 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x3x688 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x3x688 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamConvRefIdeal.lean ====
abbrev S8x3x688 : Shape := ⟨3, ![8, 3, 688]⟩
abbrev S1x3x688 : Shape := ⟨3, ![1, 3, 688]⟩
abbrev S_ : Shape := ⟨0, ![]⟩
abbrev S3x688 : Shape := ⟨2, ![3, 688]⟩

abbrev nBuf : Space → Nat
  | .hbm => 40
  | .vmem => 0
  | .smem => 0
  | _ => 0

abbrev bufTy : (tb : Table) → Fin (tcTables nBuf tb) → BufTy
  | .hbm, ⟨0, _⟩ => ⟨S8x3x688, .f32⟩
  | .hbm, ⟨1, _⟩ => ⟨S1x3x688, .f32⟩
  | .hbm, ⟨2, _⟩ => ⟨S1x3x688, .f32⟩
  | .hbm, ⟨3, _⟩ => ⟨S1x3x688, .f32⟩
  | .hbm, ⟨4, _⟩ => ⟨S_, .f32⟩
  | .hbm, ⟨5, _⟩ => ⟨S3x688, .f32⟩
  | .hbm, ⟨6, _⟩ => ⟨S1x3x688, .f32⟩
  | .hbm, ⟨7, _⟩ => ⟨S_, .f32⟩
  | .hbm, ⟨8, _⟩ => ⟨S1x3x688, .f32⟩
  | .hbm, ⟨9, _⟩ => ⟨S1x3x688, .f32⟩
  | .hbm, ⟨10, _⟩ => ⟨S_, .f32⟩
  | .hbm, ⟨11, _⟩ => ⟨S1x3x688, .f32⟩
  | .hbm, ⟨12, _⟩ => ⟨S1x3x688, .f32⟩
  | .hbm, ⟨13, _⟩ => ⟨S1x3x688, .f32⟩
  | .hbm, ⟨14, _⟩ => ⟨S_, .f32⟩
  | .hbm, ⟨15, _⟩ => ⟨S1x3x688, .f32⟩
  | .hbm, ⟨16, _⟩ => ⟨S1x3x688, .f32⟩
  | .hbm, ⟨17, _⟩ => ⟨S1x3x688, .f32⟩
  | .hbm, ⟨18, _⟩ => ⟨S_, .f32⟩
  | .hbm, ⟨19, _⟩ => ⟨S1x3x688, .f32⟩
  | .hbm, ⟨20, _⟩ => ⟨S1x3x688, .f32⟩
  | .hbm, ⟨21, _⟩ => ⟨S1x3x688, .f32⟩
  | .hbm, ⟨22, _⟩ => ⟨S_, .f32⟩
  | .hbm, ⟨23, _⟩ => ⟨S1x3x688, .f32⟩
  | .hbm, ⟨24, _⟩ => ⟨S1x3x688, .f32⟩
  | .hbm, ⟨25, _⟩ => ⟨S_, .f32⟩
  | .hbm, ⟨26, _⟩ => ⟨S1x3x688, .f32⟩
  | .hbm, ⟨27, _⟩ => ⟨S1x3x688, .f32⟩
  | .hbm, ⟨28, _⟩ => ⟨S1x3x688, .f32⟩
  | .hbm, ⟨29, _⟩ => ⟨S_, .f32⟩
  | .hbm, ⟨30, _⟩ => ⟨S1x3x688, .f32⟩
  | .hbm, ⟨31, _⟩ => ⟨S1x3x688, .f32⟩
  | .hbm, ⟨32, _⟩ => ⟨S1x3x688, .f32⟩
  | .hbm, ⟨33, _⟩ => ⟨S_, .f32⟩
  | .hbm, ⟨34, _⟩ => ⟨S1x3x688, .f32⟩
  | .hbm, ⟨35, _⟩ => ⟨S1x3x688, .f32⟩
  | .hbm, ⟨36, _⟩ => ⟨S1x3x688, .f32⟩
  | .hbm, ⟨37, _⟩ => ⟨S_, .f32⟩
  | .hbm, ⟨38, _⟩ => ⟨S1x3x688, .f32⟩
  | .hbm, ⟨39, _⟩ => ⟨S1x3x688, .f32⟩
  | _, _ => ⟨S8x3x688, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamDown.lean ====
abbrev S8x344x1024 : Shape := ⟨3, ![8, 344, 1024]⟩
abbrev S1x344x1024 : Shape := ⟨3, ![1, 344, 1024]⟩
abbrev S8x344x256 : Shape := ⟨3, ![8, 344, 256]⟩
abbrev S1x344x256 : Shape := ⟨3, ![1, 344, 256]⟩
abbrev S344x256 : Shape := ⟨2, ![344, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x344x1024, .f32⟩
  | .hbm, ⟨1, _⟩ => ⟨S1x344x1024, .f32⟩
  | .hbm, ⟨2, _⟩ => ⟨S1x344x1024, .f32⟩
  | .hbm, ⟨3, _⟩ => ⟨S1x344x1024, .f32⟩
  | .hbm, ⟨4, _⟩ => ⟨S1x344x1024, .f32⟩
  | .hbm, ⟨5, _⟩ => ⟨S1x344x1024, .f32⟩
  | .hbm, ⟨6, _⟩ => ⟨S1x344x1024, .f32⟩
  | .hbm, ⟨7, _⟩ => ⟨S1x344x1024, .f32⟩
  | .local _ .vmem, ⟨0, _⟩ => ⟨S8x344x256, .f32⟩
  | .local _ .vmem, ⟨1, _⟩ => ⟨S8x344x256, .f32⟩
  | .local _ .vmem, ⟨2, _⟩ => ⟨S1x344x256, .f32⟩
  | .local _ .vmem, ⟨3, _⟩ => ⟨S1x344x256, .f32⟩
  | .local _ .vmem, ⟨4, _⟩ => ⟨S1x344x256, .f32⟩
  | .local _ .vmem, ⟨5, _⟩ => ⟨S1x344x256, .f32⟩
  | .local _ .vmem, ⟨6, _⟩ => ⟨S1x344x256, .f32⟩
  | .local _ .vmem, ⟨7, _⟩ => ⟨S1x344x256, .f32⟩
  | .local _ .vmem, ⟨8, _⟩ => ⟨S1x344x256, .f32⟩
  | .local _ .vmem, ⟨9, _⟩ => ⟨S1x344x256, .f32⟩
  | .local _ .vmem, ⟨10, _⟩ => ⟨S1x344x256, .f32⟩
  | .local _ .vmem, ⟨11, _⟩ => ⟨S1x344x256, .f32⟩
  | .local _ .vmem, ⟨12, _⟩ => ⟨S1x344x256, .f32⟩
  | .local _ .vmem, ⟨13, _⟩ => ⟨S1x344x256, .f32⟩
  | .local _ .vmem, ⟨14, _⟩ => ⟨S1x344x256, .f32⟩
  | .local _ .vmem, ⟨15, _⟩ => ⟨S1x344x256, .f32⟩
  | _, _ => ⟨S8x344x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S8x344x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x344x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x344x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x344x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x344x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x344x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x344x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x344x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamDownIdeal.lean ====
abbrev S8x344x1024 : Shape := ⟨3, ![8, 344, 1024]⟩
abbrev S1x344x1024 : Shape := ⟨3, ![1, 344, 1024]⟩
abbrev S8x344x256 : Shape := ⟨3, ![8, 344, 256]⟩
abbrev S1x344x256 : Shape := ⟨3, ![1, 344, 256]⟩
abbrev S344x256 : Shape := ⟨2, ![344, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x344x1024, .f32⟩
  | .hbm, ⟨1, _⟩ => ⟨S1x344x1024, .f32⟩
  | .hbm, ⟨2, _⟩ => ⟨S1x344x1024, .f32⟩
  | .hbm, ⟨3, _⟩ => ⟨S1x344x1024, .f32⟩
  | .hbm, ⟨4, _⟩ => ⟨S1x344x1024, .f32⟩
  | .hbm, ⟨5, _⟩ => ⟨S1x344x1024, .f32⟩
  | .hbm, ⟨6, _⟩ => ⟨S1x344x1024, .f32⟩
  | .hbm, ⟨7, _⟩ => ⟨S1x344x1024, .f32⟩
  | .local _ .vmem, ⟨0, _⟩ => ⟨S8x344x256, .f32⟩
  | .local _ .vmem, ⟨1, _⟩ => ⟨S8x344x256, .f32⟩
  | .local _ .vmem, ⟨2, _⟩ => ⟨S1x344x256, .f32⟩
  | .local _ .vmem, ⟨3, _⟩ => ⟨S1x344x256, .f32⟩
  | .local _ .vmem, ⟨4, _⟩ => ⟨S1x344x256, .f32⟩
  | .local _ .vmem, ⟨5, _⟩ => ⟨S1x344x256, .f32⟩
  | .local _ .vmem, ⟨6, _⟩ => ⟨S1x344x256, .f32⟩
  | .local _ .vmem, ⟨7, _⟩ => ⟨S1x344x256, .f32⟩
  | .local _ .vmem, ⟨8, _⟩ => ⟨S1x344x256, .f32⟩
  | .local _ .vmem, ⟨9, _⟩ => ⟨S1x344x256, .f32⟩
  | .local _ .vmem, ⟨10, _⟩ => ⟨S1x344x256, .f32⟩
  | .local _ .vmem, ⟨11, _⟩ => ⟨S1x344x256, .f32⟩
  | .local _ .vmem, ⟨12, _⟩ => ⟨S1x344x256, .f32⟩
  | .local _ .vmem, ⟨13, _⟩ => ⟨S1x344x256, .f32⟩
  | .local _ .vmem, ⟨14, _⟩ => ⟨S1x344x256, .f32⟩
  | .local _ .vmem, ⟨15, _⟩ => ⟨S1x344x256, .f32⟩
  | _, _ => ⟨S8x344x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S8x344x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x344x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x344x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x344x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x344x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x344x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x344x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x344x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamDownRefIdeal.lean ====
abbrev S8x344x1024 : Shape := ⟨3, ![8, 344, 1024]⟩
abbrev S1x344x1024 : Shape := ⟨3, ![1, 344, 1024]⟩
abbrev S_ : Shape := ⟨0, ![]⟩
abbrev S344x1024 : Shape := ⟨2, ![344, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x344x1024, .f32⟩
  | .hbm, ⟨1, _⟩ => ⟨S1x344x1024, .f32⟩
  | .hbm, ⟨2, _⟩ => ⟨S1x344x1024, .f32⟩
  | .hbm, ⟨3, _⟩ => ⟨S1x344x1024, .f32⟩
  | .hbm, ⟨4, _⟩ => ⟨S_, .f32⟩
  | .hbm, ⟨5, _⟩ => ⟨S344x1024, .f32⟩
  | .hbm, ⟨6, _⟩ => ⟨S1x344x1024, .f32⟩
  | .hbm, ⟨7, _⟩ => ⟨S_, .f32⟩
  | .hbm, ⟨8, _⟩ => ⟨S1x344x1024, .f32⟩
  | .hbm, ⟨9, _⟩ => ⟨S1x344x1024, .f32⟩
  | .hbm, ⟨10, _⟩ => ⟨S_, .f32⟩
  | .hbm, ⟨11, _⟩ => ⟨S1x344x1024, .f32⟩
  | .hbm, ⟨12, _⟩ => ⟨S1x344x1024, .f32⟩
  | .hbm, ⟨13, _⟩ => ⟨S1x344x1024, .f32⟩
  | .hbm, ⟨14, _⟩ => ⟨S_, .f32⟩
  | .hbm, ⟨15, _⟩ => ⟨S1x344x1024, .f32⟩
  | .hbm, ⟨16, _⟩ => ⟨S1x344x1024, .f32⟩
  | .hbm, ⟨17, _⟩ => ⟨S1x344x1024, .f32⟩
  | .hbm, ⟨18, _⟩ => ⟨S_, .f32⟩
  | .hbm, ⟨19, _⟩ => ⟨S1x344x1024, .f32⟩
  | .hbm, ⟨20, _⟩ => ⟨S1x344x1024, .f32⟩
  | .hbm, ⟨21, _⟩ => ⟨S1x344x1024, .f32⟩
  | .hbm, ⟨22, _⟩ => ⟨S_, .f32⟩
  | .hbm, ⟨23, _⟩ => ⟨S1x344x1024, .f32⟩
  | .hbm, ⟨24, _⟩ => ⟨S1x344x1024, .f32⟩
  | .hbm, ⟨25, _⟩ => ⟨S_, .f32⟩
  | .hbm, ⟨26, _⟩ => ⟨S1x344x1024, .f32⟩
  | .hbm, ⟨27, _⟩ => ⟨S1x344x1024, .f32⟩
  | .hbm, ⟨28, _⟩ => ⟨S1x344x1024, .f32⟩
  | .hbm, ⟨29, _⟩ => ⟨S_, .f32⟩
  | .hbm, ⟨30, _⟩ => ⟨S1x344x1024, .f32⟩
  | .hbm, ⟨31, _⟩ => ⟨S1x344x1024, .f32⟩
  | .hbm, ⟨32, _⟩ => ⟨S1x344x1024, .f32⟩
  | .hbm, ⟨33, _⟩ => ⟨S_, .f32⟩
  | .hbm, ⟨34, _⟩ => ⟨S1x344x1024, .f32⟩
  | .hbm, ⟨35, _⟩ => ⟨S1x344x1024, .f32⟩
  | .hbm, ⟨36, _⟩ => ⟨S1x344x1024, .f32⟩
  | .hbm, ⟨37, _⟩ => ⟨S_, .f32⟩
  | .hbm, ⟨38, _⟩ => ⟨S1x344x1024, .f32⟩
  | .hbm, ⟨39, _⟩ => ⟨S1x344x1024, .f32⟩
  | _, _ => ⟨S8x344x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamRep.lean ====
abbrev S8x192x128 : Shape := ⟨3, ![8, 192, 128]⟩
abbrev S192x128 : Shape := ⟨2, ![192, 128]⟩
abbrev S1x192x128 : Shape := ⟨3, ![1, 192, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x192x128, .f32⟩
  | .hbm, ⟨1, _⟩ => ⟨S192x128, .f32⟩
  | .hbm, ⟨2, _⟩ => ⟨S192x128, .f32⟩
  | .hbm, ⟨3, _⟩ => ⟨S192x128, .f32⟩
  | .hbm, ⟨4, _⟩ => ⟨S192x128, .f32⟩
  | .hbm, ⟨5, _⟩ => ⟨S192x128, .f32⟩
  | .hbm, ⟨6, _⟩ => ⟨S192x128, .f32⟩
  | .hbm, ⟨7, _⟩ => ⟨S192x128, .f32⟩
  | .local _ .vmem, ⟨0, _⟩ => ⟨S8x192x128, .f32⟩
  | .local _ .vmem, ⟨1, _⟩ => ⟨S192x128, .f32⟩
  | .local _ .vmem, ⟨2, _⟩ => ⟨S192x128, .f32⟩
  | .local _ .vmem, ⟨3, _⟩ => ⟨S192x128, .f32⟩
  | .local _ .vmem, ⟨4, _⟩ => ⟨S192x128, .f32⟩
  | .local _ .vmem, ⟨5, _⟩ => ⟨S192x128, .f32⟩
  | .local _ .vmem, ⟨6, _⟩ => ⟨S192x128, .f32⟩
  | .local _ .vmem, ⟨7, _⟩ => ⟨S192x128, .f32⟩
  | _, _ => ⟨S8x192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S192x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S192x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S192x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S192x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamRepRefIdeal.lean ====
abbrev S8x192x128 : Shape := ⟨3, ![8, 192, 128]⟩
abbrev S192x128 : Shape := ⟨2, ![192, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x192x128, .f32⟩
  | .hbm, ⟨1, _⟩ => ⟨S192x128, .f32⟩
  | .hbm, ⟨2, _⟩ => ⟨S192x128, .f32⟩
  | .hbm, ⟨3, _⟩ => ⟨S192x128, .f32⟩
  | .hbm, ⟨4, _⟩ => ⟨S_, .f32⟩
  | .hbm, ⟨5, _⟩ => ⟨S192x128, .f32⟩
  | .hbm, ⟨6, _⟩ => ⟨S_, .f32⟩
  | .hbm, ⟨7, _⟩ => ⟨S192x128, .f32⟩
  | .hbm, ⟨8, _⟩ => ⟨S192x128, .f32⟩
  | .hbm, ⟨9, _⟩ => ⟨S_, .f32⟩
  | .hbm, ⟨10, _⟩ => ⟨S192x128, .f32⟩
  | .hbm, ⟨11, _⟩ => ⟨S192x128, .f32⟩
  | .hbm, ⟨12, _⟩ => ⟨S192x128, .f32⟩
  | .hbm, ⟨13, _⟩ => ⟨S_, .f32⟩
  | .hbm, ⟨14, _⟩ => ⟨S192x128, .f32⟩
  | .hbm, ⟨15, _⟩ => ⟨S192x128, .f32⟩
  | .hbm, ⟨16, _⟩ => ⟨S192x128, .f32⟩
  | .hbm, ⟨17, _⟩ => ⟨S_, .f32⟩
  | .hbm, ⟨18, _⟩ => ⟨S192x128, .f32⟩
  | .hbm, ⟨19, _⟩ => ⟨S192x128, .f32⟩
  | .hbm, ⟨20, _⟩ => ⟨S192x128, .f32⟩
  | .hbm, ⟨21, _⟩ => ⟨S_, .f32⟩
  | .hbm, ⟨22, _⟩ => ⟨S192x128, .f32⟩
  | .hbm, ⟨23, _⟩ => ⟨S192x128, .f32⟩
  | .hbm, ⟨24, _⟩ => ⟨S_, .f32⟩
  | .hbm, ⟨25, _⟩ => ⟨S192x128, .f32⟩
  | .hbm, ⟨26, _⟩ => ⟨S192x128, .f32⟩
  | .hbm, ⟨27, _⟩ => ⟨S192x128, .f32⟩
  | .hbm, ⟨28, _⟩ => ⟨S_, .f32⟩
  | .hbm, ⟨29, _⟩ => ⟨S192x128, .f32⟩
  | .hbm, ⟨30, _⟩ => ⟨S192x128, .f32⟩
  | .hbm, ⟨31, _⟩ => ⟨S192x128, .f32⟩
  | .hbm, ⟨32, _⟩ => ⟨S_, .f32⟩
  | .hbm, ⟨33, _⟩ => ⟨S192x128, .f32⟩
  | .hbm, ⟨34, _⟩ => ⟨S192x128, .f32⟩
  | .hbm, ⟨35, _⟩ => ⟨S192x128, .f32⟩
  | .hbm, ⟨36, _⟩ => ⟨S_, .f32⟩
  | .hbm, ⟨37, _⟩ => ⟨S192x128, .f32⟩
  | .hbm, ⟨38, _⟩ => ⟨S192x128, .f32⟩
  | _, _ => ⟨S8x192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Norm1.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Norm1RefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S1x1024, .f32⟩
  | .hbm, ⟨51, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Norm2.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Norm2RefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Merge.lean ====
abbrev S8192x5632 : Shape := ⟨2, ![8192, 5632]⟩
abbrev S8192x1024 : Shape := ⟨2, ![8192, 1024]⟩
abbrev S256x1024 : Shape := ⟨2, ![256, 1024]⟩

abbrev nBuf : Space → Nat
  | .hbm => 8
  | .vmem => 18
  | .smem => 0
  | _ => 0

abbrev bufTy : (tb : Table) → Fin (tcTables nBuf tb) → BufTy
  | .hbm, ⟨0, _⟩ => ⟨S8192x5632, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S8192x5632 : Shape := ⟨2, ![8192, 5632]⟩
abbrev S8192x1024 : Shape := ⟨2, ![8192, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Loss.lean ====
abbrev S8192x1024 : Shape := ⟨2, ![8192, 1024]⟩
abbrev S1x1024 : Shape := ⟨2, ![1, 1024]⟩
abbrev S1x1 : Shape := ⟨2, ![1, 1]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1x1 : Shape := ⟨3, ![1, 1, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1, .f32⟩
  | .hbm, ⟨5, _⟩ => ⟨S8192x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1 : Shape := ⟨2, ![1, 1]⟩

abbrev nBuf : Space → Nat
  | .hbm => 76
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S1x1, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_cst_9 : Ref sig .tc := ⟨.hbm, 42, rfl⟩
abbrev main_v28 : Ref sig .tc := ⟨.hbm, 43, rfl⟩
abbrev main_v29 : Ref sig .tc := ⟨.hbm, 44, rfl⟩
abbrev main_cst_10 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_11 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_12 : Ref sig .tc := ⟨.hbm, 56, rfl⟩
abbrev main_v39 : Ref sig .tc := ⟨.hbm, 57, rfl⟩
abbrev main_v40 : Ref sig .tc := ⟨.hbm, 58, rfl⟩
abbrev main_cst_13 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_14 : Ref sig .tc := ⟨.hbm, 65, rfl⟩
abbrev main_v46 : Ref sig .tc := ⟨.hbm, 66, rfl⟩
abbrev main_v47 : Ref sig .tc := ⟨.hbm, 67, rfl⟩
abbrev main_cst_15 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Norm1Fwd.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Norm1FwdRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Norm2Fwd.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Norm2FwdRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== MergeFwd.lean ====
abbrev S8192x5632 : Shape := ⟨2, ![8192, 5632]⟩
abbrev S8192x1024 : Shape := ⟨2, ![8192, 1024]⟩
abbrev S256x1024 : Shape := ⟨2, ![256, 1024]⟩

abbrev nBuf : Space → Nat
  | .hbm => 4
  | .vmem => 10
  | .smem => 0
  | _ => 0

abbrev bufTy : (tb : Table) → Fin (tcTables nBuf tb) → BufTy
  | .hbm, ⟨0, _⟩ => ⟨S8192x5632, .f32⟩
  | .hbm, ⟨1, _⟩ => ⟨S8192x1024, .f32⟩
  | .hbm, ⟨2, _⟩ => ⟨S8192x1024, .f32⟩
  | .hbm, ⟨3, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeFwdRefIdeal.lean ====
abbrev S8192x5632 : Shape := ⟨2, ![8192, 5632]⟩
abbrev S8192x1024 : Shape := ⟨2, ![8192, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Shift.lean ====
abbrev S8192x5632 : Shape := ⟨2, ![8192, 5632]⟩
abbrev S1x1792 : Shape := ⟨2, ![1, 1792]⟩
abbrev S8192x1792 : Shape := ⟨2, ![8192, 1792]⟩
abbrev S2048x256 : Shape := ⟨2, ![2048, 256]⟩
abbrev S1x256 : Shape := ⟨2, ![1, 256]⟩

abbrev nBuf : Space → Nat
  | .hbm => 4
  | .vmem => 8
  | .smem => 0
  | _ => 0

abbrev bufTy : (tb : Table) → Fin (tcTables nBuf tb) → BufTy
  | .hbm, ⟨0, _⟩ => ⟨S8192x5632, .f32⟩
  | .hbm, ⟨1, _⟩ => ⟨S1x1792, .f32⟩
  | .hbm, ⟨2, _⟩ => ⟨S1x1792, .f32⟩
  | .hbm, ⟨3, _⟩ => ⟨S8192x1792, .f32⟩
  | .local _ .vmem, ⟨0, _⟩ => ⟨S2048x256, .f32⟩
  | .local _ .vmem, ⟨1, _⟩ => ⟨S2048x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 7], ![false, false]⟩

def cc0_transform_0 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ShiftRefIdeal.lean ====
abbrev S8192x5632 : Shape := ⟨2, ![8192, 5632]⟩
abbrev S1x1792 : Shape := ⟨2, ![1, 1792]⟩
abbrev S8192x1792 : Shape := ⟨2, ![8192, 1792]⟩
abbrev S4x2048x1792 : Shape := ⟨3, ![4, 2048, 1792]⟩
abbrev S4x1x1792 : Shape := ⟨3, ![4, 1, 1792]⟩
abbrev S_ : Shape := ⟨0, ![]⟩
abbrev S4x2047x1792 : Shape := ⟨3, ![4, 2047, 1792]⟩
abbrev S1x1x1792 : Shape := ⟨3, ![1, 1, 1792]⟩

abbrev nBuf : Space → Nat
  | .hbm => 26
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S1x1792, .f32⟩
  | .hbm, ⟨2, _⟩ => ⟨S1x1792, .f32⟩
  | .hbm, ⟨3, _⟩ => ⟨S8192x1792, .f32⟩
  | .hbm, ⟨4, _⟩ => ⟨S4x2048x1792, .f32⟩
  | .hbm, ⟨5, _⟩ => ⟨S4x1x1792, .f32⟩
  | .hbm, ⟨6, _⟩ => ⟨S_, .f32⟩
  | .hbm, ⟨7, _⟩ => ⟨S4x1x1792, .f32⟩
  | .hbm, ⟨8, _⟩ => ⟨S4x2047x1792, .f32⟩
  | .hbm, ⟨9, _⟩ => ⟨S4x2048x1792, .f32⟩
  | .hbm, ⟨10, _⟩ => ⟨S4x2048x1792, .f32⟩
  | .hbm, ⟨11, _⟩ => ⟨S1x1x1792, .f32⟩
  | .hbm, ⟨12, _⟩ => ⟨S4x2048x1792, .f32⟩
  | .hbm, ⟨13, _⟩ => ⟨S4x2048x1792, .f32⟩
  | .hbm, ⟨14, _⟩ => ⟨S4x2048x1792, .f32⟩
  | .hbm, ⟨15, _⟩ => ⟨S4x2047x1792, .f32⟩
  | .hbm, ⟨16, _⟩ => ⟨S4x1x1792, .f32⟩
  | .hbm, ⟨17, _⟩ => ⟨S_, .f32⟩
  | .hbm, ⟨18, _⟩ => ⟨S4x1x1792, .f32⟩
  | .hbm, ⟨19, _⟩ => ⟨S4x2048x1792, .f32⟩
  | .hbm, ⟨20, _⟩ => ⟨S4x2048x1792, .f32⟩
  | .hbm, ⟨21, _⟩ => ⟨S1x1x1792, .f32⟩
  | .hbm, ⟨22, _⟩ => ⟨S4x2048x1792, .f32⟩
  | .hbm, ⟨23, _⟩ => ⟨S4x2048x1792, .f32⟩
  | .hbm, ⟨24, _⟩ => ⟨S4x2048x1792, .f32⟩
  | .hbm, ⟨25, _⟩ => ⟨S8192x1792, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== Conv.lean ====
abbrev S8192x5632 : Shape := ⟨2, ![8192, 5632]⟩
abbrev S3x5632 : Shape := ⟨2, ![3, 5632]⟩
abbrev S1x5632 : Shape := ⟨2, ![1, 5632]⟩
abbrev S8192x2816 : Shape := ⟨2, ![8192, 2816]⟩
abbrev S2048x256 : Shape := ⟨2, ![2048, 256]⟩
abbrev S3x256 : Shape := ⟨2, ![3, 256]⟩
abbrev S1x256 : Shape := ⟨2, ![1, 256]⟩
abbrev S2048x128 : Shape := ⟨2, ![2048, 128]⟩

abbrev nBuf : Space → Nat
  | .hbm => 4
  | .vmem => 8
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S1x5632, .f32⟩
  | .hbm, ⟨3, _⟩ => ⟨S8192x2816, .bf16⟩
  | .local _ .vmem, ⟨0, _⟩ => ⟨S2048x256, .f32⟩
  | .local _ .vmem, ⟨1, _⟩ => ⟨S2048x256, .f32⟩
  | .local _ .vmem, ⟨2, _⟩ => ⟨S3x256, .f32⟩
  | .local _ .vmem, ⟨3, _⟩ => ⟨S3x256, .f32⟩
  | .local _ .vmem, ⟨4, _⟩ => ⟨S1x256, .f32⟩
  | .local _ .vmem, ⟨5, _⟩ => ⟨S1x256, .f32⟩
  | .local _ .vmem, ⟨6, _⟩ => ⟨S2048x128, .bf16⟩
  | .local _ .vmem, ⟨7, _⟩ => ⟨S2048x128, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvRefIdeal.lean ====
abbrev S8192x5632 : Shape := ⟨2, ![8192, 5632]⟩
abbrev S3x5632 : Shape := ⟨2, ![3, 5632]⟩
abbrev S1x5632 : Shape := ⟨2, ![1, 5632]⟩
abbrev S4x2048x5632 : Shape := ⟨3, ![4, 2048, 5632]⟩
abbrev S5632 : Shape := ⟨1, ![5632]⟩
abbrev S4x1x5632 : Shape := ⟨3, ![4, 1, 5632]⟩
abbrev S_ : Shape := ⟨0, ![]⟩
abbrev S4x2047x5632 : Shape := ⟨3, ![4, 2047, 5632]⟩
abbrev S1x1x5632 : Shape := ⟨3, ![1, 1, 5632]⟩
abbrev S8192x22x2x128 : Shape := ⟨4, ![8192, 22, 2, 128]⟩
abbrev S8192x22x1x128 : Shape := ⟨4, ![8192, 22, 1, 128]⟩
abbrev S8192x22x128 : Shape := ⟨3, ![8192, 22, 128]⟩
abbrev S8192x2816 : Shape := ⟨2, ![8192, 2816]⟩

abbrev nBuf : Space → Nat
  | .hbm => 51
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S1x5632, .f32⟩
  | .hbm, ⟨3, _⟩ => ⟨S4x2048x5632, .f32⟩
  | .hbm, ⟨4, _⟩ => ⟨S1x5632, .f32⟩
  | .hbm, ⟨5, _⟩ => ⟨S5632, .f32⟩
  | .hbm, ⟨6, _⟩ => ⟨S4x1x5632, .f32⟩
  | .hbm, ⟨7, _⟩ => ⟨S_, .f32⟩
  | .hbm, ⟨8, _⟩ => ⟨S4x1x5632, .f32⟩
  | .hbm, ⟨9, _⟩ => ⟨S4x2047x5632, .f32⟩
  | .hbm, ⟨10, _⟩ => ⟨S4x2048x5632, .f32⟩
  | .hbm, ⟨11, _⟩ => ⟨S1x1x5632, .f32⟩
  | .hbm, ⟨12, _⟩ => ⟨S4x2048x5632, .f32⟩
  | .hbm, ⟨13, _⟩ => ⟨S4x2048x5632, .f32⟩
  | .hbm, ⟨14, _⟩ => ⟨S1x5632, .f32⟩
  | .hbm, ⟨15, _⟩ => ⟨S5632, .f32⟩
  | .hbm, ⟨16, _⟩ => ⟨S1x1x5632, .f32⟩
  | .hbm, ⟨17, _⟩ => ⟨S4x2048x5632, .f32⟩
  | .hbm, ⟨18, _⟩ => ⟨S4x2048x5632, .f32⟩
  | .hbm, ⟨19, _⟩ => ⟨S4x2048x5632, .f32⟩
  | .hbm, ⟨20, _⟩ => ⟨S1x5632, .f32⟩
  | .hbm, ⟨21, _⟩ => ⟨S5632, .f32⟩
  | .hbm, ⟨22, _⟩ => ⟨S4x2047x5632, .f32⟩
  | .hbm, ⟨23, _⟩ => ⟨S4x1x5632, .f32⟩
  | .hbm, ⟨24, _⟩ => ⟨S_, .f32⟩
  | .hbm, ⟨25, _⟩ => ⟨S4x1x5632, .f32⟩
  | .hbm, ⟨26, _⟩ => ⟨S4x2048x5632, .f32⟩
  | .hbm, ⟨27, _⟩ => ⟨S1x1x5632, .f32⟩
  | .hbm, ⟨28, _⟩ => ⟨S4x2048x5632, .f32⟩
  | .hbm, ⟨29, _⟩ => ⟨S4x2048x5632, .f32⟩
  | .hbm, ⟨30, _⟩ => ⟨S4x2048x5632, .f32⟩
  | .hbm, ⟨31, _⟩ => ⟨S1x1x5632, .f32⟩
  | .hbm, ⟨32, _⟩ => ⟨S4x2048x5632, .f32⟩
  | .hbm, ⟨33, _⟩ => ⟨S4x2048x5632, .f32⟩
  | .hbm, ⟨34, _⟩ => ⟨S8192x22x2x128, .f32⟩
  | .hbm, ⟨35, _⟩ => ⟨S8192x22x1x128, .f32⟩
  | .hbm, ⟨36, _⟩ => ⟨S8192x22x128, .f32⟩
  | .hbm, ⟨37, _⟩ => ⟨S8192x22x128, .f32⟩
  | .hbm, ⟨38, _⟩ => ⟨S8192x22x128, .f32⟩
  | .hbm, ⟨39, _⟩ => ⟨S_, .f32⟩
  | .hbm, ⟨40, _⟩ => ⟨S8192x22x128, .f32⟩
  | .hbm, ⟨41, _⟩ => ⟨S8192x22x128, .f32⟩
  | .hbm, ⟨42, _⟩ => ⟨S_, .f32⟩
  | .hbm, ⟨43, _⟩ => ⟨S8192x22x128, .f32⟩
  | .hbm, ⟨44, _⟩ => ⟨S8192x22x128, .f32⟩
  | .hbm, ⟨45, _⟩ => ⟨S8192x22x128, .f32⟩
  | .hbm, ⟨46, _⟩ => ⟨S8192x22x1x128, .f32⟩
  | .hbm, ⟨47, _⟩ => ⟨S8192x22x128, .f32⟩
  | .hbm, ⟨48, _⟩ => ⟨S8192x22x128, .f32⟩
  | .hbm, ⟨49, _⟩ => ⟨S8192x2816, .f32⟩
  | .hbm, ⟨50, _⟩ => ⟨S8192x2816, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Total.lean ====
abbrev S1x1 : Shape := ⟨2, ![1, 1]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S1x1, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | _, _ => ⟨S1x1, .f32⟩

abbrev bufScoped : (cs : CoreSpace) → Fin (nBuf (.core cs)) → Bool
  | _, _ => false

abbrev semScoped : Fin 1 → Bool
  | ⟨0, _⟩ => false
  | _ => false

abbrev dmaSemScoped : Fin 2 → Bool
  | ⟨0, _⟩ => false
  | ⟨1, _⟩ => false
  | _ => false

abbrev sig : RefSig :=
  ofTc nBuf bufTy 1 2 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev main_v2_s0 : Ref sig .tc := ⟨.hbm, 3, rfl⟩
abbrev main_v2_s1 : Ref sig .tc := ⟨.hbm, 4, rfl⟩
abbrev main_v2_s2 : Ref sig .tc := ⟨.hbm, 5, rfl⟩
abbrev main_v2_s3 : Ref sig .tc := ⟨.hbm, 6, rfl⟩
abbrev main_v2_s4 : Ref sig .tc := ⟨.hbm, 7, rfl⟩
abbrev main_v2_s5 : Ref sig .tc := ⟨.hbm, 8, rfl⟩
abbrev main_v2_s6 : Ref sig .tc := ⟨.hbm, 9, rfl⟩
abbrev main_v2_s7 : Ref sig .tc := ⟨.hbm, 10, rfl⟩
abbrev ar0_recv : DmaSem sig := 0
abbrev ar0_send : DmaSem sig := 1
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v2_s0 | 1 => main_v2_s1 | 2 => main_v2_s2 | 3 => main_v2_s3 | 4 => main_v2_s4 | 5 => main_v2_s5 | 6 => main_v2_s6 | 7 => main_v2_s7 | ⟨_ + 8, h⟩ => absurd h (Nat.not_lt.2 (Nat.le_add_left _ _))
-- ==== TotalRefIdeal.lean ====
abbrev S8x1 : Shape := ⟨2, ![8, 1]⟩
abbrev S_ : Shape := ⟨0, ![]⟩

abbrev nBuf : Space → Nat
  | .hbm => 3
  | .vmem => 0
  | .smem => 0
  | _ => 0

abbrev bufTy : (tb : Table) → Fin (tcTables nBuf tb) → BufTy
  | .hbm, ⟨0, _⟩ => ⟨S8x1, .f32⟩
  | .hbm, ⟨1, _⟩ => ⟨S_, .f32⟩
  | .hbm, ⟨2, _⟩ => ⟨S_, .f32⟩
  | _, _ => ⟨S8x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ShiftBwd.lean ====
abbrev S8192x5632 : Shape := ⟨2, ![8192, 5632]⟩
abbrev S8192x1792 : Shape := ⟨2, ![8192, 1792]⟩
abbrev S1x1792 : Shape := ⟨2, ![1, 1792]⟩
abbrev S2048x256 : Shape := ⟨2, ![2048, 256]⟩
abbrev S1x256 : Shape := ⟨2, ![1, 256]⟩
abbrev S8x256 : Shape := ⟨2, ![8, 256]⟩
abbrev S128x256 : Shape := ⟨2, ![128, 256]⟩
abbrev S144x256 : Shape := ⟨2, ![144, 256]⟩
abbrev S256 : Shape := ⟨1, ![256]⟩

abbrev nBuf : Space → Nat
  | .hbm => 7
  | .vmem => 14
  | .smem => 0
  | _ => 0

abbrev bufTy : (tb : Table) → Fin (tcTables nBuf tb) → BufTy
  | .hbm, ⟨0, _⟩ => ⟨S8192x5632, .f32⟩
  | .hbm, ⟨1, _⟩ => ⟨S8192x1792, .f32⟩
  | .hbm, ⟨2, _⟩ => ⟨S1x1792, .f32⟩
  | .hbm, ⟨3, _⟩ => ⟨S1x1792, .f32⟩
  | .hbm, ⟨4, _⟩ => ⟨S8192x1792, .f32⟩
  | .hbm, ⟨5, _⟩ => ⟨S1x1792, .f32⟩
  | .hbm, ⟨6, _⟩ => ⟨S1x1792, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S2048x256, .f32⟩
  | .local _ .vmem, ⟨9, _⟩ => ⟨S2048x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![7, 4], ![false, false]⟩

@[reducible] def k0_t1_loop : Scf.Loop 32 :=
  let c0_i32_4 : BitVec 32 := 0#32
  let c16_i32 : BitVec 32 := 16#32
  let v6 : BitVec 32 := Scalar.addi c0_i32_4 c16_i32
  let c1_i32 : BitVec 32 := 1#32
  ⟨c0_i32_4, v6, c1_i32⟩
def k0_mult1 (k0_t1 : Fin k0_t1_loop.trips) : BitVec 32 :=
  let c0_i32_4 : BitVec 32 := 0#32
  let c1_i32 : BitVec 32 := 1#32
  let arg9 : BitVec 32 := Scf.iv c0_i32_4 c1_i32 k0_t1
  let c128_i32 : BitVec 32 := 128#32
  let v16 : BitVec 32 := Scalar.muli arg9 c128_i32
  v16
def k0_mult2 (k0_t1 : Fin k0_t1_loop.trips) : BitVec 32 :=
  let c0_i32_4 : BitVec 32 := 0#32
  let c1_i32 : BitVec 32 := 1#32
  let arg9 : BitVec 32 := Scf.iv c0_i32_4 c1_i32 k0_t1
  let c128_i32 : BitVec 32 := 128#32
  let v16 : BitVec 32 := Scalar.muli arg9 c128_i32
  let v17 : BitVec 32 := v16
  let c8_i32 : BitVec 32 := 8#32
  let v18 : BitVec 32 := Scalar.subi v17 c8_i32
  let c0_i32_14 : BitVec 32 := 0#32
  let v19 : BitVec 32 := Scalar.maxsi v18 c0_i32_14
  v19
def k0_off1 (k0_t1 : Fin k0_t1_loop.trips) : Fin 2 → Nat :=
  let c0_i32_4 : BitVec 32 := 0#32
  let c1_i32 : BitVec 32 := 1#32
  let arg9 : BitVec 32 := Scf.iv c0_i32_4 c1_i32 k0_t1
  let c128_i32 : BitVec 32 := 128#32
  let v16 : BitVec 32 := Scalar.muli arg9 c128_i32
  let v17 : BitVec 32 := v16
  let c8_i32 : BitVec 32 := 8#32
  let v18 : BitVec 32 := Scalar.subi v17 c8_i32
  let c0_i32_14 : BitVec 32 := 0#32
  let v19 : BitVec 32 := Scalar.maxsi v18 c0_i32_14
  let v20 : BitVec 32 := v19
  let v21 : Index := Scalar.indexCast v20
  let c0_15 : Index := 0#32
  ![v21.toNat, 0]
def k0_mult3 (k0_t1 : Fin k0_t1_loop.trips) : BitVec 32 :=
  let c0_i32_4 : BitVec 32 := 0#32
  let c1_i32 : BitVec 32 := 1#32
  let arg9 : BitVec 32 := Scf.iv c0_i32_4 c1_i32 k0_t1
  let c128_i32 : BitVec 32 := 128#32
  let v16 : BitVec 32 := Scalar.muli arg9 c128_i32
  let v17 : BitVec 32 := v16
  let c128_i32_16 : BitVec 32 := 128#32
  let v23 : BitVec 32 := Scalar.addi v17 c128_i32_16
  let c2040_i32 : BitVec 32 := 2040#32
  let v24 : BitVec 32 := Scalar.minsi v23 c2040_i32
  v24
def k0_off2 (k0_t1 : Fin k0_t1_loop.trips) : Fin 2 → Nat :=
  let c0_i32_4 : BitVec 32 := 0#32
  let c1_i32 : BitVec 32 := 1#32
  let arg9 : BitVec 32 := Scf.iv c0_i32_4 c1_i32 k0_t1
  let c128_i32 : BitVec 32 := 128#32
  let v16 : BitVec 32 := Scalar.muli arg9 c128_i32
  let v17 : BitVec 32 := v16
  let c128_i32_16 : BitVec 32 := 128#32
  let v23 : BitVec 32 := Scalar.addi v17 c128_i32_16
  let c2040_i32 : BitVec 32 := 2040#32
  let v24 : BitVec 32 := Scalar.minsi v23 c2040_i32
  let v25 : BitVec 32 := v24
  let v26 : Index := Scalar.indexCast v25
  let c0_17 : Index := 0#32
  ![v26.toNat, 0]
def k0_off3 (k0_t1 : Fin k0_t1_loop.trips) : Fin 2 → Nat :=
  let c0_i32_4 : BitVec 32 := 0#32
  let c1_i32 : BitVec 32 := 1#32
  let arg9 : BitVec 32 := Scf.iv c0_i32_4 c1_i32 k0_t1
  let c128_i32 : BitVec 32 := 128#32
  let v16 : BitVec 32 := Scalar.muli arg9 c128_i32
  let v17 : BitVec 32 := v16
  let v34 : Index := Scalar.indexCast v17
  let c0_21 : Index := 0#32
  ![v34.toNat, 0]
def k0_mult4 (k0_t1 : Fin k0_t1_loop.trips) : BitVec 32 :=
  let c0_i32_4 : BitVec 32 := 0#32
  let c1_i32 : BitVec 32 := 1#32
  let arg9 : BitVec 32 := Scf.iv c0_i32_4 c1_i32 k0_t1
  let c128_i32_22 : BitVec 32 := 128#32
  let v37 : BitVec 32 := Scalar.muli arg9 c128_i32_22
  v37
def k0_mult5 (k0_t1 : Fin k0_t1_loop.trips) : BitVec 32 :=
  let c0_i32_4 : BitVec 32 := 0#32
  let c1_i32 : BitVec 32 := 1#32
  let arg9 : BitVec 32 := Scf.iv c0_i32_4 c1_i32 k0_t1
  let c128_i32_22 : BitVec 32 := 128#32
  let v37 : BitVec 32 := Scalar.muli arg9 c128_i32_22
  let v38 : BitVec 32 := v37
  let c8_i32_23 : BitVec 32 := 8#32
  let v39 : BitVec 32 := Scalar.subi v38 c8_i32_23
  let c0_i32_24 : BitVec 32 := 0#32
  let v40 : BitVec 32 := Scalar.maxsi v39 c0_i32_24
  v40
def k0_mult6 (k0_t1 : Fin k0_t1_loop.trips) : BitVec 32 :=
  let c0_i32_4 : BitVec 32 := 0#32
  let c1_i32 : BitVec 32 := 1#32
  let arg9 : BitVec 32 := Scf.iv c0_i32_4 c1_i32 k0_t1
  let c128_i32_22 : BitVec 32 := 128#32
  let v37 : BitVec 32 := Scalar.muli arg9 c128_i32_22
  let v38 : BitVec 32 := v37
  let c128_i32_26 : BitVec 32 := 128#32
  let v44 : BitVec 32 := Scalar.addi v38 c128_i32_26
  let c2040_i32_27 : BitVec 32 := 2040#32
  let v45 : BitVec 32 := Scalar.minsi v44 c2040_i32_27
  v45
def k0_mult7 (k0_t1 : Fin k0_t1_loop.trips) : BitVec 32 :=
  let c0_i32_4 : BitVec 32 := 0#32
  let c1_i32 : BitVec 32 := 1#32
  let arg9 : BitVec 32 := Scf.iv c0_i32_4 c1_i32 k0_t1
  let c128_i32_36 : BitVec 32 := 128#32
  let v72 : BitVec 32 := Scalar.muli arg9 c128_i32_36
  v72
def cc0_transform_0 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ShiftBwdRefIdeal.lean ====
abbrev S8192x5632 : Shape := ⟨2, ![8192, 5632]⟩
abbrev S8192x1792 : Shape := ⟨2, ![8192, 1792]⟩
abbrev S1x1792 : Shape := ⟨2, ![1, 1792]⟩
abbrev S4x2048x1792 : Shape := ⟨3, ![4, 2048, 1792]⟩
abbrev S4x1x1792 : Shape := ⟨3, ![4, 1, 1792]⟩
abbrev S_ : Shape := ⟨0, ![]⟩
abbrev S4x2047x1792 : Shape := ⟨3, ![4, 2047, 1792]⟩
abbrev S1x1x1792 : Shape := ⟨3, ![1, 1, 1792]⟩
abbrev S1792 : Shape := ⟨1, ![1792]⟩

abbrev nBuf : Space → Nat
  | .hbm => 65
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x1792, .f32⟩
  | .hbm, ⟨2, _⟩ => ⟨S1x1792, .f32⟩
  | .hbm, ⟨3, _⟩ => ⟨S1x1792, .f32⟩
  | .hbm, ⟨4, _⟩ => ⟨S8192x1792, .f32⟩
  | .hbm, ⟨5, _⟩ => ⟨S4x2048x1792, .f32⟩
  | .hbm, ⟨6, _⟩ => ⟨S4x1x1792, .f32⟩
  | .hbm, ⟨7, _⟩ => ⟨S_, .f32⟩
  | .hbm, ⟨8, _⟩ => ⟨S4x1x1792, .f32⟩
  | .hbm, ⟨9, _⟩ => ⟨S4x2047x1792, .f32⟩
  | .hbm, ⟨10, _⟩ => ⟨S4x2048x1792, .f32⟩
  | .hbm, ⟨11, _⟩ => ⟨S_, .f32⟩
  | .hbm, ⟨12, _⟩ => ⟨S4x1x1792, .f32⟩
  | .hbm, ⟨13, _⟩ => ⟨S4x2048x1792, .f32⟩
  | .hbm, ⟨14, _⟩ => ⟨S1x1x1792, .f32⟩
  | .hbm, ⟨15, _⟩ => ⟨S4x2048x1792, .f32⟩
  | .hbm, ⟨16, _⟩ => ⟨S4x2048x1792, .f32⟩
  | .hbm, ⟨17, _⟩ => ⟨S4x2048x1792, .f32⟩
  | .hbm, ⟨18, _⟩ => ⟨S4x2047x1792, .f32⟩
  | .hbm, ⟨19, _⟩ => ⟨S4x1x1792, .f32⟩
  | .hbm, ⟨20, _⟩ => ⟨S_, .f32⟩
  | .hbm, ⟨21, _⟩ => ⟨S4x1x1792, .f32⟩
  | .hbm, ⟨22, _⟩ => ⟨S4x2048x1792, .f32⟩
  | .hbm, ⟨23, _⟩ => ⟨S_, .f32⟩
  | .hbm, ⟨24, _⟩ => ⟨S4x1x1792, .f32⟩
  | .hbm, ⟨25, _⟩ => ⟨S4x2048x1792, .f32⟩
  | .hbm, ⟨26, _⟩ => ⟨S1x1x1792, .f32⟩
  | .hbm, ⟨27, _⟩ => ⟨S4x2048x1792, .f32⟩
  | .hbm, ⟨28, _⟩ => ⟨S4x2048x1792, .f32⟩
  | .hbm, ⟨29, _⟩ => ⟨S4x2048x1792, .f32⟩
  | .hbm, ⟨30, _⟩ => ⟨S8192x1792, .f32⟩
  | .hbm, ⟨31, _⟩ => ⟨S4x2048x1792, .f32⟩
  | .hbm, ⟨32, _⟩ => ⟨S4x2048x1792, .f32⟩
  | .hbm, ⟨33, _⟩ => ⟨S4x2048x1792, .f32⟩
  | .hbm, ⟨34, _⟩ => ⟨S4x2048x1792, .f32⟩
  | .hbm, ⟨35, _⟩ => ⟨S_, .f32⟩
  | .hbm, ⟨36, _⟩ => ⟨S1792, .f32⟩
  | .hbm, ⟨37, _⟩ => ⟨S1x1x1792, .f32⟩
  | .hbm, ⟨38, _⟩ => ⟨S_, .f32⟩
  | .hbm, ⟨39, _⟩ => ⟨S1792, .f32⟩
  | .hbm, ⟨40, _⟩ => ⟨S1x1792, .f32⟩
  | .hbm, ⟨41, _⟩ => ⟨S4x2048x1792, .f32⟩
  | .hbm, ⟨42, _⟩ => ⟨S4x2047x1792, .f32⟩
  | .hbm, ⟨43, _⟩ => ⟨S4x1x1792, .f32⟩
  | .hbm, ⟨44, _⟩ => ⟨S_, .f32⟩
  | .hbm, ⟨45, _⟩ => ⟨S4x2048x1792, .f32⟩
  | .hbm, ⟨46, _⟩ => ⟨S4x2048x1792, .f32⟩
  | .hbm, ⟨47, _⟩ => ⟨S4x2048x1792, .f32⟩
  | .hbm, ⟨48, _⟩ => ⟨S4x2048x1792, .f32⟩
  | .hbm, ⟨49, _⟩ => ⟨S4x2048x1792, .f32⟩
  | .hbm, ⟨50, _⟩ => ⟨S4x2048x1792, .f32⟩
  | .hbm, ⟨51, _⟩ => ⟨S_, .f32⟩
  | .hbm, ⟨52, _⟩ => ⟨S1792, .f32⟩
  | .hbm, ⟨53, _⟩ => ⟨S1x1x1792, .f32⟩
  | .hbm, ⟨54, _⟩ => ⟨S_, .f32⟩
  | .hbm, ⟨55, _⟩ => ⟨S1792, .f32⟩
  | .hbm, ⟨56, _⟩ => ⟨S1x1792, .f32⟩
  | .hbm, ⟨57, _⟩ => ⟨S4x2048x1792, .f32⟩
  | .hbm, ⟨58, _⟩ => ⟨S4x2048x1792, .f32⟩
  | .hbm, ⟨59, _⟩ => ⟨S4x1x1792, .f32⟩
  | .hbm, ⟨60, _⟩ => ⟨S4x2047x1792, .f32⟩
  | .hbm, ⟨61, _⟩ => ⟨S_, .f32⟩
  | .hbm, ⟨62, _⟩ => ⟨S4x2048x1792, .f32⟩
  | .hbm, ⟨63, _⟩ => ⟨S4x2048x1792, .f32⟩
  | .hbm, ⟨64, _⟩ => ⟨S8192x1792, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_cst_7 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_8 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== ConvBwd.lean ====
abbrev S8192x5632 : Shape := ⟨2, ![8192, 5632]⟩
abbrev S8192x2816 : Shape := ⟨2, ![8192, 2816]⟩
abbrev S3x5632 : Shape := ⟨2, ![3, 5632]⟩
abbrev S1x5632 : Shape := ⟨2, ![1, 5632]⟩
abbrev S2048x256 : Shape := ⟨2, ![2048, 256]⟩
abbrev S2048x128 : Shape := ⟨2, ![2048, 128]⟩
abbrev S3x256 : Shape := ⟨2, ![3, 256]⟩
abbrev S1x256 : Shape := ⟨2, ![1, 256]⟩
abbrev S8x256 : Shape := ⟨2, ![8, 256]⟩
abbrev S128x256 : Shape := ⟨2, ![128, 256]⟩
abbrev S144x256 : Shape := ⟨2, ![144, 256]⟩
abbrev S8x128 : Shape := ⟨2, ![8, 128]⟩
abbrev S128x128 : Shape := ⟨2, ![128, 128]⟩
abbrev S144x128 : Shape := ⟨2, ![144, 128]⟩
abbrev S256 : Shape := ⟨1, ![256]⟩

abbrev nBuf : Space → Nat
  | .hbm => 7
  | .vmem => 14
  | .smem => 0
  | _ => 0

abbrev bufTy : (tb : Table) → Fin (tcTables nBuf tb) → BufTy
  | .hbm, ⟨0, _⟩ => ⟨S8192x5632, .f32⟩
  | .hbm, ⟨1, _⟩ => ⟨S8192x2816, .f32⟩
  | .hbm, ⟨2, _⟩ => ⟨S3x5632, .f32⟩
  | .hbm, ⟨3, _⟩ => ⟨S1x5632, .f32⟩
  | .hbm, ⟨4, _⟩ => ⟨S8192x5632, .bf16⟩
  | .hbm, ⟨5, _⟩ => ⟨S3x5632, .f32⟩
  | .hbm, ⟨6, _⟩ => ⟨S1x5632, .f32⟩
  | .local _ .vmem, ⟨0, _⟩ => ⟨S2048x256, .f32⟩
  | .local _ .vmem, ⟨1, _⟩ => ⟨S2048x256, .f32⟩
  | .local _ .vmem, ⟨2, _⟩ => ⟨S2048x128, .f32⟩
  | .local _ .vmem, ⟨3, _⟩ => ⟨S2048x128, .f32⟩
  | .local _ .vmem, ⟨4, _⟩ => ⟨S3x256, .f32⟩
  | .local _ .vmem, ⟨5, _⟩ => ⟨S3x256, .f32⟩
  | .local _ .vmem, ⟨6, _⟩ => ⟨S1x256, .f32⟩
  | .local _ .vmem, ⟨7, _⟩ => ⟨S1x256, .f32⟩
  | .local _ .vmem, ⟨8, _⟩ => ⟨S2048x256, .bf16⟩
  | .local _ .vmem, ⟨9, _⟩ => ⟨S2048x256, .bf16⟩
  | .local _ .vmem, ⟨10, _⟩ => ⟨S3x256, .f32⟩
  | .local _ .vmem, ⟨11, _⟩ => ⟨S3x256, .f32⟩
  | .local _ .vmem, ⟨12, _⟩ => ⟨S1x256, .f32⟩
  | .local _ .vmem, ⟨13, _⟩ => ⟨S1x256, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![22, 4], ![false, false]⟩

@[reducible] def k0_t1_loop : Scf.Loop 32 :=
  let c0_i32_4 : BitVec 32 := 0#32
  let c16_i32 : BitVec 32 := 16#32
  let v6 : BitVec 32 := Scalar.addi c0_i32_4 c16_i32
  let c1_i32 : BitVec 32 := 1#32
  ⟨c0_i32_4, v6, c1_i32⟩
def k0_mult1 (k0_t1 : Fin k0_t1_loop.trips) : BitVec 32 :=
  let c0_i32_4 : BitVec 32 := 0#32
  let c1_i32 : BitVec 32 := 1#32
  let arg9 : BitVec 32 := Scf.iv c0_i32_4 c1_i32 k0_t1
  let c128_i32 : BitVec 32 := 128#32
  let v24 : BitVec 32 := Scalar.muli arg9 c128_i32
  v24
def k0_mult2 (k0_t1 : Fin k0_t1_loop.trips) : BitVec 32 :=
  let c0_i32_4 : BitVec 32 := 0#32
  let c1_i32 : BitVec 32 := 1#32
  let arg9 : BitVec 32 := Scf.iv c0_i32_4 c1_i32 k0_t1
  let c128_i32 : BitVec 32 := 128#32
  let v24 : BitVec 32 := Scalar.muli arg9 c128_i32
  let v25 : BitVec 32 := v24
  let c8_i32 : BitVec 32 := 8#32
  let v26 : BitVec 32 := Scalar.subi v25 c8_i32
  let c0_i32_20 : BitVec 32 := 0#32
  let v27 : BitVec 32 := Scalar.maxsi v26 c0_i32_20
  v27
def k0_off1 (k0_t1 : Fin k0_t1_loop.trips) : Fin 2 → Nat :=
  let c0_i32_4 : BitVec 32 := 0#32
  let c1_i32 : BitVec 32 := 1#32
  let arg9 : BitVec 32 := Scf.iv c0_i32_4 c1_i32 k0_t1
  let c128_i32 : BitVec 32 := 128#32
  let v24 : BitVec 32 := Scalar.muli arg9 c128_i32
  let v25 : BitVec 32 := v24
  let c8_i32 : BitVec 32 := 8#32
  let v26 : BitVec 32 := Scalar.subi v25 c8_i32
  let c0_i32_20 : BitVec 32 := 0#32
  let v27 : BitVec 32 := Scalar.maxsi v26 c0_i32_20
  let v28 : BitVec 32 := v27
  let v29 : Index := Scalar.indexCast v28
  let c0_21 : Index := 0#32
  ![v29.toNat, 0]
def k0_mult3 (k0_t1 : Fin k0_t1_loop.trips) : BitVec 32 :=
  let c0_i32_4 : BitVec 32 := 0#32
  let c1_i32 : BitVec 32 := 1#32
  let arg9 : BitVec 32 := Scf.iv c0_i32_4 c1_i32 k0_t1
  let c128_i32 : BitVec 32 := 128#32
  let v24 : BitVec 32 := Scalar.muli arg9 c128_i32
  let v25 : BitVec 32 := v24
  let c128_i32_22 : BitVec 32 := 128#32
  let v31 : BitVec 32 := Scalar.addi v25 c128_i32_22
  let c2040_i32 : BitVec 32 := 2040#32
  let v32 : BitVec 32 := Scalar.minsi v31 c2040_i32
  v32
def k0_off2 (k0_t1 : Fin k0_t1_loop.trips) : Fin 2 → Nat :=
  let c0_i32_4 : BitVec 32 := 0#32
  let c1_i32 : BitVec 32 := 1#32
  let arg9 : BitVec 32 := Scf.iv c0_i32_4 c1_i32 k0_t1
  let c128_i32 : BitVec 32 := 128#32
  let v24 : BitVec 32 := Scalar.muli arg9 c128_i32
  let v25 : BitVec 32 := v24
  let c128_i32_22 : BitVec 32 := 128#32
  let v31 : BitVec 32 := Scalar.addi v25 c128_i32_22
  let c2040_i32 : BitVec 32 := 2040#32
  let v32 : BitVec 32 := Scalar.minsi v31 c2040_i32
  let v33 : BitVec 32 := v32
  let v34 : Index := Scalar.indexCast v33
  let c0_23 : Index := 0#32
  ![v34.toNat, 0]
def k0_off3 (k0_t1 : Fin k0_t1_loop.trips) : Fin 2 → Nat :=
  let c0_i32_4 : BitVec 32 := 0#32
  let c1_i32 : BitVec 32 := 1#32
  let arg9 : BitVec 32 := Scf.iv c0_i32_4 c1_i32 k0_t1
  let c128_i32 : BitVec 32 := 128#32
  let v24 : BitVec 32 := Scalar.muli arg9 c128_i32
  let v25 : BitVec 32 := v24
  let v42 : Index := Scalar.indexCast v25
  let c0_27 : Index := 0#32
  ![v42.toNat, 0]
def k0_mult4 (k0_t1 : Fin k0_t1_loop.trips) : BitVec 32 :=
  let c0_i32_4 : BitVec 32 := 0#32
  let c1_i32 : BitVec 32 := 1#32
  let arg9 : BitVec 32 := Scf.iv c0_i32_4 c1_i32 k0_t1
  let c128_i32_28 : BitVec 32 := 128#32
  let v45 : BitVec 32 := Scalar.muli arg9 c128_i32_28
  v45
def k0_mult5 (k0_t1 : Fin k0_t1_loop.trips) : BitVec 32 :=
  let c0_i32_4 : BitVec 32 := 0#32
  let c1_i32 : BitVec 32 := 1#32
  let arg9 : BitVec 32 := Scf.iv c0_i32_4 c1_i32 k0_t1
  let c128_i32_28 : BitVec 32 := 128#32
  let v45 : BitVec 32 := Scalar.muli arg9 c128_i32_28
  let v46 : BitVec 32 := v45
  let c8_i32_29 : BitVec 32 := 8#32
  let v47 : BitVec 32 := Scalar.subi v46 c8_i32_29
  let c0_i32_30 : BitVec 32 := 0#32
  let v48 : BitVec 32 := Scalar.maxsi v47 c0_i32_30
  v48
def k0_off4 (k0_t1 : Fin k0_t1_loop.trips) : Fin 2 → Nat :=
  let c0_i32_4 : BitVec 32 := 0#32
  let c1_i32 : BitVec 32 := 1#32
  let arg9 : BitVec 32 := Scf.iv c0_i32_4 c1_i32 k0_t1
  let c128_i32_28 : BitVec 32 := 128#32
  let v45 : BitVec 32 := Scalar.muli arg9 c128_i32_28
  let v46 : BitVec 32 := v45
  let c8_i32_29 : BitVec 32 := 8#32
  let v47 : BitVec 32 := Scalar.subi v46 c8_i32_29
  let c0_i32_30 : BitVec 32 := 0#32
  let v48 : BitVec 32 := Scalar.maxsi v47 c0_i32_30
  let v49 : BitVec 32 := v48
  let v50 : Index := Scalar.indexCast v49
  let c0_31 : Index := 0#32
  ![v50.toNat, 0]
def k0_mult6 (k0_t1 : Fin k0_t1_loop.trips) : BitVec 32 :=
  let c0_i32_4 : BitVec 32 := 0#32
  let c1_i32 : BitVec 32 := 1#32
  let arg9 : BitVec 32 := Scf.iv c0_i32_4 c1_i32 k0_t1
  let c128_i32_28 : BitVec 32 := 128#32
  let v45 : BitVec 32 := Scalar.muli arg9 c128_i32_28
  let v46 : BitVec 32 := v45
  let c128_i32_32 : BitVec 32 := 128#32
  let v52 : BitVec 32 := Scalar.addi v46 c128_i32_32
  let c2040_i32_33 : BitVec 32 := 2040#32
  let v53 : BitVec 32 := Scalar.minsi v52 c2040_i32_33
  v53
def k0_off5 (k0_t1 : Fin k0_t1_loop.trips) : Fin 2 → Nat :=
  let c0_i32_4 : BitVec 32 := 0#32
  let c1_i32 : BitVec 32 := 1#32
  let arg9 : BitVec 32 := Scf.iv c0_i32_4 c1_i32 k0_t1
  let c128_i32_28 : BitVec 32 := 128#32
  let v45 : BitVec 32 := Scalar.muli arg9 c128_i32_28
  let v46 : BitVec 32 := v45
  let c128_i32_32 : BitVec 32 := 128#32
  let v52 : BitVec 32 := Scalar.addi v46 c128_i32_32
  let c2040_i32_33 : BitVec 32 := 2040#32
  let v53 : BitVec 32 := Scalar.minsi v52 c2040_i32_33
  let v54 : BitVec 32 := v53
  let v55 : Index := Scalar.indexCast v54
  let c0_34 : Index := 0#32
  ![v55.toNat, 0]
def k0_off6 (k0_t1 : Fin k0_t1_loop.trips) : Fin 2 → Nat :=
  let c0_i32_4 : BitVec 32 := 0#32
  let c1_i32 : BitVec 32 := 1#32
  let arg9 : BitVec 32 := Scf.iv c0_i32_4 c1_i32 k0_t1
  let c128_i32_28 : BitVec 32 := 128#32
  let v45 : BitVec 32 := Scalar.muli arg9 c128_i32_28
  let v46 : BitVec 32 := v45
  let v63 : Index := Scalar.indexCast v46
  let c0_39 : Index := 0#32
  ![v63.toNat, 0]
def k0_mult7 (k0_t1 : Fin k0_t1_loop.trips) : BitVec 32 :=
  let c0_i32_4 : BitVec 32 := 0#32
  let c1_i32 : BitVec 32 := 1#32
  let arg9 : BitVec 32 := Scf.iv c0_i32_4 c1_i32 k0_t1
  let c128_i32_45 : BitVec 32 := 128#32
  let v110 : BitVec 32 := Scalar.muli arg9 c128_i32_45
  v110
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ConvBwdRefIdeal.lean ====
abbrev S8192x5632 : Shape := ⟨2, ![8192, 5632]⟩
abbrev S8192x2816 : Shape := ⟨2, ![8192, 2816]⟩
abbrev S3x5632 : Shape := ⟨2, ![3, 5632]⟩
abbrev S1x5632 : Shape := ⟨2, ![1, 5632]⟩
abbrev S4x2048x5632 : Shape := ⟨3, ![4, 2048, 5632]⟩
abbrev S5632 : Shape := ⟨1, ![5632]⟩
abbrev S4x1x5632 : Shape := ⟨3, ![4, 1, 5632]⟩
abbrev S_ : Shape := ⟨0, ![]⟩
abbrev S4x2047x5632 : Shape := ⟨3, ![4, 2047, 5632]⟩
abbrev S1x1x5632 : Shape := ⟨3, ![1, 1, 5632]⟩
abbrev S8192x22x2x128 : Shape := ⟨4, ![8192, 22, 2, 128]⟩
abbrev S8192x22x1x128 : Shape := ⟨4, ![8192, 22, 1, 128]⟩
abbrev S8192x22x128 : Shape := ⟨3, ![8192, 22, 128]⟩

abbrev nBuf : Space → Nat
  | .hbm => 127
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x2816, .f32⟩
  | .hbm, ⟨2, _⟩ => ⟨S3x5632, .f32⟩
  | .hbm, ⟨3, _⟩ => ⟨S1x5632, .f32⟩
  | .hbm, ⟨4, _⟩ => ⟨S4x2048x5632, .f32⟩
  | .hbm, ⟨5, _⟩ => ⟨S1x5632, .f32⟩
  | .hbm, ⟨6, _⟩ => ⟨S5632, .f32⟩
  | .hbm, ⟨7, _⟩ => ⟨S4x1x5632, .f32⟩
  | .hbm, ⟨8, _⟩ => ⟨S_, .f32⟩
  | .hbm, ⟨9, _⟩ => ⟨S4x1x5632, .f32⟩
  | .hbm, ⟨10, _⟩ => ⟨S4x2047x5632, .f32⟩
  | .hbm, ⟨11, _⟩ => ⟨S4x2048x5632, .f32⟩
  | .hbm, ⟨12, _⟩ => ⟨S_, .f32⟩
  | .hbm, ⟨13, _⟩ => ⟨S4x1x5632, .f32⟩
  | .hbm, ⟨14, _⟩ => ⟨S1x1x5632, .f32⟩
  | .hbm, ⟨15, _⟩ => ⟨S4x2048x5632, .f32⟩
  | .hbm, ⟨16, _⟩ => ⟨S4x2048x5632, .f32⟩
  | .hbm, ⟨17, _⟩ => ⟨S1x5632, .f32⟩
  | .hbm, ⟨18, _⟩ => ⟨S5632, .f32⟩
  | .hbm, ⟨19, _⟩ => ⟨S1x1x5632, .f32⟩
  | .hbm, ⟨20, _⟩ => ⟨S4x2048x5632, .f32⟩
  | .hbm, ⟨21, _⟩ => ⟨S4x2048x5632, .f32⟩
  | .hbm, ⟨22, _⟩ => ⟨S4x2048x5632, .f32⟩
  | .hbm, ⟨23, _⟩ => ⟨S1x5632, .f32⟩
  | .hbm, ⟨24, _⟩ => ⟨S5632, .f32⟩
  | .hbm, ⟨25, _⟩ => ⟨S4x2047x5632, .f32⟩
  | .hbm, ⟨26, _⟩ => ⟨S4x1x5632, .f32⟩
  | .hbm, ⟨27, _⟩ => ⟨S_, .f32⟩
  | .hbm, ⟨28, _⟩ => ⟨S4x1x5632, .f32⟩
  | .hbm, ⟨29, _⟩ => ⟨S4x2048x5632, .f32⟩
  | .hbm, ⟨30, _⟩ => ⟨S_, .f32⟩
  | .hbm, ⟨31, _⟩ => ⟨S4x1x5632, .f32⟩
  | .hbm, ⟨32, _⟩ => ⟨S1x1x5632, .f32⟩
  | .hbm, ⟨33, _⟩ => ⟨S4x2048x5632, .f32⟩
  | .hbm, ⟨34, _⟩ => ⟨S4x2048x5632, .f32⟩
  | .hbm, ⟨35, _⟩ => ⟨S4x2048x5632, .f32⟩
  | .hbm, ⟨36, _⟩ => ⟨S1x1x5632, .f32⟩
  | .hbm, ⟨37, _⟩ => ⟨S4x2048x5632, .f32⟩
  | .hbm, ⟨38, _⟩ => ⟨S4x2048x5632, .f32⟩
  | .hbm, ⟨39, _⟩ => ⟨S8192x22x2x128, .f32⟩
  | .hbm, ⟨40, _⟩ => ⟨S8192x22x1x128, .f32⟩
  | .hbm, ⟨41, _⟩ => ⟨S8192x22x128, .f32⟩
  | .hbm, ⟨42, _⟩ => ⟨S8192x22x128, .f32⟩
  | .hbm, ⟨43, _⟩ => ⟨S8192x22x128, .f32⟩
  | .hbm, ⟨44, _⟩ => ⟨S_, .f32⟩
  | .hbm, ⟨45, _⟩ => ⟨S8192x22x128, .f32⟩
  | .hbm, ⟨46, _⟩ => ⟨S8192x22x128, .f32⟩
  | .hbm, ⟨47, _⟩ => ⟨S_, .f32⟩
  | .hbm, ⟨48, _⟩ => ⟨S8192x22x128, .f32⟩
  | .hbm, ⟨49, _⟩ => ⟨S8192x22x128, .f32⟩
  | .hbm, ⟨50, _⟩ => ⟨S_, .f32⟩
  | .hbm, ⟨51, _⟩ => ⟨S8192x22x128, .f32⟩
  | .hbm, ⟨52, _⟩ => ⟨S8192x22x128, .f32⟩
  | .hbm, ⟨53, _⟩ => ⟨S8192x22x128, .f32⟩
  | .hbm, ⟨54, _⟩ => ⟨S8192x22x128, .f32⟩
  | .hbm, ⟨55, _⟩ => ⟨S8192x22x1x128, .f32⟩
  | .hbm, ⟨56, _⟩ => ⟨S8192x22x128, .f32⟩
  | .hbm, ⟨57, _⟩ => ⟨S8192x22x128, .f32⟩
  | .hbm, ⟨58, _⟩ => ⟨S8192x2816, .f32⟩
  | .hbm, ⟨59, _⟩ => ⟨S8192x22x128, .f32⟩
  | .hbm, ⟨60, _⟩ => ⟨S8192x22x128, .f32⟩
  | .hbm, ⟨61, _⟩ => ⟨S8192x22x128, .f32⟩
  | .hbm, ⟨62, _⟩ => ⟨S8192x22x1x128, .f32⟩
  | .hbm, ⟨63, _⟩ => ⟨S_, .f32⟩
  | .hbm, ⟨64, _⟩ => ⟨S8192x22x2x128, .f32⟩
  | .hbm, ⟨65, _⟩ => ⟨S8192x22x128, .f32⟩
  | .hbm, ⟨66, _⟩ => ⟨S8192x22x128, .f32⟩
  | .hbm, ⟨67, _⟩ => ⟨S8192x22x128, .f32⟩
  | .hbm, ⟨68, _⟩ => ⟨S8192x22x128, .f32⟩
  | .hbm, ⟨69, _⟩ => ⟨S8192x22x1x128, .f32⟩
  | .hbm, ⟨70, _⟩ => ⟨S_, .f32⟩
  | .hbm, ⟨71, _⟩ => ⟨S8192x22x2x128, .f32⟩
  | .hbm, ⟨72, _⟩ => ⟨S8192x22x2x128, .f32⟩
  | .hbm, ⟨73, _⟩ => ⟨S4x2048x5632, .f32⟩
  | .hbm, ⟨74, _⟩ => ⟨S_, .f32⟩
  | .hbm, ⟨75, _⟩ => ⟨S5632, .f32⟩
  | .hbm, ⟨76, _⟩ => ⟨S1x1x5632, .f32⟩
  | .hbm, ⟨77, _⟩ => ⟨S_, .f32⟩
  | .hbm, ⟨78, _⟩ => ⟨S5632, .f32⟩
  | .hbm, ⟨79, _⟩ => ⟨S1x5632, .f32⟩
  | .hbm, ⟨80, _⟩ => ⟨S4x2048x5632, .f32⟩
  | .hbm, ⟨81, _⟩ => ⟨S4x2048x5632, .f32⟩
  | .hbm, ⟨82, _⟩ => ⟨S4x2048x5632, .f32⟩
  | .hbm, ⟨83, _⟩ => ⟨S_, .f32⟩
  | .hbm, ⟨84, _⟩ => ⟨S5632, .f32⟩
  | .hbm, ⟨85, _⟩ => ⟨S1x1x5632, .f32⟩
  | .hbm, ⟨86, _⟩ => ⟨S_, .f32⟩
  | .hbm, ⟨87, _⟩ => ⟨S5632, .f32⟩
  | .hbm, ⟨88, _⟩ => ⟨S4x2047x5632, .f32⟩
  | .hbm, ⟨89, _⟩ => ⟨S4x1x5632, .f32⟩
  | .hbm, ⟨90, _⟩ => ⟨S_, .f32⟩
  | .hbm, ⟨91, _⟩ => ⟨S4x2048x5632, .f32⟩
  | .hbm, ⟨92, _⟩ => ⟨S1x5632, .f32⟩
  | .hbm, ⟨93, _⟩ => ⟨S_, .f32⟩
  | .hbm, ⟨94, _⟩ => ⟨S3x5632, .f32⟩
  | .hbm, ⟨95, _⟩ => ⟨S4x2048x5632, .f32⟩
  | .hbm, ⟨96, _⟩ => ⟨S4x2048x5632, .f32⟩
  | .hbm, ⟨97, _⟩ => ⟨S4x2048x5632, .f32⟩
  | .hbm, ⟨98, _⟩ => ⟨S4x2048x5632, .f32⟩
  | .hbm, ⟨99, _⟩ => ⟨S_, .f32⟩
  | .hbm, ⟨100, _⟩ => ⟨S5632, .f32⟩
  | .hbm, ⟨101, _⟩ => ⟨S1x1x5632, .f32⟩
  | .hbm, ⟨102, _⟩ => ⟨S_, .f32⟩
  | .hbm, ⟨103, _⟩ => ⟨S5632, .f32⟩
  | .hbm, ⟨104, _⟩ => ⟨S1x5632, .f32⟩
  | .hbm, ⟨105, _⟩ => ⟨S_, .f32⟩
  | .hbm, ⟨106, _⟩ => ⟨S3x5632, .f32⟩
  | .hbm, ⟨107, _⟩ => ⟨S3x5632, .f32⟩
  | .hbm, ⟨108, _⟩ => ⟨S4x2048x5632, .f32⟩
  | .hbm, ⟨109, _⟩ => ⟨S4x2048x5632, .f32⟩
  | .hbm, ⟨110, _⟩ => ⟨S4x2048x5632, .f32⟩
  | .hbm, ⟨111, _⟩ => ⟨S_, .f32⟩
  | .hbm, ⟨112, _⟩ => ⟨S5632, .f32⟩
  | .hbm, ⟨113, _⟩ => ⟨S1x1x5632, .f32⟩
  | .hbm, ⟨114, _⟩ => ⟨S_, .f32⟩
  | .hbm, ⟨115, _⟩ => ⟨S5632, .f32⟩
  | .hbm, ⟨116, _⟩ => ⟨S4x1x5632, .f32⟩
  | .hbm, ⟨117, _⟩ => ⟨S4x2047x5632, .f32⟩
  | .hbm, ⟨118, _⟩ => ⟨S_, .f32⟩
  | .hbm, ⟨119, _⟩ => ⟨S4x2048x5632, .f32⟩
  | .hbm, ⟨120, _⟩ => ⟨S4x2048x5632, .f32⟩
  | .hbm, ⟨121, _⟩ => ⟨S1x5632, .f32⟩
  | .hbm, ⟨122, _⟩ => ⟨S_, .f32⟩
  | .hbm, ⟨123, _⟩ => ⟨S3x5632, .f32⟩
  | .hbm, ⟨124, _⟩ => ⟨S3x5632, .f32⟩
  | .hbm, ⟨125, _⟩ => ⟨S8192x5632, .f32⟩
  | .hbm, ⟨126, _⟩ => ⟨S8192x5632, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v34_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v34_1 : Ref sig .tc := ⟨.hbm, 53, rfl⟩
abbrev main_v34_0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_3 : Ref sig .tc := ⟨.hbm, 63, rfl⟩
abbrev main_v43 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v44 : Ref sig .tc := ⟨.hbm, 68, rfl⟩
abbrev main_v45 : Ref sig .tc := ⟨.hbm, 69, rfl⟩
abbrev main_cst_4 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_5 : Ref sig .tc := ⟨.hbm, 74, rfl⟩
abbrev main_v49 : Ref sig .tc := ⟨.hbm, 75, rfl⟩
abbrev main_v50 : Ref sig .tc := ⟨.hbm, 76, rfl⟩
abbrev main_cst_6 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_7 : Ref sig .tc := ⟨.hbm, 83, rfl⟩
abbrev main_v56 : Ref sig .tc := ⟨.hbm, 84, rfl⟩
abbrev main_v57 : Ref sig .tc := ⟨.hbm, 85, rfl⟩
abbrev main_cst_8 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_9 : Ref sig .tc := ⟨.hbm, 90, rfl⟩
abbrev main_v61 : Ref sig .tc := ⟨.hbm, 91, rfl⟩
abbrev main_v62 : Ref sig .tc := ⟨.hbm, 92, rfl⟩
abbrev main_cst_10 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_11 : Ref sig .tc := ⟨.hbm, 99, rfl⟩
abbrev main_v68 : Ref sig .tc := ⟨.hbm, 100, rfl⟩
abbrev main_v69 : Ref sig .tc := ⟨.hbm, 101, rfl⟩
abbrev main_cst_12 : Ref sig .tc := ⟨.hbm, 102, rfl⟩
abbrev main_v70 : Ref sig .tc := ⟨.hbm, 103, rfl⟩
abbrev main_v71 : Ref sig .tc := ⟨.hbm, 104, rfl⟩
abbrev main_cst_13 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_14 : Ref sig .tc := ⟨.hbm, 111, rfl⟩
abbrev main_v77 : Ref sig .tc := ⟨.hbm, 112, rfl⟩
abbrev main_v78 : Ref sig .tc := ⟨.hbm, 113, rfl⟩
abbrev main_cst_15 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_16 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_17 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩

abbrev nD : Nat := 1
abbrev τ : Topo := Topo.v7x

variable {F : FTy → Type} [FloatOps F]
-- ==== Post.lean ====
abbrev S8192x512 : Shape := ⟨2, ![8192, 512]⟩
abbrev S8192x5632 : Shape := ⟨2, ![8192, 5632]⟩
abbrev S8192x1792 : Shape := ⟨2, ![8192, 1792]⟩
abbrev S1x512 : Shape := ⟨2, ![1, 512]⟩
abbrev S256x512 : Shape := ⟨2, ![256, 512]⟩
abbrev S512x512 : Shape := ⟨2, ![512, 512]⟩

abbrev nBuf : Space → Nat
  | .hbm => 12
  | .vmem => 22
  | .smem => 0
  | _ => 0

abbrev bufTy : (tb : Table) → Fin (tcTables nBuf tb) → BufTy
  | .hbm, ⟨0, _⟩ => ⟨S8192x512, .f32⟩
  | .hbm, ⟨1, _⟩ => ⟨S8192x5632, .f32⟩
  | .hbm, ⟨2, _⟩ => ⟨S8192x512, .f32⟩
  | .hbm, ⟨3, _⟩ => ⟨S8192x1792, .f32⟩
  | .hbm, ⟨4, _⟩ => ⟨S8192x512, .f32⟩
  | .hbm, ⟨5, _⟩ => ⟨S8192x512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S8192x512, .bf16⟩
  | .hbm, ⟨11, _⟩ => ⟨S8192x512, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== PostRefIdeal.lean ====
abbrev S8192x512 : Shape := ⟨2, ![8192, 512]⟩
abbrev S8192x5632 : Shape := ⟨2, ![8192, 5632]⟩
abbrev S8192x1792 : Shape := ⟨2, ![8192, 1792]⟩
abbrev S1x512 : Shape := ⟨2, ![1, 512]⟩
abbrev S8192x4x128 : Shape := ⟨3, ![8192, 4, 128]⟩
abbrev S_ : Shape := ⟨0, ![]⟩
abbrev S8192x4 : Shape := ⟨2, ![8192, 4]⟩
abbrev S8192x4x1 : Shape := ⟨3, ![8192, 4, 1]⟩
abbrev S512 : Shape := ⟨1, ![512]⟩
abbrev S8192x8x64 : Shape := ⟨3, ![8192, 8, 64]⟩
abbrev S8192x8 : Shape := ⟨2, ![8192, 8]⟩
abbrev S8192x8x1 : Shape := ⟨3, ![8192, 8, 1]⟩
abbrev S1x8x64 : Shape := ⟨3, ![1, 8, 64]⟩

abbrev nBuf : Space → Nat
  | .hbm => 92
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x5632, .f32⟩
  | .hbm, ⟨2, _⟩ => ⟨S8192x512, .f32⟩
  | .hbm, ⟨3, _⟩ => ⟨S8192x1792, .f32⟩
  | .hbm, ⟨4, _⟩ => ⟨S8192x512, .f32⟩
  | .hbm, ⟨5, _⟩ => ⟨S8192x512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x4x128, .f32⟩
  | .hbm, ⟨14, _⟩ => ⟨S8192x4x128, .f32⟩
  | .hbm, ⟨15, _⟩ => ⟨S_, .f32⟩
  | .hbm, ⟨16, _⟩ => ⟨S8192x4, .f32⟩
  | .hbm, ⟨17, _⟩ => ⟨S8192x4x1, .f32⟩
  | .hbm, ⟨18, _⟩ => ⟨S_, .f32⟩
  | .hbm, ⟨19, _⟩ => ⟨S8192x4x1, .f32⟩
  | .hbm, ⟨20, _⟩ => ⟨S8192x4x1, .f32⟩
  | .hbm, ⟨21, _⟩ => ⟨S_, .f32⟩
  | .hbm, ⟨22, _⟩ => ⟨S8192x4x1, .f32⟩
  | .hbm, ⟨23, _⟩ => ⟨S8192x4x1, .f32⟩
  | .hbm, ⟨24, _⟩ => ⟨S8192x4x1, .f32⟩
  | .hbm, ⟨25, _⟩ => ⟨S8192x4x128, .f32⟩
  | .hbm, ⟨26, _⟩ => ⟨S8192x4x128, .f32⟩
  | .hbm, ⟨27, _⟩ => ⟨S8192x512, .f32⟩
  | .hbm, ⟨28, _⟩ => ⟨S512, .f32⟩
  | .hbm, ⟨29, _⟩ => ⟨S1x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S_, .f32⟩
  | .hbm, ⟨35, _⟩ => ⟨S8192x512, .f32⟩
  | .hbm, ⟨36, _⟩ => ⟨S8192x512, .f32⟩
  | .hbm, ⟨37, _⟩ => ⟨S_, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x8x64, .f32⟩
  | .hbm, ⟨43, _⟩ => ⟨S8192x8x64, .f32⟩
  | .hbm, ⟨44, _⟩ => ⟨S8192x8x64, .f32⟩
  | .hbm, ⟨45, _⟩ => ⟨S8192x8x64, .f32⟩
  | .hbm, ⟨46, _⟩ => ⟨S_, .f32⟩
  | .hbm, ⟨47, _⟩ => ⟨S8192x8, .f32⟩
  | .hbm, ⟨48, _⟩ => ⟨S8192x8x1, .f32⟩
  | .hbm, ⟨49, _⟩ => ⟨S_, .f32⟩
  | .hbm, ⟨50, _⟩ => ⟨S8192x8x1, .f32⟩
  | .hbm, ⟨51, _⟩ => ⟨S8192x8x1, .f32⟩
  | .hbm, ⟨52, _⟩ => ⟨S8192x8x64, .f32⟩
  | .hbm, ⟨53, _⟩ => ⟨S8192x8x64, .f32⟩
  | .hbm, ⟨54, _⟩ => ⟨S8192x8x64, .f32⟩
  | .hbm, ⟨55, _⟩ => ⟨S_, .f32⟩
  | .hbm, ⟨56, _⟩ => ⟨S8192x8, .f32⟩
  | .hbm, ⟨57, _⟩ => ⟨S8192x8x1, .f32⟩
  | .hbm, ⟨58, _⟩ => ⟨S_, .f32⟩
  | .hbm, ⟨59, _⟩ => ⟨S8192x8x1, .f32⟩
  | .hbm, ⟨60, _⟩ => ⟨S8192x8x1, .f32⟩
  | .hbm, ⟨61, _⟩ => ⟨S8192x8x64, .f32⟩
  | .hbm, ⟨62, _⟩ => ⟨S8192x8x64, .f32⟩
  | .hbm, ⟨63, _⟩ => ⟨S_, .f32⟩
  | .hbm, ⟨64, _⟩ => ⟨S8192x8x1, .f32⟩
  | .hbm, ⟨65, _⟩ => ⟨S8192x8x1, .f32⟩
  | .hbm, ⟨66, _⟩ => ⟨S8192x8x1, .f32⟩
  | .hbm, ⟨67, _⟩ => ⟨S8192x8x64, .f32⟩
  | .hbm, ⟨68, _⟩ => ⟨S8192x8x64, .f32⟩
  | .hbm, ⟨69, _⟩ => ⟨S8192x512, .f32⟩
  | .hbm, ⟨70, _⟩ => ⟨S512, .f32⟩
  | .hbm, ⟨71, _⟩ => ⟨S1x512, .f32⟩
  | .hbm, ⟨72, _⟩ => ⟨S8192x512, .f32⟩
  | .hbm, ⟨73, _⟩ => ⟨S8192x512, .f32⟩
  | .hbm, ⟨74, _⟩ => ⟨S512, .f32⟩
  | .hbm, ⟨75, _⟩ => ⟨S1x512, .f32⟩
  | .hbm, ⟨76, _⟩ => ⟨S8192x512, .f32⟩
  | .hbm, ⟨77, _⟩ => ⟨S8192x512, .f32⟩
  | .hbm, ⟨78, _⟩ => ⟨S8192x8x64, .f32⟩
  | .hbm, ⟨79, _⟩ => ⟨S1x8x64, .f32⟩
  | .hbm, ⟨80, _⟩ => ⟨S8192x8x64, .f32⟩
  | .hbm, ⟨81, _⟩ => ⟨S8192x8x64, .f32⟩
  | .hbm, ⟨82, _⟩ => ⟨S_, .f32⟩
  | .hbm, ⟨83, _⟩ => ⟨S8192x8, .f32⟩
  | .hbm, ⟨84, _⟩ => ⟨S8192x8x1, .f32⟩
  | .hbm, ⟨85, _⟩ => ⟨S8192x8x64, .f32⟩
  | .hbm, ⟨86, _⟩ => ⟨S8192x8x64, .f32⟩
  | .hbm, ⟨87, _⟩ => ⟨S8192x512, .f32⟩
  | .hbm, ⟨88, _⟩ => ⟨S8192x512, .bf16⟩
  | .hbm, ⟨89, _⟩ => ⟨S8192x512, .f32⟩
  | .hbm, ⟨90, _⟩ => ⟨S8192x512, .f32⟩
  | .hbm, ⟨91, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_4 : Ref sig .tc := ⟨.hbm, 55, rfl⟩
abbrev main_v32 : Ref sig .tc := ⟨.hbm, 56, rfl⟩
abbrev main_v33 : Ref sig .tc := ⟨.hbm, 57, rfl⟩
abbrev main_cst_5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_7 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩

abbrev nD : Nat := 1
abbrev τ : Topo := Topo.v7x

variable {F : FTy → Type} [FloatOps F]
-- ==== Decay.lean ====
abbrev S8192x1792 : Shape := ⟨2, ![8192, 1792]⟩
abbrev S1x512 : Shape := ⟨2, ![1, 512]⟩
abbrev S64x512 : Shape := ⟨2, ![64, 512]⟩
abbrev S128x512 : Shape := ⟨2, ![128, 512]⟩
abbrev S_ : Shape := ⟨0, ![]⟩
abbrev S1 : Shape := ⟨1, ![1]⟩
abbrev S8192x512 : Shape := ⟨2, ![8192, 512]⟩
abbrev S256x512 : Shape := ⟨2, ![256, 512]⟩
abbrev S256x128 : Shape := ⟨2, ![256, 128]⟩
abbrev S512x512 : Shape := ⟨2, ![512, 512]⟩

abbrev nBuf : Space → Nat
  | .hbm => 31
  | .vmem => 27
  | .smem => 0
  | _ => 0

abbrev bufTy : (tb : Table) → Fin (tcTables nBuf tb) → BufTy
  | .hbm, ⟨0, _⟩ => ⟨S8192x1792, .f32⟩
  | .hbm, ⟨1, _⟩ => ⟨S1x512, .f32⟩
  | .hbm, ⟨2, _⟩ => ⟨S64x512, .f32⟩
  | .hbm, ⟨3, _⟩ => ⟨S1x512, .f32⟩
  | .hbm, ⟨4, _⟩ => ⟨S64x512, .f32⟩
  | .hbm, ⟨5, _⟩ => ⟨S1x512, .f32⟩
  | .hbm, ⟨6, _⟩ => ⟨S64x512, .f32⟩
  | .hbm, ⟨7, _⟩ => ⟨S128x512, .f32⟩
  | .hbm, ⟨8, _⟩ => ⟨S1x512, .f32⟩
  | .hbm, ⟨9, _⟩ => ⟨S1x512, .f32⟩
  | .hbm, ⟨10, _⟩ => ⟨S_, .f32⟩
  | .hbm, ⟨11, _⟩ => ⟨S128x512, .f32⟩
  | .hbm, ⟨12, _⟩ => ⟨S_, .i32⟩
  | .hbm, ⟨13, _⟩ => ⟨S1, .i32⟩
  | .hbm, ⟨14, _⟩ => ⟨S128x512, .f32⟩
  | .hbm, ⟨15, _⟩ => ⟨S_, .f32⟩
  | .hbm, ⟨16, _⟩ => ⟨S128x512, .f32⟩
  | .hbm, ⟨17, _⟩ => ⟨S_, .i32⟩
  | .hbm, ⟨18, _⟩ => ⟨S1, .i32⟩
  | .hbm, ⟨19, _⟩ => ⟨S128x512, .f32⟩
  | .hbm, ⟨20, _⟩ => ⟨S_, .f32⟩
  | .hbm, ⟨21, _⟩ => ⟨S128x512, .f32⟩
  | .hbm, ⟨22, _⟩ => ⟨S_, .i32⟩
  | .hbm, ⟨23, _⟩ => ⟨S1, .i32⟩
  | .hbm, ⟨24, _⟩ => ⟨S128x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .f32⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x512, .f32⟩
  | .local _ .vmem, ⟨7, _⟩ => ⟨S128x512, .f32⟩
  | .local _ .vmem, ⟨8, _⟩ => ⟨S1x512, .f32⟩
  | .local _ .vmem, ⟨9, _⟩ => ⟨S128x512, .f32⟩
  | .local _ .vmem, ⟨10, _⟩ => ⟨S1x512, .f32⟩
  | .local _ .vmem, ⟨11, _⟩ => ⟨S128x512, .f32⟩
  | .local _ .vmem, ⟨12, _⟩ => ⟨S128x512, .f32⟩
  | .local _ .vmem, ⟨13, _⟩ => ⟨S1x512, .f32⟩
  | .local _ .vmem, ⟨14, _⟩ => ⟨S1x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_c_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_c_3 : Ref sig .tc := ⟨.hbm, 22, rfl⟩
abbrev main_v7 : Ref sig .tc := ⟨.hbm, 23, rfl⟩
abbrev main_v8 : Ref sig .tc := ⟨.hbm, 24, rfl⟩
abbrev main_v9_0 : Ref sig .tc := ⟨.hbm, 25, rfl⟩
abbrev main_v9_1 : Ref sig .tc := ⟨.hbm, 26, rfl⟩
abbrev main_v9_2 : Ref sig .tc := ⟨.hbm, 27, rfl⟩
abbrev main_v9_3 : Ref sig .tc := ⟨.hbm, 28, rfl⟩
abbrev main_v9_4 : Ref sig .tc := ⟨.hbm, 29, rfl⟩
abbrev main_v9_5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_2 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== DecayRefIdeal.lean ====
abbrev S8192x1792 : Shape := ⟨2, ![8192, 1792]⟩
abbrev S1x512 : Shape := ⟨2, ![1, 512]⟩
abbrev S64x512 : Shape := ⟨2, ![64, 512]⟩
abbrev S128x512 : Shape := ⟨2, ![128, 512]⟩
abbrev S8192x512 : Shape := ⟨2, ![8192, 512]⟩
abbrev S8192x64 : Shape := ⟨2, ![8192, 64]⟩
abbrev S8192x128 : Shape := ⟨2, ![8192, 128]⟩
abbrev S512 : Shape := ⟨1, ![512]⟩
abbrev S_ : Shape := ⟨0, ![]⟩
abbrev S8192x8x64 : Shape := ⟨3, ![8192, 8, 64]⟩
abbrev S8192x8 : Shape := ⟨2, ![8192, 8]⟩
abbrev S8192x8x1 : Shape := ⟨3, ![8192, 8, 1]⟩

abbrev nBuf : Space → Nat
  | .hbm => 122
  | .vmem => 0
  | .smem => 0
  | _ => 0

abbrev bufTy : (tb : Table) → Fin (tcTables nBuf tb) → BufTy
  | .hbm, ⟨0, _⟩ => ⟨S8192x1792, .f32⟩
  | .hbm, ⟨1, _⟩ => ⟨S1x512, .f32⟩
  | .hbm, ⟨2, _⟩ => ⟨S64x512, .f32⟩
  | .hbm, ⟨3, _⟩ => ⟨S1x512, .f32⟩
  | .hbm, ⟨4, _⟩ => ⟨S64x512, .f32⟩
  | .hbm, ⟨5, _⟩ => ⟨S1x512, .f32⟩
  | .hbm, ⟨6, _⟩ => ⟨S64x512, .f32⟩
  | .hbm, ⟨7, _⟩ => ⟨S128x512, .f32⟩
  | .hbm, ⟨8, _⟩ => ⟨S1x512, .f32⟩
  | .hbm, ⟨9, _⟩ => ⟨S1x512, .f32⟩
  | .hbm, ⟨10, _⟩ => ⟨S8192x512, .f32⟩
  | .hbm, ⟨11, _⟩ => ⟨S8192x64, .f32⟩
  | .hbm, ⟨12, _⟩ => ⟨S8192x64, .f32⟩
  | .hbm, ⟨13, _⟩ => ⟨S8192x128, .f32⟩
  | .hbm, ⟨14, _⟩ => ⟨S8192x64, .f32⟩
  | .hbm, ⟨15, _⟩ => ⟨S512, .f32⟩
  | .hbm, ⟨16, _⟩ => ⟨S8192x512, .f32⟩
  | .hbm, ⟨17, _⟩ => ⟨S1x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S_, .f32⟩
  | .hbm, ⟨26, _⟩ => ⟨S8192x512, .f32⟩
  | .hbm, ⟨27, _⟩ => ⟨S8192x512, .f32⟩
  | .hbm, ⟨28, _⟩ => ⟨S8192x128, .f32⟩
  | .hbm, ⟨29, _⟩ => ⟨S8192x128, .f32⟩
  | .hbm, ⟨30, _⟩ => ⟨S_, .f32⟩
  | .hbm, ⟨31, _⟩ => ⟨S8192x128, .f32⟩
  | .hbm, ⟨32, _⟩ => ⟨S8192x128, .f32⟩
  | .hbm, ⟨33, _⟩ => ⟨S_, .f32⟩
  | .hbm, ⟨34, _⟩ => ⟨S8192x128, .f32⟩
  | .hbm, ⟨35, _⟩ => ⟨S8192x128, .f32⟩
  | .hbm, ⟨36, _⟩ => ⟨S8192x512, .f32⟩
  | .hbm, ⟨37, _⟩ => ⟨S512, .f32⟩
  | .hbm, ⟨38, _⟩ => ⟨S1x512, .f32⟩
  | .hbm, ⟨39, _⟩ => ⟨S8192x512, .f32⟩
  | .hbm, ⟨40, _⟩ => ⟨S8192x512, .f32⟩
  | .hbm, ⟨41, _⟩ => ⟨S8192x8x64, .f32⟩
  | .hbm, ⟨42, _⟩ => ⟨S8192x8x64, .f32⟩
  | .hbm, ⟨43, _⟩ => ⟨S_, .f32⟩
  | .hbm, ⟨44, _⟩ => ⟨S8192x8, .f32⟩
  | .hbm, ⟨45, _⟩ => ⟨S8192x8x1, .f32⟩
  | .hbm, ⟨46, _⟩ => ⟨S8192x8x1, .f32⟩
  | .hbm, ⟨47, _⟩ => ⟨S_, .f32⟩
  | .hbm, ⟨48, _⟩ => ⟨S8192x8x1, .f32⟩
  | .hbm, ⟨49, _⟩ => ⟨S8192x8x1, .f32⟩
  | .hbm, ⟨50, _⟩ => ⟨S8192x8x64, .f32⟩
  | .hbm, ⟨51, _⟩ => ⟨S8192x8x64, .f32⟩
  | .hbm, ⟨52, _⟩ => ⟨S_, .f32⟩
  | .hbm, ⟨53, _⟩ => ⟨S8192x512, .f32⟩
  | .hbm, ⟨54, _⟩ => ⟨S8192x512, .f32⟩
  | .hbm, ⟨55, _⟩ => ⟨S512, .f32⟩
  | .hbm, ⟨56, _⟩ => ⟨S1x512, .f32⟩
  | .hbm, ⟨57, _⟩ => ⟨S8192x512, .f32⟩
  | .hbm, ⟨58, _⟩ => ⟨S8192x512, .f32⟩
  | .hbm, ⟨59, _⟩ => ⟨S_, .f32⟩
  | .hbm, ⟨60, _⟩ => ⟨S8192x512, .f32⟩
  | .hbm, ⟨61, _⟩ => ⟨S8192x512, .f32⟩
  | .hbm, ⟨62, _⟩ => ⟨S8192x512, .f32⟩
  | .hbm, ⟨63, _⟩ => ⟨S512, .f32⟩
  | .hbm, ⟨64, _⟩ => ⟨S8192x512, .f32⟩
  | .hbm, ⟨65, _⟩ => ⟨S1x512, .f32⟩
  | .hbm, ⟨66, _⟩ => ⟨S8192x512, .f32⟩
  | .hbm, ⟨67, _⟩ => ⟨S8192x512, .f32⟩
  | .hbm, ⟨68, _⟩ => ⟨S8192x512, .f32⟩
  | .hbm, ⟨69, _⟩ => ⟨S_, .f32⟩
  | .hbm, ⟨70, _⟩ => ⟨S8192x512, .f32⟩
  | .hbm, ⟨71, _⟩ => ⟨S8192x512, .f32⟩
  | .hbm, ⟨72, _⟩ => ⟨S8192x512, .f32⟩
  | .hbm, ⟨73, _⟩ => ⟨S8192x512, .f32⟩
  | .hbm, ⟨74, _⟩ => ⟨S8192x512, .i1⟩
  | .hbm, ⟨75, _⟩ => ⟨S8192x512, .f32⟩
  | .hbm, ⟨76, _⟩ => ⟨S8192x512, .f32⟩
  | .hbm, ⟨77, _⟩ => ⟨S8192x512, .f32⟩
  | .hbm, ⟨78, _⟩ => ⟨S8192x512, .f32⟩
  | .hbm, ⟨79, _⟩ => ⟨S8192x512, .f32⟩
  | .hbm, ⟨80, _⟩ => ⟨S8192x512, .f32⟩
  | .hbm, ⟨81, _⟩ => ⟨S8192x512, .f32⟩
  | .hbm, ⟨82, _⟩ => ⟨S8192x512, .f32⟩
  | .hbm, ⟨83, _⟩ => ⟨S8192x512, .f32⟩
  | .hbm, ⟨84, _⟩ => ⟨S_, .f32⟩
  | .hbm, ⟨85, _⟩ => ⟨S8192x512, .f32⟩
  | .hbm, ⟨86, _⟩ => ⟨S8192x512, .f32⟩
  | .hbm, ⟨87, _⟩ => ⟨S8192x512, .f32⟩
  | .hbm, ⟨88, _⟩ => ⟨S8192x512, .f32⟩
  | .hbm, ⟨89, _⟩ => ⟨S8192x512, .f32⟩
  | .hbm, ⟨90, _⟩ => ⟨S512, .f32⟩
  | .hbm, ⟨91, _⟩ => ⟨S8192x512, .f32⟩
  | .hbm, ⟨92, _⟩ => ⟨S1x512, .f32⟩
  | .hbm, ⟨93, _⟩ => ⟨S8192x512, .f32⟩
  | .hbm, ⟨94, _⟩ => ⟨S8192x512, .f32⟩
  | .hbm, ⟨95, _⟩ => ⟨S8192x512, .f32⟩
  | .hbm, ⟨96, _⟩ => ⟨S_, .f32⟩
  | .hbm, ⟨97, _⟩ => ⟨S8192x512, .f32⟩
  | .hbm, ⟨98, _⟩ => ⟨S8192x512, .f32⟩
  | .hbm, ⟨99, _⟩ => ⟨S8192x512, .f32⟩
  | .hbm, ⟨100, _⟩ => ⟨S8192x512, .f32⟩
  | .hbm, ⟨101, _⟩ => ⟨S8192x512, .i1⟩
  | .hbm, ⟨102, _⟩ => ⟨S8192x512, .f32⟩
  | .hbm, ⟨103, _⟩ => ⟨S8192x512, .f32⟩
  | .hbm, ⟨104, _⟩ => ⟨S8192x512, .f32⟩
  | .hbm, ⟨105, _⟩ => ⟨S8192x512, .f32⟩
  | .hbm, ⟨106, _⟩ => ⟨S8192x512, .f32⟩
  | .hbm, ⟨107, _⟩ => ⟨S8192x512, .f32⟩
  | .hbm, ⟨108, _⟩ => ⟨S8192x512, .f32⟩
  | .hbm, ⟨109, _⟩ => ⟨S8192x512, .f32⟩
  | .hbm, ⟨110, _⟩ => ⟨S8192x512, .f32⟩
  | .hbm, ⟨111, _⟩ => ⟨S_, .f32⟩
  | .hbm, ⟨112, _⟩ => ⟨S8192x512, .f32⟩
  | .hbm, ⟨113, _⟩ => ⟨S8192x512, .f32⟩
  | .hbm, ⟨114, _⟩ => ⟨S8192x512, .f32⟩
  | .hbm, ⟨115, _⟩ => ⟨S8192x512, .f32⟩
  | .hbm, ⟨116, _⟩ => ⟨S8192x512, .f32⟩
  | .hbm, ⟨117, _⟩ => ⟨S8192x8x64, .f32⟩
  | .hbm, ⟨118, _⟩ => ⟨S8192x512, .f32⟩
  | .hbm, ⟨119, _⟩ => ⟨S8192x8x64, .f32⟩
  | .hbm, ⟨120, _⟩ => ⟨S8192x8x64, .f32⟩
  | .hbm, ⟨121, _⟩ => ⟨S8192x512, .f32⟩
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_call0_cst : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_v5 : Ref sig .tc := ⟨.hbm, 75, rfl⟩
abbrev main_call0_v6 : Ref sig .tc := ⟨.hbm, 76, rfl⟩
abbrev main_call0_v7 : Ref sig .tc := ⟨.hbm, 77, rfl⟩
abbrev main_call0_v8 : Ref sig .tc := ⟨.hbm, 78, rfl⟩
abbrev main_call0_v9 : Ref sig .tc := ⟨.hbm, 79, rfl⟩
abbrev main_call0_v10 : Ref sig .tc := ⟨.hbm, 80, rfl⟩
abbrev main_call0_v11 : Ref sig .tc := ⟨.hbm, 81, rfl⟩
abbrev main_v51 : Ref sig .tc := ⟨.hbm, 82, rfl⟩
abbrev main_v52 : Ref sig .tc := ⟨.hbm, 83, rfl⟩
abbrev main_cst_7 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_call1_cst : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_call1_v5 : Ref sig .tc := ⟨.hbm, 102, rfl⟩
abbrev main_call1_v6 : Ref sig .tc := ⟨.hbm, 103, rfl⟩
abbrev main_call1_v7 : Ref sig .tc := ⟨.hbm, 104, rfl⟩
abbrev main_call1_v8 : Ref sig .tc := ⟨.hbm, 105, rfl⟩
abbrev main_call1_v9 : Ref sig .tc := ⟨.hbm, 106, rfl⟩
abbrev main_call1_v10 : Ref sig .tc := ⟨.hbm, 107, rfl⟩
abbrev main_call1_v11 : Ref sig .tc := ⟨.hbm, 108, rfl⟩
abbrev main_v64 : Ref sig .tc := ⟨.hbm, 109, rfl⟩
abbrev main_v65 : Ref sig .tc := ⟨.hbm, 110, rfl⟩
abbrev main_cst_8 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩

abbrev nD : Nat := 1
abbrev τ : Topo := Topo.v7x

variable {F : FTy → Type} [FloatOps F]
-- ==== Proof.Product.lean ====
/-
  Sums over a contracted axis cut into blocks, and the three matrix products of the kernels read at an index.
-/
module

public import Idealize.ShloMosaic.Lib.MatmulPlain
public import Idealize.ShloMosaic.Lib.ValueIdx

@[expose] public section

noncomputable section

namespace Cert.Product

open Idealize.ShloMosaic Idealize.ShloMosaic.ValueIdx
open scoped BigOperators

/-- Offsets that are all zero, as the loads and stores of a whole block print them. -/
theorem offsets_zero : (![0, 0] : Fin 2 → Nat) = fun _ => 0 := funext fun a => by fin_cases a <;> rfl

/-- A sum over `a + B` terms is the sum over the first `a` plus the sum over the last `B`. -/
theorem sum_append {n : ℕ} (a B : ℕ) (h : n = a + B) (f : Fin n → EReal) :
    ∑ k, f k = (∑ k : Fin a, f ⟨k.val, by omega⟩) + ∑ k : Fin B, f ⟨a + k.val, by omega⟩ := by
  subst h
  rw [Fin.sum_univ_add]
  rfl

/-- A sum cut into two blocks of `B` terms, added first to last. -/
theorem sum_two {n : ℕ} (B : ℕ) (h : n = 2 * B) (f : Fin n → EReal) :
    ∑ k, f k = (∑ k : Fin B, f ⟨0 * B + k.val, by omega⟩) + ∑ k : Fin B, f ⟨1 * B + k.val, by omega⟩ := by
  rw [sum_append B B (by omega) f]
  simp only [Nat.zero_mul, Nat.zero_add, Nat.one_mul]

/-- A sum cut into four blocks of `B` terms, added first to last. -/
theorem sum_four {n : ℕ} (B : ℕ) (h : n = 4 * B) (f : Fin n → EReal) :
    ∑ k, f k = (((∑ k : Fin B, f ⟨0 * B + k.val, by omega⟩) + ∑ k : Fin B, f ⟨1 * B + k.val, by omega⟩)
      + ∑ k : Fin B, f ⟨2 * B + k.val, by omega⟩) + ∑ k : Fin B, f ⟨3 * B + k.val, by omega⟩ := by
  rw [sum_append (3 * B) B (by omega) f, sum_append (2 * B) B (by omega), sum_append B B (by omega)]
  simp only [Nat.zero_mul, Nat.zero_add, Nat.one_mul]

/-- A rank-2 index is known by its two coordinates. -/
theorem index_eq {a b : ℕ} {i j : (⟨2, ![a, b]⟩ : Shape).Idx} (h0 : (i 0).val = (j 0).val) (h1 : (i 1).val = (j 1).val) : i = j := by
  funext d; apply Fin.ext
  match d with
  | ⟨0, _⟩ => exact h0
  | ⟨1, _⟩ => exact h1

/-- The product of an `M × K` by a `K × N` matrix. -/
def nn {M K N : ℕ} {φ₁ φ₂ : FTy} (x : FVec Ideal ⟨2, ![M, K]⟩ φ₁) (y : FVec Ideal ⟨2, ![K, N]⟩ φ₂) : FVec Ideal ⟨2, ![M, N]⟩ .f32 :=
  fun j => ∑ k : Fin K, x (ix2 (j 0) k) * y (ix2 k (j 1))
/-- The product of an `M × K` matrix by the transpose of an `N × K` matrix. -/
def nt {M K N : ℕ} {φ₁ φ₂ : FTy} (x : FVec Ideal ⟨2, ![M, K]⟩ φ₁) (y : FVec Ideal ⟨2, ![N, K]⟩ φ₂) : FVec Ideal ⟨2, ![M, N]⟩ .f32 :=
  fun j => ∑ k : Fin K, x (ix2 (j 0) k) * y (ix2 (j 1) k)
/-- The product of the transpose of a `K × M` matrix by a `K × N` matrix. -/
def tn {M K N : ℕ} {φ₁ φ₂ : FTy} (x : FVec Ideal ⟨2, ![K, M]⟩ φ₁) (y : FVec Ideal ⟨2, ![K, N]⟩ φ₂) : FVec Ideal ⟨2, ![M, N]⟩ .f32 :=
  fun j => ∑ k : Fin K, x (ix2 k (j 0)) * y (ix2 k (j 1))

/-- `[M,K] × [K,N]` into a zero block, read at an index: the sum over the contracted coordinate. -/
theorem nn_apply {M K N : ℕ} {φ₁ φ₂ : FTy} (x : FVec Ideal ⟨2, ![M, K]⟩ φ₁) (y : FVec Ideal ⟨2, ![K, N]⟩ φ₂) (j : (⟨2, ![M, N]⟩ : Shape).Idx) :
    FloatOps.matmul (DotDims.plain M K N) none x y (constant ⟨2, ![M, N]⟩ .f32 0x00000000#32) j = nn x y j := by
  obtain ⟨a, b, rfl⟩ : ∃ a b, j = ix2 a b := ⟨_, _, eq_ix2 j⟩
  rw [Ideal.matmul_plain_apply]
  show Ideal.ofBits .f32 0x00000000#32 + _ = _
  rw [Ideal.ofBits_zero_f32, zero_add]
  rfl

/-- `[M,K] × [N,K]ᵀ` into a zero block, read at an index: the sum over the contracted coordinate. -/
theorem nt_apply {M K N : ℕ} {φ₁ φ₂ : FTy} (x : FVec Ideal ⟨2, ![M, K]⟩ φ₁) (y : FVec Ideal ⟨2, ![N, K]⟩ φ₂) (j : (⟨2, ![M, N]⟩ : Shape).Idx) :
    FloatOps.matmul (DotDims.transposedRhs M K N) none x y (constant ⟨2, ![M, N]⟩ .f32 0x00000000#32) j = nt x y j := by
  obtain ⟨a, b, rfl⟩ : ∃ a b, j = ix2 a b := ⟨_, _, eq_ix2 j⟩
  rw [Ideal.matmul_transposedRhs_apply]
  show Ideal.ofBits .f32 0x00000000#32 + _ = _
  rw [Ideal.ofBits_zero_f32, zero_add]
  rfl

/-- `[K,M]ᵀ × [K,N]` into a zero block, read at an index: the sum over the contracted coordinate. -/
theorem tn_apply {M K N : ℕ} {φ₁ φ₂ : FTy} (w : DotDims.WF ⟨2, ![K, M]⟩ ⟨2, ![K, N]⟩ ⟨2, ![M, N]⟩ [0] [0] [1] [1] [] [])
    (x : FVec Ideal ⟨2, ![K, M]⟩ φ₁) (y : FVec Ideal ⟨2, ![K, N]⟩ φ₂) (j : (⟨2, ![M, N]⟩ : Shape).Idx) :
    FloatOps.matmul (⟨[0], [0], [1], [1], [], [], w⟩ : DotDims ⟨2, ![K, M]⟩ ⟨2, ![K, N]⟩ ⟨2, ![M, N]⟩) none x y
        (constant ⟨2, ![M, N]⟩ .f32 0x00000000#32) j = tn x y j := by
  let D : DotDims ⟨2, ![K, M]⟩ ⟨2, ![K, N]⟩ ⟨2, ![M, N]⟩ := ⟨[0], [0], [1], [1], [], [], w⟩
  rw [Ideal.matmul_apply, ← Equiv.sum_comp (contrEquiv1 D K rfl rfl).symm]
  show Ideal.ofBits .f32 0x00000000#32 + _ = _
  rw [Ideal.ofBits_zero_f32, zero_add]
  refine Finset.sum_congr rfl fun k _ => ?_
  have hk := contrEquiv1_symm_val D K rfl rfl k
  have el : D.lhsIdx j ((contrEquiv1 D K rfl rfl).symm k) = ix2 k (j 0) := by
    funext a; apply Fin.ext
    match a with
    | ⟨0, _⟩ => exact hk
    | ⟨1, _⟩ => rfl
  have er : D.rhsIdx j ((contrEquiv1 D K rfl rfl).symm k) = ix2 k (j 1) := by
    funext a; apply Fin.ext
    match a with
    | ⟨0, _⟩ => exact hk
    | ⟨1, _⟩ => rfl
  exact congrArg₂ (fun p q => x p * y q) el er

end Cert.Product

end
-- ==== Proof.UpValue.lean ====
/-
  The FFN up projection (the input projection has the same shape): the kernel's result, computed block by block, is the whole product
  that the reference computes.
-/
module

public import proofs.«01_k».proof.Proof.Product
public import proofs.«01_k».proof.Defs
public import Idealize.ShloMosaic.Lib.Quiescent
public import proofs.«01_k».proof.Proof.Gen.UpIdeal.Value
public import proofs.«01_k».proof.Proof.Gen.UpRefIdeal.Run
public import proofs.«01_k».proof.Proof.Gen.UpRefIdeal.Read

@[expose] public section

noncomputable section

namespace Cert.UpIdeal.Product

open Cert.UpIdeal Cert.UpIdeal.Gen Cert.UpIdeal.Value Cert.Product
open Idealize.ShloMosaic Idealize.ShloMosaic.TcCoe Idealize.ShloMosaic.ValueIdx Idealize.SL.Sem
open scoped BigOperators

section Cases

variable {F : FTy → Type} [FloatOps F]

/-- A point stores the product of its two blocks. -/
theorem out_block (c : Dev nD) (i : grid0.Coords) (a3 : Memref sig .tc .vmem S1024x1024 .bf16) (h3 : a3.IsWhole)
    (a4 : Memref sig .tc .vmem S1024x1408 .f32) (h4 : a4.IsWhole) (a5 : Memref sig .tc .vmem S1024x1408 .f32) (h5 : a5.IsWhole)
    (a6 : Memref sig .tc .vmem S8x128 .f32) (h6 : a6.IsWhole)
    (x0 : Vec F S1024x1024 .bf16) (x1 : Vec F S1024x1408 .f32) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero offsets_zero]
  simp only [View.readAt_eq_ld, h3.read_unread, h4.read_unread,
    View.ld_unit_zero (S := S1024x1024) offsets_zero, View.ld_unit_zero (S := S1024x1408) offsets_zero]

end Cases

variable (m : (ℓ : Loc nD τ sig) → Buf (Elt Ideal) ℓ)

/-- The two arguments, as matrices of extended reals. -/
abbrev arg0 (c : Dev nD) : FVec Ideal S8192x1024 .bf16 := m ((c : Thread nD τ).loc main_arg0)
abbrev arg1 (c : Dev nD) : FVec Ideal S1024x5632 .f32 := m ((c : Thread nD τ).loc main_arg1)

/-- The blocks a point reads and writes, decided over the grid. -/
theorem index_facts : ∀ t : Fin cfg0.N, win0_0.index t 0 = t.val / 4 ∧ win0_0.index t 1 = 0
    ∧ win0_1.index t 0 = 0 ∧ win0_1.index t 1 = t.val % 4
    ∧ win0_2.index t 0 = t.val / 4 ∧ win0_2.index t 1 = t.val % 4 :=
  (by decide +kernel : ∀ t : Fin grid0.N, _)

/-- What a point stores, at an index of its block: the whole product at the index's place in the result. -/
theorem block_apply (c : Dev nD) (t : Fin cfg0.N) (y : S1024x1408.Idx) (i : S8192x5632.Idx)
    (h0 : (i 0).val = 1024 * (t.val / 4) + (y 0).val) (h1 : (i 1).val = 1408 * (t.val % 4) + (y 1).val) :
    k0_pay1 (F := Ideal) (iblk m c 0 t) (iblk m c 1 t) y = nn (arg0 m c) (arg1 m c) i := by
  refine (nn_apply _ _ y).trans (Finset.sum_congr rfl fun k _ => ?_)
  obtain ⟨e0, e1, e2, e3, -, -⟩ := index_facts t
  refine congrArg₂ (· * ·) (congrArg (arg0 m c) (index_eq ?_ ?_)) (congrArg (arg1 m c) (index_eq ?_ ?_))
  · show win0_0.index t 0 * 1024 + 1 * (y 0).val = (i 0).val; omega
  · show win0_0.index t 1 * 1024 + 1 * k.val = k.val; omega
  · show win0_1.index t 0 * 1024 + 1 * k.val = k.val; omega
  · show win0_1.index t 1 * 1408 + 1 * (y 1).val = (i 1).val; omega

/-- The result array is the whole product: each point writes its block of it, and the blocks cover it. -/
theorem result_eq (c : Dev nD) : (dats m 0 c).arrAt 2 cfg0.N = nn (arg0 m c) (arg1 m c) :=
  (dats m 0 c).arrAt_eq_of_cover 2 _ (fun t _ => by
    obtain ⟨-, -, -, -, e4, e5⟩ := index_facts t
    rw [flushed2_A, out_block]
    funext y
    exact block_apply m c t _ _
      (by show win0_2.index t 0 * 1024 + 1 * (y 0).val = 1024 * (t.val / 4) + (y 0).val; omega)
      (by show win0_2.index t 1 * 1408 + 1 * (y 1).val = 1408 * (t.val % 4) + (y 1).val; omega)) fun i => by
    have hi0 : (i 0).val < 8192 := (i 0).isLt
    have hi1 : (i 1).val < 5632 := (i 1).isLt
    have hN : cfg0.N = 32 := N_0
    have ht : 4 * ((i 0).val / 1024) + (i 1).val / 1408 < cfg0.N := by omega
    obtain ⟨-, -, -, -, e4, e5⟩ := index_facts ⟨_, ht⟩
    dsimp only at e4 e5
    refine ⟨⟨_, ht⟩, flush0_2 _, ?_⟩
    show i ∈ ((View.whole main_v0).slice (win0_2.rect ⟨_, ht⟩)).set
    rw [View.set_slice_whole, Rect.mem_set_unit]
    intro a
    match a with
    | ⟨0, _⟩ => show win0_2.index ⟨_, ht⟩ 0 * 1024 ≤ (i 0).val ∧ (i 0).val < win0_2.index ⟨_, ht⟩ 0 * 1024 + 1024; omega
    | ⟨1, _⟩ => show win0_2.index ⟨_, ht⟩ 1 * 1408 ≤ (i 1).val ∧ (i 1).val < win0_2.index ⟨_, ht⟩ 1 * 1408 + 1408; omega

/-- The reference's result is the same product. -/
theorem reference_eq (x : FVec Ideal S8192x1024 .bf16) (y : FVec Ideal S1024x5632 .f32) :
    Cert.UpRefIdeal.Read.val_main_v1 (F := Ideal) x y = nn x y := by
  funext i
  rw [Cert.UpRefIdeal.Read.val_main_v1_apply]
  refine Finset.sum_congr rfl fun k _ => ?_
  exact congrArg₂ (· * ·) (congrArg x (index_eq rfl rfl)) (congrArg y (index_eq rfl rfl))

/-- The reference's frame: it ends, and its arguments are unchanged. -/
theorem frame_reference : Cert.quiescent_UpRefIdeal := fun m ρ _ =>
  (θ_run Cert.UpRefIdeal.defs _ _).mono
    (fun r h => ⟨fun c => (h c).2, sem_eq_zero_of_no_sems rfl r.2⟩) (Cert.UpRefIdeal.Value.run (F := Ideal) m ρ)

/-- The kernel's result is the reference's. -/
theorem algebraic : Cert.algebraic_UpIdeal_UpRefIdeal := fun m ρ m' ρ' _ hm =>
  ⟨fun c => nn (arg0 m c) (arg1 m c),
    (θ_run Cert.UpIdeal.defs _ _).mono (fun r h c => ⟨(h c).1.trans (result_eq m c), (h c).2⟩) (run_blocks m ρ),
    (θ_run Cert.UpRefIdeal.defs _ _).mono (fun r h c => ⟨(h c).1.trans (by
      rw [(hm c).1, (hm c).2]
      exact (Cert.UpRefIdeal.Read.val_main_v1_eq _ _).trans (reference_eq _ _)), (h c).2⟩)
      (Cert.UpRefIdeal.Value.run (F := Ideal) m' ρ')⟩

end Cert.UpIdeal.Product

end
-- ==== Proof.UpDxValue.lean ====
/-
  The gradient of the FFN up projection with respect to its input: the kernel's result, four partial products added in order, is the whole product
  that the reference computes.
-/
module

public import proofs.«01_k».proof.Proof.Product
public import proofs.«01_k».proof.Defs
public import Idealize.ShloMosaic.Lib.Quiescent
public import proofs.«01_k».proof.Proof.Gen.UpDxIdeal.Value
public import proofs.«01_k».proof.Proof.Gen.UpDxRefIdeal.Run
public import proofs.«01_k».proof.Proof.Gen.UpDxRefIdeal.Read

@[expose] public section

noncomputable section

namespace Cert.UpDxIdeal.Product

open Cert.UpDxIdeal Cert.UpDxIdeal.Gen Cert.UpDxIdeal.Value Cert.Product
open Idealize.ShloMosaic Idealize.ShloMosaic.TcCoe Idealize.ShloMosaic.ValueIdx Idealize.SL.Sem
open scoped BigOperators

section Cases

variable {F : FTy → Type} [FloatOps F]

/-- The first point of a run leaves the product of its blocks in the accumulator. -/
theorem acc_first (c : Dev nD) (i : grid0.Coords) (a3 : Memref sig .tc .vmem S1024x1408 .bf16) (h3 : a3.IsWhole)
    (a4 : Memref sig .tc .vmem S1024x1408 .f32) (h4 : a4.IsWhole) (a5 : Memref sig .tc .vmem S1024x1024 .f32) (h5 : a5.IsWhole)
    (a6 : Memref sig .tc .vmem S1024x1024 .f32) (h6 : a6.IsWhole)
    (hc0 : cond0_0 i) (hc1 : ¬cond0_1 i) (hc2 : ¬cond0_2 i)
    (x0 : Vec F S1024x1408 .bf16) (x1 : Vec F S1024x1408 .f32) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero offsets_zero]
  unfold k0_pay2
  simp only [View.readAt_eq_ld, h3.read_unread, h4.read_unread,
    View.ld_unit_zero (S := S1024x1408) offsets_zero, shapeCast_self]

/-- A middle point adds the product of its blocks to the accumulator. -/
theorem acc_middle (c : Dev nD) (i : grid0.Coords) (a3 : Memref sig .tc .vmem S1024x1408 .bf16) (h3 : a3.IsWhole)
    (a4 : Memref sig .tc .vmem S1024x1408 .f32) (h4 : a4.IsWhole) (a5 : Memref sig .tc .vmem S1024x1024 .f32) (h5 : a5.IsWhole)
    (a6 : Memref sig .tc .vmem S1024x1024 .f32) (h6 : a6.IsWhole)
    (hc0 : ¬cond0_0 i) (hc1 : cond0_1 i) (hc2 : ¬cond0_2 i)
    (x0 : Vec F S1024x1408 .bf16) (x1 : Vec F S1024x1408 .f32) (xs : Vec F S1024x1024 .f32) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero offsets_zero]
  unfold k0_pay3
  simp only [View.readAt_eq_ld, h3.read_unread, h4.read_unread, h6.read_unread,
    View.ld_unit_zero (S := S1024x1408) offsets_zero, View.ld_unit_zero (S := S1024x1024) offsets_zero, shapeCast_self]

/-- The last point stores the accumulator plus the product of its blocks. -/
theorem out_last (c : Dev nD) (i : grid0.Coords) (a3 : Memref sig .tc .vmem S1024x1408 .bf16) (h3 : a3.IsWhole)
    (a4 : Memref sig .tc .vmem S1024x1408 .f32) (h4 : a4.IsWhole) (a5 : Memref sig .tc .vmem S1024x1024 .f32) (h5 : a5.IsWhole)
    (a6 : Memref sig .tc .vmem S1024x1024 .f32) (h6 : a6.IsWhole)
    (hc0 : ¬cond0_0 i) (hc1 : ¬cond0_1 i) (hc2 : cond0_2 i)
    (x0 : Vec F S1024x1408 .bf16) (x1 : Vec F S1024x1408 .f32) (xs : Vec F S1024x1024 .f32) :
    out0_C_2 c i a3 h3 a4 h4 a5 h5 a6 h6 hc0 hc1 hc2 x0 x1 xs = addf xs (k0_pay1 x0 x1) := by
  unfold out0_C_2
  rw [View.read_writes_eq_canon _ _ _ (cover0_C_2 c i a3 h3 a4 h4 a5 h5 a6 h6 hc0 hc1 hc2 x0 x1 xs)]
  unfold kernelRun0_C
  dsimp only
  rw [View.canon_unit_zero offsets_zero]
  unfold k0_pay4
  simp only [View.readAt_eq_ld, h3.read_unread, h4.read_unread, h6.read_unread,
    View.ld_unit_zero (S := S1024x1408) offsets_zero, View.ld_unit_zero (S := S1024x1024) offsets_zero, shapeCast_self]

variable (m : (ℓ : Loc nD τ sig) → Buf (Elt F) ℓ)

/-- The product of the two input blocks at a point. -/
def part (c : Dev nD) (n : ℕ) (h : n < cfg0.N) : Vec F S1024x1024 .f32 := k0_pay1 (iblk m c 0 ⟨n, h⟩) (iblk m c 1 ⟨n, h⟩)

/-- At the last point of a run of four the output block is the four products added in order. -/
theorem block_eq (c : Dev nD) (r : ℕ) (h : 4 * r + 3 < cfg0.N) :
    (outsAt0 m c (4 * r + 3) h).1 = addf (addf (addf (part m c (4 * r + 0) (by omega)) (part m c (4 * r + 1) (by omega))) (part m c (4 * r + 2) (by omega))) (part m c (4 * r + 3) h) := by
  rw [outsAt0_C m c ⟨4 * r + 3, h⟩ (by dsimp only; omega) (by dsimp only; omega) (by dsimp only; omega)]
  dsimp only
  rw [out_last]
  show addf (outsAt0 m c (4 * r + 2) _).2 _ = _
  rw [outsAt0_B m c ⟨4 * r + 2, by omega⟩ (by dsimp only; omega) (by dsimp only; omega) (by dsimp only; omega)]
  dsimp only
  rw [acc_middle]
  show addf (addf (outsAt0 m c (4 * r + 1) _).2 _) _ = _
  rw [outsAt0_B m c ⟨4 * r + 1, by omega⟩ (by dsimp only; omega) (by dsimp only; omega) (by dsimp only; omega)]
  dsimp only
  rw [acc_middle]
  show addf (addf (addf (outsAt0 m c (4 * r + 0) _).2 _) _) _ = _
  rw [outsAt0_A m c ⟨4 * r + 0, by omega⟩ (by dsimp only; omega) (by dsimp only; omega) (by dsimp only; omega)]
  dsimp only
  rw [acc_first]
  rfl

end Cases

variable (m : (ℓ : Loc nD τ sig) → Buf (Elt Ideal) ℓ)

/-- The two arguments, as matrices of extended reals. -/
abbrev arg0 (c : Dev nD) : FVec Ideal S8192x5632 .bf16 := m ((c : Thread nD τ).loc main_arg0)
abbrev arg1 (c : Dev nD) : FVec Ideal S1024x5632 .f32 := m ((c : Thread nD τ).loc main_arg1)

/-- The blocks a point reads, decided over the grid. -/
theorem index_facts : ∀ t : Fin cfg0.N, win0_0.index t 0 = t.val / 4 / 1 ∧ win0_0.index t 1 = t.val % 4
    ∧ win0_1.index t 0 = t.val / 4 % 1 ∧ win0_1.index t 1 = t.val % 4 :=
  (by decide +kernel : ∀ t : Fin grid0.N, _)

/-- The product at point `4 r + j`, at an index of the block: the sum over the contracted block `j`. -/
theorem part_apply (c : Dev nD) (r j : ℕ) (hj : j < 4) (h : 4 * r + j < cfg0.N) (y : S1024x1024.Idx) (i : S8192x1024.Idx)
    (h0 : (i 0).val = 1024 * (r / 1) + (y 0).val) (h1 : (i 1).val = 1024 * (r % 1) + (y 1).val) :
    part m c (4 * r + j) h y = ∑ k : Fin 1408, (fun k : Fin 5632 =>
      arg0 m c (ix2 (i 0) k) * arg1 m c (ix2 (i 1) k)) ⟨j * 1408 + k.val, by omega⟩ := by
  refine (nt_apply _ _ y).trans (Finset.sum_congr rfl fun k _ => ?_)
  obtain ⟨e0, e1, e2, e3⟩ := index_facts ⟨4 * r + j, h⟩
  have hr : (4 * r + j) / 4 = r := by omega
  have hk : (4 * r + j) % 4 = j := by omega
  dsimp only at e0 e1 e2 e3
  rw [hr] at *
  rw [hk] at *
  refine congrArg₂ (· * ·) (congrArg (arg0 m c) (index_eq ?_ ?_)) (congrArg (arg1 m c) (index_eq ?_ ?_))
  · show win0_0.index ⟨4 * r + j, h⟩ 0 * 1024 + 1 * (y 0).val = (i 0).val; omega
  · show win0_0.index ⟨4 * r + j, h⟩ 1 * 1408 + 1 * k.val = j * 1408 + k.val; omega
  · show win0_1.index ⟨4 * r + j, h⟩ 0 * 1024 + 1 * (y 1).val = (i 1).val; omega
  · show win0_1.index ⟨4 * r + j, h⟩ 1 * 1408 + 1 * k.val = j * 1408 + k.val; omega

/-- The result array is the whole product. -/
theorem result_eq (c : Dev nD) : G2 m c = nt (arg0 m c) (arg1 m c) := by
  funext i
  have hi0 := idx2_lt0 i
  have hi1 := idx2_lt1 i
  have hN : cfg0.N = 32 := N_0
  have hr : run2Of i = 1 * ((i 0).val / 1024 - 0) + 1 * ((i 1).val / 1024 - 0) := rfl
  have hp : pt2Of i < cfg0.N := by rw [hN]; show 4 * run2Of i + 3 < 32; omega
  have h0 : (i 0).val = 1024 * (run2Of i / 1) + (loc2Of i 0).val := by show _ = _ + (i 0).val % 1024; omega
  have h1 : (i 1).val = 1024 * (run2Of i % 1) + (loc2Of i 1).val := by show _ = _ + (i 1).val % 1024; omega
  unfold G2 nt
  rw [dif_pos hp, ← outsAt0_sweep m c (pt2Of i) hp, sum_four 1408 rfl, block_eq m c (run2Of i) hp]
  show ((part m c _ _ _ + part m c _ _ _) + part m c _ _ _) + part m c _ _ _ = _
  rw [part_apply m c _ 0 (by decide) _ _ i h0 h1,
    part_apply m c _ 1 (by decide) _ _ i h0 h1,
    part_apply m c _ 2 (by decide) _ _ i h0 h1,
    part_apply m c _ 3 (by decide) _ _ i h0 h1]

/-- The reference's result is the same product. -/
theorem reference_eq (x : FVec Ideal S8192x5632 .bf16) (y : FVec Ideal S1024x5632 .f32) :
    Cert.UpDxRefIdeal.Read.val_main_v3 (F := Ideal) x y = nt x y := by
  funext i
  rw [Cert.UpDxRefIdeal.Read.val_main_v3_apply]
  refine Finset.sum_congr rfl fun k _ => ?_
  exact congrArg₂ (· * ·) (congrArg x (index_eq rfl rfl)) (congrArg y (index_eq rfl rfl))

/-- The reference's frame: it ends, and its arguments are unchanged. -/
theorem frame_reference : Cert.quiescent_UpDxRefIdeal := fun m ρ _ =>
  (θ_run Cert.UpDxRefIdeal.defs _ _).mono
    (fun r h => ⟨fun c => (h c).2, sem_eq_zero_of_no_sems rfl r.2⟩) (Cert.UpDxRefIdeal.Value.run (F := Ideal) m ρ)

/-- The kernel's result is the reference's. -/
theorem algebraic : Cert.algebraic_UpDxIdeal_UpDxRefIdeal := fun m ρ m' ρ' _ hm =>
  ⟨fun c => nt (arg0 m c) (arg1 m c),
    (θ_run Cert.UpDxIdeal.defs _ _).mono (fun r h c => ⟨(h c).1.trans (result_eq m c), (h c).2⟩) (run m ρ),
    (θ_run Cert.UpDxRefIdeal.defs _ _).mono (fun r h c => ⟨(h c).1.trans (by
      rw [(hm c).1, (hm c).2]
      exact (Cert.UpDxRefIdeal.Read.val_main_v3_eq _ _).trans (reference_eq _ _)), (h c).2⟩)
      (Cert.UpDxRefIdeal.Value.run (F := Ideal) m' ρ')⟩

end Cert.UpDxIdeal.Product

end
-- ==== Proof.UpDwValue.lean ====
/-
  The gradient of the FFN up projection with respect to its weight: the kernel's result, four partial products added in order, is the whole product
  that the reference computes.
-/
module

public import proofs.«01_k».proof.Proof.Product
public import proofs.«01_k».proof.Defs
public import Idealize.ShloMosaic.Lib.Quiescent
public import proofs.«01_k».proof.Proof.Gen.UpDwIdeal.Value
public import proofs.«01_k».proof.Proof.Gen.UpDwRefIdeal.Run
public import proofs.«01_k».proof.Proof.Gen.UpDwRefIdeal.Read

@[expose] public section

noncomputable section

namespace Cert.UpDwIdeal.Product

open Cert.UpDwIdeal Cert.UpDwIdeal.Gen Cert.UpDwIdeal.Value Cert.Product
open Idealize.ShloMosaic Idealize.ShloMosaic.TcCoe Idealize.ShloMosaic.ValueIdx Idealize.SL.Sem
open scoped BigOperators

section Cases

variable {F : FTy → Type} [FloatOps F]

/-- The first point of a run leaves the product of its blocks in the accumulator. -/
theorem acc_first (c : Dev nD) (i : grid0.Coords) (a3 : Memref sig .tc .vmem S2048x1024 .bf16) (h3 : a3.IsWhole)
    (a4 : Memref sig .tc .vmem S2048x512 .bf16) (h4 : a4.IsWhole) (a5 : Memref sig .tc .vmem S1024x512 .f32) (h5 : a5.IsWhole)
    (a6 : Memref sig .tc .vmem S1024x512 .f32) (h6 : a6.IsWhole)
    (hc0 : cond0_0 i) (hc1 : ¬cond0_1 i) (hc2 : ¬cond0_2 i)
    (x0 : Vec F S2048x1024 .bf16) (x1 : Vec F S2048x512 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero offsets_zero]
  unfold k0_pay2
  simp only [View.readAt_eq_ld, h3.read_unread, h4.read_unread,
    View.ld_unit_zero (S := S2048x1024) offsets_zero, View.ld_unit_zero (S := S2048x512) offsets_zero, shapeCast_self]

/-- A middle point adds the product of its blocks to the accumulator. -/
theorem acc_middle (c : Dev nD) (i : grid0.Coords) (a3 : Memref sig .tc .vmem S2048x1024 .bf16) (h3 : a3.IsWhole)
    (a4 : Memref sig .tc .vmem S2048x512 .bf16) (h4 : a4.IsWhole) (a5 : Memref sig .tc .vmem S1024x512 .f32) (h5 : a5.IsWhole)
    (a6 : Memref sig .tc .vmem S1024x512 .f32) (h6 : a6.IsWhole)
    (hc0 : ¬cond0_0 i) (hc1 : cond0_1 i) (hc2 : ¬cond0_2 i)
    (x0 : Vec F S2048x1024 .bf16) (x1 : Vec F S2048x512 .bf16) (xs : Vec F S1024x512 .f32) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero offsets_zero]
  unfold k0_pay3
  simp only [View.readAt_eq_ld, h3.read_unread, h4.read_unread, h6.read_unread,
    View.ld_unit_zero (S := S2048x1024) offsets_zero, View.ld_unit_zero (S := S2048x512) offsets_zero, View.ld_unit_zero (S := S1024x512) offsets_zero, shapeCast_self]

/-- The last point stores the accumulator plus the product of its blocks. -/
theorem out_last (c : Dev nD) (i : grid0.Coords) (a3 : Memref sig .tc .vmem S2048x1024 .bf16) (h3 : a3.IsWhole)
    (a4 : Memref sig .tc .vmem S2048x512 .bf16) (h4 : a4.IsWhole) (a5 : Memref sig .tc .vmem S1024x512 .f32) (h5 : a5.IsWhole)
    (a6 : Memref sig .tc .vmem S1024x512 .f32) (h6 : a6.IsWhole)
    (hc0 : ¬cond0_0 i) (hc1 : ¬cond0_1 i) (hc2 : cond0_2 i)
    (x0 : Vec F S2048x1024 .bf16) (x1 : Vec F S2048x512 .bf16) (xs : Vec F S1024x512 .f32) :
    out0_C_2 c i a3 h3 a4 h4 a5 h5 a6 h6 hc0 hc1 hc2 x0 x1 xs = addf xs (k0_pay1 x0 x1) := by
  unfold out0_C_2
  rw [View.read_writes_eq_canon _ _ _ (cover0_C_2 c i a3 h3 a4 h4 a5 h5 a6 h6 hc0 hc1 hc2 x0 x1 xs)]
  unfold kernelRun0_C
  dsimp only
  rw [View.canon_unit_zero offsets_zero]
  unfold k0_pay4
  simp only [View.readAt_eq_ld, h3.read_unread, h4.read_unread, h6.read_unread,
    View.ld_unit_zero (S := S2048x1024) offsets_zero, View.ld_unit_zero (S := S2048x512) offsets_zero, View.ld_unit_zero (S := S1024x512) offsets_zero, shapeCast_self]

variable (m : (ℓ : Loc nD τ sig) → Buf (Elt F) ℓ)

/-- The product of the two input blocks at a point. -/
def part (c : Dev nD) (n : ℕ) (h : n < cfg0.N) : Vec F S1024x512 .f32 := k0_pay1 (iblk m c 0 ⟨n, h⟩) (iblk m c 1 ⟨n, h⟩)

/-- At the last point of a run of four the output block is the four products added in order. -/
theorem block_eq (c : Dev nD) (r : ℕ) (h : 4 * r + 3 < cfg0.N) :
    (outsAt0 m c (4 * r + 3) h).1 = addf (addf (addf (part m c (4 * r + 0) (by omega)) (part m c (4 * r + 1) (by omega))) (part m c (4 * r + 2) (by omega))) (part m c (4 * r + 3) h) := by
  rw [outsAt0_C m c ⟨4 * r + 3, h⟩ (by dsimp only; omega) (by dsimp only; omega) (by dsimp only; omega)]
  dsimp only
  rw [out_last]
  show addf (outsAt0 m c (4 * r + 2) _).2 _ = _
  rw [outsAt0_B m c ⟨4 * r + 2, by omega⟩ (by dsimp only; omega) (by dsimp only; omega) (by dsimp only; omega)]
  dsimp only
  rw [acc_middle]
  show addf (addf (outsAt0 m c (4 * r + 1) _).2 _) _ = _
  rw [outsAt0_B m c ⟨4 * r + 1, by omega⟩ (by dsimp only; omega) (by dsimp only; omega) (by dsimp only; omega)]
  dsimp only
  rw [acc_middle]
  show addf (addf (addf (outsAt0 m c (4 * r + 0) _).2 _) _) _ = _
  rw [outsAt0_A m c ⟨4 * r + 0, by omega⟩ (by dsimp only; omega) (by dsimp only; omega) (by dsimp only; omega)]
  dsimp only
  rw [acc_first]
  rfl

end Cases

variable (m : (ℓ : Loc nD τ sig) → Buf (Elt Ideal) ℓ)

/-- The two arguments, as matrices of extended reals. -/
abbrev arg0 (c : Dev nD) : FVec Ideal S8192x1024 .bf16 := m ((c : Thread nD τ).loc main_arg0)
abbrev arg1 (c : Dev nD) : FVec Ideal S8192x5632 .bf16 := m ((c : Thread nD τ).loc main_arg1)

/-- The blocks a point reads, decided over the grid. -/
theorem index_facts : ∀ t : Fin cfg0.N, win0_0.index t 0 = t.val % 4 ∧ win0_0.index t 1 = t.val / 4 / 11
    ∧ win0_1.index t 0 = t.val % 4 ∧ win0_1.index t 1 = t.val / 4 % 11 :=
  (by decide +kernel : ∀ t : Fin grid0.N, _)

/-- The product at point `4 r + j`, at an index of the block: the sum over the contracted block `j`. -/
theorem part_apply (c : Dev nD) (r j : ℕ) (hj : j < 4) (h : 4 * r + j < cfg0.N) (y : S1024x512.Idx) (i : S1024x5632.Idx)
    (h0 : (i 0).val = 1024 * (r / 11) + (y 0).val) (h1 : (i 1).val = 512 * (r % 11) + (y 1).val) :
    part m c (4 * r + j) h y = ∑ k : Fin 2048, (fun k : Fin 8192 =>
      arg0 m c (ix2 k (i 0)) * arg1 m c (ix2 k (i 1))) ⟨j * 2048 + k.val, by omega⟩ := by
  refine (tn_apply _ _ _ y).trans (Finset.sum_congr rfl fun k _ => ?_)
  obtain ⟨e0, e1, e2, e3⟩ := index_facts ⟨4 * r + j, h⟩
  have hr : (4 * r + j) / 4 = r := by omega
  have hk : (4 * r + j) % 4 = j := by omega
  dsimp only at e0 e1 e2 e3
  rw [hr] at *
  rw [hk] at *
  refine congrArg₂ (· * ·) (congrArg (arg0 m c) (index_eq ?_ ?_)) (congrArg (arg1 m c) (index_eq ?_ ?_))
  · show win0_0.index ⟨4 * r + j, h⟩ 0 * 2048 + 1 * k.val = j * 2048 + k.val; omega
  · show win0_0.index ⟨4 * r + j, h⟩ 1 * 1024 + 1 * (y 0).val = (i 0).val; omega
  · show win0_1.index ⟨4 * r + j, h⟩ 0 * 2048 + 1 * k.val = j * 2048 + k.val; omega
  · show win0_1.index ⟨4 * r + j, h⟩ 1 * 512 + 1 * (y 1).val = (i 1).val; omega

/-- The result array is the whole product. -/
theorem result_eq (c : Dev nD) : G2 m c = tn (arg0 m c) (arg1 m c) := by
  funext i
  have hi0 := idx2_lt0 i
  have hi1 := idx2_lt1 i
  have hN : cfg0.N = 44 := N_0
  have hr : run2Of i = 11 * ((i 0).val / 1024 - 0) + 1 * ((i 1).val / 512 - 0) := rfl
  have hp : pt2Of i < cfg0.N := by rw [hN]; show 4 * run2Of i + 3 < 44; omega
  have h0 : (i 0).val = 1024 * (run2Of i / 11) + (loc2Of i 0).val := by show _ = _ + (i 0).val % 1024; omega
  have h1 : (i 1).val = 512 * (run2Of i % 11) + (loc2Of i 1).val := by show _ = _ + (i 1).val % 512; omega
  unfold G2 tn
  rw [dif_pos hp, ← outsAt0_sweep m c (pt2Of i) hp, sum_four 2048 rfl, block_eq m c (run2Of i) hp]
  show ((part m c _ _ _ + part m c _ _ _) + part m c _ _ _) + part m c _ _ _ = _
  rw [part_apply m c _ 0 (by decide) _ _ i h0 h1,
    part_apply m c _ 1 (by decide) _ _ i h0 h1,
    part_apply m c _ 2 (by decide) _ _ i h0 h1,
    part_apply m c _ 3 (by decide) _ _ i h0 h1]

/-- The reference's result is the same product. -/
theorem reference_eq (x : FVec Ideal S8192x1024 .bf16) (y : FVec Ideal S8192x5632 .bf16) :
    Cert.UpDwRefIdeal.Read.val_main_v5 (F := Ideal) x y = tn x y := by
  funext i
  rw [Cert.UpDwRefIdeal.Read.val_main_v5_apply, Cert.UpDwRefIdeal.Read.val_main_v4_apply]
  refine Finset.sum_congr rfl fun k _ => ?_
  rw [mul_comm]
  exact congrArg₂ (· * ·) (congrArg x (index_eq rfl rfl)) (congrArg y (index_eq rfl rfl))

/-- The reference's frame: it ends, and its arguments are unchanged. -/
theorem frame_reference : Cert.quiescent_UpDwRefIdeal := fun m ρ _ =>
  (θ_run Cert.UpDwRefIdeal.defs _ _).mono
    (fun r h => ⟨fun c => (h c).2, sem_eq_zero_of_no_sems rfl r.2⟩) (Cert.UpDwRefIdeal.Value.run (F := Ideal) m ρ)

/-- The kernel's result is the reference's. -/
theorem algebraic : Cert.algebraic_UpDwIdeal_UpDwRefIdeal := fun m ρ m' ρ' _ hm =>
  ⟨fun c => tn (arg0 m c) (arg1 m c),
    (θ_run Cert.UpDwIdeal.defs _ _).mono (fun r h c => ⟨(h c).1.trans (result_eq m c), (h c).2⟩) (run m ρ),
    (θ_run Cert.UpDwRefIdeal.defs _ _).mono (fun r h c => ⟨(h c).1.trans (by
      rw [(hm c).1, (hm c).2]
      exact (Cert.UpDwRefIdeal.Read.val_main_v5_eq _ _).trans (reference_eq _ _)), (h c).2⟩)
      (Cert.UpDwRefIdeal.Value.run (F := Ideal) m' ρ')⟩

end Cert.UpDwIdeal.Product

end
-- ==== Proof.DownValue.lean ====
/-
  The FFN down projection: the kernel's result, two partial products added in order, is the whole product
  that the reference computes.
-/
module

public import proofs.«01_k».proof.Proof.Product
public import proofs.«01_k».proof.Defs
public import Idealize.ShloMosaic.Lib.Quiescent
public import proofs.«01_k».proof.Proof.Gen.DownIdeal.Value
public import proofs.«01_k».proof.Proof.Gen.DownRefIdeal.Run
public import proofs.«01_k».proof.Proof.Gen.DownRefIdeal.Read

@[expose] public section

noncomputable section

namespace Cert.DownIdeal.Product

open Cert.DownIdeal Cert.DownIdeal.Gen Cert.DownIdeal.Value Cert.Product
open Idealize.ShloMosaic Idealize.ShloMosaic.TcCoe Idealize.ShloMosaic.ValueIdx Idealize.SL.Sem
open scoped BigOperators

section Cases

variable {F : FTy → Type} [FloatOps F]

/-- The first point of a run leaves the product of its blocks in the accumulator. -/
theorem acc_first (c : Dev nD) (i : grid0.Coords) (a3 : Memref sig .tc .vmem S1024x1408 .bf16) (h3 : a3.IsWhole)
    (a4 : Memref sig .tc .vmem S1408x1024 .f32) (h4 : a4.IsWhole) (a5 : Memref sig .tc .vmem S1024x1024 .f32) (h5 : a5.IsWhole)
    (a6 : Memref sig .tc .vmem S1024x1024 .f32) (h6 : a6.IsWhole)
    (hc0 : cond0_0 i) (hc1 : ¬cond0_1 i) (hc2 : ¬cond0_2 i)
    (x0 : Vec F S1024x1408 .bf16) (x1 : Vec F S1408x1024 .f32) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero offsets_zero]
  unfold k0_pay2
  simp only [View.readAt_eq_ld, h3.read_unread, h4.read_unread,
    View.ld_unit_zero (S := S1024x1408) offsets_zero, View.ld_unit_zero (S := S1408x1024) offsets_zero, shapeCast_self]

/-- The last point stores the accumulator plus the product of its blocks. -/
theorem out_last (c : Dev nD) (i : grid0.Coords) (a3 : Memref sig .tc .vmem S1024x1408 .bf16) (h3 : a3.IsWhole)
    (a4 : Memref sig .tc .vmem S1408x1024 .f32) (h4 : a4.IsWhole) (a5 : Memref sig .tc .vmem S1024x1024 .f32) (h5 : a5.IsWhole)
    (a6 : Memref sig .tc .vmem S1024x1024 .f32) (h6 : a6.IsWhole)
    (hc0 : ¬cond0_0 i) (hc1 : ¬cond0_1 i) (hc2 : cond0_2 i)
    (x0 : Vec F S1024x1408 .bf16) (x1 : Vec F S1408x1024 .f32) (xs : Vec F S1024x1024 .f32) :
    out0_B_2 c i a3 h3 a4 h4 a5 h5 a6 h6 hc0 hc1 hc2 x0 x1 xs = addf xs (k0_pay1 x0 x1) := by
  unfold out0_B_2
  rw [View.read_writes_eq_canon _ _ _ (cover0_B_2 c i a3 h3 a4 h4 a5 h5 a6 h6 hc0 hc1 hc2 x0 x1 xs)]
  unfold kernelRun0_B
  dsimp only
  rw [View.canon_unit_zero offsets_zero]
  unfold k0_pay4
  simp only [View.readAt_eq_ld, h3.read_unread, h4.read_unread, h6.read_unread,
    View.ld_unit_zero (S := S1024x1408) offsets_zero, View.ld_unit_zero (S := S1408x1024) offsets_zero, View.ld_unit_zero (S := S1024x1024) offsets_zero, shapeCast_self]

variable (m : (ℓ : Loc nD τ sig) → Buf (Elt F) ℓ)

/-- The product of the two input blocks at a point. -/
def part (c : Dev nD) (n : ℕ) (h : n < cfg0.N) : Vec F S1024x1024 .f32 := k0_pay1 (iblk m c 0 ⟨n, h⟩) (iblk m c 1 ⟨n, h⟩)

/-- At the last point of a run of two the output block is the two products added in order. -/
theorem block_eq (c : Dev nD) (r : ℕ) (h : 2 * r + 1 < cfg0.N) :
    (outsAt0 m c (2 * r + 1) h).1 = addf (part m c (2 * r + 0) (by omega)) (part m c (2 * r + 1) h) := by
  rw [outsAt0_B m c ⟨2 * r + 1, h⟩ (by dsimp only; omega) (by dsimp only; omega)]
  dsimp only
  rw [out_last]
  show addf (outsAt0 m c (2 * r + 0) _).2 _ = _
  rw [outsAt0_A m c ⟨2 * r + 0, by omega⟩ (by dsimp only; omega) (by dsimp only; omega)]
  dsimp only
  rw [acc_first]
  rfl

end Cases

variable (m : (ℓ : Loc nD τ sig) → Buf (Elt Ideal) ℓ)

/-- The two arguments, as matrices of extended reals. -/
abbrev arg0 (c : Dev nD) : FVec Ideal S8192x2816 .bf16 := m ((c : Thread nD τ).loc main_arg0)
abbrev arg1 (c : Dev nD) : FVec Ideal S2816x1024 .f32 := m ((c : Thread nD τ).loc main_arg1)

/-- The blocks a point reads, decided over the grid. -/
theorem index_facts : ∀ t : Fin cfg0.N, win0_0.index t 0 = t.val / 2 / 1 ∧ win0_0.index t 1 = t.val % 2
    ∧ win0_1.index t 0 = t.val % 2 ∧ win0_1.index t 1 = t.val / 2 % 1 :=
  (by decide +kernel : ∀ t : Fin grid0.N, _)

/-- The product at point `2 r + j`, at an index of the block: the sum over the contracted block `j`. -/
theorem part_apply (c : Dev nD) (r j : ℕ) (hj : j < 2) (h : 2 * r + j < cfg0.N) (y : S1024x1024.Idx) (i : S8192x1024.Idx)
    (h0 : (i 0).val = 1024 * (r / 1) + (y 0).val) (h1 : (i 1).val = 1024 * (r % 1) + (y 1).val) :
    part m c (2 * r + j) h y = ∑ k : Fin 1408, (fun k : Fin 2816 =>
      arg0 m c (ix2 (i 0) k) * arg1 m c (ix2 k (i 1))) ⟨j * 1408 + k.val, by omega⟩ := by
  refine (nn_apply _ _ y).trans (Finset.sum_congr rfl fun k _ => ?_)
  obtain ⟨e0, e1, e2, e3⟩ := index_facts ⟨2 * r + j, h⟩
  have hr : (2 * r + j) / 2 = r := by omega
  have hk : (2 * r + j) % 2 = j := by omega
  dsimp only at e0 e1 e2 e3
  rw [hr] at *
  rw [hk] at *
  refine congrArg₂ (· * ·) (congrArg (arg0 m c) (index_eq ?_ ?_)) (congrArg (arg1 m c) (index_eq ?_ ?_))
  · show win0_0.index ⟨2 * r + j, h⟩ 0 * 1024 + 1 * (y 0).val = (i 0).val; omega
  · show win0_0.index ⟨2 * r + j, h⟩ 1 * 1408 + 1 * k.val = j * 1408 + k.val; omega
  · show win0_1.index ⟨2 * r + j, h⟩ 0 * 1408 + 1 * k.val = j * 1408 + k.val; omega
  · show win0_1.index ⟨2 * r + j, h⟩ 1 * 1024 + 1 * (y 1).val = (i 1).val; omega

/-- The result array is the whole product. -/
theorem result_eq (c : Dev nD) : G2 m c = nn (arg0 m c) (arg1 m c) := by
  funext i
  have hi0 := idx2_lt0 i
  have hi1 := idx2_lt1 i
  have hN : cfg0.N = 16 := N_0
  have hr : run2Of i = 1 * ((i 0).val / 1024 - 0) + 1 * ((i 1).val / 1024 - 0) := rfl
  have hp : pt2Of i < cfg0.N := by rw [hN]; show 2 * run2Of i + 1 < 16; omega
  have h0 : (i 0).val = 1024 * (run2Of i / 1) + (loc2Of i 0).val := by show _ = _ + (i 0).val % 1024; omega
  have h1 : (i 1).val = 1024 * (run2Of i % 1) + (loc2Of i 1).val := by show _ = _ + (i 1).val % 1024; omega
  unfold G2 nn
  rw [dif_pos hp, ← outsAt0_sweep m c (pt2Of i) hp, sum_two 1408 rfl, block_eq m c (run2Of i) hp]
  show part m c _ _ _ + part m c _ _ _ = _
  rw [part_apply m c _ 0 (by decide) _ _ i h0 h1,
    part_apply m c _ 1 (by decide) _ _ i h0 h1]

/-- The reference's result is the same product. -/
theorem reference_eq (x : FVec Ideal S8192x2816 .bf16) (y : FVec Ideal S2816x1024 .f32) :
    Cert.DownRefIdeal.Read.val_main_v1 (F := Ideal) x y = nn x y := by
  funext i
  rw [Cert.DownRefIdeal.Read.val_main_v1_apply]
  refine Finset.sum_congr rfl fun k _ => ?_
  exact congrArg₂ (· * ·) (congrArg x (index_eq rfl rfl)) (congrArg y (index_eq rfl rfl))

/-- The reference's frame: it ends, and its arguments are unchanged. -/
theorem frame_reference : Cert.quiescent_DownRefIdeal := fun m ρ _ =>
  (θ_run Cert.DownRefIdeal.defs _ _).mono
    (fun r h => ⟨fun c => (h c).2, sem_eq_zero_of_no_sems rfl r.2⟩) (Cert.DownRefIdeal.Value.run (F := Ideal) m ρ)

/-- The kernel's result is the reference's. -/
theorem algebraic : Cert.algebraic_DownIdeal_DownRefIdeal := fun m ρ m' ρ' _ hm =>
  ⟨fun c => nn (arg0 m c) (arg1 m c),
    (θ_run Cert.DownIdeal.defs _ _).mono (fun r h c => ⟨(h c).1.trans (result_eq m c), (h c).2⟩) (run m ρ),
    (θ_run Cert.DownRefIdeal.defs _ _).mono (fun r h c => ⟨(h c).1.trans (by
      rw [(hm c).1, (hm c).2]
      exact (Cert.DownRefIdeal.Read.val_main_v1_eq _ _).trans (reference_eq _ _)), (h c).2⟩)
      (Cert.DownRefIdeal.Value.run (F := Ideal) m' ρ')⟩

end Cert.DownIdeal.Product

end
-- ==== Proof.DownDxValue.lean ====
/-
  The gradient of the FFN down projection with respect to its input: the kernel's result, computed block by block, is the whole product
  that the reference computes.
-/
module

public import proofs.«01_k».proof.Proof.Product
public import proofs.«01_k».proof.Defs
public import Idealize.ShloMosaic.Lib.Quiescent
public import proofs.«01_k».proof.Proof.Gen.DownDxIdeal.Value
public import proofs.«01_k».proof.Proof.Gen.DownDxRefIdeal.Run
public import proofs.«01_k».proof.Proof.Gen.DownDxRefIdeal.Read

@[expose] public section

noncomputable section

namespace Cert.DownDxIdeal.Product

open Cert.DownDxIdeal Cert.DownDxIdeal.Gen Cert.DownDxIdeal.Value Cert.Product
open Idealize.ShloMosaic Idealize.ShloMosaic.TcCoe Idealize.ShloMosaic.ValueIdx Idealize.SL.Sem
open scoped BigOperators

section Cases

variable {F : FTy → Type} [FloatOps F]

/-- A point stores the product of its two blocks. -/
theorem out_block (c : Dev nD) (i : grid0.Coords) (a3 : Memref sig .tc .vmem S1024x1024 .f32) (h3 : a3.IsWhole)
    (a4 : Memref sig .tc .vmem S1408x1024 .f32) (h4 : a4.IsWhole) (a5 : Memref sig .tc .vmem S1024x1408 .f32) (h5 : a5.IsWhole)
    (a6 : Memref sig .tc .vmem S8x128 .f32) (h6 : a6.IsWhole)
    (x0 : Vec F S1024x1024 .f32) (x1 : Vec F S1408x1024 .f32) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero offsets_zero]
  simp only [View.readAt_eq_ld, h3.read_unread, h4.read_unread,
    View.ld_unit_zero (S := S1024x1024) offsets_zero, View.ld_unit_zero (S := S1408x1024) offsets_zero]

end Cases

variable (m : (ℓ : Loc nD τ sig) → Buf (Elt Ideal) ℓ)

/-- The two arguments, as matrices of extended reals. -/
abbrev arg0 (c : Dev nD) : FVec Ideal S8192x1024 .f32 := m ((c : Thread nD τ).loc main_arg0)
abbrev arg1 (c : Dev nD) : FVec Ideal S2816x1024 .f32 := m ((c : Thread nD τ).loc main_arg1)

/-- The blocks a point reads and writes, decided over the grid. -/
theorem index_facts : ∀ t : Fin cfg0.N, win0_0.index t 0 = t.val / 2 ∧ win0_0.index t 1 = 0
    ∧ win0_1.index t 0 = t.val % 2 ∧ win0_1.index t 1 = 0
    ∧ win0_2.index t 0 = t.val / 2 ∧ win0_2.index t 1 = t.val % 2 :=
  (by decide +kernel : ∀ t : Fin grid0.N, _)

/-- What a point stores, at an index of its block: the whole product at the index's place in the result. -/
theorem block_apply (c : Dev nD) (t : Fin cfg0.N) (y : S1024x1408.Idx) (i : S8192x2816.Idx)
    (h0 : (i 0).val = 1024 * (t.val / 2) + (y 0).val) (h1 : (i 1).val = 1408 * (t.val % 2) + (y 1).val) :
    k0_pay1 (F := Ideal) (iblk m c 0 t) (iblk m c 1 t) y = nt (arg0 m c) (arg1 m c) i := by
  refine (nt_apply _ _ y).trans (Finset.sum_congr rfl fun k _ => ?_)
  obtain ⟨e0, e1, e2, e3, -, -⟩ := index_facts t
  refine congrArg₂ (· * ·) (congrArg (arg0 m c) (index_eq ?_ ?_)) (congrArg (arg1 m c) (index_eq ?_ ?_))
  · show win0_0.index t 0 * 1024 + 1 * (y 0).val = (i 0).val; omega
  · show win0_0.index t 1 * 1024 + 1 * k.val = k.val; omega
  · show win0_1.index t 0 * 1408 + 1 * (y 1).val = (i 1).val; omega
  · show win0_1.index t 1 * 1024 + 1 * k.val = k.val; omega

/-- The result array is the whole product: each point writes its block of it, and the blocks cover it. -/
theorem result_eq (c : Dev nD) : (dats m 0 c).arrAt 2 cfg0.N = nt (arg0 m c) (arg1 m c) :=
  (dats m 0 c).arrAt_eq_of_cover 2 _ (fun t _ => by
    obtain ⟨-, -, -, -, e4, e5⟩ := index_facts t
    rw [flushed2_A, out_block]
    funext y
    exact block_apply m c t _ _
      (by show win0_2.index t 0 * 1024 + 1 * (y 0).val = 1024 * (t.val / 2) + (y 0).val; omega)
      (by show win0_2.index t 1 * 1408 + 1 * (y 1).val = 1408 * (t.val % 2) + (y 1).val; omega)) fun i => by
    have hi0 : (i 0).val < 8192 := (i 0).isLt
    have hi1 : (i 1).val < 2816 := (i 1).isLt
    have hN : cfg0.N = 16 := N_0
    have ht : 2 * ((i 0).val / 1024) + (i 1).val / 1408 < cfg0.N := by omega
    obtain ⟨-, -, -, -, e4, e5⟩ := index_facts ⟨_, ht⟩
    dsimp only at e4 e5
    refine ⟨⟨_, ht⟩, flush0_2 _, ?_⟩
    show i ∈ ((View.whole main_v0).slice (win0_2.rect ⟨_, ht⟩)).set
    rw [View.set_slice_whole, Rect.mem_set_unit]
    intro a
    match a with
    | ⟨0, _⟩ => show win0_2.index ⟨_, ht⟩ 0 * 1024 ≤ (i 0).val ∧ (i 0).val < win0_2.index ⟨_, ht⟩ 0 * 1024 + 1024; omega
    | ⟨1, _⟩ => show win0_2.index ⟨_, ht⟩ 1 * 1408 ≤ (i 1).val ∧ (i 1).val < win0_2.index ⟨_, ht⟩ 1 * 1408 + 1408; omega

/-- The reference's result is the same product. -/
theorem reference_eq (x : FVec Ideal S8192x1024 .f32) (y : FVec Ideal S2816x1024 .f32) :
    Cert.DownDxRefIdeal.Read.val_main_v2 (F := Ideal) x y = nt x y := by
  funext i
  rw [Cert.DownDxRefIdeal.Read.val_main_v2_apply]
  refine Finset.sum_congr rfl fun k _ => ?_
  exact congrArg₂ (· * ·) (congrArg x (index_eq rfl rfl)) (congrArg y (index_eq rfl rfl))

/-- The reference's frame: it ends, and its arguments are unchanged. -/
theorem frame_reference : Cert.quiescent_DownDxRefIdeal := fun m ρ _ =>
  (θ_run Cert.DownDxRefIdeal.defs _ _).mono
    (fun r h => ⟨fun c => (h c).2, sem_eq_zero_of_no_sems rfl r.2⟩) (Cert.DownDxRefIdeal.Value.run (F := Ideal) m ρ)

/-- The kernel's result is the reference's. -/
theorem algebraic : Cert.algebraic_DownDxIdeal_DownDxRefIdeal := fun m ρ m' ρ' _ hm =>
  ⟨fun c => nt (arg0 m c) (arg1 m c),
    (θ_run Cert.DownDxIdeal.defs _ _).mono (fun r h c => ⟨(h c).1.trans (result_eq m c), (h c).2⟩) (run_blocks m ρ),
    (θ_run Cert.DownDxRefIdeal.defs _ _).mono (fun r h c => ⟨(h c).1.trans (by
      rw [(hm c).1, (hm c).2]
      exact (Cert.DownDxRefIdeal.Read.val_main_v2_eq _ _).trans (reference_eq _ _)), (h c).2⟩)
      (Cert.DownDxRefIdeal.Value.run (F := Ideal) m' ρ')⟩

end Cert.DownDxIdeal.Product

end
-- ==== Proof.DownDwValue.lean ====
/-
  The gradient of the FFN down projection with respect to its weight: the kernel's result, four partial products added in order, is the whole product
  that the reference computes.
-/
module

public import proofs.«01_k».proof.Proof.Product
public import proofs.«01_k».proof.Defs
public import Idealize.ShloMosaic.Lib.Quiescent
public import proofs.«01_k».proof.Proof.Gen.DownDwIdeal.Value
public import proofs.«01_k».proof.Proof.Gen.DownDwRefIdeal.Run
public import proofs.«01_k».proof.Proof.Gen.DownDwRefIdeal.Read

@[expose] public section

noncomputable section

namespace Cert.DownDwIdeal.Product

open Cert.DownDwIdeal Cert.DownDwIdeal.Gen Cert.DownDwIdeal.Value Cert.Product
open Idealize.ShloMosaic Idealize.ShloMosaic.TcCoe Idealize.ShloMosaic.ValueIdx Idealize.SL.Sem
open scoped BigOperators

section Cases

variable {F : FTy → Type} [FloatOps F]

/-- The first point of a run leaves the product of its blocks in the accumulator. -/
theorem acc_first (c : Dev nD) (i : grid0.Coords) (a3 : Memref sig .tc .vmem S2048x1408 .bf16) (h3 : a3.IsWhole)
    (a4 : Memref sig .tc .vmem S2048x512 .f32) (h4 : a4.IsWhole) (a5 : Memref sig .tc .vmem S1408x512 .f32) (h5 : a5.IsWhole)
    (a6 : Memref sig .tc .vmem S1408x512 .f32) (h6 : a6.IsWhole)
    (hc0 : cond0_0 i) (hc1 : ¬cond0_1 i) (hc2 : ¬cond0_2 i)
    (x0 : Vec F S2048x1408 .bf16) (x1 : Vec F S2048x512 .f32) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero offsets_zero]
  unfold k0_pay2
  simp only [View.readAt_eq_ld, h3.read_unread, h4.read_unread,
    View.ld_unit_zero (S := S2048x1408) offsets_zero, View.ld_unit_zero (S := S2048x512) offsets_zero, shapeCast_self]

/-- A middle point adds the product of its blocks to the accumulator. -/
theorem acc_middle (c : Dev nD) (i : grid0.Coords) (a3 : Memref sig .tc .vmem S2048x1408 .bf16) (h3 : a3.IsWhole)
    (a4 : Memref sig .tc .vmem S2048x512 .f32) (h4 : a4.IsWhole) (a5 : Memref sig .tc .vmem S1408x512 .f32) (h5 : a5.IsWhole)
    (a6 : Memref sig .tc .vmem S1408x512 .f32) (h6 : a6.IsWhole)
    (hc0 : ¬cond0_0 i) (hc1 : cond0_1 i) (hc2 : ¬cond0_2 i)
    (x0 : Vec F S2048x1408 .bf16) (x1 : Vec F S2048x512 .f32) (xs : Vec F S1408x512 .f32) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero offsets_zero]
  unfold k0_pay3
  simp only [View.readAt_eq_ld, h3.read_unread, h4.read_unread, h6.read_unread,
    View.ld_unit_zero (S := S2048x1408) offsets_zero, View.ld_unit_zero (S := S2048x512) offsets_zero, View.ld_unit_zero (S := S1408x512) offsets_zero, shapeCast_self]

/-- The last point stores the accumulator plus the product of its blocks. -/
theorem out_last (c : Dev nD) (i : grid0.Coords) (a3 : Memref sig .tc .vmem S2048x1408 .bf16) (h3 : a3.IsWhole)
    (a4 : Memref sig .tc .vmem S2048x512 .f32) (h4 : a4.IsWhole) (a5 : Memref sig .tc .vmem S1408x512 .f32) (h5 : a5.IsWhole)
    (a6 : Memref sig .tc .vmem S1408x512 .f32) (h6 : a6.IsWhole)
    (hc0 : ¬cond0_0 i) (hc1 : ¬cond0_1 i) (hc2 : cond0_2 i)
    (x0 : Vec F S2048x1408 .bf16) (x1 : Vec F S2048x512 .f32) (xs : Vec F S1408x512 .f32) :
    out0_C_2 c i a3 h3 a4 h4 a5 h5 a6 h6 hc0 hc1 hc2 x0 x1 xs = addf xs (k0_pay1 x0 x1) := by
  unfold out0_C_2
  rw [View.read_writes_eq_canon _ _ _ (cover0_C_2 c i a3 h3 a4 h4 a5 h5 a6 h6 hc0 hc1 hc2 x0 x1 xs)]
  unfold kernelRun0_C
  dsimp only
  rw [View.canon_unit_zero offsets_zero]
  unfold k0_pay4
  simp only [View.readAt_eq_ld, h3.read_unread, h4.read_unread, h6.read_unread,
    View.ld_unit_zero (S := S2048x1408) offsets_zero, View.ld_unit_zero (S := S2048x512) offsets_zero, View.ld_unit_zero (S := S1408x512) offsets_zero, shapeCast_self]

variable (m : (ℓ : Loc nD τ sig) → Buf (Elt F) ℓ)

/-- The product of the two input blocks at a point. -/
def part (c : Dev nD) (n : ℕ) (h : n < cfg0.N) : Vec F S1408x512 .f32 := k0_pay1 (iblk m c 0 ⟨n, h⟩) (iblk m c 1 ⟨n, h⟩)

/-- At the last point of a run of four the output block is the four products added in order. -/
theorem block_eq (c : Dev nD) (r : ℕ) (h : 4 * r + 3 < cfg0.N) :
    (outsAt0 m c (4 * r + 3) h).1 = addf (addf (addf (part m c (4 * r + 0) (by omega)) (part m c (4 * r + 1) (by omega))) (part m c (4 * r + 2) (by omega))) (part m c (4 * r + 3) h) := by
  rw [outsAt0_C m c ⟨4 * r + 3, h⟩ (by dsimp only; omega) (by dsimp only; omega) (by dsimp only; omega)]
  dsimp only
  rw [out_last]
  show addf (outsAt0 m c (4 * r + 2) _).2 _ = _
  rw [outsAt0_B m c ⟨4 * r + 2, by omega⟩ (by dsimp only; omega) (by dsimp only; omega) (by dsimp only; omega)]
  dsimp only
  rw [acc_middle]
  show addf (addf (outsAt0 m c (4 * r + 1) _).2 _) _ = _
  rw [outsAt0_B m c ⟨4 * r + 1, by omega⟩ (by dsimp only; omega) (by dsimp only; omega) (by dsimp only; omega)]
  dsimp only
  rw [acc_middle]
  show addf (addf (addf (outsAt0 m c (4 * r + 0) _).2 _) _) _ = _
  rw [outsAt0_A m c ⟨4 * r + 0, by omega⟩ (by dsimp only; omega) (by dsimp only; omega) (by dsimp only; omega)]
  dsimp only
  rw [acc_first]
  rfl

end Cases

variable (m : (ℓ : Loc nD τ sig) → Buf (Elt Ideal) ℓ)

/-- The two arguments, as matrices of extended reals. -/
abbrev arg0 (c : Dev nD) : FVec Ideal S8192x2816 .bf16 := m ((c : Thread nD τ).loc main_arg0)
abbrev arg1 (c : Dev nD) : FVec Ideal S8192x1024 .f32 := m ((c : Thread nD τ).loc main_arg1)

/-- The blocks a point reads, decided over the grid. -/
theorem index_facts : ∀ t : Fin cfg0.N, win0_0.index t 0 = t.val % 4 ∧ win0_0.index t 1 = t.val / 4 / 2
    ∧ win0_1.index t 0 = t.val % 4 ∧ win0_1.index t 1 = t.val / 4 % 2 :=
  (by decide +kernel : ∀ t : Fin grid0.N, _)

/-- The product at point `4 r + j`, at an index of the block: the sum over the contracted block `j`. -/
theorem part_apply (c : Dev nD) (r j : ℕ) (hj : j < 4) (h : 4 * r + j < cfg0.N) (y : S1408x512.Idx) (i : S2816x1024.Idx)
    (h0 : (i 0).val = 1408 * (r / 2) + (y 0).val) (h1 : (i 1).val = 512 * (r % 2) + (y 1).val) :
    part m c (4 * r + j) h y = ∑ k : Fin 2048, (fun k : Fin 8192 =>
      arg0 m c (ix2 k (i 0)) * arg1 m c (ix2 k (i 1))) ⟨j * 2048 + k.val, by omega⟩ := by
  refine (tn_apply _ _ _ y).trans (Finset.sum_congr rfl fun k _ => ?_)
  obtain ⟨e0, e1, e2, e3⟩ := index_facts ⟨4 * r + j, h⟩
  have hr : (4 * r + j) / 4 = r := by omega
  have hk : (4 * r + j) % 4 = j := by omega
  dsimp only at e0 e1 e2 e3
  rw [hr] at *
  rw [hk] at *
  refine congrArg₂ (· * ·) (congrArg (arg0 m c) (index_eq ?_ ?_)) (congrArg (arg1 m c) (index_eq ?_ ?_))
  · show win0_0.index ⟨4 * r + j, h⟩ 0 * 2048 + 1 * k.val = j * 2048 + k.val; omega
  · show win0_0.index ⟨4 * r + j, h⟩ 1 * 1408 + 1 * (y 0).val = (i 0).val; omega
  · show win0_1.index ⟨4 * r + j, h⟩ 0 * 2048 + 1 * k.val = j * 2048 + k.val; omega
  · show win0_1.index ⟨4 * r + j, h⟩ 1 * 512 + 1 * (y 1).val = (i 1).val; omega

/-- The result array is the whole product. -/
theorem result_eq (c : Dev nD) : G2 m c = tn (arg0 m c) (arg1 m c) := by
  funext i
  have hi0 := idx2_lt0 i
  have hi1 := idx2_lt1 i
  have hN : cfg0.N = 16 := N_0
  have hr : run2Of i = 2 * ((i 0).val / 1408 - 0) + 1 * ((i 1).val / 512 - 0) := rfl
  have hp : pt2Of i < cfg0.N := by rw [hN]; show 4 * run2Of i + 3 < 16; omega
  have h0 : (i 0).val = 1408 * (run2Of i / 2) + (loc2Of i 0).val := by show _ = _ + (i 0).val % 1408; omega
  have h1 : (i 1).val = 512 * (run2Of i % 2) + (loc2Of i 1).val := by show _ = _ + (i 1).val % 512; omega
  unfold G2 tn
  rw [dif_pos hp, ← outsAt0_sweep m c (pt2Of i) hp, sum_four 2048 rfl, block_eq m c (run2Of i) hp]
  show ((part m c _ _ _ + part m c _ _ _) + part m c _ _ _) + part m c _ _ _ = _
  rw [part_apply m c _ 0 (by decide) _ _ i h0 h1,
    part_apply m c _ 1 (by decide) _ _ i h0 h1,
    part_apply m c _ 2 (by decide) _ _ i h0 h1,
    part_apply m c _ 3 (by decide) _ _ i h0 h1]

/-- The reference's result is the same product. -/
theorem reference_eq (x : FVec Ideal S8192x2816 .bf16) (y : FVec Ideal S8192x1024 .f32) :
    Cert.DownDwRefIdeal.Read.val_main_v4 (F := Ideal) x y = tn x y := by
  funext i
  rw [Cert.DownDwRefIdeal.Read.val_main_v4_apply, Cert.DownDwRefIdeal.Read.val_main_v3_apply]
  refine Finset.sum_congr rfl fun k _ => ?_
  rw [mul_comm]
  exact congrArg₂ (· * ·) (congrArg x (index_eq rfl rfl)) (congrArg y (index_eq rfl rfl))

/-- The reference's frame: it ends, and its arguments are unchanged. -/
theorem frame_reference : Cert.quiescent_DownDwRefIdeal := fun m ρ _ =>
  (θ_run Cert.DownDwRefIdeal.defs _ _).mono
    (fun r h => ⟨fun c => (h c).2, sem_eq_zero_of_no_sems rfl r.2⟩) (Cert.DownDwRefIdeal.Value.run (F := Ideal) m ρ)

/-- The kernel's result is the reference's. -/
theorem algebraic : Cert.algebraic_DownDwIdeal_DownDwRefIdeal := fun m ρ m' ρ' _ hm =>
  ⟨fun c => tn (arg0 m c) (arg1 m c),
    (θ_run Cert.DownDwIdeal.defs _ _).mono (fun r h c => ⟨(h c).1.trans (result_eq m c), (h c).2⟩) (run m ρ),
    (θ_run Cert.DownDwRefIdeal.defs _ _).mono (fun r h c => ⟨(h c).1.trans (by
      rw [(hm c).1, (hm c).2]
      exact (Cert.DownDwRefIdeal.Read.val_main_v4_eq _ _).trans (reference_eq _ _)), (h c).2⟩)
      (Cert.DownDwRefIdeal.Value.run (F := Ideal) m' ρ')⟩

end Cert.DownDwIdeal.Product

end
-- ==== Proof.OutValue.lean ====
/-
  The output projection: the kernel's result, computed block by block, is the whole product
  that the reference computes.
-/
module

public import proofs.«01_k».proof.Proof.Product
public import proofs.«01_k».proof.Defs
public import Idealize.ShloMosaic.Lib.Quiescent
public import proofs.«01_k».proof.Proof.Gen.OutIdeal.Value
public import proofs.«01_k».proof.Proof.Gen.OutRefIdeal.Run
public import proofs.«01_k».proof.Proof.Gen.OutRefIdeal.Read

@[expose] public section

noncomputable section

namespace Cert.OutIdeal.Product

open Cert.OutIdeal Cert.OutIdeal.Gen Cert.OutIdeal.Value Cert.Product
open Idealize.ShloMosaic Idealize.ShloMosaic.TcCoe Idealize.ShloMosaic.ValueIdx Idealize.SL.Sem
open scoped BigOperators

section Cases

variable {F : FTy → Type} [FloatOps F]

/-- A point stores the product of its two blocks. -/
theorem out_block (c : Dev nD) (i : grid0.Coords) (a3 : Memref sig .tc .vmem S1024x1024 .bf16) (h3 : a3.IsWhole)
    (a4 : Memref sig .tc .vmem S1024x512 .f32) (h4 : a4.IsWhole) (a5 : Memref sig .tc .vmem S1024x512 .f32) (h5 : a5.IsWhole)
    (a6 : Memref sig .tc .vmem S8x128 .f32) (h6 : a6.IsWhole)
    (x0 : Vec F S1024x1024 .bf16) (x1 : Vec F S1024x512 .f32) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero offsets_zero]
  simp only [View.readAt_eq_ld, h3.read_unread, h4.read_unread,
    View.ld_unit_zero (S := S1024x1024) offsets_zero, View.ld_unit_zero (S := S1024x512) offsets_zero]

end Cases

variable (m : (ℓ : Loc nD τ sig) → Buf (Elt Ideal) ℓ)

/-- The two arguments, as matrices of extended reals. -/
abbrev arg0 (c : Dev nD) : FVec Ideal S8192x1024 .bf16 := m ((c : Thread nD τ).loc main_arg0)
abbrev arg1 (c : Dev nD) : FVec Ideal S1024x1024 .f32 := m ((c : Thread nD τ).loc main_arg1)

/-- The blocks a point reads and writes, decided over the grid. -/
theorem index_facts : ∀ t : Fin cfg0.N, win0_0.index t 0 = t.val / 2 ∧ win0_0.index t 1 = 0
    ∧ win0_1.index t 0 = 0 ∧ win0_1.index t 1 = t.val % 2
    ∧ win0_2.index t 0 = t.val / 2 ∧ win0_2.index t 1 = t.val % 2 :=
  (by decide +kernel : ∀ t : Fin grid0.N, _)

/-- What a point stores, at an index of its block: the whole product at the index's place in the result. -/
theorem block_apply (c : Dev nD) (t : Fin cfg0.N) (y : S1024x512.Idx) (i : S8192x1024.Idx)
    (h0 : (i 0).val = 1024 * (t.val / 2) + (y 0).val) (h1 : (i 1).val = 512 * (t.val % 2) + (y 1).val) :
    k0_pay1 (F := Ideal) (iblk m c 0 t) (iblk m c 1 t) y = nn (arg0 m c) (arg1 m c) i := by
  refine (nn_apply _ _ y).trans (Finset.sum_congr rfl fun k _ => ?_)
  obtain ⟨e0, e1, e2, e3, -, -⟩ := index_facts t
  refine congrArg₂ (· * ·) (congrArg (arg0 m c) (index_eq ?_ ?_)) (congrArg (arg1 m c) (index_eq ?_ ?_))
  · show win0_0.index t 0 * 1024 + 1 * (y 0).val = (i 0).val; omega
  · show win0_0.index t 1 * 1024 + 1 * k.val = k.val; omega
  · show win0_1.index t 0 * 1024 + 1 * k.val = k.val; omega
  · show win0_1.index t 1 * 512 + 1 * (y 1).val = (i 1).val; omega

/-- The result array is the whole product: each point writes its block of it, and the blocks cover it. -/
theorem result_eq (c : Dev nD) : (dats m 0 c).arrAt 2 cfg0.N = nn (arg0 m c) (arg1 m c) :=
  (dats m 0 c).arrAt_eq_of_cover 2 _ (fun t _ => by
    obtain ⟨-, -, -, -, e4, e5⟩ := index_facts t
    rw [flushed2_A, out_block]
    funext y
    exact block_apply m c t _ _
      (by show win0_2.index t 0 * 1024 + 1 * (y 0).val = 1024 * (t.val / 2) + (y 0).val; omega)
      (by show win0_2.index t 1 * 512 + 1 * (y 1).val = 512 * (t.val % 2) + (y 1).val; omega)) fun i => by
    have hi0 : (i 0).val < 8192 := (i 0).isLt
    have hi1 : (i 1).val < 1024 := (i 1).isLt
    have hN : cfg0.N = 16 := N_0
    have ht : 2 * ((i 0).val / 1024) + (i 1).val / 512 < cfg0.N := by omega
    obtain ⟨-, -, -, -, e4, e5⟩ := index_facts ⟨_, ht⟩
    dsimp only at e4 e5
    refine ⟨⟨_, ht⟩, flush0_2 _, ?_⟩
    show i ∈ ((View.whole main_v0).slice (win0_2.rect ⟨_, ht⟩)).set
    rw [View.set_slice_whole, Rect.mem_set_unit]
    intro a
    match a with
    | ⟨0, _⟩ => show win0_2.index ⟨_, ht⟩ 0 * 1024 ≤ (i 0).val ∧ (i 0).val < win0_2.index ⟨_, ht⟩ 0 * 1024 + 1024; omega
    | ⟨1, _⟩ => show win0_2.index ⟨_, ht⟩ 1 * 512 ≤ (i 1).val ∧ (i 1).val < win0_2.index ⟨_, ht⟩ 1 * 512 + 512; omega

/-- The reference's result is the same product. -/
theorem reference_eq (x : FVec Ideal S8192x1024 .bf16) (y : FVec Ideal S1024x1024 .f32) :
    Cert.OutRefIdeal.Read.val_main_v1 (F := Ideal) x y = nn x y := by
  funext i
  rw [Cert.OutRefIdeal.Read.val_main_v1_apply]
  refine Finset.sum_congr rfl fun k _ => ?_
  exact congrArg₂ (· * ·) (congrArg x (index_eq rfl rfl)) (congrArg y (index_eq rfl rfl))

/-- The reference's frame: it ends, and its arguments are unchanged. -/
theorem frame_reference : Cert.quiescent_OutRefIdeal := fun m ρ _ =>
  (θ_run Cert.OutRefIdeal.defs _ _).mono
    (fun r h => ⟨fun c => (h c).2, sem_eq_zero_of_no_sems rfl r.2⟩) (Cert.OutRefIdeal.Value.run (F := Ideal) m ρ)

/-- The kernel's result is the reference's. -/
theorem algebraic : Cert.algebraic_OutIdeal_OutRefIdeal := fun m ρ m' ρ' _ hm =>
  ⟨fun c => nn (arg0 m c) (arg1 m c),
    (θ_run Cert.OutIdeal.defs _ _).mono (fun r h c => ⟨(h c).1.trans (result_eq m c), (h c).2⟩) (run_blocks m ρ),
    (θ_run Cert.OutRefIdeal.defs _ _).mono (fun r h c => ⟨(h c).1.trans (by
      rw [(hm c).1, (hm c).2]
      exact (Cert.OutRefIdeal.Read.val_main_v1_eq _ _).trans (reference_eq _ _)), (h c).2⟩)
      (Cert.OutRefIdeal.Value.run (F := Ideal) m' ρ')⟩

end Cert.OutIdeal.Product

end
-- ==== Proof.OutDxValue.lean ====
/-
  The gradient of the output projection with respect to its input: the kernel's result, computed block by block, is the whole product
  that the reference computes.
-/
module

public import proofs.«01_k».proof.Proof.Product
public import proofs.«01_k».proof.Defs
public import Idealize.ShloMosaic.Lib.Quiescent
public import proofs.«01_k».proof.Proof.Gen.OutDxIdeal.Value
public import proofs.«01_k».proof.Proof.Gen.OutDxRefIdeal.Run
public import proofs.«01_k».proof.Proof.Gen.OutDxRefIdeal.Read

@[expose] public section

noncomputable section

namespace Cert.OutDxIdeal.Product

open Cert.OutDxIdeal Cert.OutDxIdeal.Gen Cert.OutDxIdeal.Value Cert.Product
open Idealize.ShloMosaic Idealize.ShloMosaic.TcCoe Idealize.ShloMosaic.ValueIdx Idealize.SL.Sem
open scoped BigOperators

section Cases

variable {F : FTy → Type} [FloatOps F]

/-- A point stores the product of its two blocks. -/
theorem out_block (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S8x128 .f32) (h6 : a6.IsWhole)
    (x0 : Vec F S1024x1024 .f32) (x1 : Vec F S1024x1024 .f32) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero offsets_zero]
  simp only [View.readAt_eq_ld, h3.read_unread, h4.read_unread,
    View.ld_unit_zero (S := S1024x1024) offsets_zero]

end Cases

variable (m : (ℓ : Loc nD τ sig) → Buf (Elt Ideal) ℓ)

/-- The two arguments, as matrices of extended reals. -/
abbrev arg0 (c : Dev nD) : FVec Ideal S8192x1024 .f32 := m ((c : Thread nD τ).loc main_arg0)
abbrev arg1 (c : Dev nD) : FVec Ideal S1024x1024 .f32 := m ((c : Thread nD τ).loc main_arg1)

/-- The blocks a point reads and writes, decided over the grid. -/
theorem index_facts : ∀ t : Fin cfg0.N, win0_0.index t 0 = t.val / 1 ∧ win0_0.index t 1 = 0
    ∧ win0_1.index t 0 = t.val % 1 ∧ win0_1.index t 1 = 0
    ∧ win0_2.index t 0 = t.val / 1 ∧ win0_2.index t 1 = t.val % 1 :=
  (by decide +kernel : ∀ t : Fin grid0.N, _)

/-- What a point stores, at an index of its block: the whole product at the index's place in the result. -/
theorem block_apply (c : Dev nD) (t : Fin cfg0.N) (y : S1024x1024.Idx) (i : S8192x1024.Idx)
    (h0 : (i 0).val = 1024 * (t.val / 1) + (y 0).val) (h1 : (i 1).val = 1024 * (t.val % 1) + (y 1).val) :
    k0_pay1 (F := Ideal) (iblk m c 0 t) (iblk m c 1 t) y = nt (arg0 m c) (arg1 m c) i := by
  refine (nt_apply _ _ y).trans (Finset.sum_congr rfl fun k _ => ?_)
  obtain ⟨e0, e1, e2, e3, -, -⟩ := index_facts t
  refine congrArg₂ (· * ·) (congrArg (arg0 m c) (index_eq ?_ ?_)) (congrArg (arg1 m c) (index_eq ?_ ?_))
  · show win0_0.index t 0 * 1024 + 1 * (y 0).val = (i 0).val; omega
  · show win0_0.index t 1 * 1024 + 1 * k.val = k.val; omega
  · show win0_1.index t 0 * 1024 + 1 * (y 1).val = (i 1).val; omega
  · show win0_1.index t 1 * 1024 + 1 * k.val = k.val; omega

/-- The result array is the whole product: each point writes its block of it, and the blocks cover it. -/
theorem result_eq (c : Dev nD) : (dats m 0 c).arrAt 2 cfg0.N = nt (arg0 m c) (arg1 m c) :=
  (dats m 0 c).arrAt_eq_of_cover 2 _ (fun t _ => by
    obtain ⟨-, -, -, -, e4, e5⟩ := index_facts t
    rw [flushed2_A, out_block]
    funext y
    exact block_apply m c t _ _
      (by show win0_2.index t 0 * 1024 + 1 * (y 0).val = 1024 * (t.val / 1) + (y 0).val; omega)
      (by show win0_2.index t 1 * 1024 + 1 * (y 1).val = 1024 * (t.val % 1) + (y 1).val; omega)) fun i => by
    have hi0 : (i 0).val < 8192 := (i 0).isLt
    have hi1 : (i 1).val < 1024 := (i 1).isLt
    have hN : cfg0.N = 8 := N_0
    have ht : 1 * ((i 0).val / 1024) + (i 1).val / 1024 < cfg0.N := by omega
    obtain ⟨-, -, -, -, e4, e5⟩ := index_facts ⟨_, ht⟩
    dsimp only at e4 e5
    refine ⟨⟨_, ht⟩, flush0_2 _, ?_⟩
    show i ∈ ((View.whole main_v0).slice (win0_2.rect ⟨_, ht⟩)).set
    rw [View.set_slice_whole, Rect.mem_set_unit]
    intro a
    match a with
    | ⟨0, _⟩ => show win0_2.index ⟨_, ht⟩ 0 * 1024 ≤ (i 0).val ∧ (i 0).val < win0_2.index ⟨_, ht⟩ 0 * 1024 + 1024; omega
    | ⟨1, _⟩ => show win0_2.index ⟨_, ht⟩ 1 * 1024 ≤ (i 1).val ∧ (i 1).val < win0_2.index ⟨_, ht⟩ 1 * 1024 + 1024; omega

/-- The reference's result is the same product. -/
theorem reference_eq (x : FVec Ideal S8192x1024 .f32) (y : FVec Ideal S1024x1024 .f32) :
    Cert.OutDxRefIdeal.Read.val_main_v2 (F := Ideal) x y = nt x y := by
  funext i
  rw [Cert.OutDxRefIdeal.Read.val_main_v2_apply]
  refine Finset.sum_congr rfl fun k _ => ?_
  exact congrArg₂ (· * ·) (congrArg x (index_eq rfl rfl)) (congrArg y (index_eq rfl rfl))

/-- The reference's frame: it ends, and its arguments are unchanged. -/
theorem frame_reference : Cert.quiescent_OutDxRefIdeal := fun m ρ _ =>
  (θ_run Cert.OutDxRefIdeal.defs _ _).mono
    (fun r h => ⟨fun c => (h c).2, sem_eq_zero_of_no_sems rfl r.2⟩) (Cert.OutDxRefIdeal.Value.run (F := Ideal) m ρ)

/-- The kernel's result is the reference's. -/
theorem algebraic : Cert.algebraic_OutDxIdeal_OutDxRefIdeal := fun m ρ m' ρ' _ hm =>
  ⟨fun c => nt (arg0 m c) (arg1 m c),
    (θ_run Cert.OutDxIdeal.defs _ _).mono (fun r h c => ⟨(h c).1.trans (result_eq m c), (h c).2⟩) (run_blocks m ρ),
    (θ_run Cert.OutDxRefIdeal.defs _ _).mono (fun r h c => ⟨(h c).1.trans (by
      rw [(hm c).1, (hm c).2]
      exact (Cert.OutDxRefIdeal.Read.val_main_v2_eq _ _).trans (reference_eq _ _)), (h c).2⟩)
      (Cert.OutDxRefIdeal.Value.run (F := Ideal) m' ρ')⟩

end Cert.OutDxIdeal.Product

end
-- ==== Proof.OutDwValue.lean ====
/-
  The gradient of the output projection with respect to its weight: the kernel's result, four partial products added in order, is the whole product
  that the reference computes.
-/
module

public import proofs.«01_k».proof.Proof.Product
public import proofs.«01_k».proof.Defs
public import Idealize.ShloMosaic.Lib.Quiescent
public import proofs.«01_k».proof.Proof.Gen.OutDwIdeal.Value
public import proofs.«01_k».proof.Proof.Gen.OutDwRefIdeal.Run
public import proofs.«01_k».proof.Proof.Gen.OutDwRefIdeal.Read

@[expose] public section

noncomputable section

namespace Cert.OutDwIdeal.Product

open Cert.OutDwIdeal Cert.OutDwIdeal.Gen Cert.OutDwIdeal.Value Cert.Product
open Idealize.ShloMosaic Idealize.ShloMosaic.TcCoe Idealize.ShloMosaic.ValueIdx Idealize.SL.Sem
open scoped BigOperators

section Cases

variable {F : FTy → Type} [FloatOps F]

/-- The first point of a run leaves the product of its blocks in the accumulator. -/
theorem acc_first (c : Dev nD) (i : grid0.Coords) (a3 : Memref sig .tc .vmem S2048x1024 .bf16) (h3 : a3.IsWhole)
    (a4 : Memref sig .tc .vmem S2048x512 .f32) (h4 : a4.IsWhole) (a5 : Memref sig .tc .vmem S1024x512 .f32) (h5 : a5.IsWhole)
    (a6 : Memref sig .tc .vmem S1024x512 .f32) (h6 : a6.IsWhole)
    (hc0 : cond0_0 i) (hc1 : ¬cond0_1 i) (hc2 : ¬cond0_2 i)
    (x0 : Vec F S2048x1024 .bf16) (x1 : Vec F S2048x512 .f32) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero offsets_zero]
  unfold k0_pay2
  simp only [View.readAt_eq_ld, h3.read_unread, h4.read_unread,
    View.ld_unit_zero (S := S2048x1024) offsets_zero, View.ld_unit_zero (S := S2048x512) offsets_zero, shapeCast_self]

/-- A middle point adds the product of its blocks to the accumulator. -/
theorem acc_middle (c : Dev nD) (i : grid0.Coords) (a3 : Memref sig .tc .vmem S2048x1024 .bf16) (h3 : a3.IsWhole)
    (a4 : Memref sig .tc .vmem S2048x512 .f32) (h4 : a4.IsWhole) (a5 : Memref sig .tc .vmem S1024x512 .f32) (h5 : a5.IsWhole)
    (a6 : Memref sig .tc .vmem S1024x512 .f32) (h6 : a6.IsWhole)
    (hc0 : ¬cond0_0 i) (hc1 : cond0_1 i) (hc2 : ¬cond0_2 i)
    (x0 : Vec F S2048x1024 .bf16) (x1 : Vec F S2048x512 .f32) (xs : Vec F S1024x512 .f32) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero offsets_zero]
  unfold k0_pay3
  simp only [View.readAt_eq_ld, h3.read_unread, h4.read_unread, h6.read_unread,
    View.ld_unit_zero (S := S2048x1024) offsets_zero, View.ld_unit_zero (S := S2048x512) offsets_zero, View.ld_unit_zero (S := S1024x512) offsets_zero, shapeCast_self]

/-- The last point stores the accumulator plus the product of its blocks. -/
theorem out_last (c : Dev nD) (i : grid0.Coords) (a3 : Memref sig .tc .vmem S2048x1024 .bf16) (h3 : a3.IsWhole)
    (a4 : Memref sig .tc .vmem S2048x512 .f32) (h4 : a4.IsWhole) (a5 : Memref sig .tc .vmem S1024x512 .f32) (h5 : a5.IsWhole)
    (a6 : Memref sig .tc .vmem S1024x512 .f32) (h6 : a6.IsWhole)
    (hc0 : ¬cond0_0 i) (hc1 : ¬cond0_1 i) (hc2 : cond0_2 i)
    (x0 : Vec F S2048x1024 .bf16) (x1 : Vec F S2048x512 .f32) (xs : Vec F S1024x512 .f32) :
    out0_C_2 c i a3 h3 a4 h4 a5 h5 a6 h6 hc0 hc1 hc2 x0 x1 xs = addf xs (k0_pay1 x0 x1) := by
  unfold out0_C_2
  rw [View.read_writes_eq_canon _ _ _ (cover0_C_2 c i a3 h3 a4 h4 a5 h5 a6 h6 hc0 hc1 hc2 x0 x1 xs)]
  unfold kernelRun0_C
  dsimp only
  rw [View.canon_unit_zero offsets_zero]
  unfold k0_pay4
  simp only [View.readAt_eq_ld, h3.read_unread, h4.read_unread, h6.read_unread,
    View.ld_unit_zero (S := S2048x1024) offsets_zero, View.ld_unit_zero (S := S2048x512) offsets_zero, View.ld_unit_zero (S := S1024x512) offsets_zero, shapeCast_self]

variable (m : (ℓ : Loc nD τ sig) → Buf (Elt F) ℓ)

/-- The product of the two input blocks at a point. -/
def part (c : Dev nD) (n : ℕ) (h : n < cfg0.N) : Vec F S1024x512 .f32 := k0_pay1 (iblk m c 0 ⟨n, h⟩) (iblk m c 1 ⟨n, h⟩)

/-- At the last point of a run of four the output block is the four products added in order. -/
theorem block_eq (c : Dev nD) (r : ℕ) (h : 4 * r + 3 < cfg0.N) :
    (outsAt0 m c (4 * r + 3) h).1 = addf (addf (addf (part m c (4 * r + 0) (by omega)) (part m c (4 * r + 1) (by omega))) (part m c (4 * r + 2) (by omega))) (part m c (4 * r + 3) h) := by
  rw [outsAt0_C m c ⟨4 * r + 3, h⟩ (by dsimp only; omega) (by dsimp only; omega) (by dsimp only; omega)]
  dsimp only
  rw [out_last]
  show addf (outsAt0 m c (4 * r + 2) _).2 _ = _
  rw [outsAt0_B m c ⟨4 * r + 2, by omega⟩ (by dsimp only; omega) (by dsimp only; omega) (by dsimp only; omega)]
  dsimp only
  rw [acc_middle]
  show addf (addf (outsAt0 m c (4 * r + 1) _).2 _) _ = _
  rw [outsAt0_B m c ⟨4 * r + 1, by omega⟩ (by dsimp only; omega) (by dsimp only; omega) (by dsimp only; omega)]
  dsimp only
  rw [acc_middle]
  show addf (addf (addf (outsAt0 m c (4 * r + 0) _).2 _) _) _ = _
  rw [outsAt0_A m c ⟨4 * r + 0, by omega⟩ (by dsimp only; omega) (by dsimp only; omega) (by dsimp only; omega)]
  dsimp only
  rw [acc_first]
  rfl

end Cases

variable (m : (ℓ : Loc nD τ sig) → Buf (Elt Ideal) ℓ)

/-- The two arguments, as matrices of extended reals. -/
abbrev arg0 (c : Dev nD) : FVec Ideal S8192x1024 .bf16 := m ((c : Thread nD τ).loc main_arg0)
abbrev arg1 (c : Dev nD) : FVec Ideal S8192x1024 .f32 := m ((c : Thread nD τ).loc main_arg1)

/-- The blocks a point reads, decided over the grid. -/
theorem index_facts : ∀ t : Fin cfg0.N, win0_0.index t 0 = t.val % 4 ∧ win0_0.index t 1 = t.val / 4 / 2
    ∧ win0_1.index t 0 = t.val % 4 ∧ win0_1.index t 1 = t.val / 4 % 2 :=
  (by decide +kernel : ∀ t : Fin grid0.N, _)

/-- The product at point `4 r + j`, at an index of the block: the sum over the contracted block `j`. -/
theorem part_apply (c : Dev nD) (r j : ℕ) (hj : j < 4) (h : 4 * r + j < cfg0.N) (y : S1024x512.Idx) (i : S1024x1024.Idx)
    (h0 : (i 0).val = 1024 * (r / 2) + (y 0).val) (h1 : (i 1).val = 512 * (r % 2) + (y 1).val) :
    part m c (4 * r + j) h y = ∑ k : Fin 2048, (fun k : Fin 8192 =>
      arg0 m c (ix2 k (i 0)) * arg1 m c (ix2 k (i 1))) ⟨j * 2048 + k.val, by omega⟩ := by
  refine (tn_apply _ _ _ y).trans (Finset.sum_congr rfl fun k _ => ?_)
  obtain ⟨e0, e1, e2, e3⟩ := index_facts ⟨4 * r + j, h⟩
  have hr : (4 * r + j) / 4 = r := by omega
  have hk : (4 * r + j) % 4 = j := by omega
  dsimp only at e0 e1 e2 e3
  rw [hr] at *
  rw [hk] at *
  refine congrArg₂ (· * ·) (congrArg (arg0 m c) (index_eq ?_ ?_)) (congrArg (arg1 m c) (index_eq ?_ ?_))
  · show win0_0.index ⟨4 * r + j, h⟩ 0 * 2048 + 1 * k.val = j * 2048 + k.val; omega
  · show win0_0.index ⟨4 * r + j, h⟩ 1 * 1024 + 1 * (y 0).val = (i 0).val; omega
  · show win0_1.index ⟨4 * r + j, h⟩ 0 * 2048 + 1 * k.val = j * 2048 + k.val; omega
  · show win0_1.index ⟨4 * r + j, h⟩ 1 * 512 + 1 * (y 1).val = (i 1).val; omega

/-- The result array is the whole product. -/
theorem result_eq (c : Dev nD) : G2 m c = tn (arg0 m c) (arg1 m c) := by
  funext i
  have hi0 := idx2_lt0 i
  have hi1 := idx2_lt1 i
  have hN : cfg0.N = 8 := N_0
  have hr : run2Of i = 2 * ((i 0).val / 1024 - 0) + 1 * ((i 1).val / 512 - 0) := rfl
  have hp : pt2Of i < cfg0.N := by rw [hN]; show 4 * run2Of i + 3 < 8; omega
  have h0 : (i 0).val = 1024 * (run2Of i / 2) + (loc2Of i 0).val := by show _ = _ + (i 0).val % 1024; omega
  have h1 : (i 1).val = 512 * (run2Of i % 2) + (loc2Of i 1).val := by show _ = _ + (i 1).val % 512; omega
  unfold G2 tn
  rw [dif_pos hp, ← outsAt0_sweep m c (pt2Of i) hp, sum_four 2048 rfl, block_eq m c (run2Of i) hp]
  show ((part m c _ _ _ + part m c _ _ _) + part m c _ _ _) + part m c _ _ _ = _
  rw [part_apply m c _ 0 (by decide) _ _ i h0 h1,
    part_apply m c _ 1 (by decide) _ _ i h0 h1,
    part_apply m c _ 2 (by decide) _ _ i h0 h1,
    part_apply m c _ 3 (by decide) _ _ i h0 h1]

/-- The reference's result is the same product. -/
theorem reference_eq (x : FVec Ideal S8192x1024 .bf16) (y : FVec Ideal S8192x1024 .f32) :
    Cert.OutDwRefIdeal.Read.val_main_v4 (F := Ideal) x y = tn x y := by
  funext i
  rw [Cert.OutDwRefIdeal.Read.val_main_v4_apply, Cert.OutDwRefIdeal.Read.val_main_v3_apply]
  refine Finset.sum_congr rfl fun k _ => ?_
  rw [mul_comm]
  exact congrArg₂ (· * ·) (congrArg x (index_eq rfl rfl)) (congrArg y (index_eq rfl rfl))

/-- The reference's frame: it ends, and its arguments are unchanged. -/
theorem frame_reference : Cert.quiescent_OutDwRefIdeal := fun m ρ _ =>
  (θ_run Cert.OutDwRefIdeal.defs _ _).mono
    (fun r h => ⟨fun c => (h c).2, sem_eq_zero_of_no_sems rfl r.2⟩) (Cert.OutDwRefIdeal.Value.run (F := Ideal) m ρ)

/-- The kernel's result is the reference's. -/
theorem algebraic : Cert.algebraic_OutDwIdeal_OutDwRefIdeal := fun m ρ m' ρ' _ hm =>
  ⟨fun c => tn (arg0 m c) (arg1 m c),
    (θ_run Cert.OutDwIdeal.defs _ _).mono (fun r h c => ⟨(h c).1.trans (result_eq m c), (h c).2⟩) (run m ρ),
    (θ_run Cert.OutDwRefIdeal.defs _ _).mono (fun r h c => ⟨(h c).1.trans (by
      rw [(hm c).1, (hm c).2]
      exact (Cert.OutDwRefIdeal.Read.val_main_v4_eq _ _).trans (reference_eq _ _)), (h c).2⟩)
      (Cert.OutDwRefIdeal.Value.run (F := Ideal) m' ρ')⟩

end Cert.OutDwIdeal.Product

end
-- ==== Proof.ProjValue.lean ====
/-
  The projection of a branch: the kernel's result, computed block by block, is the whole product
  that the reference computes.
-/
module

public import proofs.«01_k».proof.Proof.Product
public import proofs.«01_k».proof.Defs
public import Idealize.ShloMosaic.Lib.Quiescent
public import proofs.«01_k».proof.Proof.Gen.ProjIdeal.Value
public import proofs.«01_k».proof.Proof.Gen.ProjRefIdeal.Run
public import proofs.«01_k».proof.Proof.Gen.ProjRefIdeal.Read

@[expose] public section

noncomputable section

namespace Cert.ProjIdeal.Product

open Cert.ProjIdeal Cert.ProjIdeal.Gen Cert.ProjIdeal.Value Cert.Product
open Idealize.ShloMosaic Idealize.ShloMosaic.TcCoe Idealize.ShloMosaic.ValueIdx Idealize.SL.Sem
open scoped BigOperators

section Cases

variable {F : FTy → Type} [FloatOps F]

/-- A point stores the product of its two blocks. -/
theorem out_block (c : Dev nD) (i : grid0.Coords) (a3 : Memref sig .tc .vmem S1024x512 .bf16) (h3 : a3.IsWhole)
    (a4 : Memref sig .tc .vmem S512x512 .f32) (h4 : a4.IsWhole) (a5 : Memref sig .tc .vmem S1024x512 .f32) (h5 : a5.IsWhole)
    (a6 : Memref sig .tc .vmem S8x128 .f32) (h6 : a6.IsWhole)
    (x0 : Vec F S1024x512 .bf16) (x1 : Vec F S512x512 .f32) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero offsets_zero]
  simp only [View.readAt_eq_ld, h3.read_unread, h4.read_unread,
    View.ld_unit_zero (S := S1024x512) offsets_zero, View.ld_unit_zero (S := S512x512) offsets_zero]

end Cases

variable (m : (ℓ : Loc nD τ sig) → Buf (Elt Ideal) ℓ)

/-- The two arguments, as matrices of extended reals. -/
abbrev arg0 (c : Dev nD) : FVec Ideal S8192x512 .bf16 := m ((c : Thread nD τ).loc main_arg0)
abbrev arg1 (c : Dev nD) : FVec Ideal S512x1024 .f32 := m ((c : Thread nD τ).loc main_arg1)

/-- The blocks a point reads and writes, decided over the grid. -/
theorem index_facts : ∀ t : Fin cfg0.N, win0_0.index t 0 = t.val / 2 ∧ win0_0.index t 1 = 0
    ∧ win0_1.index t 0 = 0 ∧ win0_1.index t 1 = t.val % 2
    ∧ win0_2.index t 0 = t.val / 2 ∧ win0_2.index t 1 = t.val % 2 :=
  (by decide +kernel : ∀ t : Fin grid0.N, _)

/-- What a point stores, at an index of its block: the whole product at the index's place in the result. -/
theorem block_apply (c : Dev nD) (t : Fin cfg0.N) (y : S1024x512.Idx) (i : S8192x1024.Idx)
    (h0 : (i 0).val = 1024 * (t.val / 2) + (y 0).val) (h1 : (i 1).val = 512 * (t.val % 2) + (y 1).val) :
    k0_pay1 (F := Ideal) (iblk m c 0 t) (iblk m c 1 t) y = nn (arg0 m c) (arg1 m c) i := by
  refine (nn_apply _ _ y).trans (Finset.sum_congr rfl fun k _ => ?_)
  obtain ⟨e0, e1, e2, e3, -, -⟩ := index_facts t
  refine congrArg₂ (· * ·) (congrArg (arg0 m c) (index_eq ?_ ?_)) (congrArg (arg1 m c) (index_eq ?_ ?_))
  · show win0_0.index t 0 * 1024 + 1 * (y 0).val = (i 0).val; omega
  · show win0_0.index t 1 * 512 + 1 * k.val = k.val; omega
  · show win0_1.index t 0 * 512 + 1 * k.val = k.val; omega
  · show win0_1.index t 1 * 512 + 1 * (y 1).val = (i 1).val; omega

/-- The result array is the whole product: each point writes its block of it, and the blocks cover it. -/
theorem result_eq (c : Dev nD) : (dats m 0 c).arrAt 2 cfg0.N = nn (arg0 m c) (arg1 m c) :=
  (dats m 0 c).arrAt_eq_of_cover 2 _ (fun t _ => by
    obtain ⟨-, -, -, -, e4, e5⟩ := index_facts t
    rw [flushed2_A, out_block]
    funext y
    exact block_apply m c t _ _
      (by show win0_2.index t 0 * 1024 + 1 * (y 0).val = 1024 * (t.val / 2) + (y 0).val; omega)
      (by show win0_2.index t 1 * 512 + 1 * (y 1).val = 512 * (t.val % 2) + (y 1).val; omega)) fun i => by
    have hi0 : (i 0).val < 8192 := (i 0).isLt
    have hi1 : (i 1).val < 1024 := (i 1).isLt
    have hN : cfg0.N = 16 := N_0
    have ht : 2 * ((i 0).val / 1024) + (i 1).val / 512 < cfg0.N := by omega
    obtain ⟨-, -, -, -, e4, e5⟩ := index_facts ⟨_, ht⟩
    dsimp only at e4 e5
    refine ⟨⟨_, ht⟩, flush0_2 _, ?_⟩
    show i ∈ ((View.whole main_v0).slice (win0_2.rect ⟨_, ht⟩)).set
    rw [View.set_slice_whole, Rect.mem_set_unit]
    intro a
    match a with
    | ⟨0, _⟩ => show win0_2.index ⟨_, ht⟩ 0 * 1024 ≤ (i 0).val ∧ (i 0).val < win0_2.index ⟨_, ht⟩ 0 * 1024 + 1024; omega
    | ⟨1, _⟩ => show win0_2.index ⟨_, ht⟩ 1 * 512 ≤ (i 1).val ∧ (i 1).val < win0_2.index ⟨_, ht⟩ 1 * 512 + 512; omega

/-- The reference's result is the same product. -/
theorem reference_eq (x : FVec Ideal S8192x512 .bf16) (y : FVec Ideal S512x1024 .f32) :
    Cert.ProjRefIdeal.Read.val_main_v1 (F := Ideal) x y = nn x y := by
  funext i
  rw [Cert.ProjRefIdeal.Read.val_main_v1_apply]
  refine Finset.sum_congr rfl fun k _ => ?_
  exact congrArg₂ (· * ·) (congrArg x (index_eq rfl rfl)) (congrArg y (index_eq rfl rfl))

/-- The reference's frame: it ends, and its arguments are unchanged. -/
theorem frame_reference : Cert.quiescent_ProjRefIdeal := fun m ρ _ =>
  (θ_run Cert.ProjRefIdeal.defs _ _).mono
    (fun r h => ⟨fun c => (h c).2, sem_eq_zero_of_no_sems rfl r.2⟩) (Cert.ProjRefIdeal.Value.run (F := Ideal) m ρ)

/-- The kernel's result is the reference's. -/
theorem algebraic : Cert.algebraic_ProjIdeal_ProjRefIdeal := fun m ρ m' ρ' _ hm =>
  ⟨fun c => nn (arg0 m c) (arg1 m c),
    (θ_run Cert.ProjIdeal.defs _ _).mono (fun r h c => ⟨(h c).1.trans (result_eq m c), (h c).2⟩) (run_blocks m ρ),
    (θ_run Cert.ProjRefIdeal.defs _ _).mono (fun r h c => ⟨(h c).1.trans (by
      rw [(hm c).1, (hm c).2]
      exact (Cert.ProjRefIdeal.Read.val_main_v1_eq _ _).trans (reference_eq _ _)), (h c).2⟩)
      (Cert.ProjRefIdeal.Value.run (F := Ideal) m' ρ')⟩

end Cert.ProjIdeal.Product

end
-- ==== Proof.ProjDxValue.lean ====
/-
  The gradient of a branch projection with respect to its input: the kernel's result, computed block by block, is the whole product
  that the reference computes.
-/
module

public import proofs.«01_k».proof.Proof.Product
public import proofs.«01_k».proof.Defs
public import Idealize.ShloMosaic.Lib.Quiescent
public import proofs.«01_k».proof.Proof.Gen.ProjDxIdeal.Value
public import proofs.«01_k».proof.Proof.Gen.ProjDxRefIdeal.Run
public import proofs.«01_k».proof.Proof.Gen.ProjDxRefIdeal.Read

@[expose] public section

noncomputable section

namespace Cert.ProjDxIdeal.Product

open Cert.ProjDxIdeal Cert.ProjDxIdeal.Gen Cert.ProjDxIdeal.Value Cert.Product
open Idealize.ShloMosaic Idealize.ShloMosaic.TcCoe Idealize.ShloMosaic.ValueIdx Idealize.SL.Sem
open scoped BigOperators

section Cases

variable {F : FTy → Type} [FloatOps F]

/-- A point stores the product of its two blocks. -/
theorem out_block (c : Dev nD) (i : grid0.Coords) (a3 : Memref sig .tc .vmem S1024x1024 .f32) (h3 : a3.IsWhole)
    (a4 : Memref sig .tc .vmem S512x1024 .f32) (h4 : a4.IsWhole) (a5 : Memref sig .tc .vmem S1024x512 .f32) (h5 : a5.IsWhole)
    (a6 : Memref sig .tc .vmem S8x128 .f32) (h6 : a6.IsWhole)
    (x0 : Vec F S1024x1024 .f32) (x1 : Vec F S512x1024 .f32) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero offsets_zero]
  simp only [View.readAt_eq_ld, h3.read_unread, h4.read_unread,
    View.ld_unit_zero (S := S1024x1024) offsets_zero, View.ld_unit_zero (S := S512x1024) offsets_zero]

end Cases

variable (m : (ℓ : Loc nD τ sig) → Buf (Elt Ideal) ℓ)

/-- The two arguments, as matrices of extended reals. -/
abbrev arg0 (c : Dev nD) : FVec Ideal S8192x1024 .f32 := m ((c : Thread nD τ).loc main_arg0)
abbrev arg1 (c : Dev nD) : FVec Ideal S512x1024 .f32 := m ((c : Thread nD τ).loc main_arg1)

/-- The blocks a point reads and writes, decided over the grid. -/
theorem index_facts : ∀ t : Fin cfg0.N, win0_0.index t 0 = t.val / 1 ∧ win0_0.index t 1 = 0
    ∧ win0_1.index t 0 = t.val % 1 ∧ win0_1.index t 1 = 0
    ∧ win0_2.index t 0 = t.val / 1 ∧ win0_2.index t 1 = t.val % 1 :=
  (by decide +kernel : ∀ t : Fin grid0.N, _)

/-- What a point stores, at an index of its block: the whole product at the index's place in the result. -/
theorem block_apply (c : Dev nD) (t : Fin cfg0.N) (y : S1024x512.Idx) (i : S8192x512.Idx)
    (h0 : (i 0).val = 1024 * (t.val / 1) + (y 0).val) (h1 : (i 1).val = 512 * (t.val % 1) + (y 1).val) :
    k0_pay1 (F := Ideal) (iblk m c 0 t) (iblk m c 1 t) y = nt (arg0 m c) (arg1 m c) i := by
  refine (nt_apply _ _ y).trans (Finset.sum_congr rfl fun k _ => ?_)
  obtain ⟨e0, e1, e2, e3, -, -⟩ := index_facts t
  refine congrArg₂ (· * ·) (congrArg (arg0 m c) (index_eq ?_ ?_)) (congrArg (arg1 m c) (index_eq ?_ ?_))
  · show win0_0.index t 0 * 1024 + 1 * (y 0).val = (i 0).val; omega
  · show win0_0.index t 1 * 1024 + 1 * k.val = k.val; omega
  · show win0_1.index t 0 * 512 + 1 * (y 1).val = (i 1).val; omega
  · show win0_1.index t 1 * 1024 + 1 * k.val = k.val; omega

/-- The result array is the whole product: each point writes its block of it, and the blocks cover it. -/
theorem result_eq (c : Dev nD) : (dats m 0 c).arrAt 2 cfg0.N = nt (arg0 m c) (arg1 m c) :=
  (dats m 0 c).arrAt_eq_of_cover 2 _ (fun t _ => by
    obtain ⟨-, -, -, -, e4, e5⟩ := index_facts t
    rw [flushed2_A, out_block]
    funext y
    exact block_apply m c t _ _
      (by show win0_2.index t 0 * 1024 + 1 * (y 0).val = 1024 * (t.val / 1) + (y 0).val; omega)
      (by show win0_2.index t 1 * 512 + 1 * (y 1).val = 512 * (t.val % 1) + (y 1).val; omega)) fun i => by
    have hi0 : (i 0).val < 8192 := (i 0).isLt
    have hi1 : (i 1).val < 512 := (i 1).isLt
    have hN : cfg0.N = 8 := N_0
    have ht : 1 * ((i 0).val / 1024) + (i 1).val / 512 < cfg0.N := by omega
    obtain ⟨-, -, -, -, e4, e5⟩ := index_facts ⟨_, ht⟩
    dsimp only at e4 e5
    refine ⟨⟨_, ht⟩, flush0_2 _, ?_⟩
    show i ∈ ((View.whole main_v0).slice (win0_2.rect ⟨_, ht⟩)).set
    rw [View.set_slice_whole, Rect.mem_set_unit]
    intro a
    match a with
    | ⟨0, _⟩ => show win0_2.index ⟨_, ht⟩ 0 * 1024 ≤ (i 0).val ∧ (i 0).val < win0_2.index ⟨_, ht⟩ 0 * 1024 + 1024; omega
    | ⟨1, _⟩ => show win0_2.index ⟨_, ht⟩ 1 * 512 ≤ (i 1).val ∧ (i 1).val < win0_2.index ⟨_, ht⟩ 1 * 512 + 512; omega

/-- The reference's result is the same product. -/
theorem reference_eq (x : FVec Ideal S8192x1024 .f32) (y : FVec Ideal S512x1024 .f32) :
    Cert.ProjDxRefIdeal.Read.val_main_v2 (F := Ideal) x y = nt x y := by
  funext i
  rw [Cert.ProjDxRefIdeal.Read.val_main_v2_apply]
  refine Finset.sum_congr rfl fun k _ => ?_
  exact congrArg₂ (· * ·) (congrArg x (index_eq rfl rfl)) (congrArg y (index_eq rfl rfl))

/-- The reference's frame: it ends, and its arguments are unchanged. -/
theorem frame_reference : Cert.quiescent_ProjDxRefIdeal := fun m ρ _ =>
  (θ_run Cert.ProjDxRefIdeal.defs _ _).mono
    (fun r h => ⟨fun c => (h c).2, sem_eq_zero_of_no_sems rfl r.2⟩) (Cert.ProjDxRefIdeal.Value.run (F := Ideal) m ρ)

/-- The kernel's result is the reference's. -/
theorem algebraic : Cert.algebraic_ProjDxIdeal_ProjDxRefIdeal := fun m ρ m' ρ' _ hm =>
  ⟨fun c => nt (arg0 m c) (arg1 m c),
    (θ_run Cert.ProjDxIdeal.defs _ _).mono (fun r h c => ⟨(h c).1.trans (result_eq m c), (h c).2⟩) (run_blocks m ρ),
    (θ_run Cert.ProjDxRefIdeal.defs _ _).mono (fun r h c => ⟨(h c).1.trans (by
      rw [(hm c).1, (hm c).2]
      exact (Cert.ProjDxRefIdeal.Read.val_main_v2_eq _ _).trans (reference_eq _ _)), (h c).2⟩)
      (Cert.ProjDxRefIdeal.Value.run (F := Ideal) m' ρ')⟩

end Cert.ProjDxIdeal.Product

end
-- ==== Proof.ProjDwValue.lean ====
/-
  The gradient of a branch projection with respect to its weight: the kernel's result, four partial products added in order, is the whole product
  that the reference computes.
-/
module

public import proofs.«01_k».proof.Proof.Product
public import proofs.«01_k».proof.Defs
public import Idealize.ShloMosaic.Lib.Quiescent
public import proofs.«01_k».proof.Proof.Gen.ProjDwIdeal.Value
public import proofs.«01_k».proof.Proof.Gen.ProjDwRefIdeal.Run
public import proofs.«01_k».proof.Proof.Gen.ProjDwRefIdeal.Read

@[expose] public section

noncomputable section

namespace Cert.ProjDwIdeal.Product

open Cert.ProjDwIdeal Cert.ProjDwIdeal.Gen Cert.ProjDwIdeal.Value Cert.Product
open Idealize.ShloMosaic Idealize.ShloMosaic.TcCoe Idealize.ShloMosaic.ValueIdx Idealize.SL.Sem
open scoped BigOperators

section Cases

variable {F : FTy → Type} [FloatOps F]

/-- The first point of a run leaves the product of its blocks in the accumulator. -/
theorem acc_first (c : Dev nD) (i : grid0.Coords) (a3 : Memref sig .tc .vmem S2048x512 .bf16) (h3 : a3.IsWhole)
    (a4 : Memref sig .tc .vmem S2048x512 .f32) (h4 : a4.IsWhole) (a5 : Memref sig .tc .vmem S512x512 .f32) (h5 : a5.IsWhole)
    (a6 : Memref sig .tc .vmem S512x512 .f32) (h6 : a6.IsWhole)
    (hc0 : cond0_0 i) (hc1 : ¬cond0_1 i) (hc2 : ¬cond0_2 i)
    (x0 : Vec F S2048x512 .bf16) (x1 : Vec F S2048x512 .f32) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero offsets_zero]
  unfold k0_pay2
  simp only [View.readAt_eq_ld, h3.read_unread, h4.read_unread,
    View.ld_unit_zero (S := S2048x512) offsets_zero, shapeCast_self]

/-- A middle point adds the product of its blocks to the accumulator. -/
theorem acc_middle (c : Dev nD) (i : grid0.Coords) (a3 : Memref sig .tc .vmem S2048x512 .bf16) (h3 : a3.IsWhole)
    (a4 : Memref sig .tc .vmem S2048x512 .f32) (h4 : a4.IsWhole) (a5 : Memref sig .tc .vmem S512x512 .f32) (h5 : a5.IsWhole)
    (a6 : Memref sig .tc .vmem S512x512 .f32) (h6 : a6.IsWhole)
    (hc0 : ¬cond0_0 i) (hc1 : cond0_1 i) (hc2 : ¬cond0_2 i)
    (x0 : Vec F S2048x512 .bf16) (x1 : Vec F S2048x512 .f32) (xs : Vec F S512x512 .f32) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero offsets_zero]
  unfold k0_pay3
  simp only [View.readAt_eq_ld, h3.read_unread, h4.read_unread, h6.read_unread,
    View.ld_unit_zero (S := S2048x512) offsets_zero, View.ld_unit_zero (S := S512x512) offsets_zero, shapeCast_self]

/-- The last point stores the accumulator plus the product of its blocks. -/
theorem out_last (c : Dev nD) (i : grid0.Coords) (a3 : Memref sig .tc .vmem S2048x512 .bf16) (h3 : a3.IsWhole)
    (a4 : Memref sig .tc .vmem S2048x512 .f32) (h4 : a4.IsWhole) (a5 : Memref sig .tc .vmem S512x512 .f32) (h5 : a5.IsWhole)
    (a6 : Memref sig .tc .vmem S512x512 .f32) (h6 : a6.IsWhole)
    (hc0 : ¬cond0_0 i) (hc1 : ¬cond0_1 i) (hc2 : cond0_2 i)
    (x0 : Vec F S2048x512 .bf16) (x1 : Vec F S2048x512 .f32) (xs : Vec F S512x512 .f32) :
    out0_C_2 c i a3 h3 a4 h4 a5 h5 a6 h6 hc0 hc1 hc2 x0 x1 xs = addf xs (k0_pay1 x0 x1) := by
  unfold out0_C_2
  rw [View.read_writes_eq_canon _ _ _ (cover0_C_2 c i a3 h3 a4 h4 a5 h5 a6 h6 hc0 hc1 hc2 x0 x1 xs)]
  unfold kernelRun0_C
  dsimp only
  rw [View.canon_unit_zero offsets_zero]
  unfold k0_pay4
  simp only [View.readAt_eq_ld, h3.read_unread, h4.read_unread, h6.read_unread,
    View.ld_unit_zero (S := S2048x512) offsets_zero, View.ld_unit_zero (S := S512x512) offsets_zero, shapeCast_self]

variable (m : (ℓ : Loc nD τ sig) → Buf (Elt F) ℓ)

/-- The product of the two input blocks at a point. -/
def part (c : Dev nD) (n : ℕ) (h : n < cfg0.N) : Vec F S512x512 .f32 := k0_pay1 (iblk m c 0 ⟨n, h⟩) (iblk m c 1 ⟨n, h⟩)

/-- At the last point of a run of four the output block is the four products added in order. -/
theorem block_eq (c : Dev nD) (r : ℕ) (h : 4 * r + 3 < cfg0.N) :
    (outsAt0 m c (4 * r + 3) h).1 = addf (addf (addf (part m c (4 * r + 0) (by omega)) (part m c (4 * r + 1) (by omega))) (part m c (4 * r + 2) (by omega))) (part m c (4 * r + 3) h) := by
  rw [outsAt0_C m c ⟨4 * r + 3, h⟩ (by dsimp only; omega) (by dsimp only; omega) (by dsimp only; omega)]
  dsimp only
  rw [out_last]
  show addf (outsAt0 m c (4 * r + 2) _).2 _ = _
  rw [outsAt0_B m c ⟨4 * r + 2, by omega⟩ (by dsimp only; omega) (by dsimp only; omega) (by dsimp only; omega)]
  dsimp only
  rw [acc_middle]
  show addf (addf (outsAt0 m c (4 * r + 1) _).2 _) _ = _
  rw [outsAt0_B m c ⟨4 * r + 1, by omega⟩ (by dsimp only; omega) (by dsimp only; omega) (by dsimp only; omega)]
  dsimp only
  rw [acc_middle]
  show addf (addf (addf (outsAt0 m c (4 * r + 0) _).2 _) _) _ = _
  rw [outsAt0_A m c ⟨4 * r + 0, by omega⟩ (by dsimp only; omega) (by dsimp only; omega) (by dsimp only; omega)]
  dsimp only
  rw [acc_first]
  rfl

end Cases

variable (m : (ℓ : Loc nD τ sig) → Buf (Elt Ideal) ℓ)

/-- The two arguments, as matrices of extended reals. -/
abbrev arg0 (c : Dev nD) : FVec Ideal S8192x512 .bf16 := m ((c : Thread nD τ).loc main_arg0)
abbrev arg1 (c : Dev nD) : FVec Ideal S8192x1024 .f32 := m ((c : Thread nD τ).loc main_arg1)

/-- The blocks a point reads, decided over the grid. -/
theorem index_facts : ∀ t : Fin cfg0.N, win0_0.index t 0 = t.val % 4 ∧ win0_0.index t 1 = t.val / 4 / 2
    ∧ win0_1.index t 0 = t.val % 4 ∧ win0_1.index t 1 = t.val / 4 % 2 :=
  (by decide +kernel : ∀ t : Fin grid0.N, _)

/-- The product at point `4 r + j`, at an index of the block: the sum over the contracted block `j`. -/
theorem part_apply (c : Dev nD) (r j : ℕ) (hj : j < 4) (h : 4 * r + j < cfg0.N) (y : S512x512.Idx) (i : S512x1024.Idx)
    (h0 : (i 0).val = 512 * (r / 2) + (y 0).val) (h1 : (i 1).val = 512 * (r % 2) + (y 1).val) :
    part m c (4 * r + j) h y = ∑ k : Fin 2048, (fun k : Fin 8192 =>
      arg0 m c (ix2 k (i 0)) * arg1 m c (ix2 k (i 1))) ⟨j * 2048 + k.val, by omega⟩ := by
  refine (tn_apply _ _ _ y).trans (Finset.sum_congr rfl fun k _ => ?_)
  obtain ⟨e0, e1, e2, e3⟩ := index_facts ⟨4 * r + j, h⟩
  have hr : (4 * r + j) / 4 = r := by omega
  have hk : (4 * r + j) % 4 = j := by omega
  dsimp only at e0 e1 e2 e3
  rw [hr] at *
  rw [hk] at *
  refine congrArg₂ (· * ·) (congrArg (arg0 m c) (index_eq ?_ ?_)) (congrArg (arg1 m c) (index_eq ?_ ?_))
  · show win0_0.index ⟨4 * r + j, h⟩ 0 * 2048 + 1 * k.val = j * 2048 + k.val; omega
  · show win0_0.index ⟨4 * r + j, h⟩ 1 * 512 + 1 * (y 0).val = (i 0).val; omega
  · show win0_1.index ⟨4 * r + j, h⟩ 0 * 2048 + 1 * k.val = j * 2048 + k.val; omega
  · show win0_1.index ⟨4 * r + j, h⟩ 1 * 512 + 1 * (y 1).val = (i 1).val; omega

/-- The result array is the whole product. -/
theorem result_eq (c : Dev nD) : G2 m c = tn (arg0 m c) (arg1 m c) := by
  funext i
  have hi0 := idx2_lt0 i
  have hi1 := idx2_lt1 i
  have hN : cfg0.N = 8 := N_0
  have hr : run2Of i = 2 * ((i 0).val / 512 - 0) + 1 * ((i 1).val / 512 - 0) := rfl
  have hp : pt2Of i < cfg0.N := by rw [hN]; show 4 * run2Of i + 3 < 8; omega
  have h0 : (i 0).val = 512 * (run2Of i / 2) + (loc2Of i 0).val := by show _ = _ + (i 0).val % 512; omega
  have h1 : (i 1).val = 512 * (run2Of i % 2) + (loc2Of i 1).val := by show _ = _ + (i 1).val % 512; omega
  unfold G2 tn
  rw [dif_pos hp, ← outsAt0_sweep m c (pt2Of i) hp, sum_four 2048 rfl, block_eq m c (run2Of i) hp]
  show ((part m c _ _ _ + part m c _ _ _) + part m c _ _ _) + part m c _ _ _ = _
  rw [part_apply m c _ 0 (by decide) _ _ i h0 h1,
    part_apply m c _ 1 (by decide) _ _ i h0 h1,
    part_apply m c _ 2 (by decide) _ _ i h0 h1,
    part_apply m c _ 3 (by decide) _ _ i h0 h1]

/-- The reference's result is the same product. -/
theorem reference_eq (x : FVec Ideal S8192x512 .bf16) (y : FVec Ideal S8192x1024 .f32) :
    Cert.ProjDwRefIdeal.Read.val_main_v4 (F := Ideal) x y = tn x y := by
  funext i
  rw [Cert.ProjDwRefIdeal.Read.val_main_v4_apply, Cert.ProjDwRefIdeal.Read.val_main_v3_apply]
  refine Finset.sum_congr rfl fun k _ => ?_
  rw [mul_comm]
  exact congrArg₂ (· * ·) (congrArg x (index_eq rfl rfl)) (congrArg y (index_eq rfl rfl))

/-- The reference's frame: it ends, and its arguments are unchanged. -/
theorem frame_reference : Cert.quiescent_ProjDwRefIdeal := fun m ρ _ =>
  (θ_run Cert.ProjDwRefIdeal.defs _ _).mono
    (fun r h => ⟨fun c => (h c).2, sem_eq_zero_of_no_sems rfl r.2⟩) (Cert.ProjDwRefIdeal.Value.run (F := Ideal) m ρ)

/-- The kernel's result is the reference's. -/
theorem algebraic : Cert.algebraic_ProjDwIdeal_ProjDwRefIdeal := fun m ρ m' ρ' _ hm =>
  ⟨fun c => tn (arg0 m c) (arg1 m c),
    (θ_run Cert.ProjDwIdeal.defs _ _).mono (fun r h c => ⟨(h c).1.trans (result_eq m c), (h c).2⟩) (run m ρ),
    (θ_run Cert.ProjDwRefIdeal.defs _ _).mono (fun r h c => ⟨(h c).1.trans (by
      rw [(hm c).1, (hm c).2]
      exact (Cert.ProjDwRefIdeal.Read.val_main_v4_eq _ _).trans (reference_eq _ _)), (h c).2⟩)
      (Cert.ProjDwRefIdeal.Value.run (F := Ideal) m' ρ')⟩

end Cert.ProjDwIdeal.Product

end
-- ==== Proof.Adam.lean ====
/-
  The AdamW step on extended reals: the sum of eight gradient parts, the two moments and the step itself,
  as functions of one entry, and the vector operations around them read at an index.
-/
module

public import Idealize.ShloMosaic.Lib.Pipeline.Value
public import Idealize.ShloMosaic.Lib.Pipeline.ValueKit.Tiles
public import Idealize.ShloMosaic.Lib.ValueIdx
public import Idealize.ShloMosaic.PureOps.Ideal

@[expose] public section

noncomputable section

namespace Cert.Adam

open Idealize.ShloMosaic Idealize.ShloMosaic.ValueIdx
open scoped BigOperators

/-- The number a 32-bit pattern denotes. -/
abbrev num (b : BitVec 32) : EReal := FloatOps.ofBits (F := Ideal) .f32 b

/-- The gradient at an entry: its eight parts, added first to last. -/
def grad (p : Fin 8 → EReal) : EReal := ((((((p 0 + p 1) + p 2) + p 3) + p 4) + p 5) + p 6) + p 7
/-- The new first moment: nine tenths of the old one and a tenth of the gradient. -/
def first (g m : EReal) : EReal := num 0x3F666666#32 * m + num 0x3DCCCCCD#32 * g
/-- The new second moment: the old one and the square of the gradient, weighted. -/
def second (g v : EReal) : EReal := num 0x3F7FBE77#32 * v + num 0x3A83126F#32 * (g * g)
/-- The step: the corrected moments' quotient and the decay of the weight, times minus the rate. -/
def step (g w m v : EReal) : EReal :=
  num 0xBA83126F#32 * (Ideal.div (Ideal.div (first g m) (num 0x3F26BD02#32))
    (Ideal.sqrt (Ideal.div (second g v) (num 0x3C231ACC#32)) + num 0x322BCC77#32) + num 0x3C23D70A#32 * w)

/-- The gradient from parts that are equal one by one. -/
theorem grad_congr {p q : Fin 8 → EReal} (h : ∀ d, p d = q d) : grad p = grad q := congrArg grad (funext h)
/-- The gradient is the sum of the parts, started at zero. -/
theorem grad_eq_sum (p : Fin 8 → EReal) : FloatOps.ofBits (F := Ideal) .f32 0x00000000#32 + ∑ d, p d = grad p := by
  rw [Fin.sum_univ_eight, show FloatOps.ofBits (F := Ideal) .f32 0x00000000#32 = (0 : EReal) by simp [Ideal.ofBits, Ideal.ieee], zero_add]
  rfl
/-- A first moment from equal entries. -/
theorem first_congr {g g' m m' : EReal} (hg : g = g') (hm : m = m') : first g m = first g' m' := by rw [hg, hm]
/-- A second moment from equal entries. -/
theorem second_congr {g g' v v' : EReal} (hg : g = g') (hv : v = v') : second g v = second g' v' := by rw [hg, hv]
/-- A step from equal entries. -/
theorem step_congr {g g' w w' m m' v v' : EReal} (hg : g = g') (hw : w = w') (hm : m = m') (hv : v = v') :
    step g w m v = step g' w' m' v' := by rw [hg, hw, hm, hv]

/-- Offsets that are all zero, as the loads and stores of a whole rank-3 block print them. -/
theorem offsets3_zero : (![0, 0, 0] : Fin 3 → Nat) = fun _ => 0 := funext fun a => by fin_cases a <;> rfl
/-- Offsets that are all zero, as the loads and stores of a whole rank-2 block print them. -/
theorem offsets2_zero : (![0, 0] : Fin 2 → Nat) = fun _ => 0 := funext fun a => by fin_cases a <;> rfl

/-- A rank-3 index is known by its three coordinates. -/
theorem index3_eq {a b c : ℕ} {i j : (⟨3, ![a, b, c]⟩ : Shape).Idx} (h0 : (i 0).val = (j 0).val) (h1 : (i 1).val = (j 1).val)
    (h2 : (i 2).val = (j 2).val) : i = j := by
  funext d; apply Fin.ext
  match d with
  | ⟨0, _⟩ => exact h0
  | ⟨1, _⟩ => exact h1
  | ⟨2, _⟩ => exact h2
/-- A rank-2 index is known by its two coordinates. -/
theorem index2_eq {a b : ℕ} {i j : (⟨2, ![a, b]⟩ : Shape).Idx} (h0 : (i 0).val = (j 0).val) (h1 : (i 1).val = (j 1).val) : i = j := by
  funext d; apply Fin.ext
  match d with
  | ⟨0, _⟩ => exact h0
  | ⟨1, _⟩ => exact h1

section Blocks

variable {r c : ℕ} {φ : FTy}

/-- Slice `d` of a stack, loaded and flattened, read at an index. -/
theorem slice_apply {e : EltTy} {n : ℕ} (x : Vec Ideal ⟨3, ![n, r, c]⟩ e) (d : ℕ) (hd : d < n)
    (inb : ∀ a, (![d, 0, 0] : Fin 3 → ℕ) a + (![1, r, c] : Fin 3 → ℕ) a ≤ (![n, r, c] : Fin 3 → ℕ) a)
    (h : (⟨3, ![1, r, c]⟩ : Shape).ShapeCasts ⟨2, ![r, c]⟩) (j : (⟨2, ![r, c]⟩ : Shape).Idx) :
    shapeCast (⟨2, ![r, c]⟩ : Shape)
      (View.ld (Val := Elt Ideal) (e' := e) (S := ⟨3, ![n, r, c]⟩) x (Rect.unit (s := ⟨3, ![n, r, c]⟩) ![d, 0, 0] ![1, r, c] inb)) h j
      = x (ix3 ⟨d, hd⟩ (j 0) (j 1)) := by
  refine (shapeCast_dropUnit_apply ![r, c] _ h j).trans ?_
  refine View.ld_unit_apply_of (Val := Elt Ideal) (e := e) _ _ _ _ _ _ fun a => ?_
  match a with
  | ⟨0, _⟩ => show d = d + 0; omega
  | ⟨1, _⟩ => show (j 0).val = 0 + (j 0).val; omega
  | ⟨2, _⟩ => show (j 1).val = 0 + (j 1).val; omega

/-- Eight summands added first to last, from what each one is. -/
theorem chain {a0 a1 a2 a3 a4 a5 a6 a7 : EReal} (p : Fin 8 → EReal) (h0 : a0 = p 0) (h1 : a1 = p 1) (h2 : a2 = p 2) (h3 : a3 = p 3)
    (h4 : a4 = p 4) (h5 : a5 = p 5) (h6 : a6 = p 6) (h7 : a7 = p 7) :
    ((((((a0 + a1) + a2) + a3) + a4) + a5) + a6) + a7 = grad p := by
  rw [h0, h1, h2, h3, h4, h5, h6, h7]; rfl

/-- A block given a leading unit axis, read at an index. -/
theorem unit_apply (v : FVec Ideal ⟨2, ![r, c]⟩ φ) (h : (⟨2, ![r, c]⟩ : Shape).ShapeCasts ⟨3, ![1, r, c]⟩) (y : (⟨3, ![1, r, c]⟩ : Shape).Idx) :
    shapeCast (⟨3, ![1, r, c]⟩ : Shape) v h y = v (ix2 (y 1) (y 2)) := by
  refine (shapeCast_addUnit_apply ![r, c] v h y).trans (congrArg v (funext fun a => ?_))
  match a with
  | ⟨0, _⟩ => rfl
  | ⟨1, _⟩ => rfl

end Blocks

end Cert.Adam

end
-- ==== Proof.AdamWInValue.lean ====
/-
  The input projections: the AdamW call's four results, computed block by block, are the gradient summed over its
  parts, the step and the two moments that the reference computes.
-/
module

public import proofs.«01_k».proof.Proof.Adam
public import proofs.«01_k».proof.Defs
public import Idealize.ShloMosaic.Lib.Quiescent
public import proofs.«01_k».proof.Proof.Gen.AdamWInIdeal.Value
public import proofs.«01_k».proof.Proof.Gen.AdamWInRefIdeal.Run
public import proofs.«01_k».proof.Proof.Gen.AdamWInRefIdeal.Read

@[expose] public section

noncomputable section

namespace Cert.AdamWInIdeal.Adam

open Cert.AdamWInIdeal Cert.AdamWInIdeal.Gen Cert.AdamWInIdeal.Value Cert.Adam
open Idealize.ShloMosaic Idealize.ShloMosaic.TcCoe Idealize.ShloMosaic.ValueIdx Idealize.SL.Sem

section Blocks

variable (x0 : FVec Ideal S8x128x676 .bf16) (x1 x2 x3 : FVec Ideal S1x128x676 .f32)

/-- The gradient of a block, read at an index: the eight parts added. -/
theorem block_grad (j : S128x676.Idx) : k0_pay8 (F := Ideal) x0 x1 x2 x3 j = grad fun d => x0 (ix3 d (j 0) (j 1)) :=
  chain _ (slice_apply (e := .bf16) (n := 8) x0 0 (by decide) _ _ j) (slice_apply (e := .bf16) (n := 8) x0 1 (by decide) _ _ j) (slice_apply (e := .bf16) (n := 8) x0 2 (by decide) _ _ j)
    (slice_apply (e := .bf16) (n := 8) x0 3 (by decide) _ _ j) (slice_apply (e := .bf16) (n := 8) x0 4 (by decide) _ _ j) (slice_apply (e := .bf16) (n := 8) x0 5 (by decide) _ _ j)
    (slice_apply (e := .bf16) (n := 8) x0 6 (by decide) _ _ j) (slice_apply (e := .bf16) (n := 8) x0 7 (by decide) _ _ j)

/-- A block of the weight or of a moment, read at an index. -/
theorem block_arg (x : FVec Ideal S1x128x676 .f32) (j : S128x676.Idx) :
    shapeCast S128x676 (View.ld (Val := Elt Ideal) (e' := .f32) x r0_8) shapeCasts_S1x128x676_S128x676 j = x (ix3 0 (j 0) (j 1)) :=
  slice_apply (e := .f32) (n := 1) x 0 (by decide) _ _ j

/-- What a point stores in the gradient's block. -/
theorem out_grad (y : S1x128x676.Idx) : out0_4 (F := Ideal) x0 x1 x2 x3 y = grad fun d => x0 (ix3 d (y 1) (y 2)) := by
  unfold out0_4 k0_pay6
  rw [View.canon_unit_zero offsets3_zero]
  refine (unit_apply (φ := .f32) _ shapeCasts_S128x676_S1x128x676 y).trans ?_
  exact block_grad x0 x1 x2 x3 _

/-- What a point stores in the step's block. -/
theorem out_step (y : S1x128x676.Idx) : out0_5 (F := Ideal) x0 x1 x2 x3 y
    = step (grad fun d => x0 (ix3 d (y 1) (y 2))) (x1 (ix3 0 (y 1) (y 2))) (x2 (ix3 0 (y 1) (y 2))) (x3 (ix3 0 (y 1) (y 2))) := by
  unfold out0_5 k0_pay7
  rw [View.canon_unit_zero offsets3_zero]
  refine (unit_apply (φ := .f32) _ shapeCasts_S128x676_S1x128x676 y).trans ?_
  exact step_congr (block_grad x0 x1 x2 x3 _) (block_arg x1 _) (block_arg x2 _) (block_arg x3 _)

/-- What a point stores in the first moment's block. -/
theorem out_first (y : S1x128x676.Idx) : out0_6 (F := Ideal) x0 x1 x2 x3 y
    = first (grad fun d => x0 (ix3 d (y 1) (y 2))) (x2 (ix3 0 (y 1) (y 2))) := by
  unfold out0_6 k0_pay1
  rw [View.canon_unit_zero offsets3_zero]
  refine (unit_apply (φ := .f32) _ shapeCasts_S128x676_S1x128x676 y).trans ?_
  exact first_congr (block_grad x0 x1 x2 x3 _) (block_arg x2 _)

/-- What a point stores in the second moment's block. -/
theorem out_second (y : S1x128x676.Idx) : out0_7 (F := Ideal) x0 x1 x2 x3 y
    = second (grad fun d => x0 (ix3 d (y 1) (y 2))) (x3 (ix3 0 (y 1) (y 2))) := by
  unfold out0_7 k0_pay2
  rw [View.canon_unit_zero offsets3_zero]
  refine (unit_apply (φ := .f32) _ shapeCasts_S128x676_S1x128x676 y).trans ?_
  exact second_congr (block_grad x0 x1 x2 x3 _) (block_arg x3 _)

end Blocks

variable (m : (ℓ : Loc nD τ sig) → Buf (Elt Ideal) ℓ)

/-- The arguments: the parts of the gradient, the weight and its two moments. -/
abbrev parts (c : Dev nD) : FVec Ideal S8x1024x676 .bf16 := m ((c : Thread nD τ).loc main_arg0)
abbrev weight (c : Dev nD) : FVec Ideal S1x1024x676 .f32 := m ((c : Thread nD τ).loc main_arg1)
abbrev mom1 (c : Dev nD) : FVec Ideal S1x1024x676 .f32 := m ((c : Thread nD τ).loc main_arg2)
abbrev mom2 (c : Dev nD) : FVec Ideal S1x1024x676 .f32 := m ((c : Thread nD τ).loc main_arg3)

/-- The gradient at an entry of the whole array. -/
abbrev gradAt (p : FVec Ideal S8x1024x676 .bf16) (i : S1x1024x676.Idx) : EReal := grad fun d => p (ix3 d (i 1) (i 2))

/-- The blocks a point reads and writes, decided over the grid: the same ones of every array. -/
theorem index_facts : ∀ t : Fin cfg0.N,
    (win0_0.index t 0 = 0 ∧ win0_0.index t 1 = t.val / 1 ∧ win0_0.index t 2 = t.val % 1)
    ∧ (win0_1.index t 0 = 0 ∧ win0_1.index t 1 = t.val / 1 ∧ win0_1.index t 2 = t.val % 1)
    ∧ (win0_2.index t 0 = 0 ∧ win0_2.index t 1 = t.val / 1 ∧ win0_2.index t 2 = t.val % 1)
    ∧ (win0_3.index t 0 = 0 ∧ win0_3.index t 1 = t.val / 1 ∧ win0_3.index t 2 = t.val % 1)
    ∧ (win0_4.index t 0 = 0 ∧ win0_4.index t 1 = t.val / 1 ∧ win0_4.index t 2 = t.val % 1)
    ∧ (win0_5.index t 0 = 0 ∧ win0_5.index t 1 = t.val / 1 ∧ win0_5.index t 2 = t.val % 1)
    ∧ (win0_6.index t 0 = 0 ∧ win0_6.index t 1 = t.val / 1 ∧ win0_6.index t 2 = t.val % 1)
    ∧ (win0_7.index t 0 = 0 ∧ win0_7.index t 1 = t.val / 1 ∧ win0_7.index t 2 = t.val % 1) :=
  (by decide +kernel : ∀ t : Fin grid0.N, _)

/-- Index `i` of the whole array is index `y` of point `t`'s block. -/
abbrev At (t : Fin cfg0.N) (y : S1x128x676.Idx) (i : S1x1024x676.Idx) : Prop :=
  (i 1).val = 128 * (t.val / 1) + (y 1).val ∧ (i 2).val = 676 * (t.val % 1) + (y 2).val

/-- The gradient of a point's block is the whole array's at the index's place. -/
theorem at_grad (c : Dev nD) {t : Fin cfg0.N} {y : S1x128x676.Idx} {i : S1x1024x676.Idx} (h : At t y i) :
    (grad fun d => (iblk m c 0 t : FVec Ideal S8x128x676 .bf16) (ix3 d (y 1) (y 2))) = gradAt (parts m c) i := grad_congr fun d => by
  obtain ⟨⟨e0, e1, e2⟩, -⟩ := index_facts t
  obtain ⟨h1, h2⟩ := h
  refine congrArg (parts m c) (index3_eq ?_ ?_ ?_)
  · show win0_0.index t 0 * 8 + 1 * d.val = d.val; omega
  · show win0_0.index t 1 * 128 + 1 * (y 1).val = (i 1).val; omega
  · show win0_0.index t 2 * 676 + 1 * (y 2).val = (i 2).val; omega

/-- The weight of a point's block is the whole array's at the index's place. -/
theorem at_weight (c : Dev nD) {t : Fin cfg0.N} {y : S1x128x676.Idx} {i : S1x1024x676.Idx} (h : At t y i) :
    (iblk m c 1 t : FVec Ideal S1x128x676 .f32) (ix3 0 (y 1) (y 2)) = weight m c i := by
  obtain ⟨-, ⟨e0, e1, e2⟩, -⟩ := index_facts t
  obtain ⟨h1, h2⟩ := h
  have h0 : (i 0).val < 1 := (i 0).isLt
  refine congrArg (weight m c) (index3_eq ?_ ?_ ?_)
  · show win0_1.index t 0 * 1 + 1 * 0 = (i 0).val; omega
  · show win0_1.index t 1 * 128 + 1 * (y 1).val = (i 1).val; omega
  · show win0_1.index t 2 * 676 + 1 * (y 2).val = (i 2).val; omega

/-- The first moment of a point's block is the whole array's at the index's place. -/
theorem at_mom1 (c : Dev nD) {t : Fin cfg0.N} {y : S1x128x676.Idx} {i : S1x1024x676.Idx} (h : At t y i) :
    (iblk m c 2 t : FVec Ideal S1x128x676 .f32) (ix3 0 (y 1) (y 2)) = mom1 m c i := by
  obtain ⟨-, -, ⟨e0, e1, e2⟩, -⟩ := index_facts t
  obtain ⟨h1, h2⟩ := h
  have h0 : (i 0).val < 1 := (i 0).isLt
  refine congrArg (mom1 m c) (index3_eq ?_ ?_ ?_)
  · show win0_2.index t 0 * 1 + 1 * 0 = (i 0).val; omega
  · show win0_2.index t 1 * 128 + 1 * (y 1).val = (i 1).val; omega
  · show win0_2.index t 2 * 676 + 1 * (y 2).val = (i 2).val; omega

/-- The second moment of a point's block is the whole array's at the index's place. -/
theorem at_mom2 (c : Dev nD) {t : Fin cfg0.N} {y : S1x128x676.Idx} {i : S1x1024x676.Idx} (h : At t y i) :
    (iblk m c 3 t : FVec Ideal S1x128x676 .f32) (ix3 0 (y 1) (y 2)) = mom2 m c i := by
  obtain ⟨-, -, -, ⟨e0, e1, e2⟩, -⟩ := index_facts t
  obtain ⟨h1, h2⟩ := h
  have h0 : (i 0).val < 1 := (i 0).isLt
  refine congrArg (mom2 m c) (index3_eq ?_ ?_ ?_)
  · show win0_3.index t 0 * 1 + 1 * 0 = (i 0).val; omega
  · show win0_3.index t 1 * 128 + 1 * (y 1).val = (i 1).val; omega
  · show win0_3.index t 2 * 676 + 1 * (y 2).val = (i 2).val; omega

/-- The point whose block holds an index of the whole array. -/
theorem point_lt (i : S1x1024x676.Idx) : 1 * ((i 1).val / 128) + (i 2).val / 676 < cfg0.N := by
  have h1 : (i 1).val < 1024 := (i 1).isLt
  have h2 : (i 2).val < 676 := (i 2).isLt
  have hN : cfg0.N = 8 := N_0
  omega

/-- An index lies in the block of its point, when the block's place is the point's. -/
theorem in_block (i : S1x1024x676.Idx) (k : Fin 3 → ℕ) (h0 : k 0 = 0)
    (h1 : k 1 = (1 * ((i 1).val / 128) + (i 2).val / 676) / 1) (h2 : k 2 = (1 * ((i 1).val / 128) + (i 2).val / 676) % 1) :
    ∀ a : Fin 3, k a * (![1, 128, 676] : Fin 3 → ℕ) a ≤ (i a).val
      ∧ (i a).val < k a * (![1, 128, 676] : Fin 3 → ℕ) a + (![1, 128, 676] : Fin 3 → ℕ) a := by
  have hi0 : (i 0).val < 1 := (i 0).isLt
  have hi1 : (i 1).val < 1024 := (i 1).isLt
  have hi2 : (i 2).val < 676 := (i 2).isLt
  intro a
  match a with
  | ⟨0, _⟩ => show k 0 * 1 ≤ (i 0).val ∧ (i 0).val < k 0 * 1 + 1; omega
  | ⟨1, _⟩ => show k 1 * 128 ≤ (i 1).val ∧ (i 1).val < k 1 * 128 + 128; omega
  | ⟨2, _⟩ => show k 2 * 676 ≤ (i 2).val ∧ (i 2).val < k 2 * 676 + 676; omega

/-- The gradient the call leaves, entry by entry. -/
theorem result_grad (c : Dev nD) : (dats m 0 c).arrAt 4 cfg0.N = fun i : S1x1024x676.Idx => gradAt (parts m c) i :=
  (dats m 0 c).arrAt_eq_of_cover 4 _ (fun t _ => by
    obtain ⟨-, -, -, -, ⟨e0, e1, e2⟩, -⟩ := index_facts t
    rw [flushed4]
    funext y
    have h : At t y (((cfg0.win 4).blk t).view.emb y) :=
      ⟨by show win0_4.index t 1 * 128 + 1 * (y 1).val = _; omega, by show win0_4.index t 2 * 676 + 1 * (y 2).val = _; omega⟩
    exact (out_grad _ _ _ _ y).trans (at_grad m c h)) fun i => by
    obtain ⟨-, -, -, -, ⟨e0, e1, e2⟩, -⟩ := index_facts ⟨_, point_lt i⟩
    refine ⟨⟨_, point_lt i⟩, flush0_4 _, ?_⟩
    show i ∈ ((View.whole main_v0_0).slice (win0_4.rect ⟨_, point_lt i⟩)).set
    rw [View.set_slice_whole, Rect.mem_set_unit]
    exact in_block i _ e0 e1 e2

/-- The step the call leaves, entry by entry. -/
theorem result_step (c : Dev nD) : (dats m 0 c).arrAt 5 cfg0.N = fun i : S1x1024x676.Idx => step (gradAt (parts m c) i) (weight m c i) (mom1 m c i) (mom2 m c i) :=
  (dats m 0 c).arrAt_eq_of_cover 5 _ (fun t _ => by
    obtain ⟨-, -, -, -, -, ⟨e0, e1, e2⟩, -⟩ := index_facts t
    rw [flushed5]
    funext y
    have h : At t y (((cfg0.win 5).blk t).view.emb y) :=
      ⟨by show win0_5.index t 1 * 128 + 1 * (y 1).val = _; omega, by show win0_5.index t 2 * 676 + 1 * (y 2).val = _; omega⟩
    exact (out_step _ _ _ _ y).trans (step_congr (at_grad m c h) (at_weight m c h) (at_mom1 m c h) (at_mom2 m c h))) fun i => by
    obtain ⟨-, -, -, -, -, ⟨e0, e1, e2⟩, -⟩ := index_facts ⟨_, point_lt i⟩
    refine ⟨⟨_, point_lt i⟩, flush0_5 _, ?_⟩
    show i ∈ ((View.whole main_v0_1).slice (win0_5.rect ⟨_, point_lt i⟩)).set
    rw [View.set_slice_whole, Rect.mem_set_unit]
    exact in_block i _ e0 e1 e2

/-- The first moment the call leaves, entry by entry. -/
theorem result_first (c : Dev nD) : (dats m 0 c).arrAt 6 cfg0.N = fun i : S1x1024x676.Idx => first (gradAt (parts m c) i) (mom1 m c i) :=
  (dats m 0 c).arrAt_eq_of_cover 6 _ (fun t _ => by
    obtain ⟨-, -, -, -, -, -, ⟨e0, e1, e2⟩, -⟩ := index_facts t
    rw [flushed6]
    funext y
    have h : At t y (((cfg0.win 6).blk t).view.emb y) :=
      ⟨by show win0_6.index t 1 * 128 + 1 * (y 1).val = _; omega, by show win0_6.index t 2 * 676 + 1 * (y 2).val = _; omega⟩
    exact (out_first _ _ _ _ y).trans (first_congr (at_grad m c h) (at_mom1 m c h))) fun i => by
    obtain ⟨-, -, -, -, -, -, ⟨e0, e1, e2⟩, -⟩ := index_facts ⟨_, point_lt i⟩
    refine ⟨⟨_, point_lt i⟩, flush0_6 _, ?_⟩
    show i ∈ ((View.whole main_v0_2).slice (win0_6.rect ⟨_, point_lt i⟩)).set
    rw [View.set_slice_whole, Rect.mem_set_unit]
    exact in_block i _ e0 e1 e2

/-- The second moment the call leaves, entry by entry. -/
theorem result_second (c : Dev nD) : (dats m 0 c).arrAt 7 cfg0.N = fun i : S1x1024x676.Idx => second (gradAt (parts m c) i) (mom2 m c i) :=
  (dats m 0 c).arrAt_eq_of_cover 7 _ (fun t _ => by
    obtain ⟨-, -, -, -, -, -, -, e0, e1, e2⟩ := index_facts t
    rw [flushed7]
    funext y
    have h : At t y (((cfg0.win 7).blk t).view.emb y) :=
      ⟨by show win0_7.index t 1 * 128 + 1 * (y 1).val = _; omega, by show win0_7.index t 2 * 676 + 1 * (y 2).val = _; omega⟩
    exact (out_second _ _ _ _ y).trans (second_congr (at_grad m c h) (at_mom2 m c h))) fun i => by
    obtain ⟨-, -, -, -, -, -, -, e0, e1, e2⟩ := index_facts ⟨_, point_lt i⟩
    refine ⟨⟨_, point_lt i⟩, flush0_7 _, ?_⟩
    show i ∈ ((View.whole main_v0_3).slice (win0_7.rect ⟨_, point_lt i⟩)).set
    rw [View.set_slice_whole, Rect.mem_set_unit]
    exact in_block i _ e0 e1 e2

section Reference

open Cert.AdamWInRefIdeal

variable (p : FVec Ideal S8x1024x676 .bf16) (w u v : FVec Ideal S1x1024x676 .f32)

/-- The reference's gradient: the sum of the parts. -/
theorem ref_grad (i : S1x1024x676.Idx) : Read.val_main_v2 (F := Ideal) p i = gradAt p i := by
  refine (unit_apply (φ := .f32) (Read.val_main_v1 (F := Ideal) p) _ i).trans ((Read.val_main_v1_apply p _).trans ?_)
  refine Eq.trans ?_ (grad_eq_sum _)
  refine congrArg₂ (· + ·) rfl (Finset.sum_congr rfl fun k _ => congrArg p ?_)
  exact index3_eq rfl rfl rfl

/-- The reference's first moment. -/
theorem ref_first (i : S1x1024x676.Idx) : Read.val_main_v7 (F := Ideal) p u i = first (gradAt p i) (u i) := by
  simp -implicitDefEqProofs only [Read.val_main_v3_apply, Read.val_main_v4_apply, Read.val_main_v5_apply, Read.val_main_v6_apply, Read.val_main_v7_apply, Read.val_main_cst_0_apply, Read.val_main_cst_1_apply, Ideal.addf_def, Ideal.mulf_def]
  rw [ref_grad]
  rfl
/-- The reference's second moment. -/
theorem ref_second (i : S1x1024x676.Idx) : Read.val_main_v13 (F := Ideal) p v i = second (gradAt p i) (v i) := by
  simp -implicitDefEqProofs only [Read.val_main_v8_apply, Read.val_main_v9_apply, Read.val_main_v10_apply, Read.val_main_v11_apply, Read.val_main_v12_apply, Read.val_main_v13_apply, Read.val_main_cst_2_apply, Read.val_main_cst_3_apply, Ideal.addf_def, Ideal.mulf_def]
  rw [ref_grad]
  rfl
/-- The reference's step. -/
theorem ref_step (i : S1x1024x676.Idx) : Read.val_main_v26 (F := Ideal) p w u v i = step (gradAt p i) (w i) (u i) (v i) := by
  simp -implicitDefEqProofs only [Read.val_main_v14_apply, Read.val_main_v15_apply, Read.val_main_v16_apply, Read.val_main_v17_apply, Read.val_main_v18_apply, Read.val_main_v19_apply, Read.val_main_v20_apply, Read.val_main_v21_apply, Read.val_main_v22_apply, Read.val_main_v23_apply, Read.val_main_v24_apply, Read.val_main_v25_apply, Read.val_main_v26_apply, Read.val_main_cst_4_apply, Read.val_main_cst_5_apply, Read.val_main_cst_6_apply, Read.val_main_cst_7_apply, Read.val_main_cst_8_apply, Ideal.addf_def, Ideal.mulf_def, Ideal.hostDivf_def, Ideal.hostUnary_sqrt_def]
  rw [ref_first, ref_second]
  rfl

end Reference

/-- The reference program runs to completion with every semaphore at rest and its arguments as they were. -/
theorem frame_reference [hF : Cert.AdamWInRefIdeal.Facts] : Cert.quiescent_AdamWInRefIdeal :=
  fun m ρ _ => (θ_run Cert.AdamWInRefIdeal.defs _ _).mono
    (fun r h => ⟨fun c => (h c).2.2.2.2, sem_eq_zero_of_no_sems rfl r.2⟩) (Cert.AdamWInRefIdeal.Value.run (F := Ideal) m ρ)

/-- From the same arguments the kernel and the reference leave the same gradient, step and moments. -/
theorem algebraic [hK : Cert.AdamWInIdeal.Facts] [hR : Cert.AdamWInRefIdeal.Facts] : Cert.algebraic_AdamWInIdeal_AdamWInRefIdeal :=
  fun m ρ m' ρ' _ hm => ⟨fun c => fun i => gradAt (parts m c) i,
    fun c => fun i => step (gradAt (parts m c) i) (weight m c i) (mom1 m c i) (mom2 m c i),
    fun c => fun i => first (gradAt (parts m c) i) (mom1 m c i), fun c => fun i => second (gradAt (parts m c) i) (mom2 m c i),
    (θ_run Cert.AdamWInIdeal.defs _ _).mono (fun r h c => ⟨(h c).1.trans (result_grad m c), (h c).2.1.trans (result_step m c),
      (h c).2.2.1.trans (result_first m c), (h c).2.2.2.1.trans (result_second m c), (h c).2.2.2.2⟩)
      (Cert.AdamWInIdeal.Value.run_blocks (F := Ideal) m ρ),
    (θ_run Cert.AdamWInRefIdeal.defs _ _).mono (fun r h c => ⟨
      (h c).1.trans (by rw [(hm c).1]; exact funext fun i => ref_grad _ i),
      (h c).2.1.trans (by rw [(hm c).1, (hm c).2.1, (hm c).2.2.1, (hm c).2.2.2]; exact funext fun i => ref_step _ _ _ _ i),
      (h c).2.2.1.trans (by rw [(hm c).1, (hm c).2.2.1]; exact funext fun i => ref_first _ _ i),
      (h c).2.2.2.1.trans (by rw [(hm c).1, (hm c).2.2.2]; exact funext fun i => ref_second _ _ i),
      (h c).2.2.2.2⟩)
      (Cert.AdamWInRefIdeal.Value.run (F := Ideal) m' ρ')⟩

end Cert.AdamWInIdeal.Adam

end
-- ==== Proof.AdamWa2Value.lean ====
/-
  The second gate projections: the AdamW call's four results, computed block by block, are the gradient summed over its
  parts, the step and the two moments that the reference computes.
-/
module

public import proofs.«01_k».proof.Proof.Adam
public import proofs.«01_k».proof.Defs
public import Idealize.ShloMosaic.Lib.Quiescent
public import proofs.«01_k».proof.Proof.Gen.AdamWa2Ideal.Value
public import proofs.«01_k».proof.Proof.Gen.AdamWa2RefIdeal.Run
public import proofs.«01_k».proof.Proof.Gen.AdamWa2RefIdeal.Read

@[expose] public section

noncomputable section

namespace Cert.AdamWa2Ideal.Adam

open Cert.AdamWa2Ideal Cert.AdamWa2Ideal.Gen Cert.AdamWa2Ideal.Value Cert.Adam
open Idealize.ShloMosaic Idealize.ShloMosaic.TcCoe Idealize.ShloMosaic.ValueIdx Idealize.SL.Sem

section Blocks

variable (x0 : FVec Ideal S8x16x32 .f32) (x1 x2 x3 : FVec Ideal S1x16x32 .f32)

/-- The gradient of a block, read at an index: the eight parts added. -/
theorem block_grad (j : S16x32.Idx) : k0_pay10 (F := Ideal) x0 x1 x2 x3 j = grad fun d => x0 (ix3 d (j 0) (j 1)) :=
  chain _ (slice_apply (e := .f32) (n := 8) x0 0 (by decide) _ _ j) (slice_apply (e := .f32) (n := 8) x0 1 (by decide) _ _ j) (slice_apply (e := .f32) (n := 8) x0 2 (by decide) _ _ j)
    (slice_apply (e := .f32) (n := 8) x0 3 (by decide) _ _ j) (slice_apply (e := .f32) (n := 8) x0 4 (by decide) _ _ j) (slice_apply (e := .f32) (n := 8) x0 5 (by decide) _ _ j)
    (slice_apply (e := .f32) (n := 8) x0 6 (by decide) _ _ j) (slice_apply (e := .f32) (n := 8) x0 7 (by decide) _ _ j)

/-- A block of the weight or of a moment, read at an index. -/
theorem block_arg (x : FVec Ideal S1x16x32 .f32) (j : S16x32.Idx) :
    shapeCast S16x32 (View.ld (Val := Elt Ideal) (e' := .f32) x r0_8) shapeCasts_S1x16x32_S16x32 j = x (ix3 0 (j 0) (j 1)) :=
  slice_apply (e := .f32) (n := 1) x 0 (by decide) _ _ j

/-- What a point stores in the gradient's block. -/
theorem out_grad (y : S1x16x32.Idx) : out0_4 (F := Ideal) x0 x1 x2 x3 y = grad fun d => x0 (ix3 d (y 1) (y 2)) := by
  unfold out0_4 k0_pay7
  rw [View.canon_unit_zero offsets3_zero]
  refine (unit_apply (φ := .f32) _ shapeCasts_S16x32_S1x16x32 y).trans ?_
  exact block_grad x0 x1 x2 x3 _

/-- What a point stores in the step's block. -/
theorem out_step (y : S1x16x32.Idx) : out0_5 (F := Ideal) x0 x1 x2 x3 y
    = step (grad fun d => x0 (ix3 d (y 1) (y 2))) (x1 (ix3 0 (y 1) (y 2))) (x2 (ix3 0 (y 1) (y 2))) (x3 (ix3 0 (y 1) (y 2))) := by
  unfold out0_5 k0_pay8
  rw [View.canon_unit_zero offsets3_zero]
  refine (unit_apply (φ := .f32) _ shapeCasts_S16x32_S1x16x32 y).trans ?_
  exact step_congr (block_grad x0 x1 x2 x3 _) (block_arg x1 _) (block_arg x2 _) (block_arg x3 _)

/-- What a point stores in the first moment's block. -/
theorem out_first (y : S1x16x32.Idx) : out0_6 (F := Ideal) x0 x1 x2 x3 y
    = first (grad fun d => x0 (ix3 d (y 1) (y 2))) (x2 (ix3 0 (y 1) (y 2))) := by
  unfold out0_6 k0_pay9
  rw [View.canon_unit_zero offsets3_zero]
  refine (unit_apply (φ := .f32) _ shapeCasts_S16x32_S1x16x32 y).trans ?_
  exact first_congr (block_grad x0 x1 x2 x3 _) (block_arg x2 _)

/-- What a point stores in the second moment's block. -/
theorem out_second (y : S1x16x32.Idx) : out0_7 (F := Ideal) x0 x1 x2 x3 y
    = second (grad fun d => x0 (ix3 d (y 1) (y 2))) (x3 (ix3 0 (y 1) (y 2))) := by
  unfold out0_7 k0_pay1
  rw [View.canon_unit_zero offsets3_zero]
  refine (unit_apply (φ := .f32) _ shapeCasts_S16x32_S1x16x32 y).trans ?_
  exact second_congr (block_grad x0 x1 x2 x3 _) (block_arg x3 _)

end Blocks

variable (m : (ℓ : Loc nD τ sig) → Buf (Elt Ideal) ℓ)

/-- The arguments: the parts of the gradient, the weight and its two moments. -/
abbrev parts (c : Dev nD) : FVec Ideal S8x16x32 .f32 := m ((c : Thread nD τ).loc main_arg0)
abbrev weight (c : Dev nD) : FVec Ideal S1x16x32 .f32 := m ((c : Thread nD τ).loc main_arg1)
abbrev mom1 (c : Dev nD) : FVec Ideal S1x16x32 .f32 := m ((c : Thread nD τ).loc main_arg2)
abbrev mom2 (c : Dev nD) : FVec Ideal S1x16x32 .f32 := m ((c : Thread nD τ).loc main_arg3)

/-- The gradient at an entry of the whole array. -/
abbrev gradAt (p : FVec Ideal S8x16x32 .f32) (i : S1x16x32.Idx) : EReal := grad fun d => p (ix3 d (i 1) (i 2))

/-- The blocks a point reads and writes, decided over the grid: the same ones of every array. -/
theorem index_facts : ∀ t : Fin cfg0.N,
    (win0_0.index t 0 = 0 ∧ win0_0.index t 1 = t.val / 1 ∧ win0_0.index t 2 = t.val % 1)
    ∧ (win0_1.index t 0 = 0 ∧ win0_1.index t 1 = t.val / 1 ∧ win0_1.index t 2 = t.val % 1)
    ∧ (win0_2.index t 0 = 0 ∧ win0_2.index t 1 = t.val / 1 ∧ win0_2.index t 2 = t.val % 1)
    ∧ (win0_3.index t 0 = 0 ∧ win0_3.index t 1 = t.val / 1 ∧ win0_3.index t 2 = t.val % 1)
    ∧ (win0_4.index t 0 = 0 ∧ win0_4.index t 1 = t.val / 1 ∧ win0_4.index t 2 = t.val % 1)
    ∧ (win0_5.index t 0 = 0 ∧ win0_5.index t 1 = t.val / 1 ∧ win0_5.index t 2 = t.val % 1)
    ∧ (win0_6.index t 0 = 0 ∧ win0_6.index t 1 = t.val / 1 ∧ win0_6.index t 2 = t.val % 1)
    ∧ (win0_7.index t 0 = 0 ∧ win0_7.index t 1 = t.val / 1 ∧ win0_7.index t 2 = t.val % 1) :=
  (by decide +kernel : ∀ t : Fin grid0.N, _)

/-- Index `i` of the whole array is index `y` of point `t`'s block. -/
abbrev At (t : Fin cfg0.N) (y : S1x16x32.Idx) (i : S1x16x32.Idx) : Prop :=
  (i 1).val = 16 * (t.val / 1) + (y 1).val ∧ (i 2).val = 32 * (t.val % 1) + (y 2).val

/-- The gradient of a point's block is the whole array's at the index's place. -/
theorem at_grad (c : Dev nD) {t : Fin cfg0.N} {y : S1x16x32.Idx} {i : S1x16x32.Idx} (h : At t y i) :
    (grad fun d => (iblk m c 0 t : FVec Ideal S8x16x32 .f32) (ix3 d (y 1) (y 2))) = gradAt (parts m c) i := grad_congr fun d => by
  obtain ⟨⟨e0, e1, e2⟩, -⟩ := index_facts t
  obtain ⟨h1, h2⟩ := h
  refine congrArg (parts m c) (index3_eq ?_ ?_ ?_)
  · show win0_0.index t 0 * 8 + 1 * d.val = d.val; omega
  · show win0_0.index t 1 * 16 + 1 * (y 1).val = (i 1).val; omega
  · show win0_0.index t 2 * 32 + 1 * (y 2).val = (i 2).val; omega

/-- The weight of a point's block is the whole array's at the index's place. -/
theorem at_weight (c : Dev nD) {t : Fin cfg0.N} {y : S1x16x32.Idx} {i : S1x16x32.Idx} (h : At t y i) :
    (iblk m c 1 t : FVec Ideal S1x16x32 .f32) (ix3 0 (y 1) (y 2)) = weight m c i := by
  obtain ⟨-, ⟨e0, e1, e2⟩, -⟩ := index_facts t
  obtain ⟨h1, h2⟩ := h
  have h0 : (i 0).val < 1 := (i 0).isLt
  refine congrArg (weight m c) (index3_eq ?_ ?_ ?_)
  · show win0_1.index t 0 * 1 + 1 * 0 = (i 0).val; omega
  · show win0_1.index t 1 * 16 + 1 * (y 1).val = (i 1).val; omega
  · show win0_1.index t 2 * 32 + 1 * (y 2).val = (i 2).val; omega

/-- The first moment of a point's block is the whole array's at the index's place. -/
theorem at_mom1 (c : Dev nD) {t : Fin cfg0.N} {y : S1x16x32.Idx} {i : S1x16x32.Idx} (h : At t y i) :
    (iblk m c 2 t : FVec Ideal S1x16x32 .f32) (ix3 0 (y 1) (y 2)) = mom1 m c i := by
  obtain ⟨-, -, ⟨e0, e1, e2⟩, -⟩ := index_facts t
  obtain ⟨h1, h2⟩ := h
  have h0 : (i 0).val < 1 := (i 0).isLt
  refine congrArg (mom1 m c) (index3_eq ?_ ?_ ?_)
  · show win0_2.index t 0 * 1 + 1 * 0 = (i 0).val; omega
  · show win0_2.index t 1 * 16 + 1 * (y 1).val = (i 1).val; omega
  · show win0_2.index t 2 * 32 + 1 * (y 2).val = (i 2).val; omega

/-- The second moment of a point's block is the whole array's at the index's place. -/
theorem at_mom2 (c : Dev nD) {t : Fin cfg0.N} {y : S1x16x32.Idx} {i : S1x16x32.Idx} (h : At t y i) :
    (iblk m c 3 t : FVec Ideal S1x16x32 .f32) (ix3 0 (y 1) (y 2)) = mom2 m c i := by
  obtain ⟨-, -, -, ⟨e0, e1, e2⟩, -⟩ := index_facts t
  obtain ⟨h1, h2⟩ := h
  have h0 : (i 0).val < 1 := (i 0).isLt
  refine congrArg (mom2 m c) (index3_eq ?_ ?_ ?_)
  · show win0_3.index t 0 * 1 + 1 * 0 = (i 0).val; omega
  · show win0_3.index t 1 * 16 + 1 * (y 1).val = (i 1).val; omega
  · show win0_3.index t 2 * 32 + 1 * (y 2).val = (i 2).val; omega

/-- The point whose block holds an index of the whole array. -/
theorem point_lt (i : S1x16x32.Idx) : 1 * ((i 1).val / 16) + (i 2).val / 32 < cfg0.N := by
  have h1 : (i 1).val < 16 := (i 1).isLt
  have h2 : (i 2).val < 32 := (i 2).isLt
  have hN : cfg0.N = 1 := N_0
  omega

/-- An index lies in the block of its point, when the block's place is the point's. -/
theorem in_block (i : S1x16x32.Idx) (k : Fin 3 → ℕ) (h0 : k 0 = 0)
    (h1 : k 1 = (1 * ((i 1).val / 16) + (i 2).val / 32) / 1) (h2 : k 2 = (1 * ((i 1).val / 16) + (i 2).val / 32) % 1) :
    ∀ a : Fin 3, k a * (![1, 16, 32] : Fin 3 → ℕ) a ≤ (i a).val
      ∧ (i a).val < k a * (![1, 16, 32] : Fin 3 → ℕ) a + (![1, 16, 32] : Fin 3 → ℕ) a := by
  have hi0 : (i 0).val < 1 := (i 0).isLt
  have hi1 : (i 1).val < 16 := (i 1).isLt
  have hi2 : (i 2).val < 32 := (i 2).isLt
  intro a
  match a with
  | ⟨0, _⟩ => show k 0 * 1 ≤ (i 0).val ∧ (i 0).val < k 0 * 1 + 1; omega
  | ⟨1, _⟩ => show k 1 * 16 ≤ (i 1).val ∧ (i 1).val < k 1 * 16 + 16; omega
  | ⟨2, _⟩ => show k 2 * 32 ≤ (i 2).val ∧ (i 2).val < k 2 * 32 + 32; omega

/-- The gradient the call leaves, entry by entry. -/
theorem result_grad (c : Dev nD) : (dats m 0 c).arrAt 4 cfg0.N = fun i : S1x16x32.Idx => gradAt (parts m c) i :=
  (dats m 0 c).arrAt_eq_of_cover 4 _ (fun t _ => by
    obtain ⟨-, -, -, -, ⟨e0, e1, e2⟩, -⟩ := index_facts t
    rw [flushed4]
    funext y
    have h : At t y (((cfg0.win 4).blk t).view.emb y) :=
      ⟨by show win0_4.index t 1 * 16 + 1 * (y 1).val = _; omega, by show win0_4.index t 2 * 32 + 1 * (y 2).val = _; omega⟩
    exact (out_grad _ _ _ _ y).trans (at_grad m c h)) fun i => by
    obtain ⟨-, -, -, -, ⟨e0, e1, e2⟩, -⟩ := index_facts ⟨_, point_lt i⟩
    refine ⟨⟨_, point_lt i⟩, flush0_4 _, ?_⟩
    show i ∈ ((View.whole main_v0_0).slice (win0_4.rect ⟨_, point_lt i⟩)).set
    rw [View.set_slice_whole, Rect.mem_set_unit]
    exact in_block i _ e0 e1 e2

/-- The step the call leaves, entry by entry. -/
theorem result_step (c : Dev nD) : (dats m 0 c).arrAt 5 cfg0.N = fun i : S1x16x32.Idx => step (gradAt (parts m c) i) (weight m c i) (mom1 m c i) (mom2 m c i) :=
  (dats m 0 c).arrAt_eq_of_cover 5 _ (fun t _ => by
    obtain ⟨-, -, -, -, -, ⟨e0, e1, e2⟩, -⟩ := index_facts t
    rw [flushed5]
    funext y
    have h : At t y (((cfg0.win 5).blk t).view.emb y) :=
      ⟨by show win0_5.index t 1 * 16 + 1 * (y 1).val = _; omega, by show win0_5.index t 2 * 32 + 1 * (y 2).val = _; omega⟩
    exact (out_step _ _ _ _ y).trans (step_congr (at_grad m c h) (at_weight m c h) (at_mom1 m c h) (at_mom2 m c h))) fun i => by
    obtain ⟨-, -, -, -, -, ⟨e0, e1, e2⟩, -⟩ := index_facts ⟨_, point_lt i⟩
    refine ⟨⟨_, point_lt i⟩, flush0_5 _, ?_⟩
    show i ∈ ((View.whole main_v0_1).slice (win0_5.rect ⟨_, point_lt i⟩)).set
    rw [View.set_slice_whole, Rect.mem_set_unit]
    exact in_block i _ e0 e1 e2

/-- The first moment the call leaves, entry by entry. -/
theorem result_first (c : Dev nD) : (dats m 0 c).arrAt 6 cfg0.N = fun i : S1x16x32.Idx => first (gradAt (parts m c) i) (mom1 m c i) :=
  (dats m 0 c).arrAt_eq_of_cover 6 _ (fun t _ => by
    obtain ⟨-, -, -, -, -, -, ⟨e0, e1, e2⟩, -⟩ := index_facts t
    rw [flushed6]
    funext y
    have h : At t y (((cfg0.win 6).blk t).view.emb y) :=
      ⟨by show win0_6.index t 1 * 16 + 1 * (y 1).val = _; omega, by show win0_6.index t 2 * 32 + 1 * (y 2).val = _; omega⟩
    exact (out_first _ _ _ _ y).trans (first_congr (at_grad m c h) (at_mom1 m c h))) fun i => by
    obtain ⟨-, -, -, -, -, -, ⟨e0, e1, e2⟩, -⟩ := index_facts ⟨_, point_lt i⟩
    refine ⟨⟨_, point_lt i⟩, flush0_6 _, ?_⟩
    show i ∈ ((View.whole main_v0_2).slice (win0_6.rect ⟨_, point_lt i⟩)).set
    rw [View.set_slice_whole, Rect.mem_set_unit]
    exact in_block i _ e0 e1 e2

/-- The second moment the call leaves, entry by entry. -/
theorem result_second (c : Dev nD) : (dats m 0 c).arrAt 7 cfg0.N = fun i : S1x16x32.Idx => second (gradAt (parts m c) i) (mom2 m c i) :=
  (dats m 0 c).arrAt_eq_of_cover 7 _ (fun t _ => by
    obtain ⟨-, -, -, -, -, -, -, e0, e1, e2⟩ := index_facts t
    rw [flushed7]
    funext y
    have h : At t y (((cfg0.win 7).blk t).view.emb y) :=
      ⟨by show win0_7.index t 1 * 16 + 1 * (y 1).val = _; omega, by show win0_7.index t 2 * 32 + 1 * (y 2).val = _; omega⟩
    exact (out_second _ _ _ _ y).trans (second_congr (at_grad m c h) (at_mom2 m c h))) fun i => by
    obtain ⟨-, -, -, -, -, -, -, e0, e1, e2⟩ := index_facts ⟨_, point_lt i⟩
    refine ⟨⟨_, point_lt i⟩, flush0_7 _, ?_⟩
    show i ∈ ((View.whole main_v0_3).slice (win0_7.rect ⟨_, point_lt i⟩)).set
    rw [View.set_slice_whole, Rect.mem_set_unit]
    exact in_block i _ e0 e1 e2

section Reference

open Cert.AdamWa2RefIdeal

variable (p : FVec Ideal S8x16x32 .f32) (w u v : FVec Ideal S1x16x32 .f32)

/-- The reference's gradient: the sum of the parts. -/
theorem ref_grad (i : S1x16x32.Idx) : Read.val_main_v1 (F := Ideal) p i = gradAt p i := by
  refine (unit_apply (φ := .f32) (Read.val_main_v0 (F := Ideal) p) _ i).trans ((Read.val_main_v0_apply p _).trans ?_)
  refine Eq.trans ?_ (grad_eq_sum _)
  refine congrArg₂ (· + ·) rfl (Finset.sum_congr rfl fun k _ => congrArg p ?_)
  exact index3_eq rfl rfl rfl

/-- The reference's first moment. -/
theorem ref_first (i : S1x16x32.Idx) : Read.val_main_v6 (F := Ideal) p u i = first (gradAt p i) (u i) := by
  simp -implicitDefEqProofs only [Read.val_main_v2_apply, Read.val_main_v3_apply, Read.val_main_v4_apply, Read.val_main_v5_apply, Read.val_main_v6_apply, Read.val_main_cst_0_apply, Read.val_main_cst_1_apply, Ideal.addf_def, Ideal.mulf_def]
  rw [ref_grad]
  rfl
/-- The reference's second moment. -/
theorem ref_second (i : S1x16x32.Idx) : Read.val_main_v12 (F := Ideal) p v i = second (gradAt p i) (v i) := by
  simp -implicitDefEqProofs only [Read.val_main_v7_apply, Read.val_main_v8_apply, Read.val_main_v9_apply, Read.val_main_v10_apply, Read.val_main_v11_apply, Read.val_main_v12_apply, Read.val_main_cst_2_apply, Read.val_main_cst_3_apply, Ideal.addf_def, Ideal.mulf_def]
  rw [ref_grad]
  rfl
/-- The reference's step. -/
theorem ref_step (i : S1x16x32.Idx) : Read.val_main_v25 (F := Ideal) p w u v i = step (gradAt p i) (w i) (u i) (v i) := by
  simp -implicitDefEqProofs only [Read.val_main_v13_apply, Read.val_main_v14_apply, Read.val_main_v15_apply, Read.val_main_v16_apply, Read.val_main_v17_apply, Read.val_main_v18_apply, Read.val_main_v19_apply, Read.val_main_v20_apply, Read.val_main_v21_apply, Read.val_main_v22_apply, Read.val_main_v23_apply, Read.val_main_v24_apply, Read.val_main_v25_apply, Read.val_main_cst_4_apply, Read.val_main_cst_5_apply, Read.val_main_cst_6_apply, Read.val_main_cst_7_apply, Read.val_main_cst_8_apply, Ideal.addf_def, Ideal.mulf_def, Ideal.hostDivf_def, Ideal.hostUnary_sqrt_def]
  rw [ref_first, ref_second]
  rfl

end Reference

/-- The reference program runs to completion with every semaphore at rest and its arguments as they were. -/
theorem frame_reference [hF : Cert.AdamWa2RefIdeal.Facts] : Cert.quiescent_AdamWa2RefIdeal :=
  fun m ρ _ => (θ_run Cert.AdamWa2RefIdeal.defs _ _).mono
    (fun r h => ⟨fun c => (h c).2.2.2.2, sem_eq_zero_of_no_sems rfl r.2⟩) (Cert.AdamWa2RefIdeal.Value.run (F := Ideal) m ρ)

/-- From the same arguments the kernel and the reference leave the same gradient, step and moments. -/
theorem algebraic [hK : Cert.AdamWa2Ideal.Facts] [hR : Cert.AdamWa2RefIdeal.Facts] : Cert.algebraic_AdamWa2Ideal_AdamWa2RefIdeal :=
  fun m ρ m' ρ' _ hm => ⟨fun c => fun i => gradAt (parts m c) i,
    fun c => fun i => step (gradAt (parts m c) i) (weight m c i) (mom1 m c i) (mom2 m c i),
    fun c => fun i => first (gradAt (parts m c) i) (mom1 m c i), fun c => fun i => second (gradAt (parts m c) i) (mom2 m c i),
    (θ_run Cert.AdamWa2Ideal.defs _ _).mono (fun r h c => ⟨(h c).1.trans (result_grad m c), (h c).2.1.trans (result_step m c),
      (h c).2.2.1.trans (result_first m c), (h c).2.2.2.1.trans (result_second m c), (h c).2.2.2.2⟩)
      (Cert.AdamWa2Ideal.Value.run_blocks (F := Ideal) m ρ),
    (θ_run Cert.AdamWa2RefIdeal.defs _ _).mono (fun r h c => ⟨
      (h c).1.trans (by rw [(hm c).1]; exact funext fun i => ref_grad _ i),
      (h c).2.1.trans (by rw [(hm c).1, (hm c).2.1, (hm c).2.2.1, (hm c).2.2.2]; exact funext fun i => ref_step _ _ _ _ i),
      (h c).2.2.1.trans (by rw [(hm c).1, (hm c).2.2.1]; exact funext fun i => ref_first _ _ i),
      (h c).2.2.2.1.trans (by rw [(hm c).1, (hm c).2.2.2]; exact funext fun i => ref_second _ _ i),
      (h c).2.2.2.2⟩)
      (Cert.AdamWa2RefIdeal.Value.run (F := Ideal) m' ρ')⟩

end Cert.AdamWa2Ideal.Adam

end
-- ==== Proof.AdamProjValue.lean ====
/-
  The square projections: the AdamW call's four results, computed block by block, are the gradient summed over its
  parts, the step and the two moments that the reference computes.
-/
module

public import proofs.«01_k».proof.Proof.Adam
public import proofs.«01_k».proof.Defs
public import Idealize.ShloMosaic.Lib.Quiescent
public import proofs.«01_k».proof.Proof.Gen.AdamProjIdeal.Value
public import proofs.«01_k».proof.Proof.Gen.AdamProjRefIdeal.Run
public import proofs.«01_k».proof.Proof.Gen.AdamProjRefIdeal.Read

@[expose] public section

noncomputable section

namespace Cert.AdamProjIdeal.Adam

open Cert.AdamProjIdeal Cert.AdamProjIdeal.Gen Cert.AdamProjIdeal.Value Cert.Adam
open Idealize.ShloMosaic Idealize.ShloMosaic.TcCoe Idealize.ShloMosaic.ValueIdx Idealize.SL.Sem

section Blocks

variable (x0 : FVec Ideal S8x128x128 .f32) (x1 x2 x3 : FVec Ideal S1x128x128 .f32)

/-- The gradient of a block, read at an index: the eight parts added. -/
theorem block_grad (j : S128x128.Idx) : k0_pay10 (F := Ideal) x0 x1 x2 x3 j = grad fun d => x0 (ix3 d (j 0) (j 1)) :=
  chain _ (slice_apply (e := .f32) (n := 8) x0 0 (by decide) _ _ j) (slice_apply (e := .f32) (n := 8) x0 1 (by decide) _ _ j) (slice_apply (e := .f32) (n := 8) x0 2 (by decide) _ _ j)
    (slice_apply (e := .f32) (n := 8) x0 3 (by decide) _ _ j) (slice_apply (e := .f32) (n := 8) x0 4 (by decide) _ _ j) (slice_apply (e := .f32) (n := 8) x0 5 (by decide) _ _ j)
    (slice_apply (e := .f32) (n := 8) x0 6 (by decide) _ _ j) (slice_apply (e := .f32) (n := 8) x0 7 (by decide) _ _ j)

/-- A block of the weight or of a moment, read at an index. -/
theorem block_arg (x : FVec Ideal S1x128x128 .f32) (j : S128x128.Idx) :
    shapeCast S128x128 (View.ld (Val := Elt Ideal) (e' := .f32) x r0_8) shapeCasts_S1x128x128_S128x128 j = x (ix3 0 (j 0) (j 1)) :=
  slice_apply (e := .f32) (n := 1) x 0 (by decide) _ _ j

/-- What a point stores in the gradient's block. -/
theorem out_grad (y : S1x128x128.Idx) : out0_4 (F := Ideal) x0 x1 x2 x3 y = grad fun d => x0 (ix3 d (y 1) (y 2)) := by
  unfold out0_4 k0_pay7
  rw [View.canon_unit_zero offsets3_zero]
  refine (unit_apply (φ := .f32) _ shapeCasts_S128x128_S1x128x128 y).trans ?_
  exact block_grad x0 x1 x2 x3 _

/-- What a point stores in the step's block. -/
theorem out_step (y : S1x128x128.Idx) : out0_5 (F := Ideal) x0 x1 x2 x3 y
    = step (grad fun d => x0 (ix3 d (y 1) (y 2))) (x1 (ix3 0 (y 1) (y 2))) (x2 (ix3 0 (y 1) (y 2))) (x3 (ix3 0 (y 1) (y 2))) := by
  unfold out0_5 k0_pay8
  rw [View.canon_unit_zero offsets3_zero]
  refine (unit_apply (φ := .f32) _ shapeCasts_S128x128_S1x128x128 y).trans ?_
  exact step_congr (block_grad x0 x1 x2 x3 _) (block_arg x1 _) (block_arg x2 _) (block_arg x3 _)

/-- What a point stores in the first moment's block. -/
theorem out_first (y : S1x128x128.Idx) : out0_6 (F := Ideal) x0 x1 x2 x3 y
    = first (grad fun d => x0 (ix3 d (y 1) (y 2))) (x2 (ix3 0 (y 1) (y 2))) := by
  unfold out0_6 k0_pay9
  rw [View.canon_unit_zero offsets3_zero]
  refine (unit_apply (φ := .f32) _ shapeCasts_S128x128_S1x128x128 y).trans ?_
  exact first_congr (block_grad x0 x1 x2 x3 _) (block_arg x2 _)

/-- What a point stores in the second moment's block. -/
theorem out_second (y : S1x128x128.Idx) : out0_7 (F := Ideal) x0 x1 x2 x3 y
    = second (grad fun d => x0 (ix3 d (y 1) (y 2))) (x3 (ix3 0 (y 1) (y 2))) := by
  unfold out0_7 k0_pay1
  rw [View.canon_unit_zero offsets3_zero]
  refine (unit_apply (φ := .f32) _ shapeCasts_S128x128_S1x128x128 y).trans ?_
  exact second_congr (block_grad x0 x1 x2 x3 _) (block_arg x3 _)

end Blocks

variable (m : (ℓ : Loc nD τ sig) → Buf (Elt Ideal) ℓ)

/-- The arguments: the parts of the gradient, the weight and its two moments. -/
abbrev parts (c : Dev nD) : FVec Ideal S8x512x128 .f32 := m ((c : Thread nD τ).loc main_arg0)
abbrev weight (c : Dev nD) : FVec Ideal S1x512x128 .f32 := m ((c : Thread nD τ).loc main_arg1)
abbrev mom1 (c : Dev nD) : FVec Ideal S1x512x128 .f32 := m ((c : Thread nD τ).loc main_arg2)
abbrev mom2 (c : Dev nD) : FVec Ideal S1x512x128 .f32 := m ((c : Thread nD τ).loc main_arg3)

/-- The gradient at an entry of the whole array. -/
abbrev gradAt (p : FVec Ideal S8x512x128 .f32) (i : S1x512x128.Idx) : EReal := grad fun d => p (ix3 d (i 1) (i 2))

/-- The blocks a point reads and writes, decided over the grid: the same ones of every array. -/
theorem index_facts : ∀ t : Fin cfg0.N,
    (win0_0.index t 0 = 0 ∧ win0_0.index t 1 = t.val / 1 ∧ win0_0.index t 2 = t.val % 1)
    ∧ (win0_1.index t 0 = 0 ∧ win0_1.index t 1 = t.val / 1 ∧ win0_1.index t 2 = t.val % 1)
    ∧ (win0_2.index t 0 = 0 ∧ win0_2.index t 1 = t.val / 1 ∧ win0_2.index t 2 = t.val % 1)
    ∧ (win0_3.index t 0 = 0 ∧ win0_3.index t 1 = t.val / 1 ∧ win0_3.index t 2 = t.val % 1)
    ∧ (win0_4.index t 0 = 0 ∧ win0_4.index t 1 = t.val / 1 ∧ win0_4.index t 2 = t.val % 1)
    ∧ (win0_5.index t 0 = 0 ∧ win0_5.index t 1 = t.val / 1 ∧ win0_5.index t 2 = t.val % 1)
    ∧ (win0_6.index t 0 = 0 ∧ win0_6.index t 1 = t.val / 1 ∧ win0_6.index t 2 = t.val % 1)
    ∧ (win0_7.index t 0 = 0 ∧ win0_7.index t 1 = t.val / 1 ∧ win0_7.index t 2 = t.val % 1) :=
  (by decide +kernel : ∀ t : Fin grid0.N, _)

/-- Index `i` of the whole array is index `y` of point `t`'s block. -/
abbrev At (t : Fin cfg0.N) (y : S1x128x128.Idx) (i : S1x512x128.Idx) : Prop :=
  (i 1).val = 128 * (t.val / 1) + (y 1).val ∧ (i 2).val = 128 * (t.val % 1) + (y 2).val

/-- The gradient of a point's block is the whole array's at the index's place. -/
theorem at_grad (c : Dev nD) {t : Fin cfg0.N} {y : S1x128x128.Idx} {i : S1x512x128.Idx} (h : At t y i) :
    (grad fun d => (iblk m c 0 t : FVec Ideal S8x128x128 .f32) (ix3 d (y 1) (y 2))) = gradAt (parts m c) i := grad_congr fun d => by
  obtain ⟨⟨e0, e1, e2⟩, -⟩ := index_facts t
  obtain ⟨h1, h2⟩ := h
  refine congrArg (parts m c) (index3_eq ?_ ?_ ?_)
  · show win0_0.index t 0 * 8 + 1 * d.val = d.val; omega
  · show win0_0.index t 1 * 128 + 1 * (y 1).val = (i 1).val; omega
  · show win0_0.index t 2 * 128 + 1 * (y 2).val = (i 2).val; omega

/-- The weight of a point's block is the whole array's at the index's place. -/
theorem at_weight (c : Dev nD) {t : Fin cfg0.N} {y : S1x128x128.Idx} {i : S1x512x128.Idx} (h : At t y i) :
    (iblk m c 1 t : FVec Ideal S1x128x128 .f32) (ix3 0 (y 1) (y 2)) = weight m c i := by
  obtain ⟨-, ⟨e0, e1, e2⟩, -⟩ := index_facts t
  obtain ⟨h1, h2⟩ := h
  have h0 : (i 0).val < 1 := (i 0).isLt
  refine congrArg (weight m c) (index3_eq ?_ ?_ ?_)
  · show win0_1.index t 0 * 1 + 1 * 0 = (i 0).val; omega
  · show win0_1.index t 1 * 128 + 1 * (y 1).val = (i 1).val; omega
  · show win0_1.index t 2 * 128 + 1 * (y 2).val = (i 2).val; omega

/-- The first moment of a point's block is the whole array's at the index's place. -/
theorem at_mom1 (c : Dev nD) {t : Fin cfg0.N} {y : S1x128x128.Idx} {i : S1x512x128.Idx} (h : At t y i) :
    (iblk m c 2 t : FVec Ideal S1x128x128 .f32) (ix3 0 (y 1) (y 2)) = mom1 m c i := by
  obtain ⟨-, -, ⟨e0, e1, e2⟩, -⟩ := index_facts t
  obtain ⟨h1, h2⟩ := h
  have h0 : (i 0).val < 1 := (i 0).isLt
  refine congrArg (mom1 m c) (index3_eq ?_ ?_ ?_)
  · show win0_2.index t 0 * 1 + 1 * 0 = (i 0).val; omega
  · show win0_2.index t 1 * 128 + 1 * (y 1).val = (i 1).val; omega
  · show win0_2.index t 2 * 128 + 1 * (y 2).val = (i 2).val; omega

/-- The second moment of a point's block is the whole array's at the index's place. -/
theorem at_mom2 (c : Dev nD) {t : Fin cfg0.N} {y : S1x128x128.Idx} {i : S1x512x128.Idx} (h : At t y i) :
    (iblk m c 3 t : FVec Ideal S1x128x128 .f32) (ix3 0 (y 1) (y 2)) = mom2 m c i := by
  obtain ⟨-, -, -, ⟨e0, e1, e2⟩, -⟩ := index_facts t
  obtain ⟨h1, h2⟩ := h
  have h0 : (i 0).val < 1 := (i 0).isLt
  refine congrArg (mom2 m c) (index3_eq ?_ ?_ ?_)
  · show win0_3.index t 0 * 1 + 1 * 0 = (i 0).val; omega
  · show win0_3.index t 1 * 128 + 1 * (y 1).val = (i 1).val; omega
  · show win0_3.index t 2 * 128 + 1 * (y 2).val = (i 2).val; omega

/-- The point whose block holds an index of the whole array. -/
theorem point_lt (i : S1x512x128.Idx) : 1 * ((i 1).val / 128) + (i 2).val / 128 < cfg0.N := by
  have h1 : (i 1).val < 512 := (i 1).isLt
  have h2 : (i 2).val < 128 := (i 2).isLt
  have hN : cfg0.N = 4 := N_0
  omega

/-- An index lies in the block of its point, when the block's place is the point's. -/
theorem in_block (i : S1x512x128.Idx) (k : Fin 3 → ℕ) (h0 : k 0 = 0)
    (h1 : k 1 = (1 * ((i 1).val / 128) + (i 2).val / 128) / 1) (h2 : k 2 = (1 * ((i 1).val / 128) + (i 2).val / 128) % 1) :
    ∀ a : Fin 3, k a * (![1, 128, 128] : Fin 3 → ℕ) a ≤ (i a).val
      ∧ (i a).val < k a * (![1, 128, 128] : Fin 3 → ℕ) a + (![1, 128, 128] : Fin 3 → ℕ) a := by
  have hi0 : (i 0).val < 1 := (i 0).isLt
  have hi1 : (i 1).val < 512 := (i 1).isLt
  have hi2 : (i 2).val < 128 := (i 2).isLt
  intro a
  match a with
  | ⟨0, _⟩ => show k 0 * 1 ≤ (i 0).val ∧ (i 0).val < k 0 * 1 + 1; omega
  | ⟨1, _⟩ => show k 1 * 128 ≤ (i 1).val ∧ (i 1).val < k 1 * 128 + 128; omega
  | ⟨2, _⟩ => show k 2 * 128 ≤ (i 2).val ∧ (i 2).val < k 2 * 128 + 128; omega

/-- The gradient the call leaves, entry by entry. -/
theorem result_grad (c : Dev nD) : (dats m 0 c).arrAt 4 cfg0.N = fun i : S1x512x128.Idx => gradAt (parts m c) i :=
  (dats m 0 c).arrAt_eq_of_cover 4 _ (fun t _ => by
    obtain ⟨-, -, -, -, ⟨e0, e1, e2⟩, -⟩ := index_facts t
    rw [flushed4]
    funext y
    have h : At t y (((cfg0.win 4).blk t).view.emb y) :=
      ⟨by show win0_4.index t 1 * 128 + 1 * (y 1).val = _; omega, by show win0_4.index t 2 * 128 + 1 * (y 2).val = _; omega⟩
    exact (out_grad _ _ _ _ y).trans (at_grad m c h)) fun i => by
    obtain ⟨-, -, -, -, ⟨e0, e1, e2⟩, -⟩ := index_facts ⟨_, point_lt i⟩
    refine ⟨⟨_, point_lt i⟩, flush0_4 _, ?_⟩
    show i ∈ ((View.whole main_v0_0).slice (win0_4.rect ⟨_, point_lt i⟩)).set
    rw [View.set_slice_whole, Rect.mem_set_unit]
    exact in_block i _ e0 e1 e2

/-- The step the call leaves, entry by entry. -/
theorem result_step (c : Dev nD) : (dats m 0 c).arrAt 5 cfg0.N = fun i : S1x512x128.Idx => step (gradAt (parts m c) i) (weight m c i) (mom1 m c i) (mom2 m c i) :=
  (dats m 0 c).arrAt_eq_of_cover 5 _ (fun t _ => by
    obtain ⟨-, -, -, -, -, ⟨e0, e1, e2⟩, -⟩ := index_facts t
    rw [flushed5]
    funext y
    have h : At t y (((cfg0.win 5).blk t).view.emb y) :=
      ⟨by show win0_5.index t 1 * 128 + 1 * (y 1).val = _; omega, by show win0_5.index t 2 * 128 + 1 * (y 2).val = _; omega⟩
    exact (out_step _ _ _ _ y).trans (step_congr (at_grad m c h) (at_weight m c h) (at_mom1 m c h) (at_mom2 m c h))) fun i => by
    obtain ⟨-, -, -, -, -, ⟨e0, e1, e2⟩, -⟩ := index_facts ⟨_, point_lt i⟩
    refine ⟨⟨_, point_lt i⟩, flush0_5 _, ?_⟩
    show i ∈ ((View.whole main_v0_1).slice (win0_5.rect ⟨_, point_lt i⟩)).set
    rw [View.set_slice_whole, Rect.mem_set_unit]
    exact in_block i _ e0 e1 e2

/-- The first moment the call leaves, entry by entry. -/
theorem result_first (c : Dev nD) : (dats m 0 c).arrAt 6 cfg0.N = fun i : S1x512x128.Idx => first (gradAt (parts m c) i) (mom1 m c i) :=
  (dats m 0 c).arrAt_eq_of_cover 6 _ (fun t _ => by
    obtain ⟨-, -, -, -, -, -, ⟨e0, e1, e2⟩, -⟩ := index_facts t
    rw [flushed6]
    funext y
    have h : At t y (((cfg0.win 6).blk t).view.emb y) :=
      ⟨by show win0_6.index t 1 * 128 + 1 * (y 1).val = _; omega, by show win0_6.index t 2 * 128 + 1 * (y 2).val = _; omega⟩
    exact (out_first _ _ _ _ y).trans (first_congr (at_grad m c h) (at_mom1 m c h))) fun i => by
    obtain ⟨-, -, -, -, -, -, ⟨e0, e1, e2⟩, -⟩ := index_facts ⟨_, point_lt i⟩
    refine ⟨⟨_, point_lt i⟩, flush0_6 _, ?_⟩
    show i ∈ ((View.whole main_v0_2).slice (win0_6.rect ⟨_, point_lt i⟩)).set
    rw [View.set_slice_whole, Rect.mem_set_unit]
    exact in_block i _ e0 e1 e2

/-- The second moment the call leaves, entry by entry. -/
theorem result_second (c : Dev nD) : (dats m 0 c).arrAt 7 cfg0.N = fun i : S1x512x128.Idx => second (gradAt (parts m c) i) (mom2 m c i) :=
  (dats m 0 c).arrAt_eq_of_cover 7 _ (fun t _ => by
    obtain ⟨-, -, -, -, -, -, -, e0, e1, e2⟩ := index_facts t
    rw [flushed7]
    funext y
    have h : At t y (((cfg0.win 7).blk t).view.emb y) :=
      ⟨by show win0_7.index t 1 * 128 + 1 * (y 1).val = _; omega, by show win0_7.index t 2 * 128 + 1 * (y 2).val = _; omega⟩
    exact (out_second _ _ _ _ y).trans (second_congr (at_grad m c h) (at_mom2 m c h))) fun i => by
    obtain ⟨-, -, -, -, -, -, -, e0, e1, e2⟩ := index_facts ⟨_, point_lt i⟩
    refine ⟨⟨_, point_lt i⟩, flush0_7 _, ?_⟩
    show i ∈ ((View.whole main_v0_3).slice (win0_7.rect ⟨_, point_lt i⟩)).set
    rw [View.set_slice_whole, Rect.mem_set_unit]
    exact in_block i _ e0 e1 e2

section Reference

open Cert.AdamProjRefIdeal

variable (p : FVec Ideal S8x512x128 .f32) (w u v : FVec Ideal S1x512x128 .f32)

/-- The reference's gradient: the sum of the parts. -/
theorem ref_grad (i : S1x512x128.Idx) : Read.val_main_v1 (F := Ideal) p i = gradAt p i := by
  refine (unit_apply (φ := .f32) (Read.val_main_v0 (F := Ideal) p) _ i).trans ((Read.val_main_v0_apply p _).trans ?_)
  refine Eq.trans ?_ (grad_eq_sum _)
  refine congrArg₂ (· + ·) rfl (Finset.sum_congr rfl fun k _ => congrArg p ?_)
  exact index3_eq rfl rfl rfl

/-- The reference's first moment. -/
theorem ref_first (i : S1x512x128.Idx) : Read.val_main_v6 (F := Ideal) p u i = first (gradAt p i) (u i) := by
  simp -implicitDefEqProofs only [Read.val_main_v2_apply, Read.val_main_v3_apply, Read.val_main_v4_apply, Read.val_main_v5_apply, Read.val_main_v6_apply, Read.val_main_cst_0_apply, Read.val_main_cst_1_apply, Ideal.addf_def, Ideal.mulf_def]
  rw [ref_grad]
  rfl
/-- The reference's second moment. -/
theorem ref_second (i : S1x512x128.Idx) : Read.val_main_v12 (F := Ideal) p v i = second (gradAt p i) (v i) := by
  simp -implicitDefEqProofs only [Read.val_main_v7_apply, Read.val_main_v8_apply, Read.val_main_v9_apply, Read.val_main_v10_apply, Read.val_main_v11_apply, Read.val_main_v12_apply, Read.val_main_cst_2_apply, Read.val_main_cst_3_apply, Ideal.addf_def, Ideal.mulf_def]
  rw [ref_grad]
  rfl
/-- The reference's step. -/
theorem ref_step (i : S1x512x128.Idx) : Read.val_main_v25 (F := Ideal) p w u v i = step (gradAt p i) (w i) (u i) (v i) := by
  simp -implicitDefEqProofs only [Read.val_main_v13_apply, Read.val_main_v14_apply, Read.val_main_v15_apply, Read.val_main_v16_apply, Read.val_main_v17_apply, Read.val_main_v18_apply, Read.val_main_v19_apply, Read.val_main_v20_apply, Read.val_main_v21_apply, Read.val_main_v22_apply, Read.val_main_v23_apply, Read.val_main_v24_apply, Read.val_main_v25_apply, Read.val_main_cst_4_apply, Read.val_main_cst_5_apply, Read.val_main_cst_6_apply, Read.val_main_cst_7_apply, Read.val_main_cst_8_apply, Ideal.addf_def, Ideal.mulf_def, Ideal.hostDivf_def, Ideal.hostUnary_sqrt_def]
  rw [ref_first, ref_second]
  rfl

end Reference

/-- The reference program runs to completion with every semaphore at rest and its arguments as they were. -/
theorem frame_reference [hF : Cert.AdamProjRefIdeal.Facts] : Cert.quiescent_AdamProjRefIdeal :=
  fun m ρ _ => (θ_run Cert.AdamProjRefIdeal.defs _ _).mono
    (fun r h => ⟨fun c => (h c).2.2.2.2, sem_eq_zero_of_no_sems rfl r.2⟩) (Cert.AdamProjRefIdeal.Value.run (F := Ideal) m ρ)

/-- From the same arguments the kernel and the reference leave the same gradient, step and moments. -/
theorem algebraic [hK : Cert.AdamProjIdeal.Facts] [hR : Cert.AdamProjRefIdeal.Facts] : Cert.algebraic_AdamProjIdeal_AdamProjRefIdeal :=
  fun m ρ m' ρ' _ hm => ⟨fun c => fun i => gradAt (parts m c) i,
    fun c => fun i => step (gradAt (parts m c) i) (weight m c i) (mom1 m c i) (mom2 m c i),
    fun c => fun i => first (gradAt (parts m c) i) (mom1 m c i), fun c => fun i => second (gradAt (parts m c) i) (mom2 m c i),
    (θ_run Cert.AdamProjIdeal.defs _ _).mono (fun r h c => ⟨(h c).1.trans (result_grad m c), (h c).2.1.trans (result_step m c),
      (h c).2.2.1.trans (result_first m c), (h c).2.2.2.1.trans (result_second m c), (h c).2.2.2.2⟩)
      (Cert.AdamProjIdeal.Value.run_blocks (F := Ideal) m ρ),
    (θ_run Cert.AdamProjRefIdeal.defs _ _).mono (fun r h c => ⟨
      (h c).1.trans (by rw [(hm c).1]; exact funext fun i => ref_grad _ i),
      (h c).2.1.trans (by rw [(hm c).1, (hm c).2.1, (hm c).2.2.1, (hm c).2.2.2]; exact funext fun i => ref_step _ _ _ _ i),
      (h c).2.2.1.trans (by rw [(hm c).1, (hm c).2.2.1]; exact funext fun i => ref_first _ _ i),
      (h c).2.2.2.1.trans (by rw [(hm c).1, (hm c).2.2.2]; exact funext fun i => ref_second _ _ i),
      (h c).2.2.2.2⟩)
      (Cert.AdamProjRefIdeal.Value.run (F := Ideal) m' ρ')⟩

end Cert.AdamProjIdeal.Adam

end
-- ==== Proof.AdamW2Value.lean ====
/-
  The second decay and rate projections: the AdamW call's four results, computed block by block, are the gradient summed over its
  parts, the step and the two moments that the reference computes.
-/
module

public import proofs.«01_k».proof.Proof.Adam
public import proofs.«01_k».proof.Defs
public import Idealize.ShloMosaic.Lib.Quiescent
public import proofs.«01_k».proof.Proof.Gen.AdamW2Ideal.Value
public import proofs.«01_k».proof.Proof.Gen.AdamW2RefIdeal.Run
public import proofs.«01_k».proof.Proof.Gen.AdamW2RefIdeal.Read

@[expose] public section

noncomputable section

namespace Cert.AdamW2Ideal.Adam

open Cert.AdamW2Ideal Cert.AdamW2Ideal.Gen Cert.AdamW2Ideal.Value Cert.Adam
open Idealize.ShloMosaic Idealize.ShloMosaic.TcCoe Idealize.ShloMosaic.ValueIdx Idealize.SL.Sem

section Blocks

variable (x0 : FVec Ideal S8x64x64 .f32) (x1 x2 x3 : FVec Ideal S1x64x64 .f32)

/-- The gradient of a block, read at an index: the eight parts added. -/
theorem block_grad (j : S64x64.Idx) : k0_pay10 (F := Ideal) x0 x1 x2 x3 j = grad fun d => x0 (ix3 d (j 0) (j 1)) :=
  chain _ (slice_apply (e := .f32) (n := 8) x0 0 (by decide) _ _ j) (slice_apply (e := .f32) (n := 8) x0 1 (by decide) _ _ j) (slice_apply (e := .f32) (n := 8) x0 2 (by decide) _ _ j)
    (slice_apply (e := .f32) (n := 8) x0 3 (by decide) _ _ j) (slice_apply (e := .f32) (n := 8) x0 4 (by decide) _ _ j) (slice_apply (e := .f32) (n := 8) x0 5 (by decide) _ _ j)
    (slice_apply (e := .f32) (n := 8) x0 6 (by decide) _ _ j) (slice_apply (e := .f32) (n := 8) x0 7 (by decide) _ _ j)

/-- A block of the weight or of a moment, read at an index. -/
theorem block_arg (x : FVec Ideal S1x64x64 .f32) (j : S64x64.Idx) :
    shapeCast S64x64 (View.ld (Val := Elt Ideal) (e' := .f32) x r0_8) shapeCasts_S1x64x64_S64x64 j = x (ix3 0 (j 0) (j 1)) :=
  slice_apply (e := .f32) (n := 1) x 0 (by decide) _ _ j

/-- What a point stores in the gradient's block. -/
theorem out_grad (y : S1x64x64.Idx) : out0_4 (F := Ideal) x0 x1 x2 x3 y = grad fun d => x0 (ix3 d (y 1) (y 2)) := by
  unfold out0_4 k0_pay7
  rw [View.canon_unit_zero offsets3_zero]
  refine (unit_apply (φ := .f32) _ shapeCasts_S64x64_S1x64x64 y).trans ?_
  exact block_grad x0 x1 x2 x3 _

/-- What a point stores in the step's block. -/
theorem out_step (y : S1x64x64.Idx) : out0_5 (F := Ideal) x0 x1 x2 x3 y
    = step (grad fun d => x0 (ix3 d (y 1) (y 2))) (x1 (ix3 0 (y 1) (y 2))) (x2 (ix3 0 (y 1) (y 2))) (x3 (ix3 0 (y 1) (y 2))) := by
  unfold out0_5 k0_pay8
  rw [View.canon_unit_zero offsets3_zero]
  refine (unit_apply (φ := .f32) _ shapeCasts_S64x64_S1x64x64 y).trans ?_
  exact step_congr (block_grad x0 x1 x2 x3 _) (block_arg x1 _) (block_arg x2 _) (block_arg x3 _)

/-- What a point stores in the first moment's block. -/
theorem out_first (y : S1x64x64.Idx) : out0_6 (F := Ideal) x0 x1 x2 x3 y
    = first (grad fun d => x0 (ix3 d (y 1) (y 2))) (x2 (ix3 0 (y 1) (y 2))) := by
  unfold out0_6 k0_pay9
  rw [View.canon_unit_zero offsets3_zero]
  refine (unit_apply (φ := .f32) _ shapeCasts_S64x64_S1x64x64 y).trans ?_
  exact first_congr (block_grad x0 x1 x2 x3 _) (block_arg x2 _)

/-- What a point stores in the second moment's block. -/
theorem out_second (y : S1x64x64.Idx) : out0_7 (F := Ideal) x0 x1 x2 x3 y
    = second (grad fun d => x0 (ix3 d (y 1) (y 2))) (x3 (ix3 0 (y 1) (y 2))) := by
  unfold out0_7 k0_pay1
  rw [View.canon_unit_zero offsets3_zero]
  refine (unit_apply (φ := .f32) _ shapeCasts_S64x64_S1x64x64 y).trans ?_
  exact second_congr (block_grad x0 x1 x2 x3 _) (block_arg x3 _)

end Blocks

variable (m : (ℓ : Loc nD τ sig) → Buf (Elt Ideal) ℓ)

/-- The arguments: the parts of the gradient, the weight and its two moments. -/
abbrev parts (c : Dev nD) : FVec Ideal S8x64x64 .f32 := m ((c : Thread nD τ).loc main_arg0)
abbrev weight (c : Dev nD) : FVec Ideal S1x64x64 .f32 := m ((c : Thread nD τ).loc main_arg1)
abbrev mom1 (c : Dev nD) : FVec Ideal S1x64x64 .f32 := m ((c : Thread nD τ).loc main_arg2)
abbrev mom2 (c : Dev nD) : FVec Ideal S1x64x64 .f32 := m ((c : Thread nD τ).loc main_arg3)

/-- The gradient at an entry of the whole array. -/
abbrev gradAt (p : FVec Ideal S8x64x64 .f32) (i : S1x64x64.Idx) : EReal := grad fun d => p (ix3 d (i 1) (i 2))

/-- The blocks a point reads and writes, decided over the grid: the same ones of every array. -/
theorem index_facts : ∀ t : Fin cfg0.N,
    (win0_0.index t 0 = 0 ∧ win0_0.index t 1 = t.val / 1 ∧ win0_0.index t 2 = t.val % 1)
    ∧ (win0_1.index t 0 = 0 ∧ win0_1.index t 1 = t.val / 1 ∧ win0_1.index t 2 = t.val % 1)
    ∧ (win0_2.index t 0 = 0 ∧ win0_2.index t 1 = t.val / 1 ∧ win0_2.index t 2 = t.val % 1)
    ∧ (win0_3.index t 0 = 0 ∧ win0_3.index t 1 = t.val / 1 ∧ win0_3.index t 2 = t.val % 1)
    ∧ (win0_4.index t 0 = 0 ∧ win0_4.index t 1 = t.val / 1 ∧ win0_4.index t 2 = t.val % 1)
    ∧ (win0_5.index t 0 = 0 ∧ win0_5.index t 1 = t.val / 1 ∧ win0_5.index t 2 = t.val % 1)
    ∧ (win0_6.index t 0 = 0 ∧ win0_6.index t 1 = t.val / 1 ∧ win0_6.index t 2 = t.val % 1)
    ∧ (win0_7.index t 0 = 0 ∧ win0_7.index t 1 = t.val / 1 ∧ win0_7.index t 2 = t.val % 1) :=
  (by decide +kernel : ∀ t : Fin grid0.N, _)

/-- Index `i` of the whole array is index `y` of point `t`'s block. -/
abbrev At (t : Fin cfg0.N) (y : S1x64x64.Idx) (i : S1x64x64.Idx) : Prop :=
  (i 1).val = 64 * (t.val / 1) + (y 1).val ∧ (i 2).val = 64 * (t.val % 1) + (y 2).val

/-- The gradient of a point's block is the whole array's at the index's place. -/
theorem at_grad (c : Dev nD) {t : Fin cfg0.N} {y : S1x64x64.Idx} {i : S1x64x64.Idx} (h : At t y i) :
    (grad fun d => (iblk m c 0 t : FVec Ideal S8x64x64 .f32) (ix3 d (y 1) (y 2))) = gradAt (parts m c) i := grad_congr fun d => by
  obtain ⟨⟨e0, e1, e2⟩, -⟩ := index_facts t
  obtain ⟨h1, h2⟩ := h
  refine congrArg (parts m c) (index3_eq ?_ ?_ ?_)
  · show win0_0.index t 0 * 8 + 1 * d.val = d.val; omega
  · show win0_0.index t 1 * 64 + 1 * (y 1).val = (i 1).val; omega
  · show win0_0.index t 2 * 64 + 1 * (y 2).val = (i 2).val; omega

/-- The weight of a point's block is the whole array's at the index's place. -/
theorem at_weight (c : Dev nD) {t : Fin cfg0.N} {y : S1x64x64.Idx} {i : S1x64x64.Idx} (h : At t y i) :
    (iblk m c 1 t : FVec Ideal S1x64x64 .f32) (ix3 0 (y 1) (y 2)) = weight m c i := by
  obtain ⟨-, ⟨e0, e1, e2⟩, -⟩ := index_facts t
  obtain ⟨h1, h2⟩ := h
  have h0 : (i 0).val < 1 := (i 0).isLt
  refine congrArg (weight m c) (index3_eq ?_ ?_ ?_)
  · show win0_1.index t 0 * 1 + 1 * 0 = (i 0).val; omega
  · show win0_1.index t 1 * 64 + 1 * (y 1).val = (i 1).val; omega
  · show win0_1.index t 2 * 64 + 1 * (y 2).val = (i 2).val; omega

/-- The first moment of a point's block is the whole array's at the index's place. -/
theorem at_mom1 (c : Dev nD) {t : Fin cfg0.N} {y : S1x64x64.Idx} {i : S1x64x64.Idx} (h : At t y i) :
    (iblk m c 2 t : FVec Ideal S1x64x64 .f32) (ix3 0 (y 1) (y 2)) = mom1 m c i := by
  obtain ⟨-, -, ⟨e0, e1, e2⟩, -⟩ := index_facts t
  obtain ⟨h1, h2⟩ := h
  have h0 : (i 0).val < 1 := (i 0).isLt
  refine congrArg (mom1 m c) (index3_eq ?_ ?_ ?_)
  · show win0_2.index t 0 * 1 + 1 * 0 = (i 0).val; omega
  · show win0_2.index t 1 * 64 + 1 * (y 1).val = (i 1).val; omega
  · show win0_2.index t 2 * 64 + 1 * (y 2).val = (i 2).val; omega

/-- The second moment of a point's block is the whole array's at the index's place. -/
theorem at_mom2 (c : Dev nD) {t : Fin cfg0.N} {y : S1x64x64.Idx} {i : S1x64x64.Idx} (h : At t y i) :
    (iblk m c 3 t : FVec Ideal S1x64x64 .f32) (ix3 0 (y 1) (y 2)) = mom2 m c i := by
  obtain ⟨-, -, -, ⟨e0, e1, e2⟩, -⟩ := index_facts t
  obtain ⟨h1, h2⟩ := h
  have h0 : (i 0).val < 1 := (i 0).isLt
  refine congrArg (mom2 m c) (index3_eq ?_ ?_ ?_)
  · show win0_3.index t 0 * 1 + 1 * 0 = (i 0).val; omega
  · show win0_3.index t 1 * 64 + 1 * (y 1).val = (i 1).val; omega
  · show win0_3.index t 2 * 64 + 1 * (y 2).val = (i 2).val; omega

/-- The point whose block holds an index of the whole array. -/
theorem point_lt (i : S1x64x64.Idx) : 1 * ((i 1).val / 64) + (i 2).val / 64 < cfg0.N := by
  have h1 : (i 1).val < 64 := (i 1).isLt
  have h2 : (i 2).val < 64 := (i 2).isLt
  have hN : cfg0.N = 1 := N_0
  omega

/-- An index lies in the block of its point, when the block's place is the point's. -/
theorem in_block (i : S1x64x64.Idx) (k : Fin 3 → ℕ) (h0 : k 0 = 0)
    (h1 : k 1 = (1 * ((i 1).val / 64) + (i 2).val / 64) / 1) (h2 : k 2 = (1 * ((i 1).val / 64) + (i 2).val / 64) % 1) :
    ∀ a : Fin 3, k a * (![1, 64, 64] : Fin 3 → ℕ) a ≤ (i a).val
      ∧ (i a).val < k a * (![1, 64, 64] : Fin 3 → ℕ) a + (![1, 64, 64] : Fin 3 → ℕ) a := by
  have hi0 : (i 0).val < 1 := (i 0).isLt
  have hi1 : (i 1).val < 64 := (i 1).isLt
  have hi2 : (i 2).val < 64 := (i 2).isLt
  intro a
  match a with
  | ⟨0, _⟩ => show k 0 * 1 ≤ (i 0).val ∧ (i 0).val < k 0 * 1 + 1; omega
  | ⟨1, _⟩ => show k 1 * 64 ≤ (i 1).val ∧ (i 1).val < k 1 * 64 + 64; omega
  | ⟨2, _⟩ => show k 2 * 64 ≤ (i 2).val ∧ (i 2).val < k 2 * 64 + 64; omega

/-- The gradient the call leaves, entry by entry. -/
theorem result_grad (c : Dev nD) : (dats m 0 c).arrAt 4 cfg0.N = fun i : S1x64x64.Idx => gradAt (parts m c) i :=
  (dats m 0 c).arrAt_eq_of_cover 4 _ (fun t _ => by
    obtain ⟨-, -, -, -, ⟨e0, e1, e2⟩, -⟩ := index_facts t
    rw [flushed4]
    funext y
    have h : At t y (((cfg0.win 4).blk t).view.emb y) :=
      ⟨by show win0_4.index t 1 * 64 + 1 * (y 1).val = _; omega, by show win0_4.index t 2 * 64 + 1 * (y 2).val = _; omega⟩
    exact (out_grad _ _ _ _ y).trans (at_grad m c h)) fun i => by
    obtain ⟨-, -, -, -, ⟨e0, e1, e2⟩, -⟩ := index_facts ⟨_, point_lt i⟩
    refine ⟨⟨_, point_lt i⟩, flush0_4 _, ?_⟩
    show i ∈ ((View.whole main_v0_0).slice (win0_4.rect ⟨_, point_lt i⟩)).set
    rw [View.set_slice_whole, Rect.mem_set_unit]
    exact in_block i _ e0 e1 e2

/-- The step the call leaves, entry by entry. -/
theorem result_step (c : Dev nD) : (dats m 0 c).arrAt 5 cfg0.N = fun i : S1x64x64.Idx => step (gradAt (parts m c) i) (weight m c i) (mom1 m c i) (mom2 m c i) :=
  (dats m 0 c).arrAt_eq_of_cover 5 _ (fun t _ => by
    obtain ⟨-, -, -, -, -, ⟨e0, e1, e2⟩, -⟩ := index_facts t
    rw [flushed5]
    funext y
    have h : At t y (((cfg0.win 5).blk t).view.emb y) :=
      ⟨by show win0_5.index t 1 * 64 + 1 * (y 1).val = _; omega, by show win0_5.index t 2 * 64 + 1 * (y 2).val = _; omega⟩
    exact (out_step _ _ _ _ y).trans (step_congr (at_grad m c h) (at_weight m c h) (at_mom1 m c h) (at_mom2 m c h))) fun i => by
    obtain ⟨-, -, -, -, -, ⟨e0, e1, e2⟩, -⟩ := index_facts ⟨_, point_lt i⟩
    refine ⟨⟨_, point_lt i⟩, flush0_5 _, ?_⟩
    show i ∈ ((View.whole main_v0_1).slice (win0_5.rect ⟨_, point_lt i⟩)).set
    rw [View.set_slice_whole, Rect.mem_set_unit]
    exact in_block i _ e0 e1 e2

/-- The first moment the call leaves, entry by entry. -/
theorem result_first (c : Dev nD) : (dats m 0 c).arrAt 6 cfg0.N = fun i : S1x64x64.Idx => first (gradAt (parts m c) i) (mom1 m c i) :=
  (dats m 0 c).arrAt_eq_of_cover 6 _ (fun t _ => by
    obtain ⟨-, -, -, -, -, -, ⟨e0, e1, e2⟩, -⟩ := index_facts t
    rw [flushed6]
    funext y
    have h : At t y (((cfg0.win 6).blk t).view.emb y) :=
      ⟨by show win0_6.index t 1 * 64 + 1 * (y 1).val = _; omega, by show win0_6.index t 2 * 64 + 1 * (y 2).val = _; omega⟩
    exact (out_first _ _ _ _ y).trans (first_congr (at_grad m c h) (at_mom1 m c h))) fun i => by
    obtain ⟨-, -, -, -, -, -, ⟨e0, e1, e2⟩, -⟩ := index_facts ⟨_, point_lt i⟩
    refine ⟨⟨_, point_lt i⟩, flush0_6 _, ?_⟩
    show i ∈ ((View.whole main_v0_2).slice (win0_6.rect ⟨_, point_lt i⟩)).set
    rw [View.set_slice_whole, Rect.mem_set_unit]
    exact in_block i _ e0 e1 e2

/-- The second moment the call leaves, entry by entry. -/
theorem result_second (c : Dev nD) : (dats m 0 c).arrAt 7 cfg0.N = fun i : S1x64x64.Idx => second (gradAt (parts m c) i) (mom2 m c i) :=
  (dats m 0 c).arrAt_eq_of_cover 7 _ (fun t _ => by
    obtain ⟨-, -, -, -, -, -, -, e0, e1, e2⟩ := index_facts t
    rw [flushed7]
    funext y
    have h : At t y (((cfg0.win 7).blk t).view.emb y) :=
      ⟨by show win0_7.index t 1 * 64 + 1 * (y 1).val = _; omega, by show win0_7.index t 2 * 64 + 1 * (y 2).val = _; omega⟩
    exact (out_second _ _ _ _ y).trans (second_congr (at_grad m c h) (at_mom2 m c h))) fun i => by
    obtain ⟨-, -, -, -, -, -, -, e0, e1, e2⟩ := index_facts ⟨_, point_lt i⟩
    refine ⟨⟨_, point_lt i⟩, flush0_7 _, ?_⟩
    show i ∈ ((View.whole main_v0_3).slice (win0_7.rect ⟨_, point_lt i⟩)).set
    rw [View.set_slice_whole, Rect.mem_set_unit]
    exact in_block i _ e0 e1 e2

section Reference

open Cert.AdamW2RefIdeal

variable (p : FVec Ideal S8x64x64 .f32) (w u v : FVec Ideal S1x64x64 .f32)

/-- The reference's gradient: the sum of the parts. -/
theorem ref_grad (i : S1x64x64.Idx) : Read.val_main_v1 (F := Ideal) p i = gradAt p i := by
  refine (unit_apply (φ := .f32) (Read.val_main_v0 (F := Ideal) p) _ i).trans ((Read.val_main_v0_apply p _).trans ?_)
  refine Eq.trans ?_ (grad_eq_sum _)
  refine congrArg₂ (· + ·) rfl (Finset.sum_congr rfl fun k _ => congrArg p ?_)
  exact index3_eq rfl rfl rfl

/-- The reference's first moment. -/
theorem ref_first (i : S1x64x64.Idx) : Read.val_main_v6 (F := Ideal) p u i = first (gradAt p i) (u i) := by
  simp -implicitDefEqProofs only [Read.val_main_v2_apply, Read.val_main_v3_apply, Read.val_main_v4_apply, Read.val_main_v5_apply, Read.val_main_v6_apply, Read.val_main_cst_0_apply, Read.val_main_cst_1_apply, Ideal.addf_def, Ideal.mulf_def]
  rw [ref_grad]
  rfl
/-- The reference's second moment. -/
theorem ref_second (i : S1x64x64.Idx) : Read.val_main_v12 (F := Ideal) p v i = second (gradAt p i) (v i) := by
  simp -implicitDefEqProofs only [Read.val_main_v7_apply, Read.val_main_v8_apply, Read.val_main_v9_apply, Read.val_main_v10_apply, Read.val_main_v11_apply, Read.val_main_v12_apply, Read.val_main_cst_2_apply, Read.val_main_cst_3_apply, Ideal.addf_def, Ideal.mulf_def]
  rw [ref_grad]
  rfl
/-- The reference's step. -/
theorem ref_step (i : S1x64x64.Idx) : Read.val_main_v25 (F := Ideal) p w u v i = step (gradAt p i) (w i) (u i) (v i) := by
  simp -implicitDefEqProofs only [Read.val_main_v13_apply, Read.val_main_v14_apply, Read.val_main_v15_apply, Read.val_main_v16_apply, Read.val_main_v17_apply, Read.val_main_v18_apply, Read.val_main_v19_apply, Read.val_main_v20_apply, Read.val_main_v21_apply, Read.val_main_v22_apply, Read.val_main_v23_apply, Read.val_main_v24_apply, Read.val_main_v25_apply, Read.val_main_cst_4_apply, Read.val_main_cst_5_apply, Read.val_main_cst_6_apply, Read.val_main_cst_7_apply, Read.val_main_cst_8_apply, Ideal.addf_def, Ideal.mulf_def, Ideal.hostDivf_def, Ideal.hostUnary_sqrt_def]
  rw [ref_first, ref_second]
  rfl

end Reference

/-- The reference program runs to completion with every semaphore at rest and its arguments as they were. -/
theorem frame_reference [hF : Cert.AdamW2RefIdeal.Facts] : Cert.quiescent_AdamW2RefIdeal :=
  fun m ρ _ => (θ_run Cert.AdamW2RefIdeal.defs _ _).mono
    (fun r h => ⟨fun c => (h c).2.2.2.2, sem_eq_zero_of_no_sems rfl r.2⟩) (Cert.AdamW2RefIdeal.Value.run (F := Ideal) m ρ)

/-- From the same arguments the kernel and the reference leave the same gradient, step and moments. -/
theorem algebraic [hK : Cert.AdamW2Ideal.Facts] [hR : Cert.AdamW2RefIdeal.Facts] : Cert.algebraic_AdamW2Ideal_AdamW2RefIdeal :=
  fun m ρ m' ρ' _ hm => ⟨fun c => fun i => gradAt (parts m c) i,
    fun c => fun i => step (gradAt (parts m c) i) (weight m c i) (mom1 m c i) (mom2 m c i),
    fun c => fun i => first (gradAt (parts m c) i) (mom1 m c i), fun c => fun i => second (gradAt (parts m c) i) (mom2 m c i),
    (θ_run Cert.AdamW2Ideal.defs _ _).mono (fun r h c => ⟨(h c).1.trans (result_grad m c), (h c).2.1.trans (result_step m c),
      (h c).2.2.1.trans (result_first m c), (h c).2.2.2.1.trans (result_second m c), (h c).2.2.2.2⟩)
      (Cert.AdamW2Ideal.Value.run_blocks (F := Ideal) m ρ),
    (θ_run Cert.AdamW2RefIdeal.defs _ _).mono (fun r h c => ⟨
      (h c).1.trans (by rw [(hm c).1]; exact funext fun i => ref_grad _ i),
      (h c).2.1.trans (by rw [(hm c).1, (hm c).2.1, (hm c).2.2.1, (hm c).2.2.2]; exact funext fun i => ref_step _ _ _ _ i),
      (h c).2.2.1.trans (by rw [(hm c).1, (hm c).2.2.1]; exact funext fun i => ref_first _ _ i),
      (h c).2.2.2.1.trans (by rw [(hm c).1, (hm c).2.2.2]; exact funext fun i => ref_second _ _ i),
      (h c).2.2.2.2⟩)
      (Cert.AdamW2RefIdeal.Value.run (F := Ideal) m' ρ')⟩

end Cert.AdamW2Ideal.Adam

end
-- ==== Proof.AdamG2Value.lean ====
/-
  The second gate projection: the AdamW call's four results, computed block by block, are the gradient summed over its
  parts, the step and the two moments that the reference computes.
-/
module

public import proofs.«01_k».proof.Proof.Adam
public import proofs.«01_k».proof.Defs
public import Idealize.ShloMosaic.Lib.Quiescent
public import proofs.«01_k».proof.Proof.Gen.AdamG2Ideal.Value
public import proofs.«01_k».proof.Proof.Gen.AdamG2RefIdeal.Run
public import proofs.«01_k».proof.Proof.Gen.AdamG2RefIdeal.Read

@[expose] public section

noncomputable section

namespace Cert.AdamG2Ideal.Adam

open Cert.AdamG2Ideal Cert.AdamG2Ideal.Gen Cert.AdamG2Ideal.Value Cert.Adam
open Idealize.ShloMosaic Idealize.ShloMosaic.TcCoe Idealize.ShloMosaic.ValueIdx Idealize.SL.Sem

section Blocks

variable (x0 : FVec Ideal S8x128x64 .f32) (x1 x2 x3 : FVec Ideal S1x128x64 .f32)

/-- The gradient of a block, read at an index: the eight parts added. -/
theorem block_grad (j : S128x64.Idx) : k0_pay10 (F := Ideal) x0 x1 x2 x3 j = grad fun d => x0 (ix3 d (j 0) (j 1)) :=
  chain _ (slice_apply (e := .f32) (n := 8) x0 0 (by decide) _ _ j) (slice_apply (e := .f32) (n := 8) x0 1 (by decide) _ _ j) (slice_apply (e := .f32) (n := 8) x0 2 (by decide) _ _ j)
    (slice_apply (e := .f32) (n := 8) x0 3 (by decide) _ _ j) (slice_apply (e := .f32) (n := 8) x0 4 (by decide) _ _ j) (slice_apply (e := .f32) (n := 8) x0 5 (by decide) _ _ j)
    (slice_apply (e := .f32) (n := 8) x0 6 (by decide) _ _ j) (slice_apply (e := .f32) (n := 8) x0 7 (by decide) _ _ j)

/-- A block of the weight or of a moment, read at an index. -/
theorem block_arg (x : FVec Ideal S1x128x64 .f32) (j : S128x64.Idx) :
    shapeCast S128x64 (View.ld (Val := Elt Ideal) (e' := .f32) x r0_8) shapeCasts_S1x128x64_S128x64 j = x (ix3 0 (j 0) (j 1)) :=
  slice_apply (e := .f32) (n := 1) x 0 (by decide) _ _ j

/-- What a point stores in the gradient's block. -/
theorem out_grad (y : S1x128x64.Idx) : out0_4 (F := Ideal) x0 x1 x2 x3 y = grad fun d => x0 (ix3 d (y 1) (y 2)) := by
  unfold out0_4 k0_pay7
  rw [View.canon_unit_zero offsets3_zero]
  refine (unit_apply (φ := .f32) _ shapeCasts_S128x64_S1x128x64 y).trans ?_
  exact block_grad x0 x1 x2 x3 _

/-- What a point stores in the step's block. -/
theorem out_step (y : S1x128x64.Idx) : out0_5 (F := Ideal) x0 x1 x2 x3 y
    = step (grad fun d => x0 (ix3 d (y 1) (y 2))) (x1 (ix3 0 (y 1) (y 2))) (x2 (ix3 0 (y 1) (y 2))) (x3 (ix3 0 (y 1) (y 2))) := by
  unfold out0_5 k0_pay8
  rw [View.canon_unit_zero offsets3_zero]
  refine (unit_apply (φ := .f32) _ shapeCasts_S128x64_S1x128x64 y).trans ?_
  exact step_congr (block_grad x0 x1 x2 x3 _) (block_arg x1 _) (block_arg x2 _) (block_arg x3 _)

/-- What a point stores in the first moment's block. -/
theorem out_first (y : S1x128x64.Idx) : out0_6 (F := Ideal) x0 x1 x2 x3 y
    = first (grad fun d => x0 (ix3 d (y 1) (y 2))) (x2 (ix3 0 (y 1) (y 2))) := by
  unfold out0_6 k0_pay9
  rw [View.canon_unit_zero offsets3_zero]
  refine (unit_apply (φ := .f32) _ shapeCasts_S128x64_S1x128x64 y).trans ?_
  exact first_congr (block_grad x0 x1 x2 x3 _) (block_arg x2 _)

/-- What a point stores in the second moment's block. -/
theorem out_second (y : S1x128x64.Idx) : out0_7 (F := Ideal) x0 x1 x2 x3 y
    = second (grad fun d => x0 (ix3 d (y 1) (y 2))) (x3 (ix3 0 (y 1) (y 2))) := by
  unfold out0_7 k0_pay1
  rw [View.canon_unit_zero offsets3_zero]
  refine (unit_apply (φ := .f32) _ shapeCasts_S128x64_S1x128x64 y).trans ?_
  exact second_congr (block_grad x0 x1 x2 x3 _) (block_arg x3 _)

end Blocks

variable (m : (ℓ : Loc nD τ sig) → Buf (Elt Ideal) ℓ)

/-- The arguments: the parts of the gradient, the weight and its two moments. -/
abbrev parts (c : Dev nD) : FVec Ideal S8x128x64 .f32 := m ((c : Thread nD τ).loc main_arg0)
abbrev weight (c : Dev nD) : FVec Ideal S1x128x64 .f32 := m ((c : Thread nD τ).loc main_arg1)
abbrev mom1 (c : Dev nD) : FVec Ideal S1x128x64 .f32 := m ((c : Thread nD τ).loc main_arg2)
abbrev mom2 (c : Dev nD) : FVec Ideal S1x128x64 .f32 := m ((c : Thread nD τ).loc main_arg3)

/-- The gradient at an entry of the whole array. -/
abbrev gradAt (p : FVec Ideal S8x128x64 .f32) (i : S1x128x64.Idx) : EReal := grad fun d => p (ix3 d (i 1) (i 2))

/-- The blocks a point reads and writes, decided over the grid: the same ones of every array. -/
theorem index_facts : ∀ t : Fin cfg0.N,
    (win0_0.index t 0 = 0 ∧ win0_0.index t 1 = t.val / 1 ∧ win0_0.index t 2 = t.val % 1)
    ∧ (win0_1.index t 0 = 0 ∧ win0_1.index t 1 = t.val / 1 ∧ win0_1.index t 2 = t.val % 1)
    ∧ (win0_2.index t 0 = 0 ∧ win0_2.index t 1 = t.val / 1 ∧ win0_2.index t 2 = t.val % 1)
    ∧ (win0_3.index t 0 = 0 ∧ win0_3.index t 1 = t.val / 1 ∧ win0_3.index t 2 = t.val % 1)
    ∧ (win0_4.index t 0 = 0 ∧ win0_4.index t 1 = t.val / 1 ∧ win0_4.index t 2 = t.val % 1)
    ∧ (win0_5.index t 0 = 0 ∧ win0_5.index t 1 = t.val / 1 ∧ win0_5.index t 2 = t.val % 1)
    ∧ (win0_6.index t 0 = 0 ∧ win0_6.index t 1 = t.val / 1 ∧ win0_6.index t 2 = t.val % 1)
    ∧ (win0_7.index t 0 = 0 ∧ win0_7.index t 1 = t.val / 1 ∧ win0_7.index t 2 = t.val % 1) :=
  (by decide +kernel : ∀ t : Fin grid0.N, _)

/-- Index `i` of the whole array is index `y` of point `t`'s block. -/
abbrev At (t : Fin cfg0.N) (y : S1x128x64.Idx) (i : S1x128x64.Idx) : Prop :=
  (i 1).val = 128 * (t.val / 1) + (y 1).val ∧ (i 2).val = 64 * (t.val % 1) + (y 2).val

/-- The gradient of a point's block is the whole array's at the index's place. -/
theorem at_grad (c : Dev nD) {t : Fin cfg0.N} {y : S1x128x64.Idx} {i : S1x128x64.Idx} (h : At t y i) :
    (grad fun d => (iblk m c 0 t : FVec Ideal S8x128x64 .f32) (ix3 d (y 1) (y 2))) = gradAt (parts m c) i := grad_congr fun d => by
  obtain ⟨⟨e0, e1, e2⟩, -⟩ := index_facts t
  obtain ⟨h1, h2⟩ := h
  refine congrArg (parts m c) (index3_eq ?_ ?_ ?_)
  · show win0_0.index t 0 * 8 + 1 * d.val = d.val; omega
  · show win0_0.index t 1 * 128 + 1 * (y 1).val = (i 1).val; omega
  · show win0_0.index t 2 * 64 + 1 * (y 2).val = (i 2).val; omega

/-- The weight of a point's block is the whole array's at the index's place. -/
theorem at_weight (c : Dev nD) {t : Fin cfg0.N} {y : S1x128x64.Idx} {i : S1x128x64.Idx} (h : At t y i) :
    (iblk m c 1 t : FVec Ideal S1x128x64 .f32) (ix3 0 (y 1) (y 2)) = weight m c i := by
  obtain ⟨-, ⟨e0, e1, e2⟩, -⟩ := index_facts t
  obtain ⟨h1, h2⟩ := h
  have h0 : (i 0).val < 1 := (i 0).isLt
  refine congrArg (weight m c) (index3_eq ?_ ?_ ?_)
  · show win0_1.index t 0 * 1 + 1 * 0 = (i 0).val; omega
  · show win0_1.index t 1 * 128 + 1 * (y 1).val = (i 1).val; omega
  · show win0_1.index t 2 * 64 + 1 * (y 2).val = (i 2).val; omega

/-- The first moment of a point's block is the whole array's at the index's place. -/
theorem at_mom1 (c : Dev nD) {t : Fin cfg0.N} {y : S1x128x64.Idx} {i : S1x128x64.Idx} (h : At t y i) :
    (iblk m c 2 t : FVec Ideal S1x128x64 .f32) (ix3 0 (y 1) (y 2)) = mom1 m c i := by
  obtain ⟨-, -, ⟨e0, e1, e2⟩, -⟩ := index_facts t
  obtain ⟨h1, h2⟩ := h
  have h0 : (i 0).val < 1 := (i 0).isLt
  refine congrArg (mom1 m c) (index3_eq ?_ ?_ ?_)
  · show win0_2.index t 0 * 1 + 1 * 0 = (i 0).val; omega
  · show win0_2.index t 1 * 128 + 1 * (y 1).val = (i 1).val; omega
  · show win0_2.index t 2 * 64 + 1 * (y 2).val = (i 2).val; omega

/-- The second moment of a point's block is the whole array's at the index's place. -/
theorem at_mom2 (c : Dev nD) {t : Fin cfg0.N} {y : S1x128x64.Idx} {i : S1x128x64.Idx} (h : At t y i) :
    (iblk m c 3 t : FVec Ideal S1x128x64 .f32) (ix3 0 (y 1) (y 2)) = mom2 m c i := by
  obtain ⟨-, -, -, ⟨e0, e1, e2⟩, -⟩ := index_facts t
  obtain ⟨h1, h2⟩ := h
  have h0 : (i 0).val < 1 := (i 0).isLt
  refine congrArg (mom2 m c) (index3_eq ?_ ?_ ?_)
  · show win0_3.index t 0 * 1 + 1 * 0 = (i 0).val; omega
  · show win0_3.index t 1 * 128 + 1 * (y 1).val = (i 1).val; omega
  · show win0_3.index t 2 * 64 + 1 * (y 2).val = (i 2).val; omega

/-- The point whose block holds an index of the whole array. -/
theorem point_lt (i : S1x128x64.Idx) : 1 * ((i 1).val / 128) + (i 2).val / 64 < cfg0.N := by
  have h1 : (i 1).val < 128 := (i 1).isLt
  have h2 : (i 2).val < 64 := (i 2).isLt
  have hN : cfg0.N = 1 := N_0
  omega

/-- An index lies in the block of its point, when the block's place is the point's. -/
theorem in_block (i : S1x128x64.Idx) (k : Fin 3 → ℕ) (h0 : k 0 = 0)
    (h1 : k 1 = (1 * ((i 1).val / 128) + (i 2).val / 64) / 1) (h2 : k 2 = (1 * ((i 1).val / 128) + (i 2).val / 64) % 1) :
    ∀ a : Fin 3, k a * (![1, 128, 64] : Fin 3 → ℕ) a ≤ (i a).val
      ∧ (i a).val < k a * (![1, 128, 64] : Fin 3 → ℕ) a + (![1, 128, 64] : Fin 3 → ℕ) a := by
  have hi0 : (i 0).val < 1 := (i 0).isLt
  have hi1 : (i 1).val < 128 := (i 1).isLt
  have hi2 : (i 2).val < 64 := (i 2).isLt
  intro a
  match a with
  | ⟨0, _⟩ => show k 0 * 1 ≤ (i 0).val ∧ (i 0).val < k 0 * 1 + 1; omega
  | ⟨1, _⟩ => show k 1 * 128 ≤ (i 1).val ∧ (i 1).val < k 1 * 128 + 128; omega
  | ⟨2, _⟩ => show k 2 * 64 ≤ (i 2).val ∧ (i 2).val < k 2 * 64 + 64; omega

/-- The gradient the call leaves, entry by entry. -/
theorem result_grad (c : Dev nD) : (dats m 0 c).arrAt 4 cfg0.N = fun i : S1x128x64.Idx => gradAt (parts m c) i :=
  (dats m 0 c).arrAt_eq_of_cover 4 _ (fun t _ => by
    obtain ⟨-, -, -, -, ⟨e0, e1, e2⟩, -⟩ := index_facts t
    rw [flushed4]
    funext y
    have h : At t y (((cfg0.win 4).blk t).view.emb y) :=
      ⟨by show win0_4.index t 1 * 128 + 1 * (y 1).val = _; omega, by show win0_4.index t 2 * 64 + 1 * (y 2).val = _; omega⟩
    exact (out_grad _ _ _ _ y).trans (at_grad m c h)) fun i => by
    obtain ⟨-, -, -, -, ⟨e0, e1, e2⟩, -⟩ := index_facts ⟨_, point_lt i⟩
    refine ⟨⟨_, point_lt i⟩, flush0_4 _, ?_⟩
    show i ∈ ((View.whole main_v0_0).slice (win0_4.rect ⟨_, point_lt i⟩)).set
    rw [View.set_slice_whole, Rect.mem_set_unit]
    exact in_block i _ e0 e1 e2

/-- The step the call leaves, entry by entry. -/
theorem result_step (c : Dev nD) : (dats m 0 c).arrAt 5 cfg0.N = fun i : S1x128x64.Idx => step (gradAt (parts m c) i) (weight m c i) (mom1 m c i) (mom2 m c i) :=
  (dats m 0 c).arrAt_eq_of_cover 5 _ (fun t _ => by
    obtain ⟨-, -, -, -, -, ⟨e0, e1, e2⟩, -⟩ := index_facts t
    rw [flushed5]
    funext y
    have h : At t y (((cfg0.win 5).blk t).view.emb y) :=
      ⟨by show win0_5.index t 1 * 128 + 1 * (y 1).val = _; omega, by show win0_5.index t 2 * 64 + 1 * (y 2).val = _; omega⟩
    exact (out_step _ _ _ _ y).trans (step_congr (at_grad m c h) (at_weight m c h) (at_mom1 m c h) (at_mom2 m c h))) fun i => by
    obtain ⟨-, -, -, -, -, ⟨e0, e1, e2⟩, -⟩ := index_facts ⟨_, point_lt i⟩
    refine ⟨⟨_, point_lt i⟩, flush0_5 _, ?_⟩
    show i ∈ ((View.whole main_v0_1).slice (win0_5.rect ⟨_, point_lt i⟩)).set
    rw [View.set_slice_whole, Rect.mem_set_unit]
    exact in_block i _ e0 e1 e2

/-- The first moment the call leaves, entry by entry. -/
theorem result_first (c : Dev nD) : (dats m 0 c).arrAt 6 cfg0.N = fun i : S1x128x64.Idx => first (gradAt (parts m c) i) (mom1 m c i) :=
  (dats m 0 c).arrAt_eq_of_cover 6 _ (fun t _ => by
    obtain ⟨-, -, -, -, -, -, ⟨e0, e1, e2⟩, -⟩ := index_facts t
    rw [flushed6]
    funext y
    have h : At t y (((cfg0.win 6).blk t).view.emb y) :=
      ⟨by show win0_6.index t 1 * 128 + 1 * (y 1).val = _; omega, by show win0_6.index t 2 * 64 + 1 * (y 2).val = _; omega⟩
    exact (out_first _ _ _ _ y).trans (first_congr (at_grad m c h) (at_mom1 m c h))) fun i => by
    obtain ⟨-, -, -, -, -, -, ⟨e0, e1, e2⟩, -⟩ := index_facts ⟨_, point_lt i⟩
    refine ⟨⟨_, point_lt i⟩, flush0_6 _, ?_⟩
    show i ∈ ((View.whole main_v0_2).slice (win0_6.rect ⟨_, point_lt i⟩)).set
    rw [View.set_slice_whole, Rect.mem_set_unit]
    exact in_block i _ e0 e1 e2

/-- The second moment the call leaves, entry by entry. -/
theorem result_second (c : Dev nD) : (dats m 0 c).arrAt 7 cfg0.N = fun i : S1x128x64.Idx => second (gradAt (parts m c) i) (mom2 m c i) :=
  (dats m 0 c).arrAt_eq_of_cover 7 _ (fun t _ => by
    obtain ⟨-, -, -, -, -, -, -, e0, e1, e2⟩ := index_facts t
    rw [flushed7]
    funext y
    have h : At t y (((cfg0.win 7).blk t).view.emb y) :=
      ⟨by show win0_7.index t 1 * 128 + 1 * (y 1).val = _; omega, by show win0_7.index t 2 * 64 + 1 * (y 2).val = _; omega⟩
    exact (out_second _ _ _ _ y).trans (second_congr (at_grad m c h) (at_mom2 m c h))) fun i => by
    obtain ⟨-, -, -, -, -, -, -, e0, e1, e2⟩ := index_facts ⟨_, point_lt i⟩
    refine ⟨⟨_, point_lt i⟩, flush0_7 _, ?_⟩
    show i ∈ ((View.whole main_v0_3).slice (win0_7.rect ⟨_, point_lt i⟩)).set
    rw [View.set_slice_whole, Rect.mem_set_unit]
    exact in_block i _ e0 e1 e2

section Reference

open Cert.AdamG2RefIdeal

variable (p : FVec Ideal S8x128x64 .f32) (w u v : FVec Ideal S1x128x64 .f32)

/-- The reference's gradient: the sum of the parts. -/
theorem ref_grad (i : S1x128x64.Idx) : Read.val_main_v1 (F := Ideal) p i = gradAt p i := by
  refine (unit_apply (φ := .f32) (Read.val_main_v0 (F := Ideal) p) _ i).trans ((Read.val_main_v0_apply p _).trans ?_)
  refine Eq.trans ?_ (grad_eq_sum _)
  refine congrArg₂ (· + ·) rfl (Finset.sum_congr rfl fun k _ => congrArg p ?_)
  exact index3_eq rfl rfl rfl

/-- The reference's first moment. -/
theorem ref_first (i : S1x128x64.Idx) : Read.val_main_v6 (F := Ideal) p u i = first (gradAt p i) (u i) := by
  simp -implicitDefEqProofs only [Read.val_main_v2_apply, Read.val_main_v3_apply, Read.val_main_v4_apply, Read.val_main_v5_apply, Read.val_main_v6_apply, Read.val_main_cst_0_apply, Read.val_main_cst_1_apply, Ideal.addf_def, Ideal.mulf_def]
  rw [ref_grad]
  rfl
/-- The reference's second moment. -/
theorem ref_second (i : S1x128x64.Idx) : Read.val_main_v12 (F := Ideal) p v i = second (gradAt p i) (v i) := by
  simp -implicitDefEqProofs only [Read.val_main_v7_apply, Read.val_main_v8_apply, Read.val_main_v9_apply, Read.val_main_v10_apply, Read.val_main_v11_apply, Read.val_main_v12_apply, Read.val_main_cst_2_apply, Read.val_main_cst_3_apply, Ideal.addf_def, Ideal.mulf_def]
  rw [ref_grad]
  rfl
/-- The reference's step. -/
theorem ref_step (i : S1x128x64.Idx) : Read.val_main_v25 (F := Ideal) p w u v i = step (gradAt p i) (w i) (u i) (v i) := by
  simp -implicitDefEqProofs only [Read.val_main_v13_apply, Read.val_main_v14_apply, Read.val_main_v15_apply, Read.val_main_v16_apply, Read.val_main_v17_apply, Read.val_main_v18_apply, Read.val_main_v19_apply, Read.val_main_v20_apply, Read.val_main_v21_apply, Read.val_main_v22_apply, Read.val_main_v23_apply, Read.val_main_v24_apply, Read.val_main_v25_apply, Read.val_main_cst_4_apply, Read.val_main_cst_5_apply, Read.val_main_cst_6_apply, Read.val_main_cst_7_apply, Read.val_main_cst_8_apply, Ideal.addf_def, Ideal.mulf_def, Ideal.hostDivf_def, Ideal.hostUnary_sqrt_def]
  rw [ref_first, ref_second]
  rfl

end Reference

/-- The reference program runs to completion with every semaphore at rest and its arguments as they were. -/
theorem frame_reference [hF : Cert.AdamG2RefIdeal.Facts] : Cert.quiescent_AdamG2RefIdeal :=
  fun m ρ _ => (θ_run Cert.AdamG2RefIdeal.defs _ _).mono
    (fun r h => ⟨fun c => (h c).2.2.2.2, sem_eq_zero_of_no_sems rfl r.2⟩) (Cert.AdamG2RefIdeal.Value.run (F := Ideal) m ρ)

/-- From the same arguments the kernel and the reference leave the same gradient, step and moments. -/
theorem algebraic [hK : Cert.AdamG2Ideal.Facts] [hR : Cert.AdamG2RefIdeal.Facts] : Cert.algebraic_AdamG2Ideal_AdamG2RefIdeal :=
  fun m ρ m' ρ' _ hm => ⟨fun c => fun i => gradAt (parts m c) i,
    fun c => fun i => step (gradAt (parts m c) i) (weight m c i) (mom1 m c i) (mom2 m c i),
    fun c => fun i => first (gradAt (parts m c) i) (mom1 m c i), fun c => fun i => second (gradAt (parts m c) i) (mom2 m c i),
    (θ_run Cert.AdamG2Ideal.defs _ _).mono (fun r h c => ⟨(h c).1.trans (result_grad m c), (h c).2.1.trans (result_step m c),
      (h c).2.2.1.trans (result_first m c), (h c).2.2.2.1.trans (result_second m c), (h c).2.2.2.2⟩)
      (Cert.AdamG2Ideal.Value.run_blocks (F := Ideal) m ρ),
    (θ_run Cert.AdamG2RefIdeal.defs _ _).mono (fun r h c => ⟨
      (h c).1.trans (by rw [(hm c).1]; exact funext fun i => ref_grad _ i),
      (h c).2.1.trans (by rw [(hm c).1, (hm c).2.1, (hm c).2.2.1, (hm c).2.2.2]; exact funext fun i => ref_step _ _ _ _ i),
      (h c).2.2.1.trans (by rw [(hm c).1, (hm c).2.2.1]; exact funext fun i => ref_first _ _ i),
      (h c).2.2.2.1.trans (by rw [(hm c).1, (hm c).2.2.2]; exact funext fun i => ref_second _ _ i),
      (h c).2.2.2.2⟩)
      (Cert.AdamG2RefIdeal.Value.run (F := Ideal) m' ρ')⟩

end Cert.AdamG2Ideal.Adam

end
-- ==== Proof.AdamOutValue.lean ====
/-
  The output projection: the AdamW call's four results, computed block by block, are the gradient summed over its
  parts, the step and the two moments that the reference computes.
-/
module

public import proofs.«01_k».proof.Proof.Adam
public import proofs.«01_k».proof.Defs
public import Idealize.ShloMosaic.Lib.Quiescent
public import proofs.«01_k».proof.Proof.Gen.AdamOutIdeal.Value
public import proofs.«01_k».proof.Proof.Gen.AdamOutRefIdeal.Run
public import proofs.«01_k».proof.Proof.Gen.AdamOutRefIdeal.Read

@[expose] public section

noncomputable section

namespace Cert.AdamOutIdeal.Adam

open Cert.AdamOutIdeal Cert.AdamOutIdeal.Gen Cert.AdamOutIdeal.Value Cert.Adam
open Idealize.ShloMosaic Idealize.ShloMosaic.TcCoe Idealize.ShloMosaic.ValueIdx Idealize.SL.Sem

section Blocks

variable (x0 : FVec Ideal S8x128x1024 .f32) (x1 x2 x3 : FVec Ideal S1x128x1024 .f32)

/-- The gradient of a block, read at an index: the eight parts added. -/
theorem block_grad (j : S128x1024.Idx) : k0_pay10 (F := Ideal) x0 x1 x2 x3 j = grad fun d => x0 (ix3 d (j 0) (j 1)) :=
  chain _ (slice_apply (e := .f32) (n := 8) x0 0 (by decide) _ _ j) (slice_apply (e := .f32) (n := 8) x0 1 (by decide) _ _ j) (slice_apply (e := .f32) (n := 8) x0 2 (by decide) _ _ j)
    (slice_apply (e := .f32) (n := 8) x0 3 (by decide) _ _ j) (slice_apply (e := .f32) (n := 8) x0 4 (by decide) _ _ j) (slice_apply (e := .f32) (n := 8) x0 5 (by decide) _ _ j)
    (slice_apply (e := .f32) (n := 8) x0 6 (by decide) _ _ j) (slice_apply (e := .f32) (n := 8) x0 7 (by decide) _ _ j)

/-- A block of the weight or of a moment, read at an index. -/
theorem block_arg (x : FVec Ideal S1x128x1024 .f32) (j : S128x1024.Idx) :
    shapeCast S128x1024 (View.ld (Val := Elt Ideal) (e' := .f32) x r0_8) shapeCasts_S1x128x1024_S128x1024 j = x (ix3 0 (j 0) (j 1)) :=
  slice_apply (e := .f32) (n := 1) x 0 (by decide) _ _ j

/-- What a point stores in the gradient's block. -/
theorem out_grad (y : S1x128x1024.Idx) : out0_4 (F := Ideal) x0 x1 x2 x3 y = grad fun d => x0 (ix3 d (y 1) (y 2)) := by
  unfold out0_4 k0_pay7
  rw [View.canon_unit_zero offsets3_zero]
  refine (unit_apply (φ := .f32) _ shapeCasts_S128x1024_S1x128x1024 y).trans ?_
  exact block_grad x0 x1 x2 x3 _

/-- What a point stores in the step's block. -/
theorem out_step (y : S1x128x1024.Idx) : out0_5 (F := Ideal) x0 x1 x2 x3 y
    = step (grad fun d => x0 (ix3 d (y 1) (y 2))) (x1 (ix3 0 (y 1) (y 2))) (x2 (ix3 0 (y 1) (y 2))) (x3 (ix3 0 (y 1) (y 2))) := by
  unfold out0_5 k0_pay8
  rw [View.canon_unit_zero offsets3_zero]
  refine (unit_apply (φ := .f32) _ shapeCasts_S128x1024_S1x128x1024 y).trans ?_
  exact step_congr (block_grad x0 x1 x2 x3 _) (block_arg x1 _) (block_arg x2 _) (block_arg x3 _)

/-- What a point stores in the first moment's block. -/
theorem out_first (y : S1x128x1024.Idx) : out0_6 (F := Ideal) x0 x1 x2 x3 y
    = first (grad fun d => x0 (ix3 d (y 1) (y 2))) (x2 (ix3 0 (y 1) (y 2))) := by
  unfold out0_6 k0_pay9
  rw [View.canon_unit_zero offsets3_zero]
  refine (unit_apply (φ := .f32) _ shapeCasts_S128x1024_S1x128x1024 y).trans ?_
  exact first_congr (block_grad x0 x1 x2 x3 _) (block_arg x2 _)

/-- What a point stores in the second moment's block. -/
theorem out_second (y : S1x128x1024.Idx) : out0_7 (F := Ideal) x0 x1 x2 x3 y
    = second (grad fun d => x0 (ix3 d (y 1) (y 2))) (x3 (ix3 0 (y 1) (y 2))) := by
  unfold out0_7 k0_pay1
  rw [View.canon_unit_zero offsets3_zero]
  refine (unit_apply (φ := .f32) _ shapeCasts_S128x1024_S1x128x1024 y).trans ?_
  exact second_congr (block_grad x0 x1 x2 x3 _) (block_arg x3 _)

end Blocks

variable (m : (ℓ : Loc nD τ sig) → Buf (Elt Ideal) ℓ)

/-- The arguments: the parts of the gradient, the weight and its two moments. -/
abbrev parts (c : Dev nD) : FVec Ideal S8x128x1024 .f32 := m ((c : Thread nD τ).loc main_arg0)
abbrev weight (c : Dev nD) : FVec Ideal S1x128x1024 .f32 := m ((c : Thread nD τ).loc main_arg1)
abbrev mom1 (c : Dev nD) : FVec Ideal S1x128x1024 .f32 := m ((c : Thread nD τ).loc main_arg2)
abbrev mom2 (c : Dev nD) : FVec Ideal S1x128x1024 .f32 := m ((c : Thread nD τ).loc main_arg3)

/-- The gradient at an entry of the whole array. -/
abbrev gradAt (p : FVec Ideal S8x128x1024 .f32) (i : S1x128x1024.Idx) : EReal := grad fun d => p (ix3 d (i 1) (i 2))

/-- The blocks a point reads and writes, decided over the grid: the same ones of every array. -/
theorem index_facts : ∀ t : Fin cfg0.N,
    (win0_0.index t 0 = 0 ∧ win0_0.index t 1 = t.val / 1 ∧ win0_0.index t 2 = t.val % 1)
    ∧ (win0_1.index t 0 = 0 ∧ win0_1.index t 1 = t.val / 1 ∧ win0_1.index t 2 = t.val % 1)
    ∧ (win0_2.index t 0 = 0 ∧ win0_2.index t 1 = t.val / 1 ∧ win0_2.index t 2 = t.val % 1)
    ∧ (win0_3.index t 0 = 0 ∧ win0_3.index t 1 = t.val / 1 ∧ win0_3.index t 2 = t.val % 1)
    ∧ (win0_4.index t 0 = 0 ∧ win0_4.index t 1 = t.val / 1 ∧ win0_4.index t 2 = t.val % 1)
    ∧ (win0_5.index t 0 = 0 ∧ win0_5.index t 1 = t.val / 1 ∧ win0_5.index t 2 = t.val % 1)
    ∧ (win0_6.index t 0 = 0 ∧ win0_6.index t 1 = t.val / 1 ∧ win0_6.index t 2 = t.val % 1)
    ∧ (win0_7.index t 0 = 0 ∧ win0_7.index t 1 = t.val / 1 ∧ win0_7.index t 2 = t.val % 1) :=
  (by decide +kernel : ∀ t : Fin grid0.N, _)

/-- Index `i` of the whole array is index `y` of point `t`'s block. -/
abbrev At (t : Fin cfg0.N) (y : S1x128x1024.Idx) (i : S1x128x1024.Idx) : Prop :=
  (i 1).val = 128 * (t.val / 1) + (y 1).val ∧ (i 2).val = 1024 * (t.val % 1) + (y 2).val

/-- The gradient of a point's block is the whole array's at the index's place. -/
theorem at_grad (c : Dev nD) {t : Fin cfg0.N} {y : S1x128x1024.Idx} {i : S1x128x1024.Idx} (h : At t y i) :
    (grad fun d => (iblk m c 0 t : FVec Ideal S8x128x1024 .f32) (ix3 d (y 1) (y 2))) = gradAt (parts m c) i := grad_congr fun d => by
  obtain ⟨⟨e0, e1, e2⟩, -⟩ := index_facts t
  obtain ⟨h1, h2⟩ := h
  refine congrArg (parts m c) (index3_eq ?_ ?_ ?_)
  · show win0_0.index t 0 * 8 + 1 * d.val = d.val; omega
  · show win0_0.index t 1 * 128 + 1 * (y 1).val = (i 1).val; omega
  · show win0_0.index t 2 * 1024 + 1 * (y 2).val = (i 2).val; omega

/-- The weight of a point's block is the whole array's at the index's place. -/
theorem at_weight (c : Dev nD) {t : Fin cfg0.N} {y : S1x128x1024.Idx} {i : S1x128x1024.Idx} (h : At t y i) :
    (iblk m c 1 t : FVec Ideal S1x128x1024 .f32) (ix3 0 (y 1) (y 2)) = weight m c i := by
  obtain ⟨-, ⟨e0, e1, e2⟩, -⟩ := index_facts t
  obtain ⟨h1, h2⟩ := h
  have h0 : (i 0).val < 1 := (i 0).isLt
  refine congrArg (weight m c) (index3_eq ?_ ?_ ?_)
  · show win0_1.index t 0 * 1 + 1 * 0 = (i 0).val; omega
  · show win0_1.index t 1 * 128 + 1 * (y 1).val = (i 1).val; omega
  · show win0_1.index t 2 * 1024 + 1 * (y 2).val = (i 2).val; omega

/-- The first moment of a point's block is the whole array's at the index's place. -/
theorem at_mom1 (c : Dev nD) {t : Fin cfg0.N} {y : S1x128x1024.Idx} {i : S1x128x1024.Idx} (h : At t y i) :
    (iblk m c 2 t : FVec Ideal S1x128x1024 .f32) (ix3 0 (y 1) (y 2)) = mom1 m c i := by
  obtain ⟨-, -, ⟨e0, e1, e2⟩, -⟩ := index_facts t
  obtain ⟨h1, h2⟩ := h
  have h0 : (i 0).val < 1 := (i 0).isLt
  refine congrArg (mom1 m c) (index3_eq ?_ ?_ ?_)
  · show win0_2.index t 0 * 1 + 1 * 0 = (i 0).val; omega
  · show win0_2.index t 1 * 128 + 1 * (y 1).val = (i 1).val; omega
  · show win0_2.index t 2 * 1024 + 1 * (y 2).val = (i 2).val; omega

/-- The second moment of a point's block is the whole array's at the index's place. -/
theorem at_mom2 (c : Dev nD) {t : Fin cfg0.N} {y : S1x128x1024.Idx} {i : S1x128x1024.Idx} (h : At t y i) :
    (iblk m c 3 t : FVec Ideal S1x128x1024 .f32) (ix3 0 (y 1) (y 2)) = mom2 m c i := by
  obtain ⟨-, -, -, ⟨e0, e1, e2⟩, -⟩ := index_facts t
  obtain ⟨h1, h2⟩ := h
  have h0 : (i 0).val < 1 := (i 0).isLt
  refine congrArg (mom2 m c) (index3_eq ?_ ?_ ?_)
  · show win0_3.index t 0 * 1 + 1 * 0 = (i 0).val; omega
  · show win0_3.index t 1 * 128 + 1 * (y 1).val = (i 1).val; omega
  · show win0_3.index t 2 * 1024 + 1 * (y 2).val = (i 2).val; omega

/-- The point whose block holds an index of the whole array. -/
theorem point_lt (i : S1x128x1024.Idx) : 1 * ((i 1).val / 128) + (i 2).val / 1024 < cfg0.N := by
  have h1 : (i 1).val < 128 := (i 1).isLt
  have h2 : (i 2).val < 1024 := (i 2).isLt
  have hN : cfg0.N = 1 := N_0
  omega

/-- An index lies in the block of its point, when the block's place is the point's. -/
theorem in_block (i : S1x128x1024.Idx) (k : Fin 3 → ℕ) (h0 : k 0 = 0)
    (h1 : k 1 = (1 * ((i 1).val / 128) + (i 2).val / 1024) / 1) (h2 : k 2 = (1 * ((i 1).val / 128) + (i 2).val / 1024) % 1) :
    ∀ a : Fin 3, k a * (![1, 128, 1024] : Fin 3 → ℕ) a ≤ (i a).val
      ∧ (i a).val < k a * (![1, 128, 1024] : Fin 3 → ℕ) a + (![1, 128, 1024] : Fin 3 → ℕ) a := by
  have hi0 : (i 0).val < 1 := (i 0).isLt
  have hi1 : (i 1).val < 128 := (i 1).isLt
  have hi2 : (i 2).val < 1024 := (i 2).isLt
  intro a
  match a with
  | ⟨0, _⟩ => show k 0 * 1 ≤ (i 0).val ∧ (i 0).val < k 0 * 1 + 1; omega
  | ⟨1, _⟩ => show k 1 * 128 ≤ (i 1).val ∧ (i 1).val < k 1 * 128 + 128; omega
  | ⟨2, _⟩ => show k 2 * 1024 ≤ (i 2).val ∧ (i 2).val < k 2 * 1024 + 1024; omega

/-- The gradient the call leaves, entry by entry. -/
theorem result_grad (c : Dev nD) : (dats m 0 c).arrAt 4 cfg0.N = fun i : S1x128x1024.Idx => gradAt (parts m c) i :=
  (dats m 0 c).arrAt_eq_of_cover 4 _ (fun t _ => by
    obtain ⟨-, -, -, -, ⟨e0, e1, e2⟩, -⟩ := index_facts t
    rw [flushed4]
    funext y
    have h : At t y (((cfg0.win 4).blk t).view.emb y) :=
      ⟨by show win0_4.index t 1 * 128 + 1 * (y 1).val = _; omega, by show win0_4.index t 2 * 1024 + 1 * (y 2).val = _; omega⟩
    exact (out_grad _ _ _ _ y).trans (at_grad m c h)) fun i => by
    obtain ⟨-, -, -, -, ⟨e0, e1, e2⟩, -⟩ := index_facts ⟨_, point_lt i⟩
    refine ⟨⟨_, point_lt i⟩, flush0_4 _, ?_⟩
    show i ∈ ((View.whole main_v0_0).slice (win0_4.rect ⟨_, point_lt i⟩)).set
    rw [View.set_slice_whole, Rect.mem_set_unit]
    exact in_block i _ e0 e1 e2

/-- The step the call leaves, entry by entry. -/
theorem result_step (c : Dev nD) : (dats m 0 c).arrAt 5 cfg0.N = fun i : S1x128x1024.Idx => step (gradAt (parts m c) i) (weight m c i) (mom1 m c i) (mom2 m c i) :=
  (dats m 0 c).arrAt_eq_of_cover 5 _ (fun t _ => by
    obtain ⟨-, -, -, -, -, ⟨e0, e1, e2⟩, -⟩ := index_facts t
    rw [flushed5]
    funext y
    have h : At t y (((cfg0.win 5).blk t).view.emb y) :=
      ⟨by show win0_5.index t 1 * 128 + 1 * (y 1).val = _; omega, by show win0_5.index t 2 * 1024 + 1 * (y 2).val = _; omega⟩
    exact (out_step _ _ _ _ y).trans (step_congr (at_grad m c h) (at_weight m c h) (at_mom1 m c h) (at_mom2 m c h))) fun i => by
    obtain ⟨-, -, -, -, -, ⟨e0, e1, e2⟩, -⟩ := index_facts ⟨_, point_lt i⟩
    refine ⟨⟨_, point_lt i⟩, flush0_5 _, ?_⟩
    show i ∈ ((View.whole main_v0_1).slice (win0_5.rect ⟨_, point_lt i⟩)).set
    rw [View.set_slice_whole, Rect.mem_set_unit]
    exact in_block i _ e0 e1 e2

/-- The first moment the call leaves, entry by entry. -/
theorem result_first (c : Dev nD) : (dats m 0 c).arrAt 6 cfg0.N = fun i : S1x128x1024.Idx => first (gradAt (parts m c) i) (mom1 m c i) :=
  (dats m 0 c).arrAt_eq_of_cover 6 _ (fun t _ => by
    obtain ⟨-, -, -, -, -, -, ⟨e0, e1, e2⟩, -⟩ := index_facts t
    rw [flushed6]
    funext y
    have h : At t y (((cfg0.win 6).blk t).view.emb y) :=
      ⟨by show win0_6.index t 1 * 128 + 1 * (y 1).val = _; omega, by show win0_6.index t 2 * 1024 + 1 * (y 2).val = _; omega⟩
    exact (out_first _ _ _ _ y).trans (first_congr (at_grad m c h) (at_mom1 m c h))) fun i => by
    obtain ⟨-, -, -, -, -, -, ⟨e0, e1, e2⟩, -⟩ := index_facts ⟨_, point_lt i⟩
    refine ⟨⟨_, point_lt i⟩, flush0_6 _, ?_⟩
    show i ∈ ((View.whole main_v0_2).slice (win0_6.rect ⟨_, point_lt i⟩)).set
    rw [View.set_slice_whole, Rect.mem_set_unit]
    exact in_block i _ e0 e1 e2

/-- The second moment the call leaves, entry by entry. -/
theorem result_second (c : Dev nD) : (dats m 0 c).arrAt 7 cfg0.N = fun i : S1x128x1024.Idx => second (gradAt (parts m c) i) (mom2 m c i) :=
  (dats m 0 c).arrAt_eq_of_cover 7 _ (fun t _ => by
    obtain ⟨-, -, -, -, -, -, -, e0, e1, e2⟩ := index_facts t
    rw [flushed7]
    funext y
    have h : At t y (((cfg0.win 7).blk t).view.emb y) :=
      ⟨by show win0_7.index t 1 * 128 + 1 * (y 1).val = _; omega, by show win0_7.index t 2 * 1024 + 1 * (y 2).val = _; omega⟩
    exact (out_second _ _ _ _ y).trans (second_congr (at_grad m c h) (at_mom2 m c h))) fun i => by
    obtain ⟨-, -, -, -, -, -, -, e0, e1, e2⟩ := index_facts ⟨_, point_lt i⟩
    refine ⟨⟨_, point_lt i⟩, flush0_7 _, ?_⟩
    show i ∈ ((View.whole main_v0_3).slice (win0_7.rect ⟨_, point_lt i⟩)).set
    rw [View.set_slice_whole, Rect.mem_set_unit]
    exact in_block i _ e0 e1 e2

section Reference

open Cert.AdamOutRefIdeal

variable (p : FVec Ideal S8x128x1024 .f32) (w u v : FVec Ideal S1x128x1024 .f32)

/-- The reference's gradient: the sum of the parts. -/
theorem ref_grad (i : S1x128x1024.Idx) : Read.val_main_v1 (F := Ideal) p i = gradAt p i := by
  refine (unit_apply (φ := .f32) (Read.val_main_v0 (F := Ideal) p) _ i).trans ((Read.val_main_v0_apply p _).trans ?_)
  refine Eq.trans ?_ (grad_eq_sum _)
  refine congrArg₂ (· + ·) rfl (Finset.sum_congr rfl fun k _ => congrArg p ?_)
  exact index3_eq rfl rfl rfl

/-- The reference's first moment. -/
theorem ref_first (i : S1x128x1024.Idx) : Read.val_main_v6 (F := Ideal) p u i = first (gradAt p i) (u i) := by
  simp -implicitDefEqProofs only [Read.val_main_v2_apply, Read.val_main_v3_apply, Read.val_main_v4_apply, Read.val_main_v5_apply, Read.val_main_v6_apply, Read.val_main_cst_0_apply, Read.val_main_cst_1_apply, Ideal.addf_def, Ideal.mulf_def]
  rw [ref_grad]
  rfl
/-- The reference's second moment. -/
theorem ref_second (i : S1x128x1024.Idx) : Read.val_main_v12 (F := Ideal) p v i = second (gradAt p i) (v i) := by
  simp -implicitDefEqProofs only [Read.val_main_v7_apply, Read.val_main_v8_apply, Read.val_main_v9_apply, Read.val_main_v10_apply, Read.val_main_v11_apply, Read.val_main_v12_apply, Read.val_main_cst_2_apply, Read.val_main_cst_3_apply, Ideal.addf_def, Ideal.mulf_def]
  rw [ref_grad]
  rfl
/-- The reference's step. -/
theorem ref_step (i : S1x128x1024.Idx) : Read.val_main_v25 (F := Ideal) p w u v i = step (gradAt p i) (w i) (u i) (v i) := by
  simp -implicitDefEqProofs only [Read.val_main_v13_apply, Read.val_main_v14_apply, Read.val_main_v15_apply, Read.val_main_v16_apply, Read.val_main_v17_apply, Read.val_main_v18_apply, Read.val_main_v19_apply, Read.val_main_v20_apply, Read.val_main_v21_apply, Read.val_main_v22_apply, Read.val_main_v23_apply, Read.val_main_v24_apply, Read.val_main_v25_apply, Read.val_main_cst_4_apply, Read.val_main_cst_5_apply, Read.val_main_cst_6_apply, Read.val_main_cst_7_apply, Read.val_main_cst_8_apply, Ideal.addf_def, Ideal.mulf_def, Ideal.hostDivf_def, Ideal.hostUnary_sqrt_def]
  rw [ref_first, ref_second]
  rfl

end Reference

/-- The reference program runs to completion with every semaphore at rest and its arguments as they were. -/
theorem frame_reference [hF : Cert.AdamOutRefIdeal.Facts] : Cert.quiescent_AdamOutRefIdeal :=
  fun m ρ _ => (θ_run Cert.AdamOutRefIdeal.defs _ _).mono
    (fun r h => ⟨fun c => (h c).2.2.2.2, sem_eq_zero_of_no_sems rfl r.2⟩) (Cert.AdamOutRefIdeal.Value.run (F := Ideal) m ρ)

/-- From the same arguments the kernel and the reference leave the same gradient, step and moments. -/
theorem algebraic [hK : Cert.AdamOutIdeal.Facts] [hR : Cert.AdamOutRefIdeal.Facts] : Cert.algebraic_AdamOutIdeal_AdamOutRefIdeal :=
  fun m ρ m' ρ' _ hm => ⟨fun c => fun i => gradAt (parts m c) i,
    fun c => fun i => step (gradAt (parts m c) i) (weight m c i) (mom1 m c i) (mom2 m c i),
    fun c => fun i => first (gradAt (parts m c) i) (mom1 m c i), fun c => fun i => second (gradAt (parts m c) i) (mom2 m c i),
    (θ_run Cert.AdamOutIdeal.defs _ _).mono (fun r h c => ⟨(h c).1.trans (result_grad m c), (h c).2.1.trans (result_step m c),
      (h c).2.2.1.trans (result_first m c), (h c).2.2.2.1.trans (result_second m c), (h c).2.2.2.2⟩)
      (Cert.AdamOutIdeal.Value.run_blocks (F := Ideal) m ρ),
    (θ_run Cert.AdamOutRefIdeal.defs _ _).mono (fun r h c => ⟨
      (h c).1.trans (by rw [(hm c).1]; exact funext fun i => ref_grad _ i),
      (h c).2.1.trans (by rw [(hm c).1, (hm c).2.1, (hm c).2.2.1, (hm c).2.2.2]; exact funext fun i => ref_step _ _ _ _ i),
      (h c).2.2.1.trans (by rw [(hm c).1, (hm c).2.2.1]; exact funext fun i => ref_first _ _ i),
      (h c).2.2.2.1.trans (by rw [(hm c).1, (hm c).2.2.2]; exact funext fun i => ref_second _ _ i),
      (h c).2.2.2.2⟩)
      (Cert.AdamOutRefIdeal.Value.run (F := Ideal) m' ρ')⟩

end Cert.AdamOutIdeal.Adam

end
-- ==== Proof.AdamUpValue.lean ====
/-
  The first feed-forward projection: the AdamW call's four results, computed block by block, are the gradient summed over its
  parts, the step and the two moments that the reference computes.
-/
module

public import proofs.«01_k».proof.Proof.Adam
public import proofs.«01_k».proof.Defs
public import Idealize.ShloMosaic.Lib.Quiescent
public import proofs.«01_k».proof.Proof.Gen.AdamUpIdeal.Value
public import proofs.«01_k».proof.Proof.Gen.AdamUpRefIdeal.Run
public import proofs.«01_k».proof.Proof.Gen.AdamUpRefIdeal.Read

@[expose] public section

noncomputable section

namespace Cert.AdamUpIdeal.Adam

open Cert.AdamUpIdeal Cert.AdamUpIdeal.Gen Cert.AdamUpIdeal.Value Cert.Adam
open Idealize.ShloMosaic Idealize.ShloMosaic.TcCoe Idealize.ShloMosaic.ValueIdx Idealize.SL.Sem

section Blocks

variable (x0 : FVec Ideal S8x128x688 .f32) (x1 x2 x3 : FVec Ideal S1x128x688 .f32)

/-- The gradient of a block, read at an index: the eight parts added. -/
theorem block_grad (j : S128x688.Idx) : k0_pay10 (F := Ideal) x0 x1 x2 x3 j = grad fun d => x0 (ix3 d (j 0) (j 1)) :=
  chain _ (slice_apply (e := .f32) (n := 8) x0 0 (by decide) _ _ j) (slice_apply (e := .f32) (n := 8) x0 1 (by decide) _ _ j) (slice_apply (e := .f32) (n := 8) x0 2 (by decide) _ _ j)
    (slice_apply (e := .f32) (n := 8) x0 3 (by decide) _ _ j) (slice_apply (e := .f32) (n := 8) x0 4 (by decide) _ _ j) (slice_apply (e := .f32) (n := 8) x0 5 (by decide) _ _ j)
    (slice_apply (e := .f32) (n := 8) x0 6 (by decide) _ _ j) (slice_apply (e := .f32) (n := 8) x0 7 (by decide) _ _ j)

/-- A block of the weight or of a moment, read at an index. -/
theorem block_arg (x : FVec Ideal S1x128x688 .f32) (j : S128x688.Idx) :
    shapeCast S128x688 (View.ld (Val := Elt Ideal) (e' := .f32) x r0_8) shapeCasts_S1x128x688_S128x688 j = x (ix3 0 (j 0) (j 1)) :=
  slice_apply (e := .f32) (n := 1) x 0 (by decide) _ _ j

/-- What a point stores in the gradient's block. -/
theorem out_grad (y : S1x128x688.Idx) : out0_4 (F := Ideal) x0 x1 x2 x3 y = grad fun d => x0 (ix3 d (y 1) (y 2)) := by
  unfold out0_4 k0_pay7
  rw [View.canon_unit_zero offsets3_zero]
  refine (unit_apply (φ := .f32) _ shapeCasts_S128x688_S1x128x688 y).trans ?_
  exact block_grad x0 x1 x2 x3 _

/-- What a point stores in the step's block. -/
theorem out_step (y : S1x128x688.Idx) : out0_5 (F := Ideal) x0 x1 x2 x3 y
    = step (grad fun d => x0 (ix3 d (y 1) (y 2))) (x1 (ix3 0 (y 1) (y 2))) (x2 (ix3 0 (y 1) (y 2))) (x3 (ix3 0 (y 1) (y 2))) := by
  unfold out0_5 k0_pay8
  rw [View.canon_unit_zero offsets3_zero]
  refine (unit_apply (φ := .f32) _ shapeCasts_S128x688_S1x128x688 y).trans ?_
  exact step_congr (block_grad x0 x1 x2 x3 _) (block_arg x1 _) (block_arg x2 _) (block_arg x3 _)

/-- What a point stores in the first moment's block. -/
theorem out_first (y : S1x128x688.Idx) : out0_6 (F := Ideal) x0 x1 x2 x3 y
    = first (grad fun d => x0 (ix3 d (y 1) (y 2))) (x2 (ix3 0 (y 1) (y 2))) := by
  unfold out0_6 k0_pay9
  rw [View.canon_unit_zero offsets3_zero]
  refine (unit_apply (φ := .f32) _ shapeCasts_S128x688_S1x128x688 y).trans ?_
  exact first_congr (block_grad x0 x1 x2 x3 _) (block_arg x2 _)

/-- What a point stores in the second moment's block. -/
theorem out_second (y : S1x128x688.Idx) : out0_7 (F := Ideal) x0 x1 x2 x3 y
    = second (grad fun d => x0 (ix3 d (y 1) (y 2))) (x3 (ix3 0 (y 1) (y 2))) := by
  unfold out0_7 k0_pay1
  rw [View.canon_unit_zero offsets3_zero]
  refine (unit_apply (φ := .f32) _ shapeCasts_S128x688_S1x128x688 y).trans ?_
  exact second_congr (block_grad x0 x1 x2 x3 _) (block_arg x3 _)

end Blocks

variable (m : (ℓ : Loc nD τ sig) → Buf (Elt Ideal) ℓ)

/-- The arguments: the parts of the gradient, the weight and its two moments. -/
abbrev parts (c : Dev nD) : FVec Ideal S8x1024x688 .f32 := m ((c : Thread nD τ).loc main_arg0)
abbrev weight (c : Dev nD) : FVec Ideal S1x1024x688 .f32 := m ((c : Thread nD τ).loc main_arg1)
abbrev mom1 (c : Dev nD) : FVec Ideal S1x1024x688 .f32 := m ((c : Thread nD τ).loc main_arg2)
abbrev mom2 (c : Dev nD) : FVec Ideal S1x1024x688 .f32 := m ((c : Thread nD τ).loc main_arg3)

/-- The gradient at an entry of the whole array. -/
abbrev gradAt (p : FVec Ideal S8x1024x688 .f32) (i : S1x1024x688.Idx) : EReal := grad fun d => p (ix3 d (i 1) (i 2))

/-- The blocks a point reads and writes, decided over the grid: the same ones of every array. -/
theorem index_facts : ∀ t : Fin cfg0.N,
    (win0_0.index t 0 = 0 ∧ win0_0.index t 1 = t.val / 1 ∧ win0_0.index t 2 = t.val % 1)
    ∧ (win0_1.index t 0 = 0 ∧ win0_1.index t 1 = t.val / 1 ∧ win0_1.index t 2 = t.val % 1)
    ∧ (win0_2.index t 0 = 0 ∧ win0_2.index t 1 = t.val / 1 ∧ win0_2.index t 2 = t.val % 1)
    ∧ (win0_3.index t 0 = 0 ∧ win0_3.index t 1 = t.val / 1 ∧ win0_3.index t 2 = t.val % 1)
    ∧ (win0_4.index t 0 = 0 ∧ win0_4.index t 1 = t.val / 1 ∧ win0_4.index t 2 = t.val % 1)
    ∧ (win0_5.index t 0 = 0 ∧ win0_5.index t 1 = t.val / 1 ∧ win0_5.index t 2 = t.val % 1)
    ∧ (win0_6.index t 0 = 0 ∧ win0_6.index t 1 = t.val / 1 ∧ win0_6.index t 2 = t.val % 1)
    ∧ (win0_7.index t 0 = 0 ∧ win0_7.index t 1 = t.val / 1 ∧ win0_7.index t 2 = t.val % 1) :=
  (by decide +kernel : ∀ t : Fin grid0.N, _)

/-- Index `i` of the whole array is index `y` of point `t`'s block. -/
abbrev At (t : Fin cfg0.N) (y : S1x128x688.Idx) (i : S1x1024x688.Idx) : Prop :=
  (i 1).val = 128 * (t.val / 1) + (y 1).val ∧ (i 2).val = 688 * (t.val % 1) + (y 2).val

/-- The gradient of a point's block is the whole array's at the index's place. -/
theorem at_grad (c : Dev nD) {t : Fin cfg0.N} {y : S1x128x688.Idx} {i : S1x1024x688.Idx} (h : At t y i) :
    (grad fun d => (iblk m c 0 t : FVec Ideal S8x128x688 .f32) (ix3 d (y 1) (y 2))) = gradAt (parts m c) i := grad_congr fun d => by
  obtain ⟨⟨e0, e1, e2⟩, -⟩ := index_facts t
  obtain ⟨h1, h2⟩ := h
  refine congrArg (parts m c) (index3_eq ?_ ?_ ?_)
  · show win0_0.index t 0 * 8 + 1 * d.val = d.val; omega
  · show win0_0.index t 1 * 128 + 1 * (y 1).val = (i 1).val; omega
  · show win0_0.index t 2 * 688 + 1 * (y 2).val = (i 2).val; omega

/-- The weight of a point's block is the whole array's at the index's place. -/
theorem at_weight (c : Dev nD) {t : Fin cfg0.N} {y : S1x128x688.Idx} {i : S1x1024x688.Idx} (h : At t y i) :
    (iblk m c 1 t : FVec Ideal S1x128x688 .f32) (ix3 0 (y 1) (y 2)) = weight m c i := by
  obtain ⟨-, ⟨e0, e1, e2⟩, -⟩ := index_facts t
  obtain ⟨h1, h2⟩ := h
  have h0 : (i 0).val < 1 := (i 0).isLt
  refine congrArg (weight m c) (index3_eq ?_ ?_ ?_)
  · show win0_1.index t 0 * 1 + 1 * 0 = (i 0).val; omega
  · show win0_1.index t 1 * 128 + 1 * (y 1).val = (i 1).val; omega
  · show win0_1.index t 2 * 688 + 1 * (y 2).val = (i 2).val; omega

/-- The first moment of a point's block is the whole array's at the index's place. -/
theorem at_mom1 (c : Dev nD) {t : Fin cfg0.N} {y : S1x128x688.Idx} {i : S1x1024x688.Idx} (h : At t y i) :
    (iblk m c 2 t : FVec Ideal S1x128x688 .f32) (ix3 0 (y 1) (y 2)) = mom1 m c i := by
  obtain ⟨-, -, ⟨e0, e1, e2⟩, -⟩ := index_facts t
  obtain ⟨h1, h2⟩ := h
  have h0 : (i 0).val < 1 := (i 0).isLt
  refine congrArg (mom1 m c) (index3_eq ?_ ?_ ?_)
  · show win0_2.index t 0 * 1 + 1 * 0 = (i 0).val; omega
  · show win0_2.index t 1 * 128 + 1 * (y 1).val = (i 1).val; omega
  · show win0_2.index t 2 * 688 + 1 * (y 2).val = (i 2).val; omega

/-- The second moment of a point's block is the whole array's at the index's place. -/
theorem at_mom2 (c : Dev nD) {t : Fin cfg0.N} {y : S1x128x688.Idx} {i : S1x1024x688.Idx} (h : At t y i) :
    (iblk m c 3 t : FVec Ideal S1x128x688 .f32) (ix3 0 (y 1) (y 2)) = mom2 m c i := by
  obtain ⟨-, -, -, ⟨e0, e1, e2⟩, -⟩ := index_facts t
  obtain ⟨h1, h2⟩ := h
  have h0 : (i 0).val < 1 := (i 0).isLt
  refine congrArg (mom2 m c) (index3_eq ?_ ?_ ?_)
  · show win0_3.index t 0 * 1 + 1 * 0 = (i 0).val; omega
  · show win0_3.index t 1 * 128 + 1 * (y 1).val = (i 1).val; omega
  · show win0_3.index t 2 * 688 + 1 * (y 2).val = (i 2).val; omega

/-- The point whose block holds an index of the whole array. -/
theorem point_lt (i : S1x1024x688.Idx) : 1 * ((i 1).val / 128) + (i 2).val / 688 < cfg0.N := by
  have h1 : (i 1).val < 1024 := (i 1).isLt
  have h2 : (i 2).val < 688 := (i 2).isLt
  have hN : cfg0.N = 8 := N_0
  omega

/-- An index lies in the block of its point, when the block's place is the point's. -/
theorem in_block (i : S1x1024x688.Idx) (k : Fin 3 → ℕ) (h0 : k 0 = 0)
    (h1 : k 1 = (1 * ((i 1).val / 128) + (i 2).val / 688) / 1) (h2 : k 2 = (1 * ((i 1).val / 128) + (i 2).val / 688) % 1) :
    ∀ a : Fin 3, k a * (![1, 128, 688] : Fin 3 → ℕ) a ≤ (i a).val
      ∧ (i a).val < k a * (![1, 128, 688] : Fin 3 → ℕ) a + (![1, 128, 688] : Fin 3 → ℕ) a := by
  have hi0 : (i 0).val < 1 := (i 0).isLt
  have hi1 : (i 1).val < 1024 := (i 1).isLt
  have hi2 : (i 2).val < 688 := (i 2).isLt
  intro a
  match a with
  | ⟨0, _⟩ => show k 0 * 1 ≤ (i 0).val ∧ (i 0).val < k 0 * 1 + 1; omega
  | ⟨1, _⟩ => show k 1 * 128 ≤ (i 1).val ∧ (i 1).val < k 1 * 128 + 128; omega
  | ⟨2, _⟩ => show k 2 * 688 ≤ (i 2).val ∧ (i 2).val < k 2 * 688 + 688; omega

/-- The gradient the call leaves, entry by entry. -/
theorem result_grad (c : Dev nD) : (dats m 0 c).arrAt 4 cfg0.N = fun i : S1x1024x688.Idx => gradAt (parts m c) i :=
  (dats m 0 c).arrAt_eq_of_cover 4 _ (fun t _ => by
    obtain ⟨-, -, -, -, ⟨e0, e1, e2⟩, -⟩ := index_facts t
    rw [flushed4]
    funext y
    have h : At t y (((cfg0.win 4).blk t).view.emb y) :=
      ⟨by show win0_4.index t 1 * 128 + 1 * (y 1).val = _; omega, by show win0_4.index t 2 * 688 + 1 * (y 2).val = _; omega⟩
    exact (out_grad _ _ _ _ y).trans (at_grad m c h)) fun i => by
    obtain ⟨-, -, -, -, ⟨e0, e1, e2⟩, -⟩ := index_facts ⟨_, point_lt i⟩
    refine ⟨⟨_, point_lt i⟩, flush0_4 _, ?_⟩
    show i ∈ ((View.whole main_v0_0).slice (win0_4.rect ⟨_, point_lt i⟩)).set
    rw [View.set_slice_whole, Rect.mem_set_unit]
    exact in_block i _ e0 e1 e2

/-- The step the call leaves, entry by entry. -/
theorem result_step (c : Dev nD) : (dats m 0 c).arrAt 5 cfg0.N = fun i : S1x1024x688.Idx => step (gradAt (parts m c) i) (weight m c i) (mom1 m c i) (mom2 m c i) :=
  (dats m 0 c).arrAt_eq_of_cover 5 _ (fun t _ => by
    obtain ⟨-, -, -, -, -, ⟨e0, e1, e2⟩, -⟩ := index_facts t
    rw [flushed5]
    funext y
    have h : At t y (((cfg0.win 5).blk t).view.emb y) :=
      ⟨by show win0_5.index t 1 * 128 + 1 * (y 1).val = _; omega, by show win0_5.index t 2 * 688 + 1 * (y 2).val = _; omega⟩
    exact (out_step _ _ _ _ y).trans (step_congr (at_grad m c h) (at_weight m c h) (at_mom1 m c h) (at_mom2 m c h))) fun i => by
    obtain ⟨-, -, -, -, -, ⟨e0, e1, e2⟩, -⟩ := index_facts ⟨_, point_lt i⟩
    refine ⟨⟨_, point_lt i⟩, flush0_5 _, ?_⟩
    show i ∈ ((View.whole main_v0_1).slice (win0_5.rect ⟨_, point_lt i⟩)).set
    rw [View.set_slice_whole, Rect.mem_set_unit]
    exact in_block i _ e0 e1 e2

/-- The first moment the call leaves, entry by entry. -/
theorem result_first (c : Dev nD) : (dats m 0 c).arrAt 6 cfg0.N = fun i : S1x1024x688.Idx => first (gradAt (parts m c) i) (mom1 m c i) :=
  (dats m 0 c).arrAt_eq_of_cover 6 _ (fun t _ => by
    obtain ⟨-, -, -, -, -, -, ⟨e0, e1, e2⟩, -⟩ := index_facts t
    rw [flushed6]
    funext y
    have h : At t y (((cfg0.win 6).blk t).view.emb y) :=
      ⟨by show win0_6.index t 1 * 128 + 1 * (y 1).val = _; omega, by show win0_6.index t 2 * 688 + 1 * (y 2).val = _; omega⟩
    exact (out_first _ _ _ _ y).trans (first_congr (at_grad m c h) (at_mom1 m c h))) fun i => by
    obtain ⟨-, -, -, -, -, -, ⟨e0, e1, e2⟩, -⟩ := index_facts ⟨_, point_lt i⟩
    refine ⟨⟨_, point_lt i⟩, flush0_6 _, ?_⟩
    show i ∈ ((View.whole main_v0_2).slice (win0_6.rect ⟨_, point_lt i⟩)).set
    rw [View.set_slice_whole, Rect.mem_set_unit]
    exact in_block i _ e0 e1 e2

/-- The second moment the call leaves, entry by entry. -/
theorem result_second (c : Dev nD) : (dats m 0 c).arrAt 7 cfg0.N = fun i : S1x1024x688.Idx => second (gradAt (parts m c) i) (mom2 m c i) :=
  (dats m 0 c).arrAt_eq_of_cover 7 _ (fun t _ => by
    obtain ⟨-, -, -, -, -, -, -, e0, e1, e2⟩ := index_facts t
    rw [flushed7]
    funext y
    have h : At t y (((cfg0.win 7).blk t).view.emb y) :=
      ⟨by show win0_7.index t 1 * 128 + 1 * (y 1).val = _; omega, by show win0_7.index t 2 * 688 + 1 * (y 2).val = _; omega⟩
    exact (out_second _ _ _ _ y).trans (second_congr (at_grad m c h) (at_mom2 m c h))) fun i => by
    obtain ⟨-, -, -, -, -, -, -, e0, e1, e2⟩ := index_facts ⟨_, point_lt i⟩
    refine ⟨⟨_, point_lt i⟩, flush0_7 _, ?_⟩
    show i ∈ ((View.whole main_v0_3).slice (win0_7.rect ⟨_, point_lt i⟩)).set
    rw [View.set_slice_whole, Rect.mem_set_unit]
    exact in_block i _ e0 e1 e2

section Reference

open Cert.AdamUpRefIdeal

variable (p : FVec Ideal S8x1024x688 .f32) (w u v : FVec Ideal S1x1024x688 .f32)

/-- The reference's gradient: the sum of the parts. -/
theorem ref_grad (i : S1x1024x688.Idx) : Read.val_main_v1 (F := Ideal) p i = gradAt p i := by
  refine (unit_apply (φ := .f32) (Read.val_main_v0 (F := Ideal) p) _ i).trans ((Read.val_main_v0_apply p _).trans ?_)
  refine Eq.trans ?_ (grad_eq_sum _)
  refine congrArg₂ (· + ·) rfl (Finset.sum_congr rfl fun k _ => congrArg p ?_)
  exact index3_eq rfl rfl rfl

/-- The reference's first moment. -/
theorem ref_first (i : S1x1024x688.Idx) : Read.val_main_v6 (F := Ideal) p u i = first (gradAt p i) (u i) := by
  simp -implicitDefEqProofs only [Read.val_main_v2_apply, Read.val_main_v3_apply, Read.val_main_v4_apply, Read.val_main_v5_apply, Read.val_main_v6_apply, Read.val_main_cst_0_apply, Read.val_main_cst_1_apply, Ideal.addf_def, Ideal.mulf_def]
  rw [ref_grad]
  rfl
/-- The reference's second moment. -/
theorem ref_second (i : S1x1024x688.Idx) : Read.val_main_v12 (F := Ideal) p v i = second (gradAt p i) (v i) := by
  simp -implicitDefEqProofs only [Read.val_main_v7_apply, Read.val_main_v8_apply, Read.val_main_v9_apply, Read.val_main_v10_apply, Read.val_main_v11_apply, Read.val_main_v12_apply, Read.val_main_cst_2_apply, Read.val_main_cst_3_apply, Ideal.addf_def, Ideal.mulf_def]
  rw [ref_grad]
  rfl
/-- The reference's step. -/
theorem ref_step (i : S1x1024x688.Idx) : Read.val_main_v25 (F := Ideal) p w u v i = step (gradAt p i) (w i) (u i) (v i) := by
  simp -implicitDefEqProofs only [Read.val_main_v13_apply, Read.val_main_v14_apply, Read.val_main_v15_apply, Read.val_main_v16_apply, Read.val_main_v17_apply, Read.val_main_v18_apply, Read.val_main_v19_apply, Read.val_main_v20_apply, Read.val_main_v21_apply, Read.val_main_v22_apply, Read.val_main_v23_apply, Read.val_main_v24_apply, Read.val_main_v25_apply, Read.val_main_cst_4_apply, Read.val_main_cst_5_apply, Read.val_main_cst_6_apply, Read.val_main_cst_7_apply, Read.val_main_cst_8_apply, Ideal.addf_def, Ideal.mulf_def, Ideal.hostDivf_def, Ideal.hostUnary_sqrt_def]
  rw [ref_first, ref_second]
  rfl

end Reference

/-- The reference program runs to completion with every semaphore at rest and its arguments as they were. -/
theorem frame_reference [hF : Cert.AdamUpRefIdeal.Facts] : Cert.quiescent_AdamUpRefIdeal :=
  fun m ρ _ => (θ_run Cert.AdamUpRefIdeal.defs _ _).mono
    (fun r h => ⟨fun c => (h c).2.2.2.2, sem_eq_zero_of_no_sems rfl r.2⟩) (Cert.AdamUpRefIdeal.Value.run (F := Ideal) m ρ)

/-- From the same arguments the kernel and the reference leave the same gradient, step and moments. -/
theorem algebraic [hK : Cert.AdamUpIdeal.Facts] [hR : Cert.AdamUpRefIdeal.Facts] : Cert.algebraic_AdamUpIdeal_AdamUpRefIdeal :=
  fun m ρ m' ρ' _ hm => ⟨fun c => fun i => gradAt (parts m c) i,
    fun c => fun i => step (gradAt (parts m c) i) (weight m c i) (mom1 m c i) (mom2 m c i),
    fun c => fun i => first (gradAt (parts m c) i) (mom1 m c i), fun c => fun i => second (gradAt (parts m c) i) (mom2 m c i),
    (θ_run Cert.AdamUpIdeal.defs _ _).mono (fun r h c => ⟨(h c).1.trans (result_grad m c), (h c).2.1.trans (result_step m c),
      (h c).2.2.1.trans (result_first m c), (h c).2.2.2.1.trans (result_second m c), (h c).2.2.2.2⟩)
      (Cert.AdamUpIdeal.Value.run_blocks (F := Ideal) m ρ),
    (θ_run Cert.AdamUpRefIdeal.defs _ _).mono (fun r h c => ⟨
      (h c).1.trans (by rw [(hm c).1]; exact funext fun i => ref_grad _ i),
      (h c).2.1.trans (by rw [(hm c).1, (hm c).2.1, (hm c).2.2.1, (hm c).2.2.2]; exact funext fun i => ref_step _ _ _ _ i),
      (h c).2.2.1.trans (by rw [(hm c).1, (hm c).2.2.1]; exact funext fun i => ref_first _ _ i),
      (h c).2.2.2.1.trans (by rw [(hm c).1, (hm c).2.2.2]; exact funext fun i => ref_second _ _ i),
      (h c).2.2.2.2⟩)
      (Cert.AdamUpRefIdeal.Value.run (F := Ideal) m' ρ')⟩

end Cert.AdamUpIdeal.Adam

end
-- ==== Proof.AdamConvValue.lean ====
/-
  The convolution: the AdamW call's four results, computed block by block, are the gradient summed over its
  parts, the step and the two moments that the reference computes.
-/
module

public import proofs.«01_k».proof.Proof.Adam
public import proofs.«01_k».proof.Defs
public import Idealize.ShloMosaic.Lib.Quiescent
public import proofs.«01_k».proof.Proof.Gen.AdamConvIdeal.Value
public import proofs.«01_k».proof.Proof.Gen.AdamConvRefIdeal.Run
public import proofs.«01_k».proof.Proof.Gen.AdamConvRefIdeal.Read

@[expose] public section

noncomputable section

namespace Cert.AdamConvIdeal.Adam

open Cert.AdamConvIdeal Cert.AdamConvIdeal.Gen Cert.AdamConvIdeal.Value Cert.Adam
open Idealize.ShloMosaic Idealize.ShloMosaic.TcCoe Idealize.ShloMosaic.ValueIdx Idealize.SL.Sem

section Blocks

variable (x0 : FVec Ideal S8x3x688 .f32) (x1 x2 x3 : FVec Ideal S1x3x688 .f32)

/-- The gradient of a block, read at an index: the eight parts added. -/
theorem block_grad (j : S3x688.Idx) : k0_pay10 (F := Ideal) x0 x1 x2 x3 j = grad fun d => x0 (ix3 d (j 0) (j 1)) :=
  chain _ (slice_apply (e := .f32) (n := 8) x0 0 (by decide) _ _ j) (slice_apply (e := .f32) (n := 8) x0 1 (by decide) _ _ j) (slice_apply (e := .f32) (n := 8) x0 2 (by decide) _ _ j)
    (slice_apply (e := .f32) (n := 8) x0 3 (by decide) _ _ j) (slice_apply (e := .f32) (n := 8) x0 4 (by decide) _ _ j) (slice_apply (e := .f32) (n := 8) x0 5 (by decide) _ _ j)
    (slice_apply (e := .f32) (n := 8) x0 6 (by decide) _ _ j) (slice_apply (e := .f32) (n := 8) x0 7 (by decide) _ _ j)

/-- A block of the weight or of a moment, read at an index. -/
theorem block_arg (x : FVec Ideal S1x3x688 .f32) (j : S3x688.Idx) :
    shapeCast S3x688 (View.ld (Val := Elt Ideal) (e' := .f32) x r0_8) shapeCasts_S1x3x688_S3x688 j = x (ix3 0 (j 0) (j 1)) :=
  slice_apply (e := .f32) (n := 1) x 0 (by decide) _ _ j

/-- What a point stores in the gradient's block. -/
theorem out_grad (y : S1x3x688.Idx) : out0_4 (F := Ideal) x0 x1 x2 x3 y = grad fun d => x0 (ix3 d (y 1) (y 2)) := by
  unfold out0_4 k0_pay7
  rw [View.canon_unit_zero offsets3_zero]
  refine (unit_apply (φ := .f32) _ shapeCasts_S3x688_S1x3x688 y).trans ?_
  exact block_grad x0 x1 x2 x3 _

/-- What a point stores in the step's block. -/
theorem out_step (y : S1x3x688.Idx) : out0_5 (F := Ideal) x0 x1 x2 x3 y
    = step (grad fun d => x0 (ix3 d (y 1) (y 2))) (x1 (ix3 0 (y 1) (y 2))) (x2 (ix3 0 (y 1) (y 2))) (x3 (ix3 0 (y 1) (y 2))) := by
  unfold out0_5 k0_pay8
  rw [View.canon_unit_zero offsets3_zero]
  refine (unit_apply (φ := .f32) _ shapeCasts_S3x688_S1x3x688 y).trans ?_
  exact step_congr (block_grad x0 x1 x2 x3 _) (block_arg x1 _) (block_arg x2 _) (block_arg x3 _)

/-- What a point stores in the first moment's block. -/
theorem out_first (y : S1x3x688.Idx) : out0_6 (F := Ideal) x0 x1 x2 x3 y
    = first (grad fun d => x0 (ix3 d (y 1) (y 2))) (x2 (ix3 0 (y 1) (y 2))) := by
  unfold out0_6 k0_pay9
  rw [View.canon_unit_zero offsets3_zero]
  refine (unit_apply (φ := .f32) _ shapeCasts_S3x688_S1x3x688 y).trans ?_
  exact first_congr (block_grad x0 x1 x2 x3 _) (block_arg x2 _)

/-- What a point stores in the second moment's block. -/
theorem out_second (y : S1x3x688.Idx) : out0_7 (F := Ideal) x0 x1 x2 x3 y
    = second (grad fun d => x0 (ix3 d (y 1) (y 2))) (x3 (ix3 0 (y 1) (y 2))) := by
  unfold out0_7 k0_pay1
  rw [View.canon_unit_zero offsets3_zero]
  refine (unit_apply (φ := .f32) _ shapeCasts_S3x688_S1x3x688 y).trans ?_
  exact second_congr (block_grad x0 x1 x2 x3 _) (block_arg x3 _)

end Blocks

variable (m : (ℓ : Loc nD τ sig) → Buf (Elt Ideal) ℓ)

/-- The arguments: the parts of the gradient, the weight and its two moments. -/
abbrev parts (c : Dev nD) : FVec Ideal S8x3x688 .f32 := m ((c : Thread nD τ).loc main_arg0)
abbrev weight (c : Dev nD) : FVec Ideal S1x3x688 .f32 := m ((c : Thread nD τ).loc main_arg1)
abbrev mom1 (c : Dev nD) : FVec Ideal S1x3x688 .f32 := m ((c : Thread nD τ).loc main_arg2)
abbrev mom2 (c : Dev nD) : FVec Ideal S1x3x688 .f32 := m ((c : Thread nD τ).loc main_arg3)

/-- The gradient at an entry of the whole array. -/
abbrev gradAt (p : FVec Ideal S8x3x688 .f32) (i : S1x3x688.Idx) : EReal := grad fun d => p (ix3 d (i 1) (i 2))

/-- The blocks a point reads and writes, decided over the grid: the same ones of every array. -/
theorem index_facts : ∀ t : Fin cfg0.N,
    (win0_0.index t 0 = 0 ∧ win0_0.index t 1 = t.val / 1 ∧ win0_0.index t 2 = t.val % 1)
    ∧ (win0_1.index t 0 = 0 ∧ win0_1.index t 1 = t.val / 1 ∧ win0_1.index t 2 = t.val % 1)
    ∧ (win0_2.index t 0 = 0 ∧ win0_2.index t 1 = t.val / 1 ∧ win0_2.index t 2 = t.val % 1)
    ∧ (win0_3.index t 0 = 0 ∧ win0_3.index t 1 = t.val / 1 ∧ win0_3.index t 2 = t.val % 1)
    ∧ (win0_4.index t 0 = 0 ∧ win0_4.index t 1 = t.val / 1 ∧ win0_4.index t 2 = t.val % 1)
    ∧ (win0_5.index t 0 = 0 ∧ win0_5.index t 1 = t.val / 1 ∧ win0_5.index t 2 = t.val % 1)
    ∧ (win0_6.index t 0 = 0 ∧ win0_6.index t 1 = t.val / 1 ∧ win0_6.index t 2 = t.val % 1)
    ∧ (win0_7.index t 0 = 0 ∧ win0_7.index t 1 = t.val / 1 ∧ win0_7.index t 2 = t.val % 1) :=
  (by decide +kernel : ∀ t : Fin grid0.N, _)

/-- Index `i` of the whole array is index `y` of point `t`'s block. -/
abbrev At (t : Fin cfg0.N) (y : S1x3x688.Idx) (i : S1x3x688.Idx) : Prop :=
  (i 1).val = 3 * (t.val / 1) + (y 1).val ∧ (i 2).val = 688 * (t.val % 1) + (y 2).val

/-- The gradient of a point's block is the whole array's at the index's place. -/
theorem at_grad (c : Dev nD) {t : Fin cfg0.N} {y : S1x3x688.Idx} {i : S1x3x688.Idx} (h : At t y i) :
    (grad fun d => (iblk m c 0 t : FVec Ideal S8x3x688 .f32) (ix3 d (y 1) (y 2))) = gradAt (parts m c) i := grad_congr fun d => by
  obtain ⟨⟨e0, e1, e2⟩, -⟩ := index_facts t
  obtain ⟨h1, h2⟩ := h
  refine congrArg (parts m c) (index3_eq ?_ ?_ ?_)
  · show win0_0.index t 0 * 8 + 1 * d.val = d.val; omega
  · show win0_0.index t 1 * 3 + 1 * (y 1).val = (i 1).val; omega
  · show win0_0.index t 2 * 688 + 1 * (y 2).val = (i 2).val; omega

/-- The weight of a point's block is the whole array's at the index's place. -/
theorem at_weight (c : Dev nD) {t : Fin cfg0.N} {y : S1x3x688.Idx} {i : S1x3x688.Idx} (h : At t y i) :
    (iblk m c 1 t : FVec Ideal S1x3x688 .f32) (ix3 0 (y 1) (y 2)) = weight m c i := by
  obtain ⟨-, ⟨e0, e1, e2⟩, -⟩ := index_facts t
  obtain ⟨h1, h2⟩ := h
  have h0 : (i 0).val < 1 := (i 0).isLt
  refine congrArg (weight m c) (index3_eq ?_ ?_ ?_)
  · show win0_1.index t 0 * 1 + 1 * 0 = (i 0).val; omega
  · show win0_1.index t 1 * 3 + 1 * (y 1).val = (i 1).val; omega
  · show win0_1.index t 2 * 688 + 1 * (y 2).val = (i 2).val; omega

/-- The first moment of a point's block is the whole array's at the index's place. -/
theorem at_mom1 (c : Dev nD) {t : Fin cfg0.N} {y : S1x3x688.Idx} {i : S1x3x688.Idx} (h : At t y i) :
    (iblk m c 2 t : FVec Ideal S1x3x688 .f32) (ix3 0 (y 1) (y 2)) = mom1 m c i := by
  obtain ⟨-, -, ⟨e0, e1, e2⟩, -⟩ := index_facts t
  obtain ⟨h1, h2⟩ := h
  have h0 : (i 0).val < 1 := (i 0).isLt
  refine congrArg (mom1 m c) (index3_eq ?_ ?_ ?_)
  · show win0_2.index t 0 * 1 + 1 * 0 = (i 0).val; omega
  · show win0_2.index t 1 * 3 + 1 * (y 1).val = (i 1).val; omega
  · show win0_2.index t 2 * 688 + 1 * (y 2).val = (i 2).val; omega

/-- The second moment of a point's block is the whole array's at the index's place. -/
theorem at_mom2 (c : Dev nD) {t : Fin cfg0.N} {y : S1x3x688.Idx} {i : S1x3x688.Idx} (h : At t y i) :
    (iblk m c 3 t : FVec Ideal S1x3x688 .f32) (ix3 0 (y 1) (y 2)) = mom2 m c i := by
  obtain ⟨-, -, -, ⟨e0, e1, e2⟩, -⟩ := index_facts t
  obtain ⟨h1, h2⟩ := h
  have h0 : (i 0).val < 1 := (i 0).isLt
  refine congrArg (mom2 m c) (index3_eq ?_ ?_ ?_)
  · show win0_3.index t 0 * 1 + 1 * 0 = (i 0).val; omega
  · show win0_3.index t 1 * 3 + 1 * (y 1).val = (i 1).val; omega
  · show win0_3.index t 2 * 688 + 1 * (y 2).val = (i 2).val; omega

/-- The point whose block holds an index of the whole array. -/
theorem point_lt (i : S1x3x688.Idx) : 1 * ((i 1).val / 3) + (i 2).val / 688 < cfg0.N := by
  have h1 : (i 1).val < 3 := (i 1).isLt
  have h2 : (i 2).val < 688 := (i 2).isLt
  have hN : cfg0.N = 1 := N_0
  omega

/-- An index lies in the block of its point, when the block's place is the point's. -/
theorem in_block (i : S1x3x688.Idx) (k : Fin 3 → ℕ) (h0 : k 0 = 0)
    (h1 : k 1 = (1 * ((i 1).val / 3) + (i 2).val / 688) / 1) (h2 : k 2 = (1 * ((i 1).val / 3) + (i 2).val / 688) % 1) :
    ∀ a : Fin 3, k a * (![1, 3, 688] : Fin 3 → ℕ) a ≤ (i a).val
      ∧ (i a).val < k a * (![1, 3, 688] : Fin 3 → ℕ) a + (![1, 3, 688] : Fin 3 → ℕ) a := by
  have hi0 : (i 0).val < 1 := (i 0).isLt
  have hi1 : (i 1).val < 3 := (i 1).isLt
  have hi2 : (i 2).val < 688 := (i 2).isLt
  intro a
  match a with
  | ⟨0, _⟩ => show k 0 * 1 ≤ (i 0).val ∧ (i 0).val < k 0 * 1 + 1; omega
  | ⟨1, _⟩ => show k 1 * 3 ≤ (i 1).val ∧ (i 1).val < k 1 * 3 + 3; omega
  | ⟨2, _⟩ => show k 2 * 688 ≤ (i 2).val ∧ (i 2).val < k 2 * 688 + 688; omega

/-- The gradient the call leaves, entry by entry. -/
theorem result_grad (c : Dev nD) : (dats m 0 c).arrAt 4 cfg0.N = fun i : S1x3x688.Idx => gradAt (parts m c) i :=
  (dats m 0 c).arrAt_eq_of_cover 4 _ (fun t _ => by
    obtain ⟨-, -, -, -, ⟨e0, e1, e2⟩, -⟩ := index_facts t
    rw [flushed4]
    funext y
    have h : At t y (((cfg0.win 4).blk t).view.emb y) :=
      ⟨by show win0_4.index t 1 * 3 + 1 * (y 1).val = _; omega, by show win0_4.index t 2 * 688 + 1 * (y 2).val = _; omega⟩
    exact (out_grad _ _ _ _ y).trans (at_grad m c h)) fun i => by
    obtain ⟨-, -, -, -, ⟨e0, e1, e2⟩, -⟩ := index_facts ⟨_, point_lt i⟩
    refine ⟨⟨_, point_lt i⟩, flush0_4 _, ?_⟩
    show i ∈ ((View.whole main_v0_0).slice (win0_4.rect ⟨_, point_lt i⟩)).set
    rw [View.set_slice_whole, Rect.mem_set_unit]
    exact in_block i _ e0 e1 e2

/-- The step the call leaves, entry by entry. -/
theorem result_step (c : Dev nD) : (dats m 0 c).arrAt 5 cfg0.N = fun i : S1x3x688.Idx => step (gradAt (parts m c) i) (weight m c i) (mom1 m c i) (mom2 m c i) :=
  (dats m 0 c).arrAt_eq_of_cover 5 _ (fun t _ => by
    obtain ⟨-, -, -, -, -, ⟨e0, e1, e2⟩, -⟩ := index_facts t
    rw [flushed5]
    funext y
    have h : At t y (((cfg0.win 5).blk t).view.emb y) :=
      ⟨by show win0_5.index t 1 * 3 + 1 * (y 1).val = _; omega, by show win0_5.index t 2 * 688 + 1 * (y 2).val = _; omega⟩
    exact (out_step _ _ _ _ y).trans (step_congr (at_grad m c h) (at_weight m c h) (at_mom1 m c h) (at_mom2 m c h))) fun i => by
    obtain ⟨-, -, -, -, -, ⟨e0, e1, e2⟩, -⟩ := index_facts ⟨_, point_lt i⟩
    refine ⟨⟨_, point_lt i⟩, flush0_5 _, ?_⟩
    show i ∈ ((View.whole main_v0_1).slice (win0_5.rect ⟨_, point_lt i⟩)).set
    rw [View.set_slice_whole, Rect.mem_set_unit]
    exact in_block i _ e0 e1 e2

/-- The first moment the call leaves, entry by entry. -/
theorem result_first (c : Dev nD) : (dats m 0 c).arrAt 6 cfg0.N = fun i : S1x3x688.Idx => first (gradAt (parts m c) i) (mom1 m c i) :=
  (dats m 0 c).arrAt_eq_of_cover 6 _ (fun t _ => by
    obtain ⟨-, -, -, -, -, -, ⟨e0, e1, e2⟩, -⟩ := index_facts t
    rw [flushed6]
    funext y
    have h : At t y (((cfg0.win 6).blk t).view.emb y) :=
      ⟨by show win0_6.index t 1 * 3 + 1 * (y 1).val = _; omega, by show win0_6.index t 2 * 688 + 1 * (y 2).val = _; omega⟩
    exact (out_first _ _ _ _ y).trans (first_congr (at_grad m c h) (at_mom1 m c h))) fun i => by
    obtain ⟨-, -, -, -, -, -, ⟨e0, e1, e2⟩, -⟩ := index_facts ⟨_, point_lt i⟩
    refine ⟨⟨_, point_lt i⟩, flush0_6 _, ?_⟩
    show i ∈ ((View.whole main_v0_2).slice (win0_6.rect ⟨_, point_lt i⟩)).set
    rw [View.set_slice_whole, Rect.mem_set_unit]
    exact in_block i _ e0 e1 e2

/-- The second moment the call leaves, entry by entry. -/
theorem result_second (c : Dev nD) : (dats m 0 c).arrAt 7 cfg0.N = fun i : S1x3x688.Idx => second (gradAt (parts m c) i) (mom2 m c i) :=
  (dats m 0 c).arrAt_eq_of_cover 7 _ (fun t _ => by
    obtain ⟨-, -, -, -, -, -, -, e0, e1, e2⟩ := index_facts t
    rw [flushed7]
    funext y
    have h : At t y (((cfg0.win 7).blk t).view.emb y) :=
      ⟨by show win0_7.index t 1 * 3 + 1 * (y 1).val = _; omega, by show win0_7.index t 2 * 688 + 1 * (y 2).val = _; omega⟩
    exact (out_second _ _ _ _ y).trans (second_congr (at_grad m c h) (at_mom2 m c h))) fun i => by
    obtain ⟨-, -, -, -, -, -, -, e0, e1, e2⟩ := index_facts ⟨_, point_lt i⟩
    refine ⟨⟨_, point_lt i⟩, flush0_7 _, ?_⟩
    show i ∈ ((View.whole main_v0_3).slice (win0_7.rect ⟨_, point_lt i⟩)).set
    rw [View.set_slice_whole, Rect.mem_set_unit]
    exact in_block i _ e0 e1 e2

section Reference

open Cert.AdamConvRefIdeal

variable (p : FVec Ideal S8x3x688 .f32) (w u v : FVec Ideal S1x3x688 .f32)

/-- The reference's gradient: the sum of the parts. -/
theorem ref_grad (i : S1x3x688.Idx) : Read.val_main_v1 (F := Ideal) p i = gradAt p i := by
  refine (unit_apply (φ := .f32) (Read.val_main_v0 (F := Ideal) p) _ i).trans ((Read.val_main_v0_apply p _).trans ?_)
  refine Eq.trans ?_ (grad_eq_sum _)
  refine congrArg₂ (· + ·) rfl (Finset.sum_congr rfl fun k _ => congrArg p ?_)
  exact index3_eq rfl rfl rfl

/-- The reference's first moment. -/
theorem ref_first (i : S1x3x688.Idx) : Read.val_main_v6 (F := Ideal) p u i = first (gradAt p i) (u i) := by
  simp -implicitDefEqProofs only [Read.val_main_v2_apply, Read.val_main_v3_apply, Read.val_main_v4_apply, Read.val_main_v5_apply, Read.val_main_v6_apply, Read.val_main_cst_0_apply, Read.val_main_cst_1_apply, Ideal.addf_def, Ideal.mulf_def]
  rw [ref_grad]
  rfl
/-- The reference's second moment. -/
theorem ref_second (i : S1x3x688.Idx) : Read.val_main_v12 (F := Ideal) p v i = second (gradAt p i) (v i) := by
  simp -implicitDefEqProofs only [Read.val_main_v7_apply, Read.val_main_v8_apply, Read.val_main_v9_apply, Read.val_main_v10_apply, Read.val_main_v11_apply, Read.val_main_v12_apply, Read.val_main_cst_2_apply, Read.val_main_cst_3_apply, Ideal.addf_def, Ideal.mulf_def]
  rw [ref_grad]
  rfl
/-- The reference's step. -/
theorem ref_step (i : S1x3x688.Idx) : Read.val_main_v25 (F := Ideal) p w u v i = step (gradAt p i) (w i) (u i) (v i) := by
  simp -implicitDefEqProofs only [Read.val_main_v13_apply, Read.val_main_v14_apply, Read.val_main_v15_apply, Read.val_main_v16_apply, Read.val_main_v17_apply, Read.val_main_v18_apply, Read.val_main_v19_apply, Read.val_main_v20_apply, Read.val_main_v21_apply, Read.val_main_v22_apply, Read.val_main_v23_apply, Read.val_main_v24_apply, Read.val_main_v25_apply, Read.val_main_cst_4_apply, Read.val_main_cst_5_apply, Read.val_main_cst_6_apply, Read.val_main_cst_7_apply, Read.val_main_cst_8_apply, Ideal.addf_def, Ideal.mulf_def, Ideal.hostDivf_def, Ideal.hostUnary_sqrt_def]
  rw [ref_first, ref_second]
  rfl

end Reference

/-- The reference program runs to completion with every semaphore at rest and its arguments as they were. -/
theorem frame_reference [hF : Cert.AdamConvRefIdeal.Facts] : Cert.quiescent_AdamConvRefIdeal :=
  fun m ρ _ => (θ_run Cert.AdamConvRefIdeal.defs _ _).mono
    (fun r h => ⟨fun c => (h c).2.2.2.2, sem_eq_zero_of_no_sems rfl r.2⟩) (Cert.AdamConvRefIdeal.Value.run (F := Ideal) m ρ)

/-- From the same arguments the kernel and the reference leave the same gradient, step and moments. -/
theorem algebraic [hK : Cert.AdamConvIdeal.Facts] [hR : Cert.AdamConvRefIdeal.Facts] : Cert.algebraic_AdamConvIdeal_AdamConvRefIdeal :=
  fun m ρ m' ρ' _ hm => ⟨fun c => fun i => gradAt (parts m c) i,
    fun c => fun i => step (gradAt (parts m c) i) (weight m c i) (mom1 m c i) (mom2 m c i),
    fun c => fun i => first (gradAt (parts m c) i) (mom1 m c i), fun c => fun i => second (gradAt (parts m c) i) (mom2 m c i),
    (θ_run Cert.AdamConvIdeal.defs _ _).mono (fun r h c => ⟨(h c).1.trans (result_grad m c), (h c).2.1.trans (result_step m c),
      (h c).2.2.1.trans (result_first m c), (h c).2.2.2.1.trans (result_second m c), (h c).2.2.2.2⟩)
      (Cert.AdamConvIdeal.Value.run_blocks (F := Ideal) m ρ),
    (θ_run Cert.AdamConvRefIdeal.defs _ _).mono (fun r h c => ⟨
      (h c).1.trans (by rw [(hm c).1]; exact funext fun i => ref_grad _ i),
      (h c).2.1.trans (by rw [(hm c).1, (hm c).2.1, (hm c).2.2.1, (hm c).2.2.2]; exact funext fun i => ref_step _ _ _ _ i),
      (h c).2.2.1.trans (by rw [(hm c).1, (hm c).2.2.1]; exact funext fun i => ref_first _ _ i),
      (h c).2.2.2.1.trans (by rw [(hm c).1, (hm c).2.2.2]; exact funext fun i => ref_second _ _ i),
      (h c).2.2.2.2⟩)
      (Cert.AdamConvRefIdeal.Value.run (F := Ideal) m' ρ')⟩

end Cert.AdamConvIdeal.Adam

end
-- ==== Proof.AdamDownValue.lean ====
/-
  The second feed-forward projection: the AdamW call's four results, computed block by block, are the gradient summed over its
  parts, the step and the two moments that the reference computes.
-/
module

public import proofs.«01_k».proof.Proof.Adam
public import proofs.«01_k».proof.Defs
public import Idealize.ShloMosaic.Lib.Quiescent
public import proofs.«01_k».proof.Proof.Gen.AdamDownIdeal.Value
public import proofs.«01_k».proof.Proof.Gen.AdamDownRefIdeal.Run
public import proofs.«01_k».proof.Proof.Gen.AdamDownRefIdeal.Read

@[expose] public section

noncomputable section

namespace Cert.AdamDownIdeal.Adam

open Cert.AdamDownIdeal Cert.AdamDownIdeal.Gen Cert.AdamDownIdeal.Value Cert.Adam
open Idealize.ShloMosaic Idealize.ShloMosaic.TcCoe Idealize.ShloMosaic.ValueIdx Idealize.SL.Sem

section Blocks

variable (x0 : FVec Ideal S8x344x256 .f32) (x1 x2 x3 : FVec Ideal S1x344x256 .f32)

/-- The gradient of a block, read at an index: the eight parts added. -/
theorem block_grad (j : S344x256.Idx) : k0_pay10 (F := Ideal) x0 x1 x2 x3 j = grad fun d => x0 (ix3 d (j 0) (j 1)) :=
  chain _ (slice_apply (e := .f32) (n := 8) x0 0 (by decide) _ _ j) (slice_apply (e := .f32) (n := 8) x0 1 (by decide) _ _ j) (slice_apply (e := .f32) (n := 8) x0 2 (by decide) _ _ j)
    (slice_apply (e := .f32) (n := 8) x0 3 (by decide) _ _ j) (slice_apply (e := .f32) (n := 8) x0 4 (by decide) _ _ j) (slice_apply (e := .f32) (n := 8) x0 5 (by decide) _ _ j)
    (slice_apply (e := .f32) (n := 8) x0 6 (by decide) _ _ j) (slice_apply (e := .f32) (n := 8) x0 7 (by decide) _ _ j)

/-- A block of the weight or of a moment, read at an index. -/
theorem block_arg (x : FVec Ideal S1x344x256 .f32) (j : S344x256.Idx) :
    shapeCast S344x256 (View.ld (Val := Elt Ideal) (e' := .f32) x r0_8) shapeCasts_S1x344x256_S344x256 j = x (ix3 0 (j 0) (j 1)) :=
  slice_apply (e := .f32) (n := 1) x 0 (by decide) _ _ j

/-- What a point stores in the gradient's block. -/
theorem out_grad (y : S1x344x256.Idx) : out0_4 (F := Ideal) x0 x1 x2 x3 y = grad fun d => x0 (ix3 d (y 1) (y 2)) := by
  unfold out0_4 k0_pay7
  rw [View.canon_unit_zero offsets3_zero]
  refine (unit_apply (φ := .f32) _ shapeCasts_S344x256_S1x344x256 y).trans ?_
  exact block_grad x0 x1 x2 x3 _

/-- What a point stores in the step's block. -/
theorem out_step (y : S1x344x256.Idx) : out0_5 (F := Ideal) x0 x1 x2 x3 y
    = step (grad fun d => x0 (ix3 d (y 1) (y 2))) (x1 (ix3 0 (y 1) (y 2))) (x2 (ix3 0 (y 1) (y 2))) (x3 (ix3 0 (y 1) (y 2))) := by
  unfold out0_5 k0_pay8
  rw [View.canon_unit_zero offsets3_zero]
  refine (unit_apply (φ := .f32) _ shapeCasts_S344x256_S1x344x256 y).trans ?_
  exact step_congr (block_grad x0 x1 x2 x3 _) (block_arg x1 _) (block_arg x2 _) (block_arg x3 _)

/-- What a point stores in the first moment's block. -/
theorem out_first (y : S1x344x256.Idx) : out0_6 (F := Ideal) x0 x1 x2 x3 y
    = first (grad fun d => x0 (ix3 d (y 1) (y 2))) (x2 (ix3 0 (y 1) (y 2))) := by
  unfold out0_6 k0_pay9
  rw [View.canon_unit_zero offsets3_zero]
  refine (unit_apply (φ := .f32) _ shapeCasts_S344x256_S1x344x256 y).trans ?_
  exact first_congr (block_grad x0 x1 x2 x3 _) (block_arg x2 _)

/-- What a point stores in the second moment's block. -/
theorem out_second (y : S1x344x256.Idx) : out0_7 (F := Ideal) x0 x1 x2 x3 y
    = second (grad fun d => x0 (ix3 d (y 1) (y 2))) (x3 (ix3 0 (y 1) (y 2))) := by
  unfold out0_7 k0_pay1
  rw [View.canon_unit_zero offsets3_zero]
  refine (unit_apply (φ := .f32) _ shapeCasts_S344x256_S1x344x256 y).trans ?_
  exact second_congr (block_grad x0 x1 x2 x3 _) (block_arg x3 _)

end Blocks

variable (m : (ℓ : Loc nD τ sig) → Buf (Elt Ideal) ℓ)

/-- The arguments: the parts of the gradient, the weight and its two moments. -/
abbrev parts (c : Dev nD) : FVec Ideal S8x344x1024 .f32 := m ((c : Thread nD τ).loc main_arg0)
abbrev weight (c : Dev nD) : FVec Ideal S1x344x1024 .f32 := m ((c : Thread nD τ).loc main_arg1)
abbrev mom1 (c : Dev nD) : FVec Ideal S1x344x1024 .f32 := m ((c : Thread nD τ).loc main_arg2)
abbrev mom2 (c : Dev nD) : FVec Ideal S1x344x1024 .f32 := m ((c : Thread nD τ).loc main_arg3)

/-- The gradient at an entry of the whole array. -/
abbrev gradAt (p : FVec Ideal S8x344x1024 .f32) (i : S1x344x1024.Idx) : EReal := grad fun d => p (ix3 d (i 1) (i 2))

/-- The blocks a point reads and writes, decided over the grid: the same ones of every array. -/
theorem index_facts : ∀ t : Fin cfg0.N,
    (win0_0.index t 0 = 0 ∧ win0_0.index t 1 = t.val / 4 ∧ win0_0.index t 2 = t.val % 4)
    ∧ (win0_1.index t 0 = 0 ∧ win0_1.index t 1 = t.val / 4 ∧ win0_1.index t 2 = t.val % 4)
    ∧ (win0_2.index t 0 = 0 ∧ win0_2.index t 1 = t.val / 4 ∧ win0_2.index t 2 = t.val % 4)
    ∧ (win0_3.index t 0 = 0 ∧ win0_3.index t 1 = t.val / 4 ∧ win0_3.index t 2 = t.val % 4)
    ∧ (win0_4.index t 0 = 0 ∧ win0_4.index t 1 = t.val / 4 ∧ win0_4.index t 2 = t.val % 4)
    ∧ (win0_5.index t 0 = 0 ∧ win0_5.index t 1 = t.val / 4 ∧ win0_5.index t 2 = t.val % 4)
    ∧ (win0_6.index t 0 = 0 ∧ win0_6.index t 1 = t.val / 4 ∧ win0_6.index t 2 = t.val % 4)
    ∧ (win0_7.index t 0 = 0 ∧ win0_7.index t 1 = t.val / 4 ∧ win0_7.index t 2 = t.val % 4) :=
  (by decide +kernel : ∀ t : Fin grid0.N, _)

/-- Index `i` of the whole array is index `y` of point `t`'s block. -/
abbrev At (t : Fin cfg0.N) (y : S1x344x256.Idx) (i : S1x344x1024.Idx) : Prop :=
  (i 1).val = 344 * (t.val / 4) + (y 1).val ∧ (i 2).val = 256 * (t.val % 4) + (y 2).val

/-- The gradient of a point's block is the whole array's at the index's place. -/
theorem at_grad (c : Dev nD) {t : Fin cfg0.N} {y : S1x344x256.Idx} {i : S1x344x1024.Idx} (h : At t y i) :
    (grad fun d => (iblk m c 0 t : FVec Ideal S8x344x256 .f32) (ix3 d (y 1) (y 2))) = gradAt (parts m c) i := grad_congr fun d => by
  obtain ⟨⟨e0, e1, e2⟩, -⟩ := index_facts t
  obtain ⟨h1, h2⟩ := h
  refine congrArg (parts m c) (index3_eq ?_ ?_ ?_)
  · show win0_0.index t 0 * 8 + 1 * d.val = d.val; omega
  · show win0_0.index t 1 * 344 + 1 * (y 1).val = (i 1).val; omega
  · show win0_0.index t 2 * 256 + 1 * (y 2).val = (i 2).val; omega

/-- The weight of a point's block is the whole array's at the index's place. -/
theorem at_weight (c : Dev nD) {t : Fin cfg0.N} {y : S1x344x256.Idx} {i : S1x344x1024.Idx} (h : At t y i) :
    (iblk m c 1 t : FVec Ideal S1x344x256 .f32) (ix3 0 (y 1) (y 2)) = weight m c i := by
  obtain ⟨-, ⟨e0, e1, e2⟩, -⟩ := index_facts t
  obtain ⟨h1, h2⟩ := h
  have h0 : (i 0).val < 1 := (i 0).isLt
  refine congrArg (weight m c) (index3_eq ?_ ?_ ?_)
  · show win0_1.index t 0 * 1 + 1 * 0 = (i 0).val; omega
  · show win0_1.index t 1 * 344 + 1 * (y 1).val = (i 1).val; omega
  · show win0_1.index t 2 * 256 + 1 * (y 2).val = (i 2).val; omega

/-- The first moment of a point's block is the whole array's at the index's place. -/
theorem at_mom1 (c : Dev nD) {t : Fin cfg0.N} {y : S1x344x256.Idx} {i : S1x344x1024.Idx} (h : At t y i) :
    (iblk m c 2 t : FVec Ideal S1x344x256 .f32) (ix3 0 (y 1) (y 2)) = mom1 m c i := by
  obtain ⟨-, -, ⟨e0, e1, e2⟩, -⟩ := index_facts t
  obtain ⟨h1, h2⟩ := h
  have h0 : (i 0).val < 1 := (i 0).isLt
  refine congrArg (mom1 m c) (index3_eq ?_ ?_ ?_)
  · show win0_2.index t 0 * 1 + 1 * 0 = (i 0).val; omega
  · show win0_2.index t 1 * 344 + 1 * (y 1).val = (i 1).val; omega
  · show win0_2.index t 2 * 256 + 1 * (y 2).val = (i 2).val; omega

/-- The second moment of a point's block is the whole array's at the index's place. -/
theorem at_mom2 (c : Dev nD) {t : Fin cfg0.N} {y : S1x344x256.Idx} {i : S1x344x1024.Idx} (h : At t y i) :
    (iblk m c 3 t : FVec Ideal S1x344x256 .f32) (ix3 0 (y 1) (y 2)) = mom2 m c i := by
  obtain ⟨-, -, -, ⟨e0, e1, e2⟩, -⟩ := index_facts t
  obtain ⟨h1, h2⟩ := h
  have h0 : (i 0).val < 1 := (i 0).isLt
  refine congrArg (mom2 m c) (index3_eq ?_ ?_ ?_)
  · show win0_3.index t 0 * 1 + 1 * 0 = (i 0).val; omega
  · show win0_3.index t 1 * 344 + 1 * (y 1).val = (i 1).val; omega
  · show win0_3.index t 2 * 256 + 1 * (y 2).val = (i 2).val; omega

/-- The point whose block holds an index of the whole array. -/
theorem point_lt (i : S1x344x1024.Idx) : 4 * ((i 1).val / 344) + (i 2).val / 256 < cfg0.N := by
  have h1 : (i 1).val < 344 := (i 1).isLt
  have h2 : (i 2).val < 1024 := (i 2).isLt
  have hN : cfg0.N = 4 := N_0
  omega

/-- An index lies in the block of its point, when the block's place is the point's. -/
theorem in_block (i : S1x344x1024.Idx) (k : Fin 3 → ℕ) (h0 : k 0 = 0)
    (h1 : k 1 = (4 * ((i 1).val / 344) + (i 2).val / 256) / 4) (h2 : k 2 = (4 * ((i 1).val / 344) + (i 2).val / 256) % 4) :
    ∀ a : Fin 3, k a * (![1, 344, 256] : Fin 3 → ℕ) a ≤ (i a).val
      ∧ (i a).val < k a * (![1, 344, 256] : Fin 3 → ℕ) a + (![1, 344, 256] : Fin 3 → ℕ) a := by
  have hi0 : (i 0).val < 1 := (i 0).isLt
  have hi1 : (i 1).val < 344 := (i 1).isLt
  have hi2 : (i 2).val < 1024 := (i 2).isLt
  intro a
  match a with
  | ⟨0, _⟩ => show k 0 * 1 ≤ (i 0).val ∧ (i 0).val < k 0 * 1 + 1; omega
  | ⟨1, _⟩ => show k 1 * 344 ≤ (i 1).val ∧ (i 1).val < k 1 * 344 + 344; omega
  | ⟨2, _⟩ => show k 2 * 256 ≤ (i 2).val ∧ (i 2).val < k 2 * 256 + 256; omega

/-- The gradient the call leaves, entry by entry. -/
theorem result_grad (c : Dev nD) : (dats m 0 c).arrAt 4 cfg0.N = fun i : S1x344x1024.Idx => gradAt (parts m c) i :=
  (dats m 0 c).arrAt_eq_of_cover 4 _ (fun t _ => by
    obtain ⟨-, -, -, -, ⟨e0, e1, e2⟩, -⟩ := index_facts t
    rw [flushed4]
    funext y
    have h : At t y (((cfg0.win 4).blk t).view.emb y) :=
      ⟨by show win0_4.index t 1 * 344 + 1 * (y 1).val = _; omega, by show win0_4.index t 2 * 256 + 1 * (y 2).val = _; omega⟩
    exact (out_grad _ _ _ _ y).trans (at_grad m c h)) fun i => by
    obtain ⟨-, -, -, -, ⟨e0, e1, e2⟩, -⟩ := index_facts ⟨_, point_lt i⟩
    refine ⟨⟨_, point_lt i⟩, flush0_4 _, ?_⟩
    show i ∈ ((View.whole main_v0_0).slice (win0_4.rect ⟨_, point_lt i⟩)).set
    rw [View.set_slice_whole, Rect.mem_set_unit]
    exact in_block i _ e0 e1 e2

/-- The step the call leaves, entry by entry. -/
theorem result_step (c : Dev nD) : (dats m 0 c).arrAt 5 cfg0.N = fun i : S1x344x1024.Idx => step (gradAt (parts m c) i) (weight m c i) (mom1 m c i) (mom2 m c i) :=
  (dats m 0 c).arrAt_eq_of_cover 5 _ (fun t _ => by
    obtain ⟨-, -, -, -, -, ⟨e0, e1, e2⟩, -⟩ := index_facts t
    rw [flushed5]
    funext y
    have h : At t y (((cfg0.win 5).blk t).view.emb y) :=
      ⟨by show win0_5.index t 1 * 344 + 1 * (y 1).val = _; omega, by show win0_5.index t 2 * 256 + 1 * (y 2).val = _; omega⟩
    exact (out_step _ _ _ _ y).trans (step_congr (at_grad m c h) (at_weight m c h) (at_mom1 m c h) (at_mom2 m c h))) fun i => by
    obtain ⟨-, -, -, -, -, ⟨e0, e1, e2⟩, -⟩ := index_facts ⟨_, point_lt i⟩
    refine ⟨⟨_, point_lt i⟩, flush0_5 _, ?_⟩
    show i ∈ ((View.whole main_v0_1).slice (win0_5.rect ⟨_, point_lt i⟩)).set
    rw [View.set_slice_whole, Rect.mem_set_unit]
    exact in_block i _ e0 e1 e2

/-- The first moment the call leaves, entry by entry. -/
theorem result_first (c : Dev nD) : (dats m 0 c).arrAt 6 cfg0.N = fun i : S1x344x1024.Idx => first (gradAt (parts m c) i) (mom1 m c i) :=
  (dats m 0 c).arrAt_eq_of_cover 6 _ (fun t _ => by
    obtain ⟨-, -, -, -, -, -, ⟨e0, e1, e2⟩, -⟩ := index_facts t
    rw [flushed6]
    funext y
    have h : At t y (((cfg0.win 6).blk t).view.emb y) :=
      ⟨by show win0_6.index t 1 * 344 + 1 * (y 1).val = _; omega, by show win0_6.index t 2 * 256 + 1 * (y 2).val = _; omega⟩
    exact (out_first _ _ _ _ y).trans (first_congr (at_grad m c h) (at_mom1 m c h))) fun i => by
    obtain ⟨-, -, -, -, -, -, ⟨e0, e1, e2⟩, -⟩ := index_facts ⟨_, point_lt i⟩
    refine ⟨⟨_, point_lt i⟩, flush0_6 _, ?_⟩
    show i ∈ ((View.whole main_v0_2).slice (win0_6.rect ⟨_, point_lt i⟩)).set
    rw [View.set_slice_whole, Rect.mem_set_unit]
    exact in_block i _ e0 e1 e2

/-- The second moment the call leaves, entry by entry. -/
theorem result_second (c : Dev nD) : (dats m 0 c).arrAt 7 cfg0.N = fun i : S1x344x1024.Idx => second (gradAt (parts m c) i) (mom2 m c i) :=
  (dats m 0 c).arrAt_eq_of_cover 7 _ (fun t _ => by
    obtain ⟨-, -, -, -, -, -, -, e0, e1, e2⟩ := index_facts t
    rw [flushed7]
    funext y
    have h : At t y (((cfg0.win 7).blk t).view.emb y) :=
      ⟨by show win0_7.index t 1 * 344 + 1 * (y 1).val = _; omega, by show win0_7.index t 2 * 256 + 1 * (y 2).val = _; omega⟩
    exact (out_second _ _ _ _ y).trans (second_congr (at_grad m c h) (at_mom2 m c h))) fun i => by
    obtain ⟨-, -, -, -, -, -, -, e0, e1, e2⟩ := index_facts ⟨_, point_lt i⟩
    refine ⟨⟨_, point_lt i⟩, flush0_7 _, ?_⟩
    show i ∈ ((View.whole main_v0_3).slice (win0_7.rect ⟨_, point_lt i⟩)).set
    rw [View.set_slice_whole, Rect.mem_set_unit]
    exact in_block i _ e0 e1 e2

section Reference

open Cert.AdamDownRefIdeal

variable (p : FVec Ideal S8x344x1024 .f32) (w u v : FVec Ideal S1x344x1024 .f32)

/-- The reference's gradient: the sum of the parts. -/
theorem ref_grad (i : S1x344x1024.Idx) : Read.val_main_v1 (F := Ideal) p i = gradAt p i := by
  refine (unit_apply (φ := .f32) (Read.val_main_v0 (F := Ideal) p) _ i).trans ((Read.val_main_v0_apply p _).trans ?_)
  refine Eq.trans ?_ (grad_eq_sum _)
  refine congrArg₂ (· + ·) rfl (Finset.sum_congr rfl fun k _ => congrArg p ?_)
  exact index3_eq rfl rfl rfl

/-- The reference's first moment. -/
theorem ref_first (i : S1x344x1024.Idx) : Read.val_main_v6 (F := Ideal) p u i = first (gradAt p i) (u i) := by
  simp -implicitDefEqProofs only [Read.val_main_v2_apply, Read.val_main_v3_apply, Read.val_main_v4_apply, Read.val_main_v5_apply, Read.val_main_v6_apply, Read.val_main_cst_0_apply, Read.val_main_cst_1_apply, Ideal.addf_def, Ideal.mulf_def]
  rw [ref_grad]
  rfl
/-- The reference's second moment. -/
theorem ref_second (i : S1x344x1024.Idx) : Read.val_main_v12 (F := Ideal) p v i = second (gradAt p i) (v i) := by
  simp -implicitDefEqProofs only [Read.val_main_v7_apply, Read.val_main_v8_apply, Read.val_main_v9_apply, Read.val_main_v10_apply, Read.val_main_v11_apply, Read.val_main_v12_apply, Read.val_main_cst_2_apply, Read.val_main_cst_3_apply, Ideal.addf_def, Ideal.mulf_def]
  rw [ref_grad]
  rfl
/-- The reference's step. -/
theorem ref_step (i : S1x344x1024.Idx) : Read.val_main_v25 (F := Ideal) p w u v i = step (gradAt p i) (w i) (u i) (v i) := by
  simp -implicitDefEqProofs only [Read.val_main_v13_apply, Read.val_main_v14_apply, Read.val_main_v15_apply, Read.val_main_v16_apply, Read.val_main_v17_apply, Read.val_main_v18_apply, Read.val_main_v19_apply, Read.val_main_v20_apply, Read.val_main_v21_apply, Read.val_main_v22_apply, Read.val_main_v23_apply, Read.val_main_v24_apply, Read.val_main_v25_apply, Read.val_main_cst_4_apply, Read.val_main_cst_5_apply, Read.val_main_cst_6_apply, Read.val_main_cst_7_apply, Read.val_main_cst_8_apply, Ideal.addf_def, Ideal.mulf_def, Ideal.hostDivf_def, Ideal.hostUnary_sqrt_def]
  rw [ref_first, ref_second]
  rfl

end Reference

/-- The reference program runs to completion with every semaphore at rest and its arguments as they were. -/
theorem frame_reference [hF : Cert.AdamDownRefIdeal.Facts] : Cert.quiescent_AdamDownRefIdeal :=
  fun m ρ _ => (θ_run Cert.AdamDownRefIdeal.defs _ _).mono
    (fun r h => ⟨fun c => (h c).2.2.2.2, sem_eq_zero_of_no_sems rfl r.2⟩) (Cert.AdamDownRefIdeal.Value.run (F := Ideal) m ρ)

/-- From the same arguments the kernel and the reference leave the same gradient, step and moments. -/
theorem algebraic [hK : Cert.AdamDownIdeal.Facts] [hR : Cert.AdamDownRefIdeal.Facts] : Cert.algebraic_AdamDownIdeal_AdamDownRefIdeal :=
  fun m ρ m' ρ' _ hm => ⟨fun c => fun i => gradAt (parts m c) i,
    fun c => fun i => step (gradAt (parts m c) i) (weight m c i) (mom1 m c i) (mom2 m c i),
    fun c => fun i => first (gradAt (parts m c) i) (mom1 m c i), fun c => fun i => second (gradAt (parts m c) i) (mom2 m c i),
    (θ_run Cert.AdamDownIdeal.defs _ _).mono (fun r h c => ⟨(h c).1.trans (result_grad m c), (h c).2.1.trans (result_step m c),
      (h c).2.2.1.trans (result_first m c), (h c).2.2.2.1.trans (result_second m c), (h c).2.2.2.2⟩)
      (Cert.AdamDownIdeal.Value.run_blocks (F := Ideal) m ρ),
    (θ_run Cert.AdamDownRefIdeal.defs _ _).mono (fun r h c => ⟨
      (h c).1.trans (by rw [(hm c).1]; exact funext fun i => ref_grad _ i),
      (h c).2.1.trans (by rw [(hm c).1, (hm c).2.1, (hm c).2.2.1, (hm c).2.2.2]; exact funext fun i => ref_step _ _ _ _ i),
      (h c).2.2.1.trans (by rw [(hm c).1, (hm c).2.2.1]; exact funext fun i => ref_first _ _ i),
      (h c).2.2.2.1.trans (by rw [(hm c).1, (hm c).2.2.2]; exact funext fun i => ref_second _ _ i),
      (h c).2.2.2.2⟩)
      (Cert.AdamDownRefIdeal.Value.run (F := Ideal) m' ρ')⟩

end Cert.AdamDownIdeal.Adam

end
-- ==== Proof.AdamRepValue.lean ====
/-
  The weights held whole by every device, packed into one array: the AdamW call's four results, computed block by block, are the gradient summed over its
  parts, the step and the two moments that the reference computes.
-/
module

public import proofs.«01_k».proof.Proof.Adam
public import proofs.«01_k».proof.Defs
public import Idealize.ShloMosaic.Lib.Quiescent
public import proofs.«01_k».proof.Proof.Gen.AdamRepIdeal.Value
public import proofs.«01_k».proof.Proof.Gen.AdamRepRefIdeal.Run
public import proofs.«01_k».proof.Proof.Gen.AdamRepRefIdeal.Read

@[expose] public section

noncomputable section

namespace Cert.AdamRepIdeal.Adam

open Cert.AdamRepIdeal Cert.AdamRepIdeal.Gen Cert.AdamRepIdeal.Value Cert.Adam
open Idealize.ShloMosaic Idealize.ShloMosaic.TcCoe Idealize.ShloMosaic.ValueIdx Idealize.SL.Sem

section Blocks

variable (x0 : FVec Ideal S8x192x128 .f32) (x1 x2 x3 : FVec Ideal S192x128 .f32)

/-- The gradient of a block, read at an index: the eight parts added. -/
theorem block_grad (j : S192x128.Idx) : k0_pay5 (F := Ideal) x0 x1 x2 x3 j = grad fun d => x0 (ix3 d (j 0) (j 1)) :=
  chain _ (slice_apply (e := .f32) (n := 8) x0 0 (by decide) _ _ j) (slice_apply (e := .f32) (n := 8) x0 1 (by decide) _ _ j)
    (slice_apply (e := .f32) (n := 8) x0 2 (by decide) _ _ j) (slice_apply (e := .f32) (n := 8) x0 3 (by decide) _ _ j)
    (slice_apply (e := .f32) (n := 8) x0 4 (by decide) _ _ j) (slice_apply (e := .f32) (n := 8) x0 5 (by decide) _ _ j)
    (slice_apply (e := .f32) (n := 8) x0 6 (by decide) _ _ j) (slice_apply (e := .f32) (n := 8) x0 7 (by decide) _ _ j)

/-- A load of the whole block reads the block. -/
theorem block_arg (x : FVec Ideal S192x128 .f32) (j : S192x128.Idx) :
    View.ld (Val := Elt Ideal) (e' := .f32) x r0_8 j = x j :=
  congrFun (View.ld_unit_zero (Val := Elt Ideal) (e := .f32) (S := S192x128) offsets2_zero _ x) j

/-- What the point stores in the gradient's block. -/
theorem out_grad (y : S192x128.Idx) : out0_4 (F := Ideal) x0 x1 x2 x3 y = grad fun d => x0 (ix3 d (y 0) (y 1)) := by
  unfold out0_4
  rw [View.canon_unit_zero offsets2_zero]
  exact block_grad x0 x1 x2 x3 _

/-- What the point stores in the step's block. -/
theorem out_step (y : S192x128.Idx) : out0_5 (F := Ideal) x0 x1 x2 x3 y
    = step (grad fun d => x0 (ix3 d (y 0) (y 1))) (x1 y) (x2 y) (x3 y) := by
  unfold out0_5 k0_pay2
  rw [View.canon_unit_zero offsets2_zero]
  exact step_congr (block_grad x0 x1 x2 x3 _) (block_arg x1 _) (block_arg x2 _) (block_arg x3 _)

/-- What the point stores in the first moment's block. -/
theorem out_first (y : S192x128.Idx) : out0_6 (F := Ideal) x0 x1 x2 x3 y = first (grad fun d => x0 (ix3 d (y 0) (y 1))) (x2 y) := by
  unfold out0_6
  rw [View.canon_unit_zero offsets2_zero]
  exact first_congr (block_grad x0 x1 x2 x3 _) (block_arg x2 _)

/-- What the point stores in the second moment's block. -/
theorem out_second (y : S192x128.Idx) : out0_7 (F := Ideal) x0 x1 x2 x3 y = second (grad fun d => x0 (ix3 d (y 0) (y 1))) (x3 y) := by
  unfold out0_7
  rw [View.canon_unit_zero offsets2_zero]
  exact second_congr (block_grad x0 x1 x2 x3 _) (block_arg x3 _)

end Blocks

variable (m : (ℓ : Loc nD τ sig) → Buf (Elt Ideal) ℓ)

/-- The arguments: the parts of the gradient, the weights and their two moments. -/
abbrev parts (c : Dev nD) : FVec Ideal S8x192x128 .f32 := m ((c : Thread nD τ).loc main_arg0)
abbrev weight (c : Dev nD) : FVec Ideal S192x128 .f32 := m ((c : Thread nD τ).loc main_arg1)
abbrev mom1 (c : Dev nD) : FVec Ideal S192x128 .f32 := m ((c : Thread nD τ).loc main_arg2)
abbrev mom2 (c : Dev nD) : FVec Ideal S192x128 .f32 := m ((c : Thread nD τ).loc main_arg3)

/-- The gradient at an entry of the whole array. -/
abbrev gradAt (p : FVec Ideal S8x192x128 .f32) (i : S192x128.Idx) : EReal := grad fun d => p (ix3 d (i 0) (i 1))

/-- The single point's block of every array is at its start. -/
theorem index_facts : ∀ t : Fin cfg0.N,
    (win0_0.index t 0 = 0 ∧ win0_0.index t 1 = 0 ∧ win0_0.index t 2 = 0)
    ∧ (∀ a, win0_1.index t a = 0) ∧ (∀ a, win0_2.index t a = 0) ∧ (∀ a, win0_3.index t a = 0)
    ∧ (∀ a, win0_4.index t a = 0) ∧ (∀ a, win0_5.index t a = 0) ∧ (∀ a, win0_6.index t a = 0) ∧ (∀ a, win0_7.index t a = 0) :=
  (by decide +kernel : ∀ t : Fin grid0.N, _)

/-- The gradient of the point's block is the whole array's. -/
theorem at_grad (c : Dev nD) (t : Fin cfg0.N) {y i : S192x128.Idx} (h : i = y) :
    (grad fun d => (iblk m c 0 t : FVec Ideal S8x192x128 .f32) (ix3 d (y 0) (y 1))) = gradAt (parts m c) i := grad_congr fun d => by
  obtain ⟨⟨e0, e1, e2⟩, -⟩ := index_facts t
  subst h
  refine congrArg (parts m c) (index3_eq ?_ ?_ ?_)
  · show win0_0.index t 0 * 8 + 1 * d.val = d.val; omega
  · show win0_0.index t 1 * 192 + 1 * (i 0).val = (i 0).val; omega
  · show win0_0.index t 2 * 128 + 1 * (i 1).val = (i 1).val; omega

/-- The weight of the point's block is the whole array's. -/
theorem at_weight (c : Dev nD) (t : Fin cfg0.N) {y i : S192x128.Idx} (h : i = y) :
    (iblk m c 1 t : FVec Ideal S192x128 .f32) y = weight m c i := by
  have e := (index_facts t).2.1
  have e0 := e 0
  have e1 := e 1
  subst h
  refine congrArg (weight m c) (index2_eq ?_ ?_)
  · show win0_1.index t 0 * 192 + 1 * (i 0).val = (i 0).val; omega
  · show win0_1.index t 1 * 128 + 1 * (i 1).val = (i 1).val; omega

/-- The first moment of the point's block is the whole array's. -/
theorem at_mom1 (c : Dev nD) (t : Fin cfg0.N) {y i : S192x128.Idx} (h : i = y) :
    (iblk m c 2 t : FVec Ideal S192x128 .f32) y = mom1 m c i := by
  have e := (index_facts t).2.2.1
  have e0 := e 0
  have e1 := e 1
  subst h
  refine congrArg (mom1 m c) (index2_eq ?_ ?_)
  · show win0_2.index t 0 * 192 + 1 * (i 0).val = (i 0).val; omega
  · show win0_2.index t 1 * 128 + 1 * (i 1).val = (i 1).val; omega

/-- The second moment of the point's block is the whole array's. -/
theorem at_mom2 (c : Dev nD) (t : Fin cfg0.N) {y i : S192x128.Idx} (h : i = y) :
    (iblk m c 3 t : FVec Ideal S192x128 .f32) y = mom2 m c i := by
  have e := (index_facts t).2.2.2.1
  have e0 := e 0
  have e1 := e 1
  subst h
  refine congrArg (mom2 m c) (index2_eq ?_ ?_)
  · show win0_3.index t 0 * 192 + 1 * (i 0).val = (i 0).val; omega
  · show win0_3.index t 1 * 128 + 1 * (i 1).val = (i 1).val; omega

/-- Every index lies in the block at the start. -/
theorem in_block (i : S192x128.Idx) (k : Fin 2 → ℕ) (h : ∀ a, k a = 0) :
    ∀ a : Fin 2, k a * (![192, 128] : Fin 2 → ℕ) a ≤ (i a).val
      ∧ (i a).val < k a * (![192, 128] : Fin 2 → ℕ) a + (![192, 128] : Fin 2 → ℕ) a := by
  have hi0 : (i 0).val < 192 := (i 0).isLt
  have hi1 : (i 1).val < 128 := (i 1).isLt
  have h0 := h 0
  have h1 := h 1
  intro a
  match a with
  | ⟨0, _⟩ => show k 0 * 192 ≤ (i 0).val ∧ (i 0).val < k 0 * 192 + 192; omega
  | ⟨1, _⟩ => show k 1 * 128 ≤ (i 1).val ∧ (i 1).val < k 1 * 128 + 128; omega

/-- The gradient the call leaves, entry by entry. -/
theorem result_grad (c : Dev nD) : (dats m 0 c).arrAt 4 cfg0.N = fun i : S192x128.Idx => gradAt (parts m c) i :=
  (dats m 0 c).arrAt_eq_of_cover 4 _ (fun t _ => by
    have e := (index_facts t).2.2.2.2.1
    have e0 := e 0
    have e1 := e 1
    rw [flushed4]
    funext y
    have h : ((cfg0.win 4).blk t).view.emb y = y := index2_eq
      (by show win0_4.index t 0 * 192 + 1 * (y 0).val = _; omega) (by show win0_4.index t 1 * 128 + 1 * (y 1).val = _; omega)
    exact (out_grad _ _ _ _ y).trans (at_grad m c t h)) fun i => by
    refine ⟨t0_0, flush0_4 _, ?_⟩
    show i ∈ ((View.whole main_v0_0).slice (win0_4.rect t0_0)).set
    rw [View.set_slice_whole, Rect.mem_set_unit]
    exact in_block i _ (index_facts t0_0).2.2.2.2.1

/-- The step the call leaves, entry by entry. -/
theorem result_step (c : Dev nD) : (dats m 0 c).arrAt 5 cfg0.N = fun i : S192x128.Idx => step (gradAt (parts m c) i) (weight m c i) (mom1 m c i) (mom2 m c i) :=
  (dats m 0 c).arrAt_eq_of_cover 5 _ (fun t _ => by
    have e := (index_facts t).2.2.2.2.2.1
    have e0 := e 0
    have e1 := e 1
    rw [flushed5]
    funext y
    have h : ((cfg0.win 5).blk t).view.emb y = y := index2_eq
      (by show win0_5.index t 0 * 192 + 1 * (y 0).val = _; omega) (by show win0_5.index t 1 * 128 + 1 * (y 1).val = _; omega)
    exact (out_step _ _ _ _ y).trans (step_congr (at_grad m c t h) (at_weight m c t h) (at_mom1 m c t h) (at_mom2 m c t h))) fun i => by
    refine ⟨t0_0, flush0_5 _, ?_⟩
    show i ∈ ((View.whole main_v0_1).slice (win0_5.rect t0_0)).set
    rw [View.set_slice_whole, Rect.mem_set_unit]
    exact in_block i _ (index_facts t0_0).2.2.2.2.2.1

/-- The first moment the call leaves, entry by entry. -/
theorem result_first (c : Dev nD) : (dats m 0 c).arrAt 6 cfg0.N = fun i : S192x128.Idx => first (gradAt (parts m c) i) (mom1 m c i) :=
  (dats m 0 c).arrAt_eq_of_cover 6 _ (fun t _ => by
    have e := (index_facts t).2.2.2.2.2.2.1
    have e0 := e 0
    have e1 := e 1
    rw [flushed6]
    funext y
    have h : ((cfg0.win 6).blk t).view.emb y = y := index2_eq
      (by show win0_6.index t 0 * 192 + 1 * (y 0).val = _; omega) (by show win0_6.index t 1 * 128 + 1 * (y 1).val = _; omega)
    exact (out_first _ _ _ _ y).trans (first_congr (at_grad m c t h) (at_mom1 m c t h))) fun i => by
    refine ⟨t0_0, flush0_6 _, ?_⟩
    show i ∈ ((View.whole main_v0_2).slice (win0_6.rect t0_0)).set
    rw [View.set_slice_whole, Rect.mem_set_unit]
    exact in_block i _ (index_facts t0_0).2.2.2.2.2.2.1

/-- The second moment the call leaves, entry by entry. -/
theorem result_second (c : Dev nD) : (dats m 0 c).arrAt 7 cfg0.N = fun i : S192x128.Idx => second (gradAt (parts m c) i) (mom2 m c i) :=
  (dats m 0 c).arrAt_eq_of_cover 7 _ (fun t _ => by
    have e := (index_facts t).2.2.2.2.2.2.2
    have e0 := e 0
    have e1 := e 1
    rw [flushed7]
    funext y
    have h : ((cfg0.win 7).blk t).view.emb y = y := index2_eq
      (by show win0_7.index t 0 * 192 + 1 * (y 0).val = _; omega) (by show win0_7.index t 1 * 128 + 1 * (y 1).val = _; omega)
    exact (out_second _ _ _ _ y).trans (second_congr (at_grad m c t h) (at_mom2 m c t h))) fun i => by
    refine ⟨t0_0, flush0_7 _, ?_⟩
    show i ∈ ((View.whole main_v0_3).slice (win0_7.rect t0_0)).set
    rw [View.set_slice_whole, Rect.mem_set_unit]
    exact in_block i _ (index_facts t0_0).2.2.2.2.2.2.2

section Reference

open Cert.AdamRepRefIdeal

variable (p : FVec Ideal S8x192x128 .f32) (w u v : FVec Ideal S192x128 .f32)

/-- The reference's gradient: the sum of the parts. -/
theorem ref_grad (i : S192x128.Idx) : Read.val_main_v0 (F := Ideal) p i = gradAt p i := by
  refine (Read.val_main_v0_apply p i).trans (Eq.trans ?_ (grad_eq_sum _))
  refine congrArg₂ (· + ·) rfl (Finset.sum_congr rfl fun k _ => congrArg p ?_)
  exact index3_eq rfl rfl rfl

/-- The reference's first moment. -/
theorem ref_first (i : S192x128.Idx) : Read.val_main_v5 (F := Ideal) p u i = first (gradAt p i) (u i) := by
  simp -implicitDefEqProofs only [Read.val_main_v1_apply, Read.val_main_v2_apply, Read.val_main_v3_apply, Read.val_main_v4_apply, Read.val_main_v5_apply, Read.val_main_cst_0_apply, Read.val_main_cst_1_apply, Ideal.addf_def, Ideal.mulf_def]
  rw [ref_grad]
  rfl
/-- The reference's second moment. -/
theorem ref_second (i : S192x128.Idx) : Read.val_main_v11 (F := Ideal) p v i = second (gradAt p i) (v i) := by
  simp -implicitDefEqProofs only [Read.val_main_v6_apply, Read.val_main_v7_apply, Read.val_main_v8_apply, Read.val_main_v9_apply, Read.val_main_v10_apply, Read.val_main_v11_apply, Read.val_main_cst_2_apply, Read.val_main_cst_3_apply, Ideal.addf_def, Ideal.mulf_def]
  rw [ref_grad]
  rfl
/-- The reference's step. -/
theorem ref_step (i : S192x128.Idx) : Read.val_main_v24 (F := Ideal) p w u v i = step (gradAt p i) (w i) (u i) (v i) := by
  simp -implicitDefEqProofs only [Read.val_main_v12_apply, Read.val_main_v13_apply, Read.val_main_v14_apply, Read.val_main_v15_apply, Read.val_main_v16_apply, Read.val_main_v17_apply, Read.val_main_v18_apply, Read.val_main_v19_apply, Read.val_main_v20_apply, Read.val_main_v21_apply, Read.val_main_v22_apply, Read.val_main_v23_apply, Read.val_main_v24_apply, Read.val_main_cst_4_apply, Read.val_main_cst_5_apply, Read.val_main_cst_6_apply, Read.val_main_cst_7_apply, Read.val_main_cst_8_apply, Ideal.addf_def, Ideal.mulf_def, Ideal.hostDivf_def, Ideal.hostUnary_sqrt_def]
  rw [ref_first, ref_second]
  rfl

end Reference

/-- The reference program runs to completion with every semaphore at rest and its arguments as they were. -/
theorem frame_reference [hF : Cert.AdamRepRefIdeal.Facts] : Cert.quiescent_AdamRepRefIdeal :=
  fun m ρ _ => (θ_run Cert.AdamRepRefIdeal.defs _ _).mono
    (fun r h => ⟨fun c => (h c).2.2.2.2, sem_eq_zero_of_no_sems rfl r.2⟩) (Cert.AdamRepRefIdeal.Value.run (F := Ideal) m ρ)

/-- From the same arguments the kernel and the reference leave the same gradient, step and moments. -/
theorem algebraic [hK : Cert.AdamRepIdeal.Facts] [hR : Cert.AdamRepRefIdeal.Facts] : Cert.algebraic_AdamRepIdeal_AdamRepRefIdeal :=
  fun m ρ m' ρ' _ hm => ⟨fun c => fun i => gradAt (parts m c) i,
    fun c => fun i => step (gradAt (parts m c) i) (weight m c i) (mom1 m c i) (mom2 m c i),
    fun c => fun i => first (gradAt (parts m c) i) (mom1 m c i), fun c => fun i => second (gradAt (parts m c) i) (mom2 m c i),
    (θ_run Cert.AdamRepIdeal.defs _ _).mono (fun r h c => ⟨(h c).1.trans (result_grad m c), (h c).2.1.trans (result_step m c),
      (h c).2.2.1.trans (result_first m c), (h c).2.2.2.1.trans (result_second m c), (h c).2.2.2.2⟩)
      (Cert.AdamRepIdeal.Value.run_blocks (F := Ideal) m ρ),
    (θ_run Cert.AdamRepRefIdeal.defs _ _).mono (fun r h c => ⟨
      (h c).1.trans (by rw [(hm c).1]; exact funext fun i => ref_grad _ i),
      (h c).2.1.trans (by rw [(hm c).1, (hm c).2.1, (hm c).2.2.1, (hm c).2.2.2]; exact funext fun i => ref_step _ _ _ _ i),
      (h c).2.2.1.trans (by rw [(hm c).1, (hm c).2.2.1]; exact funext fun i => ref_first _ _ i),
      (h c).2.2.2.1.trans (by rw [(hm c).1, (hm c).2.2.2]; exact funext fun i => ref_second _ _ i),
      (h c).2.2.2.2⟩)
      (Cert.AdamRepRefIdeal.Value.run (F := Ideal) m' ρ')⟩

end Cert.AdamRepIdeal.Adam

end
-- ==== Proof.Rows.lean ====
/-
  The root-mean-square norm of one row and its gradient, as functions of the row; and the logistic gate.
-/
module

public import Idealize.ShloMosaic.Lib.Pointwise
public import Idealize.ShloMosaic.Lib.Pipeline.Value

@[expose] public section

noncomputable section

namespace Cert.Rows

open Idealize.ShloMosaic
open scoped BigOperators

/-- The number a 32-bit pattern denotes. -/
abbrev num (b : BitVec 32) : EReal := Ideal.ofBits .f32 b

/-- The mean square of a row, and the small constant. -/
def power (x : Fin 1024 → EReal) : EReal := Ideal.div (∑ k, x k * x k) (num 0x44800000#32) + num 0x358637BD#32
/-- The factor the norm multiplies a row with. -/
def scale (x : Fin 1024 → EReal) : EReal := Ideal.rsqrt (power x)
/-- A row, normed and multiplied with the gain. -/
def normRow (x g : Fin 1024 → EReal) (j : Fin 1024) : EReal := x j * scale x * g j
/-- What the gradient of the factor contributes: `u` is the gradient of the scaled row. -/
def pull (x u : Fin 1024 → EReal) : EReal :=
  Ideal.div ((∑ k, x k * u k) * (num 0xBF000000#32 * Ideal.div (scale x) (power x))) (num 0x44800000#32)
/-- The gradient of the norm with respect to the row. -/
def gradRow (x u : Fin 1024 → EReal) (j : Fin 1024) : EReal := u j * scale x + x j * pull x u + pull x u * x j
/-- A row's part of the gradient with respect to the gain. -/
def gradGain (x d : Fin 1024 → EReal) (j : Fin 1024) : EReal := x j * scale x * d j

/-- The gradient of the norm added to the gradient that reaches the row past it. -/
def gradRowAdd (e x u : Fin 1024 → EReal) (j : Fin 1024) : EReal := e j + u j * scale x + x j * pull x u + pull x u * x j

/-- The logistic function as the quotient the references write. -/
def gate (p : EReal) : EReal := Ideal.div (num 0x3F800000#32) (num 0x3F800000#32 + Ideal.exp (-p))

/-- The kernel's logistic function is the references' quotient. -/
theorem logistic_eq (p : EReal) : Ideal.logistic p = gate p := by
  unfold Ideal.logistic gate num
  rw [Ideal.ofBits_one_f32]

end Cert.Rows

end
-- ==== Proof.Norm1Value.lean ====
/-
  The gradient of the first norm: each row's gradient added to the residual path's, and the gain's gradient summed over tiles of 256 rows.
-/
module

public import proofs.«01_k».proof.Proof.Rows
public import proofs.«01_k».proof.Defs
public import Idealize.ShloMosaic.Lib.Quiescent
public import Idealize.ShloMosaic.Lib.Pipeline.ValueKit
public import proofs.«01_k».proof.Proof.Gen.Norm1Ideal.Value
public import proofs.«01_k».proof.Proof.Gen.Norm1RefIdeal.Run
public import proofs.«01_k».proof.Proof.Gen.Norm1RefIdeal.Read

@[expose] public section

set_option maxRecDepth 16384

noncomputable section

namespace Cert.Norm1Ideal.Rows

open Cert.Norm1Ideal Cert.Norm1Ideal.Gen Cert.Norm1Ideal.Value Cert.Rows
open Idealize.ShloMosaic Idealize.ShloMosaic.TcCoe Idealize.SL.Sem
open scoped BigOperators

/-- A row of the block the kernel computes is the gradient of the norm of that row. -/
theorem row_apply (x : Vec Ideal S256x1024 .f32) (g : Vec Ideal S1x1024 .f32) (d : Vec Ideal S256x1024 .f32) (r : Fin 256) (l : Fin 1024) :
    k0_pay7 x g d (ix2 r l) = gradRow (fun k => x (ix2 r k)) (fun k => d (ix2 r k) * g (ix2 0 k)) l := by
  pointwise [k0_pay7, k0_pay5, k0_pay4, gradRow, pull, scale, power, num, Finset.univ_unique, Finset.sum_singleton]

/-- The residual path's gradient added to a block, entry by entry. -/
theorem add_apply (e p : Vec Ideal S256x1024 .f32) (i : S256x1024.Idx) : k0_pay1 e p i = e i + p i := add_comm (p i : EReal) (e i)
/-- What a point adds to the gain's gradient so far. -/
theorem acc_apply (v a : Vec Ideal S1x1024 .f32) (i : S1x1024.Idx) : k0_pay2 v a i = a i + v i := by
  pointwise [k0_pay2]
/-- The gain's gradient begins at zero. -/
theorem zero_apply (i : S1x1024.Idx) : k0_pay3 (F := Ideal) i = 0 := by
  pointwise [k0_pay3]

/-- A point's part of the gain's gradient: the sum over its rows. -/
theorem gain_apply (x d : Vec Ideal S256x1024 .f32) (l : Fin 1024) :
    k0_pay6 x d (ix2 0 l) = ∑ r : Fin 256, gradGain (fun k => x (ix2 r k)) (fun k => d (ix2 r k)) l := by
  pointwise [k0_pay6, k0_pay5, k0_pay4, gradGain, scale, power, num, Finset.univ_unique, Finset.sum_singleton]

open Cert.Norm1RefIdeal.Read in
/-- An entry of the reference's gradient of the rows. -/
theorem ref_row (x d e : FVec Ideal S8192x1024 .f32) (g : FVec Ideal S1x1024 .f32) (r : Fin 8192) (l : Fin 1024) :
    val_main_v38 (F := Ideal) x g d e (ix2 r l) = e (ix2 r l) + gradRow (fun k => x (ix2 r k)) (fun k => d (ix2 r k) * g (ix2 0 k)) l := by
  simp only [val_main_v38, val_main_v36, val_main_v35, val_main_v34, val_main_v33, val_main_v32, val_main_v31, val_main_v30, val_main_v29, val_main_v28, val_main_v27, val_main_v26, val_main_v25, val_main_v24, val_main_v23, val_main_v21, val_main_v20, val_main_v14, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  pointwise [gradRow, pull, scale, power, num, Finset.univ_unique, Finset.sum_singleton]

open Cert.Norm1RefIdeal.Read in
/-- An entry of the reference's gradient of the gain. -/
theorem ref_gain (x d : FVec Ideal S8192x1024 .f32) (l : Fin 1024) :
    val_main_v37 (F := Ideal) x d (ix2 0 l) = ∑ r : Fin 8192, gradGain (fun k => x (ix2 r k)) (fun k => d (ix2 r k)) l := by
  simp only [val_main_v37, val_main_v22, val_main_v19, val_main_v18, val_main_v17, val_main_v13, val_main_v12, val_main_v8, val_main_v7, val_main_v6, val_main_v5, val_main_v4, val_main_v3, val_main_v2, val_main_v1, val_main_cst, val_main_cst_0, val_main_cst_1, val_main_cst_2, val_main_cst_3, val_main_cst_4]
  pointwise [gradGain, scale, power, num, Finset.univ_unique, Finset.sum_singleton]

variable (m : (ℓ : Loc nD τ sig) → Buf (Elt Ideal) ℓ)

/-- The rows. -/
abbrev rows (c : Dev nD) : FVec Ideal S8192x1024 .f32 := m ((c : Thread nD τ).loc main_arg0)
/-- The gain. -/
abbrev gain (c : Dev nD) : FVec Ideal S1x1024 .f32 := m ((c : Thread nD τ).loc main_arg1)
/-- The gradient of the normed rows. -/
abbrev dout (c : Dev nD) : FVec Ideal S8192x1024 .f32 := m ((c : Thread nD τ).loc main_arg2)
/-- The gradient of the residual path. -/
abbrev dres (c : Dev nD) : FVec Ideal S8192x1024 .f32 := m ((c : Thread nD τ).loc main_arg3)

/-- The gradient of the rows, entry by entry. -/
def dx (x d e : FVec Ideal S8192x1024 .f32) (g : FVec Ideal S1x1024 .f32) : FVec Ideal S8192x1024 .f32 := fun i =>
  e i + gradRow (fun k => x (ix2 (i 0) k)) (fun k => d (ix2 (i 0) k) * g (ix2 0 k)) (i 1)
/-- The gradient of the gain, entry by entry. -/
def dg (x d : FVec Ideal S8192x1024 .f32) : FVec Ideal S1x1024 .f32 := fun i =>
  ∑ r : Fin 8192, gradGain (fun k => x (ix2 r k)) (fun k => d (ix2 r k)) (i 1)

/-- The blocks a point reads and writes, decided over the grid. -/
theorem index_facts : ∀ t : Fin cfg0.N,
    win0_0.index t = ![t.val, 0] ∧ win0_1.index t = ![0, 0] ∧ win0_2.index t = ![t.val, 0] ∧ win0_3.index t = ![t.val, 0]
    ∧ win0_4.index t = ![t.val, 0] ∧ win0_5.index t = ![0, 0] :=
  (by decide +kernel : ∀ t : Fin grid0.N, _)

/-- A point's block of the rows is rows `256 t` onwards. -/
theorem read_rows (c : Dev nD) (t : Fin cfg0.N) (r : Fin 256) (k : Fin 1024) (h : t.val * 256 + r.val < 8192) :
    (iblk m c 0 t : Vec Ideal S256x1024 .f32) (ix2 r k) = rows m c (ix2 ⟨t.val * 256 + r.val, h⟩ k) := by
  blk_ext [iblk, V, index_facts t]
/-- The gain's block is the gain. -/
theorem read_gain (c : Dev nD) (t : Fin cfg0.N) (k : Fin 1024) :
    (iblk m c 1 t : Vec Ideal S1x1024 .f32) (ix2 0 k) = gain m c (ix2 0 k) := by
  blk_ext [iblk, V, index_facts t]
/-- A point's block of the normed rows' gradient is its rows `256 t` onwards. -/
theorem read_dout (c : Dev nD) (t : Fin cfg0.N) (r : Fin 256) (k : Fin 1024) (h : t.val * 256 + r.val < 8192) :
    (iblk m c 2 t : Vec Ideal S256x1024 .f32) (ix2 r k) = dout m c (ix2 ⟨t.val * 256 + r.val, h⟩ k) := by
  blk_ext [iblk, V, index_facts t]
/-- A point's block of the residual path's gradient is its rows `256 t` onwards. -/
theorem read_dres (c : Dev nD) (t : Fin cfg0.N) (r : Fin 256) (k : Fin 1024) (h : t.val * 256 + r.val < 8192) :
    (iblk m c 3 t : Vec Ideal S256x1024 .f32) (ix2 r k) = dres m c (ix2 ⟨t.val * 256 + r.val, h⟩ k) := by
  blk_ext [iblk, V, index_facts t]

/-- The call leaves the gradient of the rows. -/
theorem result_dx (c : Dev nD) : (dats m 0 c).arrAt 4 cfg0.N = dx (rows m c) (dout m c) (dres m c) (gain m c) := by
  refine (dats m 0 c).arrAt_eq_of_covers 4 _ (by decide +kernel) fun t hf y => ?_
  blk_simp
  rw [after0_4]
  have key : (outsAt0 m c t.val t.isLt).1 = k0_pay1 (iblk m c 3 t) (k0_pay7 (iblk m c 0 t) (iblk m c 1 t) (iblk m c 2 t)) := by
    by_cases h : t.val % 32 = 0
    · rw [outsAt0_A m c t h]; frame_out
    · rw [outsAt0_B m c t h]; frame_out
  rw [key]
  obtain ⟨r, l, rfl⟩ : ∃ (r : Fin 256) (l : Fin 1024), y = ix2 r l := ⟨y 0, y 1, eq_ix2 y⟩
  have ht : t.val < 32 := t.isLt
  have hr : t.val * 256 + r.val < 8192 := by omega
  have hi : (win0_4.blk t).view.emb (ix2 r l) = ix2 (⟨t.val * 256 + r.val, hr⟩ : Fin 8192) l := by
    blk_ext [index_facts t]
  rw [hi]
  rw [add_apply, row_apply, read_dres m c t r l hr]
  simp only [read_rows m c t r _ hr, read_dout m c t r _ hr, read_gain m c t]
  rfl

/-- The call leaves the gradient of the gain. -/
theorem result_dg (c : Dev nD) : (dats m 0 c).arrAt 5 cfg0.N = dg (rows m c) (dout m c) := by
  refine (dats m 0 c).arrAt_eq_of_covers 5 _ (by decide +kernel) fun t hf y => ?_
  blk_simp
  rw [after0_5]
  obtain ⟨u, l, rfl⟩ : ∃ (u : Fin 1) (l : Fin 1024), y = ix2 u l := ⟨y 0, y 1, eq_ix2 y⟩
  obtain rfl : u = 0 := Subsingleton.elim _ _
  have hi : (win0_5.blk t).view.emb (ix2 0 l) = (ix2 0 l : S1x1024.Idx) := by
    blk_ext [index_facts t]
  rw [hi]
  have ht : t.val + 1 = 32 := by have := (flush0_5 t).mp hf; have : t.val < 32 := t.isLt; omega
  have hs := Pipeline.eq_sum_fin_of_reset_step_apply_last (N := cfg0.N) (fun n h => (fun l : Fin 1024 => (outsAt0 m c n h).2 (ix2 0 l) : Fin 1024 → EReal)) 32 (fun _ => (0 : EReal))
    (fun t l => ∑ r : Fin 256, gradGain (fun k => (iblk m c 0 t : Vec Ideal S256x1024 .f32) (ix2 r k)) (fun k => (iblk m c 2 t : Vec Ideal S256x1024 .f32) (ix2 r k)) l)
    (fun t h l => by
      rw [outsAt0_A m c t h]
      frame_out
      rw [acc_apply, gain_apply, zero_apply])
    (fun t h l => by
      rw [outsAt0_B m c t h]
      frame_out
      rw [acc_apply, gain_apply]) (le_refl _) t ht l
  refine Eq.trans hs ?_
  rw [zero_add]
  exact Fin.sum_mul_add_congr fun s r hl => by
    simp only [read_rows m c s r _ hl, read_dout m c s r _ hl]
    rfl

/-- The reference's frame: it ends, and its arguments are unchanged. -/
theorem frame_reference : Cert.quiescent_Norm1RefIdeal := fun m ρ _ =>
  (θ_run Cert.Norm1RefIdeal.defs _ _).mono
    (fun r h => ⟨fun c => (h c).2.2, sem_eq_zero_of_no_sems rfl r.2⟩) (Cert.Norm1RefIdeal.Value.run (F := Ideal) m ρ)

/-- The kernel's results are the reference's. -/
theorem algebraic [hK : Cert.Norm1Ideal.Facts] [hR : Cert.Norm1RefIdeal.Facts] : Cert.algebraic_Norm1Ideal_Norm1RefIdeal :=
  fun m ρ m' ρ' _ hm => ⟨fun c => dx (rows m c) (dout m c) (dres m c) (gain m c), fun c => dg (rows m c) (dout m c),
    (θ_run Cert.Norm1Ideal.defs _ _).mono (fun r h c => ⟨(h c).1.trans (result_dx m c), (h c).2.1.trans (result_dg m c), (h c).2.2⟩)
      (Cert.Norm1Ideal.Value.run_blocks (F := Ideal) m ρ),
    (θ_run Cert.Norm1RefIdeal.defs _ _).mono (fun r h c => ⟨
      (h c).1.trans (by
        rw [Cert.Norm1RefIdeal.Read.val_main_v38_eq, (hm c).1, (hm c).2.1, (hm c).2.2.1, (hm c).2.2.2]
        refine funext fun i => ?_
        obtain ⟨r, l, rfl⟩ : ∃ (r : Fin 8192) (l : Fin 1024), i = ix2 r l := ⟨i 0, i 1, eq_ix2 i⟩
        exact ref_row _ _ _ _ r l),
      (h c).2.1.trans (by
        rw [Cert.Norm1RefIdeal.Read.val_main_v37_eq, (hm c).1, (hm c).2.2.1]
        refine funext fun i => ?_
        obtain ⟨u, l, rfl⟩ : ∃ (u : Fin 1) (l : Fin 1024), i = ix2 u l := ⟨i 0, i 1, eq_ix2 i⟩
        obtain rfl : u = 0 := Subsingleton.elim _ _
        exact ref_gain _ _ l),
      (h c).2.2⟩)
      (Cert.Norm1RefIdeal.Value.run (F := Ideal) m' ρ')⟩

end Cert.Norm1Ideal.Rows

end
-- ==== Proof.Norm2Value.lean ====
/-
  The gradient of the second norm, taken of the residual sum, and the gain's gradient summed over tiles of 256 rows.
-/
module

public import proofs.«01_k».proof.Proof.Rows
public import proofs.«01_k».proof.Defs
public import Idealize.ShloMosaic.Lib.Quiescent
public import Idealize.ShloMosaic.Lib.Pipeline.ValueKit
public import proofs.«01_k».proof.Proof.Gen.Norm2Ideal.Value
public import proofs.«01_k».proof.Proof.Gen.Norm2RefIdeal.Run
public import proofs.«01_k».proof.Proof.Gen.Norm2RefIdeal.Read

@[expose] public section

set_option maxRecDepth 16384

noncomputable section

namespace Cert.Norm2Ideal.Rows

open Cert.Norm2Ideal Cert.Norm2Ideal.Gen Cert.Norm2Ideal.Value Cert.Rows
open Idealize.ShloMosaic Idealize.ShloMosaic.TcCoe Idealize.SL.Sem
open scoped BigOperators

/-- A row of the block the kernel computes is the gradient of the norm of the residual sum, added to the residual path's. -/
theorem row_apply (x o e d : Vec Ideal S256x1024 .f32) (g : Vec Ideal S1x1024 .f32) (r : Fin 256) (l : Fin 1024) :
    k0_pay1 (k0_pay4 x o) (k0_pay9 x o g e d) (k0_pay10 x o g d) (ix2 r l)
      = gradRowAdd (fun k => e (ix2 r k)) (fun k => x (ix2 r k) + o (ix2 r k)) (fun k => d (ix2 r k) * g (ix2 0 k)) l := by
  pointwise [k0_pay1, k0_pay9, k0_pay10, k0_pay8, k0_pay6, k0_pay5, k0_pay4, gradRowAdd, pull, scale, power, num, Finset.univ_unique, Finset.sum_singleton]

/-- What a point adds to the gain's gradient so far. -/
theorem acc_apply (v a : Vec Ideal S1x1024 .f32) (i : S1x1024.Idx) : k0_pay2 v a i = a i + v i := by
  pointwise [k0_pay2]
/-- The gain's gradient begins at zero. -/
theorem zero_apply (i : S1x1024.Idx) : k0_pay3 (F := Ideal) i = 0 := by
  pointwise [k0_pay3]

/-- A point's part of the gain's gradient: the sum over its rows. -/
theorem gain_apply (x o d : Vec Ideal S256x1024 .f32) (l : Fin 1024) :
    k0_pay7 x o d (ix2 0 l) = ∑ r : Fin 256, gradGain (fun k => x (ix2 r k) + o (ix2 r k)) (fun k => d (ix2 r k)) l := by
  pointwise [k0_pay7, k0_pay6, k0_pay5, k0_pay4, gradGain, scale, power, num, Finset.univ_unique, Finset.sum_singleton]

open Cert.Norm2RefIdeal.Read in
/-- An entry of the reference's gradient of the residual sum. -/
theorem ref_row (x o e d : FVec Ideal S8192x1024 .f32) (g : FVec Ideal S1x1024 .f32) (r : Fin 8192) (l : Fin 1024) :
    val_main_v38 (F := Ideal) x o g e d (ix2 r l)
      = gradRowAdd (fun k => e (ix2 r k)) (fun k => x (ix2 r k) + o (ix2 r k)) (fun k => d (ix2 r k) * g (ix2 0 k)) l := by
  simp only [val_main_v38, val_main_v37, val_main_v36, val_main_v35, val_main_v34, val_main_v33, val_main_v32, val_main_v31, val_main_v30, val_main_v29, val_main_v28, val_main_v27, val_main_v26, val_main_v25, val_main_v24, val_main_v22, val_main_v21, val_main_v15, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_5, val_main_cst_6, val_main_cst_7]
  pointwise [gradRowAdd, pull, scale, power, num, Finset.univ_unique, Finset.sum_singleton]

open Cert.Norm2RefIdeal.Read in
/-- An entry of the reference's gradient of the gain. -/
theorem ref_gain (x o d : FVec Ideal S8192x1024 .f32) (l : Fin 1024) :
    val_main_v39 (F := Ideal) x o d (ix2 0 l) = ∑ r : Fin 8192, gradGain (fun k => x (ix2 r k) + o (ix2 r k)) (fun k => d (ix2 r k)) l := by
  simp only [val_main_v39, val_main_v23, val_main_v20, val_main_v19, val_main_v18, val_main_v14, val_main_v13, val_main_v9, val_main_v8, val_main_v7, val_main_v6, val_main_v5, val_main_v4, val_main_v3, val_main_v2, val_main_v0, val_main_cst, val_main_cst_0, val_main_cst_1, val_main_cst_3, val_main_cst_4]
  pointwise [gradGain, scale, power, num, Finset.univ_unique, Finset.sum_singleton]

variable (m : (ℓ : Loc nD τ sig) → Buf (Elt Ideal) ℓ)

/-- The rows. -/
abbrev rows (c : Dev nD) : FVec Ideal S8192x1024 .f32 := m ((c : Thread nD τ).loc main_arg0)
/-- What the mixers add to the rows. -/
abbrev mixed (c : Dev nD) : FVec Ideal S8192x1024 .f32 := m ((c : Thread nD τ).loc main_arg1)
/-- The gain. -/
abbrev gain (c : Dev nD) : FVec Ideal S1x1024 .f32 := m ((c : Thread nD τ).loc main_arg2)
/-- The gradient of the residual path. -/
abbrev dres (c : Dev nD) : FVec Ideal S8192x1024 .f32 := m ((c : Thread nD τ).loc main_arg3)
/-- The gradient of the normed rows. -/
abbrev dout (c : Dev nD) : FVec Ideal S8192x1024 .f32 := m ((c : Thread nD τ).loc main_arg4)

/-- The gradient of the residual sum, entry by entry. -/
def dx (x o e d : FVec Ideal S8192x1024 .f32) (g : FVec Ideal S1x1024 .f32) : FVec Ideal S8192x1024 .f32 := fun i =>
  gradRowAdd (fun k => e (ix2 (i 0) k)) (fun k => x (ix2 (i 0) k) + o (ix2 (i 0) k)) (fun k => d (ix2 (i 0) k) * g (ix2 0 k)) (i 1)
/-- The gradient of the gain, entry by entry. -/
def dg (x o d : FVec Ideal S8192x1024 .f32) : FVec Ideal S1x1024 .f32 := fun i =>
  ∑ r : Fin 8192, gradGain (fun k => x (ix2 r k) + o (ix2 r k)) (fun k => d (ix2 r k)) (i 1)

/-- The blocks a point reads and writes, decided over the grid. -/
theorem index_facts : ∀ t : Fin cfg0.N,
    win0_0.index t = ![t.val, 0] ∧ win0_1.index t = ![t.val, 0] ∧ win0_2.index t = ![0, 0] ∧ win0_3.index t = ![t.val, 0]
    ∧ win0_4.index t = ![t.val, 0] ∧ win0_5.index t = ![t.val, 0] ∧ win0_6.index t = ![0, 0] :=
  (by decide +kernel : ∀ t : Fin grid0.N, _)

/-- A point's block of the rows is its rows `256 t` onwards. -/
theorem read_rows (c : Dev nD) (t : Fin cfg0.N) (r : Fin 256) (k : Fin 1024) (h : t.val * 256 + r.val < 8192) :
    (iblk m c 0 t : Vec Ideal S256x1024 .f32) (ix2 r k) = rows m c (ix2 ⟨t.val * 256 + r.val, h⟩ k) := by
  blk_ext [iblk, V, index_facts t]
/-- A point's block of the mixers' sum is its rows `256 t` onwards. -/
theorem read_mixed (c : Dev nD) (t : Fin cfg0.N) (r : Fin 256) (k : Fin 1024) (h : t.val * 256 + r.val < 8192) :
    (iblk m c 1 t : Vec Ideal S256x1024 .f32) (ix2 r k) = mixed m c (ix2 ⟨t.val * 256 + r.val, h⟩ k) := by
  blk_ext [iblk, V, index_facts t]
/-- A point's block of the residual path's gradient is its rows `256 t` onwards. -/
theorem read_dres (c : Dev nD) (t : Fin cfg0.N) (r : Fin 256) (k : Fin 1024) (h : t.val * 256 + r.val < 8192) :
    (iblk m c 3 t : Vec Ideal S256x1024 .f32) (ix2 r k) = dres m c (ix2 ⟨t.val * 256 + r.val, h⟩ k) := by
  blk_ext [iblk, V, index_facts t]
/-- A point's block of the normed rows' gradient is its rows `256 t` onwards. -/
theorem read_dout (c : Dev nD) (t : Fin cfg0.N) (r : Fin 256) (k : Fin 1024) (h : t.val * 256 + r.val < 8192) :
    (iblk m c 4 t : Vec Ideal S256x1024 .f32) (ix2 r k) = dout m c (ix2 ⟨t.val * 256 + r.val, h⟩ k) := by
  blk_ext [iblk, V, index_facts t]
/-- The gain's block is the gain. -/
theorem read_gain (c : Dev nD) (t : Fin cfg0.N) (k : Fin 1024) :
    (iblk m c 2 t : Vec Ideal S1x1024 .f32) (ix2 0 k) = gain m c (ix2 0 k) := by
  blk_ext [iblk, V, index_facts t]

/-- The call leaves the gradient of the residual sum. -/
theorem result_dx (c : Dev nD) : (dats m 0 c).arrAt 5 cfg0.N = dx (rows m c) (mixed m c) (dres m c) (dout m c) (gain m c) := by
  refine (dats m 0 c).arrAt_eq_of_covers 5 _ (by decide +kernel) fun t hf y => ?_
  blk_simp
  rw [after0_5]
  have key : (outsAt0 m c t.val t.isLt).1 = k0_pay1 (k0_pay4 (iblk m c 0 t) (iblk m c 1 t))
      (k0_pay9 (iblk m c 0 t) (iblk m c 1 t) (iblk m c 2 t) (iblk m c 3 t) (iblk m c 4 t))
      (k0_pay10 (iblk m c 0 t) (iblk m c 1 t) (iblk m c 2 t) (iblk m c 4 t)) := by
    by_cases h : t.val % 32 = 0
    · rw [outsAt0_A m c t h]; frame_out
    · rw [outsAt0_B m c t h]; frame_out
  rw [key]
  obtain ⟨r, l, rfl⟩ : ∃ (r : Fin 256) (l : Fin 1024), y = ix2 r l := ⟨y 0, y 1, eq_ix2 y⟩
  have ht : t.val < 32 := t.isLt
  have hr : t.val * 256 + r.val < 8192 := by omega
  have hi : (win0_5.blk t).view.emb (ix2 r l) = ix2 (⟨t.val * 256 + r.val, hr⟩ : Fin 8192) l := by
    blk_ext [index_facts t]
  rw [hi]
  rw [row_apply]
  simp only [read_rows m c t r _ hr, read_mixed m c t r _ hr, read_dres m c t r _ hr, read_dout m c t r _ hr, read_gain m c t]
  rfl

/-- The call leaves the gradient of the gain. -/
theorem result_dg (c : Dev nD) : (dats m 0 c).arrAt 6 cfg0.N = dg (rows m c) (mixed m c) (dout m c) := by
  refine (dats m 0 c).arrAt_eq_of_covers 6 _ (by decide +kernel) fun t hf y => ?_
  blk_simp
  rw [after0_6]
  obtain ⟨u, l, rfl⟩ : ∃ (u : Fin 1) (l : Fin 1024), y = ix2 u l := ⟨y 0, y 1, eq_ix2 y⟩
  obtain rfl : u = 0 := Subsingleton.elim _ _
  have hi : (win0_6.blk t).view.emb (ix2 0 l) = (ix2 0 l : S1x1024.Idx) := by
    blk_ext [index_facts t]
  rw [hi]
  have ht : t.val + 1 = 32 := by have := (flush0_6 t).mp hf; have : t.val < 32 := t.isLt; omega
  have hs := Pipeline.eq_sum_fin_of_reset_step_apply_last (N := cfg0.N) (fun n h => (fun l : Fin 1024 => (outsAt0 m c n h).2 (ix2 0 l) : Fin 1024 → EReal)) 32 (fun _ => (0 : EReal))
    (fun t l => ∑ r : Fin 256, gradGain (fun k => @HAdd.hAdd EReal EReal EReal _ ((iblk m c 0 t : Vec Ideal S256x1024 .f32) (ix2 r k)) ((iblk m c 1 t : Vec Ideal S256x1024 .f32) (ix2 r k)))
      (fun k => (iblk m c 4 t : Vec Ideal S256x1024 .f32) (ix2 r k)) l)
    (fun t h l => by
      rw [outsAt0_A m c t h]
      frame_out
      rw [acc_apply, gain_apply, zero_apply])
    (fun t h l => by
      rw [outsAt0_B m c t h]
      frame_out
      rw [acc_apply, gain_apply]) (le_refl _) t ht l
  refine Eq.trans hs ?_
  rw [zero_add]
  exact Fin.sum_mul_add_congr fun s r hl => by
    simp only [read_rows m c s r _ hl, read_mixed m c s r _ hl, read_dout m c s r _ hl]
    rfl

/-- The reference's frame: it ends, and its arguments are unchanged. -/
theorem frame_reference : Cert.quiescent_Norm2RefIdeal := fun m ρ _ =>
  (θ_run Cert.Norm2RefIdeal.defs _ _).mono
    (fun r h => ⟨fun c => (h c).2.2, sem_eq_zero_of_no_sems rfl r.2⟩) (Cert.Norm2RefIdeal.Value.run (F := Ideal) m ρ)

/-- The kernel's results are the reference's. -/
theorem algebraic [hK : Cert.Norm2Ideal.Facts] [hR : Cert.Norm2RefIdeal.Facts] : Cert.algebraic_Norm2Ideal_Norm2RefIdeal :=
  fun m ρ m' ρ' _ hm => ⟨fun c => dx (rows m c) (mixed m c) (dres m c) (dout m c) (gain m c), fun c => dg (rows m c) (mixed m c) (dout m c),
    (θ_run Cert.Norm2Ideal.defs _ _).mono (fun r h c => ⟨(h c).1.trans (result_dx m c), (h c).2.1.trans (result_dg m c), (h c).2.2⟩)
      (Cert.Norm2Ideal.Value.run_blocks (F := Ideal) m ρ),
    (θ_run Cert.Norm2RefIdeal.defs _ _).mono (fun r h c => ⟨
      (h c).1.trans (by
        rw [Cert.Norm2RefIdeal.Read.val_main_v38_eq, (hm c).1, (hm c).2.1, (hm c).2.2.1, (hm c).2.2.2.1, (hm c).2.2.2.2]
        refine funext fun i => ?_
        obtain ⟨r, l, rfl⟩ : ∃ (r : Fin 8192) (l : Fin 1024), i = ix2 r l := ⟨i 0, i 1, eq_ix2 i⟩
        exact ref_row _ _ _ _ _ r l),
      (h c).2.1.trans (by
        rw [Cert.Norm2RefIdeal.Read.val_main_v39_eq, (hm c).1, (hm c).2.1, (hm c).2.2.2.2]
        refine funext fun i => ?_
        obtain ⟨u, l, rfl⟩ : ∃ (u : Fin 1) (l : Fin 1024), i = ix2 u l := ⟨i 0, i 1, eq_ix2 i⟩
        obtain rfl : u = 0 := Subsingleton.elim _ _
        exact ref_gain _ _ _ l),
      (h c).2.2⟩)
      (Cert.Norm2RefIdeal.Value.run (F := Ideal) m' ρ')⟩

end Cert.Norm2Ideal.Rows

end
-- ==== Proof.MergeValue.lean ====
/-
  The gradient of the merge of the two mixers by their gates: the gates' gradients and those of the mixers' outputs.
-/
module

public import proofs.«01_k».proof.Proof.Rows
public import proofs.«01_k».proof.Defs
public import Idealize.ShloMosaic.Lib.Quiescent
public import Idealize.ShloMosaic.Lib.Pipeline.ValueKit
public import proofs.«01_k».proof.Proof.Gen.MergeIdeal.Value
public import proofs.«01_k».proof.Proof.Gen.MergeRefIdeal.Run
public import proofs.«01_k».proof.Proof.Gen.MergeRefIdeal.Read

@[expose] public section

set_option maxRecDepth 16384

noncomputable section

namespace Cert.MergeIdeal.Rows

open Cert.MergeIdeal Cert.MergeIdeal.Gen Cert.MergeIdeal.Value Cert.Rows
open Idealize.ShloMosaic Idealize.ShloMosaic.TcCoe Idealize.SL.Sem
open scoped BigOperators

/-- The gradient of a gate's argument, of the gated value `y` and the gradient `d` of the merged value. -/
def dGate (p y d : EReal) : EReal := d * y * (gate p * (num 0x3F800000#32 - gate p))

/-- An entry of the first gate's gradient. -/
theorem gateA_apply (p y d : Vec Ideal S256x1024 .f32) (i : S256x1024.Idx) : k0_pay8 p y d i = dGate (p i) (y i) (d i) := by
  pointwise [k0_pay8, k0_pay1, k0_pay3, dGate, logistic_eq, num]
/-- An entry of the second gate's gradient. -/
theorem gateB_apply (p y d : Vec Ideal S256x1024 .f32) (i : S256x1024.Idx) : k0_pay6 p y d i = dGate (p i) (y i) (d i) := by
  pointwise [k0_pay6, k0_pay2, k0_pay4, dGate, logistic_eq, num]
/-- An entry of the first mixer's gradient. -/
theorem valueA_apply (p d : Vec Ideal S256x1024 .f32) (i : S256x1024.Idx) : k0_pay7 p d i = gate (p i) * d i := by
  pointwise [k0_pay7, k0_pay1, k0_pay3, logistic_eq, num]
/-- An entry of the second mixer's gradient. -/
theorem valueB_apply (p d : Vec Ideal S256x1024 .f32) (i : S256x1024.Idx) : k0_pay5 p d i = gate (p i) * d i := by
  pointwise [k0_pay5, k0_pay2, k0_pay4, logistic_eq, num]

variable (m : (ℓ : Loc nD τ sig) → Buf (Elt Ideal) ℓ)

/-- The projections of the rows, the gates' arguments among them. -/
abbrev proj (c : Dev nD) : FVec Ideal S8192x5632 .f32 := m ((c : Thread nD τ).loc main_arg0)
/-- The first mixer's output. -/
abbrev outA (c : Dev nD) : FVec Ideal S8192x1024 .f32 := m ((c : Thread nD τ).loc main_arg1)
/-- The second mixer's output. -/
abbrev outB (c : Dev nD) : FVec Ideal S8192x1024 .f32 := m ((c : Thread nD τ).loc main_arg2)
/-- The gradient of the merged rows. -/
abbrev dout (c : Dev nD) : FVec Ideal S8192x1024 .f32 := m ((c : Thread nD τ).loc main_arg3)

/-- The columns of the projections that hold the gates' arguments, 1024 after the `o`-th. -/
def col (o : ℕ) (h : o + 1024 ≤ 5632) (k : Fin 1024) : Fin 5632 := ⟨o + k.val, by omega⟩
/-- A gate's gradient, entry by entry. -/
def gates (o : ℕ) (h : o + 1024 ≤ 5632) (p : FVec Ideal S8192x5632 .f32) (y d : FVec Ideal S8192x1024 .f32) : FVec Ideal S8192x1024 .f32 :=
  fun i => dGate (p (ix2 (i 0) (col o h (i 1)))) (y i) (d i)
/-- A mixer's gradient, entry by entry. -/
def values (o : ℕ) (h : o + 1024 ≤ 5632) (p : FVec Ideal S8192x5632 .f32) (d : FVec Ideal S8192x1024 .f32) : FVec Ideal S8192x1024 .f32 :=
  fun i => gate (p (ix2 (i 0) (col o h (i 1)))) * d i

open Cert.MergeRefIdeal.Read in
/-- The reference's first gate gradient. -/
theorem ref_gateA (p : FVec Ideal S8192x5632 .f32) (y d : FVec Ideal S8192x1024 .f32) : val_main_v30 (F := Ideal) p y d = gates 0 (by decide) p y d := by
  refine funext fun i => ?_
  obtain ⟨r, l, rfl⟩ : ∃ (r : Fin 8192) (l : Fin 1024), i = ix2 r l := ⟨i 0, i 1, eq_ix2 i⟩
  simp only [val_main_v30, val_main_v29, val_main_v23, val_main_v10, val_main_v9, val_main_v8, val_main_v7, val_main_v6, val_main_v5, val_main_v4, val_main_v3, val_main_v2, val_main_v0, val_main_cst, val_main_cst_0, val_main_cst_1]
  pointwise [gates, dGate, gate, num, col]
open Cert.MergeRefIdeal.Read in
/-- The reference's second gate gradient. -/
theorem ref_gateB (p : FVec Ideal S8192x5632 .f32) (y d : FVec Ideal S8192x1024 .f32) : val_main_v27 (F := Ideal) p y d = gates 1024 (by decide) p y d := by
  refine funext fun i => ?_
  obtain ⟨r, l, rfl⟩ : ∃ (r : Fin 8192) (l : Fin 1024), i = ix2 r l := ⟨i 0, i 1, eq_ix2 i⟩
  simp only [val_main_v27, val_main_v26, val_main_v24, val_main_v20, val_main_v19, val_main_v18, val_main_v17, val_main_v16, val_main_v15, val_main_v14, val_main_v13, val_main_v12, val_main_v1, val_main_cst_2, val_main_cst_3, val_main_cst_4]
  pointwise [gates, dGate, gate, num, col]
open Cert.MergeRefIdeal.Read in
/-- The reference's gradient of the first mixer. -/
theorem ref_valueA (p : FVec Ideal S8192x5632 .f32) (d : FVec Ideal S8192x1024 .f32) : val_main_v28 (F := Ideal) p d = values 0 (by decide) p d := by
  refine funext fun i => ?_
  obtain ⟨r, l, rfl⟩ : ∃ (r : Fin 8192) (l : Fin 1024), i = ix2 r l := ⟨i 0, i 1, eq_ix2 i⟩
  simp only [val_main_v28, val_main_v23, val_main_v7, val_main_v6, val_main_v5, val_main_v4, val_main_v3, val_main_v2, val_main_v0, val_main_cst, val_main_cst_0]
  pointwise [values, gate, num, col]
open Cert.MergeRefIdeal.Read in
/-- The reference's gradient of the second mixer. -/
theorem ref_valueB (p : FVec Ideal S8192x5632 .f32) (d : FVec Ideal S8192x1024 .f32) : val_main_v25 (F := Ideal) p d = values 1024 (by decide) p d := by
  refine funext fun i => ?_
  obtain ⟨r, l, rfl⟩ : ∃ (r : Fin 8192) (l : Fin 1024), i = ix2 r l := ⟨i 0, i 1, eq_ix2 i⟩
  simp only [val_main_v25, val_main_v24, val_main_v17, val_main_v16, val_main_v15, val_main_v14, val_main_v13, val_main_v12, val_main_v1, val_main_cst_2, val_main_cst_3]
  pointwise [values, gate, num, col]

/-- The blocks a point reads and writes, decided over the grid. -/
theorem index_facts : ∀ t : Fin cfg0.N,
    win0_0.index t = ![t.val, 0] ∧ win0_1.index t = ![t.val, 1] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0]
    ∧ win0_8.index t = ![t.val, 0] :=
  (by decide +kernel : ∀ t : Fin grid0.N, _)

/-- A point's first block of the projections is its rows and the first gate's columns. -/
theorem read_projA (c : Dev nD) (t : Fin cfg0.N) (r : Fin 256) (k : Fin 1024) (h : t.val * 256 + r.val < 8192) :
    (X0_0 m c t : Vec Ideal S256x1024 .f32) (ix2 r k) = proj m c (ix2 ⟨t.val * 256 + r.val, h⟩ (col 0 (by decide) k)) := by
  unfold X0_0 Pipeline.Window.fill
  rw [dif_pos (moved0_0 t _)]
  blk_ext [iblk, V, index_facts t, col]
/-- A point's second block of the projections is its rows and the second gate's columns. -/
theorem read_projB (c : Dev nD) (t : Fin cfg0.N) (r : Fin 256) (k : Fin 1024) (h : t.val * 256 + r.val < 8192) :
    (X0_1 m c t : Vec Ideal S256x1024 .f32) (ix2 r k) = proj m c (ix2 ⟨t.val * 256 + r.val, h⟩ (col 1024 (by decide) k)) := by
  unfold X0_1 Pipeline.Window.fill
  rw [dif_pos (moved0_1 t _)]
  blk_ext [iblk, V, index_facts t, col]
/-- A point's block of the first mixer's output is its rows `256 t` onwards. -/
theorem read_outA (c : Dev nD) (t : Fin cfg0.N) (r : Fin 256) (k : Fin 1024) (h : t.val * 256 + r.val < 8192) :
    (iblk m c 2 t : Vec Ideal S256x1024 .f32) (ix2 r k) = outA m c (ix2 ⟨t.val * 256 + r.val, h⟩ k) := by
  blk_ext [iblk, V, index_facts t]
/-- A point's block of the second mixer's output is its rows `256 t` onwards. -/
theorem read_outB (c : Dev nD) (t : Fin cfg0.N) (r : Fin 256) (k : Fin 1024) (h : t.val * 256 + r.val < 8192) :
    (iblk m c 3 t : Vec Ideal S256x1024 .f32) (ix2 r k) = outB m c (ix2 ⟨t.val * 256 + r.val, h⟩ k) := by
  blk_ext [iblk, V, index_facts t]
/-- A point's block of the merged rows' gradient is its rows `256 t` onwards. -/
theorem read_dout (c : Dev nD) (t : Fin cfg0.N) (r : Fin 256) (k : Fin 1024) (h : t.val * 256 + r.val < 8192) :
    (iblk m c 4 t : Vec Ideal S256x1024 .f32) (ix2 r k) = dout m c (ix2 ⟨t.val * 256 + r.val, h⟩ k) := by
  blk_ext [iblk, V, index_facts t]

/-- What a point leaves in the four blocks. -/
theorem outs_eq (c : Dev nD) (t : Fin cfg0.N) : outsAt0 m c t =
    (k0_pay8 (X0_0 m c t) (iblk m c 2 t) (iblk m c 4 t), k0_pay6 (X0_1 m c t) (iblk m c 3 t) (iblk m c 4 t),
      k0_pay7 (X0_0 m c t) (iblk m c 4 t), k0_pay5 (X0_1 m c t) (iblk m c 4 t)) := by
  unfold outsAt0
  frame_out

/-- The call leaves the first gate's gradient. -/
theorem result_gateA (c : Dev nD) : (dats m 0 c).arrAt 5 cfg0.N = gates 0 (by decide) (proj m c) (outA m c) (dout m c) := by
  refine (dats m 0 c).arrAt_eq_of_covers 5 _ (by decide +kernel) fun t hf y => ?_
  blk_simp
  rw [after0_5, outs_eq]
  obtain ⟨r, l, rfl⟩ : ∃ (r : Fin 256) (l : Fin 1024), y = ix2 r l := ⟨y 0, y 1, eq_ix2 y⟩
  have ht : t.val < 32 := t.isLt
  have hr : t.val * 256 + r.val < 8192 := by omega
  have hi : (win0_5.blk t).view.emb (ix2 r l) = ix2 (⟨t.val * 256 + r.val, hr⟩ : Fin 8192) l := by
    blk_ext [index_facts t]
  rw [hi]
  dsimp only
  rw [gateA_apply, read_projA m c t r l hr, read_outA m c t r l hr, read_dout m c t r l hr]
  rfl

/-- The call leaves the second gate's gradient. -/
theorem result_gateB (c : Dev nD) : (dats m 0 c).arrAt 6 cfg0.N = gates 1024 (by decide) (proj m c) (outB m c) (dout m c) := by
  refine (dats m 0 c).arrAt_eq_of_covers 6 _ (by decide +kernel) fun t hf y => ?_
  blk_simp
  rw [after0_6, outs_eq]
  obtain ⟨r, l, rfl⟩ : ∃ (r : Fin 256) (l : Fin 1024), y = ix2 r l := ⟨y 0, y 1, eq_ix2 y⟩
  have ht : t.val < 32 := t.isLt
  have hr : t.val * 256 + r.val < 8192 := by omega
  have hi : (win0_6.blk t).view.emb (ix2 r l) = ix2 (⟨t.val * 256 + r.val, hr⟩ : Fin 8192) l := by
    blk_ext [index_facts t]
  rw [hi]
  dsimp only
  rw [gateB_apply, read_projB m c t r l hr, read_outB m c t r l hr, read_dout m c t r l hr]
  rfl

/-- The call leaves the first mixer's gradient. -/
theorem result_valueA (c : Dev nD) : (dats m 0 c).arrAt 7 cfg0.N = values 0 (by decide) (proj m c) (dout m c) := by
  refine (dats m 0 c).arrAt_eq_of_covers 7 _ (by decide +kernel) fun t hf y => ?_
  blk_simp
  rw [after0_7, outs_eq]
  obtain ⟨r, l, rfl⟩ : ∃ (r : Fin 256) (l : Fin 1024), y = ix2 r l := ⟨y 0, y 1, eq_ix2 y⟩
  have ht : t.val < 32 := t.isLt
  have hr : t.val * 256 + r.val < 8192 := by omega
  have hi : (win0_7.blk t).view.emb (ix2 r l) = ix2 (⟨t.val * 256 + r.val, hr⟩ : Fin 8192) l := by
    blk_ext [index_facts t]
  rw [hi]
  dsimp only
  rw [valueA_apply, read_projA m c t r l hr, read_dout m c t r l hr]
  rfl

/-- The call leaves the second mixer's gradient. -/
theorem result_valueB (c : Dev nD) : (dats m 0 c).arrAt 8 cfg0.N = values 1024 (by decide) (proj m c) (dout m c) := by
  refine (dats m 0 c).arrAt_eq_of_covers 8 _ (by decide +kernel) fun t hf y => ?_
  blk_simp
  rw [after0_8, outs_eq]
  obtain ⟨r, l, rfl⟩ : ∃ (r : Fin 256) (l : Fin 1024), y = ix2 r l := ⟨y 0, y 1, eq_ix2 y⟩
  have ht : t.val < 32 := t.isLt
  have hr : t.val * 256 + r.val < 8192 := by omega
  have hi : (win0_8.blk t).view.emb (ix2 r l) = ix2 (⟨t.val * 256 + r.val, hr⟩ : Fin 8192) l := by
    blk_ext [index_facts t]
  rw [hi]
  dsimp only
  rw [valueB_apply, read_projB m c t r l hr, read_dout m c t r l hr]
  rfl

/-- The reference's frame: it ends, and its arguments are unchanged. -/
theorem frame_reference : Cert.quiescent_MergeRefIdeal := fun m ρ _ =>
  (θ_run Cert.MergeRefIdeal.defs _ _).mono
    (fun r h => ⟨fun c => (h c).2.2.2.2, sem_eq_zero_of_no_sems rfl r.2⟩) (Cert.MergeRefIdeal.Value.run (F := Ideal) m ρ)

/-- The kernel's results are the reference's. -/
theorem algebraic [hK : Cert.MergeIdeal.Facts] [hR : Cert.MergeRefIdeal.Facts] : Cert.algebraic_MergeIdeal_MergeRefIdeal :=
  fun m ρ m' ρ' _ hm => ⟨fun c => gates 0 (by decide) (proj m c) (outA m c) (dout m c), fun c => gates 1024 (by decide) (proj m c) (outB m c) (dout m c),
    fun c => values 0 (by decide) (proj m c) (dout m c), fun c => values 1024 (by decide) (proj m c) (dout m c),
    (θ_run Cert.MergeIdeal.defs _ _).mono (fun r h c => ⟨(h c).1.trans (result_gateA m c), (h c).2.1.trans (result_gateB m c),
        (h c).2.2.1.trans (result_valueA m c), (h c).2.2.2.1.trans (result_valueB m c), (h c).2.2.2.2⟩)
      (Cert.MergeIdeal.Value.run_blocks (F := Ideal) m ρ),
    (θ_run Cert.MergeRefIdeal.defs _ _).mono (fun r h c => ⟨
      (h c).1.trans (by
        rw [Cert.MergeRefIdeal.Read.val_main_v30_eq, (hm c).1, (hm c).2.1, (hm c).2.2.2]
        exact ref_gateA _ _ _),
      (h c).2.1.trans (by
        rw [Cert.MergeRefIdeal.Read.val_main_v27_eq, (hm c).1, (hm c).2.2.1, (hm c).2.2.2]
        exact ref_gateB _ _ _),
      (h c).2.2.1.trans (by
        rw [Cert.MergeRefIdeal.Read.val_main_v28_eq, (hm c).1, (hm c).2.2.2]
        exact ref_valueA _ _),
      (h c).2.2.2.1.trans (by
        rw [Cert.MergeRefIdeal.Read.val_main_v25_eq, (hm c).1, (hm c).2.2.2]
        exact ref_valueB _ _),
      (h c).2.2.2.2⟩)
      (Cert.MergeRefIdeal.Value.run (F := Ideal) m' ρ')⟩

end Cert.MergeIdeal.Rows

end
-- ==== Proof.LossValue.lean ====
/-
  The loss head: the loss of the final norm's output against the targets, and the gradients of the residual sum and of the gain.
-/
module

public import proofs.«01_k».proof.Proof.Rows
public import proofs.«01_k».proof.Defs
public import Idealize.ShloMosaic.Lib.Quiescent
public import Idealize.ShloMosaic.Lib.Pipeline.ValueKit
public import proofs.«01_k».proof.Proof.Gen.LossIdeal.Value
public import proofs.«01_k».proof.Proof.Gen.LossRefIdeal.Run
public import proofs.«01_k».proof.Proof.Gen.LossRefIdeal.Read

@[expose] public section

set_option maxRecDepth 16384

noncomputable section

namespace Cert.LossIdeal.Rows

open Cert.LossIdeal Cert.LossIdeal.Gen Cert.LossIdeal.Value Cert.Rows
open Idealize.ShloMosaic Idealize.ShloMosaic.TcCoe Idealize.SL.Sem
open scoped BigOperators

/-- The half of the reciprocal of the width, as the kernel writes it. -/
abbrev half : EReal := num 0x3A000000#32
/-- Its value. -/
theorem half_eq : half = ((1 / 2048 : ℝ) : EReal) := by
  simp [num, Ideal.ofBits, Ideal.ieee]; norm_num; rw [← EReal.coe_mul]; norm_num
/-- The width. -/
theorem width_eq : num 0x44800000#32 = ((1024 : ℝ) : EReal) := by
  simp [num, Ideal.ofBits, Ideal.ieee]; norm_num; rw [← EReal.coe_mul]; norm_num
/-- The number two. -/
theorem two_eq : num 0x40000000#32 = ((2 : ℝ) : EReal) := by
  simp [num, Ideal.ofBits, Ideal.ieee]; norm_num; rw [← EReal.coe_mul]; norm_num
/-- One half. -/
theorem point5_eq : num 0x3F000000#32 = ((1 / 2 : ℝ) : EReal) := by
  simp [num, Ideal.ofBits, Ideal.ieee]; norm_num; rw [← EReal.coe_mul]; norm_num
/-- The number one. -/
theorem one_eq : num 0x3F800000#32 = ((1 : ℝ) : EReal) := by
  simp [num, Ideal.ofBits_one_f32]

/-- Division by the width. -/
theorem div_width (s : EReal) : Ideal.div s (num 0x44800000#32) = ((1 / 1024 : ℝ) : EReal) * s := by
  rw [width_eq, Ideal.div, if_neg (by norm_num), mul_comm, ← EReal.coe_inv]; norm_num
/-- A finite factor that is not negative goes through a sum. -/
theorem mul_sum_real {ι : Type} [Fintype ι] (a : ℝ) (ha : 0 ≤ a) (f : ι → EReal) : (a : EReal) * ∑ i, f i = ∑ i, (a : EReal) * f i := by
  classical
  refine Finset.induction_on (Finset.univ : Finset ι) (by simp) fun i s hi ih => ?_
  rw [Finset.sum_insert hi, Finset.sum_insert hi, ← ih]
  exact EReal.left_distrib_of_nonneg_of_ne_top (by exact_mod_cast ha) (EReal.coe_ne_top a) _ _

/-- The error of a row: its norm against the target. -/
def err (x t g : Fin 1024 → EReal) (j : Fin 1024) : EReal := x j * scale x * g j - t j
/-- The sum of the squares of a row's errors. -/
def square (x t g : Fin 1024 → EReal) : EReal := ∑ k, err x t g k * err x t g k
/-- The gradient of the loss with respect to the norm's output. -/
def dErr (x t g : Fin 1024 → EReal) (j : Fin 1024) : EReal := err x t g j * half + half * err x t g j

/-- The reference's factor of the error is the kernel's sum. -/
theorem factor_eq (e : EReal) : Ideal.div (num 0x3F000000#32 * num 0x3F800000#32) (num 0x44800000#32) * (num 0x40000000#32 * e) = e * half + half * e := by
  rw [div_width, two_eq, point5_eq, one_eq, half_eq, ← mul_assoc, mul_comm e]
  rw [← EReal.right_distrib_of_nonneg (by norm_num) (by norm_num), ← EReal.coe_mul, ← EReal.coe_mul, ← EReal.coe_mul, ← EReal.coe_add]
  norm_num

/-- The constant the kernel takes through two reductions over one element. -/
theorem seed_eq : k0_pay14 (F := Ideal) = half := by
  pointwise [k0_pay14, Finset.univ_unique, Finset.sum_singleton]

section block
variable (t x o : Vec Ideal S256x1024 .f32) (g : Vec Ideal S1x1024 .f32)

/-- The gradient of the norm's output, of a row of the block. -/
theorem derr_apply (r : Fin 256) (l : Fin 1024) :
    k0_pay1 (k0_pay12 t x o g) (k0_pay14 (F := Ideal)) (ix2 r l) = dErr (fun k => x (ix2 r k) + o (ix2 r k)) (fun k => t (ix2 r k)) (fun k => g (ix2 0 k)) l := by
  rw [seed_eq]
  pointwise [k0_pay1, k0_pay12, k0_pay11, k0_pay9, k0_pay8, k0_pay7, dErr, err, scale, power, num, Finset.univ_unique, Finset.sum_singleton]

/-- A row of the block the kernel computes is the gradient of the norm of the residual sum. -/
theorem row_apply (r : Fin 256) (l : Fin 1024) :
    k0_pay2 (k0_pay7 x o) g (k0_pay9 x o) (k0_pay10 x o) (k0_pay12 t x o g) (k0_pay14 (F := Ideal)) (ix2 r l)
      = gradRow (fun k => x (ix2 r k) + o (ix2 r k))
          (fun k => dErr (fun k => x (ix2 r k) + o (ix2 r k)) (fun k => t (ix2 r k)) (fun k => g (ix2 0 k)) k * g (ix2 0 k)) l := by
  simp only [← derr_apply]
  unfold k0_pay2
  generalize k0_pay1 (k0_pay12 t x o g) (k0_pay14 (F := Ideal)) = d
  pointwise [k0_pay7, k0_pay9, k0_pay8, k0_pay10, gradRow, pull, scale, power, num, Finset.univ_unique, Finset.sum_singleton]

/-- What a point adds to the gain's gradient so far. -/
theorem gain_apply (a : Vec Ideal S1x1024 .f32) (l : Fin 1024) :
    k0_pay4 (k0_pay11 x o) (k0_pay12 t x o g) (k0_pay14 (F := Ideal)) a (ix2 0 l)
      = a (ix2 0 l) + ∑ r : Fin 256, gradGain (fun k => x (ix2 r k) + o (ix2 r k))
          (dErr (fun k => x (ix2 r k) + o (ix2 r k)) (fun k => t (ix2 r k)) (fun k => g (ix2 0 k))) l := by
  simp only [gradGain, ← derr_apply]
  unfold k0_pay4
  generalize k0_pay1 (k0_pay12 t x o g) (k0_pay14 (F := Ideal)) = d
  pointwise [k0_pay11, k0_pay7, k0_pay9, k0_pay8, scale, power, num, Finset.univ_unique, Finset.sum_singleton]

/-- What a point adds to the loss so far. -/
theorem loss_apply (a : Vec Ideal S1x1 .f32) (l : Fin 1) :
    k0_pay3 (k0_pay13 t x o g) a (ix2 0 l)
      = a (ix2 0 l) + ∑ r : Fin 256, half * square (fun k => x (ix2 r k) + o (ix2 r k)) (fun k => t (ix2 r k)) (fun k => g (ix2 0 k)) := by
  rw [half_eq, ← mul_sum_real _ (by norm_num), ← half_eq, mul_comm half]
  obtain rfl : l = 0 := Subsingleton.elim _ _
  pointwise [k0_pay3, k0_pay13, k0_pay12, k0_pay11, k0_pay9, k0_pay8, k0_pay7, square, err, scale, power, num, Finset.univ_unique, Finset.sum_singleton]
end block

/-- The gain's gradient begins at zero. -/
theorem zero_gain (i : S1x1024.Idx) : k0_pay6 (F := Ideal) i = 0 := by
  pointwise [k0_pay6]
/-- The loss begins at zero. -/
theorem zero_loss (i : S1x1.Idx) : k0_pay5 (F := Ideal) i = 0 := by
  pointwise [k0_pay5]

section reference
variable (x o t : FVec Ideal S8192x1024 .f32) (g : FVec Ideal S1x1024 .f32)

open Cert.LossRefIdeal.Read in
/-- An entry of the reference's gradient of the norm's output. -/
theorem ref_derr (r : Fin 8192) (l : Fin 1024) :
    val_main_v33 (F := Ideal) x o t g (ix2 r l) = dErr (fun k => x (ix2 r k) + o (ix2 r k)) (fun k => t (ix2 r k)) (fun k => g (ix2 0 k)) l := by
  unfold dErr
  rw [← factor_eq]
  simp only [val_main_v33, val_main_v32, val_main_v31, val_main_v30, val_main_v29, val_main_v28, val_main_v21, val_main_v20, val_main_v18, val_main_v17, val_main_v16, val_main_v15, val_main_v14, val_main_v13, val_main_v9, val_main_v8, val_main_v7, val_main_v6, val_main_v5, val_main_v4, val_main_v3, val_main_v2, val_main_v1, val_main_v0, val_main_cst, val_main_cst_0, val_main_cst_1, val_main_cst_10, val_main_cst_3, val_main_cst_8, val_main_cst_9]
  pointwise [err, scale, power, num, Finset.univ_unique, Finset.sum_singleton]

open Cert.LossRefIdeal.Read in
/-- An entry of the reference's gradient of the residual sum. -/
theorem ref_row (r : Fin 8192) (l : Fin 1024) :
    val_main_v53 (F := Ideal) x o t g (ix2 r l)
      = gradRow (fun k => x (ix2 r k) + o (ix2 r k))
          (fun k => dErr (fun k => x (ix2 r k) + o (ix2 r k)) (fun k => t (ix2 r k)) (fun k => g (ix2 0 k)) k * g (ix2 0 k)) l := by
  simp only [← ref_derr]
  simp only [val_main_v53, val_main_v52, val_main_v51, val_main_v50, val_main_v49, val_main_v48, val_main_v47, val_main_v46, val_main_v45, val_main_v44, val_main_v43, val_main_v42, val_main_v41, val_main_v40, val_main_v38, val_main_v37, val_main_v15, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_13, val_main_cst_14, val_main_cst_15]
  generalize val_main_v33 (F := Ideal) x o t g = d
  pointwise [gradRow, pull, scale, power, num, Finset.univ_unique, Finset.sum_singleton]

open Cert.LossRefIdeal.Read in
/-- An entry of the reference's gradient of the gain. -/
theorem ref_gain (l : Fin 1024) :
    val_main_v54 (F := Ideal) x o t g (ix2 0 l) = ∑ r : Fin 8192, gradGain (fun k => x (ix2 r k) + o (ix2 r k))
      (dErr (fun k => x (ix2 r k) + o (ix2 r k)) (fun k => t (ix2 r k)) (fun k => g (ix2 0 k))) l := by
  simp only [gradGain, ← ref_derr]
  simp only [val_main_v54, val_main_v39, val_main_v36, val_main_v35, val_main_v34, val_main_v14, val_main_v13, val_main_v9, val_main_v8, val_main_v7, val_main_v6, val_main_v5, val_main_v4, val_main_v3, val_main_v2, val_main_v0, val_main_cst, val_main_cst_0, val_main_cst_1, val_main_cst_11, val_main_cst_12]
  generalize val_main_v33 (F := Ideal) x o t g = d
  pointwise [scale, power, num, Finset.univ_unique, Finset.sum_singleton]

open Cert.LossRefIdeal.Read in
/-- The reference's loss. -/
theorem ref_loss (l : Fin 1) :
    val_main_v27 (F := Ideal) x o t g (ix2 0 l) = ∑ r : Fin 8192, half * square (fun k => x (ix2 r k) + o (ix2 r k)) (fun k => t (ix2 r k)) (fun k => g (ix2 0 k)) := by
  have h : ∀ s : EReal, half * s = ((1 / 2 : ℝ) : EReal) * Ideal.div s (num 0x44800000#32) := fun s => by
    rw [div_width, ← mul_assoc, half_eq, ← EReal.coe_mul]; norm_num
  simp only [h]
  rw [← mul_sum_real _ (by norm_num), ← point5_eq]
  obtain rfl : l = 0 := Subsingleton.elim _ _
  simp only [val_main_v27, val_main_v26, val_main_v25, val_main_v24, val_main_v23, val_main_v22, val_main_v19, val_main_v18, val_main_v17, val_main_v16, val_main_v15, val_main_v14, val_main_v13, val_main_v9, val_main_v8, val_main_v7, val_main_v6, val_main_v5, val_main_v4, val_main_v3, val_main_v2, val_main_v1, val_main_v0, val_main_cst, val_main_cst_0, val_main_cst_1, val_main_cst_4, val_main_cst_5, val_main_cst_6, val_main_cst_7]
  pointwise [square, err, scale, power, num, Finset.univ_unique, Finset.sum_singleton]
end reference

variable (m : (ℓ : Loc nD τ sig) → Buf (Elt Ideal) ℓ)

/-- The rows. -/
abbrev rows (c : Dev nD) : FVec Ideal S8192x1024 .f32 := m ((c : Thread nD τ).loc main_arg0)
/-- What the feed-forward adds to the rows. -/
abbrev fed (c : Dev nD) : FVec Ideal S8192x1024 .f32 := m ((c : Thread nD τ).loc main_arg1)
/-- The targets. -/
abbrev target (c : Dev nD) : FVec Ideal S8192x1024 .f32 := m ((c : Thread nD τ).loc main_arg2)
/-- The gain. -/
abbrev gain (c : Dev nD) : FVec Ideal S1x1024 .f32 := m ((c : Thread nD τ).loc main_arg3)

section results
variable (x o t : FVec Ideal S8192x1024 .f32) (g : FVec Ideal S1x1024 .f32)
/-- The loss. -/
def loss : FVec Ideal S1x1 .f32 := fun _ =>
  ∑ r : Fin 8192, half * square (fun k => x (ix2 r k) + o (ix2 r k)) (fun k => t (ix2 r k)) (fun k => g (ix2 0 k))
/-- The gradient of the residual sum, entry by entry. -/
def dx : FVec Ideal S8192x1024 .f32 := fun i =>
  gradRow (fun k => x (ix2 (i 0) k) + o (ix2 (i 0) k))
    (fun k => dErr (fun k => x (ix2 (i 0) k) + o (ix2 (i 0) k)) (fun k => t (ix2 (i 0) k)) (fun k => g (ix2 0 k)) k * g (ix2 0 k)) (i 1)
/-- The gradient of the gain, entry by entry. -/
def dg : FVec Ideal S1x1024 .f32 := fun i =>
  ∑ r : Fin 8192, gradGain (fun k => x (ix2 r k) + o (ix2 r k))
    (dErr (fun k => x (ix2 r k) + o (ix2 r k)) (fun k => t (ix2 r k)) (fun k => g (ix2 0 k))) (i 1)
end results

/-- The blocks a point reads and writes, decided over the grid. -/
theorem index_facts : ∀ t : Fin cfg0.N,
    win0_0.index t = ![t.val, 0] ∧ win0_1.index t = ![t.val, 0] ∧ win0_2.index t = ![t.val, 0] ∧ win0_3.index t = ![0, 0]
    ∧ win0_4.index t = ![0, 0] ∧ win0_5.index t = ![t.val, 0] ∧ win0_6.index t = ![0, 0] :=
  (by decide +kernel : ∀ t : Fin grid0.N, _)

/-- A point's block of the rows is its rows `256 t` onwards. -/
theorem read_rows (c : Dev nD) (t : Fin cfg0.N) (r : Fin 256) (k : Fin 1024) (h : t.val * 256 + r.val < 8192) :
    (iblk m c 0 t : Vec Ideal S256x1024 .f32) (ix2 r k) = rows m c (ix2 ⟨t.val * 256 + r.val, h⟩ k) := by
  blk_ext [iblk, V, index_facts t]
/-- A point's block of the feed-forward's sum is its rows `256 t` onwards. -/
theorem read_fed (c : Dev nD) (t : Fin cfg0.N) (r : Fin 256) (k : Fin 1024) (h : t.val * 256 + r.val < 8192) :
    (iblk m c 1 t : Vec Ideal S256x1024 .f32) (ix2 r k) = fed m c (ix2 ⟨t.val * 256 + r.val, h⟩ k) := by
  blk_ext [iblk, V, index_facts t]
/-- A point's block of the targets is its rows `256 t` onwards. -/
theorem read_target (c : Dev nD) (t : Fin cfg0.N) (r : Fin 256) (k : Fin 1024) (h : t.val * 256 + r.val < 8192) :
    (iblk m c 2 t : Vec Ideal S256x1024 .f32) (ix2 r k) = target m c (ix2 ⟨t.val * 256 + r.val, h⟩ k) := by
  blk_ext [iblk, V, index_facts t]
/-- The gain's block is the gain. -/
theorem read_gain (c : Dev nD) (t : Fin cfg0.N) (k : Fin 1024) :
    (iblk m c 3 t : Vec Ideal S1x1024 .f32) (ix2 0 k) = gain m c (ix2 0 k) := by
  blk_ext [iblk, V, index_facts t]

/-- A row of a point's residual sum. -/
def blkX (c : Dev nD) (t : Fin cfg0.N) (r : Fin 256) (k : Fin 1024) : EReal :=
  @HAdd.hAdd EReal EReal EReal _ ((iblk m c 0 t : Vec Ideal S256x1024 .f32) (ix2 r k)) ((iblk m c 1 t : Vec Ideal S256x1024 .f32) (ix2 r k))
/-- A row of a point's targets. -/
def blkT (c : Dev nD) (t : Fin cfg0.N) (r : Fin 256) (k : Fin 1024) : EReal := (iblk m c 2 t : Vec Ideal S256x1024 .f32) (ix2 r k)
/-- A point's gain. -/
def blkG (c : Dev nD) (t : Fin cfg0.N) (k : Fin 1024) : EReal := (iblk m c 3 t : Vec Ideal S1x1024 .f32) (ix2 0 k)
/-- The rows of a point, read off the arrays. -/
theorem blkX_eq (c : Dev nD) (t : Fin cfg0.N) (r : Fin 256) (h : t.val * 256 + r.val < 8192) :
    blkX m c t r = fun k => rows m c (ix2 ⟨t.val * 256 + r.val, h⟩ k) + fed m c (ix2 ⟨t.val * 256 + r.val, h⟩ k) :=
  funext fun k => by unfold blkX; rw [read_rows m c t r k h, read_fed m c t r k h]
/-- The targets of a point, read off the array. -/
theorem blkT_eq (c : Dev nD) (t : Fin cfg0.N) (r : Fin 256) (h : t.val * 256 + r.val < 8192) :
    blkT m c t r = fun k => target m c (ix2 ⟨t.val * 256 + r.val, h⟩ k) :=
  funext fun k => by unfold blkT; rw [read_target m c t r k h]
/-- The gain of a point, read off the array. -/
theorem blkG_eq (c : Dev nD) (t : Fin cfg0.N) : blkG m c t = fun k => gain m c (ix2 0 k) :=
  funext fun k => by unfold blkG; rw [read_gain m c t k]

/-- The call leaves the loss. -/
theorem result_loss (c : Dev nD) : (dats m 0 c).arrAt 4 cfg0.N = loss (rows m c) (fed m c) (target m c) (gain m c) := by
  refine (dats m 0 c).arrAt_eq_of_covers 4 _ (by decide +kernel) fun t hf y => ?_
  blk_simp
  rw [after0_4]
  obtain ⟨u, l, rfl⟩ : ∃ (u : Fin 1) (l : Fin 1), y = ix2 u l := ⟨y 0, y 1, eq_ix2 y⟩
  obtain rfl : u = 0 := Subsingleton.elim _ _
  have ht : t.val + 1 = 32 := by have := (flush0_4 t).mp hf; have : t.val < 32 := t.isLt; omega
  have hs := Pipeline.eq_sum_fin_of_reset_step_apply_last (N := cfg0.N) (fun n h => (fun l : Fin 1 => (outsAt0 m c n h).1 (ix2 0 l) : Fin 1 → EReal)) 32 (fun _ => (0 : EReal))
    (fun t _ => ∑ r : Fin 256, half * square (blkX m c t r) (blkT m c t r) (blkG m c t))
    (fun t h l => by
      rw [outsAt0_A m c t h]
      frame_out
      rw [loss_apply, zero_loss]
      rfl)
    (fun t h l => by
      rw [outsAt0_B m c t h]
      frame_out
      rw [loss_apply]
      rfl) (le_refl _) t ht l
  refine Eq.trans hs ?_
  rw [zero_add]
  exact Fin.sum_mul_add_congr fun s r hl => by
    rw [blkX_eq m c s r hl, blkT_eq m c s r hl, blkG_eq m c s]

/-- The call leaves the gradient of the residual sum. -/
theorem result_dx (c : Dev nD) : (dats m 0 c).arrAt 5 cfg0.N = dx (rows m c) (fed m c) (target m c) (gain m c) := by
  refine (dats m 0 c).arrAt_eq_of_covers 5 _ (by decide +kernel) fun t hf y => ?_
  blk_simp
  rw [after0_5]
  have key : (outsAt0 m c t.val t.isLt).2.1 = k0_pay2 (k0_pay7 (iblk m c 0 t) (iblk m c 1 t)) (iblk m c 3 t) (k0_pay9 (iblk m c 0 t) (iblk m c 1 t))
      (k0_pay10 (iblk m c 0 t) (iblk m c 1 t)) (k0_pay12 (iblk m c 2 t) (iblk m c 0 t) (iblk m c 1 t) (iblk m c 3 t)) (k0_pay14 (F := Ideal)) := by
    by_cases h : t.val % 32 = 0
    · rw [outsAt0_A m c t h]; frame_out
    · rw [outsAt0_B m c t h]; frame_out
  rw [key]
  obtain ⟨r, l, rfl⟩ : ∃ (r : Fin 256) (l : Fin 1024), y = ix2 r l := ⟨y 0, y 1, eq_ix2 y⟩
  have ht : t.val < 32 := t.isLt
  have hr : t.val * 256 + r.val < 8192 := by omega
  have hi : (win0_5.blk t).view.emb (ix2 r l) = ix2 (⟨t.val * 256 + r.val, hr⟩ : Fin 8192) l := by
    blk_ext [index_facts t]
  rw [hi]
  refine (row_apply (iblk m c 2 t) (iblk m c 0 t) (iblk m c 1 t) (iblk m c 3 t) r l).trans ?_
  change gradRow (blkX m c t r) (fun k => dErr (blkX m c t r) (blkT m c t r) (blkG m c t) k * blkG m c t k) l = _
  rw [blkX_eq m c t r hr, blkT_eq m c t r hr, blkG_eq m c t]
  rfl

/-- The call leaves the gradient of the gain. -/
theorem result_dg (c : Dev nD) : (dats m 0 c).arrAt 6 cfg0.N = dg (rows m c) (fed m c) (target m c) (gain m c) := by
  refine (dats m 0 c).arrAt_eq_of_covers 6 _ (by decide +kernel) fun t hf y => ?_
  blk_simp
  rw [after0_6]
  obtain ⟨u, l, rfl⟩ : ∃ (u : Fin 1) (l : Fin 1024), y = ix2 u l := ⟨y 0, y 1, eq_ix2 y⟩
  obtain rfl : u = 0 := Subsingleton.elim _ _
  have hi : (win0_6.blk t).view.emb (ix2 0 l) = (ix2 0 l : S1x1024.Idx) := by
    blk_ext [index_facts t]
  rw [hi]
  have ht : t.val + 1 = 32 := by have := (flush0_6 t).mp hf; have : t.val < 32 := t.isLt; omega
  have hs := Pipeline.eq_sum_fin_of_reset_step_apply_last (N := cfg0.N) (fun n h => (fun l : Fin 1024 => (outsAt0 m c n h).2.2 (ix2 0 l) : Fin 1024 → EReal)) 32 (fun _ => (0 : EReal))
    (fun t l => ∑ r : Fin 256, gradGain (blkX m c t r) (dErr (blkX m c t r) (blkT m c t r) (blkG m c t)) l)
    (fun t h l => by
      rw [outsAt0_A m c t h]
      frame_out
      rw [gain_apply, zero_gain]
      rfl)
    (fun t h l => by
      rw [outsAt0_B m c t h]
      frame_out
      rw [gain_apply]
      rfl) (le_refl _) t ht l
  refine Eq.trans hs ?_
  rw [zero_add]
  exact Fin.sum_mul_add_congr fun s r hl => by
    rw [blkX_eq m c s r hl, blkT_eq m c s r hl, blkG_eq m c s]
    rfl

/-- The reference's frame: it ends, and its arguments are unchanged. -/
theorem frame_reference : Cert.quiescent_LossRefIdeal := fun m ρ _ =>
  (θ_run Cert.LossRefIdeal.defs _ _).mono
    (fun r h => ⟨fun c => (h c).2.2.2, sem_eq_zero_of_no_sems rfl r.2⟩) (Cert.LossRefIdeal.Value.run (F := Ideal) m ρ)

/-- The kernel's results are the reference's. -/
theorem algebraic [hK : Cert.LossIdeal.Facts] [hR : Cert.LossRefIdeal.Facts] : Cert.algebraic_LossIdeal_LossRefIdeal :=
  fun m ρ m' ρ' _ hm => ⟨fun c => loss (rows m c) (fed m c) (target m c) (gain m c), fun c => dx (rows m c) (fed m c) (target m c) (gain m c),
    fun c => dg (rows m c) (fed m c) (target m c) (gain m c),
    (θ_run Cert.LossIdeal.defs _ _).mono (fun r h c => ⟨(h c).1.trans (result_loss m c), (h c).2.1.trans (result_dx m c), (h c).2.2.1.trans (result_dg m c), (h c).2.2.2⟩)
      (Cert.LossIdeal.Value.run_blocks (F := Ideal) m ρ),
    (θ_run Cert.LossRefIdeal.defs _ _).mono (fun r h c => ⟨
      (h c).1.trans (by
        rw [Cert.LossRefIdeal.Read.val_main_v27_eq, (hm c).1, (hm c).2.1, (hm c).2.2.1, (hm c).2.2.2]
        refine funext fun i => ?_
        obtain ⟨u, l, rfl⟩ : ∃ (u : Fin 1) (l : Fin 1), i = ix2 u l := ⟨i 0, i 1, eq_ix2 i⟩
        obtain rfl : u = 0 := Subsingleton.elim _ _
        exact ref_loss _ _ _ _ l),
      (h c).2.1.trans (by
        rw [Cert.LossRefIdeal.Read.val_main_v53_eq, (hm c).1, (hm c).2.1, (hm c).2.2.1, (hm c).2.2.2]
        refine funext fun i => ?_
        obtain ⟨r, l, rfl⟩ : ∃ (r : Fin 8192) (l : Fin 1024), i = ix2 r l := ⟨i 0, i 1, eq_ix2 i⟩
        exact ref_row _ _ _ _ r l),
      (h c).2.2.1.trans (by
        rw [Cert.LossRefIdeal.Read.val_main_v54_eq, (hm c).1, (hm c).2.1, (hm c).2.2.1, (hm c).2.2.2]
        refine funext fun i => ?_
        obtain ⟨u, l, rfl⟩ : ∃ (u : Fin 1) (l : Fin 1024), i = ix2 u l := ⟨i 0, i 1, eq_ix2 i⟩
        obtain rfl : u = 0 := Subsingleton.elim _ _
        exact ref_gain _ _ _ _ l),
      (h c).2.2.2⟩)
      (Cert.LossRefIdeal.Value.run (F := Ideal) m' ρ')⟩

end Cert.LossIdeal.Rows

end
-- ==== Proof.Norm1FwdValue.lean ====
/-
  The first norm of the rows, 256 at a time.
-/
module

public import proofs.«01_k».proof.Proof.Rows
public import proofs.«01_k».proof.Defs
public import Idealize.ShloMosaic.Lib.Quiescent
public import Idealize.ShloMosaic.Lib.Pipeline.ValueKit
public import proofs.«01_k».proof.Proof.Gen.Norm1FwdIdeal.Value
public import proofs.«01_k».proof.Proof.Gen.Norm1FwdRefIdeal.Run
public import proofs.«01_k».proof.Proof.Gen.Norm1FwdRefIdeal.Read

@[expose] public section

set_option maxRecDepth 16384

noncomputable section

namespace Cert.Norm1FwdIdeal.Rows

open Cert.Norm1FwdIdeal Cert.Norm1FwdIdeal.Gen Cert.Norm1FwdIdeal.Value Cert.Rows
open Idealize.ShloMosaic Idealize.ShloMosaic.TcCoe Idealize.SL.Sem
open scoped BigOperators

/-- A row of the block the kernel computes is the normed row. -/
theorem row_apply (x : Vec Ideal S256x1024 .f32) (g : Vec Ideal S1x1024 .f32) (r : Fin 256) (l : Fin 1024) :
    k0_pay1 x g (ix2 r l) = normRow (fun k => x (ix2 r k)) (fun k => g (ix2 0 k)) l := by
  pointwise [k0_pay1, normRow, scale, power, num, Finset.univ_unique, Finset.sum_singleton]

/-- The rows of an array normed, entry by entry. -/
def normed (x : FVec Ideal S8192x1024 .f32) (g : FVec Ideal S1x1024 .f32) : FVec Ideal S8192x1024 .bf16 := fun i =>
  normRow (fun k => x (ix2 (i 0) k)) (fun k => g (ix2 0 k)) (i 1)

open Cert.Norm1FwdRefIdeal.Read in
/-- The reference is the rows normed. -/
theorem ref_normed (x : FVec Ideal S8192x1024 .f32) (g : FVec Ideal S1x1024 .f32) : val_main_v14 (F := Ideal) x g = normed x g := by
  refine funext fun i => ?_
  obtain ⟨r, l, rfl⟩ : ∃ (r : Fin 8192) (l : Fin 1024), i = ix2 r l := ⟨i 0, i 1, eq_ix2 i⟩
  simp only [val_main_v14, val_main_v13, val_main_v10, val_main_v9, val_main_v8, val_main_v7, val_main_v5, val_main_v3, val_main_v2, val_main_v1, val_main_cst, val_main_v4, val_main_cst_0, val_main_v6, val_main_cst_1, val_main_v12, val_main_v11, val_main_v0]
  pointwise [normed, normRow, scale, power, num, Finset.univ_unique, Finset.sum_singleton]

variable (m : (ℓ : Loc nD τ sig) → Buf (Elt Ideal) ℓ)

/-- The rows. -/
abbrev rows (c : Dev nD) : FVec Ideal S8192x1024 .f32 := m ((c : Thread nD τ).loc main_arg0)
/-- The gain. -/
abbrev gain (c : Dev nD) : FVec Ideal S1x1024 .f32 := m ((c : Thread nD τ).loc main_arg1)

/-- The blocks a point reads and writes, decided over the grid. -/
theorem index_facts : ∀ t : Fin cfg0.N, win0_0.index t = ![t.val, 0] ∧ win0_1.index t = ![0, 0] ∧ win0_2.index t = ![t.val, 0] :=
  (by decide +kernel : ∀ t : Fin grid0.N, _)

/-- A point's block of the rows is rows `256 t` onwards. -/
theorem read_rows (c : Dev nD) (t : Fin cfg0.N) (r : Fin 256) (k : Fin 1024) (h : t.val * 256 + r.val < 8192) :
    (iblk m c 0 t : Vec Ideal S256x1024 .f32) (ix2 r k) = rows m c (ix2 ⟨t.val * 256 + r.val, h⟩ k) := by
  blk_ext [iblk, V, index_facts t]
/-- The gain's block is the gain. -/
theorem read_gain (c : Dev nD) (t : Fin cfg0.N) (k : Fin 1024) :
    (iblk m c 1 t : Vec Ideal S1x1024 .f32) (ix2 0 k) = gain m c (ix2 0 k) := by
  blk_ext [iblk, V, index_facts t]

/-- The call leaves the rows normed. -/
theorem result (c : Dev nD) : (dats m 0 c).arrAt 2 cfg0.N = normed (rows m c) (gain m c) := by
  refine (dats m 0 c).arrAt_eq_of_covers 2 _ (by decide +kernel) fun t hf y => ?_
  blk_simp
  rw [after0_2]
  have key : out0_2 (iblk m c 0 t) (iblk m c 1 t) = k0_pay1 (iblk m c 0 t) (iblk m c 1 t) := by
    frame_out
  rw [key]
  obtain ⟨r, l, rfl⟩ : ∃ (r : Fin 256) (l : Fin 1024), y = ix2 r l := ⟨y 0, y 1, eq_ix2 y⟩
  have ht : t.val < 32 := t.isLt
  have hr : t.val * 256 + r.val < 8192 := by omega
  have hi : (win0_2.blk t).view.emb (ix2 r l) = ix2 (⟨t.val * 256 + r.val, hr⟩ : Fin 8192) l := by
    blk_ext [index_facts t]
  rw [hi, row_apply]
  simp only [read_rows m c t r _ hr, read_gain m c t]
  rfl

/-- The reference's frame: it ends, and its arguments are unchanged. -/
theorem frame_reference : Cert.quiescent_Norm1FwdRefIdeal := fun m ρ _ =>
  (θ_run Cert.Norm1FwdRefIdeal.defs _ _).mono
    (fun r h => ⟨fun c => (h c).2, sem_eq_zero_of_no_sems rfl r.2⟩) (Cert.Norm1FwdRefIdeal.Value.run (F := Ideal) m ρ)

/-- The kernel's results are the reference's. -/
theorem algebraic [hK : Cert.Norm1FwdIdeal.Facts] [hR : Cert.Norm1FwdRefIdeal.Facts] : Cert.algebraic_Norm1FwdIdeal_Norm1FwdRefIdeal :=
  fun m ρ m' ρ' _ hm => ⟨fun c => normed (rows m c) (gain m c),
    (θ_run Cert.Norm1FwdIdeal.defs _ _).mono (fun r h c => ⟨(h c).1.trans (result m c), (h c).2⟩)
      (Cert.Norm1FwdIdeal.Value.run_blocks (F := Ideal) m ρ),
    (θ_run Cert.Norm1FwdRefIdeal.defs _ _).mono (fun r h c => ⟨
      (h c).1.trans (by
        rw [Cert.Norm1FwdRefIdeal.Read.val_main_v14_eq, (hm c).1, (hm c).2]
        exact ref_normed _ _),
      (h c).2⟩)
      (Cert.Norm1FwdRefIdeal.Value.run (F := Ideal) m' ρ')⟩

end Cert.Norm1FwdIdeal.Rows

end
-- ==== Proof.Norm2FwdValue.lean ====
/-
  The residual sum and its norm, 256 rows at a time.
-/
module

public import proofs.«01_k».proof.Proof.Rows
public import proofs.«01_k».proof.Defs
public import Idealize.ShloMosaic.Lib.Quiescent
public import Idealize.ShloMosaic.Lib.Pipeline.ValueKit
public import proofs.«01_k».proof.Proof.Gen.Norm2FwdIdeal.Value
public import proofs.«01_k».proof.Proof.Gen.Norm2FwdRefIdeal.Run
public import proofs.«01_k».proof.Proof.Gen.Norm2FwdRefIdeal.Read

@[expose] public section

set_option maxRecDepth 16384

noncomputable section

namespace Cert.Norm2FwdIdeal.Rows

open Cert.Norm2FwdIdeal Cert.Norm2FwdIdeal.Gen Cert.Norm2FwdIdeal.Value Cert.Rows
open Idealize.ShloMosaic Idealize.ShloMosaic.TcCoe Idealize.SL.Sem
open scoped BigOperators

/-- An entry of the sum the kernel computes. -/
theorem sum_apply (x o : Vec Ideal S256x1024 .f32) (i : S256x1024.Idx) : k0_pay1 x o i = x i + o i := by
  pointwise [k0_pay1]
/-- A row of the block the kernel computes is the normed sum. -/
theorem row_apply (x o : Vec Ideal S256x1024 .f32) (g : Vec Ideal S1x1024 .f32) (r : Fin 256) (l : Fin 1024) :
    k0_pay2 x o g (ix2 r l) = normRow (fun k => x (ix2 r k) + o (ix2 r k)) (fun k => g (ix2 0 k)) l := by
  pointwise [k0_pay2, k0_pay1, normRow, scale, power, num, Finset.univ_unique, Finset.sum_singleton]

/-- The residual sum, entry by entry. -/
def summed (x o : FVec Ideal S8192x1024 .f32) : FVec Ideal S8192x1024 .f32 := fun i => x i + o i
/-- The rows of the residual sum normed, entry by entry. -/
def normed (x o : FVec Ideal S8192x1024 .f32) (g : FVec Ideal S1x1024 .f32) : FVec Ideal S8192x1024 .bf16 := fun i =>
  normRow (fun k => x (ix2 (i 0) k) + o (ix2 (i 0) k)) (fun k => g (ix2 0 k)) (i 1)

open Cert.Norm2FwdRefIdeal.Read in
/-- The reference's sum. -/
theorem ref_summed (x o : FVec Ideal S8192x1024 .f32) : val_main_v0 (F := Ideal) x o = summed x o := by
  refine funext fun i => ?_
  simp only [val_main_v0]
  pointwise [summed]
open Cert.Norm2FwdRefIdeal.Read in
/-- The reference's norm is the rows of the sum normed. -/
theorem ref_normed (x o : FVec Ideal S8192x1024 .f32) (g : FVec Ideal S1x1024 .f32) : val_main_v15 (F := Ideal) x o g = normed x o g := by
  refine funext fun i => ?_
  obtain ⟨r, l, rfl⟩ : ∃ (r : Fin 8192) (l : Fin 1024), i = ix2 r l := ⟨i 0, i 1, eq_ix2 i⟩
  simp only [val_main_v15, val_main_v14, val_main_v11, val_main_v0, val_main_v10, val_main_v9, val_main_v8, val_main_v6, val_main_v4, val_main_v3, val_main_v2, val_main_cst, val_main_v5, val_main_cst_0, val_main_v7, val_main_cst_1, val_main_v13, val_main_v12, val_main_v1]
  pointwise [normed, normRow, scale, power, num, Finset.univ_unique, Finset.sum_singleton]

variable (m : (ℓ : Loc nD τ sig) → Buf (Elt Ideal) ℓ)

/-- The rows. -/
abbrev rows (c : Dev nD) : FVec Ideal S8192x1024 .f32 := m ((c : Thread nD τ).loc main_arg0)
/-- The output of the token mixing, added to the rows. -/
abbrev mixed (c : Dev nD) : FVec Ideal S8192x1024 .f32 := m ((c : Thread nD τ).loc main_arg1)
/-- The gain. -/
abbrev gain (c : Dev nD) : FVec Ideal S1x1024 .f32 := m ((c : Thread nD τ).loc main_arg2)

/-- The blocks a point reads and writes, decided over the grid. -/
theorem index_facts : ∀ t : Fin cfg0.N,
    win0_0.index t = ![t.val, 0] ∧ win0_1.index t = ![t.val, 0] ∧ win0_2.index t = ![0, 0] ∧ win0_3.index t = ![t.val, 0]
    ∧ win0_4.index t = ![t.val, 0] :=
  (by decide +kernel : ∀ t : Fin grid0.N, _)

/-- A point's block of the rows is rows `256 t` onwards. -/
theorem read_rows (c : Dev nD) (t : Fin cfg0.N) (r : Fin 256) (k : Fin 1024) (h : t.val * 256 + r.val < 8192) :
    (iblk m c 0 t : Vec Ideal S256x1024 .f32) (ix2 r k) = rows m c (ix2 ⟨t.val * 256 + r.val, h⟩ k) := by
  blk_ext [iblk, V, index_facts t]
/-- A point's block of what is added is its rows `256 t` onwards. -/
theorem read_mixed (c : Dev nD) (t : Fin cfg0.N) (r : Fin 256) (k : Fin 1024) (h : t.val * 256 + r.val < 8192) :
    (iblk m c 1 t : Vec Ideal S256x1024 .f32) (ix2 r k) = mixed m c (ix2 ⟨t.val * 256 + r.val, h⟩ k) := by
  blk_ext [iblk, V, index_facts t]
/-- The gain's block is the gain. -/
theorem read_gain (c : Dev nD) (t : Fin cfg0.N) (k : Fin 1024) :
    (iblk m c 2 t : Vec Ideal S1x1024 .f32) (ix2 0 k) = gain m c (ix2 0 k) := by
  blk_ext [iblk, V, index_facts t]

/-- The call leaves the residual sum. -/
theorem result_sum (c : Dev nD) : (dats m 0 c).arrAt 3 cfg0.N = summed (rows m c) (mixed m c) := by
  refine (dats m 0 c).arrAt_eq_of_covers 3 _ (by decide +kernel) fun t hf y => ?_
  blk_simp
  rw [after0_3]
  have key : out0_3 (iblk m c 0 t) (iblk m c 1 t) (iblk m c 2 t) = k0_pay1 (iblk m c 0 t) (iblk m c 1 t) := by
    frame_out
  rw [key]
  obtain ⟨r, l, rfl⟩ : ∃ (r : Fin 256) (l : Fin 1024), y = ix2 r l := ⟨y 0, y 1, eq_ix2 y⟩
  have ht : t.val < 32 := t.isLt
  have hr : t.val * 256 + r.val < 8192 := by omega
  have hi : (win0_3.blk t).view.emb (ix2 r l) = ix2 (⟨t.val * 256 + r.val, hr⟩ : Fin 8192) l := by
    blk_ext [index_facts t]
  rw [hi, sum_apply, read_rows m c t r l hr, read_mixed m c t r l hr]
  rfl

/-- The call leaves the residual sum's rows normed. -/
theorem result_norm (c : Dev nD) : (dats m 0 c).arrAt 4 cfg0.N = normed (rows m c) (mixed m c) (gain m c) := by
  refine (dats m 0 c).arrAt_eq_of_covers 4 _ (by decide +kernel) fun t hf y => ?_
  blk_simp
  rw [after0_4]
  have key : out0_4 (iblk m c 0 t) (iblk m c 1 t) (iblk m c 2 t) = k0_pay2 (iblk m c 0 t) (iblk m c 1 t) (iblk m c 2 t) := by
    frame_out
  rw [key]
  obtain ⟨r, l, rfl⟩ : ∃ (r : Fin 256) (l : Fin 1024), y = ix2 r l := ⟨y 0, y 1, eq_ix2 y⟩
  have ht : t.val < 32 := t.isLt
  have hr : t.val * 256 + r.val < 8192 := by omega
  have hi : (win0_4.blk t).view.emb (ix2 r l) = ix2 (⟨t.val * 256 + r.val, hr⟩ : Fin 8192) l := by
    blk_ext [index_facts t]
  rw [hi, row_apply]
  simp only [read_rows m c t r _ hr, read_mixed m c t r _ hr, read_gain m c t]
  rfl

/-- The reference's frame: it ends, and its arguments are unchanged. -/
theorem frame_reference : Cert.quiescent_Norm2FwdRefIdeal := fun m ρ _ =>
  (θ_run Cert.Norm2FwdRefIdeal.defs _ _).mono
    (fun r h => ⟨fun c => (h c).2.2, sem_eq_zero_of_no_sems rfl r.2⟩) (Cert.Norm2FwdRefIdeal.Value.run (F := Ideal) m ρ)

/-- The kernel's results are the reference's. -/
theorem algebraic [hK : Cert.Norm2FwdIdeal.Facts] [hR : Cert.Norm2FwdRefIdeal.Facts] : Cert.algebraic_Norm2FwdIdeal_Norm2FwdRefIdeal :=
  fun m ρ m' ρ' _ hm => ⟨fun c => summed (rows m c) (mixed m c), fun c => normed (rows m c) (mixed m c) (gain m c),
    (θ_run Cert.Norm2FwdIdeal.defs _ _).mono (fun r h c => ⟨(h c).1.trans (result_sum m c), (h c).2.1.trans (result_norm m c), (h c).2.2⟩)
      (Cert.Norm2FwdIdeal.Value.run_blocks (F := Ideal) m ρ),
    (θ_run Cert.Norm2FwdRefIdeal.defs _ _).mono (fun r h c => ⟨
      (h c).1.trans (by
        rw [Cert.Norm2FwdRefIdeal.Read.val_main_v0_eq, (hm c).1, (hm c).2.1]
        exact ref_summed _ _),
      (h c).2.1.trans (by
        rw [Cert.Norm2FwdRefIdeal.Read.val_main_v15_eq, (hm c).1, (hm c).2.1, (hm c).2.2]
        exact ref_normed _ _ _),
      (h c).2.2⟩)
      (Cert.Norm2FwdRefIdeal.Value.run (F := Ideal) m' ρ')⟩

end Cert.Norm2FwdIdeal.Rows

end
-- ==== Proof.MergeFwdValue.lean ====
/-
  The two mixers merged by their gates, 256 rows at a time.
-/
module

public import proofs.«01_k».proof.Proof.Rows
public import proofs.«01_k».proof.Defs
public import Idealize.ShloMosaic.Lib.Quiescent
public import Idealize.ShloMosaic.Lib.Pipeline.ValueKit
public import proofs.«01_k».proof.Proof.Gen.MergeFwdIdeal.Value
public import proofs.«01_k».proof.Proof.Gen.MergeFwdRefIdeal.Run
public import proofs.«01_k».proof.Proof.Gen.MergeFwdRefIdeal.Read

@[expose] public section

set_option maxRecDepth 16384

noncomputable section

namespace Cert.MergeFwdIdeal.Rows

open Cert.MergeFwdIdeal Cert.MergeFwdIdeal.Gen Cert.MergeFwdIdeal.Value Cert.Rows
open Idealize.ShloMosaic Idealize.ShloMosaic.TcCoe Idealize.SL.Sem
open scoped BigOperators

/-- An entry of the merged block. -/
theorem merge_apply (p q a b : Vec Ideal S256x1024 .f32) (i : S256x1024.Idx) :
    k0_pay1 p q a b i = gate (p i) * a i + gate (q i) * b i := by
  pointwise [k0_pay1, logistic_eq, num]

/-- The columns of the projections that hold the gates' arguments, 1024 after the `o`-th. -/
def col (o : ℕ) (h : o + 1024 ≤ 5632) (k : Fin 1024) : Fin 5632 := ⟨o + k.val, by omega⟩
/-- The merged rows, entry by entry. -/
def merged (p : FVec Ideal S8192x5632 .f32) (a b : FVec Ideal S8192x1024 .f32) : FVec Ideal S8192x1024 .bf16 := fun i =>
  gate (p (ix2 (i 0) (col 0 (by decide) (i 1)))) * a i + gate (p (ix2 (i 0) (col 1024 (by decide) (i 1)))) * b i

open Cert.MergeFwdRefIdeal.Read in
/-- The reference is the merged rows. -/
theorem ref_merged (p : FVec Ideal S8192x5632 .f32) (a b : FVec Ideal S8192x1024 .f32) : val_main_v17 (F := Ideal) p a b = merged p a b := by
  refine funext fun i => ?_
  obtain ⟨r, l, rfl⟩ : ∃ (r : Fin 8192) (l : Fin 1024), i = ix2 r l := ⟨i 0, i 1, eq_ix2 i⟩
  simp only [val_main_v17, val_main_v16, val_main_v8, val_main_v7, val_main_v6, val_main_cst_0, val_main_v5, val_main_v4, val_main_cst, val_main_v3, val_main_v2, val_main_v0, val_main_v15, val_main_v14, val_main_v13, val_main_cst_2, val_main_v12, val_main_v11, val_main_cst_1, val_main_v10, val_main_v9, val_main_v1]
  pointwise [merged, gate, num, col]

variable (m : (ℓ : Loc nD τ sig) → Buf (Elt Ideal) ℓ)

/-- The projections of the rows, the gates' arguments among them. -/
abbrev proj (c : Dev nD) : FVec Ideal S8192x5632 .f32 := m ((c : Thread nD τ).loc main_arg0)
/-- The first mixer's output. -/
abbrev outA (c : Dev nD) : FVec Ideal S8192x1024 .f32 := m ((c : Thread nD τ).loc main_arg1)
/-- The second mixer's output. -/
abbrev outB (c : Dev nD) : FVec Ideal S8192x1024 .f32 := m ((c : Thread nD τ).loc main_arg2)

/-- The blocks a point reads and writes, decided over the grid. -/
theorem index_facts : ∀ t : Fin cfg0.N,
    win0_0.index t = ![t.val, 0] ∧ win0_1.index t = ![t.val, 1] ∧ win0_2.index t = ![t.val, 0] ∧ win0_3.index t = ![t.val, 0]
    ∧ win0_4.index t = ![t.val, 0] :=
  (by decide +kernel : ∀ t : Fin grid0.N, _)

/-- A point's first block of the projections is its rows and the first gate's columns. -/
theorem read_projA (c : Dev nD) (t : Fin cfg0.N) (r : Fin 256) (k : Fin 1024) (h : t.val * 256 + r.val < 8192) :
    (X0_0 m c t : Vec Ideal S256x1024 .f32) (ix2 r k) = proj m c (ix2 ⟨t.val * 256 + r.val, h⟩ (col 0 (by decide) k)) := by
  unfold X0_0 Pipeline.Window.fill
  rw [dif_pos (moved0_0 t _)]
  blk_ext [iblk, V, index_facts t, col]
/-- A point's second block of the projections is its rows and the second gate's columns. -/
theorem read_projB (c : Dev nD) (t : Fin cfg0.N) (r : Fin 256) (k : Fin 1024) (h : t.val * 256 + r.val < 8192) :
    (X0_1 m c t : Vec Ideal S256x1024 .f32) (ix2 r k) = proj m c (ix2 ⟨t.val * 256 + r.val, h⟩ (col 1024 (by decide) k)) := by
  unfold X0_1 Pipeline.Window.fill
  rw [dif_pos (moved0_1 t _)]
  blk_ext [iblk, V, index_facts t, col]
/-- A point's block of the first mixer's output is its rows `256 t` onwards. -/
theorem read_outA (c : Dev nD) (t : Fin cfg0.N) (r : Fin 256) (k : Fin 1024) (h : t.val * 256 + r.val < 8192) :
    (iblk m c 2 t : Vec Ideal S256x1024 .f32) (ix2 r k) = outA m c (ix2 ⟨t.val * 256 + r.val, h⟩ k) := by
  blk_ext [iblk, V, index_facts t]
/-- A point's block of the second mixer's output is its rows `256 t` onwards. -/
theorem read_outB (c : Dev nD) (t : Fin cfg0.N) (r : Fin 256) (k : Fin 1024) (h : t.val * 256 + r.val < 8192) :
    (iblk m c 3 t : Vec Ideal S256x1024 .f32) (ix2 r k) = outB m c (ix2 ⟨t.val * 256 + r.val, h⟩ k) := by
  blk_ext [iblk, V, index_facts t]

/-- The call leaves the merged rows. -/
theorem result (c : Dev nD) : (dats m 0 c).arrAt 4 cfg0.N = merged (proj m c) (outA m c) (outB m c) := by
  refine (dats m 0 c).arrAt_eq_of_covers 4 _ (by decide +kernel) fun t hf y => ?_
  blk_simp
  rw [after0_4]
  have key : outsAt0 m c t = k0_pay1 (X0_0 m c t) (X0_1 m c t) (iblk m c 2 t) (iblk m c 3 t) := by
    unfold outsAt0
    frame_out
  rw [key]
  obtain ⟨r, l, rfl⟩ : ∃ (r : Fin 256) (l : Fin 1024), y = ix2 r l := ⟨y 0, y 1, eq_ix2 y⟩
  have ht : t.val < 32 := t.isLt
  have hr : t.val * 256 + r.val < 8192 := by omega
  have hi : (win0_4.blk t).view.emb (ix2 r l) = ix2 (⟨t.val * 256 + r.val, hr⟩ : Fin 8192) l := by
    blk_ext [index_facts t]
  rw [hi, merge_apply, read_projA m c t r l hr, read_projB m c t r l hr, read_outA m c t r l hr, read_outB m c t r l hr]
  rfl

/-- The reference's frame: it ends, and its arguments are unchanged. -/
theorem frame_reference : Cert.quiescent_MergeFwdRefIdeal := fun m ρ _ =>
  (θ_run Cert.MergeFwdRefIdeal.defs _ _).mono
    (fun r h => ⟨fun c => (h c).2, sem_eq_zero_of_no_sems rfl r.2⟩) (Cert.MergeFwdRefIdeal.Value.run (F := Ideal) m ρ)

/-- The kernel's results are the reference's. -/
theorem algebraic [hK : Cert.MergeFwdIdeal.Facts] [hR : Cert.MergeFwdRefIdeal.Facts] : Cert.algebraic_MergeFwdIdeal_MergeFwdRefIdeal :=
  fun m ρ m' ρ' _ hm => ⟨fun c => merged (proj m c) (outA m c) (outB m c),
    (θ_run Cert.MergeFwdIdeal.defs _ _).mono (fun r h c => ⟨(h c).1.trans (result m c), (h c).2⟩)
      (Cert.MergeFwdIdeal.Value.run_blocks (F := Ideal) m ρ),
    (θ_run Cert.MergeFwdRefIdeal.defs _ _).mono (fun r h c => ⟨
      (h c).1.trans (by
        rw [Cert.MergeFwdRefIdeal.Read.val_main_v17_eq, (hm c).1, (hm c).2.1, (hm c).2.2]
        exact ref_merged _ _ _),
      (h c).2⟩)
      (Cert.MergeFwdRefIdeal.Value.run (F := Ideal) m' ρ')⟩

end Cert.MergeFwdIdeal.Rows

end
-- ==== Proof.Shifts.lean ====
/-
  The shift of a sequence of 2048 entries by one place, zero moving in.
-/
module

public import Idealize.ShloMosaic.Lib.Pointwise
public import Idealize.ShloMosaic.Lib.Pipeline.Value

@[expose] public section

noncomputable section

namespace Cert.Shifts

open Idealize.ShloMosaic

/-- The entry before the `r`-th, zero at the first. -/
def prev (x : Fin 2048 → EReal) (r : Fin 2048) : EReal := if h : 0 < r.val then x ⟨r.val - 1, by omega⟩ else 0
/-- The entry after the `r`-th, zero at the last. -/
def next (x : Fin 2048 → EReal) (r : Fin 2048) : EReal := if h : r.val + 1 < 2048 then x ⟨r.val + 1, h⟩ else 0

/-- The entry before, as a rotation by one with the first entry replaced. -/
theorem prev_rot (x : Fin 2048 → EReal) (r : Fin 2048) :
    prev x r = Scalar.select (IntOp.cmpi CmpIPredicate.eq (BitVec.ofNat 32 r.val) 0#32) 0 (x ⟨(r.val + 2048 - 1) % 2048, by omega⟩) := by
  unfold prev
  by_cases h : 0 < r.val
  · have hc : IntOp.cmpi CmpIPredicate.eq (BitVec.ofNat 32 r.val) 0#32 = 0#1 := by
      have : BitVec.ofNat 32 r.val ≠ 0#32 := fun e => by
        have := congrArg BitVec.toNat e
        simp at this
        omega
      show BitVec.ofBool (BitVec.ofNat 32 r.val == _) = 0#1
      rw [beq_eq_false_iff_ne.mpr this]
      rfl
    rw [hc, dif_pos h]
    simp only [Scalar.select]
    exact congrArg x (Fin.ext (by simp only; omega))
  · have hr : r.val = 0 := by omega
    have hc : IntOp.cmpi CmpIPredicate.eq (BitVec.ofNat 32 r.val) 0#32 = 1#1 := by
      show BitVec.ofBool (BitVec.ofNat 32 r.val == _) = 1#1
      rw [hr, beq_self_eq_true]
      rfl
    rw [dif_neg h, hc]
    rfl
/-- The entry after, as a rotation by all but one with the last entry replaced. -/
theorem next_rot (x : Fin 2048 → EReal) (r : Fin 2048) :
    next x r = Scalar.select (IntOp.cmpi CmpIPredicate.eq (BitVec.ofNat 32 r.val) 2047#32) 0 (x ⟨(r.val + 2048 - 2047) % 2048, by omega⟩) := by
  unfold next
  by_cases h : r.val + 1 < 2048
  · have hc : IntOp.cmpi CmpIPredicate.eq (BitVec.ofNat 32 r.val) 2047#32 = 0#1 := by
      have : BitVec.ofNat 32 r.val ≠ 2047#32 := fun e => by
        have := congrArg BitVec.toNat e
        simp at this
        omega
      show BitVec.ofBool (BitVec.ofNat 32 r.val == _) = 0#1
      rw [beq_eq_false_iff_ne.mpr this]
      rfl
    rw [hc, dif_pos h]
    simp only [Scalar.select]
    exact congrArg x (Fin.ext (by simp only; omega))
  · have hr : r.val = 2047 := by omega
    have hc : IntOp.cmpi CmpIPredicate.eq (BitVec.ofNat 32 r.val) 2047#32 = 1#1 := by
      show BitVec.ofBool (BitVec.ofNat 32 r.val == _) = 1#1
      rw [hr, beq_self_eq_true]
      rfl
    rw [dif_neg h, hc]
    rfl
/-- The entry before, as a zero laid before the sequence without its last entry. -/
theorem prev_pad (x : Fin 2048 → EReal) (r : Fin 2048) :
    prev x r = if h : r.val < 1 then 0 else x ⟨r.val - 1, by omega⟩ := by
  unfold prev
  by_cases h : r.val < 1
  · rw [dif_pos h, dif_neg (by omega)]
  · rw [dif_neg h, dif_pos (by omega)]
/-- The entry after, as a zero laid behind the sequence without its first entry. -/
theorem next_pad (x : Fin 2048 → EReal) (r : Fin 2048) :
    next x r = if h : r.val < 2047 then x ⟨1 + r.val, by omega⟩ else 0 := by
  unfold next
  by_cases h : r.val < 2047
  · rw [dif_pos h, dif_pos (by omega)]
    exact congrArg x (Fin.ext (by simp only; omega))
  · rw [dif_neg h, dif_neg (by omega)]

end Cert.Shifts

end
-- ==== Proof.ShiftValue.lean ====
/-
  The token shift of the second mixer: each of the four sequences mixed with its neighbours, 256 columns at a time.
-/
module

public import proofs.«01_k».proof.Proof.Rows
public import proofs.«01_k».proof.Proof.Shifts
public import proofs.«01_k».proof.Defs
public import Idealize.ShloMosaic.Lib.Quiescent
public import Idealize.ShloMosaic.Lib.Pipeline.ValueKit
public import proofs.«01_k».proof.Proof.Gen.ShiftIdeal.Value
public import proofs.«01_k».proof.Proof.Gen.ShiftRefIdeal.Run
public import proofs.«01_k».proof.Proof.Gen.ShiftRefIdeal.Read

@[expose] public section

set_option maxRecDepth 16384

noncomputable section

namespace Cert.ShiftIdeal.Rows

open Cert.ShiftIdeal Cert.ShiftIdeal.Gen Cert.ShiftIdeal.Value Cert.Rows Cert.Shifts
open Idealize.ShloMosaic Idealize.ShloMosaic.TcCoe Idealize.SL.Sem
open scoped BigOperators

/-- An entry mixed with the one before and the one after. -/
def mix (x : Fin 2048 → EReal) (p n : EReal) (r : Fin 2048) : EReal := x r + p * (prev x r - x r) + n * (next x r - x r)

/-- An entry of the block the kernel computes. -/
theorem mix_apply (x : Vec Ideal S2048x256 .f32) (p n : Vec Ideal S1x256 .f32) (r : Fin 2048) (l : Fin 256) :
    k0_pay1 x p n (ix2 r l) = mix (fun k => x (ix2 k l)) (p (ix2 0 l)) (n (ix2 0 l)) r := by
  rw [mix, prev_rot, next_rot]
  pointwise [k0_pay1]

/-- The sequences shifted, entry by entry; the columns of the second mixer begin at 3584. -/
def shifted (p : FVec Ideal S8192x5632 .f32) (mp mn : FVec Ideal S1x1792 .f32) : FVec Ideal S8192x1792 .f32 := fun i =>
  mix (fun k => p (ix2 ⟨(i 0).val / 2048 * 2048 + k.val, by have : (i 0).val < 8192 := (i 0).isLt; omega⟩ ⟨3584 + (i 1).val, by have : (i 1).val < 1792 := (i 1).isLt; omega⟩))
    (mp (ix2 0 (i 1))) (mn (ix2 0 (i 1))) ⟨(i 0).val % 2048, Nat.mod_lt _ (by decide)⟩

/-- The `r`-th entry of the `b`-th sequence. -/
theorem shifted_apply (p : FVec Ideal S8192x5632 .f32) (mp mn : FVec Ideal S1x1792 .f32) (b : ℕ) (r : Fin 2048) (l : Fin 1792) (h : b * 2048 + r.val < 8192) :
    shifted p mp mn (ix2 ⟨b * 2048 + r.val, h⟩ l) = mix (fun k => p (ix2 ⟨b * 2048 + k.val, by omega⟩ ⟨3584 + l.val, by omega⟩)) (mp (ix2 0 l)) (mn (ix2 0 l)) r := by
  have h1 : (b * 2048 + r.val) / 2048 = b := by omega
  have h2 : (b * 2048 + r.val) % 2048 = r.val := by omega
  show mix (fun k => p (ix2 ⟨(b * 2048 + r.val) / 2048 * 2048 + k.val, _⟩ ⟨3584 + l.val, _⟩)) (mp (ix2 0 l)) (mn (ix2 0 l)) ⟨(b * 2048 + r.val) % 2048, _⟩ = _
  simp only [h1, h2]

open Cert.ShiftRefIdeal.Read in
/-- The reference is the sequences shifted. -/
theorem ref_shifted (p : FVec Ideal S8192x5632 .f32) (mp mn : FVec Ideal S1x1792 .f32) : val_main_v20 (F := Ideal) p mp mn = shifted p mp mn := by
  refine funext fun i => ?_
  obtain ⟨b, r, l, h, rfl⟩ : ∃ (b : Fin 4) (r : Fin 2048) (l : Fin 1792) (h : b.val * 2048 + r.val < 8192), i = ix2 ⟨b.val * 2048 + r.val, h⟩ l :=
    have hi : (i 0).val < 8192 := (i 0).isLt
    ⟨⟨(i 0).val / 2048, by omega⟩, ⟨(i 0).val % 2048, by omega⟩, i 1, by simp only; omega, (eq_ix2 i).trans (congrArg (ix2 · (i 1)) (Fin.ext (by simp only; omega)))⟩
  rw [shifted_apply, mix, prev_pad, next_pad]
  simp only [val_main_v20, val_main_v19, val_main_v10, val_main_v1, val_main_v0, val_main_v9, val_main_v8, val_main_v7, val_main_v6, val_main_v5, val_main_v3, val_main_cst, val_main_v4, val_main_v18, val_main_v17, val_main_v16, val_main_v15, val_main_v14, val_main_v11, val_main_v13, val_main_cst_0]
  pointwise []

variable (m : (ℓ : Loc nD τ sig) → Buf (Elt Ideal) ℓ)

/-- The projections of the rows, the second mixer's among them. -/
abbrev proj (c : Dev nD) : FVec Ideal S8192x5632 .f32 := m ((c : Thread nD τ).loc main_arg0)
/-- The weights of the entry before. -/
abbrev before (c : Dev nD) : FVec Ideal S1x1792 .f32 := m ((c : Thread nD τ).loc main_arg1)
/-- The weights of the entry after. -/
abbrev behind (c : Dev nD) : FVec Ideal S1x1792 .f32 := m ((c : Thread nD τ).loc main_arg2)

/-- The blocks a point reads and writes, decided over the grid. -/
theorem index_facts : ∀ t : Fin cfg0.N,
    win0_0.index t = ![t.val / 7, 14 + t.val % 7] ∧ win0_1.index t = ![0, t.val % 7] ∧ win0_2.index t = ![0, t.val % 7]
    ∧ win0_3.index t = ![t.val / 7, t.val % 7] :=
  (by decide +kernel : ∀ t : Fin grid0.N, _)

/-- A point's block of the projections is one sequence and 256 columns. -/
theorem read_proj (c : Dev nD) (t : Fin cfg0.N) (r : Fin 2048) (l : Fin 256) (h : t.val / 7 * 2048 + r.val < 8192) (h' : 3584 + (t.val % 7 * 256 + l.val) < 5632) :
    (iblk m c 0 t : Vec Ideal S2048x256 .f32) (ix2 r l) = proj m c (ix2 ⟨t.val / 7 * 2048 + r.val, h⟩ ⟨3584 + (t.val % 7 * 256 + l.val), h'⟩) := by
  blk_ext [iblk, V, index_facts t]
/-- A point's block of the weights of the entry before. -/
theorem read_before (c : Dev nD) (t : Fin cfg0.N) (l : Fin 256) (h : t.val % 7 * 256 + l.val < 1792) :
    (iblk m c 1 t : Vec Ideal S1x256 .f32) (ix2 0 l) = before m c (ix2 0 ⟨t.val % 7 * 256 + l.val, h⟩) := by
  blk_ext [iblk, V, index_facts t]
/-- A point's block of the weights of the entry after. -/
theorem read_behind (c : Dev nD) (t : Fin cfg0.N) (l : Fin 256) (h : t.val % 7 * 256 + l.val < 1792) :
    (iblk m c 2 t : Vec Ideal S1x256 .f32) (ix2 0 l) = behind m c (ix2 0 ⟨t.val % 7 * 256 + l.val, h⟩) := by
  blk_ext [iblk, V, index_facts t]

/-- The call leaves the sequences shifted. -/
theorem result (c : Dev nD) : (dats m 0 c).arrAt 3 cfg0.N = shifted (proj m c) (before m c) (behind m c) := by
  refine (dats m 0 c).arrAt_eq_of_covers 3 _ (by decide +kernel) fun t hf y => ?_
  blk_simp
  rw [after0_3]
  have key : out0_3 (iblk m c 0 t) (iblk m c 1 t) (iblk m c 2 t) = k0_pay1 (iblk m c 0 t) (iblk m c 1 t) (iblk m c 2 t) := by
    frame_out
  rw [key]
  obtain ⟨r, l, rfl⟩ : ∃ (r : Fin 2048) (l : Fin 256), y = ix2 r l := ⟨y 0, y 1, eq_ix2 y⟩
  have ht : t.val < 28 := t.isLt
  have hr : ∀ k : Fin 2048, t.val / 7 * 2048 + k.val < 8192 := fun k => by omega
  have hl : t.val % 7 * 256 + l.val < 1792 := by omega
  have hi : (win0_3.blk t).view.emb (ix2 r l) = ix2 (⟨t.val / 7 * 2048 + r.val, hr r⟩ : Fin 8192) (⟨t.val % 7 * 256 + l.val, hl⟩ : Fin 1792) := by
    blk_ext [index_facts t]
  rw [hi, shifted_apply, mix_apply, read_before m c t l hl, read_behind m c t l hl]
  simp only [read_proj m c t _ l (hr _) (by omega)]

/-- The reference's frame: it ends, and its arguments are unchanged. -/
theorem frame_reference : Cert.quiescent_ShiftRefIdeal := fun m ρ _ =>
  (θ_run Cert.ShiftRefIdeal.defs _ _).mono
    (fun r h => ⟨fun c => (h c).2, sem_eq_zero_of_no_sems rfl r.2⟩) (Cert.ShiftRefIdeal.Value.run (F := Ideal) m ρ)

/-- The kernel's results are the reference's. -/
theorem algebraic [hK : Cert.ShiftIdeal.Facts] [hR : Cert.ShiftRefIdeal.Facts] : Cert.algebraic_ShiftIdeal_ShiftRefIdeal :=
  fun m ρ m' ρ' _ hm => ⟨fun c => shifted (proj m c) (before m c) (behind m c),
    (θ_run Cert.ShiftIdeal.defs _ _).mono (fun r h c => ⟨(h c).1.trans (result m c), (h c).2⟩)
      (Cert.ShiftIdeal.Value.run_blocks (F := Ideal) m ρ),
    (θ_run Cert.ShiftRefIdeal.defs _ _).mono (fun r h c => ⟨
      (h c).1.trans (by
        rw [Cert.ShiftRefIdeal.Read.val_main_v20_eq, (hm c).1, (hm c).2.1, (hm c).2.2]
        exact ref_shifted _ _ _),
      (h c).2⟩)
      (Cert.ShiftRefIdeal.Value.run (F := Ideal) m' ρ')⟩

end Cert.ShiftIdeal.Rows

end
-- ==== Proof.ConvValue.lean ====
/-
  The convolution over three neighbouring entries and the gate: the four sequences, 256 columns (128 gates and 128 values) at a time.
-/
module

public import proofs.«01_k».proof.Proof.Rows
public import proofs.«01_k».proof.Proof.Shifts
public import proofs.«01_k».proof.Defs
public import Idealize.ShloMosaic.Lib.Quiescent
public import Idealize.ShloMosaic.Lib.Pipeline.ValueKit
public import proofs.«01_k».proof.Proof.Gen.ConvIdeal.Value
public import proofs.«01_k».proof.Proof.Gen.ConvRefIdeal.Run
public import proofs.«01_k».proof.Proof.Gen.ConvRefIdeal.Read

@[expose] public section

set_option maxRecDepth 16384

noncomputable section

namespace Cert.ConvIdeal.Rows

open Cert.ConvIdeal Cert.ConvIdeal.Gen Cert.ConvIdeal.Value Cert.Rows Cert.Shifts
open Idealize.ShloMosaic Idealize.ShloMosaic.TcCoe Idealize.SL.Sem
open scoped BigOperators

/-- Three neighbouring entries weighed and summed, and the bias. -/
def taps (x : Fin 2048 → EReal) (p o n b : EReal) (r : Fin 2048) : EReal := p * prev x r + o * x r + n * next x r + b
/-- A value gated. -/
def gated (g v : EReal) : EReal := g * gate g * v

/-- An entry of the block the kernel computes. -/
theorem conv_apply (x : Vec Ideal S2048x256 .f32) (w : Vec Ideal S3x256 .f32) (b : Vec Ideal S1x256 .f32) (r : Fin 2048) (l : Fin 128) :
    k0_pay1 x w b (ix2 r l) = gated
      (taps (fun k => x (ix2 k ⟨l.val, by omega⟩)) (w (ix2 0 ⟨l.val, by omega⟩)) (w (ix2 1 ⟨l.val, by omega⟩)) (w (ix2 2 ⟨l.val, by omega⟩)) (b (ix2 0 ⟨l.val, by omega⟩)) r)
      (taps (fun k => x (ix2 k ⟨128 + l.val, by omega⟩)) (w (ix2 0 ⟨128 + l.val, by omega⟩)) (w (ix2 1 ⟨128 + l.val, by omega⟩)) (w (ix2 2 ⟨128 + l.val, by omega⟩)) (b (ix2 0 ⟨128 + l.val, by omega⟩)) r) := by
  simp only [gated, taps, prev_rot, next_rot, ← logistic_eq]
  pointwise [k0_pay1]

/-- A column of the convolution, the `r`-th entry of the `b`-th sequence. -/
def column (u : FVec Ideal S8192x5632 .f32) (w : FVec Ideal S3x5632 .f32) (v : FVec Ideal S1x5632 .f32) (b : ℕ) (hb : b < 4) (r : Fin 2048) (j : Fin 5632) : EReal :=
  taps (fun k => u (ix2 ⟨b * 2048 + k.val, by omega⟩ j)) (w (ix2 0 j)) (w (ix2 1 j)) (w (ix2 2 j)) (v (ix2 0 j)) r

/-- The convolution gated, entry by entry: the gates of 128 columns lie before their values. -/
def conv (u : FVec Ideal S8192x5632 .f32) (w : FVec Ideal S3x5632 .f32) (v : FVec Ideal S1x5632 .f32) : FVec Ideal S8192x2816 .bf16 := fun i =>
  have h0 : (i 0).val < 8192 := (i 0).isLt
  have h1 : (i 1).val < 2816 := (i 1).isLt
  gated
    (column u w v ((i 0).val / 2048) (by omega) ⟨(i 0).val % 2048, Nat.mod_lt _ (by decide)⟩ ⟨(i 1).val / 128 * 256 + (i 1).val % 128, by omega⟩)
    (column u w v ((i 0).val / 2048) (by omega) ⟨(i 0).val % 2048, Nat.mod_lt _ (by decide)⟩ ⟨(i 1).val / 128 * 256 + (128 + (i 1).val % 128), by omega⟩)

/-- The `r`-th entry of the `b`-th sequence, in the `l`-th column of the `j`-th 128. -/
theorem conv_at (u : FVec Ideal S8192x5632 .f32) (w : FVec Ideal S3x5632 .f32) (v : FVec Ideal S1x5632 .f32) (b j : ℕ) (r : Fin 2048) (l : Fin 128)
    (h : b * 2048 + r.val < 8192) (h' : j * 128 + l.val < 2816) :
    conv u w v (ix2 ⟨b * 2048 + r.val, h⟩ ⟨j * 128 + l.val, h'⟩) =
      gated (column u w v b (by omega) r ⟨j * 256 + l.val, by omega⟩) (column u w v b (by omega) r ⟨j * 256 + (128 + l.val), by omega⟩) := by
  have h1 : (b * 2048 + r.val) / 2048 = b := by omega
  have h2 : (b * 2048 + r.val) % 2048 = r.val := by omega
  have h3 : (j * 128 + l.val) / 128 = j := by omega
  have h4 : (j * 128 + l.val) % 128 = l.val := by omega
  show gated (column u w v ((b * 2048 + r.val) / 2048) _ ⟨(b * 2048 + r.val) % 2048, _⟩ ⟨(j * 128 + l.val) / 128 * 256 + (j * 128 + l.val) % 128, _⟩)
    (column u w v ((b * 2048 + r.val) / 2048) _ ⟨(b * 2048 + r.val) % 2048, _⟩ ⟨(j * 128 + l.val) / 128 * 256 + (128 + (j * 128 + l.val) % 128), _⟩) = _
  simp only [h1, h2, h3, h4]

open Cert.ConvRefIdeal.Read in
/-- The reference's convolution. -/
theorem ref_column (u : FVec Ideal S8192x5632 .f32) (w : FVec Ideal S3x5632 .f32) (v : FVec Ideal S1x5632 .f32) (b : Fin 4) (r : Fin 2048) (j : Fin 5632) :
    val_main_v28 (F := Ideal) u w v (ix3 b r j) = column u w v b.val b.isLt r j := by
  simp only [column, taps, prev_pad, next_pad]
  simp only [val_main_v28, val_main_v25, val_main_v15, val_main_v9, val_main_v8, val_main_v7, val_main_v2, val_main_v1, val_main_v6, val_main_v4, val_main_cst, val_main_v5, val_main_v0, val_main_v14, val_main_v13, val_main_v12, val_main_v11, val_main_v10, val_main_v24, val_main_v23, val_main_v22, val_main_v17, val_main_v16, val_main_v21, val_main_v18, val_main_v20, val_main_cst_0, val_main_v27, val_main_v26]
  pointwise []

variable (m : (ℓ : Loc nD τ sig) → Buf (Elt Ideal) ℓ)

/-- The inputs of the convolution. -/
abbrev rows (c : Dev nD) : FVec Ideal S8192x5632 .f32 := m ((c : Thread nD τ).loc main_arg0)
/-- The weights of the three entries. -/
abbrev weights (c : Dev nD) : FVec Ideal S3x5632 .f32 := m ((c : Thread nD τ).loc main_arg1)
/-- The bias. -/
abbrev bias (c : Dev nD) : FVec Ideal S1x5632 .f32 := m ((c : Thread nD τ).loc main_arg2)

/-- The blocks a point reads and writes, decided over the grid. -/
theorem index_facts : ∀ t : Fin cfg0.N,
    win0_0.index t = ![t.val / 22, t.val % 22] ∧ win0_1.index t = ![0, t.val % 22] ∧ win0_2.index t = ![0, t.val % 22]
    ∧ win0_3.index t = ![t.val / 22, t.val % 22] :=
  (by decide +kernel : ∀ t : Fin grid0.N, _)

/-- A point's block of the inputs is one sequence and 256 columns. -/
theorem read_rows (c : Dev nD) (t : Fin cfg0.N) (r : Fin 2048) (l : Fin 256) (h : t.val / 22 * 2048 + r.val < 8192) (h' : t.val % 22 * 256 + l.val < 5632) :
    (iblk m c 0 t : Vec Ideal S2048x256 .f32) (ix2 r l) = rows m c (ix2 ⟨t.val / 22 * 2048 + r.val, h⟩ ⟨t.val % 22 * 256 + l.val, h'⟩) := by
  blk_ext [iblk, V, index_facts t]
/-- A point's block of the weights. -/
theorem read_weights (c : Dev nD) (t : Fin cfg0.N) (k : Fin 3) (l : Fin 256) (h : t.val % 22 * 256 + l.val < 5632) :
    (iblk m c 1 t : Vec Ideal S3x256 .f32) (ix2 k l) = weights m c (ix2 k ⟨t.val % 22 * 256 + l.val, h⟩) := by
  blk_ext [iblk, V, index_facts t]
/-- A point's block of the bias. -/
theorem read_bias (c : Dev nD) (t : Fin cfg0.N) (l : Fin 256) (h : t.val % 22 * 256 + l.val < 5632) :
    (iblk m c 2 t : Vec Ideal S1x256 .f32) (ix2 0 l) = bias m c (ix2 0 ⟨t.val % 22 * 256 + l.val, h⟩) := by
  blk_ext [iblk, V, index_facts t]

/-- The call leaves the convolution gated. -/
theorem result (c : Dev nD) : (dats m 0 c).arrAt 3 cfg0.N = conv (rows m c) (weights m c) (bias m c) := by
  refine (dats m 0 c).arrAt_eq_of_covers 3 _ (by decide +kernel) fun t hf y => ?_
  blk_simp
  rw [after0_3]
  have key : out0_3 (iblk m c 0 t) (iblk m c 1 t) (iblk m c 2 t) = k0_pay1 (iblk m c 0 t) (iblk m c 1 t) (iblk m c 2 t) := by
    frame_out
  rw [key]
  obtain ⟨r, l, rfl⟩ : ∃ (r : Fin 2048) (l : Fin 128), y = ix2 r l := ⟨y 0, y 1, eq_ix2 y⟩
  have ht : t.val < 88 := t.isLt
  have hr : ∀ k : Fin 2048, t.val / 22 * 2048 + k.val < 8192 := fun k => by omega
  have hl : t.val % 22 * 128 + l.val < 2816 := by omega
  have hi : (win0_3.blk t).view.emb (ix2 r l) = ix2 (⟨t.val / 22 * 2048 + r.val, hr r⟩ : Fin 8192) (⟨t.val % 22 * 128 + l.val, hl⟩ : Fin 2816) := by
    blk_ext [index_facts t]
  rw [hi, conv_at, conv_apply]
  have ha : t.val % 22 * 256 + l.val < 5632 := by omega
  have hb : t.val % 22 * 256 + (128 + l.val) < 5632 := by omega
  simp only [read_rows m c t _ ⟨l.val, by omega⟩ (hr _) ha, read_rows m c t _ ⟨128 + l.val, by omega⟩ (hr _) hb,
    read_weights m c t _ ⟨l.val, by omega⟩ ha, read_weights m c t _ ⟨128 + l.val, by omega⟩ hb,
    read_bias m c t ⟨l.val, by omega⟩ ha, read_bias m c t ⟨128 + l.val, by omega⟩ hb]
  rfl

open Cert.ConvRefIdeal.Read in
/-- The reference is the convolution gated. -/
theorem ref_conv (u : FVec Ideal S8192x5632 .f32) (w : FVec Ideal S3x5632 .f32) (v : FVec Ideal S1x5632 .f32) : val_main_v37 (F := Ideal) u w v = conv u w v := by
  refine funext fun i => ?_
  obtain ⟨b, j, r, l, h, h', rfl⟩ : ∃ (b : Fin 4) (j : Fin 22) (r : Fin 2048) (l : Fin 128) (h : b.val * 2048 + r.val < 8192) (h' : j.val * 128 + l.val < 2816),
      i = ix2 ⟨b.val * 2048 + r.val, h⟩ ⟨j.val * 128 + l.val, h'⟩ :=
    have h0 : (i 0).val < 8192 := (i 0).isLt
    have h1 : (i 1).val < 2816 := (i 1).isLt
    ⟨⟨(i 0).val / 2048, by omega⟩, ⟨(i 1).val / 128, by omega⟩, ⟨(i 0).val % 2048, by omega⟩, ⟨(i 1).val % 128, by omega⟩, by simp only; omega, by simp only; omega,
      (eq_ix2 i).trans (congrArg₂ ix2 (Fin.ext (by simp only; omega)) (Fin.ext (by simp only; omega)))⟩
  rw [conv_at]
  simp only [← ref_column u w v b]
  simp only [val_main_v37, val_main_v36, val_main_v35, val_main_v32, val_main_v31, val_main_v30, val_main_v29, val_main_call0_v5, val_main_call0_v4, val_main_call0_cst_0, val_main_call0_v3, val_main_call0_v2, val_main_call0_cst, val_main_call0_v1, val_main_call0_v0, val_main_v34, val_main_v33]
  pointwise [gated, gate, num]
  simp only [Nat.add_assoc]

/-- The reference's frame: it ends, and its arguments are unchanged. -/
theorem frame_reference : Cert.quiescent_ConvRefIdeal := fun m ρ _ =>
  (θ_run Cert.ConvRefIdeal.defs _ _).mono
    (fun r h => ⟨fun c => (h c).2, sem_eq_zero_of_no_sems rfl r.2⟩) (Cert.ConvRefIdeal.Value.run (F := Ideal) m ρ)

/-- The kernel's results are the reference's. -/
theorem algebraic [hK : Cert.ConvIdeal.Facts] [hR : Cert.ConvRefIdeal.Facts] : Cert.algebraic_ConvIdeal_ConvRefIdeal :=
  fun m ρ m' ρ' _ hm => ⟨fun c => conv (rows m c) (weights m c) (bias m c),
    (θ_run Cert.ConvIdeal.defs _ _).mono (fun r h c => ⟨(h c).1.trans (result m c), (h c).2⟩)
      (Cert.ConvIdeal.Value.run_blocks (F := Ideal) m ρ),
    (θ_run Cert.ConvRefIdeal.defs _ _).mono (fun r h c => ⟨
      (h c).1.trans (by
        rw [Cert.ConvRefIdeal.Read.val_main_v37_eq, (hm c).1, (hm c).2.1, (hm c).2.2]
        exact ref_conv _ _ _),
      (h c).2⟩)
      (Cert.ConvRefIdeal.Value.run (F := Ideal) m' ρ')⟩

end Cert.ConvIdeal.Rows

end
-- ==== Proof.TotalRun.lean ====
/-
  The run of the sum of the loss over the eight devices: each device reads its own share as a number, and one sum over the
  whole mesh follows. The launch, its two segments and their links; `run_main` says what every buffer then holds, at any
  float values.
-/
module

public import proofs.«01_k».proof.Proof.Gen.TotalIdeal
public import proofs.«01_k».proof.Proof.Gen.TotalIdeal.Launch
public import Idealize.ShloMosaic.Lib.StableHlo.CollectiveRules
public import Idealize.ShloMosaic.Lib.Pipeline.Regions
public import Idealize.ShloMosaic.Lib.Pipeline.RegionsOwned
public import Idealize.ShloMosaic.Lib.Pipeline.CollectiveSegs
public import Idealize.ShloMosaic.Lib.Pipeline.Kit
public import Idealize.ShloMosaic.Lib.Tactic

@[expose] public section

noncomputable section

namespace Cert.TotalIdeal.Sum

open Cert.TotalIdeal Cert.TotalIdeal.Gen Cert.TotalIdeal.Gen.Sites
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the staging cells (there is none of them) beside the sum's. -/
abbrev UU : Type := UR sig nD τ × UC

local notation "𝕄" => MT nD τ sig ℕ (Elt F) ℕ UU ℕ

abbrev EP : Emb (UR sig nD τ) (MT nD τ sig ℕ (Elt F) ℕ UU ℕ) := embL
abbrev EC : Emb UC (MT nD τ sig ℕ (Elt F) ℕ UU ℕ) := embR

abbrev adm : (p : Fin 0) → (pcfgs (F := F) p).Adm := fun p => p.elim0
abbrev pdats : (p : Fin 0) → (c : Dev nD) → Pipeline.Dat τ (Elt F) ℕ ℕ UU ℕ (Pipeline.pin (pcfgs (F := F)) adm p) c := fun p => p.elim0
abbrev 𝒱₀ : Variants := Variants.none

variable (m : (ℓ : Loc nD τ sig) → Buf (Elt F) ℓ)

/-- A device's buffers at launch; once its share is read as a number; after the sum. -/
abbrev Vin (c : Dev nD) : Valuation τ sig (Elt F) := fun b => m ((c : Dev nD), b)
abbrev Vsh (c : Dev nD) : Valuation τ sig (Elt F) := StableHlo.after hostOps0 (Vin m c)
abbrev Vout (c : Dev nD) : Valuation τ sig (Elt F) := (ar0 (F := F)).after₀ (Vsh m) c

/-- The sum's cells are under their invariants: kept to the end, where its counters are read. -/
abbrev Inv : sProp 𝕄 := iprop(∃ κ, (AllReduce.Dat.once (ar0 (F := F)) (Vsh m)).cellInvs (E0 EC) κ)

/-- The first segment: the share is read, the sum's launch state riding along. -/
def readSeg : Pipeline.HostSeg (Name := ℕ) (U := UU) (pcfgs (F := F)) defs₀ 𝒱₀ L lv :=
  Pipeline.HostSeg.ofOps _ _ _ _ _ (Pipeline.ucRefs τ sig) (hostOps0 (F := F))
    (fun op h => Pipeline.sub_ucRefs op (List.forall_iff_forall_mem.mp hostOps0_sub op h))
    (fun op h => by obtain rfl := List.mem_singleton.mp h; rfl) (Vin m) (Es EC (Vsh m) 0)

/-- The second: the sum. -/
def sumSeg : Pipeline.HostSeg (Name := ℕ) (U := UU) (pcfgs (F := F)) defs₀ 𝒱₀ L lv :=
  seg0 EC 𝒱₀ (Vsh m) (Rest0 (Vsh m) (fun _ => Inv m))

def segs : List (Pipeline.Seg (pcfgs (F := F)) adm (pdats (F := F)) 0 defs₀ 𝒱₀ L lv) := [.host (readSeg m), .host (sumSeg m)]

theorem main_eq (c : Dev nD) : main (F := F) c = Pipeline.Seg.run (segs m) :=
  main_segs adm pdats 0 𝒱₀ L lv (readSeg m) (sumSeg m) rfl rfl c

/-- What each device starts with: its buffers as launched, what it owes and the sum's launch state. -/
abbrev Tin (c : Dev nD) : sProp 𝕄 := iprop(StableHlo.held (c : Thread nD τ) (Pipeline.ucRefs τ sig) (Vin m c) ∗ Es EC (Vsh m) 0 c)

/-- What it ends with: its buffers after the sum, and the sum's cells. -/
abbrev Tout (c : Dev nD) : sProp 𝕄 :=
  iprop(StableHlo.held (c : Thread nD τ) (Pipeline.ucRefs τ sig) (Vout m c) ∗ (Ghost0 EC c ∗ Inv m))

theorem read_sum (c : Dev nD) : (readSeg m).post c ⊢ (sumSeg (F := F) m).pre c := by
  refine .trans ?_ (pre0 EC 𝒱₀ (Vsh m) (fun _ => Inv m) c)
  show iprop(StableHlo.held (c : Thread nD τ) (Pipeline.ucRefs τ sig) (Vsh m c) ∗ Es EC (Vsh m) 0 c) ⊢ _
  rw [Es_0]
  iintro ⟨Hh, HO, Hp, Hr⟩
  ihave #Hi := (show (AllReduce.Dat.once (ar0 (F := F)) (Vsh m)).rides (E0 EC) c 1 2 ⊢ Inv m from by
    unfold AllReduce.Dat.rides; iintro ⟨Hi, -⟩; iexact Hi) $$ Hr
  isplitl [Hh]; · iexact Hh
  isplitl; swap
  · iexact Hi
  isplitl [HO]; · iexact HO
  isplitl [Hp] <;> iassumption

theorem sum_end (c : Dev nD) : (sumSeg (F := F) m).post c ⊢ iprop(Tout m c ∗ ∃ W, owes (c : Thread nD τ) (0 : CellTallies nD τ sig ℕ) W) := by
  refine (post0 EC 𝒱₀ (Vsh m) (fun _ => Inv m) c).trans ?_
  iintro ⟨Hh, HE, Hg⟩
  isplitl [Hh Hg]; · isplitl [Hh] <;> iassumption
  iapply (hE_last EC (Vsh m) c); iexact HE

/-- The launch deals every device its buffers and the sum's launch state. -/
theorem init (ρ : Dev nD → PrngReg) :
    iprop((bigSep Finset.univ fun c : Dev nD => iprop(unscopedBufs c (fun b => m ((c : Thread nD τ).loc b)) ∗ unscopedSems0 c
          ∗ owes (c : Thread nD τ) (O0 (F := F) c) ∅ ∗ Pipeline.launchCred (O0 (F := F)) c ∗ prngReg c (ρ c) ∗ G EC (Vsh m) c)) ∗ levAts L lv)
      ⊢ (|={Set.univ}=> bigSep Finset.univ (Tin m) : sProp 𝕄) := by
  iintro ⟨H, HL⟩
  ihave H' := (show _ ⊢ iprop((bigSep Finset.univ fun c : Dev nD => StableHlo.held (c : Thread nD τ) (Pipeline.ucRefs τ sig) (Vin m c))
        ∗ bigSep Finset.univ fun c : Dev nD => iprop(unscopedSems0 c ∗ owes (c : Thread nD τ) (O0 (F := F) c) ∅
            ∗ Pipeline.launchCred (O0 (F := F)) c ∗ prngReg c (ρ c) ∗ G EC (Vsh m) c))
      from by rw [← bigSep_sep']; exact bigSep_mono fun c _ => sep_mono (Entails.of_eq (Pipeline.unscopedBufs_held c (Vin m c))) .rfl) $$ H
  icases H' with ⟨Hb, Hs⟩
  imod (hE0 EC (Vsh m) ρ) $$ [Hs HL] with HE
  · isplitl [Hs] <;> iassumption
  imodintro
  iapply (show iprop((bigSep Finset.univ fun c : Dev nD => StableHlo.held (c : Thread nD τ) (Pipeline.ucRefs τ sig) (Vin m c))
        ∗ bigSep Finset.univ (Es EC (Vsh m) 0)) ⊢ bigSep Finset.univ (Tin m) from by rw [← bigSep_sep'])
  isplitl [Hb] <;> iassumption

set_option backward.isDefEq.respectTransparency.types false in
/-- THE RUN: from any memory with zero counters, on all eight devices, every execution ends, each device's buffers
    holding what the sum leaves and every counter at zero. -/
theorem run_main (ρ : Dev nD → PrngReg) : θ_run defs (onTc (τ := τ) (main (F := F))) ⟨m, fun _ => 0, ρ⟩
    (fun r => (∀ (c : Dev nD), ∀ b ∈ Pipeline.ucRefs τ sig, r.2.mem (((c : Thread nD τ)).1, b) = Vout m c b) ∧ r.2.sem = fun _ => 0) :=
  Pipeline.θ_run_regions_kit_sems (pcfgs (F := F)) adm (pdats (F := F)) 0 cellOf_inj EP defs₀ 𝒱₀ L lv m ρ main (segs m)
    (fun c Q => by rw [main_eq m c])
    (by simp only [segs, Pipeline.Seg.pipes_host, Pipeline.Seg.pipes_nil]; decide)
    (O₀ := O0 (F := F)) (hL := hL) (G := G EC (Vsh m))
    (u₀ := (initOf (Pipeline.cells (Pipeline.pin (pcfgs (F := F)) adm) cellOf_inj) (Pipeline.launchToks (Pipeline.pin (pcfgs (F := F)) adm) cellOf_inj),
      uC (U := UU) (Vsh m)))
    (hu₀ := by
      iintro Hu
      ihave H := (ownU_pair _ _) $$ Hu
      icases H with ⟨HP, HX⟩
      imodintro
      isplitl [HP]; · iexact HP
      rw [bigSep_G]; iexact HX)
    (T₀ := Tin m) (Tₙ := Tout m)
    (hch := ⟨fun _ => .rfl, read_sum m, sum_end m⟩)
    (hinit := init m ρ)
    (QY := fun c s => (∀ b ∈ Pipeline.ucRefs τ sig, s.mem (((c : Thread nD τ)).1, b) = Vout m c b)
      ∧ (s.sem ((ar0 (F := F)).barrierCell c) = 0 ∧ s.sem ((ar0 (F := F)).recvCell c) = 0 ∧ s.sem ((ar0 (F := F)).sendCell c) = 0))
    (hfin := fun c s' => by
      unfold Tout StableHlo.held
      iintro ⟨⟨Hh, Hg, #Hi⟩, HSI⟩
      imod ((AllReduce.Dat.once (ar0 (F := F)) (Vsh m)).ghostAfter_read (E0 EC) c (k := 0) le_rfl s') $$ [Hg HSI] with ⟨%h0, HSI⟩
      · isplitr [HSI]; swap; · iexact HSI
        isplitr; · iexact Hi
        iexact Hg
      ihave Hp := (pointsTo_read_all (Pipeline.ucRefs τ sig) (fun b => (((c : Thread nD τ)).1, b)) (Vout m c) s') $$ [Hh HSI]
      · isplitl [Hh] <;> iassumption
      icases Hp with ⟨%hb, HSI⟩
      imodintro
      isplitr; · ipureintro; exact ⟨hb, h0⟩
      iexact HSI)
    (hQ := fun s h hs => ⟨fun c => (h c).1, sem_eq_zero hs fun c sm hsm => by
      have hl : ∀ sm : SemLoc sig, sm.isScoped .tc = false → sm = .reg ar0_barrier ∨ sm = .dma ar0_recv ∨ sm = .dma ar0_send := by decide
      rcases hl sm hsm with rfl | rfl | rfl
      exacts [(h c).2.1, (h c).2.2.1, (h c).2.2.2]⟩)

end Cert.TotalIdeal.Sum

end
-- ==== Proof.TotalValue.lean ====
/-
  The loss: what the sum over the eight devices leaves on each of them is the sum of their shares.
-/
module

public import proofs.«01_k».proof.Defs
public import proofs.«01_k».proof.Proof.TotalRun
public import proofs.«01_k».proof.Proof.Gen.Total
public import proofs.«01_k».proof.Proof.Gen.TotalRefIdeal.Run
public import proofs.«01_k».proof.Proof.Gen.TotalRefIdeal.Read
public import Idealize.ShloMosaic.Lib.Quiescent
public import Idealize.ShloMosaic.Lib.Pointwise

@[expose] public section

noncomputable section

namespace Cert.TotalIdeal.Sum

open Cert.TotalIdeal Cert.TotalIdeal.Gen
open Idealize.ShloMosaic Idealize.ShloMosaic.TcCoe Idealize.SL.Sem
open scoped BigOperators

theorem stage_ne : ∀ j : Fin 8, ar0_stage j ≠ main_arg0 := by decide

/-- The device's share is not written. -/
theorem Vout_share {F : FTy → Type} [FloatOps F] (m : (ℓ : Loc nD τ sig) → Buf (Elt F) ℓ) (c : Dev nD) :
    Vout m c (Proc.devRef .tc main_arg0) = m ((c.tc : Thread nD τ).loc main_arg0) := by
  refine ((ar0 (F := F)).after₀_off_siteRefs (Vsh m) c fun h => ?_).trans ?_
  · rcases (ar0 (F := F)).mem_siteRefs.mp h with h | h | ⟨j, h⟩
    · exact (by decide : main_arg0 ≠ main_v2) (Proc.devRef_injective _ h)
    · exact (by decide : main_arg0 ≠ main_v1) (Proc.devRef_injective _ h)
    · exact stage_ne j (Proc.devRef_injective _ h).symm
  · after_results

/-- A device's share of the loss, as a number. -/
def share (m : (ℓ : Loc nD τ sig) → Buf (Elt Ideal) ℓ) (d : Dev nD) : EReal :=
  (m ((d.tc : Thread nD τ).loc main_arg0) : S1x1.Idx → EReal) (ix2 0 0)

/-- What a device puts into the sum is its share. -/
theorem Vsh_number (m : (ℓ : Loc nD τ sig) → Buf (Elt Ideal) ℓ) (d : Dev nD) :
    Vsh m d (Proc.devRef .tc main_v1) = fun _ => share m d := by
  after_results
  funext i
  pointwise [share]

theorem peer_eq : ∀ c k : Dev 8, (ar0 (F := Ideal)).peer c k = k := by decide

/-- Folding eight numbers in the group's order adds them. -/
theorem fold_sum (v : Fin 8 → S_.Idx → EReal) (w : Fin 8 → EReal) (h : ∀ j, v j = fun _ => w j) :
    (ar0 (F := Ideal)).foldGroup v = fun _ => ∑ j : Fin 8, w j := by
  obtain rfl : v = fun j _ => w j := funext h
  funext i
  rw [Fin.sum_univ_eight]
  rfl

/-- What the device at a place of the group puts in is that place's share. -/
theorem peer_number (m : (ℓ : Loc nD τ sig) → Buf (Elt Ideal) ℓ) (c : Dev nD) (j : Fin 8) :
    Vsh m ((ar0 (F := Ideal)).peer c j) (Proc.devRef .tc main_v1) = fun _ => share m j := by
  rw [peer_eq c j]
  exact Vsh_number m j

theorem toResult_eq (x : S_.Idx → EReal) : (ar0 (F := Ideal)).toResult x = x := rfl

/-- After the sum every device holds the eight shares added. -/
theorem Vout_total (m : (ℓ : Loc nD τ sig) → Buf (Elt Ideal) ℓ) (c : Dev nD) :
    Vout m c (Proc.devRef .tc main_v2) = fun _ => ∑ d : Fin 8, share m d := by
  have h := (ar0 (F := Ideal)).after₀_result (Vsh m) c
  have h' := fold_sum _ (share m) (peer_number m c)
  exact h.trans ((congrArg (ar0 (F := Ideal)).toResult h').trans (toResult_eq _))

/-- The frame of the kernel, at any float values. -/
theorem frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c.tc : Thread nD τ).loc main_arg0) = m ((c.tc : Thread nD τ).loc main_arg0)) ∧ r.2.sem = fun _ => 0) :=
  (θ_run defs _ _).mono (fun _ h => ⟨fun c => (h.1 c _ (Pipeline.mem_ucRefsBut ∅ main_arg0 (by decide) (by decide))).trans (Vout_share m c), h.2⟩) (run_main m ρ)

/-- The kernel's frame. -/
theorem frame_ideal : Cert.quiescent_TotalIdeal := fun m ρ _ => frame m ρ

/-- The frame of the kernel as it runs. -/
theorem frame_kernel : Cert.quiescent_Total := fun m ρ _ => frame (F := Bits) m ρ

/-- The reference's frame. -/
theorem frame_reference : Cert.quiescent_TotalRefIdeal := fun m ρ _ =>
  (θ_run Cert.TotalRefIdeal.defs _ _).mono
    (fun r h => ⟨fun c => (h c).2, sem_eq_zero_of_no_sems rfl r.2⟩) (Cert.TotalRefIdeal.Value.run (F := Ideal) m ρ)

/-- Every device is left with the sum of the array of shares. -/
theorem algebraic : Cert.algebraic_TotalIdeal_TotalRefIdeal := by
  intro m g m' g' _ hm
  refine ⟨fun _ => (∑ d : Fin 8, share m d : EReal), ?_, ?_⟩
  · exact (θ_run _ _ _).mono (fun r h c =>
      ⟨(h.1 c _ (Pipeline.mem_ucRefsBut ∅ main_v2 (by decide) (by decide))).trans (Vout_total m c),
        (h.1 c _ (Pipeline.mem_ucRefsBut ∅ main_arg0 (by decide) (by decide))).trans (Vout_share m c)⟩) (run_main m g)
  · refine (θ_run _ _ _).mono (fun r h => ⟨?_, (h 0).2⟩) (Cert.TotalRefIdeal.Value.run m' g')
    rw [(h 0).1, Cert.TotalRefIdeal.Read.val_main_v0_eq]
    funext i
    refine (Cert.TotalRefIdeal.Read.val_main_v0_apply _ i).trans ?_
    rw [Cert.TotalRefIdeal.Read.val_main_cst_apply]
    simp only [share, hm]
    refine (congrArg (((FloatOps.ofBits .f32 0#32 : Ideal .f32) : EReal) + ·) (sum_idx2 (M := EReal) _)).trans ?_
    refine (congrArg (fun z : EReal => z + _) (Ideal.ofBits_zero_f32)).trans ((zero_add (M := EReal) _).trans (Finset.sum_congr rfl fun a _ => ?_))
    rw [Fin.sum_univ_one]
    refine congrArg (m' (((0 : Dev Cert.TotalRefIdeal.nD).tc : Thread Cert.TotalRefIdeal.nD Cert.TotalRefIdeal.τ).loc Cert.TotalRefIdeal.main_arg0)) ?_
    funext k
    revert a k
    decide

end Cert.TotalIdeal.Sum

end
-- ==== Proof.Windows.lean ====
/-
  A stretch of 128 entries of a sequence with the eight entries on each side, zero outside the sequence.
-/
module

public import proofs.«01_k».proof.Proof.Shifts
public import Idealize.ShloMosaic.Lib.Pointwise
public import Idealize.ShloMosaic.Lib.Pipeline.Value

@[expose] public section

noncomputable section

namespace Cert.Windows

open Idealize.ShloMosaic Cert.Shifts
open scoped BigOperators

/-- Entry `q` of the `k`-th stretch, counted from eight entries before it; zero outside the sequence. -/
def near (x : Fin 2048 → EReal) (k q : ℕ) : EReal := if h : 8 ≤ 128 * k + q ∧ 128 * k + q < 2056 then x ⟨128 * k + q - 8, by omega⟩ else 0

/-- Inside the sequence it is the sequence's entry. -/
theorem near_of_eq (x : Fin 2048 → EReal) (k q : ℕ) (r : Fin 2048) (h : 128 * k + q = r.val + 8) : near x k q = x r := by
  unfold near
  rw [dif_pos (by omega)]
  exact congrArg x (Fin.ext (by simp only; omega))
/-- One entry earlier is the entry before. -/
theorem near_prev (x : Fin 2048 → EReal) (k q : ℕ) (r : Fin 2048) (h : 128 * k + q = r.val + 7) : near x k q = prev x r := by
  unfold near prev
  by_cases h0 : 0 < r.val
  · rw [dif_pos (by omega), dif_pos h0]
    exact congrArg x (Fin.ext (by simp only; omega))
  · rw [dif_neg (by omega), dif_neg h0]
/-- One entry later is the entry after. -/
theorem near_next (x : Fin 2048 → EReal) (k q : ℕ) (r : Fin 2048) (h : 128 * k + q = r.val + 9) : near x k q = next x r := by
  unfold near next
  by_cases h0 : r.val + 1 < 2048
  · rw [dif_pos (by omega), dif_pos h0]
    exact congrArg x (Fin.ext (by simp only; omega))
  · rw [dif_neg (by omega), dif_neg h0]

/-- The factor of a sequence comes out of its neighbours. -/
theorem prev_mul (a : EReal) (x : Fin 2048 → EReal) (r : Fin 2048) : prev (fun k => a * x k) r = a * prev x r := by
  unfold prev
  split <;> simp
/-- The factor of a sequence comes out of its neighbours. -/
theorem next_mul (a : EReal) (x : Fin 2048 → EReal) (r : Fin 2048) : next (fun k => a * x k) r = a * next x r := by
  unfold next
  split <;> simp

/-- The entries of a sequence, added up stretch by stretch. -/
theorem sum_stretches (x : Fin 2048 → EReal) :
    ∑ k : Fin 16, ∑ r : Fin 128, x ⟨128 * k.val + r.val, by omega⟩ = ∑ r, x r := by
  rw [← Fintype.sum_prod_type']
  refine Fintype.sum_equiv (finProdFinEquiv (m := 16) (n := 128)) _ _ fun p => ?_
  exact congrArg x (Fin.ext (by show 128 * p.1.val + p.2.val = p.2.val + 128 * p.1.val; omega))

/-- A value that grows by a term at each step is where it began and the sum of the terms. -/
theorem sum_steps (n : ℕ) (f : ℕ → EReal) (g : Fin n → EReal) (h : ∀ k : Fin n, f (k.val + 1) = f k.val + g k) : f n = f 0 + ∑ k, g k := by
  induction n with
  | zero => simp
  | succ n ih =>
    rw [Fin.sum_univ_castSucc, ← add_assoc, ← ih (fun k => g k.castSucc) (fun k => h k.castSucc)]
    exact h (Fin.last n)

/-- A sum over the first two of three axes. -/
theorem sum_first_two {a b w : ℕ} (h : (⟨3, ![a, b, w]⟩ : Shape).ReducesTo [0, 1] ⟨1, ![w]⟩) (v : (⟨3, ![a, b, w]⟩ : Shape).Idx → EReal) (init : EReal) (l : Fin w) :
    Ideal.hostReduceAdd h v init (ix1 l) = init + ∑ p : Fin a, ∑ q : Fin b, v (ix3 p q l) := by
  refine congrArg (init + ·) ((Finset.sum_filter_eq_sum_of_fiber _ (fun k : Fin a × Fin b => ix3 k.1 k.2 l) (fun _ _ e => Prod.ext (congrFun e 0) (congrFun e 1)) (fun i => ?_) v).trans (Fintype.sum_prod_type _))
  constructor
  · intro e
    refine ⟨(i 0, i 1), funext fun c => Fin.ext ?_⟩
    match c with
    | ⟨0, _⟩ => rfl
    | ⟨1, _⟩ => rfl
    | ⟨2, _⟩ => exact (congrArg Fin.val (congrFun e 0)).symm
  · rintro ⟨k, rfl⟩
    funext c
    match c with
    | ⟨0, _⟩ => rfl

/-- A stretch laid together from the eight entries before it, its own, and the eight after. -/
theorem near_concat {w : ℕ} (x : Fin w → Fin 2048 → EReal) (k : ℕ) (u : FVec Ideal ⟨2, ![8, w]⟩ .f32) (v : FVec Ideal ⟨2, ![128, w]⟩ .f32) (d : FVec Ideal ⟨2, ![8, w]⟩ .f32) (h)
    (hu : ∀ (q : Fin 8) (l : Fin w), u (ix2 q l) = near (x l) k q.val)
    (hv : ∀ (q : Fin 128) (l : Fin w), v (ix2 q l) = near (x l) k (8 + q.val))
    (hd : ∀ (q : Fin 8) (l : Fin w), d (ix2 q l) = near (x l) k (136 + q.val)) (q : Fin 144) (l : Fin w) :
    concatenate ⟨2, ![144, w]⟩ 0 [⟨⟨2, ![8, w]⟩, u⟩, ⟨⟨2, ![128, w]⟩, v⟩, ⟨⟨2, ![8, w]⟩, d⟩] h (ix2 q l) = near (x l) k q.val := by
  pointwise []
  by_cases h1 : q.val < 8
  · rw [dif_pos h1]
    refine Eq.trans (congrArg u ?_) (hu ⟨q.val, h1⟩ l)
    funext b
    fin_cases b <;> rfl
  · by_cases h2 : q.val - 8 < 128
    · rw [dif_neg h1, dif_pos h2]
      refine Eq.trans (congrArg v ?_) ((hv ⟨q.val - 8, h2⟩ l).trans (congrArg (near (x l) k) (by simp only; omega)))
      funext b
      fin_cases b <;> rfl
    · rw [dif_neg h1, dif_neg h2]
      refine Eq.trans (congrArg d ?_) ((hd ⟨q.val - 8 - 128, by omega⟩ l).trans (congrArg (near (x l) k) (by simp only; omega)))
      funext b
      fin_cases b <;> rfl

end Cert.Windows

end
-- ==== Proof.Finite.lean ====
/-
  Numbers that pass the test for being finite.
-/
module

public import Idealize.ShloMosaic.Lib.Pointwise
public import Idealize.ShloMosaic.Lib.KernelVsHost

@[expose] public section

noncomputable section

namespace Cert.Finite

open Idealize.ShloMosaic

/-- A number below infinity in absolute value is real. -/
theorem real_of_test (x : EReal) (h : FloatOps.cmpf (F := Ideal) (φ := .f32) .olt (FloatOps.hostAbsf (F := Ideal) (φ := .f32) x) (FloatOps.ofBits (F := Ideal) .f32 0x7F800000#32) = 1#1) : ∃ a : ℝ, x = a := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  induction x with
  | bot => simp [Ideal.cmp] at h'
  | top => simp [Ideal.cmp] at h'
  | coe a => exact ⟨a, rfl⟩

end Cert.Finite

end
-- ==== Proof.ShiftBwdValue.lean ====
/-
  The gradients of the token shift: with respect to the sequences and to the two rows of weights.
-/
module

public import proofs.«01_k».proof.Proof.Windows
public import proofs.«01_k».proof.Proof.Finite
public import proofs.«01_k».proof.Defs
public import Idealize.ShloMosaic.Lib.Quiescent
public import Idealize.ShloMosaic.Lib.Pipeline.ValueKit
public import Idealize.ShloMosaic.Lib.WholeRead
public import proofs.«01_k».proof.Proof.Gen.ShiftBwdIdeal.Value
public import proofs.«01_k».proof.Proof.Gen.ShiftBwdRefIdeal.Run
public import proofs.«01_k».proof.Proof.Gen.ShiftBwdRefIdeal.Read

@[expose] public section

set_option maxRecDepth 16384

noncomputable section

namespace Cert.ShiftBwdIdeal.Rows

open Cert.ShiftBwdIdeal Cert.ShiftBwdIdeal.Gen Cert.ShiftBwdIdeal.Value Cert.Shifts Cert.Windows
open Idealize.ShloMosaic Idealize.ShloMosaic.TcCoe Idealize.SL.Sem
open scoped BigOperators

/-- The gradient with respect to an entry: what it passes on itself and through its two neighbours. -/
def back (g : Fin 2048 → EReal) (p n : EReal) (r : Fin 2048) : EReal :=
  g r * (1 - p - n) + p * next g r + n * prev g r
/-- An entry's part of the gradient with respect to the weight of the entry before. -/
def partPrev (x g : Fin 2048 → EReal) (r : Fin 2048) : EReal := g r * (prev x r - x r)
/-- An entry's part of the gradient with respect to the weight of the entry after. -/
def partNext (x g : Fin 2048 → EReal) (r : Fin 2048) : EReal := g r * (next x r - x r)

/-- A column of a block of sequences. -/
abbrev col (x : Vec Ideal S2048x256 .f32) (l : Fin 256) : Fin 2048 → EReal := fun r => x (ix2 r l)

/-- The test for the first stretch. -/
theorem first_eq : ∀ k : Fin k0_t1_loop.trips, Scalar.cmpi CmpIPredicate.eq (Scf.iv 0#32 1#32 k) 0#32 = if k.val = 0 then 1#1 else 0#1 := by
  decide +kernel
/-- The test for the last stretch. -/
theorem last_eq : ∀ k : Fin k0_t1_loop.trips, Scalar.cmpi CmpIPredicate.eq (Scf.iv 0#32 1#32 k) 15#32 = if k.val = 15 then 1#1 else 0#1 := by
  decide +kernel
/-- There are sixteen stretches. -/
theorem trips_eq : k0_t1_loop.trips = 16 := by decide +kernel
/-- A stretch's number is below sixteen. -/
theorem stretch_lt (k : Fin k0_t1_loop.trips) : k.val < 16 := lt_of_lt_of_eq k.isLt trips_eq
/-- Where the eight entries before a stretch begin. -/
theorem off1_eq : ∀ k : Fin k0_t1_loop.trips, k0_off1 k = ![128 * k.val - 8, 0] := by
  decide +kernel

section reads
variable (M : Memref sig .tc .vmem S2048x256 .f32) (hM : M.IsWhole) (x : Vec Ideal S2048x256 .f32) (k : Fin k0_t1_loop.trips)

/-- The eight entries before the stretch, or the first eight. -/
abbrev readTop : Vec Ideal S8x256 .f32 := View.readAt (Elt Ideal) M.view (Rect.unit (s := S2048x256) (k0_off1 k) S8x256.size (k0_off1_inb k)).toLoadRect (hM.unread x)
/-- The eight entries after the stretch, or the last eight. -/
abbrev readEnd : Vec Ideal S8x256 .f32 := View.readAt (Elt Ideal) M.view (Rect.unit (s := S2048x256) (k0_off2 k) S8x256.size (k0_off2_inb k)).toLoadRect (hM.unread x)
/-- The stretch. -/
abbrev readMid : Vec Ideal S128x256 .f32 := View.readAt (Elt Ideal) M.view (Rect.unit (s := S2048x256) (k0_off3 k) S128x256.size (k0_off3_inb k)).toLoadRect (hM.unread x)

/-- The stretch's own entries. -/
theorem readMid_apply (q : Fin 128) (l : Fin 256) : readMid M hM x k (ix2 q l) = near (col x l) k.val (8 + q.val) := by
  have hk : k.val < 16 := stretch_lt k
  rw [near_of_eq (col x l) k.val (8 + q.val) ⟨128 * k.val + q.val, by omega⟩ (by simp only; omega)]
  refine (hM.readAt_unread x _ _).trans (congrArg x ?_)
  funext a
  fin_cases a <;> refine Fin.ext ?_
  · show k0_off3 k 0 + 1 * q.val = 128 * k.val + q.val
    simp [k0_off3_eq k]
  · show k0_off3 k 1 + 1 * l.val = l.val
    simp [k0_off3_eq k]
/-- The entries before the stretch, zero before the sequence. -/
theorem readTop_apply (q : Fin 8) (l : Fin 256) :
    (Scalar.select (Scalar.cmpi CmpIPredicate.eq (Scf.iv 0#32 1#32 k) 0#32) (broadcast S8x256 (Scalar.ofBits .f32 0x00000000#32)) (readTop M hM x k) : FVec Ideal S8x256 .f32) (ix2 q l) = near (col x l) k.val q.val := by
  have hk : k.val < 16 := stretch_lt k
  rw [first_eq k]
  by_cases h : k.val = 0
  · rw [if_pos h, near, dif_neg (by omega)]
    exact Ideal.ofBits_zero_f32
  · rw [if_neg h, near_of_eq (col x l) k.val q.val ⟨128 * k.val + q.val - 8, by omega⟩ (by simp only; omega)]
    refine (hM.readAt_unread x _ _).trans (congrArg x ?_)
    funext a
    fin_cases a <;> refine Fin.ext ?_
    · show k0_off1 k 0 + 1 * q.val = 128 * k.val + q.val - 8
      simp [off1_eq k]
      omega
    · show k0_off1 k 1 + 1 * l.val = l.val
      simp [off1_eq k]
/-- The entries after the stretch, zero behind the sequence. -/
theorem readEnd_apply (q : Fin 8) (l : Fin 256) :
    (Scalar.select (Scalar.cmpi CmpIPredicate.eq (Scf.iv 0#32 1#32 k) 15#32) (broadcast S8x256 (Scalar.ofBits .f32 0x00000000#32)) (readEnd M hM x k) : FVec Ideal S8x256 .f32) (ix2 q l) = near (col x l) k.val (136 + q.val) := by
  have hk : k.val < 16 := stretch_lt k
  rw [last_eq k]
  by_cases h : k.val = 15
  · rw [if_pos h, near, dif_neg (by omega)]
    exact Ideal.ofBits_zero_f32
  · rw [if_neg h, near_of_eq (col x l) k.val (136 + q.val) ⟨128 * k.val + 128 + q.val, by omega⟩ (by simp only; omega)]
    refine (hM.readAt_unread x _ _).trans (congrArg x ?_)
    funext a
    fin_cases a <;> refine Fin.ext ?_
    · show k0_off2 k 0 + 1 * q.val = 128 * k.val + 128 + q.val
      simp [k0_off2_eq k]
      omega
    · show k0_off2 k 1 + 1 * l.val = l.val
      simp [k0_off2_eq k]

/-- The stretch of the sequences with its neighbours. -/
theorem window_x (q : Fin 144) (l : Fin 256) :
    k0_pay10 0#32 1#32 k (readTop M hM x k) (readEnd M hM x k) (readMid M hM x k) (ix2 q l) = near (col x l) k.val q.val :=
  near_concat (fun l => col x l) k.val _ _ _ concatenates_S8x256_S128x256_S8x256_S144x256_d0 (readTop_apply M hM x k) (readMid_apply M hM x k) (readEnd_apply M hM x k) q l
/-- The stretch of the gradients with its neighbours. -/
theorem window_g (q : Fin 144) (l : Fin 256) :
    k0_pay4 (readEnd M hM x k) (k0_pay11 0#32 1#32 k (readTop M hM x k)) (Scalar.cmpi CmpIPredicate.eq (Scf.iv 0#32 1#32 k) 15#32) (readMid M hM x k) (ix2 q l) = near (col x l) k.val q.val :=
  near_concat (fun l => col x l) k.val _ _ _ concatenates_S8x256_S128x256_S8x256_S144x256_d0 (readTop_apply M hM x k) (readMid_apply M hM x k) (readEnd_apply M hM x k) q l
end reads

section payloads
variable (k : ℕ) (hk : k < 16) (x g : Fin 256 → Fin 2048 → EReal) (w : FVec Ideal S144x256 .f32) (hw : ∀ q l, w (ix2 q l) = near (x l) k q.val)
variable (v48 : Vec Ideal S8x256 .f32) (v51 : FVec Ideal S8x256 .f32) (v52 : BitVec 1) (v56 : Vec Ideal S128x256 .f32)
variable (hg : ∀ q l, k0_pay4 v48 v51 v52 v56 (ix2 q l) = near (g l) k q.val)
include hk hg

/-- An entry of the stretch's gradient. -/
theorem back_apply (p n : Vec Ideal S1x256 .f32) (r : Fin 128) (l : Fin 256) :
    k0_pay5 p n v48 v51 v52 v56 (ix2 r l) = back (g l) (p (ix2 0 l)) (n (ix2 0 l)) ⟨128 * k + r.val, by omega⟩ := by
  rw [back, ← near_of_eq (g l) k (8 + r.val) ⟨128 * k + r.val, by omega⟩ (by simp only; omega), ← near_prev (g l) k (7 + r.val) ⟨128 * k + r.val, by omega⟩ (by simp only; omega), ← near_next (g l) k (9 + r.val) ⟨128 * k + r.val, by omega⟩ (by simp only; omega)]
  have h1 : (8 + r.val + 144 - 143) % 144 = 9 + r.val := by omega
  have h2 : (8 + r.val + 144 - 1) % 144 = 7 + r.val := by omega
  pointwise [k0_pay5]
  simp only [hg, h1, h2]

include hw
/-- The stretch's sum for the weight of the entry before. -/
theorem sumPrev_apply (acc : FVec Ideal S1x256 .f32) (l : Fin 256) :
    k0_pay6 acc w v48 v51 v52 v56 (ix2 0 l) = acc (ix2 0 l) + ∑ r : Fin 128, partPrev (x l) (g l) ⟨128 * k + r.val, by omega⟩ := by
  pointwise [k0_pay6]
  refine congrArg (acc (ix2 0 l) + ·) (Finset.sum_congr rfl fun r _ => ?_)
  have h2 : (8 + r.val + 144 - 1) % 144 = 7 + r.val := by omega
  rw [partPrev, ← near_of_eq (g l) k (8 + r.val) ⟨128 * k + r.val, by omega⟩ (by simp only; omega), ← near_of_eq (x l) k (8 + r.val) ⟨128 * k + r.val, by omega⟩ (by simp only; omega), ← near_prev (x l) k (7 + r.val) ⟨128 * k + r.val, by omega⟩ (by simp only; omega)]
  simp only [hg, hw, h2]
/-- The stretch's sum for the weight of the entry after. -/
theorem sumNext_apply (acc : FVec Ideal S1x256 .f32) (l : Fin 256) :
    k0_pay7 acc w v48 v51 v52 v56 (ix2 0 l) = acc (ix2 0 l) + ∑ r : Fin 128, partNext (x l) (g l) ⟨128 * k + r.val, by omega⟩ := by
  pointwise [k0_pay7]
  refine congrArg (acc (ix2 0 l) + ·) (Finset.sum_congr rfl fun r _ => ?_)
  have h1 : (8 + r.val + 144 - 143) % 144 = 9 + r.val := by omega
  rw [partNext, ← near_of_eq (g l) k (8 + r.val) ⟨128 * k + r.val, by omega⟩ (by simp only; omega), ← near_of_eq (x l) k (8 + r.val) ⟨128 * k + r.val, by omega⟩ (by simp only; omega), ← near_next (x l) k (9 + r.val) ⟨128 * k + r.val, by omega⟩ (by simp only; omega)]
  simp only [hg, hw, h1]
end payloads

/-- A block's gradient, entry by entry. -/
def backBlock (g : Vec Ideal S2048x256 .f32) (p n : Vec Ideal S1x256 .f32) : Vec Ideal S2048x256 .f32 := fun y =>
  back (col g (y 1)) (p (ix2 0 (y 1))) (n (ix2 0 (y 1))) (y 0)

section state
variable (𝒱 : Variants) (c : Dev nD) (bd : Option 𝒱.V) (i : grid0.Coords)
variable (arg2 : Memref sig .tc .vmem S2048x256 .f32) (harg2 : arg2.IsWhole) (arg3 : Memref sig .tc .vmem S2048x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S1x256 .f32) (harg7 : arg7.IsWhole) (arg8 : Memref sig .tc .vmem S1x256 .f32) (harg8 : arg8.IsWhole)
variable (p n : Vec Ideal S1x256 .f32) (x g : Vec Ideal S2048x256 .f32)

/-- What one stretch adds to the sum for the weight of the entry before. -/
theorem trip_prev (k : Fin k0_t1_loop.trips) (acc : FVec Ideal S1x256 .f32 × FVec Ideal S1x256 .f32) (l : Fin 256) :
    (tripR_k0_t1 (F := Ideal) 𝒱 c bd i arg2 harg2 arg3 harg3 arg4 harg4 arg5 harg5 arg6 harg6 arg7 harg7 arg8 harg8 p n (harg2.unread x) (harg3.unread g) k acc).1 (ix2 0 l)
      = acc.1 (ix2 0 l) + ∑ r : Fin 128, partPrev (col x l) (col g l) ⟨128 * k.val + r.val, by have := stretch_lt k; omega⟩ := by
  unfold tripR_k0_t1 trip_k0_t1
  dsimp only
  simp only [trip_k0_t1.sl.r, trip_k0_t1.sl.r_1, trip_k0_t1.sl.r_2, trip_k0_t1.sl.v52, trip_k0_t1.sl.arg9]
  exact sumPrev_apply k.val (stretch_lt k) (fun l => col x l) (fun l => col g l) _ (window_x arg2 harg2 x k) _ _ _ _ (window_g arg3 harg3 g k) acc.1 l
/-- What one stretch adds to the sum for the weight of the entry after. -/
theorem trip_next (k : Fin k0_t1_loop.trips) (acc : FVec Ideal S1x256 .f32 × FVec Ideal S1x256 .f32) (l : Fin 256) :
    (tripR_k0_t1 (F := Ideal) 𝒱 c bd i arg2 harg2 arg3 harg3 arg4 harg4 arg5 harg5 arg6 harg6 arg7 harg7 arg8 harg8 p n (harg2.unread x) (harg3.unread g) k acc).2 (ix2 0 l)
      = acc.2 (ix2 0 l) + ∑ r : Fin 128, partNext (col x l) (col g l) ⟨128 * k.val + r.val, by have := stretch_lt k; omega⟩ := by
  unfold tripR_k0_t1 trip_k0_t1
  dsimp only
  simp only [trip_k0_t1.sl.r, trip_k0_t1.sl.r_1, trip_k0_t1.sl.r_2, trip_k0_t1.sl.v52, trip_k0_t1.sl.arg9]
  exact sumNext_apply k.val (stretch_lt k) (fun l => col x l) (fun l => col g l) _ (window_x arg2 harg2 x k) _ _ _ _ (window_g arg3 harg3 g k) acc.2 l
/-- What one stretch stores is the block's gradient there. -/
theorem trip_piece (k : Fin k0_t1_loop.trips) (acc : FVec Ideal S1x256 .f32 × FVec Ideal S1x256 .f32) :
    ∀ pc ∈ tripL_k0_t1 (F := Ideal) 𝒱 c bd i arg2 harg2 arg3 harg3 arg4 harg4 arg5 harg5 arg6 harg6 arg7 harg7 arg8 harg8 p n (harg2.unread x) (harg3.unread g) k acc, ∀ y : pc.1.shape.Idx, pc.2 y = backBlock g p n (pc.1.emb y) := by
  unfold tripL_k0_t1 trip_k0_t1
  dsimp only
  simp only [trip_k0_t1.sl.r, trip_k0_t1.sl.r_1, trip_k0_t1.sl.r_2, trip_k0_t1.sl.v52, trip_k0_t1.sl.arg9]
  intro pc hpc
  obtain rfl := List.mem_singleton.mp hpc
  intro y
  have hk : k.val < 16 := stretch_lt k
  obtain ⟨r, l, rfl⟩ : ∃ (r : Fin 128) (l : Fin 256), y = ix2 r l := ⟨y 0, y 1, eq_ix2 y⟩
  refine (back_apply k.val hk (fun l => col g l) _ _ _ _ (window_g arg3 harg3 g k) p n r l).trans ?_
  have e : (Rect.unit (s := S2048x256) (k0_off3 k) S128x256.size (k0_off3_inb k)).emb (ix2 r l) = ix2 (⟨128 * k.val + r.val, by omega⟩ : Fin 2048) l := by
    funext a
    fin_cases a <;> refine Fin.ext ?_
    · show k0_off3 k 0 + 1 * r.val = 128 * k.val + r.val
      simp [k0_off3_eq k]
    · show k0_off3 k 1 + 1 * l.val = l.val
      simp [k0_off3_eq k]
  exact (congrArg (backBlock g p n) e).symm

/-- The sum for the weight of the entry before, after the loop. -/
theorem state_prev (l : Fin 256) :
    (st_k0_t1 (F := Ideal) 𝒱 c bd i arg2 harg2 arg3 harg3 arg4 harg4 arg5 harg5 arg6 harg6 arg7 harg7 arg8 harg8 p n (harg2.unread x) (harg3.unread g) (k0_pay3, k0_pay3) k0_t1_loop.trips).1.1 (ix2 0 l)
      = ∑ r, partPrev (col x l) (col g l) r := by
  refine (sum_steps k0_t1_loop.trips (fun j => (st_k0_t1 (F := Ideal) 𝒱 c bd i arg2 harg2 arg3 harg3 arg4 harg4 arg5 harg5 arg6 harg6 arg7 harg7 arg8 harg8 p n (harg2.unread x) (harg3.unread g) (k0_pay3, k0_pay3) j).1.1 (ix2 0 l)) _
    (fun k => by
      simp only [st_k0_t1_succ]
      exact trip_prev 𝒱 c bd i arg2 harg2 arg3 harg3 arg4 harg4 arg5 harg5 arg6 harg6 arg7 harg7 arg8 harg8 p n x g k _ l)).trans ?_
  rw [← sum_stretches]
  refine Eq.trans (congrArg₂ (· + ·) Ideal.ofBits_zero_f32 (Fintype.sum_equiv (finCongr trips_eq) _ _ fun k => rfl)) (zero_add _)
/-- The sum for the weight of the entry after, after the loop. -/
theorem state_next (l : Fin 256) :
    (st_k0_t1 (F := Ideal) 𝒱 c bd i arg2 harg2 arg3 harg3 arg4 harg4 arg5 harg5 arg6 harg6 arg7 harg7 arg8 harg8 p n (harg2.unread x) (harg3.unread g) (k0_pay3, k0_pay3) k0_t1_loop.trips).1.2 (ix2 0 l)
      = ∑ r, partNext (col x l) (col g l) r := by
  refine (sum_steps k0_t1_loop.trips (fun j => (st_k0_t1 (F := Ideal) 𝒱 c bd i arg2 harg2 arg3 harg3 arg4 harg4 arg5 harg5 arg6 harg6 arg7 harg7 arg8 harg8 p n (harg2.unread x) (harg3.unread g) (k0_pay3, k0_pay3) j).1.2 (ix2 0 l)) _
    (fun k => by
      simp only [st_k0_t1_succ]
      exact trip_next 𝒱 c bd i arg2 harg2 arg3 harg3 arg4 harg4 arg5 harg5 arg6 harg6 arg7 harg7 arg8 harg8 p n x g k _ l)).trans ?_
  rw [← sum_stretches]
  refine Eq.trans (congrArg₂ (· + ·) Ideal.ofBits_zero_f32 (Fintype.sum_equiv (finCongr trips_eq) _ _ fun k => rfl)) (zero_add _)
/-- Everything the loop has stored is the block's gradient. -/
theorem state_pieces (init : FVec Ideal S1x256 .f32 × FVec Ideal S1x256 .f32) : ∀ j ≤ k0_t1_loop.trips,
    ∀ pc ∈ (st_k0_t1 (F := Ideal) 𝒱 c bd i arg2 harg2 arg3 harg3 arg4 harg4 arg5 harg5 arg6 harg6 arg7 harg7 arg8 harg8 p n (harg2.unread x) (harg3.unread g) init j).2, ∀ y : pc.1.shape.Idx, pc.2 y = backBlock g p n (pc.1.emb y)
  | 0, _, _, h => absurd h List.not_mem_nil
  | j + 1, hj, pc, h => by
    rw [st_k0_t1_succ (k := ⟨j, hj⟩)] at h
    rcases List.mem_append.mp h with h | h
    · exact trip_piece 𝒱 c bd i arg2 harg2 arg3 harg3 arg4 harg4 arg5 harg5 arg6 harg6 arg7 harg7 arg8 harg8 p n x g ⟨j, hj⟩ _ pc h
    · exact state_pieces init j (Nat.le_of_succ_le hj) pc h
end state

/-- A row read as a whole is the row. -/
theorem read_whole (M : Memref sig .tc .vmem S1x256 .f32) (hM : M.IsWhole) (w : Vec Ideal S1x256 .f32) :
    View.readAt (Elt Ideal) M.view (Rect.unit (s := S1x256) ![0, 0] S1x256.size inb_S1x256_S1x256_0_0).toLoadRect (hM.unread w) = w := by
  funext y
  obtain ⟨u, l, rfl⟩ : ∃ (u : Fin 1) (l : Fin 256), y = ix2 u l := ⟨y 0, y 1, eq_ix2 y⟩
  refine (hM.readAt_unread w _ _).trans (congrArg w ?_)
  funext a
  fin_cases a <;> refine Fin.ext ?_
  · show 0 + 1 * u.val = u.val
    omega
  · show 0 + 1 * l.val = l.val
    omega

section cases
variable (c : Dev nD) (i : grid0.Coords)
variable (arg2 : Memref sig .tc .vmem S2048x256 .f32) (harg2 : arg2.IsWhole) (arg3 : Memref sig .tc .vmem S2048x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S1x256 .f32) (harg7 : arg7.IsWhole) (arg8 : Memref sig .tc .vmem S1x256 .f32) (harg8 : arg8.IsWhole)
variable (x g : Vec Ideal S2048x256 .f32) (p n : Vec Ideal S1x256 .f32)

/-- A point's block of the gradients, where the sums begin. -/
theorem outA (hc : cond0_0 i) : out0_A_4 (F := Ideal) c i arg2 harg2 arg3 harg3 arg4 harg4 arg5 harg5 arg6 harg6 arg7 harg7 arg8 harg8 hc x g p n = backBlock g p n := by
  funext y
  unfold out0_A_4
  refine View.read_writes_apply_of_pieces VO0_4 _ (backBlock g p n) _ ?_ y (cover0_A_4 c i arg2 harg2 arg3 harg3 arg4 harg4 arg5 harg5 arg6 harg6 arg7 harg7 arg8 harg8 hc x g p n y)
  unfold kernelRun0_A
  dsimp only
  intro pc hpc
  rw [read_whole arg4 harg4, read_whole arg5 harg5] at hpc
  exact state_pieces Variants.none c none i arg2 harg2 arg3 harg3 arg4 harg4 arg5 harg5 arg6 harg6 arg7 harg7 arg8 harg8 p n x g _ _ le_rfl pc hpc
/-- A point's block of the gradients, where the sums go on. -/
theorem outB (hc : ¬cond0_0 i) (u v : Vec Ideal S1x256 .f32) : out0_B_4 (F := Ideal) c i arg2 harg2 arg3 harg3 arg4 harg4 arg5 harg5 arg6 harg6 arg7 harg7 arg8 harg8 hc x g p n u v = backBlock g p n := by
  funext y
  unfold out0_B_4
  refine View.read_writes_apply_of_pieces VO0_4 _ (backBlock g p n) _ ?_ y (cover0_B_4 c i arg2 harg2 arg3 harg3 arg4 harg4 arg5 harg5 arg6 harg6 arg7 harg7 arg8 harg8 hc x g p n u v y)
  unfold kernelRun0_B
  dsimp only
  intro pc hpc
  rw [read_whole arg4 harg4, read_whole arg5 harg5] at hpc
  exact state_pieces Variants.none c none i arg2 harg2 arg3 harg3 arg4 harg4 arg5 harg5 arg6 harg6 arg7 harg7 arg8 harg8 p n x g _ _ le_rfl pc hpc

/-- The sum a point begins, for the weight of the entry before. -/
theorem prevA (hc : cond0_0 i) (l : Fin 256) : out0_A_5 (F := Ideal) c i arg2 harg2 arg3 harg3 arg4 harg4 arg5 harg5 arg6 harg6 arg7 harg7 arg8 harg8 hc x g p n (ix2 0 l) = 0 + ∑ r, partPrev (col x l) (col g l) r := by
  rw [← state_prev Variants.none c none i arg2 harg2 arg3 harg3 arg4 harg4 arg5 harg5 arg6 harg6 arg7 harg7 arg8 harg8 p n x g l]
  unfold out0_A_5
  frame_out
  pointwise [k0_pay8, k0_pay1]
/-- The sum a point carries on, for the weight of the entry before. -/
theorem prevB (hc : ¬cond0_0 i) (u v : Vec Ideal S1x256 .f32) (l : Fin 256) : out0_B_5 (F := Ideal) c i arg2 harg2 arg3 harg3 arg4 harg4 arg5 harg5 arg6 harg6 arg7 harg7 arg8 harg8 hc x g p n u v (ix2 0 l) = u (ix2 0 l) + ∑ r, partPrev (col x l) (col g l) r := by
  rw [← state_prev Variants.none c none i arg2 harg2 arg3 harg3 arg4 harg4 arg5 harg5 arg6 harg6 arg7 harg7 arg8 harg8 p n x g l]
  unfold out0_B_5
  frame_out
  pointwise [k0_pay8]
/-- The sum a point begins, for the weight of the entry after. -/
theorem nextA (hc : cond0_0 i) (l : Fin 256) : out0_A_6 (F := Ideal) c i arg2 harg2 arg3 harg3 arg4 harg4 arg5 harg5 arg6 harg6 arg7 harg7 arg8 harg8 hc x g p n (ix2 0 l) = 0 + ∑ r, partNext (col x l) (col g l) r := by
  rw [← state_next Variants.none c none i arg2 harg2 arg3 harg3 arg4 harg4 arg5 harg5 arg6 harg6 arg7 harg7 arg8 harg8 p n x g l]
  unfold out0_A_6
  frame_out
  pointwise [k0_pay9, k0_pay2]
/-- The sum a point carries on, for the weight of the entry after. -/
theorem nextB (hc : ¬cond0_0 i) (u v : Vec Ideal S1x256 .f32) (l : Fin 256) : out0_B_6 (F := Ideal) c i arg2 harg2 arg3 harg3 arg4 harg4 arg5 harg5 arg6 harg6 arg7 harg7 arg8 harg8 hc x g p n u v (ix2 0 l) = v (ix2 0 l) + ∑ r, partNext (col x l) (col g l) r := by
  rw [← state_next Variants.none c none i arg2 harg2 arg3 harg3 arg4 harg4 arg5 harg5 arg6 harg6 arg7 harg7 arg8 harg8 p n x g l]
  unfold out0_B_6
  frame_out
  pointwise [k0_pay9]
end cases

/-- One sequence's column of the projections; the columns of the second mixer begin at 3584. -/
abbrev colX (x : FVec Ideal S8192x5632 .f32) (b : Fin 4) (l : Fin 1792) : Fin 2048 → EReal := fun r => x (ix2 ⟨b.val * 2048 + r.val, by omega⟩ ⟨3584 + l.val, by omega⟩)
/-- One sequence's column of the gradients. -/
abbrev colG (g : FVec Ideal S8192x1792 .f32) (b : Fin 4) (l : Fin 1792) : Fin 2048 → EReal := fun r => g (ix2 ⟨b.val * 2048 + r.val, by omega⟩ l)

/-- The gradient with respect to the sequences. -/
def dseq (g : FVec Ideal S8192x1792 .f32) (p n : FVec Ideal S1x1792 .f32) : FVec Ideal S8192x1792 .f32 := fun i =>
  back (colG g ⟨(i 0).val / 2048, by have : (i 0).val < 8192 := (i 0).isLt; omega⟩ (i 1)) (p (ix2 0 (i 1))) (n (ix2 0 (i 1))) ⟨(i 0).val % 2048, Nat.mod_lt _ (by decide)⟩
/-- The gradient with respect to the weights of the entry before. -/
def dprev (x : FVec Ideal S8192x5632 .f32) (g : FVec Ideal S8192x1792 .f32) : FVec Ideal S1x1792 .f32 := fun i =>
  ∑ b : Fin 4, ∑ r : Fin 2048, partPrev (colX x b (i 1)) (colG g b (i 1)) r
/-- The gradient with respect to the weights of the entry after. -/
def dnext (x : FVec Ideal S8192x5632 .f32) (g : FVec Ideal S8192x1792 .f32) : FVec Ideal S1x1792 .f32 := fun i =>
  ∑ b : Fin 4, ∑ r : Fin 2048, partNext (colX x b (i 1)) (colG g b (i 1)) r

/-- The `r`-th entry of the `b`-th sequence. -/
theorem dseq_apply (g : FVec Ideal S8192x1792 .f32) (p n : FVec Ideal S1x1792 .f32) (b : Fin 4) (r : Fin 2048) (l : Fin 1792) (h : b.val * 2048 + r.val < 8192) :
    dseq g p n (ix2 ⟨b.val * 2048 + r.val, h⟩ l) = back (colG g b l) (p (ix2 0 l)) (n (ix2 0 l)) r := by
  have h1 : (b.val * 2048 + r.val) / 2048 = b.val := by omega
  have h2 : (b.val * 2048 + r.val) % 2048 = r.val := by omega
  show back (colG g ⟨(b.val * 2048 + r.val) / 2048, _⟩ l) (p (ix2 0 l)) (n (ix2 0 l)) ⟨(b.val * 2048 + r.val) % 2048, _⟩ = _
  simp only [h1, h2]

/-- A real entry with a real weight of the entry after gives its own part out to its three uses; the other weight
  may be infinite. -/
theorem own_part (a c : ℝ) (p : EReal) : (a : EReal) * (1 - p - c) = -((c : EReal) * a) + a + -(p * a) := by
  have e : -((c : EReal) * a) + a = ((-(c * a) + a : ℝ) : EReal) := by norm_cast
  rw [e]
  induction p with
  | coe b =>
    norm_cast
    ring
  | top =>
    have e1 : (1 : EReal) - ⊤ - c = ⊥ := by rw [sub_eq_add_neg, sub_eq_add_neg, EReal.neg_top, EReal.add_bot, EReal.bot_add]
    rw [e1]
    rcases lt_trichotomy a 0 with h | rfl | h
    · rw [EReal.top_mul_coe_of_neg h, EReal.coe_mul_bot_of_neg h, EReal.neg_bot, EReal.coe_add_top]
    · simp
    · rw [EReal.top_mul_coe_of_pos h, EReal.coe_mul_bot_of_pos h, EReal.neg_top, EReal.add_bot]
  | bot =>
    have e1 : (1 : EReal) - ⊥ - c = ⊤ := by rw [← EReal.coe_one, EReal.coe_sub_bot, EReal.top_sub_coe]
    rw [e1]
    rcases lt_trichotomy a 0 with h | rfl | h
    · rw [EReal.bot_mul_coe_of_neg h, EReal.coe_mul_top_of_neg h, EReal.neg_top, EReal.add_bot]
    · simp
    · rw [EReal.bot_mul_coe_of_pos h, EReal.coe_mul_top_of_pos h, EReal.neg_bot, EReal.coe_add_top]

/-- What an entry passes on is the sum of what its four uses pass on. -/
theorem back_eq (g : Fin 2048 → EReal) (p n : EReal) (r : Fin 2048) (hg : ∃ a : ℝ, g r = a) (hn : ∃ a : ℝ, n = a) :
    (((-(n * g r) + prev (fun k => n * g k) r) + g r) + -(p * g r)) + next (fun k => p * g k) r = back g p n r := by
  obtain ⟨a, ha⟩ := hg
  obtain ⟨c, rfl⟩ := hn
  rw [back, prev_mul, next_mul, ha, own_part]
  ac_rfl

section reference
variable (x : FVec Ideal S8192x5632 .f32) (g : FVec Ideal S8192x1792 .f32) (p n : FVec Ideal S1x1792 .f32)

open Cert.ShiftBwdRefIdeal.Read in
/-- The reference's gradient with respect to the sequences. -/
theorem ref_dseq (hg : ∀ i, ∃ a : ℝ, g i = a) (hn : ∀ i, ∃ a : ℝ, n i = a) : val_main_v50 (F := Ideal) g p n = dseq g p n := by
  refine funext fun i => ?_
  obtain ⟨b, r, l, h, rfl⟩ : ∃ (b : Fin 4) (r : Fin 2048) (l : Fin 1792) (h : b.val * 2048 + r.val < 8192), i = ix2 ⟨b.val * 2048 + r.val, h⟩ l :=
    have hi : (i 0).val < 8192 := (i 0).isLt
    ⟨⟨(i 0).val / 2048, by omega⟩, ⟨(i 0).val % 2048, by omega⟩, i 1, by simp only; omega, (eq_ix2 i).trans (congrArg (ix2 · (i 1)) (Fin.ext (by simp only; omega)))⟩
  rw [dseq_apply, ← back_eq _ _ _ _ (hg _) (hn _), prev_pad, next_pad]
  simp only [val_main_v50, val_main_v49, val_main_v48, val_main_v47, val_main_cst_8, val_main_v45, val_main_v44, val_main_v38, val_main_v37, val_main_v36, val_main_v35, val_main_v34, val_main_v32, val_main_cst_5, val_main_v31, val_main_v25, val_main_v24, val_main_v18, val_main_v8, val_main_v23]
  pointwise []
  by_cases h1 : r.val < 1
  · rw [dif_neg (by omega), dif_pos h1]
  · rw [dif_pos ⟨by omega, by omega⟩, dif_neg h1]

open Cert.ShiftBwdRefIdeal.Read in
/-- An entry's part of the reference's gradient with respect to the weights of the entry before. -/
theorem ref_partPrev (b : Fin 4) (r : Fin 2048) (l : Fin 1792) : val_main_v39 (F := Ideal) x g (ix3 b r l) = partPrev (colX x b l) (colG g b l) r := by
  rw [partPrev, prev_pad]
  simp only [val_main_v39, val_main_v23, val_main_v7, val_main_v5, val_main_v3, val_main_cst, val_main_v4, val_main_v1, val_main_v0]
  pointwise []
open Cert.ShiftBwdRefIdeal.Read in
/-- An entry's part of the reference's gradient with respect to the weights of the entry after. -/
theorem ref_partNext (b : Fin 4) (r : Fin 2048) (l : Fin 1792) : val_main_v26 (F := Ideal) x g (ix3 b r l) = partNext (colX x b l) (colG g b l) r := by
  rw [partNext, next_pad]
  simp only [val_main_v26, val_main_v23, val_main_v17, val_main_v15, val_main_v12, val_main_v14, val_main_cst_1, val_main_v1, val_main_v0]
  pointwise []
open Cert.ShiftBwdRefIdeal.Read in
/-- The reference's gradient with respect to the weights of the entry before. -/
theorem ref_dprev : val_main_v43 (F := Ideal) x g = dprev x g := by
  refine funext fun i => ?_
  obtain ⟨u, l, rfl⟩ : ∃ (u : Fin 1) (l : Fin 1792), i = ix2 u l := ⟨i 0, i 1, eq_ix2 i⟩
  refine Eq.trans ?_ (Finset.sum_congr rfl fun b _ => Finset.sum_congr rfl fun r _ => ref_partPrev x g b r l)
  simp only [val_main_v43, val_main_v42, val_main_v41, val_main_v40, val_main_cst_6, val_main_cst_7]
  pointwise [sum_first_two]
  simp only [Finset.univ_unique, Finset.sum_singleton]
open Cert.ShiftBwdRefIdeal.Read in
/-- The reference's gradient with respect to the weights of the entry after. -/
theorem ref_dnext : val_main_v30 (F := Ideal) x g = dnext x g := by
  refine funext fun i => ?_
  obtain ⟨u, l, rfl⟩ : ∃ (u : Fin 1) (l : Fin 1792), i = ix2 u l := ⟨i 0, i 1, eq_ix2 i⟩
  refine Eq.trans ?_ (Finset.sum_congr rfl fun b _ => Finset.sum_congr rfl fun r _ => ref_partNext x g b r l)
  simp only [val_main_v30, val_main_v29, val_main_v28, val_main_v27, val_main_cst_3, val_main_cst_4]
  pointwise [sum_first_two]
  simp only [Finset.univ_unique, Finset.sum_singleton]
end reference

variable (m : (ℓ : Loc nD τ sig) → Buf (Elt Ideal) ℓ)

/-- The projections of the rows, the second mixer's among them. -/
abbrev proj (c : Dev nD) : FVec Ideal S8192x5632 .f32 := m ((c : Thread nD τ).loc main_arg0)
/-- The gradient of the shifted sequences. -/
abbrev dout (c : Dev nD) : FVec Ideal S8192x1792 .f32 := m ((c : Thread nD τ).loc main_arg1)
/-- The weights of the entry before. -/
abbrev before (c : Dev nD) : FVec Ideal S1x1792 .f32 := m ((c : Thread nD τ).loc main_arg2)
/-- The weights of the entry after. -/
abbrev behind (c : Dev nD) : FVec Ideal S1x1792 .f32 := m ((c : Thread nD τ).loc main_arg3)

/-- The blocks a point reads and writes, decided over the grid. -/
theorem index_facts : ∀ t : Fin cfg0.N,
    win0_0.index t = ![t.val % 4, 14 + t.val / 4] ∧ win0_1.index t = ![t.val % 4, t.val / 4] ∧ win0_2.index t = ![0, t.val / 4]
    ∧ win0_3.index t = ![0, t.val / 4] ∧ win0_4.index t = ![t.val % 4, t.val / 4] ∧ win0_5.index t = ![0, t.val / 4] ∧ win0_6.index t = ![0, t.val / 4] :=
  (by decide +kernel : ∀ t : Fin grid0.N, _)

/-- A column of a point's block of the projections. -/
theorem read_proj (c : Dev nD) (t : Fin cfg0.N) (b : Fin 4) (l : Fin 256) (j : Fin 1792) (hb : t.val % 4 = b.val) (hj : t.val / 4 * 256 + l.val = j.val) :
    col (iblk m c 0 t) l = colX (proj m c) b j := by
  funext r
  have e : (iblk m c 0 t : Vec Ideal S2048x256 .f32) (ix2 r l) = proj m c (ix2 ⟨t.val % 4 * 2048 + r.val, by omega⟩ ⟨3584 + (t.val / 4 * 256 + l.val), by omega⟩) := by
    blk_ext [iblk, V, index_facts t]
  simpa only [hb, hj] using e
/-- A column of a point's block of the gradients. -/
theorem read_dout (c : Dev nD) (t : Fin cfg0.N) (b : Fin 4) (l : Fin 256) (j : Fin 1792) (hb : t.val % 4 = b.val) (hj : t.val / 4 * 256 + l.val = j.val) :
    col (iblk m c 1 t) l = colG (dout m c) b j := by
  funext r
  have e : (iblk m c 1 t : Vec Ideal S2048x256 .f32) (ix2 r l) = dout m c (ix2 ⟨t.val % 4 * 2048 + r.val, by omega⟩ ⟨t.val / 4 * 256 + l.val, by omega⟩) := by
    blk_ext [iblk, V, index_facts t]
  simpa only [hb, hj] using e
/-- A point's block of the weights of the entry before. -/
theorem read_before (c : Dev nD) (t : Fin cfg0.N) (l : Fin 256) (h : t.val / 4 * 256 + l.val < 1792) :
    (iblk m c 2 t : Vec Ideal S1x256 .f32) (ix2 0 l) = before m c (ix2 0 ⟨t.val / 4 * 256 + l.val, h⟩) := by
  blk_ext [iblk, V, index_facts t]
/-- A point's block of the weights of the entry after. -/
theorem read_behind (c : Dev nD) (t : Fin cfg0.N) (l : Fin 256) (h : t.val / 4 * 256 + l.val < 1792) :
    (iblk m c 3 t : Vec Ideal S1x256 .f32) (ix2 0 l) = behind m c (ix2 0 ⟨t.val / 4 * 256 + l.val, h⟩) := by
  blk_ext [iblk, V, index_facts t]

/-- The call leaves the gradient with respect to the sequences. -/
theorem result_dseq (c : Dev nD) : (dats m 0 c).arrAt 4 cfg0.N = dseq (dout m c) (before m c) (behind m c) := by
  refine (dats m 0 c).arrAt_eq_of_covers 4 _ (by decide +kernel) fun t hf y => ?_
  blk_simp
  rw [after0_4]
  have key : (outsAt0 m c t.val t.isLt).1 = backBlock (iblk m c 1 t) (iblk m c 2 t) (iblk m c 3 t) := by
    by_cases h : t.val % 4 = 0
    · rw [outsAt0_A m c t h]
      exact outA (hc := (hcond0_0 t).mpr h) ..
    · rw [outsAt0_B m c t h]
      exact outB (hc := fun hc => h ((hcond0_0 t).mp hc)) ..
  rw [key]
  obtain ⟨r, l, rfl⟩ : ∃ (r : Fin 2048) (l : Fin 256), y = ix2 r l := ⟨y 0, y 1, eq_ix2 y⟩
  have ht : t.val < 28 := t.isLt
  have hl : t.val / 4 * 256 + l.val < 1792 := by omega
  have hr : t.val % 4 * 2048 + r.val < 8192 := by omega
  have hi : (win0_4.blk t).view.emb (ix2 r l) = (ix2 ⟨t.val % 4 * 2048 + r.val, hr⟩ ⟨t.val / 4 * 256 + l.val, hl⟩ : S8192x1792.Idx) := by
    blk_ext [index_facts t]
  rw [hi]
  refine Eq.trans ?_ (dseq_apply (dout m c) (before m c) (behind m c) ⟨t.val % 4, Nat.mod_lt _ (by decide)⟩ r ⟨t.val / 4 * 256 + l.val, hl⟩ hr).symm
  show back (col (iblk m c 1 t) l) ((iblk m c 2 t : Vec Ideal S1x256 .f32) (ix2 0 l)) ((iblk m c 3 t : Vec Ideal S1x256 .f32) (ix2 0 l)) r = _
  rw [read_before m c t l hl, read_behind m c t l hl, read_dout m c t ⟨t.val % 4, _⟩ l ⟨_, hl⟩ rfl rfl]

/-- The call leaves the gradient with respect to the weights of the entry before. -/
theorem result_dprev (c : Dev nD) : (dats m 0 c).arrAt 5 cfg0.N = dprev (proj m c) (dout m c) := by
  refine (dats m 0 c).arrAt_eq_of_covers 5 _ (by decide +kernel) fun t hf y => ?_
  blk_simp
  rw [after0_5]
  obtain ⟨u, l, rfl⟩ : ∃ (u : Fin 1) (l : Fin 256), y = ix2 u l := ⟨y 0, y 1, eq_ix2 y⟩
  obtain rfl : u = 0 := Subsingleton.elim _ _
  have ht : t.val < 28 := t.isLt
  have hl : t.val / 4 * 256 + l.val < 1792 := by omega
  have hi : (win0_5.blk t).view.emb (ix2 0 l) = (ix2 0 ⟨t.val / 4 * 256 + l.val, hl⟩ : S1x1792.Idx) := by
    blk_ext [index_facts t]
  rw [hi]
  have hs := Pipeline.eq_sum_fin_of_reset_step_apply_of_flush (N := cfg0.N) (fun n h => (fun l : Fin 256 => (outsAt0 m c n h).2.1 (ix2 0 l) : Fin 256 → EReal)) 4 (fun _ => (0 : EReal))
    (fun t l => ∑ r, partPrev (col (iblk m c 0 t) l) (col (iblk m c 1 t) l) r)
    (fun t h l => by
      rw [outsAt0_A m c t h]
      exact prevA (hc := (hcond0_0 t).mpr h) ..)
    (fun t h l => by
      rw [outsAt0_B m c t h]
      exact prevB (hc := fun hc => h ((hcond0_0 t).mp hc)) (v := (outsAt0 m c (t.val - 1) (Nat.lt_of_le_of_lt (Nat.sub_le _ _) t.isLt)).2.2) ..) t ((flush0_5 t).mp hf) l
  refine Eq.trans (hs.trans (zero_add _)) (show (_ : EReal) = _ from Finset.sum_congr rfl fun b _ => ?_)
  rw [read_proj m c _ b l ⟨_, hl⟩ (by simp only; omega) (by simp only; omega), read_dout m c _ b l ⟨_, hl⟩ (by simp only; omega) (by simp only; omega)]
  rfl

/-- The call leaves the gradient with respect to the weights of the entry after. -/
theorem result_dnext (c : Dev nD) : (dats m 0 c).arrAt 6 cfg0.N = dnext (proj m c) (dout m c) := by
  refine (dats m 0 c).arrAt_eq_of_covers 6 _ (by decide +kernel) fun t hf y => ?_
  blk_simp
  rw [after0_6]
  obtain ⟨u, l, rfl⟩ : ∃ (u : Fin 1) (l : Fin 256), y = ix2 u l := ⟨y 0, y 1, eq_ix2 y⟩
  obtain rfl : u = 0 := Subsingleton.elim _ _
  have ht : t.val < 28 := t.isLt
  have hl : t.val / 4 * 256 + l.val < 1792 := by omega
  have hi : (win0_6.blk t).view.emb (ix2 0 l) = (ix2 0 ⟨t.val / 4 * 256 + l.val, hl⟩ : S1x1792.Idx) := by
    blk_ext [index_facts t]
  rw [hi]
  have hs := Pipeline.eq_sum_fin_of_reset_step_apply_of_flush (N := cfg0.N) (fun n h => (fun l : Fin 256 => (outsAt0 m c n h).2.2 (ix2 0 l) : Fin 256 → EReal)) 4 (fun _ => (0 : EReal))
    (fun t l => ∑ r, partNext (col (iblk m c 0 t) l) (col (iblk m c 1 t) l) r)
    (fun t h l => by
      rw [outsAt0_A m c t h]
      exact nextA (hc := (hcond0_0 t).mpr h) ..)
    (fun t h l => by
      rw [outsAt0_B m c t h]
      exact nextB (hc := fun hc => h ((hcond0_0 t).mp hc)) (u := (outsAt0 m c (t.val - 1) (Nat.lt_of_le_of_lt (Nat.sub_le _ _) t.isLt)).2.1) ..) t ((flush0_6 t).mp hf) l
  refine Eq.trans (hs.trans (zero_add _)) (show (_ : EReal) = _ from Finset.sum_congr rfl fun b _ => ?_)
  rw [read_proj m c _ b l ⟨_, hl⟩ (by simp only; omega) (by simp only; omega), read_dout m c _ b l ⟨_, hl⟩ (by simp only; omega) (by simp only; omega)]
  rfl

/-- What the precondition says: the gradients and the weights of the entry after are real numbers. -/
theorem real_of_pre [hF : Cert.Pre_shift_finite.Facts] {x : FVec Ideal S8192x5632 .f32} {g : FVec Ideal S8192x1792 .f32} {p n : FVec Ideal S1x1792 .f32}
    (h : (Cert.Pre_shift_finite.fn (F := Ideal) x g p n).1 = (fun _ => 1#1) ∧ (Cert.Pre_shift_finite.fn (F := Ideal) x g p n).2 = (fun _ => 1#1)) :
    (∀ i, ∃ a : ℝ, g i = a) ∧ (∀ i, ∃ a : ℝ, n i = a) :=
  ⟨fun i => Finite.real_of_test _ (congrFun h.1 i), fun i => Finite.real_of_test _ (congrFun h.2 i)⟩

/-- The reference's frame: it ends, and its arguments are unchanged. -/
theorem frame_reference : Cert.quiescent_ShiftBwdRefIdeal := fun m ρ _ =>
  (θ_run Cert.ShiftBwdRefIdeal.defs _ _).mono
    (fun r h => ⟨fun c => (h c).2.2.2, sem_eq_zero_of_no_sems rfl r.2⟩) (Cert.ShiftBwdRefIdeal.Value.run (F := Ideal) m ρ)

/-- Of real gradients and real weights of the entry after, the kernel's results are the reference's. -/
theorem algebraic [hK : Cert.ShiftBwdIdeal.Facts] [hR : Cert.ShiftBwdRefIdeal.Facts] [hF : Cert.Pre_shift_finite.Facts] : Cert.algebraic_ShiftBwdIdeal_ShiftBwdRefIdeal_pre_shift_finite :=
  fun m ρ m' ρ' hp hm => ⟨fun c => dseq (dout m c) (before m c) (behind m c), fun c => dprev (proj m c) (dout m c), fun c => dnext (proj m c) (dout m c),
    (θ_run Cert.ShiftBwdIdeal.defs _ _).mono (fun r h c => ⟨(h c).1.trans (result_dseq m c), (h c).2.1.trans (result_dprev m c), (h c).2.2.1.trans (result_dnext m c), (h c).2.2.2⟩)
      (Cert.ShiftBwdIdeal.Value.run_blocks (F := Ideal) m ρ),
    (θ_run Cert.ShiftBwdRefIdeal.defs _ _).mono (fun r h c => ⟨
      (h c).1.trans (by
        rw [Cert.ShiftBwdRefIdeal.Read.val_main_v50_eq, (hm c).2.1, (hm c).2.2.1, (hm c).2.2.2]
        exact ref_dseq _ _ _ (real_of_pre (hp c)).1 (real_of_pre (hp c)).2),
      (h c).2.1.trans (by
        rw [Cert.ShiftBwdRefIdeal.Read.val_main_v43_eq, (hm c).1, (hm c).2.1]
        exact ref_dprev _ _),
      (h c).2.2.1.trans (by
        rw [Cert.ShiftBwdRefIdeal.Read.val_main_v30_eq, (hm c).1, (hm c).2.1]
        exact ref_dnext _ _),
      (h c).2.2.2⟩)
      (Cert.ShiftBwdRefIdeal.Value.run (F := Ideal) m' ρ')⟩

end Cert.ShiftBwdIdeal.Rows

end
-- ==== Proof.ConvBwdValue.lean ====
/-
  The gradients of the gated convolution: with respect to its inputs, to the weights of its three entries and to its bias.
-/
module

public import proofs.«01_k».proof.Proof.Windows
public import proofs.«01_k».proof.Proof.Finite
public import proofs.«01_k».proof.Proof.Rows
public import proofs.«01_k».proof.Defs
public import Idealize.ShloMosaic.Lib.Quiescent
public import Idealize.ShloMosaic.Lib.Pipeline.ValueKit
public import Idealize.ShloMosaic.Lib.WholeRead
public import proofs.«01_k».proof.Proof.Gen.ConvBwdIdeal.Value
public import proofs.«01_k».proof.Proof.Gen.ConvBwdRefIdeal.Run
public import proofs.«01_k».proof.Proof.Gen.ConvBwdRefIdeal.Read

@[expose] public section

set_option maxRecDepth 16384

noncomputable section

namespace Cert.ConvBwdIdeal.Rows

open Cert.ConvBwdIdeal Cert.ConvBwdIdeal.Gen Cert.ConvBwdIdeal.Value Cert.Rows Cert.Shifts Cert.Windows
open Idealize.ShloMosaic Idealize.ShloMosaic.TcCoe Idealize.SL.Sem
open scoped BigOperators

/-- Three neighbouring entries weighed and summed, and the bias. -/
def taps (x : Fin 2048 → EReal) (p o n b : EReal) (r : Fin 2048) : EReal := p * prev x r + o * x r + n * next x r + b
/-- The gradient with respect to what is gated with the silu function, `z` the gradient of the product. -/
def gradGate (g v z : EReal) : EReal := z * v * (gate g * (1 + g * (1 - gate g)))
/-- The gradient with respect to what is multiplied by the gate. -/
def gradValue (g z : EReal) : EReal := z * (g * gate g)
/-- The gradient with respect to an entry, through its own sum and those of its two neighbours. -/
def back (d : Fin 2048 → EReal) (p o n : EReal) (r : Fin 2048) : EReal := o * d r + p * next d r + n * prev d r

/-- A column of a block. -/
abbrev col {w : ℕ} (x : Vec Ideal ⟨2, ![2048, w]⟩ .f32) (l : Fin w) : Fin 2048 → EReal := fun r => x (ix2 r l)
/-- A column of a block of the convolution. -/
abbrev column (x : Vec Ideal S2048x256 .f32) (w : Vec Ideal S3x256 .f32) (b : Vec Ideal S1x256 .f32) (l : Fin 256) : Fin 2048 → EReal :=
  taps (col x l) (w (ix2 0 l)) (w (ix2 1 l)) (w (ix2 2 l)) (b (ix2 0 l))
/-- A column of a block of the gradient with respect to the convolution: the gates lie before the values. -/
def inner (x : Vec Ideal S2048x256 .f32) (z : Vec Ideal S2048x128 .f32) (w : Vec Ideal S3x256 .f32) (b : Vec Ideal S1x256 .f32) (l : Fin 256) (r : Fin 2048) : EReal :=
  if h : l.val < 128 then gradGate (column x w b l r) (column x w b ⟨128 + l.val, by omega⟩ r) (z (ix2 r ⟨l.val, h⟩))
  else gradValue (column x w b ⟨l.val - 128, by omega⟩ r) (z (ix2 r ⟨l.val - 128, by omega⟩))

/-- The test for the first stretch. -/
theorem first_eq : ∀ k : Fin k0_t1_loop.trips, Scalar.cmpi CmpIPredicate.eq (Scf.iv 0#32 1#32 k) 0#32 = if k.val = 0 then 1#1 else 0#1 := by
  decide +kernel
/-- The test for the last stretch. -/
theorem last_eq : ∀ k : Fin k0_t1_loop.trips, Scalar.cmpi CmpIPredicate.eq (Scf.iv 0#32 1#32 k) 15#32 = if k.val = 15 then 1#1 else 0#1 := by
  decide +kernel
/-- There are sixteen stretches. -/
theorem trips_eq : k0_t1_loop.trips = 16 := by decide +kernel
/-- A stretch's number is below sixteen. -/
theorem stretch_lt (k : Fin k0_t1_loop.trips) : k.val < 16 := lt_of_lt_of_eq k.isLt trips_eq
/-- Where the eight entries before a stretch begin. -/
theorem off1_eq : ∀ k : Fin k0_t1_loop.trips, k0_off1 k = ![128 * k.val - 8, 0] := by
  decide +kernel
/-- Where the eight gradients before a stretch begin. -/
theorem off4_eq : ∀ k : Fin k0_t1_loop.trips, k0_off4 k = ![128 * k.val - 8, 0] := by
  decide +kernel

section reads
variable {w : ℕ} (M : Memref sig .tc .vmem ⟨2, ![2048, w]⟩ .f32) (hM : M.IsWhole) (x : Vec Ideal ⟨2, ![2048, w]⟩ .f32) (k : Fin k0_t1_loop.trips)

/-- Rows read out of a block. -/
theorem rows_apply {n : ℕ} (o : Fin 2 → ℕ) (h : ∀ a, o a + (![n, w] : Fin 2 → ℕ) a ≤ (⟨2, ![2048, w]⟩ : Shape).size a) (p : ℕ) (ho : o = ![p, 0]) (q : Fin n) (l : Fin w) (r : Fin 2048) (hr : p + q.val = r.val) :
    (View.readAt (Elt Ideal) M.view (Rect.unit (s := ⟨2, ![2048, w]⟩) o ![n, w] h).toLoadRect (hM.unread x) : Vec Ideal ⟨2, ![n, w]⟩ .f32) (ix2 q l) = x (ix2 r l) := by
  subst ho
  refine (hM.readAt_unread x _ _).trans (congrArg x ?_)
  funext a
  fin_cases a <;> refine Fin.ext ?_
  · show p + 1 * q.val = r.val
    omega
  · show 0 + 1 * l.val = l.val
    omega

/-- The stretch's own entries. -/
theorem mid_apply (o : Fin 2 → ℕ) (h : ∀ a, o a + (![128, w] : Fin 2 → ℕ) a ≤ (⟨2, ![2048, w]⟩ : Shape).size a) (ho : o = ![128 * k.val, 0]) (q : Fin 128) (l : Fin w) :
    (View.readAt (Elt Ideal) M.view (Rect.unit (s := ⟨2, ![2048, w]⟩) o ![128, w] h).toLoadRect (hM.unread x) : Vec Ideal ⟨2, ![128, w]⟩ .f32) (ix2 q l) = near (col x l) k.val (8 + q.val) := by
  have hk : k.val < 16 := stretch_lt k
  rw [near_of_eq (col x l) k.val (8 + q.val) ⟨128 * k.val + q.val, by omega⟩ (by simp only; omega)]
  exact rows_apply M hM x o h _ ho q l _ rfl
/-- The entries before the stretch, zero before the sequence. -/
theorem top_apply (o : Fin 2 → ℕ) (h : ∀ a, o a + (![8, w] : Fin 2 → ℕ) a ≤ (⟨2, ![2048, w]⟩ : Shape).size a) (ho : o = ![128 * k.val - 8, 0]) (q : Fin 8) (l : Fin w) :
    (Scalar.select (Scalar.cmpi CmpIPredicate.eq (Scf.iv 0#32 1#32 k) 0#32) (broadcast ⟨2, ![8, w]⟩ (Scalar.ofBits .f32 0x00000000#32)) (View.readAt (Elt Ideal) M.view (Rect.unit (s := ⟨2, ![2048, w]⟩) o ![8, w] h).toLoadRect (hM.unread x)) : FVec Ideal ⟨2, ![8, w]⟩ .f32) (ix2 q l) = near (col x l) k.val q.val := by
  have hk : k.val < 16 := stretch_lt k
  rw [first_eq k]
  by_cases hk0 : k.val = 0
  · rw [if_pos hk0, near, dif_neg (by omega)]
    exact Ideal.ofBits_zero_f32
  · rw [if_neg hk0, near_of_eq (col x l) k.val q.val ⟨128 * k.val + q.val - 8, by omega⟩ (by simp only; omega)]
    exact rows_apply M hM x o h _ ho q l _ (by simp only; omega)
/-- The entries after the stretch, zero behind the sequence. -/
theorem end_apply (o : Fin 2 → ℕ) (h : ∀ a, o a + (![8, w] : Fin 2 → ℕ) a ≤ (⟨2, ![2048, w]⟩ : Shape).size a) (ho : o = ![min (128 * k.val + 128) 2040, 0]) (q : Fin 8) (l : Fin w) :
    (Scalar.select (Scalar.cmpi CmpIPredicate.eq (Scf.iv 0#32 1#32 k) 15#32) (broadcast ⟨2, ![8, w]⟩ (Scalar.ofBits .f32 0x00000000#32)) (View.readAt (Elt Ideal) M.view (Rect.unit (s := ⟨2, ![2048, w]⟩) o ![8, w] h).toLoadRect (hM.unread x)) : FVec Ideal ⟨2, ![8, w]⟩ .f32) (ix2 q l) = near (col x l) k.val (136 + q.val) := by
  have hk : k.val < 16 := stretch_lt k
  rw [last_eq k]
  by_cases hk0 : k.val = 15
  · rw [if_pos hk0, near, dif_neg (by omega)]
    exact Ideal.ofBits_zero_f32
  · rw [if_neg hk0, near_of_eq (col x l) k.val (136 + q.val) ⟨128 * k.val + 128 + q.val, by omega⟩ (by simp only; omega)]
    exact rows_apply M hM x o h _ ho q l _ (by simp only; omega)
end reads

/-- The stretch of the inputs with its neighbours. -/
theorem window_x (M : Memref sig .tc .vmem S2048x256 .f32) (hM : M.IsWhole) (x : Vec Ideal S2048x256 .f32) (k : Fin k0_t1_loop.trips) (q : Fin 144) (l : Fin 256) :
    k0_pay12 0#32 1#32 k (View.readAt (Elt Ideal) M.view (Rect.unit (s := S2048x256) (k0_off1 k) S8x256.size (k0_off1_inb k)).toLoadRect (hM.unread x))
      (View.readAt (Elt Ideal) M.view (Rect.unit (s := S2048x256) (k0_off2 k) S8x256.size (k0_off2_inb k)).toLoadRect (hM.unread x))
      (View.readAt (Elt Ideal) M.view (Rect.unit (s := S2048x256) (k0_off3 k) S128x256.size (k0_off3_inb k)).toLoadRect (hM.unread x)) (ix2 q l) = near (col x l) k.val q.val :=
  near_concat (fun l => col x l) k.val _ _ _ concatenates_S8x256_S128x256_S8x256_S144x256_d0
    (top_apply M hM x k _ (k0_off1_inb k) (off1_eq k)) (mid_apply M hM x k _ (k0_off3_inb k) (k0_off3_eq k)) (end_apply M hM x k _ (k0_off2_inb k) (k0_off2_eq k)) q l
/-- The stretch of the gradients coming in with its neighbours. -/
theorem window_z (M : Memref sig .tc .vmem S2048x128 .f32) (hM : M.IsWhole) (z : Vec Ideal S2048x128 .f32) (k : Fin k0_t1_loop.trips) (q : Fin 144) (l : Fin 128) :
    concatenate S144x128 0 [⟨S8x128, k0_pay13 (F := Ideal) 0#32 1#32 k (View.readAt (Elt Ideal) M.view (Rect.unit (s := S2048x128) (k0_off4 k) S8x128.size (k0_off4_inb k)).toLoadRect (hM.unread z))⟩,
      ⟨S128x128, View.readAt (Elt Ideal) M.view (Rect.unit (s := S2048x128) (k0_off6 k) S128x128.size (k0_off6_inb k)).toLoadRect (hM.unread z)⟩,
      ⟨S8x128, Scalar.select (Scalar.cmpi CmpIPredicate.eq (Scf.iv 0#32 1#32 k) 15#32) (broadcast S8x128 (Scalar.ofBits .f32 0x00000000#32)) (View.readAt (Elt Ideal) M.view (Rect.unit (s := S2048x128) (k0_off5 k) S8x128.size (k0_off5_inb k)).toLoadRect (hM.unread z))⟩]
      concatenates_S8x128_S128x128_S8x128_S144x128_d0 (ix2 q l) = near (col z l) k.val q.val :=
  near_concat (fun l => col z l) k.val _ _ _ concatenates_S8x128_S128x128_S8x128_S144x128_d0
    (top_apply M hM z k _ (k0_off4_inb k) (off4_eq k)) (mid_apply M hM z k _ (k0_off6_inb k) (k0_off6_eq k)) (end_apply M hM z k _ (k0_off5_inb k) (k0_off5_eq k)) q l

section payloads
variable (k : ℕ) (hk : k < 16) (x : Vec Ideal S2048x256 .f32) (z : Vec Ideal S2048x128 .f32) (w : Vec Ideal S3x256 .f32) (b : Vec Ideal S1x256 .f32)
variable (v44 : FVec Ideal S144x256 .f32) (hx : ∀ q l, v44 (ix2 q l) = near (col x l) k q.val)
variable (v56 : Vec Ideal S8x128 .f32) (v59 : FVec Ideal S8x128 .f32) (v60 : BitVec 1) (v64 : Vec Ideal S128x128 .f32)
variable (hz : ∀ q l, concatenate S144x128 0 [⟨S8x128, v59⟩, ⟨S128x128, v64⟩, ⟨S8x128, Scalar.select v60 (broadcast S8x128 (Scalar.ofBits .f32 0x00000000#32)) v56⟩]
  concatenates_S8x128_S128x128_S8x128_S144x128_d0 (ix2 q l) = near (col z l) k q.val)
include hk hx hz

/-- The stretch of the gradient with respect to the convolution, with one neighbour at either side. -/
theorem inner_apply (q : Fin 144) (l : Fin 256) (h7 : 7 ≤ q.val) (h136 : q.val ≤ 136) :
    k0_pay16 w b v44 v56 v59 v60 v64 (ix2 q l) = near (inner x z w b l) k q.val := by
  have h1 : (q.val + 144 - 143) % 144 = q.val + 1 := by omega
  have h2 : (q.val + 144 - 1) % 144 = q.val - 1 := by omega
  unfold k0_pay16
  generalize concatenate S144x128 0 [⟨S8x128, v59⟩, ⟨S128x128, v64⟩, ⟨S8x128, Scalar.select v60 (broadcast S8x128 (Scalar.ofBits .f32 0x00000000#32)) v56⟩]
    concatenates_S8x128_S128x128_S8x128_S144x128_d0 = zw at hz ⊢
  pointwise [k0_pay14, k0_pay15]
  simp only [hx, hz, h1, h2]
  by_cases hin : 8 ≤ 128 * k + q.val ∧ 128 * k + q.val < 2056
  · have e0 : ∀ y, near y k q.val = y ⟨128 * k + q.val - 8, by omega⟩ := fun y => near_of_eq y k _ _ (by simp only; omega)
    have e1 : ∀ y, near y k (q.val - 1) = prev y ⟨128 * k + q.val - 8, by omega⟩ := fun y => near_prev y k _ _ (by simp only; omega)
    have e2 : ∀ y, near y k (q.val + 1) = next y ⟨128 * k + q.val - 8, by omega⟩ := fun y => near_next y k _ _ (by simp only; omega)
    simp only [e0, e1, e2, logistic_eq]
    rfl
  · have e0 : ∀ y, near y k q.val = 0 := fun y => dif_neg hin
    simp only [e0, zero_mul]
    exact ite_self _

/-- An entry of the stretch's gradient. -/
theorem back_apply (r : Fin 128) (l : Fin 256) :
    k0_pay17 w b v44 v56 v59 v60 v64 (ix2 r l) = back (inner x z w b l) (w (ix2 0 l)) (w (ix2 1 l)) (w (ix2 2 l)) ⟨128 * k + r.val, by omega⟩ := by
  have h1 : (8 + r.val + 144 - 143) % 144 = 9 + r.val := by omega
  have h2 : (8 + r.val + 144 - 1) % 144 = 7 + r.val := by omega
  have e := fun (q : Fin 144) (h7 : 7 ≤ q.val) (h136 : q.val ≤ 136) => inner_apply k hk x z w b v44 hx v56 v59 v60 v64 hz q l h7 h136
  rw [back, ← near_of_eq (inner x z w b l) k (8 + r.val) ⟨128 * k + r.val, by omega⟩ (by simp only; omega), ← near_prev (inner x z w b l) k (7 + r.val) ⟨128 * k + r.val, by omega⟩ (by simp only; omega), ← near_next (inner x z w b l) k (9 + r.val) ⟨128 * k + r.val, by omega⟩ (by simp only; omega)]
  rw [← e ⟨8 + r.val, by omega⟩ (by simp only; omega) (by simp only; omega), ← e ⟨7 + r.val, by omega⟩ (by simp only; omega) (by simp only; omega), ← e ⟨9 + r.val, by omega⟩ (by simp only; omega) (by simp only; omega)]
  pointwise [k0_pay17]
  simp only [h1, h2]
end payloads

section sums
variable (k : ℕ) (hk : k < 16) (x d : Fin 256 → Fin 2048 → EReal) (v44 v94 : FVec Ideal S144x256 .f32) (hx : ∀ q l, v44 (ix2 q l) = near (x l) k q.val)
variable (hd : ∀ (q : Fin 144) (l : Fin 256), 7 ≤ q.val → q.val ≤ 136 → v94 (ix2 q l) = near (d l) k q.val)
variable (acc : FVec Ideal S1x256 .f32) (l : Fin 256)
include hk hd

/-- An entry of the stretch's own gradient. -/
theorem own_apply (r : Fin 128) (h : 8 + r.val < 144) : v94 (ix2 ⟨8 + r.val, h⟩ l) = d l ⟨128 * k + r.val, by omega⟩ := by
  rw [hd _ _ (by simp only; omega) (by simp only; omega)]
  exact near_of_eq (d l) k _ _ (by simp only; omega)
/-- The stretch's sum for the bias. -/
theorem sumBias_apply : k0_pay7 acc v94 (ix2 0 l) = acc (ix2 0 l) + ∑ r : Fin 128, d l ⟨128 * k + r.val, by omega⟩ := by
  pointwise [k0_pay7]
  simp only [own_apply k hk d v94 hd]
include hx
/-- The stretch's sum for the weight of the entry before. -/
theorem sumPrev_apply : k0_pay4 acc (k0_pay14 v44) v94 (ix2 0 l) = acc (ix2 0 l) + ∑ r : Fin 128, d l ⟨128 * k + r.val, by omega⟩ * prev (x l) ⟨128 * k + r.val, by omega⟩ := by
  pointwise [k0_pay4, k0_pay14]
  refine congrArg (acc (ix2 0 l) + ·) (Finset.sum_congr rfl fun r _ => ?_)
  have h2 : (8 + r.val + 144 - 1) % 144 = 7 + r.val := by omega
  rw [own_apply k hk d v94 hd, hx, ← near_prev (x l) k (7 + r.val) ⟨128 * k + r.val, by omega⟩ (by simp only; omega)]
  simp only [h2]
/-- The stretch's sum for the weight of the entry itself. -/
theorem sumOwn_apply : k0_pay5 acc v44 v94 (ix2 0 l) = acc (ix2 0 l) + ∑ r : Fin 128, d l ⟨128 * k + r.val, by omega⟩ * x l ⟨128 * k + r.val, by omega⟩ := by
  pointwise [k0_pay5]
  refine congrArg (acc (ix2 0 l) + ·) (Finset.sum_congr rfl fun r _ => ?_)
  rw [own_apply k hk d v94 hd, hx, ← near_of_eq (x l) k (8 + r.val) ⟨128 * k + r.val, by omega⟩ (by simp only; omega)]
/-- The stretch's sum for the weight of the entry after. -/
theorem sumNext_apply : k0_pay6 acc (k0_pay15 v44) v94 (ix2 0 l) = acc (ix2 0 l) + ∑ r : Fin 128, d l ⟨128 * k + r.val, by omega⟩ * next (x l) ⟨128 * k + r.val, by omega⟩ := by
  pointwise [k0_pay6, k0_pay15]
  refine congrArg (acc (ix2 0 l) + ·) (Finset.sum_congr rfl fun r _ => ?_)
  have h1 : (8 + r.val + 144 - 143) % 144 = 9 + r.val := by omega
  rw [own_apply k hk d v94 hd, hx, ← near_next (x l) k (9 + r.val) ⟨128 * k + r.val, by omega⟩ (by simp only; omega)]
  simp only [h1]
end sums

section state
variable (𝒱 : Variants) (c : Dev nD) (bd : Option 𝒱.V) (i : grid0.Coords)
variable (arg2 : Memref sig .tc .vmem S2048x256 .f32) (harg2 : arg2.IsWhole) (arg3 : Memref sig .tc .vmem S2048x128 .f32) (harg3 : arg3.IsWhole) (arg4 : Memref sig .tc .vmem S3x256 .f32) (harg4 : arg4.IsWhole) (arg5 : Memref sig .tc .vmem S1x256 .f32) (harg5 : arg5.IsWhole) (arg6 : Memref sig .tc .vmem S2048x256 .bf16) (harg6 : arg6.IsWhole) (arg7 : Memref sig .tc .vmem S3x256 .f32) (harg7 : arg7.IsWhole) (arg8 : Memref sig .tc .vmem S1x256 .f32) (harg8 : arg8.IsWhole)
variable (w : Vec Ideal S3x256 .f32) (b : Vec Ideal S1x256 .f32) (x : Vec Ideal S2048x256 .f32) (z : Vec Ideal S2048x128 .f32)

/-- What one stretch adds to the four sums. -/
theorem trip_sums (k : Fin k0_t1_loop.trips) (acc : FVec Ideal S1x256 .f32 × FVec Ideal S1x256 .f32 × FVec Ideal S1x256 .f32 × FVec Ideal S1x256 .f32) (l : Fin 256) :
    let R := tripR_k0_t1 (F := Ideal) 𝒱 c bd i arg2 harg2 arg3 harg3 arg4 harg4 arg5 harg5 arg6 harg6 arg7 harg7 arg8 harg8 w b (harg2.unread x) (harg3.unread z) k acc
    let at_ := fun r : Fin 128 => (⟨128 * k.val + r.val, by have := stretch_lt k; omega⟩ : Fin 2048)
    R.1 (ix2 0 l) = acc.1 (ix2 0 l) + ∑ r : Fin 128, inner x z w b l (at_ r) * prev (col x l) (at_ r)
    ∧ R.2.1 (ix2 0 l) = acc.2.1 (ix2 0 l) + ∑ r : Fin 128, inner x z w b l (at_ r) * col x l (at_ r)
    ∧ R.2.2.1 (ix2 0 l) = acc.2.2.1 (ix2 0 l) + ∑ r : Fin 128, inner x z w b l (at_ r) * next (col x l) (at_ r)
    ∧ R.2.2.2 (ix2 0 l) = acc.2.2.2 (ix2 0 l) + ∑ r : Fin 128, inner x z w b l (at_ r) := by
  have hk := stretch_lt k
  have hx := window_x arg2 harg2 x k
  have hd := inner_apply k.val hk x z w b _ hx _ _ _ _ (window_z arg3 harg3 z k)
  unfold tripR_k0_t1 trip_k0_t1
  dsimp only
  simp only [trip_k0_t1.sl.r, trip_k0_t1.sl.r_1, trip_k0_t1.sl.r_2, trip_k0_t1.sl.r_3, trip_k0_t1.sl.r_4, trip_k0_t1.sl.r_5]
  exact ⟨sumPrev_apply k.val hk (fun l => col x l) (inner x z w b) _ _ hx hd acc.1 l, sumOwn_apply k.val hk (fun l => col x l) (inner x z w b) _ _ hx hd acc.2.1 l,
    sumNext_apply k.val hk (fun l => col x l) (inner x z w b) _ _ hx hd acc.2.2.1 l, sumBias_apply k.val hk (inner x z w b) _ hd acc.2.2.2 l⟩
/-- A block's gradient, entry by entry. -/
def backBlock (x : Vec Ideal S2048x256 .f32) (z : Vec Ideal S2048x128 .f32) (w : Vec Ideal S3x256 .f32) (b : Vec Ideal S1x256 .f32) : Vec Ideal S2048x256 .bf16 := fun y =>
  back (inner x z w b (y 1)) (w (ix2 0 (y 1))) (w (ix2 1 (y 1))) (w (ix2 2 (y 1))) (y 0)
/-- What one stretch stores is the block's gradient there. -/
theorem trip_piece (k : Fin k0_t1_loop.trips) (acc : FVec Ideal S1x256 .f32 × FVec Ideal S1x256 .f32 × FVec Ideal S1x256 .f32 × FVec Ideal S1x256 .f32) :
    ∀ pc ∈ tripL_k0_t1 (F := Ideal) 𝒱 c bd i arg2 harg2 arg3 harg3 arg4 harg4 arg5 harg5 arg6 harg6 arg7 harg7 arg8 harg8 w b (harg2.unread x) (harg3.unread z) k acc, ∀ y : pc.1.shape.Idx, pc.2 y = backBlock x z w b (pc.1.emb y) := by
  unfold tripL_k0_t1 trip_k0_t1
  dsimp only
  intro pc hpc
  obtain rfl := List.mem_singleton.mp hpc
  intro y
  have hk : k.val < 16 := stretch_lt k
  obtain ⟨r, l, rfl⟩ : ∃ (r : Fin 128) (l : Fin 256), y = ix2 r l := ⟨y 0, y 1, eq_ix2 y⟩
  refine (back_apply k.val hk x z w b _ (window_x arg2 harg2 x k) _ _ _ _ (window_z arg3 harg3 z k) r l).trans ?_
  have e : (Rect.unit (s := S2048x256) (k0_off3 k) S128x256.size (k0_off3_inb k)).emb (ix2 r l) = ix2 (⟨128 * k.val + r.val, by omega⟩ : Fin 2048) l := by
    funext a
    fin_cases a <;> refine Fin.ext ?_
    · show k0_off3 k 0 + 1 * r.val = 128 * k.val + r.val
      simp [k0_off3_eq k]
    · show k0_off3 k 1 + 1 * l.val = l.val
      simp [k0_off3_eq k]
  exact (congrArg (backBlock x z w b) e).symm

/-- A sum carried through the loop. -/
theorem state_sum (f : FVec Ideal S1x256 .f32 × FVec Ideal S1x256 .f32 × FVec Ideal S1x256 .f32 × FVec Ideal S1x256 .f32 → EReal) (g : Fin 2048 → EReal) (h0 : f (k0_pay3, k0_pay3, k0_pay3, k0_pay3) = 0)
    (h : ∀ k acc, f (tripR_k0_t1 (F := Ideal) 𝒱 c bd i arg2 harg2 arg3 harg3 arg4 harg4 arg5 harg5 arg6 harg6 arg7 harg7 arg8 harg8 w b (harg2.unread x) (harg3.unread z) k acc) = f acc + ∑ r : Fin 128, g ⟨128 * k.val + r.val, by have := stretch_lt k; omega⟩) :
    f (st_k0_t1 (F := Ideal) 𝒱 c bd i arg2 harg2 arg3 harg3 arg4 harg4 arg5 harg5 arg6 harg6 arg7 harg7 arg8 harg8 w b (harg2.unread x) (harg3.unread z) (k0_pay3, k0_pay3, k0_pay3, k0_pay3) k0_t1_loop.trips).1 = ∑ r, g r := by
  refine (sum_steps k0_t1_loop.trips (fun j => f (st_k0_t1 (F := Ideal) 𝒱 c bd i arg2 harg2 arg3 harg3 arg4 harg4 arg5 harg5 arg6 harg6 arg7 harg7 arg8 harg8 w b (harg2.unread x) (harg3.unread z) (k0_pay3, k0_pay3, k0_pay3, k0_pay3) j).1) _
    (fun k => by
      simp only [st_k0_t1_succ]
      exact h k _)).trans ?_
  rw [← sum_stretches]
  refine Eq.trans (congrArg₂ (· + ·) h0 (Fintype.sum_equiv (finCongr trips_eq) _ _ fun k => rfl)) (zero_add _)
/-- Everything the loop has stored is the block's gradient. -/
theorem state_pieces (init : FVec Ideal S1x256 .f32 × FVec Ideal S1x256 .f32 × FVec Ideal S1x256 .f32 × FVec Ideal S1x256 .f32) : ∀ j ≤ k0_t1_loop.trips,
    ∀ pc ∈ (st_k0_t1 (F := Ideal) 𝒱 c bd i arg2 harg2 arg3 harg3 arg4 harg4 arg5 harg5 arg6 harg6 arg7 harg7 arg8 harg8 w b (harg2.unread x) (harg3.unread z) init j).2, ∀ y : pc.1.shape.Idx, pc.2 y = backBlock x z w b (pc.1.emb y)
  | 0, _, _, h => absurd h List.not_mem_nil
  | j + 1, hj, pc, h => by
    rw [st_k0_t1_succ (k := ⟨j, hj⟩)] at h
    rcases List.mem_append.mp h with h | h
    · exact trip_piece 𝒱 c bd i arg2 harg2 arg3 harg3 arg4 harg4 arg5 harg5 arg6 harg6 arg7 harg7 arg8 harg8 w b x z ⟨j, hj⟩ _ pc h
    · exact state_pieces init j (Nat.le_of_succ_le hj) pc h
end state

/-- A block read as a whole is the block. -/
theorem read_whole {n : ℕ} (M : Memref sig .tc .vmem ⟨2, ![n, 256]⟩ .f32) (hM : M.IsWhole) (v : Vec Ideal ⟨2, ![n, 256]⟩ .f32) (h) :
    View.readAt (Elt Ideal) M.view (Rect.unit (s := ⟨2, ![n, 256]⟩) ![0, 0] ![n, 256] h).toLoadRect (hM.unread v) = v := by
  funext y
  obtain ⟨u, l, rfl⟩ : ∃ (u : Fin n) (l : Fin 256), y = ix2 u l := ⟨y 0, y 1, eq_ix2 y⟩
  refine (hM.readAt_unread v _ _).trans (congrArg v ?_)
  funext a
  fin_cases a <;> refine Fin.ext ?_
  · show 0 + 1 * u.val = u.val
    omega
  · show 0 + 1 * l.val = l.val
    omega

/-- A row of the three, as entries of the block. -/
theorem row_emb (a : Fin 3) {o : Fin 2 → ℕ} (ho : o = ![a.val, 0]) (h) (l : Fin 256) : (Rect.unit (s := S3x256) o ![1, 256] h).emb (ix2 (0 : Fin 1) l) = ix2 a l := by
  subst ho
  funext d
  fin_cases d <;> refine Fin.ext ?_
  · show a.val + 1 * 0 = a.val
    omega
  · show 0 + 1 * l.val = l.val
    omega
/-- A row stored last is what it was stored as. -/
theorem canon_row (a : Fin 3) {o : Fin 2 → ℕ} (ho : o = ![a.val, 0]) (h) (p : Vec Ideal S1x256 .f32) (L : List (View.Piece (Elt Ideal) S3x256 .f32)) (l : Fin 256) :
    View.canon (⟨Rect.unit (s := S3x256) o ![1, 256] h, p⟩ :: L) (ix2 a l) = p (ix2 0 l) := by
  rw [← row_emb a ho h l]
  exact View.canon_cons_emb (Rect.unit (s := S3x256) o ![1, 256] h) p L (ix2 (0 : Fin 1) l)
/-- Another row is what it was. -/
theorem canon_other (a a' : Fin 3) (hne : a' ≠ a) {o : Fin 2 → ℕ} (ho : o = ![a.val, 0]) (h) (p : Vec Ideal S1x256 .f32) (L : List (View.Piece (Elt Ideal) S3x256 .f32)) (l : Fin 256) :
    View.canon (⟨Rect.unit (s := S3x256) o ![1, 256] h, p⟩ :: L) (ix2 a' l) = View.canon L (ix2 a' l) := by
  refine View.canon_cons_of_not_mem (Val := Elt Ideal) _ L fun hm => hne ?_
  obtain ⟨j, hj, he⟩ := (LoadRect.mem_set _).mp hm (0 : Fin 2)
  have hj1 : j < 1 := hj
  have he' : a'.val = o 0 + 1 * j := he
  have ho' : o 0 = a.val := congrFun ho 0
  exact Fin.ext (by omega)
/-- A row read is the row of the block. -/
theorem ld_row (a : Fin 3) {o : Fin 2 → ℕ} (ho : o = ![a.val, 0]) (h) (u : Vec Ideal S3x256 .f32) (l : Fin 256) :
    View.ld u (Rect.unit (s := S3x256) o ![1, 256] h) (ix2 0 l) = u (ix2 a l) := congrArg u (row_emb a ho h l)
/-- A row read after stores is the row they left. -/
theorem read_row (M : Memref sig .tc .vmem S3x256 .f32) (L : List (View.Piece (Elt Ideal) S3x256 .f32)) (a : Fin 3) {o : Fin 2 → ℕ} (ho : o = ![a.val, 0]) (h) (l : Fin 256) :
    M.view.readCov L (Rect.unit (s := S3x256) o ![1, 256] h).toLoadRect (ix2 0 l) = View.canon L (ix2 a l) :=
  (congrFun (View.readCov_eq_canon' M.view L _) _).trans (congrArg _ (row_emb a ho h l))
/-- The sequence a row of the weights multiplies: the one before, the entry itself, the one after. -/
def shifted (x : Fin 2048 → EReal) : Fin 3 → Fin 2048 → EReal
  | 0 => prev x
  | 1 => x
  | 2 => next x

section cases
variable (c : Dev nD) (i : grid0.Coords)
variable (arg2 : Memref sig .tc .vmem S2048x256 .f32) (harg2 : arg2.IsWhole) (arg3 : Memref sig .tc .vmem S2048x128 .f32) (harg3 : arg3.IsWhole) (arg4 : Memref sig .tc .vmem S3x256 .f32) (harg4 : arg4.IsWhole) (arg5 : Memref sig .tc .vmem S1x256 .f32) (harg5 : arg5.IsWhole) (arg6 : Memref sig .tc .vmem S2048x256 .bf16) (harg6 : arg6.IsWhole) (arg7 : Memref sig .tc .vmem S3x256 .f32) (harg7 : arg7.IsWhole) (arg8 : Memref sig .tc .vmem S1x256 .f32) (harg8 : arg8.IsWhole)
variable (x : Vec Ideal S2048x256 .f32) (z : Vec Ideal S2048x128 .f32) (w : Vec Ideal S3x256 .f32) (b : Vec Ideal S1x256 .f32)

/-- A point's block of the gradients, where the sums begin. -/
theorem outA (hc : cond0_0 i) : out0_A_4 (F := Ideal) c i arg2 harg2 arg3 harg3 arg4 harg4 arg5 harg5 arg6 harg6 arg7 harg7 arg8 harg8 hc x z w b = backBlock x z w b := by
  funext y
  unfold out0_A_4
  refine View.read_writes_apply_of_pieces VO0_4 _ (backBlock x z w b) _ ?_ y (cover0_A_4 c i arg2 harg2 arg3 harg3 arg4 harg4 arg5 harg5 arg6 harg6 arg7 harg7 arg8 harg8 hc x z w b y)
  unfold kernelRun0_A
  dsimp only
  intro pc hpc
  rw [read_whole arg4 harg4, read_whole arg5 harg5] at hpc
  exact state_pieces Variants.none c none i arg2 harg2 arg3 harg3 arg4 harg4 arg5 harg5 arg6 harg6 arg7 harg7 arg8 harg8 w b x z _ _ le_rfl pc hpc
/-- A point's block of the gradients, where the sums go on. -/
theorem outB (hc : ¬cond0_0 i) (u : Vec Ideal S3x256 .f32) (v : Vec Ideal S1x256 .f32) : out0_B_4 (F := Ideal) c i arg2 harg2 arg3 harg3 arg4 harg4 arg5 harg5 arg6 harg6 arg7 harg7 arg8 harg8 hc x z w b u v = backBlock x z w b := by
  funext y
  unfold out0_B_4
  refine View.read_writes_apply_of_pieces VO0_4 _ (backBlock x z w b) _ ?_ y (cover0_B_4 c i arg2 harg2 arg3 harg3 arg4 harg4 arg5 harg5 arg6 harg6 arg7 harg7 arg8 harg8 hc x z w b u v y)
  unfold kernelRun0_B
  dsimp only
  intro pc hpc
  rw [read_whole arg4 harg4, read_whole arg5 harg5] at hpc
  exact state_pieces Variants.none c none i arg2 harg2 arg3 harg3 arg4 harg4 arg5 harg5 arg6 harg6 arg7 harg7 arg8 harg8 w b x z _ _ le_rfl pc hpc

/-- What the loop leaves in its four sums. -/
theorem state_sums (l : Fin 256) : let S := (st_k0_t1 (F := Ideal) Variants.none c none i arg2 harg2 arg3 harg3 arg4 harg4 arg5 harg5 arg6 harg6 arg7 harg7 arg8 harg8 w b (harg2.unread x) (harg3.unread z) (k0_pay3, k0_pay3, k0_pay3, k0_pay3) k0_t1_loop.trips).1
    S.1 (ix2 0 l) = ∑ r, inner x z w b l r * prev (col x l) r ∧ S.2.1 (ix2 0 l) = ∑ r, inner x z w b l r * col x l r
    ∧ S.2.2.1 (ix2 0 l) = ∑ r, inner x z w b l r * next (col x l) r ∧ S.2.2.2 (ix2 0 l) = ∑ r, inner x z w b l r :=
  have hz : k0_pay3 (F := Ideal) (ix2 0 l) = 0 := Ideal.ofBits_zero .f32
  ⟨state_sum Variants.none c none i arg2 harg2 arg3 harg3 arg4 harg4 arg5 harg5 arg6 harg6 arg7 harg7 arg8 harg8 w b x z (fun s => s.1 (ix2 0 l)) (fun r => inner x z w b l r * prev (col x l) r) hz fun k acc => (trip_sums Variants.none c none i arg2 harg2 arg3 harg3 arg4 harg4 arg5 harg5 arg6 harg6 arg7 harg7 arg8 harg8 w b x z k acc l).1,
    state_sum Variants.none c none i arg2 harg2 arg3 harg3 arg4 harg4 arg5 harg5 arg6 harg6 arg7 harg7 arg8 harg8 w b x z (fun s => s.2.1 (ix2 0 l)) (fun r => inner x z w b l r * col x l r) hz fun k acc => (trip_sums Variants.none c none i arg2 harg2 arg3 harg3 arg4 harg4 arg5 harg5 arg6 harg6 arg7 harg7 arg8 harg8 w b x z k acc l).2.1,
    state_sum Variants.none c none i arg2 harg2 arg3 harg3 arg4 harg4 arg5 harg5 arg6 harg6 arg7 harg7 arg8 harg8 w b x z (fun s => s.2.2.1 (ix2 0 l)) (fun r => inner x z w b l r * next (col x l) r) hz fun k acc => (trip_sums Variants.none c none i arg2 harg2 arg3 harg3 arg4 harg4 arg5 harg5 arg6 harg6 arg7 harg7 arg8 harg8 w b x z k acc l).2.2.1,
    state_sum Variants.none c none i arg2 harg2 arg3 harg3 arg4 harg4 arg5 harg5 arg6 harg6 arg7 harg7 arg8 harg8 w b x z (fun s => s.2.2.2 (ix2 0 l)) (fun r => inner x z w b l r) hz fun k acc => (trip_sums Variants.none c none i arg2 harg2 arg3 harg3 arg4 harg4 arg5 harg5 arg6 harg6 arg7 harg7 arg8 harg8 w b x z k acc l).2.2.2⟩

/-- A row's new sum, entry by entry. -/
theorem pay8_apply (s u : Vec Ideal S1x256 .f32) (l : Fin 256) : k0_pay8 s u (ix2 0 l) = u (ix2 0 l) + s (ix2 0 l) := by
  pointwise [k0_pay8]
/-- A row's new sum, entry by entry. -/
theorem pay9_apply (s u : Vec Ideal S1x256 .f32) (l : Fin 256) : k0_pay9 s u (ix2 0 l) = u (ix2 0 l) + s (ix2 0 l) := by
  pointwise [k0_pay9]
/-- A row's new sum, entry by entry. -/
theorem pay10_apply (s u : Vec Ideal S1x256 .f32) (l : Fin 256) : k0_pay10 s u (ix2 0 l) = u (ix2 0 l) + s (ix2 0 l) := by
  pointwise [k0_pay10]
/-- The new sum of the columns, entry by entry. -/
theorem pay11_apply (s u : Vec Ideal S1x256 .f32) (l : Fin 256) : k0_pay11 s u (ix2 0 l) = u (ix2 0 l) + s (ix2 0 l) := by
  pointwise [k0_pay11]

/-- The sums a point goes on with, for the weights. -/
theorem weightsB (hc : ¬cond0_0 i) (u : Vec Ideal S3x256 .f32) (v : Vec Ideal S1x256 .f32) (a : Fin 3) (l : Fin 256) : out0_B_5 (F := Ideal) c i arg2 harg2 arg3 harg3 arg4 harg4 arg5 harg5 arg6 harg6 arg7 harg7 arg8 harg8 hc x z w b u v (ix2 a l) = u (ix2 a l) + ∑ r, inner x z w b l r * shifted (col x l) a r := by
  have hs := state_sums c i arg2 harg2 arg3 harg3 arg4 harg4 arg5 harg5 arg6 harg6 arg7 harg7 arg8 harg8 x z w b l
  unfold out0_B_5
  frame_out
  fin_cases a
  · refine (canon_other 2 0 (by decide) rfl _ _ _ l).trans ((canon_other 1 0 (by decide) rfl _ _ _ l).trans ((canon_row 0 rfl _ _ _ l).trans ((pay8_apply _ _ l).trans ?_)))
    exact congrArg₂ (· + ·) (ld_row 0 rfl _ u l) hs.1
  · refine (canon_other 2 1 (by decide) rfl _ _ _ l).trans ((canon_row 1 rfl _ _ _ l).trans ((pay9_apply _ _ l).trans ?_))
    exact congrArg₂ (· + ·) (ld_row 1 rfl _ u l) hs.2.1
  · refine (canon_row 2 rfl _ _ _ l).trans ((pay10_apply _ _ l).trans ?_)
    exact congrArg₂ (· + ·) (ld_row 2 rfl _ u l) hs.2.2.1
/-- A block filled with zeros. -/
theorem canon_zeros (h) (a : Fin 3) (l : Fin 256) : View.canon [(⟨Rect.unit (s := S3x256) ![0, 0] ![3, 256] h, k0_pay1 (F := Ideal)⟩ : View.Piece (Elt Ideal) S3x256 .f32)] (ix2 a l) = 0 := by
  have e : (Rect.unit (s := S3x256) ![0, 0] ![3, 256] h).emb (ix2 a l) = ix2 a l := by
    funext d
    fin_cases d <;> refine Fin.ext ?_
    · show 0 + 1 * a.val = a.val
      omega
    · show 0 + 1 * l.val = l.val
      omega
  rw [← e]
  refine (View.canon_cons_emb _ _ _ _).trans ?_
  exact Ideal.ofBits_zero .f32
/-- The sums a point begins, for the weights. -/
theorem weightsA (hc : cond0_0 i) (a : Fin 3) (l : Fin 256) : out0_A_5 (F := Ideal) c i arg2 harg2 arg3 harg3 arg4 harg4 arg5 harg5 arg6 harg6 arg7 harg7 arg8 harg8 hc x z w b (ix2 a l) = 0 + ∑ r, inner x z w b l r * shifted (col x l) a r := by
  have hs := state_sums c i arg2 harg2 arg3 harg3 arg4 harg4 arg5 harg5 arg6 harg6 arg7 harg7 arg8 harg8 x z w b l
  unfold out0_A_5
  frame_out
  fin_cases a
  · refine (canon_other 2 0 (by decide) rfl _ _ _ l).trans ((canon_other 1 0 (by decide) rfl _ _ _ l).trans ((canon_row 0 rfl _ _ _ l).trans ((pay8_apply _ _ l).trans ?_)))
    exact congrArg₂ (· + ·) ((read_row arg7 _ 0 rfl _ l).trans (canon_zeros _ 0 l)) hs.1
  · refine (canon_other 2 1 (by decide) rfl _ _ _ l).trans ((canon_row 1 rfl _ _ _ l).trans ((pay9_apply _ _ l).trans ?_))
    exact congrArg₂ (· + ·) ((read_row arg7 _ 1 rfl _ l).trans ((canon_other 0 1 (by decide) rfl _ _ _ l).trans (canon_zeros _ 1 l))) hs.2.1
  · refine (canon_row 2 rfl _ _ _ l).trans ((pay10_apply _ _ l).trans ?_)
    exact congrArg₂ (· + ·) ((read_row arg7 _ 2 rfl _ l).trans ((canon_other 1 2 (by decide) rfl _ _ _ l).trans ((canon_other 0 2 (by decide) rfl _ _ _ l).trans (canon_zeros _ 2 l)))) hs.2.2.1
/-- The sum a point goes on with, for the bias. -/
theorem biasB (hc : ¬cond0_0 i) (u : Vec Ideal S3x256 .f32) (v : Vec Ideal S1x256 .f32) (l : Fin 256) : out0_B_6 (F := Ideal) c i arg2 harg2 arg3 harg3 arg4 harg4 arg5 harg5 arg6 harg6 arg7 harg7 arg8 harg8 hc x z w b u v (ix2 0 l) = v (ix2 0 l) + ∑ r, inner x z w b l r := by
  have hs := state_sums c i arg2 harg2 arg3 harg3 arg4 harg4 arg5 harg5 arg6 harg6 arg7 harg7 arg8 harg8 x z w b l
  unfold out0_B_6
  frame_out
  exact (pay11_apply _ _ l).trans (congrArg (v (ix2 0 l) + ·) hs.2.2.2)
/-- The sum a point begins, for the bias. -/
theorem biasA (hc : cond0_0 i) (l : Fin 256) : out0_A_6 (F := Ideal) c i arg2 harg2 arg3 harg3 arg4 harg4 arg5 harg5 arg6 harg6 arg7 harg7 arg8 harg8 hc x z w b (ix2 0 l) = 0 + ∑ r, inner x z w b l r := by
  have hs := state_sums c i arg2 harg2 arg3 harg3 arg4 harg4 arg5 harg5 arg6 harg6 arg7 harg7 arg8 harg8 x z w b l
  unfold out0_A_6
  frame_out
  exact (pay11_apply _ _ l).trans (congrArg₂ (· + ·) (Ideal.ofBits_zero .f32) hs.2.2.2)
end cases

/-- One sequence's column of the inputs of the convolution. -/
abbrev colU (u : FVec Ideal S8192x5632 .f32) (b : Fin 4) (j : Fin 5632) : Fin 2048 → EReal := fun r => u (ix2 ⟨b.val * 2048 + r.val, by omega⟩ j)
/-- One sequence's column of the gradient of what is gated. -/
abbrev colZ (z : FVec Ideal S8192x2816 .f32) (b : Fin 4) (k : Fin 2816) : Fin 2048 → EReal := fun r => z (ix2 ⟨b.val * 2048 + r.val, by omega⟩ k)
/-- One sequence's column of the convolution. -/
abbrev columnU (u : FVec Ideal S8192x5632 .f32) (w : FVec Ideal S3x5632 .f32) (v : FVec Ideal S1x5632 .f32) (b : Fin 4) (j : Fin 5632) : Fin 2048 → EReal :=
  taps (colU u b j) (w (ix2 0 j)) (w (ix2 1 j)) (w (ix2 2 j)) (v (ix2 0 j))
/-- One sequence's column of the gradient with respect to the convolution: the gates of 128 columns lie before their values. -/
def dconv (u : FVec Ideal S8192x5632 .f32) (z : FVec Ideal S8192x2816 .f32) (w : FVec Ideal S3x5632 .f32) (v : FVec Ideal S1x5632 .f32) (b : Fin 4) (j : Fin 5632) (r : Fin 2048) : EReal :=
  if h : j.val % 256 < 128 then gradGate (columnU u w v b j r) (columnU u w v b ⟨j.val + 128, by omega⟩ r) (colZ z b ⟨j.val / 256 * 128 + j.val % 256, by omega⟩ r)
  else gradValue (columnU u w v b ⟨j.val - 128, by omega⟩ r) (colZ z b ⟨j.val / 256 * 128 + (j.val % 256 - 128), by omega⟩ r)

/-- The gradient with respect to the inputs. -/
def du (u : FVec Ideal S8192x5632 .f32) (z : FVec Ideal S8192x2816 .f32) (w : FVec Ideal S3x5632 .f32) (v : FVec Ideal S1x5632 .f32) : FVec Ideal S8192x5632 .bf16 := fun i =>
  back (dconv u z w v ⟨(i 0).val / 2048, by have : (i 0).val < 8192 := (i 0).isLt; omega⟩ (i 1)) (w (ix2 0 (i 1))) (w (ix2 1 (i 1))) (w (ix2 2 (i 1))) ⟨(i 0).val % 2048, Nat.mod_lt _ (by decide)⟩
/-- The gradient with respect to the weights. -/
def dw (u : FVec Ideal S8192x5632 .f32) (z : FVec Ideal S8192x2816 .f32) (w : FVec Ideal S3x5632 .f32) (v : FVec Ideal S1x5632 .f32) : FVec Ideal S3x5632 .f32 := fun i =>
  ∑ b : Fin 4, ∑ r : Fin 2048, dconv u z w v b (i 1) r * shifted (colU u b (i 1)) (i 0) r
/-- The gradient with respect to the bias. -/
def db (u : FVec Ideal S8192x5632 .f32) (z : FVec Ideal S8192x2816 .f32) (w : FVec Ideal S3x5632 .f32) (v : FVec Ideal S1x5632 .f32) : FVec Ideal S1x5632 .f32 := fun i =>
  ∑ b : Fin 4, ∑ r : Fin 2048, dconv u z w v b (i 1) r

/-- The `r`-th entry of the `b`-th sequence. -/
theorem du_apply (u : FVec Ideal S8192x5632 .f32) (z : FVec Ideal S8192x2816 .f32) (w : FVec Ideal S3x5632 .f32) (v : FVec Ideal S1x5632 .f32) (b : Fin 4) (r : Fin 2048) (j : Fin 5632) (h : b.val * 2048 + r.val < 8192) :
    du u z w v (ix2 ⟨b.val * 2048 + r.val, h⟩ j) = back (dconv u z w v b j) (w (ix2 0 j)) (w (ix2 1 j)) (w (ix2 2 j)) r := by
  have h1 : (b.val * 2048 + r.val) / 2048 = b.val := by omega
  have h2 : (b.val * 2048 + r.val) % 2048 = r.val := by omega
  show back (dconv u z w v ⟨(b.val * 2048 + r.val) / 2048, _⟩ j) (w (ix2 0 j)) (w (ix2 1 j)) (w (ix2 2 j)) ⟨(b.val * 2048 + r.val) % 2048, _⟩ = _
  simp only [h1, h2]

section results
variable (m : (ℓ : Loc nD τ sig) → Buf (Elt Ideal) ℓ)

/-- The inputs of the convolution. -/
abbrev inputs (c : Dev nD) : FVec Ideal S8192x5632 .f32 := m ((c : Thread nD τ).loc main_arg0)
/-- The gradient of what is gated. -/
abbrev grads (c : Dev nD) : FVec Ideal S8192x2816 .f32 := m ((c : Thread nD τ).loc main_arg1)
/-- The weights of the three entries. -/
abbrev weights (c : Dev nD) : FVec Ideal S3x5632 .f32 := m ((c : Thread nD τ).loc main_arg2)
/-- The bias. -/
abbrev bias (c : Dev nD) : FVec Ideal S1x5632 .f32 := m ((c : Thread nD τ).loc main_arg3)

/-- The blocks a point reads and writes, decided over the grid. -/
theorem index_facts : ∀ t : Fin cfg0.N,
    win0_0.index t = ![t.val % 4, t.val / 4] ∧ win0_1.index t = ![t.val % 4, t.val / 4] ∧ win0_2.index t = ![0, t.val / 4]
    ∧ win0_3.index t = ![0, t.val / 4] ∧ win0_4.index t = ![t.val % 4, t.val / 4] ∧ win0_5.index t = ![0, t.val / 4] ∧ win0_6.index t = ![0, t.val / 4] :=
  (by decide +kernel : ∀ t : Fin grid0.N, _)

/-- A column of a point's block of the inputs. -/
theorem read_inputs (c : Dev nD) (t : Fin cfg0.N) (b : Fin 4) (l : Fin 256) (j : Fin 5632) (hb : t.val % 4 = b.val) (hj : t.val / 4 * 256 + l.val = j.val) :
    col (iblk m c 0 t : Vec Ideal S2048x256 .f32) l = colU (inputs m c) b j := by
  funext r
  have e : (iblk m c 0 t : Vec Ideal S2048x256 .f32) (ix2 r l) = inputs m c (ix2 ⟨t.val % 4 * 2048 + r.val, by omega⟩ ⟨t.val / 4 * 256 + l.val, by omega⟩) := by
    blk_ext [iblk, V, index_facts t]
  simpa only [hb, hj] using e
/-- A column of a point's block of the gradient of what is gated. -/
theorem read_grads (c : Dev nD) (t : Fin cfg0.N) (b : Fin 4) (l : Fin 128) (k : Fin 2816) (hb : t.val % 4 = b.val) (hk : t.val / 4 * 128 + l.val = k.val) :
    col (iblk m c 1 t : Vec Ideal S2048x128 .f32) l = colZ (grads m c) b k := by
  funext r
  have e : (iblk m c 1 t : Vec Ideal S2048x128 .f32) (ix2 r l) = grads m c (ix2 ⟨t.val % 4 * 2048 + r.val, by omega⟩ ⟨t.val / 4 * 128 + l.val, by omega⟩) := by
    blk_ext [iblk, V, index_facts t]
  simpa only [hb, hk] using e
/-- A point's block of the weights. -/
theorem read_weights (c : Dev nD) (t : Fin cfg0.N) (a : Fin 3) (l : Fin 256) (j : Fin 5632) (hj : t.val / 4 * 256 + l.val = j.val) :
    (iblk m c 2 t : Vec Ideal S3x256 .f32) (ix2 a l) = weights m c (ix2 a j) := by
  have e : (iblk m c 2 t : Vec Ideal S3x256 .f32) (ix2 a l) = weights m c (ix2 a ⟨t.val / 4 * 256 + l.val, by omega⟩) := by
    blk_ext [iblk, V, index_facts t]
  simpa only [hj] using e
/-- A point's block of the bias. -/
theorem read_bias (c : Dev nD) (t : Fin cfg0.N) (l : Fin 256) (j : Fin 5632) (hj : t.val / 4 * 256 + l.val = j.val) :
    (iblk m c 3 t : Vec Ideal S1x256 .f32) (ix2 0 l) = bias m c (ix2 0 j) := by
  have e : (iblk m c 3 t : Vec Ideal S1x256 .f32) (ix2 0 l) = bias m c (ix2 0 ⟨t.val / 4 * 256 + l.val, by omega⟩) := by
    blk_ext [iblk, V, index_facts t]
  simpa only [hj] using e
/-- A column of a point's block of the convolution. -/
theorem read_column (c : Dev nD) (t : Fin cfg0.N) (b : Fin 4) (l : Fin 256) (j : Fin 5632) (hb : t.val % 4 = b.val) (hj : t.val / 4 * 256 + l.val = j.val) :
    column (iblk m c 0 t) (iblk m c 2 t) (iblk m c 3 t) l = columnU (inputs m c) (weights m c) (bias m c) b j := by
  unfold column columnU
  rw [read_inputs m c t b l j hb hj, read_weights m c t 0 l j hj, read_weights m c t 1 l j hj, read_weights m c t 2 l j hj, read_bias m c t l j hj]
/-- A column of a point's block of the gradient with respect to the convolution. -/
theorem read_inner (c : Dev nD) (t : Fin cfg0.N) (b : Fin 4) (l : Fin 256) (j : Fin 5632) (hb : t.val % 4 = b.val) (hj : t.val / 4 * 256 + l.val = j.val) :
    inner (iblk m c 0 t) (iblk m c 1 t) (iblk m c 2 t) (iblk m c 3 t) l = dconv (inputs m c) (grads m c) (weights m c) (bias m c) b j := by
  funext r
  have h1 : j.val % 256 = l.val := by omega
  have h2 : j.val / 256 = t.val / 4 := by omega
  unfold inner dconv
  by_cases hl : l.val < 128
  · rw [dif_pos hl, dif_pos (by omega), read_column m c t b l j hb hj, read_column m c t b ⟨128 + l.val, by omega⟩ ⟨j.val + 128, by omega⟩ hb (by simp only; omega)]
    exact congrArg (gradGate _ _) (congrFun (read_grads m c t b ⟨l.val, hl⟩ _ hb (by simp only; omega)) r)
  · rw [dif_neg hl, dif_neg (by omega), read_column m c t b ⟨l.val - 128, by omega⟩ ⟨j.val - 128, by omega⟩ hb (by simp only; omega)]
    exact congrArg (gradValue _) (congrFun (read_grads m c t b ⟨l.val - 128, by omega⟩ _ hb (by simp only; omega)) r)

/-- The call leaves the gradient with respect to the inputs. -/
theorem result_du (c : Dev nD) : (dats m 0 c).arrAt 4 cfg0.N = du (inputs m c) (grads m c) (weights m c) (bias m c) := by
  refine (dats m 0 c).arrAt_eq_of_covers 4 _ (by decide +kernel) fun t hf y => ?_
  blk_simp
  rw [after0_4]
  have key : (outsAt0 m c t.val t.isLt).1 = backBlock (iblk m c 0 t) (iblk m c 1 t) (iblk m c 2 t) (iblk m c 3 t) := by
    by_cases h : t.val % 4 = 0
    · rw [outsAt0_A m c t h]
      exact outA (hc := (hcond0_0 t).mpr h) ..
    · rw [outsAt0_B m c t h]
      exact outB (hc := fun hc => h ((hcond0_0 t).mp hc)) ..
  rw [key]
  obtain ⟨r, l, rfl⟩ : ∃ (r : Fin 2048) (l : Fin 256), y = ix2 r l := ⟨y 0, y 1, eq_ix2 y⟩
  have ht : t.val < 88 := t.isLt
  have hl : t.val / 4 * 256 + l.val < 5632 := by omega
  have hr : t.val % 4 * 2048 + r.val < 8192 := by omega
  have hi : (win0_4.blk t).view.emb (ix2 r l) = (ix2 ⟨t.val % 4 * 2048 + r.val, hr⟩ ⟨t.val / 4 * 256 + l.val, hl⟩ : S8192x5632.Idx) := by
    blk_ext [index_facts t]
  rw [hi]
  refine Eq.trans ?_ (du_apply (inputs m c) (grads m c) (weights m c) (bias m c) ⟨t.val % 4, Nat.mod_lt _ (by decide)⟩ r ⟨t.val / 4 * 256 + l.val, hl⟩ hr).symm
  show back (inner (iblk m c 0 t) (iblk m c 1 t) (iblk m c 2 t) (iblk m c 3 t) l) ((iblk m c 2 t : Vec Ideal S3x256 .f32) (ix2 0 l)) ((iblk m c 2 t : Vec Ideal S3x256 .f32) (ix2 1 l)) ((iblk m c 2 t : Vec Ideal S3x256 .f32) (ix2 2 l)) r = _
  rw [read_weights m c t 0 l ⟨_, hl⟩ rfl, read_weights m c t 1 l ⟨_, hl⟩ rfl, read_weights m c t 2 l ⟨_, hl⟩ rfl, read_inner m c t ⟨t.val % 4, _⟩ l ⟨_, hl⟩ rfl rfl]

/-- The call leaves the gradient with respect to the weights. -/
theorem result_dw (c : Dev nD) : (dats m 0 c).arrAt 5 cfg0.N = dw (inputs m c) (grads m c) (weights m c) (bias m c) := by
  refine (dats m 0 c).arrAt_eq_of_covers 5 _ (by decide +kernel) fun t hf y => ?_
  blk_simp
  rw [after0_5]
  obtain ⟨a, l, rfl⟩ : ∃ (a : Fin 3) (l : Fin 256), y = ix2 a l := ⟨y 0, y 1, eq_ix2 y⟩
  have ht : t.val < 88 := t.isLt
  have hl : t.val / 4 * 256 + l.val < 5632 := by omega
  have hi : (win0_5.blk t).view.emb (ix2 a l) = (ix2 a ⟨t.val / 4 * 256 + l.val, hl⟩ : S3x5632.Idx) := by
    blk_ext [index_facts t]
  rw [hi]
  have hs := Pipeline.eq_sum_fin_of_reset_step_apply_of_flush (N := cfg0.N) (fun n h => (fun l : Fin 256 => (outsAt0 m c n h).2.1 (ix2 a l) : Fin 256 → EReal)) 4 (fun _ => (0 : EReal))
    (fun t l => ∑ r, inner (iblk m c 0 t) (iblk m c 1 t) (iblk m c 2 t) (iblk m c 3 t) l r * shifted (col (iblk m c 0 t : Vec Ideal S2048x256 .f32) l) a r)
    (fun t h l => by
      rw [outsAt0_A m c t h]
      exact weightsA (hc := (hcond0_0 t).mpr h) ..)
    (fun t h l => by
      rw [outsAt0_B m c t h]
      exact weightsB (hc := fun hc => h ((hcond0_0 t).mp hc)) (v := (outsAt0 m c (t.val - 1) (Nat.lt_of_le_of_lt (Nat.sub_le _ _) t.isLt)).2.2) ..) t ((flush0_5 t).mp hf) l
  refine Eq.trans (hs.trans (zero_add _)) (show (_ : EReal) = _ from Finset.sum_congr rfl fun b _ => ?_)
  rw [read_inner m c _ b l ⟨_, hl⟩ (by simp only; omega) (by simp only; omega), read_inputs m c _ b l ⟨_, hl⟩ (by simp only; omega) (by simp only; omega)]
  rfl

/-- The call leaves the gradient with respect to the bias. -/
theorem result_db (c : Dev nD) : (dats m 0 c).arrAt 6 cfg0.N = db (inputs m c) (grads m c) (weights m c) (bias m c) := by
  refine (dats m 0 c).arrAt_eq_of_covers 6 _ (by decide +kernel) fun t hf y => ?_
  blk_simp
  rw [after0_6]
  obtain ⟨u, l, rfl⟩ : ∃ (u : Fin 1) (l : Fin 256), y = ix2 u l := ⟨y 0, y 1, eq_ix2 y⟩
  obtain rfl : u = 0 := Subsingleton.elim _ _
  have ht : t.val < 88 := t.isLt
  have hl : t.val / 4 * 256 + l.val < 5632 := by omega
  have hi : (win0_6.blk t).view.emb (ix2 0 l) = (ix2 0 ⟨t.val / 4 * 256 + l.val, hl⟩ : S1x5632.Idx) := by
    blk_ext [index_facts t]
  rw [hi]
  have hs := Pipeline.eq_sum_fin_of_reset_step_apply_of_flush (N := cfg0.N) (fun n h => (fun l : Fin 256 => (outsAt0 m c n h).2.2 (ix2 0 l) : Fin 256 → EReal)) 4 (fun _ => (0 : EReal))
    (fun t l => ∑ r, inner (iblk m c 0 t) (iblk m c 1 t) (iblk m c 2 t) (iblk m c 3 t) l r)
    (fun t h l => by
      rw [outsAt0_A m c t h]
      exact biasA (hc := (hcond0_0 t).mpr h) ..)
    (fun t h l => by
      rw [outsAt0_B m c t h]
      exact biasB (hc := fun hc => h ((hcond0_0 t).mp hc)) (u := (outsAt0 m c (t.val - 1) (Nat.lt_of_le_of_lt (Nat.sub_le _ _) t.isLt)).2.1) ..) t ((flush0_6 t).mp hf) l
  refine Eq.trans (hs.trans (zero_add _)) (show (_ : EReal) = _ from Finset.sum_congr rfl fun b _ => ?_)
  rw [read_inner m c _ b l ⟨_, hl⟩ (by simp only; omega) (by simp only; omega)]
  rfl
end results

/-- The two forms of the gradient with respect to a gate agree at real numbers. -/
theorem gradGate_eq (g v z : EReal) (hg : ∃ a : ℝ, g = a) (hv : ∃ a : ℝ, v = a) (hz : ∃ a : ℝ, z = a) :
    z * v * gate g + g * (z * v) * (gate g * (num 0x3F800000#32 - gate g)) = gradGate g v z := by
  obtain ⟨a, rfl⟩ := hg
  obtain ⟨b, rfl⟩ := hv
  obtain ⟨c, rfl⟩ := hz
  have h1 : num 0x3F800000#32 = ((1 : ℝ) : EReal) := Ideal.ofBits_one_f32
  have hs : gate (a : EReal) = (((1 + Real.exp (-a))⁻¹ : ℝ) : EReal) := (logistic_eq _).symm.trans (Ideal.logistic_coe _)
  rw [gradGate, h1, hs, ← EReal.coe_one]
  norm_cast
  ring

/-- Sums of products of real numbers are real. -/
theorem taps_real {x : Fin 2048 → EReal} {p o n b : EReal} (hx : ∀ r, ∃ a : ℝ, x r = a) (hp : ∃ a : ℝ, p = a) (ho : ∃ a : ℝ, o = a) (hn : ∃ a : ℝ, n = a) (hb : ∃ a : ℝ, b = a) (r : Fin 2048) :
    ∃ a : ℝ, taps x p o n b r = a := by
  have h1 : ∃ a : ℝ, prev x r = a := by
    unfold prev
    split
    · exact hx _
    · exact ⟨0, rfl⟩
  have h2 : ∃ a : ℝ, next x r = a := by
    unfold next
    split
    · exact hx _
    · exact ⟨0, rfl⟩
  obtain ⟨a1, e1⟩ := h1
  obtain ⟨a2, e2⟩ := h2
  obtain ⟨a3, e3⟩ := hx r
  obtain ⟨p, rfl⟩ := hp
  obtain ⟨o, rfl⟩ := ho
  obtain ⟨n, rfl⟩ := hn
  obtain ⟨b, rfl⟩ := hb
  refine ⟨p * a1 + o * a3 + n * a2 + b, ?_⟩
  rw [taps, e1, e2, e3]
  norm_cast

section reference
variable (u : FVec Ideal S8192x5632 .f32) (z : FVec Ideal S8192x2816 .f32) (w : FVec Ideal S3x5632 .f32) (v : FVec Ideal S1x5632 .f32)

open Cert.ConvBwdRefIdeal.Read in
/-- The reference's convolution. -/
theorem ref_column (b : Fin 4) (r : Fin 2048) (j : Fin 5632) : val_main_v30 (F := Ideal) u w v (ix3 b r j) = columnU u w v b j r := by
  simp only [columnU, taps, prev_pad, next_pad]
  simp only [val_main_v30, val_main_v29, val_main_v28, val_main_v27, val_main_v26, val_main_v25, val_main_v24, val_main_v22, val_main_v21, val_main_cst_1, val_main_v19, val_main_v18, val_main_v17, val_main_v16, val_main_v15, val_main_v14, val_main_v13, val_main_v12, val_main_v11, val_main_v10, val_main_v9, val_main_v8, val_main_v6, val_main_v5, val_main_v4, val_main_cst, val_main_v2, val_main_v1, val_main_v0]
  pointwise []

open Cert.ConvBwdRefIdeal.Read in
/-- The reference's gradient with respect to the gates. -/
theorem ref_gates (hu : ∀ i, ∃ a : ℝ, u i = a) (hz : ∀ i, ∃ a : ℝ, z i = a) (hw : ∀ i, ∃ a : ℝ, w i = a) (hv : ∀ i, ∃ a : ℝ, v i = a) (b : Fin 4) (r : Fin 2048) (q : Fin 22) (l : Fin 128) :
    val_main_v48 (F := Ideal) u z w v (ix3 b r ⟨q.val * 256 + l.val, by omega⟩)
      = gradGate (columnU u w v b ⟨q.val * 256 + l.val, by omega⟩ r) (columnU u w v b ⟨q.val * 256 + (128 + l.val), by omega⟩ r) (colZ z b ⟨q.val * 128 + l.val, by omega⟩ r) := by
  rw [← gradGate_eq _ _ _ (taps_real (fun _ => hu _) (hw _) (hw _) (hw _) (hv _) r) (taps_real (fun _ => hu _) (hw _) (hw _) (hw _) (hv _) r) (hz _)]
  simp only [← ref_column u w v]
  simp only [val_main_v48, val_main_v47, val_main_v46, val_main_cst_4, val_main_v45, val_main_v44, val_main_call1_v2, val_main_call1_v1, val_main_call1_v0, val_main_v43, val_main_cst_3, val_main_v42, val_main_v41, val_main_v39, val_main_v36, val_main_v35, val_main_v34_1, val_main_call0_v7, val_main_call0_v6, val_main_call0_cst_1, val_main_v34_2, val_main_call0_v4, val_main_call0_cst_0, val_main_call0_v3, val_main_call0_v2, val_main_call0_cst, val_main_call0_v1, val_main_call0_v0, val_main_v33, val_main_v32, val_main_v31]
  pointwise [gate, num]
  refine ((congrArg₂ (· + ·) (dif_neg (by omega)) (dif_pos ⟨by omega, by omega⟩)).trans (zero_add _)).trans ?_
  simp only [Nat.add_assoc]

open Cert.ConvBwdRefIdeal.Read in
/-- The reference's gradient with respect to the values. -/
theorem ref_values (b : Fin 4) (r : Fin 2048) (q : Fin 22) (l : Fin 128) :
    val_main_v48 (F := Ideal) u z w v (ix3 b r ⟨q.val * 256 + (128 + l.val), by omega⟩)
      = gradValue (columnU u w v b ⟨q.val * 256 + l.val, by omega⟩ r) (colZ z b ⟨q.val * 128 + l.val, by omega⟩ r) := by
  refine Eq.trans ?_ (mul_comm _ _)
  simp only [← ref_column u w v]
  simp only [val_main_v48, val_main_v47, val_main_v46, val_main_cst_4, val_main_v43, val_main_cst_3, val_main_v42, val_main_v40, val_main_v39, val_main_v34_0, val_main_v34_2, val_main_call0_v4, val_main_call0_cst_0, val_main_call0_v3, val_main_call0_v2, val_main_call0_cst, val_main_call0_v1, val_main_call0_v0, val_main_v33, val_main_v32, val_main_v31]
  pointwise [gate, num]
  exact (congrArg₂ (· + ·) (dif_pos ⟨by omega, by omega, by omega⟩) (dif_neg (by omega))).trans (add_zero _)

open Cert.ConvBwdRefIdeal.Read in
/-- The reference's gradient with respect to the convolution. -/
theorem ref_inner (hu : ∀ i, ∃ a : ℝ, u i = a) (hz : ∀ i, ∃ a : ℝ, z i = a) (hw : ∀ i, ∃ a : ℝ, w i = a) (hv : ∀ i, ∃ a : ℝ, v i = a) (b : Fin 4) (r : Fin 2048) (j : Fin 5632) :
    val_main_v48 (F := Ideal) u z w v (ix3 b r j) = dconv u z w v b j r := by
  by_cases h : j.val % 256 < 128
  · obtain ⟨q, l, hj, rfl⟩ : ∃ (q : Fin 22) (l : Fin 128) (hj : q.val * 256 + l.val < 5632), j = ⟨q.val * 256 + l.val, hj⟩ :=
      ⟨⟨j.val / 256, by omega⟩, ⟨j.val % 256, h⟩, by simp only; omega, Fin.ext (by simp only; omega)⟩
    refine (ref_gates u z w v hu hz hw hv b r q l).trans ?_
    have h1 : q.val * 256 + l.val + 128 = q.val * 256 + (128 + l.val) := by omega
    have h2 : (q.val * 256 + l.val) / 256 * 128 + (q.val * 256 + l.val) % 256 = q.val * 128 + l.val := by omega
    unfold dconv
    rw [dif_pos h]
    simp only [h1, h2]
  · obtain ⟨q, l, hj, rfl⟩ : ∃ (q : Fin 22) (l : Fin 128) (hj : q.val * 256 + (128 + l.val) < 5632), j = ⟨q.val * 256 + (128 + l.val), hj⟩ :=
      ⟨⟨j.val / 256, by omega⟩, ⟨j.val % 256 - 128, by omega⟩, by simp only; omega, Fin.ext (by simp only; omega)⟩
    refine (ref_values u z w v b r q l).trans ?_
    have h1 : q.val * 256 + (128 + l.val) - 128 = q.val * 256 + l.val := by omega
    have h2 : (q.val * 256 + (128 + l.val)) / 256 * 128 + ((q.val * 256 + (128 + l.val)) % 256 - 128) = q.val * 128 + l.val := by omega
    unfold dconv
    rw [dif_neg h]
    simp only [h1, h2]

/-- What an entry's three neighbours pass back, in the reference's order. -/
theorem back_eq (d : Fin 2048 → EReal) (p o n : EReal) (r : Fin 2048) : (prev (fun k => n * d k) r + o * d r) + next (fun k => p * d k) r = back d p o n r := by
  rw [back, prev_mul, next_mul]
  ac_rfl

variable (hu : ∀ i, ∃ a : ℝ, u i = a) (hz : ∀ i, ∃ a : ℝ, z i = a) (hw : ∀ i, ∃ a : ℝ, w i = a) (hv : ∀ i, ∃ a : ℝ, v i = a)
include hu hz hw hv

open Cert.ConvBwdRefIdeal.Read in
/-- The reference's gradient with respect to the inputs. -/
theorem ref_du : val_main_v88 (F := Ideal) u z w v = du u z w v := by
  refine funext fun i => ?_
  obtain ⟨b, r, j, h, rfl⟩ : ∃ (b : Fin 4) (r : Fin 2048) (j : Fin 5632) (h : b.val * 2048 + r.val < 8192), i = ix2 ⟨b.val * 2048 + r.val, h⟩ j :=
    have hi : (i 0).val < 8192 := (i 0).isLt
    ⟨⟨(i 0).val / 2048, by omega⟩, ⟨(i 0).val % 2048, by omega⟩, i 1, by simp only; omega, (eq_ix2 i).trans (congrArg (ix2 · (i 1)) (Fin.ext (by simp only; omega)))⟩
  rw [du_apply, ← back_eq, prev_pad, next_pad]
  simp only [← ref_inner u z w v hu hz hw hv]
  simp only [val_main_v88, val_main_v87, val_main_v83, val_main_v82, val_main_cst_16, val_main_v81, val_main_v75, val_main_v74, val_main_v66, val_main_v65, val_main_v64, val_main_v61, val_main_cst_9, val_main_v59, val_main_v54, val_main_v53, val_main_v24, val_main_v18, val_main_v17, val_main_v13, val_main_v12, val_main_v11, val_main_v8, val_main_v2, val_main_v1]
  pointwise []
  by_cases h1 : r.val < 1
  · rw [dif_neg (by omega), dif_pos h1]
  · rw [dif_pos ⟨by omega, by omega⟩, dif_neg h1]

omit hu hz hw hv in
open Cert.ConvBwdRefIdeal.Read in
/-- The reference's sequences: the entries before, the entries, the entries after. -/
theorem ref_shifted (b : Fin 4) (r : Fin 2048) (j : Fin 5632) : val_main_v6 (F := Ideal) u (ix3 b r j) = prev (colU u b j) r
    ∧ val_main_v0 (F := Ideal) u (ix3 b r j) = colU u b j r ∧ val_main_v22 (F := Ideal) u (ix3 b r j) = next (colU u b j) r := by
  rw [prev_pad, next_pad]
  simp only [val_main_v22, val_main_v21, val_main_cst_1, val_main_v19, val_main_v6, val_main_v5, val_main_v4, val_main_cst, val_main_v0]
  refine ⟨?_, ?_, ?_⟩ <;> pointwise []
open Cert.ConvBwdRefIdeal.Read in
/-- An entry's part of the reference's gradient with respect to the weights of the entry before. -/
theorem ref_prev (b : Fin 4) (r : Fin 2048) (j : Fin 5632) : val_main_v76 (F := Ideal) u z w v (ix3 b r j) = dconv u z w v b j r * shifted (colU u b j) 0 r :=
  (val_main_v76_apply ..).trans (congrArg₂ (· * ·) (ref_inner u z w v hu hz hw hv b r j) (ref_shifted u b r j).1)
open Cert.ConvBwdRefIdeal.Read in
/-- An entry's part of the reference's gradient with respect to the weights of the entry itself. -/
theorem ref_own (b : Fin 4) (r : Fin 2048) (j : Fin 5632) : val_main_v67 (F := Ideal) u z w v (ix3 b r j) = dconv u z w v b j r * shifted (colU u b j) 1 r :=
  (val_main_v67_apply ..).trans (congrArg₂ (· * ·) (ref_inner u z w v hu hz hw hv b r j) (ref_shifted u b r j).2.1)
open Cert.ConvBwdRefIdeal.Read in
/-- An entry's part of the reference's gradient with respect to the weights of the entry after. -/
theorem ref_next (b : Fin 4) (r : Fin 2048) (j : Fin 5632) : val_main_v55 (F := Ideal) u z w v (ix3 b r j) = dconv u z w v b j r * shifted (colU u b j) 2 r :=
  (val_main_v55_apply ..).trans (congrArg₂ (· * ·) (ref_inner u z w v hu hz hw hv b r j) (ref_shifted u b r j).2.2)
open Cert.ConvBwdRefIdeal.Read in
/-- The reference's gradient with respect to the bias. -/
theorem ref_db : val_main_v52 (F := Ideal) u z w v = db u z w v := by
  refine funext fun i => ?_
  obtain ⟨q, j, rfl⟩ : ∃ (q : Fin 1) (j : Fin 5632), i = ix2 q j := ⟨i 0, i 1, eq_ix2 i⟩
  refine Eq.trans ?_ (Finset.sum_congr rfl fun b _ => Finset.sum_congr rfl fun r _ => ref_inner u z w v hu hz hw hv b r j)
  simp only [val_main_v52, val_main_v51, val_main_v50, val_main_v49, val_main_cst_5, val_main_cst_6]
  pointwise [sum_first_two]
  simp only [Finset.univ_unique, Finset.sum_singleton]

open Cert.ConvBwdRefIdeal.Read in
/-- The three rows of the reference's gradient with respect to the weights, each summed over the batches and the tokens. -/
theorem ref_sums (q : Fin 1) (j : Fin 5632) :
    val_main_v84 (F := Ideal) u z w v (ix2 q j) = (∑ b : Fin 4, ∑ r : Fin 2048, dconv u z w v b j r * shifted (colU u b j) 0 r)
    ∧ val_main_v71 (F := Ideal) u z w v (ix2 q j) = (∑ b : Fin 4, ∑ r : Fin 2048, dconv u z w v b j r * shifted (colU u b j) 1 r)
    ∧ val_main_v62 (F := Ideal) u z w v (ix2 q j) = (∑ b : Fin 4, ∑ r : Fin 2048, dconv u z w v b j r * shifted (colU u b j) 2 r) := by
  simp only [← ref_prev u z w v hu hz hw hv, ← ref_own u z w v hu hz hw hv, ← ref_next u z w v hu hz hw hv]
  simp only [val_main_v84, val_main_v79, val_main_cst_15, val_main_v78, val_main_v77, val_main_cst_14, val_main_v71, val_main_v70, val_main_cst_12, val_main_v69, val_main_v68, val_main_cst_11, val_main_v62, val_main_v58, val_main_cst_8, val_main_v57, val_main_v56, val_main_cst_7]
  refine ⟨?_, ?_, ?_⟩ <;> pointwise [sum_first_two] <;> simp only [Finset.univ_unique, Finset.sum_singleton]

open Cert.ConvBwdRefIdeal.Read in
/-- The reference's gradient with respect to the weights. -/
theorem ref_dw : val_main_v86 (F := Ideal) u z w v = dw u z w v := by
  refine funext fun i => ?_
  obtain ⟨a, j, rfl⟩ : ∃ (a : Fin 3) (j : Fin 5632), i = ix2 a j := ⟨i 0, i 1, eq_ix2 i⟩
  have H := ref_sums u z w v hu hz hw hv 0 j
  simp only [val_main_v86, val_main_v85, val_main_cst_17, val_main_v73, val_main_v72, val_main_cst_13, val_main_v63, val_main_cst_10]
  fin_cases a
  · refine Eq.trans ?_ H.1
    pointwise []
  · refine Eq.trans ?_ H.2.1
    pointwise []
  · refine Eq.trans ?_ H.2.2
    pointwise []
end reference

/-- Arguments that pass the test of the precondition are real. -/
theorem real_of_pre [hF : Cert.Pre_conv_finite.Facts] {u : FVec Ideal S8192x5632 .f32} {z : FVec Ideal S8192x2816 .f32} {w : FVec Ideal S3x5632 .f32} {v : FVec Ideal S1x5632 .f32}
    (h : (Cert.Pre_conv_finite.fn (F := Ideal) u z w v).1 = (fun _ => 1#1) ∧ (Cert.Pre_conv_finite.fn (F := Ideal) u z w v).2.1 = (fun _ => 1#1)
      ∧ (Cert.Pre_conv_finite.fn (F := Ideal) u z w v).2.2.1 = (fun _ => 1#1) ∧ (Cert.Pre_conv_finite.fn (F := Ideal) u z w v).2.2.2 = (fun _ => 1#1)) :
    (∀ i, ∃ a : ℝ, u i = a) ∧ (∀ i, ∃ a : ℝ, z i = a) ∧ (∀ i, ∃ a : ℝ, w i = a) ∧ (∀ i, ∃ a : ℝ, v i = a) :=
  ⟨fun i => Finite.real_of_test _ (congrFun h.1 i), fun i => Finite.real_of_test _ (congrFun h.2.1 i),
    fun i => Finite.real_of_test _ (congrFun h.2.2.1 i), fun i => Finite.real_of_test _ (congrFun h.2.2.2 i)⟩

/-- The reference's frame: it ends, and its arguments are unchanged. -/
theorem frame_reference : Cert.quiescent_ConvBwdRefIdeal := fun m ρ _ =>
  (θ_run Cert.ConvBwdRefIdeal.defs _ _).mono
    (fun r h => ⟨fun c => (h c).2.2.2, sem_eq_zero_of_no_sems rfl r.2⟩) (Cert.ConvBwdRefIdeal.Value.run (F := Ideal) m ρ)

/-- Of real arguments, the kernel's results are the reference's. -/
theorem algebraic [hK : Cert.ConvBwdIdeal.Facts] [hR : Cert.ConvBwdRefIdeal.Facts] [hF : Cert.Pre_conv_finite.Facts] : Cert.algebraic_ConvBwdIdeal_ConvBwdRefIdeal_pre_conv_finite :=
  fun m ρ m' ρ' hp hm => ⟨fun c => du (inputs m c) (grads m c) (weights m c) (bias m c), fun c => dw (inputs m c) (grads m c) (weights m c) (bias m c),
      fun c => db (inputs m c) (grads m c) (weights m c) (bias m c),
    (θ_run Cert.ConvBwdIdeal.defs _ _).mono (fun r h c => ⟨(h c).1.trans (result_du m c), (h c).2.1.trans (result_dw m c), (h c).2.2.1.trans (result_db m c), (h c).2.2.2⟩)
      (Cert.ConvBwdIdeal.Value.run_blocks (F := Ideal) m ρ),
    (θ_run Cert.ConvBwdRefIdeal.defs _ _).mono (fun r h c =>
      have H := real_of_pre (hp c)
      ⟨(h c).1.trans (by
        rw [Cert.ConvBwdRefIdeal.Read.val_main_v88_eq, (hm c).1, (hm c).2.1, (hm c).2.2.1, (hm c).2.2.2]
        exact ref_du _ _ _ _ H.1 H.2.1 H.2.2.1 H.2.2.2),
      (h c).2.1.trans (by
        rw [Cert.ConvBwdRefIdeal.Read.val_main_v86_eq, (hm c).1, (hm c).2.1, (hm c).2.2.1, (hm c).2.2.2]
        exact ref_dw _ _ _ _ H.1 H.2.1 H.2.2.1 H.2.2.2),
      (h c).2.2.1.trans (by
        rw [Cert.ConvBwdRefIdeal.Read.val_main_v52_eq, (hm c).1, (hm c).2.1, (hm c).2.2.1, (hm c).2.2.2]
        exact ref_db _ _ _ _ H.1 H.2.1 H.2.2.1 H.2.2.2),
      (h c).2.2.2⟩)
      (Cert.ConvBwdRefIdeal.Value.run (F := Ideal) m' ρ')⟩

end Cert.ConvBwdIdeal.Rows

end
-- ==== Proof.Groups.lean ====
/-
  The sums over groups of a row's columns, as a product with a matrix of zeros and ones makes them.
-/
module

public import proofs.«01_k».proof.Proof.Rows
public import Idealize.ShloMosaic.Lib.Pointwise

@[expose] public section

set_option maxRecDepth 16384

noncomputable section

namespace Cert.Groups

open Cert.Rows
open Idealize.ShloMosaic
open scoped BigOperators

/-- The quotient of a column's number by the width of a group, as the kernel computes it. -/
def quotient (d : BitVec 32) (k : Fin 512) : BitVec 32 :=
  Scalar.select
    (IntOp.andi
      (IntOp.cmpi CmpIPredicate.ne
        (IntOp.subi (BitVec.setWidth 32 (IntOp.cmpi CmpIPredicate.sgt (BitVec.ofNat 32 k) 0#32))
          (BitVec.setWidth 32 (IntOp.cmpi CmpIPredicate.slt (BitVec.ofNat 32 k) 0#32)))
        (Scalar.subi 1#32 (Scalar.extui (Scalar.cmpi CmpIPredicate.slt d 0#32))))
      (IntOp.cmpi CmpIPredicate.ne (IntOp.remsi ArithUnit.vector (BitVec.ofNat 32 k) d) 0#32))
    (IntOp.subi (IntOp.divsi ArithUnit.vector (BitVec.ofNat 32 k) d) 1#32)
    (IntOp.divsi ArithUnit.vector (BitVec.ofNat 32 k) d)

/-- Whether two columns are of one group of `d`. -/
def same (d : ℕ) (k l : Fin 512) : EReal := if k.val / d = l.val / d then 1 else 0
/-- The sum over a column's group. -/
def total (d : ℕ) (x : Fin 512 → EReal) (l : Fin 512) : EReal := ∑ k, x k * same d k l

/-- A comparison's bit as a number. -/
theorem bit_eq (a b : BitVec 32) :
    FloatOps.sitofp (F := Ideal) .f32 (BitVec.setWidth 32 (IntOp.cmpi CmpIPredicate.eq a b)) = if a = b then 1 else 0 := by
  by_cases h : a = b
  · subst h
    simp [IntOp.cmpi, FloatOps.sitofp]
  · have hb : (a == b) = false := by simpa using h
    simp [IntOp.cmpi, FloatOps.sitofp, h, hb]

/-- The kernel's quotient by 128 is the number's. -/
theorem quotient_128 : ∀ k : Fin 512, quotient 128#32 k = BitVec.ofNat 32 (k.val / 128) := by decide +kernel
/-- The kernel's quotient by 64 is the number's. -/
theorem quotient_64 : ∀ k : Fin 512, quotient 64#32 k = BitVec.ofNat 32 (k.val / 64) := by decide +kernel

/-- Two small numbers are equal when their patterns are. -/
theorem ofNat_eq (a b : ℕ) (ha : a < 512) (hb : b < 512) : BitVec.ofNat 32 a = BitVec.ofNat 32 b ↔ a = b := by
  refine ⟨fun h => ?_, fun h => h ▸ rfl⟩
  have h' := congrArg BitVec.toNat h
  simp only [BitVec.toNat_ofNat] at h'
  omega

/-- The comparison of the quotients by 128. -/
theorem same_128 (k l : Fin 512) :
    FloatOps.sitofp (F := Ideal) .f32 (BitVec.setWidth 32 (IntOp.cmpi CmpIPredicate.eq (quotient 128#32 k) (quotient 128#32 l))) = same 128 k l := by
  rw [bit_eq, quotient_128, quotient_128, same]
  simp only [ofNat_eq (k.val / 128) (l.val / 128) (by omega) (by omega)]
/-- The comparison of the quotients by 64. -/
theorem same_64 (k l : Fin 512) :
    FloatOps.sitofp (F := Ideal) .f32 (BitVec.setWidth 32 (IntOp.cmpi CmpIPredicate.eq (quotient 64#32 k) (quotient 64#32 l))) = same 64 k l := by
  rw [bit_eq, quotient_64, quotient_64, same]
  simp only [ofNat_eq (k.val / 64) (l.val / 64) (by omega) (by omega)]

/-- Of real numbers, what is left after taking them away is nothing. -/
theorem rest (x : Fin 512 → EReal) (hx : ∀ k, ∃ a : ℝ, x k = a) (k : Fin 512) : x k - x k = 0 := by
  obtain ⟨a, h⟩ := hx k
  rw [h, ← EReal.coe_sub, sub_self, EReal.coe_zero]

/-- The three parts of the sum over a group. -/
theorem total_eq (d : ℕ) (x : Fin 512 → EReal) (hx : ∀ k, ∃ a : ℝ, x k = a) (l : Fin 512) :
    (∑ k, x k * same d k l) + (∑ k, (x k - x k) * same d k l) + (∑ k, (x k - x k - (x k - x k)) * same d k l) = total d x l := by
  simp only [rest x hx, sub_zero, zero_mul, Finset.sum_const_zero, add_zero]
  rfl

/-- The closed comparisons of the widths. -/
theorem widths : (Scalar.extui (Scalar.cmpi CmpIPredicate.sgt 64#32 0#32) : BitVec 32) = 1#32 ∧ (Scalar.extui (Scalar.cmpi CmpIPredicate.sgt 128#32 0#32) : BitVec 32) = 1#32 := ⟨rfl, rfl⟩

/-- The pattern of 64. -/
theorem num_64 : num 0x42800000#32 = ((64 : ℝ) : EReal) := by
  simp [num, Ideal.ofBits, Ideal.ieee]
  rw [← EReal.coe_mul]
  norm_num
/-- The pattern of 128. -/
theorem num_128 : num 0x43000000#32 = ((128 : ℝ) : EReal) := by
  simp [num, Ideal.ofBits, Ideal.ieee]
  rw [← EReal.coe_mul]
  norm_num
/-- The pattern of 1/64. -/
theorem num_inv64 : num 0x3C800000#32 = ((1 / 64 : ℝ) : EReal) := by
  simp [num, Ideal.ofBits, Ideal.ieee]
  rw [← EReal.coe_mul]
  norm_num
/-- The pattern of 1/128. -/
theorem num_inv128 : num 0x3C000000#32 = ((1 / 128 : ℝ) : EReal) := by
  simp [num, Ideal.ofBits, Ideal.ieee]
  rw [← EReal.coe_mul]
  norm_num

/-- A product of real numbers is real. -/
theorem real_mul {x y : EReal} (hx : ∃ a : ℝ, x = a) (hy : ∃ a : ℝ, y = a) : ∃ a : ℝ, x * y = a := by
  obtain ⟨a, rfl⟩ := hx
  obtain ⟨b, rfl⟩ := hy
  exact ⟨a * b, (EReal.coe_mul a b).symm⟩
/-- A difference of real numbers is real. -/
theorem real_sub {x y : EReal} (hx : ∃ a : ℝ, x = a) (hy : ∃ a : ℝ, y = a) : ∃ a : ℝ, x - y = a := by
  obtain ⟨a, rfl⟩ := hx
  obtain ⟨b, rfl⟩ := hy
  exact ⟨a - b, (EReal.coe_sub a b).symm⟩
/-- The sums over the groups of real numbers are real. -/
theorem real_total (d : ℕ) (x : Fin 512 → EReal) (hx : ∀ k, ∃ a : ℝ, x k = a) (l : Fin 512) : ∃ a : ℝ, total d x l = a := by
  refine Finset.sum_induction (fun k => x k * same d k l) (fun e => ∃ a : ℝ, e = a) ?_ ⟨0, EReal.coe_zero.symm⟩ fun k _ => real_mul (hx k) ?_
  · rintro e f ⟨a, rfl⟩ ⟨b, rfl⟩
    exact ⟨a + b, (EReal.coe_add a b).symm⟩
  · unfold same
    split
    · exact ⟨1, EReal.coe_one.symm⟩
    · exact ⟨0, EReal.coe_zero.symm⟩
/-- The sum over a column's group, from the group's first column. -/
theorem total_group (d a : ℕ) (h : a * d + d ≤ 512) (x : Fin 512 → EReal) (b : Fin d) :
    total d x ⟨a * d + b.val, by omega⟩ = ∑ q : Fin d, x ⟨a * d + q.val, by omega⟩ := by
  have hd : 0 < d := Nat.lt_of_le_of_lt (Nat.zero_le _) b.isLt
  have hdiv : ∀ q : Fin d, (a * d + q.val) / d = a := fun q => by
    rw [Nat.mul_comm, Nat.mul_add_div hd, Nat.div_eq_of_lt q.isLt, Nat.add_zero]
  refine (Finset.sum_of_injOn (fun q : Fin d => (⟨a * d + q.val, by omega⟩ : Fin 512)) ?_ (fun _ _ => Finset.mem_coe.2 (Finset.mem_univ _)) ?_ ?_).symm
  · intro p _ q _ hpq
    exact Fin.ext (Nat.add_left_cancel (congrArg Fin.val hpq))
  · intro k _ hk
    rw [same, if_neg, mul_zero]
    intro hkl
    rw [hdiv b] at hkl
    refine hk ⟨⟨k.val % d, Nat.mod_lt _ hd⟩, Finset.mem_coe.2 (Finset.mem_univ _), Fin.ext ?_⟩
    have := Nat.div_add_mod k.val d
    rw [hkl, Nat.mul_comm] at this
    exact this
  · intro q _
    rw [same, hdiv b, hdiv q, if_pos rfl, mul_one]

end Cert.Groups

end
-- ==== Proof.PostValue.lean ====
/-
  The head norms of the two mixers, the second one's bonus, and their gates.
-/
module

public import proofs.«01_k».proof.Proof.Rows
public import proofs.«01_k».proof.Proof.Groups
public import proofs.«01_k».proof.Proof.Finite
public import proofs.«01_k».proof.Defs
public import Idealize.ShloMosaic.Lib.Quiescent
public import Idealize.ShloMosaic.Lib.Pipeline.ValueKit
public import proofs.«01_k».proof.Proof.Gen.PostIdeal.Value
public import proofs.«01_k».proof.Proof.Gen.PostRefIdeal.Run
public import proofs.«01_k».proof.Proof.Gen.PostRefIdeal.Read

@[expose] public section

set_option maxRecDepth 16384

noncomputable section

namespace Cert.PostIdeal.Rows

open Cert.PostIdeal Cert.PostIdeal.Gen Cert.PostIdeal.Value Cert.Rows Cert.Groups
open Idealize.ShloMosaic Idealize.ShloMosaic.TcCoe Idealize.SL.Sem
open scoped BigOperators

/-- The sums over the groups of 128. -/
theorem pay7_apply (x : FVec Ideal S256x512 .f32) (r : Fin 256) (l : Fin 512) (hx : ∀ k, ∃ a : ℝ, x (ix2 r k) = a) :
    k0_pay7 x k0_pay4 k0_pay5 k0_pay6 0#32 (ix2 r l) = total 128 (fun k => x (ix2 r k)) l := by
  refine Eq.trans ?_ (total_eq 128 _ hx l)
  simp only [← same_128, quotient]
  pointwise [k0_pay7, k0_pay4, k0_pay5, k0_pay6]
  simp only [widths.2]

/-- The entries less their groups' means. -/
def centred (y : Fin 512 → EReal) (l : Fin 512) : EReal := y l - total 64 y l * num 0x3C800000#32

/-- The entries less their groups' means, as the kernel computes them. -/
abbrev middle (y : FVec Ideal S256x512 .f32) : FVec Ideal S256x512 .f32 :=
  k0_pay13 y k0_pay10 (iota Kind.tc S512x512 32 [1] iota_S512x512_d1_w32) (64#32) k0_pay11 k0_pay12 1#32 0#32

/-- An entry less its group's mean. -/
theorem pay13_apply (x : FVec Ideal S256x512 .f32) (r : Fin 256) (l : Fin 512) (hx : ∀ k, ∃ a : ℝ, x (ix2 r k) = a) :
    middle x (ix2 r l) = centred (fun k => x (ix2 r k)) l := by
  rw [centred, ← total_eq 64 _ hx l]
  simp only [← same_64, quotient]
  pointwise [k0_pay13, k0_pay10, k0_pay11, k0_pay12, num]
  simp only [widths.1]

/-- The entries scaled by their groups' means, and shifted. -/
theorem pay24_apply (w b : Vec Ideal S1x512 .f32) (y q : FVec Ideal S256x512 .f32) (r : Fin 256) (l : Fin 512) (hq : ∀ k, ∃ a : ℝ, q (ix2 r k) = a) :
    k0_pay24 w b y (k0_pay18 (iota Kind.tc S512x512 32 [0] iota_S512x512_d0_w32) (64#32) k0_pay15 k0_pay16 k0_pay17)
        (k0_pay22 q) (k0_pay23 q (iota Kind.tc S512x512 32 [0] iota_S512x512_d0_w32) (64#32) k0_pay15 k0_pay16 k0_pay17)
        (constant S256x512 FTy.f32 0#32) (ix2 r l)
      = y (ix2 r l) * Ideal.rsqrt (total 64 (fun k => q (ix2 r k)) l * num 0x3C800000#32 + num 0x3A27C5AC#32) * w (ix2 0 l) + b (ix2 0 l) := by
  rw [← total_eq 64 _ hq l]
  simp only [← same_64, quotient]
  pointwise [k0_pay24, k0_pay18, k0_pay23, k0_pay19, k0_pay15, k0_pay16, k0_pay17, k0_pay21, k0_pay20, k0_pay22, num]
  simp only [widths.1]

/-- The bonus added, and the whole gated. -/
theorem pay2_apply (v g : Vec Ideal S256x512 .f32) (n q : FVec Ideal S256x512 .f32) (r : Fin 256) (l : Fin 512) (hq : ∀ k, ∃ a : ℝ, q (ix2 r k) = a) :
    k0_pay2 v g n q k0_pay26 (iota Kind.tc S512x512 32 [1] iota_S512x512_d1_w32) (64#32) k0_pay27 k0_pay28 k0_pay29 (ix2 r l)
      = (n (ix2 r l) + total 64 (fun k => q (ix2 r k)) l * v (ix2 r l)) * g (ix2 r l) := by
  rw [← total_eq 64 _ hq l]
  simp only [← same_64, quotient]
  pointwise [k0_pay2, k0_pay26, k0_pay27, k0_pay28, k0_pay29]
  simp only [widths.1]

/-- The first mixer's head norm under its gate, of one row. -/
def headNorm (o p g : Fin 512 → EReal) (l : Fin 512) : EReal :=
  o l * Ideal.rsqrt (total 128 (fun k => o k * o k) l * num 0x3C000000#32 + num 0x3727C5AC#32) * g l * (p l * gate (p l))
/-- The second mixer's head norm with its bonus under its gate, of one row. -/
def headBonus (y a k v g w b c : Fin 512 → EReal) (l : Fin 512) : EReal :=
  (centred y l * Ideal.rsqrt (total 64 (fun j => centred y j * centred y j) l * num 0x3C800000#32 + num 0x3A27C5AC#32) * w l + b l
    + total 64 (fun j => a j * k j * c j) l * v l) * g l

/-- Real numbers less their groups' means are real. -/
theorem real_centred (y : Fin 512 → EReal) (hy : ∀ k, ∃ a : ℝ, y k = a) (l : Fin 512) : ∃ a : ℝ, centred y l = a :=
  real_sub (hy l) (real_mul (real_total 64 y hy l) ⟨_, num_inv64⟩)

/-- The columns of the projections that hold the first gate's arguments. -/
def colP (k : Fin 512) : Fin 5632 := ⟨3072 + k.val, by omega⟩
/-- The columns of the shifted rows, 512 after the `o`-th. -/
def colS (o : ℕ) (h : o + 512 ≤ 1792) (k : Fin 512) : Fin 1792 := ⟨o + k.val, by omega⟩

/-- The first mixer's head norms under their gates, entry by entry. -/
def headNorms (o : FVec Ideal S8192x512 .f32) (p : FVec Ideal S8192x5632 .f32) (g : FVec Ideal S1x512 .f32) : FVec Ideal S8192x512 .bf16 := fun i =>
  headNorm (fun k => o (ix2 (i 0) k)) (fun k => p (ix2 (i 0) (colP k))) (fun k => g (ix2 0 k)) (i 1)
/-- The second mixer's head norms with their bonuses under their gates, entry by entry. -/
def headBonuses (y : FVec Ideal S8192x512 .f32) (s : FVec Ideal S8192x1792 .f32) (k g : FVec Ideal S8192x512 .f32) (w b c : FVec Ideal S1x512 .f32) : FVec Ideal S8192x512 .bf16 := fun i =>
  headBonus (fun j => y (ix2 (i 0) j)) (fun j => s (ix2 (i 0) (colS 0 (by decide) j))) (fun j => k (ix2 (i 0) j)) (fun j => s (ix2 (i 0) (colS 1024 (by decide) j)))
    (fun j => g (ix2 (i 0) j)) (fun j => w (ix2 0 j)) (fun j => b (ix2 0 j)) (fun j => c (ix2 0 j)) (i 1)

open Cert.PostRefIdeal.Read in
/-- The reference's first result is the first mixer's head norms under their gates. -/
theorem ref_norms (o : FVec Ideal S8192x512 .f32) (p : FVec Ideal S8192x5632 .f32) (g : FVec Ideal S1x512 .f32) :
    val_main_v61 (F := Ideal) o p g = headNorms o p g := by
  refine funext fun i => ?_
  obtain ⟨r, a, b, h, rfl⟩ : ∃ (r : Fin 8192) (a : Fin 4) (b : Fin 128) (h : a.val * 128 + b.val < 512), i = ix2 r ⟨a.val * 128 + b.val, h⟩ :=
    have hi : (i 1).val < 512 := (i 1).isLt
    ⟨i 0, ⟨(i 1).val / 128, by omega⟩, ⟨(i 1).val % 128, by omega⟩, by simp only; omega, (eq_ix2 i).trans (congrArg (ix2 (i 0)) (Fin.ext (by simp only; omega)))⟩
  refine Eq.trans ?_ (congrArg (fun e => o (ix2 r ⟨a.val * 128 + b.val, h⟩) * Ideal.rsqrt (e + num 0x3727C5AC#32) * g (ix2 0 ⟨a.val * 128 + b.val, h⟩) * (p (ix2 r (colP ⟨a.val * 128 + b.val, h⟩)) * gate (p (ix2 r (colP ⟨a.val * 128 + b.val, h⟩)))))
    ((Ideal.div_coe (y := 128) (by norm_num) _).trans (congrArg₂ (· * ·) (total_group 128 a.val (by omega) (fun k => o (ix2 r k) * o (ix2 r k)) b).symm num_inv128.symm)))
  rw [← num_128]
  simp only [val_main_v61, val_main_v20, val_main_v19, val_main_call0_v5, val_main_call0_v4, val_main_call0_cst_0, val_main_call0_v3, val_main_call0_cst, val_main_call0_v2, val_main_call0_v1, val_main_call0_v0, val_main_v18, val_main_v17, val_main_v16, val_main_v15, val_main_v14, val_main_v13, val_main_v12, val_main_v11, val_main_v10, val_main_v9, val_main_cst_1, val_main_v8, val_main_v7, val_main_cst_0, val_main_v6, val_main_v5, val_main_cst, val_main_v4, val_main_v3, val_main_v0]
  pointwise [gate, num, colP]

open Cert.PostRefIdeal.Read in
/-- The reference's entries less their groups' means. -/
theorem ref_centred (y : FVec Ideal S8192x512 .f32) (r : Fin 8192) (a : Fin 8) (b : Fin 64) :
    val_main_v30 (F := Ideal) y (ix3 r a b) = centred (fun k => y (ix2 r k)) ⟨a.val * 64 + b.val, by omega⟩ := by
  refine Eq.trans ?_ (congrArg (y (ix2 r ⟨a.val * 64 + b.val, by omega⟩) - ·)
    ((Ideal.div_coe (y := 64) (by norm_num) _).trans (congrArg₂ (· * ·) (total_group 64 a.val (by omega) (fun k => y (ix2 r k)) b).symm num_inv64.symm)))
  rw [← num_64]
  simp only [val_main_v30, val_main_v29, val_main_v28, val_main_v27, val_main_cst_3, val_main_v26, val_main_v25, val_main_cst_2, val_main_v21]
  pointwise [num]

open Cert.PostRefIdeal.Read in
/-- The reference's entries less their groups' means, the second time. -/
theorem ref_centred' (y : FVec Ideal S8192x512 .f32) : val_main_v37 (F := Ideal) y = val_main_v30 y := rfl

open Cert.PostRefIdeal.Read in
/-- The reference's scale of a group, from its entries' squares. -/
theorem ref_scale (y : FVec Ideal S8192x512 .f32) (r : Fin 8192) (a : Fin 8) (b : Fin 64) :
    val_main_v41 (F := Ideal) y (ix3 r a b)
      = Ideal.rsqrt (total 64 (fun j => centred (fun k => y (ix2 r k)) j * centred (fun k => y (ix2 r k)) j) ⟨a.val * 64 + b.val, by omega⟩ * num 0x3C800000#32 + num 0x3A27C5AC#32) := by
  have hs : ∑ q : Fin 64, val_main_v30 (F := Ideal) y (ix3 r a q) * val_main_v30 (F := Ideal) y (ix3 r a q)
      = total 64 (fun j => centred (fun k => y (ix2 r k)) j * centred (fun k => y (ix2 r k)) j) ⟨a.val * 64 + b.val, by omega⟩ :=
    (Finset.sum_congr rfl fun q _ => congrArg (fun e => e * e) (ref_centred y r a q)).trans (total_group 64 a.val (by omega) (fun j => centred (fun k => y (ix2 r k)) j * centred (fun k => y (ix2 r k)) j) b).symm
  refine Eq.trans ?_ (congrArg (fun e => Ideal.rsqrt (e + num 0x3A27C5AC#32)) ((Ideal.div_coe (y := 64) (by norm_num) _).trans (congrArg₂ (· * ·) hs num_inv64.symm)))
  rw [← num_64]
  simp only [val_main_v41, val_main_v40, val_main_v39, val_main_v38, val_main_cst_6, val_main_v35, val_main_v34, val_main_cst_5, val_main_v33, val_main_v32, val_main_cst_4, val_main_v31]
  pointwise [num]

open Cert.PostRefIdeal.Read in
/-- The reference's bonus of a group. -/
theorem ref_bonus (s : FVec Ideal S8192x1792 .f32) (k : FVec Ideal S8192x512 .f32) (c : FVec Ideal S1x512 .f32) (r : Fin 8192) (a : Fin 8) (b : Fin 64) :
    val_main_v58 (F := Ideal) s k c (ix3 r a b)
      = total 64 (fun j => s (ix2 r (colS 0 (by decide) j)) * k (ix2 r j) * c (ix2 0 j)) ⟨a.val * 64 + b.val, by omega⟩ := by
  rw [total_group 64 a.val (by omega)]
  simp only [val_main_v58, val_main_v57, val_main_v56, val_main_cst_7, val_main_v55, val_main_v54, val_main_v53, val_main_v52, val_main_v23, val_main_v22, val_main_v1]
  pointwise [num, colS]

open Cert.PostRefIdeal.Read in
/-- The reference's second result is the second mixer's head norms with their bonuses under their gates. -/
theorem ref_bonuses (y : FVec Ideal S8192x512 .f32) (s : FVec Ideal S8192x1792 .f32) (k g : FVec Ideal S8192x512 .f32) (w v c : FVec Ideal S1x512 .f32) :
    val_main_v64 (F := Ideal) y s k g w v c = headBonuses y s k g w v c := by
  refine funext fun i => ?_
  obtain ⟨r, a, b, h, rfl⟩ : ∃ (r : Fin 8192) (a : Fin 8) (b : Fin 64) (h : a.val * 64 + b.val < 512), i = ix2 r ⟨a.val * 64 + b.val, h⟩ :=
    have hi : (i 1).val < 512 := (i 1).isLt
    ⟨i 0, ⟨(i 1).val / 64, by omega⟩, ⟨(i 1).val % 64, by omega⟩, by simp only; omega, (eq_ix2 i).trans (congrArg (ix2 (i 0)) (Fin.ext (by simp only; omega)))⟩
  refine Eq.trans ?_ (congrArg (· * g (ix2 r ⟨a.val * 64 + b.val, h⟩)) (congrArg₂ (· + ·)
    (congrArg (fun e => e * w (ix2 0 ⟨a.val * 64 + b.val, h⟩) + v (ix2 0 ⟨a.val * 64 + b.val, h⟩)) (congrArg₂ (· * ·) (ref_centred y r a b) (ref_scale y r a b)))
    (congrArg (· * s (ix2 r (colS 1024 (by decide) ⟨a.val * 64 + b.val, h⟩))) (ref_bonus s k c r a b))))
  simp only [val_main_v64, val_main_v63, val_main_v62, val_main_v60, val_main_v59, val_main_v51, val_main_v50, val_main_v49, val_main_v48, val_main_v47, val_main_v46, val_main_v45, val_main_v44, val_main_v43, val_main_v42, ref_centred', val_main_v24, val_main_v2]
  pointwise [colS]

/-- A row of the first block the kernel computes is its head norms under their gates. -/
theorem norm_apply (o p : Vec Ideal S256x512 .f32) (g : Vec Ideal S1x512 .f32) (r : Fin 256) (l : Fin 512) (ho : ∀ k, ∃ a : ℝ, o (ix2 r k) = a) :
    k0_pay1 (k0_pay9 o p g (k0_pay7 (k0_pay3 o) k0_pay4 k0_pay5 k0_pay6 0#32) k0_pay8) (ix2 r l)
      = headNorm (fun k => o (ix2 r k)) (fun k => p (ix2 r k)) (fun k => g (ix2 0 k)) l := by
  have e : ∀ k, k0_pay3 o (ix2 r k) = o (ix2 r k) * o (ix2 r k) := fun k => by pointwise [k0_pay3]
  have h := pay7_apply (k0_pay3 o) r l fun k => by rw [e]; exact real_mul (ho k) (ho k)
  simp only [e] at h
  rw [headNorm, ← h]
  pointwise [k0_pay1, k0_pay9, k0_pay8, logistic_eq, num]

/-- The second block the kernel computes. -/
abbrev bonusBlock (y a k v g : Vec Ideal S256x512 .f32) (w b c : Vec Ideal S1x512 .f32) : FVec Ideal S256x512 .bf16 :=
  k0_pay2 v g
    (k0_pay24 w b (middle y) (k0_pay18 (iota Kind.tc S512x512 32 [0] iota_S512x512_d0_w32) (64#32) k0_pay15 k0_pay16 k0_pay17)
      (k0_pay22 (k0_pay14 y k0_pay10 (iota Kind.tc S512x512 32 [1] iota_S512x512_d1_w32) (64#32) k0_pay11 k0_pay12 1#32 0#32))
      (k0_pay23 (k0_pay14 y k0_pay10 (iota Kind.tc S512x512 32 [1] iota_S512x512_d1_w32) (64#32) k0_pay11 k0_pay12 1#32 0#32)
        (iota Kind.tc S512x512 32 [0] iota_S512x512_d0_w32) (64#32) k0_pay15 k0_pay16 k0_pay17)
      (constant S256x512 FTy.f32 0#32))
    (k0_pay25 a k c) k0_pay26 (iota Kind.tc S512x512 32 [1] iota_S512x512_d1_w32) (64#32) k0_pay27 k0_pay28 k0_pay29

/-- A row of the second block the kernel computes is its head norms with their bonuses under their gates. -/
theorem bonus_apply (y a k v g : Vec Ideal S256x512 .f32) (w b c : Vec Ideal S1x512 .f32) (r : Fin 256) (l : Fin 512) (hy : ∀ j, ∃ e : ℝ, y (ix2 r j) = e)
    (ha : ∀ j, ∃ e : ℝ, a (ix2 r j) = e) (hk : ∀ j, ∃ e : ℝ, k (ix2 r j) = e) (hc : ∀ j, ∃ e : ℝ, c (ix2 0 j) = e) :
    bonusBlock y a k v g w b c (ix2 r l)
      = headBonus (fun j => y (ix2 r j)) (fun j => a (ix2 r j)) (fun j => k (ix2 r j)) (fun j => v (ix2 r j)) (fun j => g (ix2 r j)) (fun j => w (ix2 0 j)) (fun j => b (ix2 0 j)) (fun j => c (ix2 0 j)) l := by
  have e : ∀ j, k0_pay25 a k c (ix2 r j) = a (ix2 r j) * k (ix2 r j) * c (ix2 0 j) := fun j => by pointwise [k0_pay25]
  have f : ∀ j, k0_pay14 y k0_pay10 (iota Kind.tc S512x512 32 [1] iota_S512x512_d1_w32) (64#32) k0_pay11 k0_pay12 1#32 0#32 (ix2 r j)
      = centred (fun j => y (ix2 r j)) j * centred (fun j => y (ix2 r j)) j := fun j =>
    congrArg₂ (· * ·) (pay13_apply y r j hy) (pay13_apply y r j hy)
  have hq : ∀ j, ∃ x : ℝ, centred (fun j => y (ix2 r j)) j = x := real_centred _ hy
  rw [bonusBlock, pay2_apply _ _ _ _ _ _ fun j => by rw [e]; exact real_mul (real_mul (ha j) (hk j)) (hc j),
    pay24_apply _ _ _ _ _ _ fun j => by rw [f]; exact real_mul (hq j) (hq j), pay13_apply y r l hy]
  simp only [e, f]
  rfl

variable (m : (ℓ : Loc nD τ sig) → Buf (Elt Ideal) ℓ)

/-- The first mixer's output. -/
abbrev outA (c : Dev nD) : FVec Ideal S8192x512 .f32 := m ((c : Thread nD τ).loc main_arg0)
/-- The projections of the rows, the first gate's arguments among them. -/
abbrev proj (c : Dev nD) : FVec Ideal S8192x5632 .f32 := m ((c : Thread nD τ).loc main_arg1)
/-- The second mixer's output. -/
abbrev outB (c : Dev nD) : FVec Ideal S8192x512 .f32 := m ((c : Thread nD τ).loc main_arg2)
/-- The shifted rows, the receptances and the values among them. -/
abbrev shifted (c : Dev nD) : FVec Ideal S8192x1792 .f32 := m ((c : Thread nD τ).loc main_arg3)
/-- The keys. -/
abbrev keys (c : Dev nD) : FVec Ideal S8192x512 .f32 := m ((c : Thread nD τ).loc main_arg4)
/-- The second gate. -/
abbrev gates (c : Dev nD) : FVec Ideal S8192x512 .f32 := m ((c : Thread nD τ).loc main_arg5)
/-- The gain of the first mixer's norm. -/
abbrev gainA (c : Dev nD) : FVec Ideal S1x512 .f32 := m ((c : Thread nD τ).loc main_arg6)
/-- The gain of the second mixer's norm. -/
abbrev gainB (c : Dev nD) : FVec Ideal S1x512 .f32 := m ((c : Thread nD τ).loc main_arg7)
/-- The shift of the second mixer's norm. -/
abbrev biasB (c : Dev nD) : FVec Ideal S1x512 .f32 := m ((c : Thread nD τ).loc main_arg8)
/-- The weights of the bonus. -/
abbrev weights (c : Dev nD) : FVec Ideal S1x512 .f32 := m ((c : Thread nD τ).loc main_arg9)

/-- The blocks a point reads and writes, decided over the grid. -/
theorem index_facts : ∀ t : Fin cfg0.N,
    win0_0.index t = ![t.val, 0] ∧ win0_1.index t = ![t.val, 6] ∧ win0_2.index t = ![t.val, 0] ∧ win0_3.index t = ![t.val, 0]
    ∧ win0_4.index t = ![t.val, 0] ∧ win0_5.index t = ![t.val, 2] ∧ win0_6.index t = ![t.val, 0] ∧ win0_7.index t = ![0, 0]
    ∧ win0_8.index t = ![0, 0] ∧ win0_9.index t = ![0, 0] ∧ win0_10.index t = ![0, 0] ∧ win0_11.index t = ![t.val, 0] ∧ win0_12.index t = ![t.val, 0] :=
  (by decide +kernel : ∀ t : Fin grid0.N, _)

section blocks

variable (c : Dev nD) (t : Fin cfg0.N) (r : Fin 256) (k : Fin 512) (h : t.val * 256 + r.val < 8192)

/-- A point's block of the first mixer's output is its rows. -/
theorem read_outA : (iblk m c 0 t : Vec Ideal S256x512 .f32) (ix2 r k) = outA m c (ix2 ⟨t.val * 256 + r.val, h⟩ k) := by
  blk_ext [iblk, V, index_facts t]
/-- A point's block of the projections is its rows and the first gate's columns. -/
theorem read_proj : (iblk m c 1 t : Vec Ideal S256x512 .f32) (ix2 r k) = proj m c (ix2 ⟨t.val * 256 + r.val, h⟩ (colP k)) := by
  blk_ext [iblk, V, index_facts t, colP]
/-- A point's block of the second mixer's output is its rows. -/
theorem read_outB : (iblk m c 2 t : Vec Ideal S256x512 .f32) (ix2 r k) = outB m c (ix2 ⟨t.val * 256 + r.val, h⟩ k) := by
  blk_ext [iblk, V, index_facts t]
/-- A point's first block of the shifted rows is its rows and the receptances' columns. -/
theorem read_receptances : (X0_3 m c t : Vec Ideal S256x512 .f32) (ix2 r k) = shifted m c (ix2 ⟨t.val * 256 + r.val, h⟩ (colS 0 (by decide) k)) := by
  unfold X0_3 Pipeline.Window.fill
  rw [dif_pos (moved0_3 t _)]
  blk_ext [iblk, V, index_facts t, colS]
/-- A point's block of the keys is its rows. -/
theorem read_keys : (iblk m c 4 t : Vec Ideal S256x512 .f32) (ix2 r k) = keys m c (ix2 ⟨t.val * 256 + r.val, h⟩ k) := by
  blk_ext [iblk, V, index_facts t]
/-- A point's second block of the shifted rows is its rows and the values' columns. -/
theorem read_values : (X0_5 m c t : Vec Ideal S256x512 .f32) (ix2 r k) = shifted m c (ix2 ⟨t.val * 256 + r.val, h⟩ (colS 1024 (by decide) k)) := by
  unfold X0_5 Pipeline.Window.fill
  rw [dif_pos (moved0_5 t _)]
  blk_ext [iblk, V, index_facts t, colS]
/-- A point's block of the second gate is its rows. -/
theorem read_gates : (iblk m c 6 t : Vec Ideal S256x512 .f32) (ix2 r k) = gates m c (ix2 ⟨t.val * 256 + r.val, h⟩ k) := by
  blk_ext [iblk, V, index_facts t]

omit r h in
/-- The gains', the shift's and the weights' blocks are the arrays. -/
theorem read_params :
    (iblk m c 7 t : Vec Ideal S1x512 .f32) (ix2 0 k) = gainA m c (ix2 0 k) ∧ (iblk m c 8 t : Vec Ideal S1x512 .f32) (ix2 0 k) = gainB m c (ix2 0 k)
    ∧ (iblk m c 9 t : Vec Ideal S1x512 .f32) (ix2 0 k) = biasB m c (ix2 0 k) ∧ (iblk m c 10 t : Vec Ideal S1x512 .f32) (ix2 0 k) = weights m c (ix2 0 k) := by
  refine ⟨?_, ?_, ?_, ?_⟩ <;> blk_ext [iblk, V, index_facts t]

end blocks

/-- The call leaves the first mixer's head norms under their gates, where its output is real. -/
theorem result_norms (c : Dev nD) (ho : ∀ i, ∃ a : ℝ, outA m c i = a) : (dats m 0 c).arrAt 11 cfg0.N = headNorms (outA m c) (proj m c) (gainA m c) := by
  refine (dats m 0 c).arrAt_eq_of_covers 11 _ (by decide +kernel) fun t hf y => ?_
  blk_simp
  rw [after0_11]
  have key : (outsAt0 m c t).1 = k0_pay1 (k0_pay9 (iblk m c 0 t) (iblk m c 1 t) (iblk m c 7 t) (k0_pay7 (k0_pay3 (iblk m c 0 t)) k0_pay4 k0_pay5 k0_pay6 0#32) k0_pay8) := by
    unfold outsAt0
    frame_out
  rw [key]
  obtain ⟨r, l, rfl⟩ : ∃ (r : Fin 256) (l : Fin 512), y = ix2 r l := ⟨y 0, y 1, eq_ix2 y⟩
  have ht : t.val < 32 := t.isLt
  have hr : t.val * 256 + r.val < 8192 := by omega
  have hi : (win0_11.blk t).view.emb (ix2 r l) = ix2 (⟨t.val * 256 + r.val, hr⟩ : Fin 8192) l := by
    blk_ext [index_facts t]
  rw [hi, norm_apply _ _ _ _ _ fun k => by rw [read_outA m c t r k hr]; exact ho _]
  simp only [read_outA m c t r _ hr, read_proj m c t r _ hr, (read_params m c t _).1]
  rfl

/-- The call leaves the second mixer's head norms with their bonuses under their gates, where its output, the receptances, the keys and the weights are real. -/
theorem result_bonuses (c : Dev nD) (hy : ∀ i, ∃ a : ℝ, outB m c i = a) (hs : ∀ r k, ∃ a : ℝ, shifted m c (ix2 r (colS 0 (by decide) k)) = a)
    (hk : ∀ i, ∃ a : ℝ, keys m c i = a) (hw : ∀ i, ∃ a : ℝ, weights m c i = a) :
    (dats m 0 c).arrAt 12 cfg0.N = headBonuses (outB m c) (shifted m c) (keys m c) (gates m c) (gainB m c) (biasB m c) (weights m c) := by
  refine (dats m 0 c).arrAt_eq_of_covers 12 _ (by decide +kernel) fun t hf y => ?_
  blk_simp
  rw [after0_12]
  have key : (outsAt0 m c t).2 = bonusBlock (iblk m c 2 t) (X0_3 m c t) (iblk m c 4 t) (X0_5 m c t) (iblk m c 6 t) (iblk m c 8 t) (iblk m c 9 t) (iblk m c 10 t) := by
    unfold outsAt0
    frame_out
  rw [key]
  obtain ⟨r, l, rfl⟩ : ∃ (r : Fin 256) (l : Fin 512), y = ix2 r l := ⟨y 0, y 1, eq_ix2 y⟩
  have ht : t.val < 32 := t.isLt
  have hr : t.val * 256 + r.val < 8192 := by omega
  have hi : (win0_12.blk t).view.emb (ix2 r l) = ix2 (⟨t.val * 256 + r.val, hr⟩ : Fin 8192) l := by
    blk_ext [index_facts t]
  rw [hi, bonus_apply _ _ _ _ _ _ _ _ _ _ (fun k => by rw [read_outB m c t r k hr]; exact hy _) (fun k => by rw [read_receptances m c t r k hr]; exact hs _ _)
    (fun k => by rw [read_keys m c t r k hr]; exact hk _) (fun k => by rw [(read_params m c t k).2.2.2]; exact hw _)]
  simp only [read_outB m c t r _ hr, read_receptances m c t r _ hr, read_keys m c t r _ hr, read_values m c t r _ hr, read_gates m c t r _ hr,
    (read_params m c t _).2.1, (read_params m c t _).2.2.1, (read_params m c t _).2.2.2]
  rfl

/-- Arguments that pass the test of the precondition are real. -/
theorem real_of_pre [hF : Cert.Pre_post_finite.Facts] {o y k g : FVec Ideal S8192x512 .f32} {p : FVec Ideal S8192x5632 .f32} {s : FVec Ideal S8192x1792 .f32} {ga w b c : FVec Ideal S1x512 .f32}
    (h : (Cert.Pre_post_finite.fn (F := Ideal) o p y s k g ga w b c).1 = (fun _ => 1#1) ∧ (Cert.Pre_post_finite.fn (F := Ideal) o p y s k g ga w b c).2.1 = (fun _ => 1#1)
      ∧ (Cert.Pre_post_finite.fn (F := Ideal) o p y s k g ga w b c).2.2.1 = (fun _ => 1#1) ∧ (Cert.Pre_post_finite.fn (F := Ideal) o p y s k g ga w b c).2.2.2.1 = (fun _ => 1#1)
      ∧ (Cert.Pre_post_finite.fn (F := Ideal) o p y s k g ga w b c).2.2.2.2 = (fun _ => 1#1)) :
    (∀ i, ∃ a : ℝ, o i = a) ∧ (∀ i, ∃ a : ℝ, y i = a) ∧ (∀ r j, ∃ a : ℝ, s (ix2 r (colS 0 (by decide) j)) = a) ∧ (∀ i, ∃ a : ℝ, k i = a) ∧ (∀ i, ∃ a : ℝ, c i = a) := by
  refine ⟨fun i => Finite.real_of_test _ (congrFun h.1 i), fun i => Finite.real_of_test _ (congrFun h.2.1 i), fun r j => ?_,
    fun i => Finite.real_of_test _ (congrFun h.2.2.2.1 i), fun i => Finite.real_of_test _ (congrFun h.2.2.2.2 i)⟩
  have e : extractStridedSlice S8192x512 ![0, 0] s Cert.PostRefIdeal.Facts₀.slices_S8192x1792_S8192x512_0_0 (ix2 r j) = s (ix2 r (colS 0 (by decide) j)) := by
    pointwise [colS]
  rw [← e]
  exact Finite.real_of_test _ (congrFun h.2.2.1 (ix2 r j))

/-- The reference's frame: it ends, and its arguments are unchanged. -/
theorem frame_reference : Cert.quiescent_PostRefIdeal := fun m ρ _ =>
  (θ_run Cert.PostRefIdeal.defs _ _).mono
    (fun r h => ⟨fun c => (h c).2.2, sem_eq_zero_of_no_sems rfl r.2⟩) (Cert.PostRefIdeal.Value.run (F := Ideal) m ρ)

/-- Of a real output of the mixers, real receptances, keys and weights, the kernel's results are the reference's. -/
theorem algebraic [hK : Cert.PostIdeal.Facts] [hR : Cert.PostRefIdeal.Facts] [hF : Cert.Pre_post_finite.Facts] : Cert.algebraic_PostIdeal_PostRefIdeal_pre_post_finite :=
  fun m ρ m' ρ' hp hm => ⟨fun c => headNorms (outA m c) (proj m c) (gainA m c),
      fun c => headBonuses (outB m c) (shifted m c) (keys m c) (gates m c) (gainB m c) (biasB m c) (weights m c),
    (θ_run Cert.PostIdeal.defs _ _).mono (fun r h c =>
      have H := real_of_pre (hp c)
      ⟨(h c).1.trans (result_norms m c H.1), (h c).2.1.trans (result_bonuses m c H.2.1 H.2.2.1 H.2.2.2.1 H.2.2.2.2), (h c).2.2⟩)
      (Cert.PostIdeal.Value.run_blocks (F := Ideal) m ρ),
    (θ_run Cert.PostRefIdeal.defs _ _).mono (fun r h c => ⟨
      (h c).1.trans (by
        rw [Cert.PostRefIdeal.Read.val_main_v61_eq, (hm c).1, (hm c).2.1, (hm c).2.2.2.2.2.2.1]
        exact ref_norms _ _ _),
      (h c).2.1.trans (by
        rw [Cert.PostRefIdeal.Read.val_main_v64_eq, (hm c).2.2.1, (hm c).2.2.2.1, (hm c).2.2.2.2.1, (hm c).2.2.2.2.2.1, (hm c).2.2.2.2.2.2.2.1, (hm c).2.2.2.2.2.2.2.2.1, (hm c).2.2.2.2.2.2.2.2.2]
        exact ref_bonuses _ _ _ _ _ _ _),
      (h c).2.2⟩)
      (Cert.PostRefIdeal.Value.run (F := Ideal) m' ρ')⟩

end Cert.PostIdeal.Rows

end
-- ==== Proof.DecayValue.lean ====
/-
  The decays, the learning rates, the keys and the gates of the second mixer.
-/
module

public import proofs.«01_k».proof.Proof.Rows
public import proofs.«01_k».proof.Proof.Groups
public import proofs.«01_k».proof.Proof.Finite
public import proofs.«01_k».proof.Defs
public import Idealize.ShloMosaic.Lib.Quiescent
public import Idealize.ShloMosaic.Lib.Pipeline.ValueKit
public import Idealize.ShloMosaic.Lib.Routing.OpsSet
public import Idealize.ShloMosaic.Lib.Routing.OpsPair
public import proofs.«01_k».proof.Proof.Gen.DecayIdeal.Value
public import proofs.«01_k».proof.Proof.Gen.DecayRefIdeal.Run
public import proofs.«01_k».proof.Proof.Gen.DecayRefIdeal.Read

@[expose] public section

set_option maxRecDepth 16384

noncomputable section

namespace Cert.DecayIdeal.Rows

open Cert.DecayIdeal Cert.DecayIdeal.Gen Cert.DecayIdeal.Value Cert.Rows Cert.Groups
open Idealize.ShloMosaic Idealize.ShloMosaic.Routing Idealize.ShloMosaic.TcCoe Idealize.SL.Sem
open scoped BigOperators

/-- A matrix of 64 rows put from row `o` into one of 128 rows of zeros, an entry. -/
def padded (o : ℕ) (w : Fin 64 → Fin 512 → EReal) (q : Fin 128) (l : Fin 512) : EReal :=
  if h : o ≤ q.val ∧ q.val < o + 64 then w ⟨q.val - o, by omega⟩ l else 0

/-- A row times the padded matrix is the 64 entries of the row from `o` times the matrix. -/
theorem padded_sum (o : ℕ) (ho : o + 64 ≤ 128) (w : Fin 64 → Fin 512 → EReal) (x : Fin 128 → EReal) (l : Fin 512) :
    ∑ q, x q * padded o w q l = ∑ q : Fin 64, x ⟨o + q.val, by omega⟩ * w q l := by
  refine (Finset.sum_of_injOn (fun q : Fin 64 => (⟨o + q.val, by omega⟩ : Fin 128)) ?_ (fun _ _ => Finset.mem_coe.2 (Finset.mem_univ _)) ?_ ?_).symm
  · intro p _ q _ hpq
    exact Fin.ext (Nat.add_left_cancel (congrArg Fin.val hpq))
  · intro k _ hk
    rw [padded, dif_neg, mul_zero]
    intro hkl
    exact hk ⟨⟨k.val - o, by omega⟩, Finset.mem_coe.2 (Finset.mem_univ _), Fin.ext (Nat.add_sub_cancel' hkl.1)⟩
  · intro q _
    rw [padded, dif_pos ⟨Nat.le_add_right _ _, Nat.add_lt_add_left q.isLt _⟩]
    exact congrArg (fun a => x ⟨o + q.val, by omega⟩ * w a l) (Fin.ext (Nat.add_sub_cancel_left o q.val).symm)

/-- Where a row of the scattered matrix lands. -/
theorem lands (i : IVec S1 32) (k : S64x512.Idx) (q : Fin 128) (l : Fin 512) :
    scatter_S128x512_S1_S64x512_01_n_0_0.resultIdx? k i = some (ix2 q l) ↔ (i (ix1 0)).toInt + ((k 0).val : ℤ) = q.val ∧ (k 1).val = l.val := by
  refine (resultIdx?_ix2 (R := 128) (C := 512) scatter_S128x512_S1_S64x512_01_n_0_0 k i q l).trans ?_
  have h0 : scatter_S128x512_S1_S64x512_01_n_0_0.start k i 0 = (i (ix1 0)).toInt := by
    unfold ScatterDims.start
    rw [dif_pos (by decide)]
    exact congrArg (fun j => (i j).toInt) (funext fun b => match b with
      | ⟨0, _⟩ => Subsingleton.elim (α := Fin 1) _ _)
  have h1 : scatter_S128x512_S1_S64x512_01_n_0_0.start k i 1 = 0 := by
    unfold ScatterDims.start
    rw [dif_neg (by decide)]
  have w0 : scatter_S128x512_S1_S64x512_01_n_0_0.window k 0 = (k 0).val := rfl
  have w1 : scatter_S128x512_S1_S64x512_01_n_0_0.window k 1 = (k 1).val := rfl
  rw [h0, h1, w0, w1]
  omega

/-- The scattered matrix. -/
theorem scatter_apply (o : ℕ) (z : FVec Ideal S128x512 .f32) (hz : ∀ j, z j = 0) (i : IVec S1 32) (hi : (i (ix1 0)).toInt = o) (w : FVec Ideal S64x512 .f32) (q : Fin 128) (l : Fin 512) :
    Host.scatter scatter_S128x512_S1_S64x512_01_n_0_0 (fun _ b => b) z i w (ix2 q l) = padded o (fun a b => w (ix2 a b)) q l := by
  unfold padded
  split
  · rename_i h
    refine scatter_set_hit _ _ _ _ _ _ (fun k hk => ?_) (ix2 ⟨q.val - o, by omega⟩ l) ((lands i _ q l).2 ⟨?_, rfl⟩)
    · have := (lands i k q l).1 hk
      rw [hi] at this
      rw [eq_ix2 k]
      exact congrArg₂ (fun a b => w (ix2 a b)) (Fin.ext (by simp only; omega)) (Fin.ext this.2)
    · rw [hi]
      show (o : ℤ) + ((q.val - o : ℕ) : ℤ) = q.val
      omega
  · rename_i h
    refine (scatter_set_miss _ _ _ _ _ fun k hk => h ?_).trans (hz _)
    have := (lands i k q l).1 hk
    have h64 : (k 0).val < 64 := (k 0).isLt
    rw [hi] at this
    omega

variable (m : (ℓ : Loc nD τ sig) → Buf (Elt Ideal) ℓ)

/-- The padded weights of the first decay. -/
theorem V_v2 (c : Dev nD) (q : Fin 128) (l : Fin 512) :
    (V m c main_v2 : FVec Ideal S128x512 .f32) (ix2 q l) = padded 0 (fun a b => (m ((c : Thread nD τ).loc main_arg2) : FVec Ideal S64x512 .f32) (ix2 a b)) q l := by
  unfold V
  after_results
  exact scatter_apply 0 _ (fun j => by pointwise) _ rfl _ q l

/-- The padded weights of the second decay. -/
theorem V_v5 (c : Dev nD) (q : Fin 128) (l : Fin 512) :
    (V m c main_v5 : FVec Ideal S128x512 .f32) (ix2 q l) = padded 0 (fun a b => (m ((c : Thread nD τ).loc main_arg4) : FVec Ideal S64x512 .f32) (ix2 a b)) q l := by
  unfold V
  after_results
  exact scatter_apply 0 _ (fun j => by pointwise) _ rfl _ q l

/-- The padded weights of the learning rate. -/
theorem V_v8 (c : Dev nD) (q : Fin 128) (l : Fin 512) :
    (V m c main_v8 : FVec Ideal S128x512 .f32) (ix2 q l) = padded 64 (fun a b => (m ((c : Thread nD τ).loc main_arg6) : FVec Ideal S64x512 .f32) (ix2 a b)) q l := by
  unfold V
  after_results
  exact scatter_apply 64 _ (fun j => by pointwise) _ rfl _ q l

/-- The decay of a number: the exponential of minus the exponential of minus its negative's softplus less a half. -/
def decay (z : EReal) : EReal :=
  Ideal.exp (-Ideal.exp (-(max (-z) 0 + Ideal.log1p (Ideal.exp (-max (-z) (- -z)))) - num 0x3F000000#32))
/-- The keys of a row over the norms of their heads, or over the small constant. -/
def unit (k : Fin 512 → EReal) (l : Fin 512) : EReal := Ideal.div (k l) (max (Ideal.sqrt (total 64 (fun j => k j * k j) l)) (num 0x2B8CBCCC#32))
/-- A key, scaled with its learning rate. -/
def scaled (k a c : EReal) : EReal := k * (num 0x3F800000#32 + (a - num 0x3F800000#32) * c)

/-- A row of the first block the kernel computes is its decays. -/
theorem decay_apply (x : Vec Ideal S256x128 .f32) (w0 : Vec Ideal S1x512 .f32) (w2 : Vec Ideal S128x512 .f32) (r : Fin 256) (l : Fin 512) :
    k0_pay15 (k0_pay13 w0 (k0_pay1 w2) (k0_pay3 x)) k0_pay14 (ix2 r l) = decay (w0 (ix2 0 l) + ∑ q, Ideal.tanh (x (ix2 r q)) * w2 (ix2 q l)) := by
  unfold decay Ideal.log1p
  simp only [← zero_sub]
  pointwise [k0_pay15, k0_pay14, k0_pay13, k0_pay1, k0_pay3, num]
  simp only [zero_sub]
  rfl

/-- The kernel's learning rates. -/
theorem rate_apply (x : Vec Ideal S256x128 .f32) (a0 : Vec Ideal S1x512 .f32) (a2 : Vec Ideal S128x512 .f32) (r : Fin 256) (l : Fin 512) :
    k0_pay4 x a0 a2 (ix2 r l) = gate (a0 (ix2 0 l) + ∑ q, x (ix2 r q) * a2 (ix2 q l)) := by
  pointwise [k0_pay4, logistic_eq]

/-- The kernel's gates. -/
theorem gates_apply (x : Vec Ideal S256x128 .f32) (g2 : Vec Ideal S128x512 .f32) (r : Fin 256) (l : Fin 512) :
    k0_pay5 x g2 (ix2 r l) = ∑ q, gate (x (ix2 r q)) * g2 (ix2 q l) := by
  pointwise [k0_pay5, logistic_eq]

/-- The kernel's scaled keys. -/
theorem scaled_apply (k a : FVec Ideal S256x512 .f32) (c : Vec Ideal S1x512 .f32) (r : Fin 256) (l : Fin 512) :
    k0_pay12 k c a (ix2 r l) = scaled (k (ix2 r l)) (a (ix2 r l)) (c (ix2 0 l)) := by
  pointwise [k0_pay12, scaled, num]

/-- The kernel's keys over the norms of their heads. -/
abbrev units (k : Vec Ideal S256x512 .f32) (c : Vec Ideal S1x512 .f32) : FVec Ideal S256x512 .f32 :=
  k0_pay11 (k0_pay6 k c) (k0_pay7 k c) (k0_pay9 (iota Kind.tc S512x512 32 [0] iota_S512x512_d0_w32) (64#32) k0_pay8) k0_pay10

/-- A row of them, of real keys. -/
theorem unit_apply (k : Vec Ideal S256x512 .f32) (c : Vec Ideal S1x512 .f32) (r : Fin 256) (l : Fin 512) (hk : ∀ j, ∃ e : ℝ, k (ix2 r j) * c (ix2 0 j) = e) :
    units k c (ix2 r l) = unit (fun j => k (ix2 r j) * c (ix2 0 j)) l := by
  unfold unit
  rw [← total_eq 64 _ (fun j => real_mul (hk j) (hk j)) l]
  simp only [← same_64, quotient]
  pointwise [units, k0_pay11, k0_pay6, k0_pay7, k0_pay8, k0_pay9, k0_pay10, num]
  simp only [widths.1]

/-- Their negatives. -/
theorem negative_apply (x : FVec Ideal S256x512 .f32) (r : Fin 256) (l : Fin 512) : k0_pay17 x (ix2 r l) = -x (ix2 r l) := by
  rw [← zero_sub]
  pointwise [k0_pay17]

/-- Their products with the learning rates. -/
theorem product_apply (a x : FVec Ideal S256x512 .f32) (r : Fin 256) (l : Fin 512) : k0_pay18 a x (ix2 r l) = x (ix2 r l) * a (ix2 r l) := by
  pointwise [k0_pay18]

/-- A column of the shifted rows, `k` after the `o`-th. -/
def col (o : ℕ) {n : ℕ} (h : o + n ≤ 1792) (k : Fin n) : Fin 1792 := ⟨o + k.val, by omega⟩

/-- The learning rates of a row. -/
def rates (s : FVec Ideal S8192x1792 .f32) (a0 : FVec Ideal S1x512 .f32) (a2 : FVec Ideal S64x512 .f32) (r : Fin 8192) (l : Fin 512) : EReal :=
  gate (a0 (ix2 0 l) + ∑ q : Fin 64, s (ix2 r (col 1600 (by decide) q)) * a2 (ix2 q l))
/-- The keys of a row with their weights, over the norms of their heads. -/
def keysUnit (s : FVec Ideal S8192x1792 .f32) (c : FVec Ideal S1x512 .f32) (r : Fin 8192) (l : Fin 512) : EReal :=
  unit (fun j => s (ix2 r (col 512 (by decide) j)) * c (ix2 0 j)) l

/-- The decays. -/
def outDecay (s : FVec Ideal S8192x1792 .f32) (w0 : FVec Ideal S1x512 .f32) (w2 : FVec Ideal S64x512 .f32) : FVec Ideal S8192x512 .f32 := fun i =>
  decay (w0 (ix2 0 (i 1)) + ∑ q : Fin 64, Ideal.tanh (s (ix2 (i 0) (col 1536 (by decide) q))) * w2 (ix2 q (i 1)))
/-- The keys, scaled with the learning rates. -/
def outKeys (s : FVec Ideal S8192x1792 .f32) (a0 : FVec Ideal S1x512 .f32) (a2 : FVec Ideal S64x512 .f32) (c : FVec Ideal S1x512 .f32) : FVec Ideal S8192x512 .f32 := fun i =>
  scaled (s (ix2 (i 0) (col 512 (by decide) (i 1)))) (rates s a0 a2 (i 0) (i 1)) (c (ix2 0 (i 1)))
/-- The negatives of the keys over the norms of their heads. -/
def outNeg (s : FVec Ideal S8192x1792 .f32) (c : FVec Ideal S1x512 .f32) : FVec Ideal S8192x512 .f32 := fun i => -keysUnit s c (i 0) (i 1)
/-- The keys over the norms of their heads, times the learning rates. -/
def outRate (s : FVec Ideal S8192x1792 .f32) (a0 : FVec Ideal S1x512 .f32) (a2 : FVec Ideal S64x512 .f32) (c : FVec Ideal S1x512 .f32) : FVec Ideal S8192x512 .f32 := fun i =>
  keysUnit s c (i 0) (i 1) * rates s a0 a2 (i 0) (i 1)
/-- The output gates. -/
def outGate (s : FVec Ideal S8192x1792 .f32) (g2 : FVec Ideal S128x512 .f32) : FVec Ideal S8192x512 .f32 := fun i =>
  ∑ q, gate (s (ix2 (i 0) (col 1664 (by decide) q))) * g2 (ix2 q (i 1))

section reference

open Cert.DecayRefIdeal.Read

variable (s : FVec Ideal S8192x1792 .f32) (w0 a0 c e : FVec Ideal S1x512 .f32) (w2 a2 : FVec Ideal S64x512 .f32) (g2 : FVec Ideal S128x512 .f32)

/-- The reference's first decays. -/
theorem ref_decay : val_main_v57 (F := Ideal) s w0 w2 = outDecay s w0 w2 := by
  refine funext fun i => ?_
  obtain ⟨r, l, rfl⟩ : ∃ (r : Fin 8192) (l : Fin 512), i = ix2 r l := ⟨i 0, i 1, eq_ix2 i⟩
  unfold outDecay decay
  simp only [val_main_v57, val_main_v56, val_main_v55, val_main_v54, val_main_v53, val_main_cst_7, val_main_v52, val_main_v51, val_main_call0_v11, val_main_call0_v10, val_main_call0_v9, val_main_call0_v8, val_main_call0_v7, val_main_call0_v6, val_main_call0_v5, val_main_call0_v4, val_main_call0_v3, val_main_call0_v2, val_main_call0_v1, val_main_call0_v0, val_main_call0_cst, val_main_v50, val_main_v49, val_main_v48, val_main_v47, val_main_v46, val_main_v45, val_main_v4, val_main_v1]
  pointwise [num, col]
  simp only [ne_eq, not_true_eq_false, if_false]
  rfl

/-- The reference's second decays are computed as the first. -/
theorem ref_decay' : val_main_v70 (F := Ideal) s w0 w2 = outDecay s w0 w2 := by
  rw [← ref_decay]
  simp only [val_main_v70, val_main_v69, val_main_v68, val_main_v67, val_main_v66, val_main_v65, val_main_v64, val_main_v63, val_main_v62, val_main_v61, val_main_v60, val_main_v59, val_main_v58, val_main_cst_8, val_main_call1_v11, val_main_call1_v10, val_main_call1_v9, val_main_call1_v8, val_main_call1_v7, val_main_call1_v6, val_main_call1_v5, val_main_call1_v4, val_main_call1_v3, val_main_call1_v2, val_main_call1_v1, val_main_call1_v0, val_main_call1_cst, val_main_v57, val_main_v56, val_main_v55, val_main_v54, val_main_v53, val_main_v52, val_main_v51, val_main_v50, val_main_v49, val_main_v48, val_main_v47, val_main_v46, val_main_v45, val_main_cst_7, val_main_call0_v11, val_main_call0_v10, val_main_call0_v9, val_main_call0_v8, val_main_call0_v7, val_main_call0_v6, val_main_call0_v5, val_main_call0_v4, val_main_call0_v3, val_main_call0_v2, val_main_call0_v1, val_main_call0_v0, val_main_call0_cst]

/-- The reference's learning rates. -/
theorem ref_rates (r : Fin 8192) (l : Fin 512) : val_main_v15 (F := Ideal) s a0 a2 (ix2 r l) = rates s a0 a2 r l := by
  unfold rates gate
  simp only [val_main_v15, val_main_v14, val_main_cst_0, val_main_v13, val_main_v12, val_main_cst, val_main_v11, val_main_v10, val_main_v9, val_main_v8, val_main_v7, val_main_v6, val_main_v5, val_main_v2]
  pointwise [num, col]

/-- The reference's scaled keys. -/
theorem ref_keys : val_main_v44 (F := Ideal) s a0 a2 e = outKeys s a0 a2 e := by
  refine funext fun i => ?_
  obtain ⟨r, l, rfl⟩ : ∃ (r : Fin 8192) (l : Fin 512), i = ix2 r l := ⟨i 0, i 1, eq_ix2 i⟩
  unfold outKeys scaled
  show _ = _ * (_ + (rates s a0 a2 r l - _) * _)
  rw [← ref_rates]
  simp only [val_main_v44, val_main_v43, val_main_v42, val_main_cst_6, val_main_v41, val_main_v40, val_main_v39, val_main_v38, val_main_v37, val_main_v36, val_main_cst_5, val_main_v0]
  pointwise [num, col]

/-- The reference's keys over the norms of their heads. -/
theorem ref_unit (r : Fin 8192) (a : Fin 8) (b : Fin 64) : val_main_v35 (F := Ideal) s c (ix3 r a b) = keysUnit s c r ⟨a.val * 64 + b.val, by omega⟩ := by
  unfold keysUnit unit
  rw [total_group 64 a.val (by omega)]
  simp only [val_main_v35, val_main_v34, val_main_v33, val_main_v32, val_main_cst_4, val_main_v31, val_main_v30, val_main_v29, val_main_cst_3, val_main_v28, val_main_v27, val_main_v26, val_main_v25, val_main_v24, val_main_v23, val_main_v0]
  pointwise [num, col]

/-- A column's head and its place in the head. -/
theorem of_head (i : S8192x512.Idx) : ∃ (r : Fin 8192) (a : Fin 8) (b : Fin 64) (h : a.val * 64 + b.val < 512), i = ix2 r ⟨a.val * 64 + b.val, h⟩ :=
  have hi : (i 1).val < 512 := (i 1).isLt
  ⟨i 0, ⟨(i 1).val / 64, by omega⟩, ⟨(i 1).val % 64, by omega⟩, by simp only; omega, (eq_ix2 i).trans (congrArg (ix2 (i 0)) (Fin.ext (by simp only; omega)))⟩

/-- The reference's negatives. -/
theorem ref_neg : val_main_v72 (F := Ideal) s c = outNeg s c := by
  refine funext fun i => ?_
  obtain ⟨r, a, b, h, rfl⟩ := of_head i
  refine Eq.trans ?_ (congrArg (- ·) (ref_unit s c r a b))
  simp only [val_main_v72, val_main_v71]
  pointwise

/-- The reference's products with the learning rates. -/
theorem ref_rate : val_main_v75 (F := Ideal) s a0 a2 c = outRate s a0 a2 c := by
  refine funext fun i => ?_
  obtain ⟨r, a, b, h, rfl⟩ := of_head i
  refine Eq.trans ?_ (congrArg₂ (· * ·) (ref_unit s c r a b) (ref_rates s a0 a2 r ⟨a.val * 64 + b.val, h⟩))
  simp only [val_main_v75, val_main_v74, val_main_v73]
  pointwise

/-- The reference's gates. -/
theorem ref_gate : val_main_v22 (F := Ideal) s g2 = outGate s g2 := by
  refine funext fun i => ?_
  obtain ⟨r, l, rfl⟩ : ∃ (r : Fin 8192) (l : Fin 512), i = ix2 r l := ⟨i 0, i 1, eq_ix2 i⟩
  unfold outGate gate
  simp only [val_main_v22, val_main_v21, val_main_v20, val_main_cst_2, val_main_v19, val_main_v18, val_main_cst_1, val_main_v17, val_main_v16, val_main_v3]
  pointwise [num, col]

end reference

/-- The shifted rows: the keys, and what the decays, the learning rates and the gates are made from. -/
abbrev shifted (c : Dev nD) : FVec Ideal S8192x1792 .f32 := m ((c : Thread nD τ).loc main_arg0)
/-- The first decay's bias. -/
abbrev biasF (c : Dev nD) : FVec Ideal S1x512 .f32 := m ((c : Thread nD τ).loc main_arg1)
/-- The first decay's weights. -/
abbrev weightF (c : Dev nD) : FVec Ideal S64x512 .f32 := m ((c : Thread nD τ).loc main_arg2)
/-- The second decay's bias. -/
abbrev biasB (c : Dev nD) : FVec Ideal S1x512 .f32 := m ((c : Thread nD τ).loc main_arg3)
/-- The second decay's weights. -/
abbrev weightB (c : Dev nD) : FVec Ideal S64x512 .f32 := m ((c : Thread nD τ).loc main_arg4)
/-- The learning rates' bias. -/
abbrev biasA (c : Dev nD) : FVec Ideal S1x512 .f32 := m ((c : Thread nD τ).loc main_arg5)
/-- The learning rates' weights. -/
abbrev weightA (c : Dev nD) : FVec Ideal S64x512 .f32 := m ((c : Thread nD τ).loc main_arg6)
/-- The gates' weights. -/
abbrev weightG (c : Dev nD) : FVec Ideal S128x512 .f32 := m ((c : Thread nD τ).loc main_arg7)
/-- The weights of the keys that are divided by their norms. -/
abbrev keyK (c : Dev nD) : FVec Ideal S1x512 .f32 := m ((c : Thread nD τ).loc main_arg8)
/-- The weights of the keys that are scaled. -/
abbrev keyA (c : Dev nD) : FVec Ideal S1x512 .f32 := m ((c : Thread nD τ).loc main_arg9)

/-- The blocks a point reads and writes, decided over the grid. -/
theorem index_facts : ∀ t : Fin cfg0.N,
    win0_0.index t = ![t.val, 1] ∧ win0_1.index t = ![t.val, 12] ∧ win0_2.index t = ![t.val, 13]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![t.val, 0] ∧ win0_13.index t = ![t.val, 0] ∧ win0_14.index t = ![t.val, 0] ∧ win0_15.index t = ![t.val, 0]
    ∧ win0_16.index t = ![t.val, 0] ∧ win0_17.index t = ![t.val, 0] :=
  (by decide +kernel : ∀ t : Fin grid0.N, _)

section blocks

variable (c : Dev nD) (t : Fin cfg0.N) (r : Fin 256) (h : t.val * 256 + r.val < 8192)

/-- A point's first block of the shifted rows is its rows and the keys' columns. -/
theorem read_keys (k : Fin 512) : (X0_0 m c t : Vec Ideal S256x512 .f32) (ix2 r k) = shifted m c (ix2 ⟨t.val * 256 + r.val, h⟩ (col 512 (by decide) k)) := by
  unfold X0_0 Pipeline.Window.fill
  rw [dif_pos (moved0_0 t _)]
  blk_ext [iblk, V, index_facts t, col]
/-- A point's second block of the shifted rows is its rows and the columns of the decays and the learning rates. -/
theorem read_low (k : Fin 128) : (iblk m c 1 t : Vec Ideal S256x128 .f32) (ix2 r k) = shifted m c (ix2 ⟨t.val * 256 + r.val, h⟩ (col 1536 (by decide) k)) := by
  blk_ext [iblk, V, index_facts t, col]
/-- A point's third block of the shifted rows is its rows and the gates' columns. -/
theorem read_gates (k : Fin 128) : (iblk m c 2 t : Vec Ideal S256x128 .f32) (ix2 r k) = shifted m c (ix2 ⟨t.val * 256 + r.val, h⟩ (col 1664 (by decide) k)) := by
  blk_ext [iblk, V, index_facts t, col]

omit r h in
/-- The biases' and the keys' weights' blocks are the arrays. -/
theorem read_rows (k : Fin 512) :
    (iblk m c 3 t : Vec Ideal S1x512 .f32) (ix2 0 k) = biasF m c (ix2 0 k) ∧ (iblk m c 5 t : Vec Ideal S1x512 .f32) (ix2 0 k) = biasB m c (ix2 0 k)
    ∧ (iblk m c 7 t : Vec Ideal S1x512 .f32) (ix2 0 k) = biasA m c (ix2 0 k) ∧ (iblk m c 10 t : Vec Ideal S1x512 .f32) (ix2 0 k) = keyK m c (ix2 0 k)
    ∧ (iblk m c 11 t : Vec Ideal S1x512 .f32) (ix2 0 k) = keyA m c (ix2 0 k) := by
  refine ⟨?_, ?_, ?_, ?_, ?_⟩ <;> blk_ext [iblk, V, index_facts t]

omit r h in
/-- The weights' blocks are the matrices, three of them padded. -/
theorem read_weights (q : Fin 128) (k : Fin 512) :
    (iblk m c 4 t : Vec Ideal S128x512 .f32) (ix2 q k) = padded 0 (fun a b => weightF m c (ix2 a b)) q k
    ∧ (iblk m c 6 t : Vec Ideal S128x512 .f32) (ix2 q k) = padded 0 (fun a b => weightB m c (ix2 a b)) q k
    ∧ (iblk m c 8 t : Vec Ideal S128x512 .f32) (ix2 q k) = padded 64 (fun a b => weightA m c (ix2 a b)) q k
    ∧ (iblk m c 9 t : Vec Ideal S128x512 .f32) (ix2 q k) = weightG m c (ix2 q k) := by
  refine ⟨Eq.trans ?_ (V_v2 m c q k), Eq.trans ?_ (V_v5 m c q k), Eq.trans ?_ (V_v8 m c q k), ?_⟩
  · exact congrArg (V m c main_v2) (show _ = ix2 q k by blk_ext [index_facts t])
  · exact congrArg (V m c main_v5) (show _ = ix2 q k by blk_ext [index_facts t])
  · exact congrArg (V m c main_v8) (show _ = ix2 q k by blk_ext [index_facts t])
  · blk_ext [iblk, V, index_facts t]

/-- The first entries of the second block, of the padded sums. -/
theorem low_sum (f : EReal → EReal) (w : Fin 64 → Fin 512 → EReal) (l : Fin 512) (r' : Fin 8192) :
    ∑ q, f (shifted m c (ix2 r' (col 1536 (by decide) q))) * padded 0 w q l = ∑ q : Fin 64, f (shifted m c (ix2 r' (col 1536 (by decide) q))) * w q l :=
  (padded_sum 0 (by decide) w (fun q => f (shifted m c (ix2 r' (col 1536 (by decide) q)))) l).trans
    (Finset.sum_congr rfl fun q _ => congrArg (fun k => f (shifted m c (ix2 r' k)) * w q l) (Fin.ext (by simp only [col]; omega)))
/-- The last entries of the second block, of the padded sums. -/
theorem high_sum (w : Fin 64 → Fin 512 → EReal) (l : Fin 512) (r' : Fin 8192) :
    ∑ q, shifted m c (ix2 r' (col 1536 (by decide) q)) * padded 64 w q l = ∑ q : Fin 64, shifted m c (ix2 r' (col 1600 (by decide) q)) * w q l :=
  (padded_sum 64 (by decide) w (fun q => shifted m c (ix2 r' (col 1536 (by decide) q))) l).trans
    (Finset.sum_congr rfl fun q _ => congrArg (fun k => shifted m c (ix2 r' k) * w q l) (Fin.ext (by simp only [col]; omega)))

/-- A point's learning rates. -/
theorem read_rates (l : Fin 512) :
    k0_pay4 (iblk m c 1 t) (iblk m c 7 t) (iblk m c 8 t) (ix2 r l) = rates (shifted m c) (biasA m c) (weightA m c) ⟨t.val * 256 + r.val, h⟩ l := by
  rw [rate_apply]
  simp only [read_low m c t r h, (read_rows m c t _).2.2.1, (read_weights m c t _ _).2.2.1]
  rw [high_sum]
  rfl

/-- A point's keys over the norms of their heads, of real keys. -/
theorem read_units (hk : ∀ (r : Fin 8192) (j : Fin 512), ∃ e : ℝ, shifted m c (ix2 r (col 512 (by decide) j)) = e) (hc : ∀ i, ∃ e : ℝ, keyK m c i = e) (l : Fin 512) :
    units (X0_0 m c t) (iblk m c 10 t) (ix2 r l) = keysUnit (shifted m c) (keyK m c) ⟨t.val * 256 + r.val, h⟩ l := by
  rw [unit_apply _ _ _ _ fun j => by rw [read_keys m c t r h, (read_rows m c t j).2.2.2.1]; exact real_mul (hk _ _) (hc _)]
  simp only [read_keys m c t r h, (read_rows m c t _).2.2.2.1]
  rfl

end blocks

/-- The call leaves the first decays. -/
theorem result_decayF (c : Dev nD) : (dats m 0 c).arrAt 12 cfg0.N = outDecay (shifted m c) (biasF m c) (weightF m c) := by
  refine (dats m 0 c).arrAt_eq_of_covers 12 _ (by decide +kernel) fun t hf y => ?_
  blk_simp
  rw [after0_12]
  have key : (outsAt0 m c t).1 = k0_pay15 (k0_pay13 (iblk m c 3 t) (k0_pay1 (iblk m c 4 t)) (k0_pay3 (iblk m c 1 t))) k0_pay14 := by
    unfold outsAt0
    frame_out
  rw [key]
  obtain ⟨r, l, rfl⟩ : ∃ (r : Fin 256) (l : Fin 512), y = ix2 r l := ⟨y 0, y 1, eq_ix2 y⟩
  have ht : t.val < 32 := t.isLt
  have hr : t.val * 256 + r.val < 8192 := by omega
  have hi : (win0_12.blk t).view.emb (ix2 r l) = ix2 (⟨t.val * 256 + r.val, hr⟩ : Fin 8192) l := by
    blk_ext [index_facts t]
  rw [hi, decay_apply]
  simp only [read_low m c t r hr, (read_rows m c t _).1, (read_weights m c t _ _).1]
  rw [low_sum]
  rfl

/-- The call leaves the second decays. -/
theorem result_decayB (c : Dev nD) : (dats m 0 c).arrAt 13 cfg0.N = outDecay (shifted m c) (biasB m c) (weightB m c) := by
  refine (dats m 0 c).arrAt_eq_of_covers 13 _ (by decide +kernel) fun t hf y => ?_
  blk_simp
  rw [after0_13]
  have key : (outsAt0 m c t).2.1 = k0_pay16 (iblk m c 5 t) (k0_pay2 (iblk m c 6 t)) (k0_pay3 (iblk m c 1 t)) := by
    unfold outsAt0
    frame_out
  rw [key]
  obtain ⟨r, l, rfl⟩ : ∃ (r : Fin 256) (l : Fin 512), y = ix2 r l := ⟨y 0, y 1, eq_ix2 y⟩
  have ht : t.val < 32 := t.isLt
  have hr : t.val * 256 + r.val < 8192 := by omega
  have hi : (win0_13.blk t).view.emb (ix2 r l) = ix2 (⟨t.val * 256 + r.val, hr⟩ : Fin 8192) l := by
    blk_ext [index_facts t]
  rw [hi]
  refine (decay_apply (iblk m c 1 t) (iblk m c 5 t) (iblk m c 6 t) r l).trans ?_
  simp only [read_low m c t r hr, (read_rows m c t _).2.1, (read_weights m c t _ _).2.1]
  rw [low_sum]
  rfl

/-- The call leaves the scaled keys. -/
theorem result_keys (c : Dev nD) : (dats m 0 c).arrAt 14 cfg0.N = outKeys (shifted m c) (biasA m c) (weightA m c) (keyA m c) := by
  refine (dats m 0 c).arrAt_eq_of_covers 14 _ (by decide +kernel) fun t hf y => ?_
  blk_simp
  rw [after0_14]
  have key : (outsAt0 m c t).2.2.1 = k0_pay12 (X0_0 m c t) (iblk m c 11 t) (k0_pay4 (iblk m c 1 t) (iblk m c 7 t) (iblk m c 8 t)) := by
    unfold outsAt0
    frame_out
  rw [key]
  obtain ⟨r, l, rfl⟩ : ∃ (r : Fin 256) (l : Fin 512), y = ix2 r l := ⟨y 0, y 1, eq_ix2 y⟩
  have ht : t.val < 32 := t.isLt
  have hr : t.val * 256 + r.val < 8192 := by omega
  have hi : (win0_14.blk t).view.emb (ix2 r l) = ix2 (⟨t.val * 256 + r.val, hr⟩ : Fin 8192) l := by
    blk_ext [index_facts t]
  rw [hi, scaled_apply, read_keys m c t r hr, read_rates m c t r hr, (read_rows m c t _).2.2.2.2]
  rfl

/-- The call leaves the negatives of the keys over the norms of their heads, of real keys. -/
theorem result_neg (c : Dev nD) (hk : ∀ (r : Fin 8192) (j : Fin 512), ∃ e : ℝ, shifted m c (ix2 r (col 512 (by decide) j)) = e) (hc : ∀ i, ∃ e : ℝ, keyK m c i = e) : (dats m 0 c).arrAt 15 cfg0.N = outNeg (shifted m c) (keyK m c) := by
  refine (dats m 0 c).arrAt_eq_of_covers 15 _ (by decide +kernel) fun t hf y => ?_
  blk_simp
  rw [after0_15]
  have key : (outsAt0 m c t).2.2.2.1 = k0_pay17 (units (X0_0 m c t) (iblk m c 10 t)) := by
    unfold outsAt0
    frame_out
  rw [key]
  obtain ⟨r, l, rfl⟩ : ∃ (r : Fin 256) (l : Fin 512), y = ix2 r l := ⟨y 0, y 1, eq_ix2 y⟩
  have ht : t.val < 32 := t.isLt
  have hr : t.val * 256 + r.val < 8192 := by omega
  have hi : (win0_15.blk t).view.emb (ix2 r l) = ix2 (⟨t.val * 256 + r.val, hr⟩ : Fin 8192) l := by
    blk_ext [index_facts t]
  rw [hi, negative_apply, read_units m c t r hr hk hc]
  rfl

/-- The call leaves the products of these keys with the learning rates, of real keys. -/
theorem result_rate (c : Dev nD) (hk : ∀ (r : Fin 8192) (j : Fin 512), ∃ e : ℝ, shifted m c (ix2 r (col 512 (by decide) j)) = e) (hc : ∀ i, ∃ e : ℝ, keyK m c i = e) : (dats m 0 c).arrAt 16 cfg0.N = outRate (shifted m c) (biasA m c) (weightA m c) (keyK m c) := by
  refine (dats m 0 c).arrAt_eq_of_covers 16 _ (by decide +kernel) fun t hf y => ?_
  blk_simp
  rw [after0_16]
  have key : (outsAt0 m c t).2.2.2.2.1 = k0_pay18 (k0_pay4 (iblk m c 1 t) (iblk m c 7 t) (iblk m c 8 t)) (units (X0_0 m c t) (iblk m c 10 t)) := by
    unfold outsAt0
    frame_out
  rw [key]
  obtain ⟨r, l, rfl⟩ : ∃ (r : Fin 256) (l : Fin 512), y = ix2 r l := ⟨y 0, y 1, eq_ix2 y⟩
  have ht : t.val < 32 := t.isLt
  have hr : t.val * 256 + r.val < 8192 := by omega
  have hi : (win0_16.blk t).view.emb (ix2 r l) = ix2 (⟨t.val * 256 + r.val, hr⟩ : Fin 8192) l := by
    blk_ext [index_facts t]
  rw [hi, product_apply, read_units m c t r hr hk hc, read_rates m c t r hr]
  rfl

/-- The call leaves the gates. -/
theorem result_gate (c : Dev nD) : (dats m 0 c).arrAt 17 cfg0.N = outGate (shifted m c) (weightG m c) := by
  refine (dats m 0 c).arrAt_eq_of_covers 17 _ (by decide +kernel) fun t hf y => ?_
  blk_simp
  rw [after0_17]
  have key : (outsAt0 m c t).2.2.2.2.2 = k0_pay5 (iblk m c 2 t) (iblk m c 9 t) := by
    unfold outsAt0
    frame_out
  rw [key]
  obtain ⟨r, l, rfl⟩ : ∃ (r : Fin 256) (l : Fin 512), y = ix2 r l := ⟨y 0, y 1, eq_ix2 y⟩
  have ht : t.val < 32 := t.isLt
  have hr : t.val * 256 + r.val < 8192 := by omega
  have hi : (win0_17.blk t).view.emb (ix2 r l) = ix2 (⟨t.val * 256 + r.val, hr⟩ : Fin 8192) l := by
    blk_ext [index_facts t]
  rw [hi, gates_apply]
  simp only [read_gates m c t r hr, (read_weights m c t _ _).2.2.2]
  rfl

/-- Arguments that pass the test of the precondition are real. -/
theorem real_of_pre [hF : Cert.Pre_pre_finite.Facts] {s : FVec Ideal S8192x1792 .f32} {w0 w1 a0 k e : FVec Ideal S1x512 .f32} {w2 w3 a2 : FVec Ideal S64x512 .f32} {g : FVec Ideal S128x512 .f32}
    (h : (Cert.Pre_pre_finite.fn (F := Ideal) s w0 w2 w1 w3 a0 a2 g k e).1 = (fun _ => 1#1) ∧ (Cert.Pre_pre_finite.fn (F := Ideal) s w0 w2 w1 w3 a0 a2 g k e).2 = (fun _ => 1#1)) :
    (∀ (r : Fin 8192) (j : Fin 512), ∃ a : ℝ, s (ix2 r (col 512 (by decide) j)) = a) ∧ (∀ i, ∃ a : ℝ, k i = a) := by
  refine ⟨fun r j => ?_, fun i => Finite.real_of_test _ (congrFun h.2 i)⟩
  have e : extractStridedSlice S8192x512 ![0, 512] s Cert.DecayRefIdeal.Facts₀.slices_S8192x1792_S8192x512_0_512 (ix2 r j) = s (ix2 r (col 512 (by decide) j)) := by
    pointwise [col]
  rw [← e]
  exact Finite.real_of_test _ (congrFun h.1 (ix2 r j))

/-- The reference's frame: it ends, and its arguments are unchanged. -/
theorem frame_reference : Cert.quiescent_DecayRefIdeal := fun m ρ _ =>
  (θ_run Cert.DecayRefIdeal.defs _ _).mono
    (fun r h => ⟨fun c => (h c).2.2.2.2.2.2, sem_eq_zero_of_no_sems rfl r.2⟩) (Cert.DecayRefIdeal.Value.run (F := Ideal) m ρ)

/-- Of real keys, the kernel's results are the reference's. -/
theorem algebraic [hK : Cert.DecayIdeal.Facts] [hR : Cert.DecayRefIdeal.Facts] [hF : Cert.Pre_pre_finite.Facts] : Cert.algebraic_DecayIdeal_DecayRefIdeal_pre_pre_finite :=
  fun m ρ m' ρ' hp hm => ⟨fun c => outDecay (shifted m c) (biasF m c) (weightF m c), fun c => outDecay (shifted m c) (biasB m c) (weightB m c),
      fun c => outKeys (shifted m c) (biasA m c) (weightA m c) (keyA m c), fun c => outNeg (shifted m c) (keyK m c),
      fun c => outRate (shifted m c) (biasA m c) (weightA m c) (keyK m c), fun c => outGate (shifted m c) (weightG m c),
    (θ_run Cert.DecayIdeal.defs _ _).mono (fun r h c =>
      have H := real_of_pre (hp c)
      have ⟨h1, h2, h3, h4, h5, h6, h7⟩ := h c
      ⟨h1.trans (result_decayF m c), h2.trans (result_decayB m c), h3.trans (result_keys m c), h4.trans (result_neg m c H.1 H.2),
        h5.trans (result_rate m c H.1 H.2), h6.trans (result_gate m c), h7⟩)
      (Cert.DecayIdeal.Value.run_blocks (F := Ideal) m ρ),
    (θ_run Cert.DecayRefIdeal.defs _ _).mono (fun r h c =>
      have ⟨e0, e1, e2, e3, e4, e5, e6, e7, e8, e9⟩ := hm c
      have ⟨h1, h2, h3, h4, h5, h6, h7⟩ := h c
      ⟨h1.trans (by rw [Cert.DecayRefIdeal.Read.val_main_v57_eq, e0, e1, e2]; exact ref_decay _ _ _),
        h2.trans (by rw [Cert.DecayRefIdeal.Read.val_main_v70_eq, e0, e3, e4]; exact ref_decay' _ _ _),
        h3.trans (by rw [Cert.DecayRefIdeal.Read.val_main_v44_eq, e0, e5, e6, e9]; exact ref_keys _ _ _ _),
        h4.trans (by rw [Cert.DecayRefIdeal.Read.val_main_v72_eq, e0, e8]; exact ref_neg _ _),
        h5.trans (by rw [Cert.DecayRefIdeal.Read.val_main_v75_eq, e0, e5, e6, e8]; exact ref_rate _ _ _ _),
        h6.trans (by rw [Cert.DecayRefIdeal.Read.val_main_v22_eq, e0, e7]; exact ref_gate _ _), h7⟩)
      (Cert.DecayRefIdeal.Value.run (F := Ideal) m' ρ')⟩

end Cert.DecayIdeal.Rows

end
-- ==== Proof.lean ====
module

public import proofs.«01_k».proof.Defs
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.UpDx
public import proofs.«01_k».proof.Proof.Gen.UpDx.Skeleton
public import proofs.«01_k».proof.Proof.Gen.UpDx.Launch
public import proofs.«01_k».proof.Proof.Gen.UpDx.Points
public import proofs.«01_k».proof.Proof.Gen.UpDx.Frame
public import proofs.«01_k».proof.Proof.Gen.UpDxIdeal
public import proofs.«01_k».proof.Proof.Gen.UpDxIdeal.Skeleton
public import proofs.«01_k».proof.Proof.Gen.UpDxIdeal.Launch
public import proofs.«01_k».proof.Proof.Gen.UpDxIdeal.Points
public import proofs.«01_k».proof.Proof.Gen.UpDxIdeal.Frame
public import proofs.«01_k».proof.Proof.Gen.UpDxRefIdeal
public import proofs.«01_k».proof.Proof.Gen.UpDw
public import proofs.«01_k».proof.Proof.Gen.UpDw.Skeleton
public import proofs.«01_k».proof.Proof.Gen.UpDw.Launch
public import proofs.«01_k».proof.Proof.Gen.UpDw.Points
public import proofs.«01_k».proof.Proof.Gen.UpDw.Frame
public import proofs.«01_k».proof.Proof.Gen.UpDwIdeal
public import proofs.«01_k».proof.Proof.Gen.UpDwIdeal.Skeleton
public import proofs.«01_k».proof.Proof.Gen.UpDwIdeal.Launch
public import proofs.«01_k».proof.Proof.Gen.UpDwIdeal.Points
public import proofs.«01_k».proof.Proof.Gen.UpDwIdeal.Frame
public import proofs.«01_k».proof.Proof.Gen.UpDwRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownDx
public import proofs.«01_k».proof.Proof.Gen.DownDx.Skeleton
public import proofs.«01_k».proof.Proof.Gen.DownDx.Launch
public import proofs.«01_k».proof.Proof.Gen.DownDx.Points
public import proofs.«01_k».proof.Proof.Gen.DownDx.Frame
public import proofs.«01_k».proof.Proof.Gen.DownDxIdeal
public import proofs.«01_k».proof.Proof.Gen.DownDxIdeal.Skeleton
public import proofs.«01_k».proof.Proof.Gen.DownDxIdeal.Launch
public import proofs.«01_k».proof.Proof.Gen.DownDxIdeal.Points
public import proofs.«01_k».proof.Proof.Gen.DownDxIdeal.Frame
public import proofs.«01_k».proof.Proof.Gen.DownDxRefIdeal
public import proofs.«01_k».proof.Proof.Gen.DownDw
public import proofs.«01_k».proof.Proof.Gen.DownDw.Skeleton
public import proofs.«01_k».proof.Proof.Gen.DownDw.Launch
public import proofs.«01_k».proof.Proof.Gen.DownDw.Points
public import proofs.«01_k».proof.Proof.Gen.DownDw.Frame
public import proofs.«01_k».proof.Proof.Gen.DownDwIdeal
public import proofs.«01_k».proof.Proof.Gen.DownDwIdeal.Skeleton
public import proofs.«01_k».proof.Proof.Gen.DownDwIdeal.Launch
public import proofs.«01_k».proof.Proof.Gen.DownDwIdeal.Points
public import proofs.«01_k».proof.Proof.Gen.DownDwIdeal.Frame
public import proofs.«01_k».proof.Proof.Gen.DownDwRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.OutDx
public import proofs.«01_k».proof.Proof.Gen.OutDx.Skeleton
public import proofs.«01_k».proof.Proof.Gen.OutDx.Launch
public import proofs.«01_k».proof.Proof.Gen.OutDx.Points
public import proofs.«01_k».proof.Proof.Gen.OutDx.Frame
public import proofs.«01_k».proof.Proof.Gen.OutDxIdeal
public import proofs.«01_k».proof.Proof.Gen.OutDxIdeal.Skeleton
public import proofs.«01_k».proof.Proof.Gen.OutDxIdeal.Launch
public import proofs.«01_k».proof.Proof.Gen.OutDxIdeal.Points
public import proofs.«01_k».proof.Proof.Gen.OutDxIdeal.Frame
public import proofs.«01_k».proof.Proof.Gen.OutDxRefIdeal
public import proofs.«01_k».proof.Proof.Gen.OutDw
public import proofs.«01_k».proof.Proof.Gen.OutDw.Skeleton
public import proofs.«01_k».proof.Proof.Gen.OutDw.Launch
public import proofs.«01_k».proof.Proof.Gen.OutDw.Points
public import proofs.«01_k».proof.Proof.Gen.OutDw.Frame
public import proofs.«01_k».proof.Proof.Gen.OutDwIdeal
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjDx
public import proofs.«01_k».proof.Proof.Gen.ProjDx.Skeleton
public import proofs.«01_k».proof.Proof.Gen.ProjDx.Launch
public import proofs.«01_k».proof.Proof.Gen.ProjDx.Points
public import proofs.«01_k».proof.Proof.Gen.ProjDx.Frame
public import proofs.«01_k».proof.Proof.Gen.ProjDxIdeal
public import proofs.«01_k».proof.Proof.Gen.ProjDxIdeal.Skeleton
public import proofs.«01_k».proof.Proof.Gen.ProjDxIdeal.Launch
public import proofs.«01_k».proof.Proof.Gen.ProjDxIdeal.Points
public import proofs.«01_k».proof.Proof.Gen.ProjDxIdeal.Frame
public import proofs.«01_k».proof.Proof.Gen.ProjDxRefIdeal
public import proofs.«01_k».proof.Proof.Gen.ProjDw
public import proofs.«01_k».proof.Proof.Gen.ProjDw.Skeleton
public import proofs.«01_k».proof.Proof.Gen.ProjDw.Launch
public import proofs.«01_k».proof.Proof.Gen.ProjDw.Points
public import proofs.«01_k».proof.Proof.Gen.ProjDw.Frame
public import proofs.«01_k».proof.Proof.Gen.ProjDwIdeal
public import proofs.«01_k».proof.Proof.Gen.ProjDwIdeal.Skeleton
public import proofs.«01_k».proof.Proof.Gen.ProjDwIdeal.Launch
public import proofs.«01_k».proof.Proof.Gen.ProjDwIdeal.Points
public import proofs.«01_k».proof.Proof.Gen.ProjDwIdeal.Frame
public import proofs.«01_k».proof.Proof.Gen.ProjDwRefIdeal
public import proofs.«01_k».proof.Proof.Gen.AdamWIn
public import proofs.«01_k».proof.Proof.Gen.AdamWIn.Skeleton
public import proofs.«01_k».proof.Proof.Gen.AdamWIn.Launch
public import proofs.«01_k».proof.Proof.Gen.AdamWIn.Points
public import proofs.«01_k».proof.Proof.Gen.AdamWIn.Frame
public import proofs.«01_k».proof.Proof.Gen.AdamWInIdeal
public import proofs.«01_k».proof.Proof.Gen.AdamWInIdeal.Skeleton
public import proofs.«01_k».proof.Proof.Gen.AdamWInIdeal.Launch
public import proofs.«01_k».proof.Proof.Gen.AdamWInIdeal.Points
public import proofs.«01_k».proof.Proof.Gen.AdamWInIdeal.Frame
public import proofs.«01_k».proof.Proof.Gen.AdamWInRefIdeal
public import proofs.«01_k».proof.Proof.Gen.AdamWa2
public import proofs.«01_k».proof.Proof.Gen.AdamWa2.Skeleton
public import proofs.«01_k».proof.Proof.Gen.AdamWa2.Launch
public import proofs.«01_k».proof.Proof.Gen.AdamWa2.Points
public import proofs.«01_k».proof.Proof.Gen.AdamWa2.Frame
public import proofs.«01_k».proof.Proof.Gen.AdamWa2Ideal
public import proofs.«01_k».proof.Proof.Gen.AdamWa2Ideal.Skeleton
public import proofs.«01_k».proof.Proof.Gen.AdamWa2Ideal.Launch
public import proofs.«01_k».proof.Proof.Gen.AdamWa2Ideal.Points
public import proofs.«01_k».proof.Proof.Gen.AdamWa2Ideal.Frame
public import proofs.«01_k».proof.Proof.Gen.AdamWa2RefIdeal
public import proofs.«01_k».proof.Proof.Gen.AdamProj
public import proofs.«01_k».proof.Proof.Gen.AdamProj.Skeleton
public import proofs.«01_k».proof.Proof.Gen.AdamProj.Launch
public import proofs.«01_k».proof.Proof.Gen.AdamProj.Points
public import proofs.«01_k».proof.Proof.Gen.AdamProj.Frame
public import proofs.«01_k».proof.Proof.Gen.AdamProjIdeal
public import proofs.«01_k».proof.Proof.Gen.AdamProjIdeal.Skeleton
public import proofs.«01_k».proof.Proof.Gen.AdamProjIdeal.Launch
public import proofs.«01_k».proof.Proof.Gen.AdamProjIdeal.Points
public import proofs.«01_k».proof.Proof.Gen.AdamProjIdeal.Frame
public import proofs.«01_k».proof.Proof.Gen.AdamProjRefIdeal
public import proofs.«01_k».proof.Proof.Gen.AdamW2
public import proofs.«01_k».proof.Proof.Gen.AdamW2.Skeleton
public import proofs.«01_k».proof.Proof.Gen.AdamW2.Launch
public import proofs.«01_k».proof.Proof.Gen.AdamW2.Points
public import proofs.«01_k».proof.Proof.Gen.AdamW2.Frame
public import proofs.«01_k».proof.Proof.Gen.AdamW2Ideal
public import proofs.«01_k».proof.Proof.Gen.AdamW2Ideal.Skeleton
public import proofs.«01_k».proof.Proof.Gen.AdamW2Ideal.Launch
public import proofs.«01_k».proof.Proof.Gen.AdamW2Ideal.Points
public import proofs.«01_k».proof.Proof.Gen.AdamW2Ideal.Frame
public import proofs.«01_k».proof.Proof.Gen.AdamW2RefIdeal
public import proofs.«01_k».proof.Proof.Gen.AdamG2
public import proofs.«01_k».proof.Proof.Gen.AdamG2.Skeleton
public import proofs.«01_k».proof.Proof.Gen.AdamG2.Launch
public import proofs.«01_k».proof.Proof.Gen.AdamG2.Points
public import proofs.«01_k».proof.Proof.Gen.AdamG2.Frame
public import proofs.«01_k».proof.Proof.Gen.AdamG2Ideal
public import proofs.«01_k».proof.Proof.Gen.AdamG2Ideal.Skeleton
public import proofs.«01_k».proof.Proof.Gen.AdamG2Ideal.Launch
public import proofs.«01_k».proof.Proof.Gen.AdamG2Ideal.Points
public import proofs.«01_k».proof.Proof.Gen.AdamG2Ideal.Frame
public import proofs.«01_k».proof.Proof.Gen.AdamG2RefIdeal
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutRefIdeal
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpRefIdeal
public import proofs.«01_k».proof.Proof.Gen.AdamConv
public import proofs.«01_k».proof.Proof.Gen.AdamConv.Skeleton
public import proofs.«01_k».proof.Proof.Gen.AdamConv.Launch
public import proofs.«01_k».proof.Proof.Gen.AdamConv.Points
public import proofs.«01_k».proof.Proof.Gen.AdamConv.Frame
public import proofs.«01_k».proof.Proof.Gen.AdamConvIdeal
public import proofs.«01_k».proof.Proof.Gen.AdamConvIdeal.Skeleton
public import proofs.«01_k».proof.Proof.Gen.AdamConvIdeal.Launch
public import proofs.«01_k».proof.Proof.Gen.AdamConvIdeal.Points
public import proofs.«01_k».proof.Proof.Gen.AdamConvIdeal.Frame
public import proofs.«01_k».proof.Proof.Gen.AdamConvRefIdeal
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownRefIdeal
public import proofs.«01_k».proof.Proof.Gen.AdamRep
public import proofs.«01_k».proof.Proof.Gen.AdamRep.Skeleton
public import proofs.«01_k».proof.Proof.Gen.AdamRep.Launch
public import proofs.«01_k».proof.Proof.Gen.AdamRep.Points
public import proofs.«01_k».proof.Proof.Gen.AdamRep.Frame
public import proofs.«01_k».proof.Proof.Gen.AdamRepIdeal
public import proofs.«01_k».proof.Proof.Gen.AdamRepIdeal.Skeleton
public import proofs.«01_k».proof.Proof.Gen.AdamRepIdeal.Launch
public import proofs.«01_k».proof.Proof.Gen.AdamRepIdeal.Points
public import proofs.«01_k».proof.Proof.Gen.AdamRepIdeal.Frame
public import proofs.«01_k».proof.Proof.Gen.AdamRepRefIdeal
public import proofs.«01_k».proof.Proof.Gen.Norm1
public import proofs.«01_k».proof.Proof.Gen.Norm1.Skeleton
public import proofs.«01_k».proof.Proof.Gen.Norm1.Launch
public import proofs.«01_k».proof.Proof.Gen.Norm1.Points
public import proofs.«01_k».proof.Proof.Gen.Norm1.Frame
public import proofs.«01_k».proof.Proof.Gen.Norm1Ideal
public import proofs.«01_k».proof.Proof.Gen.Norm1Ideal.Skeleton
public import proofs.«01_k».proof.Proof.Gen.Norm1Ideal.Launch
public import proofs.«01_k».proof.Proof.Gen.Norm1Ideal.Points
public import proofs.«01_k».proof.Proof.Gen.Norm1Ideal.Frame
public import proofs.«01_k».proof.Proof.Gen.Norm1RefIdeal
public import proofs.«01_k».proof.Proof.Gen.Norm2
public import proofs.«01_k».proof.Proof.Gen.Norm2.Skeleton
public import proofs.«01_k».proof.Proof.Gen.Norm2.Launch
public import proofs.«01_k».proof.Proof.Gen.Norm2.Points
public import proofs.«01_k».proof.Proof.Gen.Norm2.Frame
public import proofs.«01_k».proof.Proof.Gen.Norm2Ideal
public import proofs.«01_k».proof.Proof.Gen.Norm2Ideal.Skeleton
public import proofs.«01_k».proof.Proof.Gen.Norm2Ideal.Launch
public import proofs.«01_k».proof.Proof.Gen.Norm2Ideal.Points
public import proofs.«01_k».proof.Proof.Gen.Norm2Ideal.Frame
public import proofs.«01_k».proof.Proof.Gen.Norm2RefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.Norm1Fwd
public import proofs.«01_k».proof.Proof.Gen.Norm1Fwd.Skeleton
public import proofs.«01_k».proof.Proof.Gen.Norm1Fwd.Launch
public import proofs.«01_k».proof.Proof.Gen.Norm1Fwd.Points
public import proofs.«01_k».proof.Proof.Gen.Norm1Fwd.Frame
public import proofs.«01_k».proof.Proof.Gen.Norm1FwdIdeal
public import proofs.«01_k».proof.Proof.Gen.Norm1FwdIdeal.Skeleton
public import proofs.«01_k».proof.Proof.Gen.Norm1FwdIdeal.Launch
public import proofs.«01_k».proof.Proof.Gen.Norm1FwdIdeal.Points
public import proofs.«01_k».proof.Proof.Gen.Norm1FwdIdeal.Frame
public import proofs.«01_k».proof.Proof.Gen.Norm1FwdRefIdeal
public import proofs.«01_k».proof.Proof.Gen.Norm2Fwd
public import proofs.«01_k».proof.Proof.Gen.Norm2Fwd.Skeleton
public import proofs.«01_k».proof.Proof.Gen.Norm2Fwd.Launch
public import proofs.«01_k».proof.Proof.Gen.Norm2Fwd.Points
public import proofs.«01_k».proof.Proof.Gen.Norm2Fwd.Frame
public import proofs.«01_k».proof.Proof.Gen.Norm2FwdIdeal
public import proofs.«01_k».proof.Proof.Gen.Norm2FwdIdeal.Skeleton
public import proofs.«01_k».proof.Proof.Gen.Norm2FwdIdeal.Launch
public import proofs.«01_k».proof.Proof.Gen.Norm2FwdIdeal.Points
public import proofs.«01_k».proof.Proof.Gen.Norm2FwdIdeal.Frame
public import proofs.«01_k».proof.Proof.Gen.Norm2FwdRefIdeal
public import proofs.«01_k».proof.Proof.Gen.MergeFwd
public import proofs.«01_k».proof.Proof.Gen.MergeFwd.Skeleton
public import proofs.«01_k».proof.Proof.Gen.MergeFwd.Launch
public import proofs.«01_k».proof.Proof.Gen.MergeFwd.Points
public import proofs.«01_k».proof.Proof.Gen.MergeFwd.Frame
public import proofs.«01_k».proof.Proof.Gen.MergeFwdIdeal
public import proofs.«01_k».proof.Proof.Gen.MergeFwdIdeal.Skeleton
public import proofs.«01_k».proof.Proof.Gen.MergeFwdIdeal.Launch
public import proofs.«01_k».proof.Proof.Gen.MergeFwdIdeal.Points
public import proofs.«01_k».proof.Proof.Gen.MergeFwdIdeal.Frame
public import proofs.«01_k».proof.Proof.Gen.MergeFwdRefIdeal
public import proofs.«01_k».proof.Proof.Gen.Shift
public import proofs.«01_k».proof.Proof.Gen.Shift.Skeleton
public import proofs.«01_k».proof.Proof.Gen.Shift.Launch
public import proofs.«01_k».proof.Proof.Gen.Shift.Points
public import proofs.«01_k».proof.Proof.Gen.Shift.Frame
public import proofs.«01_k».proof.Proof.Gen.ShiftIdeal
public import proofs.«01_k».proof.Proof.Gen.ShiftIdeal.Skeleton
public import proofs.«01_k».proof.Proof.Gen.ShiftIdeal.Launch
public import proofs.«01_k».proof.Proof.Gen.ShiftIdeal.Points
public import proofs.«01_k».proof.Proof.Gen.ShiftIdeal.Frame
public import proofs.«01_k».proof.Proof.Gen.ShiftRefIdeal
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.Total
public import proofs.«01_k».proof.Proof.Gen.Total.Launch
public import proofs.«01_k».proof.Proof.Gen.TotalIdeal
public import proofs.«01_k».proof.Proof.Gen.TotalIdeal.Launch
public import proofs.«01_k».proof.Proof.Gen.TotalRefIdeal
public import proofs.«01_k».proof.Proof.Gen.ShiftBwd
public import proofs.«01_k».proof.Proof.Gen.ShiftBwd.Skeleton
public import proofs.«01_k».proof.Proof.Gen.ShiftBwd.Loops
public import proofs.«01_k».proof.Proof.Gen.ShiftBwd.Launch
public import proofs.«01_k».proof.Proof.Gen.ShiftBwd.Points
public import proofs.«01_k».proof.Proof.Gen.ShiftBwd.Frame
public import proofs.«01_k».proof.Proof.Gen.ShiftBwdIdeal
public import proofs.«01_k».proof.Proof.Gen.ShiftBwdIdeal.Skeleton
public import proofs.«01_k».proof.Proof.Gen.ShiftBwdIdeal.Loops
public import proofs.«01_k».proof.Proof.Gen.ShiftBwdIdeal.Launch
public import proofs.«01_k».proof.Proof.Gen.ShiftBwdIdeal.Points
public import proofs.«01_k».proof.Proof.Gen.ShiftBwdIdeal.Frame
public import proofs.«01_k».proof.Proof.Gen.ShiftBwdRefIdeal
public import proofs.«01_k».proof.Proof.Gen.ConvBwd
public import proofs.«01_k».proof.Proof.Gen.ConvBwd.Skeleton
public import proofs.«01_k».proof.Proof.Gen.ConvBwd.Loops
public import proofs.«01_k».proof.Proof.Gen.ConvBwd.Launch
public import proofs.«01_k».proof.Proof.Gen.ConvBwd.Points
public import proofs.«01_k».proof.Proof.Gen.ConvBwd.Frame
public import proofs.«01_k».proof.Proof.Gen.ConvBwdIdeal
public import proofs.«01_k».proof.Proof.Gen.ConvBwdIdeal.Skeleton
public import proofs.«01_k».proof.Proof.Gen.ConvBwdIdeal.Loops
public import proofs.«01_k».proof.Proof.Gen.ConvBwdIdeal.Launch
public import proofs.«01_k».proof.Proof.Gen.ConvBwdIdeal.Points
public import proofs.«01_k».proof.Proof.Gen.ConvBwdIdeal.Frame
public import proofs.«01_k».proof.Proof.Gen.ConvBwdRefIdeal
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostRefIdeal
public import proofs.«01_k».proof.Proof.Gen.Decay
public import proofs.«01_k».proof.Proof.Gen.Decay.Skeleton
public import proofs.«01_k».proof.Proof.Gen.Decay.Launch
public import proofs.«01_k».proof.Proof.Gen.Decay.Points
public import proofs.«01_k».proof.Proof.Gen.Decay.Frame
public import proofs.«01_k».proof.Proof.Gen.DecayIdeal
public import proofs.«01_k».proof.Proof.Gen.DecayIdeal.Skeleton
public import proofs.«01_k».proof.Proof.Gen.DecayIdeal.Launch
public import proofs.«01_k».proof.Proof.Gen.DecayIdeal.Points
public import proofs.«01_k».proof.Proof.Gen.DecayIdeal.Frame
public import proofs.«01_k».proof.Proof.Gen.DecayRefIdeal
public import proofs.«01_k».proof.Proof.Gen.Pre_shift_finite
public import proofs.«01_k».proof.Proof.Gen.Pre_conv_finite
public import proofs.«01_k».proof.Proof.Gen.Pre_post_finite
public import proofs.«01_k».proof.Proof.Gen.Pre_pre_finite
public import proofs.«01_k».proof.Proof.Gen.UpIdeal.Value
public import proofs.«01_k».proof.Proof.Gen.UpRefIdeal.Run
public import proofs.«01_k».proof.Proof.Gen.UpRefIdeal.Read
public import proofs.«01_k».proof.Proof.Gen.UpDxIdeal.Value
public import proofs.«01_k».proof.Proof.Gen.UpDxRefIdeal.Run
public import proofs.«01_k».proof.Proof.Gen.UpDxRefIdeal.Read
public import proofs.«01_k».proof.Proof.Gen.UpDwIdeal.Value
public import proofs.«01_k».proof.Proof.Gen.UpDwRefIdeal.Run
public import proofs.«01_k».proof.Proof.Gen.UpDwRefIdeal.Read
public import proofs.«01_k».proof.Proof.Gen.DownIdeal.Value
public import proofs.«01_k».proof.Proof.Gen.DownRefIdeal.Run
public import proofs.«01_k».proof.Proof.Gen.DownRefIdeal.Read
public import proofs.«01_k».proof.Proof.Gen.DownDxIdeal.Value
public import proofs.«01_k».proof.Proof.Gen.DownDxRefIdeal.Run
public import proofs.«01_k».proof.Proof.Gen.DownDxRefIdeal.Read
public import proofs.«01_k».proof.Proof.Gen.DownDwIdeal.Value
public import proofs.«01_k».proof.Proof.Gen.DownDwRefIdeal.Run
public import proofs.«01_k».proof.Proof.Gen.DownDwRefIdeal.Read
public import proofs.«01_k».proof.Proof.Gen.OutIdeal.Value
public import proofs.«01_k».proof.Proof.Gen.OutRefIdeal.Run
public import proofs.«01_k».proof.Proof.Gen.OutRefIdeal.Read
public import proofs.«01_k».proof.Proof.Gen.OutDxIdeal.Value
public import proofs.«01_k».proof.Proof.Gen.OutDxRefIdeal.Run
public import proofs.«01_k».proof.Proof.Gen.OutDxRefIdeal.Read
public import proofs.«01_k».proof.Proof.Gen.OutDwIdeal.Value
public import proofs.«01_k».proof.Proof.Gen.OutDwRefIdeal.Run
public import proofs.«01_k».proof.Proof.Gen.OutDwRefIdeal.Read
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.ProjDxIdeal.Value
public import proofs.«01_k».proof.Proof.Gen.ProjDxRefIdeal.Run
public import proofs.«01_k».proof.Proof.Gen.ProjDxRefIdeal.Read
public import proofs.«01_k».proof.Proof.Gen.ProjDwIdeal.Value
public import proofs.«01_k».proof.Proof.Gen.ProjDwRefIdeal.Run
public import proofs.«01_k».proof.Proof.Gen.ProjDwRefIdeal.Read
public import proofs.«01_k».proof.Proof.Gen.AdamWInIdeal.Value
public import proofs.«01_k».proof.Proof.Gen.AdamWInRefIdeal.Run
public import proofs.«01_k».proof.Proof.Gen.AdamWInRefIdeal.Read
public import proofs.«01_k».proof.Proof.Gen.AdamWa2Ideal.Value
public import proofs.«01_k».proof.Proof.Gen.AdamWa2RefIdeal.Run
public import proofs.«01_k».proof.Proof.Gen.AdamWa2RefIdeal.Read
public import proofs.«01_k».proof.Proof.Gen.AdamProjIdeal.Value
public import proofs.«01_k».proof.Proof.Gen.AdamProjRefIdeal.Run
public import proofs.«01_k».proof.Proof.Gen.AdamProjRefIdeal.Read
public import proofs.«01_k».proof.Proof.Gen.AdamW2Ideal.Value
public import proofs.«01_k».proof.Proof.Gen.AdamW2RefIdeal.Run
public import proofs.«01_k».proof.Proof.Gen.AdamW2RefIdeal.Read
public import proofs.«01_k».proof.Proof.Gen.AdamG2Ideal.Value
public import proofs.«01_k».proof.Proof.Gen.AdamG2RefIdeal.Run
public import proofs.«01_k».proof.Proof.Gen.AdamG2RefIdeal.Read
public import proofs.«01_k».proof.Proof.Gen.AdamOutIdeal.Value
public import proofs.«01_k».proof.Proof.Gen.AdamOutRefIdeal.Run
public import proofs.«01_k».proof.Proof.Gen.AdamOutRefIdeal.Read
public import proofs.«01_k».proof.Proof.Gen.AdamUpIdeal.Value
public import proofs.«01_k».proof.Proof.Gen.AdamUpRefIdeal.Run
public import proofs.«01_k».proof.Proof.Gen.AdamUpRefIdeal.Read
public import proofs.«01_k».proof.Proof.Gen.AdamConvIdeal.Value
public import proofs.«01_k».proof.Proof.Gen.AdamConvRefIdeal.Run
public import proofs.«01_k».proof.Proof.Gen.AdamConvRefIdeal.Read
public import proofs.«01_k».proof.Proof.Gen.AdamDownIdeal.Value
public import proofs.«01_k».proof.Proof.Gen.AdamDownRefIdeal.Run
public import proofs.«01_k».proof.Proof.Gen.AdamDownRefIdeal.Read
public import proofs.«01_k».proof.Proof.Gen.AdamRepIdeal.Value
public import proofs.«01_k».proof.Proof.Gen.AdamRepRefIdeal.Run
public import proofs.«01_k».proof.Proof.Gen.AdamRepRefIdeal.Read
public import proofs.«01_k».proof.Proof.Gen.Norm1Ideal.Value
public import proofs.«01_k».proof.Proof.Gen.Norm1RefIdeal.Run
public import proofs.«01_k».proof.Proof.Gen.Norm1RefIdeal.Read
public import proofs.«01_k».proof.Proof.Gen.Norm2Ideal.Value
public import proofs.«01_k».proof.Proof.Gen.Norm2RefIdeal.Run
public import proofs.«01_k».proof.Proof.Gen.Norm2RefIdeal.Read
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.LossIdeal.Value
public import proofs.«01_k».proof.Proof.Gen.LossRefIdeal.Run
public import proofs.«01_k».proof.Proof.Gen.LossRefIdeal.Read
public import proofs.«01_k».proof.Proof.Gen.Norm1FwdIdeal.Value
public import proofs.«01_k».proof.Proof.Gen.Norm1FwdRefIdeal.Run
public import proofs.«01_k».proof.Proof.Gen.Norm1FwdRefIdeal.Read
public import proofs.«01_k».proof.Proof.Gen.Norm2FwdIdeal.Value
public import proofs.«01_k».proof.Proof.Gen.Norm2FwdRefIdeal.Run
public import proofs.«01_k».proof.Proof.Gen.Norm2FwdRefIdeal.Read
public import proofs.«01_k».proof.Proof.Gen.MergeFwdIdeal.Value
public import proofs.«01_k».proof.Proof.Gen.MergeFwdRefIdeal.Run
public import proofs.«01_k».proof.Proof.Gen.MergeFwdRefIdeal.Read
public import proofs.«01_k».proof.Proof.Gen.ShiftIdeal.Value
public import proofs.«01_k».proof.Proof.Gen.ShiftRefIdeal.Run
public import proofs.«01_k».proof.Proof.Gen.ShiftRefIdeal.Read
public import proofs.«01_k».proof.Proof.Gen.ConvIdeal.Value
public import proofs.«01_k».proof.Proof.Gen.ConvRefIdeal.Run
public import proofs.«01_k».proof.Proof.Gen.ConvRefIdeal.Read
public import proofs.«01_k».proof.Proof.Gen.TotalRefIdeal.Run
public import proofs.«01_k».proof.Proof.Gen.TotalRefIdeal.Read
public import proofs.«01_k».proof.Proof.Gen.ShiftBwdIdeal.Value
public import proofs.«01_k».proof.Proof.Gen.ShiftBwdRefIdeal.Run
public import proofs.«01_k».proof.Proof.Gen.ShiftBwdRefIdeal.Read
public import proofs.«01_k».proof.Proof.Gen.ConvBwdIdeal.Value
public import proofs.«01_k».proof.Proof.Gen.ConvBwdRefIdeal.Run
public import proofs.«01_k».proof.Proof.Gen.ConvBwdRefIdeal.Read
public import proofs.«01_k».proof.Proof.Gen.PostIdeal.Value
public import proofs.«01_k».proof.Proof.Gen.PostRefIdeal.Run
public import proofs.«01_k».proof.Proof.Gen.PostRefIdeal.Read
public import proofs.«01_k».proof.Proof.Gen.DecayIdeal.Value
public import proofs.«01_k».proof.Proof.Gen.DecayRefIdeal.Run
public import proofs.«01_k».proof.Proof.Gen.DecayRefIdeal.Read
public import proofs.«01_k».proof.Proof.UpValue
public import proofs.«01_k».proof.Proof.UpDxValue
public import proofs.«01_k».proof.Proof.UpDwValue
public import proofs.«01_k».proof.Proof.DownValue
public import proofs.«01_k».proof.Proof.DownDxValue
public import proofs.«01_k».proof.Proof.DownDwValue
public import proofs.«01_k».proof.Proof.OutValue
public import proofs.«01_k».proof.Proof.OutDxValue
public import proofs.«01_k».proof.Proof.OutDwValue
public import proofs.«01_k».proof.Proof.ProjValue
public import proofs.«01_k».proof.Proof.ProjDxValue
public import proofs.«01_k».proof.Proof.ProjDwValue
public import proofs.«01_k».proof.Proof.AdamWInValue
public import proofs.«01_k».proof.Proof.AdamWa2Value
public import proofs.«01_k».proof.Proof.AdamProjValue
public import proofs.«01_k».proof.Proof.AdamW2Value
public import proofs.«01_k».proof.Proof.AdamG2Value
public import proofs.«01_k».proof.Proof.AdamOutValue
public import proofs.«01_k».proof.Proof.AdamUpValue
public import proofs.«01_k».proof.Proof.AdamConvValue
public import proofs.«01_k».proof.Proof.AdamDownValue
public import proofs.«01_k».proof.Proof.AdamRepValue
public import proofs.«01_k».proof.Proof.Norm1Value
public import proofs.«01_k».proof.Proof.Norm2Value
public import proofs.«01_k».proof.Proof.MergeValue
public import proofs.«01_k».proof.Proof.LossValue
public import proofs.«01_k».proof.Proof.Norm1FwdValue
public import proofs.«01_k».proof.Proof.Norm2FwdValue
public import proofs.«01_k».proof.Proof.MergeFwdValue
public import proofs.«01_k».proof.Proof.ShiftValue
public import proofs.«01_k».proof.Proof.ConvValue
public import proofs.«01_k».proof.Proof.TotalValue
public import proofs.«01_k».proof.Proof.ShiftBwdValue
public import proofs.«01_k».proof.Proof.ConvBwdValue
public import proofs.«01_k».proof.Proof.PostValue
public import proofs.«01_k».proof.Proof.DecayValue
public import Idealize.ShloMosaic.Adequacy
public import Idealize.ShloMosaic.Init

@[expose] public section

noncomputable section

namespace Cert.Proof

open Idealize.ShloMosaic Idealize.SL.Sem Cert.Up

/-- All the claims: of every call the frames of kernel, ideal kernel and reference, and that kernel and reference
  compute the same functions over the extended reals. -/
theorem claim : Cert.Claim := ⟨Cert.Up.Gen.facts, Cert.UpIdeal.Gen.facts, Cert.UpRefIdeal.Gen.facts, Cert.UpDx.Gen.facts, Cert.UpDxIdeal.Gen.facts, Cert.UpDxRefIdeal.Gen.facts, Cert.UpDw.Gen.facts, Cert.UpDwIdeal.Gen.facts, Cert.UpDwRefIdeal.Gen.facts, Cert.Down.Gen.facts, Cert.DownIdeal.Gen.facts, Cert.DownRefIdeal.Gen.facts, Cert.DownDx.Gen.facts, Cert.DownDxIdeal.Gen.facts, Cert.DownDxRefIdeal.Gen.facts, Cert.DownDw.Gen.facts, Cert.DownDwIdeal.Gen.facts, Cert.DownDwRefIdeal.Gen.facts, Cert.Out.Gen.facts, Cert.OutIdeal.Gen.facts, Cert.OutRefIdeal.Gen.facts, Cert.OutDx.Gen.facts, Cert.OutDxIdeal.Gen.facts, Cert.OutDxRefIdeal.Gen.facts, Cert.OutDw.Gen.facts, Cert.OutDwIdeal.Gen.facts, Cert.OutDwRefIdeal.Gen.facts, Cert.Proj.Gen.facts, Cert.ProjIdeal.Gen.facts, Cert.ProjRefIdeal.Gen.facts, Cert.ProjDx.Gen.facts, Cert.ProjDxIdeal.Gen.facts, Cert.ProjDxRefIdeal.Gen.facts, Cert.ProjDw.Gen.facts, Cert.ProjDwIdeal.Gen.facts, Cert.ProjDwRefIdeal.Gen.facts, Cert.AdamWIn.Gen.facts, Cert.AdamWInIdeal.Gen.facts, Cert.AdamWInRefIdeal.Gen.facts, Cert.AdamWa2.Gen.facts, Cert.AdamWa2Ideal.Gen.facts, Cert.AdamWa2RefIdeal.Gen.facts, Cert.AdamProj.Gen.facts, Cert.AdamProjIdeal.Gen.facts, Cert.AdamProjRefIdeal.Gen.facts, Cert.AdamW2.Gen.facts, Cert.AdamW2Ideal.Gen.facts, Cert.AdamW2RefIdeal.Gen.facts, Cert.AdamG2.Gen.facts, Cert.AdamG2Ideal.Gen.facts, Cert.AdamG2RefIdeal.Gen.facts, Cert.AdamOut.Gen.facts, Cert.AdamOutIdeal.Gen.facts, Cert.AdamOutRefIdeal.Gen.facts, Cert.AdamUp.Gen.facts, Cert.AdamUpIdeal.Gen.facts, Cert.AdamUpRefIdeal.Gen.facts, Cert.AdamConv.Gen.facts, Cert.AdamConvIdeal.Gen.facts, Cert.AdamConvRefIdeal.Gen.facts, Cert.AdamDown.Gen.facts, Cert.AdamDownIdeal.Gen.facts, Cert.AdamDownRefIdeal.Gen.facts, Cert.AdamRep.Gen.facts, Cert.AdamRepIdeal.Gen.facts, Cert.AdamRepRefIdeal.Gen.facts, Cert.Norm1.Gen.facts, Cert.Norm1Ideal.Gen.facts, Cert.Norm1RefIdeal.Gen.facts, Cert.Norm2.Gen.facts, Cert.Norm2Ideal.Gen.facts, Cert.Norm2RefIdeal.Gen.facts, Cert.Merge.Gen.facts, Cert.MergeIdeal.Gen.facts, Cert.MergeRefIdeal.Gen.facts, Cert.Loss.Gen.facts, Cert.LossIdeal.Gen.facts, Cert.LossRefIdeal.Gen.facts, Cert.Norm1Fwd.Gen.facts, Cert.Norm1FwdIdeal.Gen.facts, Cert.Norm1FwdRefIdeal.Gen.facts, Cert.Norm2Fwd.Gen.facts, Cert.Norm2FwdIdeal.Gen.facts, Cert.Norm2FwdRefIdeal.Gen.facts, Cert.MergeFwd.Gen.facts, Cert.MergeFwdIdeal.Gen.facts, Cert.MergeFwdRefIdeal.Gen.facts, Cert.Shift.Gen.facts, Cert.ShiftIdeal.Gen.facts, Cert.ShiftRefIdeal.Gen.facts, Cert.Conv.Gen.facts, Cert.ConvIdeal.Gen.facts, Cert.ConvRefIdeal.Gen.facts, Cert.Total.Gen.facts, Cert.TotalIdeal.Gen.facts, Cert.TotalRefIdeal.Gen.facts, Cert.ShiftBwd.Gen.facts, Cert.ShiftBwdIdeal.Gen.facts, Cert.ShiftBwdRefIdeal.Gen.facts, Cert.ConvBwd.Gen.facts, Cert.ConvBwdIdeal.Gen.facts, Cert.ConvBwdRefIdeal.Gen.facts, Cert.Post.Gen.facts, Cert.PostIdeal.Gen.facts, Cert.PostRefIdeal.Gen.facts, Cert.Decay.Gen.facts, Cert.DecayIdeal.Gen.facts, Cert.DecayRefIdeal.Gen.facts, Cert.Pre_shift_finite.Gen.facts, Cert.Pre_conv_finite.Gen.facts, Cert.Pre_post_finite.Gen.facts, Cert.Pre_pre_finite.Gen.facts,
  fun m ρ _ => Cert.Up.Gen.frame m ρ,
  fun m ρ _ => Cert.UpIdeal.Gen.frame m ρ,
  Cert.UpIdeal.Product.frame_reference,
  fun m ρ _ => Cert.UpDx.Gen.frame m ρ,
  fun m ρ _ => Cert.UpDxIdeal.Gen.frame m ρ,
  Cert.UpDxIdeal.Product.frame_reference,
  fun m ρ _ => Cert.UpDw.Gen.frame m ρ,
  fun m ρ _ => Cert.UpDwIdeal.Gen.frame m ρ,
  Cert.UpDwIdeal.Product.frame_reference,
  fun m ρ _ => Cert.Down.Gen.frame m ρ,
  fun m ρ _ => Cert.DownIdeal.Gen.frame m ρ,
  Cert.DownIdeal.Product.frame_reference,
  fun m ρ _ => Cert.DownDx.Gen.frame m ρ,
  fun m ρ _ => Cert.DownDxIdeal.Gen.frame m ρ,
  Cert.DownDxIdeal.Product.frame_reference,
  fun m ρ _ => Cert.DownDw.Gen.frame m ρ,
  fun m ρ _ => Cert.DownDwIdeal.Gen.frame m ρ,
  Cert.DownDwIdeal.Product.frame_reference,
  fun m ρ _ => Cert.Out.Gen.frame m ρ,
  fun m ρ _ => Cert.OutIdeal.Gen.frame m ρ,
  Cert.OutIdeal.Product.frame_reference,
  fun m ρ _ => Cert.OutDx.Gen.frame m ρ,
  fun m ρ _ => Cert.OutDxIdeal.Gen.frame m ρ,
  Cert.OutDxIdeal.Product.frame_reference,
  fun m ρ _ => Cert.OutDw.Gen.frame m ρ,
  fun m ρ _ => Cert.OutDwIdeal.Gen.frame m ρ,
  Cert.OutDwIdeal.Product.frame_reference,
  fun m ρ _ => Cert.Proj.Gen.frame m ρ,
  fun m ρ _ => Cert.ProjIdeal.Gen.frame m ρ,
  Cert.ProjIdeal.Product.frame_reference,
  fun m ρ _ => Cert.ProjDx.Gen.frame m ρ,
  fun m ρ _ => Cert.ProjDxIdeal.Gen.frame m ρ,
  Cert.ProjDxIdeal.Product.frame_reference,
  fun m ρ _ => Cert.ProjDw.Gen.frame m ρ,
  fun m ρ _ => Cert.ProjDwIdeal.Gen.frame m ρ,
  Cert.ProjDwIdeal.Product.frame_reference,
  fun m ρ _ => Cert.AdamWIn.Gen.frame m ρ,
  fun m ρ _ => Cert.AdamWInIdeal.Gen.frame m ρ,
  Cert.AdamWInIdeal.Adam.frame_reference,
  fun m ρ _ => Cert.AdamWa2.Gen.frame m ρ,
  fun m ρ _ => Cert.AdamWa2Ideal.Gen.frame m ρ,
  Cert.AdamWa2Ideal.Adam.frame_reference,
  fun m ρ _ => Cert.AdamProj.Gen.frame m ρ,
  fun m ρ _ => Cert.AdamProjIdeal.Gen.frame m ρ,
  Cert.AdamProjIdeal.Adam.frame_reference,
  fun m ρ _ => Cert.AdamW2.Gen.frame m ρ,
  fun m ρ _ => Cert.AdamW2Ideal.Gen.frame m ρ,
  Cert.AdamW2Ideal.Adam.frame_reference,
  fun m ρ _ => Cert.AdamG2.Gen.frame m ρ,
  fun m ρ _ => Cert.AdamG2Ideal.Gen.frame m ρ,
  Cert.AdamG2Ideal.Adam.frame_reference,
  fun m ρ _ => Cert.AdamOut.Gen.frame m ρ,
  fun m ρ _ => Cert.AdamOutIdeal.Gen.frame m ρ,
  Cert.AdamOutIdeal.Adam.frame_reference,
  fun m ρ _ => Cert.AdamUp.Gen.frame m ρ,
  fun m ρ _ => Cert.AdamUpIdeal.Gen.frame m ρ,
  Cert.AdamUpIdeal.Adam.frame_reference,
  fun m ρ _ => Cert.AdamConv.Gen.frame m ρ,
  fun m ρ _ => Cert.AdamConvIdeal.Gen.frame m ρ,
  Cert.AdamConvIdeal.Adam.frame_reference,
  fun m ρ _ => Cert.AdamDown.Gen.frame m ρ,
  fun m ρ _ => Cert.AdamDownIdeal.Gen.frame m ρ,
  Cert.AdamDownIdeal.Adam.frame_reference,
  fun m ρ _ => Cert.AdamRep.Gen.frame m ρ,
  fun m ρ _ => Cert.AdamRepIdeal.Gen.frame m ρ,
  Cert.AdamRepIdeal.Adam.frame_reference,
  fun m ρ _ => Cert.Norm1.Gen.frame m ρ,
  fun m ρ _ => Cert.Norm1Ideal.Gen.frame m ρ,
  Cert.Norm1Ideal.Rows.frame_reference,
  fun m ρ _ => Cert.Norm2.Gen.frame m ρ,
  fun m ρ _ => Cert.Norm2Ideal.Gen.frame m ρ,
  Cert.Norm2Ideal.Rows.frame_reference,
  fun m ρ _ => Cert.Merge.Gen.frame m ρ,
  fun m ρ _ => Cert.MergeIdeal.Gen.frame m ρ,
  Cert.MergeIdeal.Rows.frame_reference,
  fun m ρ _ => Cert.Loss.Gen.frame m ρ,
  fun m ρ _ => Cert.LossIdeal.Gen.frame m ρ,
  Cert.LossIdeal.Rows.frame_reference,
  fun m ρ _ => Cert.Norm1Fwd.Gen.frame m ρ,
  fun m ρ _ => Cert.Norm1FwdIdeal.Gen.frame m ρ,
  Cert.Norm1FwdIdeal.Rows.frame_reference,
  fun m ρ _ => Cert.Norm2Fwd.Gen.frame m ρ,
  fun m ρ _ => Cert.Norm2FwdIdeal.Gen.frame m ρ,
  Cert.Norm2FwdIdeal.Rows.frame_reference,
  fun m ρ _ => Cert.MergeFwd.Gen.frame m ρ,
  fun m ρ _ => Cert.MergeFwdIdeal.Gen.frame m ρ,
  Cert.MergeFwdIdeal.Rows.frame_reference,
  fun m ρ _ => Cert.Shift.Gen.frame m ρ,
  fun m ρ _ => Cert.ShiftIdeal.Gen.frame m ρ,
  Cert.ShiftIdeal.Rows.frame_reference,
  fun m ρ _ => Cert.Conv.Gen.frame m ρ,
  fun m ρ _ => Cert.ConvIdeal.Gen.frame m ρ,
  Cert.ConvIdeal.Rows.frame_reference,
  Cert.TotalIdeal.Sum.frame_kernel,
  Cert.TotalIdeal.Sum.frame_ideal,
  Cert.TotalIdeal.Sum.frame_reference,
  fun m ρ _ => Cert.ShiftBwd.Gen.frame m ρ,
  fun m ρ _ => Cert.ShiftBwdIdeal.Gen.frame m ρ,
  fun m ρ _ => Cert.ShiftBwdIdeal.Gen.frame m ρ,
  Cert.ShiftBwdIdeal.Rows.frame_reference,
  fun m ρ _ => Cert.ShiftBwdIdeal.Rows.frame_reference m ρ trivial,
  fun m ρ _ => Cert.ConvBwd.Gen.frame m ρ,
  fun m ρ _ => Cert.ConvBwdIdeal.Gen.frame m ρ,
  fun m ρ _ => Cert.ConvBwdIdeal.Gen.frame m ρ,
  Cert.ConvBwdIdeal.Rows.frame_reference,
  fun m ρ _ => Cert.ConvBwdIdeal.Rows.frame_reference m ρ trivial,
  fun m ρ _ => Cert.Post.Gen.frame m ρ,
  fun m ρ _ => Cert.PostIdeal.Gen.frame m ρ,
  fun m ρ _ => Cert.PostIdeal.Gen.frame m ρ,
  Cert.PostIdeal.Rows.frame_reference,
  fun m ρ _ => Cert.PostIdeal.Rows.frame_reference m ρ trivial,
  fun m ρ _ => Cert.Decay.Gen.frame m ρ,
  fun m ρ _ => Cert.DecayIdeal.Gen.frame m ρ,
  fun m ρ _ => Cert.DecayIdeal.Gen.frame m ρ,
  Cert.DecayIdeal.Rows.frame_reference,
  fun m ρ _ => Cert.DecayIdeal.Rows.frame_reference m ρ trivial,
  trivial,
  Cert.UpIdeal.Product.algebraic,
  trivial,
  Cert.UpDxIdeal.Product.algebraic,
  trivial,
  Cert.UpDwIdeal.Product.algebraic,
  trivial,
  Cert.DownIdeal.Product.algebraic,
  trivial,
  Cert.DownDxIdeal.Product.algebraic,
  trivial,
  Cert.DownDwIdeal.Product.algebraic,
  trivial,
  Cert.OutIdeal.Product.algebraic,
  trivial,
  Cert.OutDxIdeal.Product.algebraic,
  trivial,
  Cert.OutDwIdeal.Product.algebraic,
  trivial,
  Cert.ProjIdeal.Product.algebraic,
  trivial,
  Cert.ProjDxIdeal.Product.algebraic,
  trivial,
  Cert.ProjDwIdeal.Product.algebraic,
  trivial,
  Cert.AdamWInIdeal.Adam.algebraic,
  trivial,
  Cert.AdamWa2Ideal.Adam.algebraic,
  trivial,
  Cert.AdamProjIdeal.Adam.algebraic,
  trivial,
  Cert.AdamW2Ideal.Adam.algebraic,
  trivial,
  Cert.AdamG2Ideal.Adam.algebraic,
  trivial,
  Cert.AdamOutIdeal.Adam.algebraic,
  trivial,
  Cert.AdamUpIdeal.Adam.algebraic,
  trivial,
  Cert.AdamConvIdeal.Adam.algebraic,
  trivial,
  Cert.AdamDownIdeal.Adam.algebraic,
  trivial,
  Cert.AdamRepIdeal.Adam.algebraic,
  trivial,
  Cert.Norm1Ideal.Rows.algebraic,
  trivial,
  Cert.Norm2Ideal.Rows.algebraic,
  trivial,
  Cert.MergeIdeal.Rows.algebraic,
  trivial,
  Cert.LossIdeal.Rows.algebraic,
  trivial,
  Cert.Norm1FwdIdeal.Rows.algebraic,
  trivial,
  Cert.Norm2FwdIdeal.Rows.algebraic,
  trivial,
  Cert.MergeFwdIdeal.Rows.algebraic,
  trivial,
  Cert.ShiftIdeal.Rows.algebraic,
  trivial,
  Cert.ConvIdeal.Rows.algebraic,
  trivial,
  Cert.TotalIdeal.Sum.algebraic,
  trivial,
  Cert.ShiftBwdIdeal.Rows.algebraic,
  trivial,
  Cert.ConvBwdIdeal.Rows.algebraic,
  trivial,
  Cert.PostIdeal.Rows.algebraic,
  trivial,
  Cert.DecayIdeal.Rows.algebraic⟩

end Cert.Proof

end
